-- ==== Defs.lean ====
def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_SsdConv (m : (ℓ : Loc Cert.SsdConv.nD Cert.SsdConv.τ Cert.SsdConv.sig) → Buf (Elt Bits) ℓ) : Prop :=
  True

def Pre_SsdConvIdeal (m : (ℓ : Loc Cert.SsdConvIdeal.nD Cert.SsdConvIdeal.τ Cert.SsdConvIdeal.sig) → Buf (Elt Ideal) ℓ) : Prop :=
  True

def Pre_SsdConvRefIdeal (m : (ℓ : Loc Cert.SsdConvRefIdeal.nD Cert.SsdConvRefIdeal.τ Cert.SsdConvRefIdeal.sig) → Buf (Elt Ideal) ℓ) : Prop :=
  True

def Pre_GdnConv (m : (ℓ : Loc Cert.GdnConv.nD Cert.GdnConv.τ Cert.GdnConv.sig) → Buf (Elt Bits) ℓ) : Prop :=
  True

def Pre_GdnConvIdeal (m : (ℓ : Loc Cert.GdnConvIdeal.nD Cert.GdnConvIdeal.τ Cert.GdnConvIdeal.sig) → Buf (Elt Ideal) ℓ) : Prop :=
  True

def Pre_GdnConvRefIdeal (m : (ℓ : Loc Cert.GdnConvRefIdeal.nD Cert.GdnConvRefIdeal.τ Cert.GdnConvRefIdeal.sig) → Buf (Elt Ideal) ℓ) : Prop :=
  True

def Pre_MlstmStep (m : (ℓ : Loc Cert.MlstmStep.nD Cert.MlstmStep.τ Cert.MlstmStep.sig) → Buf (Elt Bits) ℓ) : Prop :=
  True

def Pre_MlstmStepIdeal (m : (ℓ : Loc Cert.MlstmStepIdeal.nD Cert.MlstmStepIdeal.τ Cert.MlstmStepIdeal.sig) → Buf (Elt Ideal) ℓ) : Prop :=
  True

def Pre_MlstmStepIdeal_finite_step [hPre_finite_step : Cert.Pre_finite_step.Facts] (m : (ℓ : Loc Cert.MlstmStepIdeal.nD Cert.MlstmStepIdeal.τ Cert.MlstmStepIdeal.sig) → Buf (Elt Ideal) ℓ) : Prop :=
  ∀ c : Dev Cert.MlstmStepIdeal.nD,
    (Cert.Pre_finite_step.fn (F := Ideal) (m ((c.tc : Thread Cert.MlstmStepIdeal.nD Cert.MlstmStepIdeal.τ).loc Cert.MlstmStepIdeal.main_arg0)) (m ((c.tc : Thread Cert.MlstmStepIdeal.nD Cert.MlstmStepIdeal.τ).loc Cert.MlstmStepIdeal.main_arg1)) (m ((c.tc : Thread Cert.MlstmStepIdeal.nD Cert.MlstmStepIdeal.τ).loc Cert.MlstmStepIdeal.main_arg2)) (m ((c.tc : Thread Cert.MlstmStepIdeal.nD Cert.MlstmStepIdeal.τ).loc Cert.MlstmStepIdeal.main_arg3)) (m ((c.tc : Thread Cert.MlstmStepIdeal.nD Cert.MlstmStepIdeal.τ).loc Cert.MlstmStepIdeal.main_arg4)) (m ((c.tc : Thread Cert.MlstmStepIdeal.nD Cert.MlstmStepIdeal.τ).loc Cert.MlstmStepIdeal.main_arg5)) (m ((c.tc : Thread Cert.MlstmStepIdeal.nD Cert.MlstmStepIdeal.τ).loc Cert.MlstmStepIdeal.main_arg6))) = (fun _ => 1#1)

def Pre_MlstmStepRefIdeal (m : (ℓ : Loc Cert.MlstmStepRefIdeal.nD Cert.MlstmStepRefIdeal.τ Cert.MlstmStepRefIdeal.sig) → Buf (Elt Ideal) ℓ) : Prop :=
  True

def Pre_MlstmStepRefIdeal_finite_step [hPre_finite_step : Cert.Pre_finite_step.Facts] (m : (ℓ : Loc Cert.MlstmStepRefIdeal.nD Cert.MlstmStepRefIdeal.τ Cert.MlstmStepRefIdeal.sig) → Buf (Elt Ideal) ℓ) : Prop :=
  ∀ c : Dev Cert.MlstmStepRefIdeal.nD,
    (Cert.Pre_finite_step.fn (F := Ideal) (m ((c.tc : Thread Cert.MlstmStepRefIdeal.nD Cert.MlstmStepRefIdeal.τ).loc Cert.MlstmStepRefIdeal.main_arg0)) (m ((c.tc : Thread Cert.MlstmStepRefIdeal.nD Cert.MlstmStepRefIdeal.τ).loc Cert.MlstmStepRefIdeal.main_arg1)) (m ((c.tc : Thread Cert.MlstmStepRefIdeal.nD Cert.MlstmStepRefIdeal.τ).loc Cert.MlstmStepRefIdeal.main_arg2)) (m ((c.tc : Thread Cert.MlstmStepRefIdeal.nD Cert.MlstmStepRefIdeal.τ).loc Cert.MlstmStepRefIdeal.main_arg3)) (m ((c.tc : Thread Cert.MlstmStepRefIdeal.nD Cert.MlstmStepRefIdeal.τ).loc Cert.MlstmStepRefIdeal.main_arg4)) (m ((c.tc : Thread Cert.MlstmStepRefIdeal.nD Cert.MlstmStepRefIdeal.τ).loc Cert.MlstmStepRefIdeal.main_arg5)) (m ((c.tc : Thread Cert.MlstmStepRefIdeal.nD Cert.MlstmStepRefIdeal.τ).loc Cert.MlstmStepRefIdeal.main_arg6))) = (fun _ => 1#1)

def Pre_SsdState (m : (ℓ : Loc Cert.SsdState.nD Cert.SsdState.τ Cert.SsdState.sig) → Buf (Elt Bits) ℓ) : Prop :=
  True

def Pre_SsdStateIdeal (m : (ℓ : Loc Cert.SsdStateIdeal.nD Cert.SsdStateIdeal.τ Cert.SsdStateIdeal.sig) → Buf (Elt Ideal) ℓ) : Prop :=
  True

def Pre_SsdStateIdeal_finite_ssd [hPre_finite_ssd : Cert.Pre_finite_ssd.Facts] (m : (ℓ : Loc Cert.SsdStateIdeal.nD Cert.SsdStateIdeal.τ Cert.SsdStateIdeal.sig) → Buf (Elt Ideal) ℓ) : Prop :=
  ∀ c : Dev Cert.SsdStateIdeal.nD,
    (Cert.Pre_finite_ssd.fn (F := Ideal) (m ((c.tc : Thread Cert.SsdStateIdeal.nD Cert.SsdStateIdeal.τ).loc Cert.SsdStateIdeal.main_arg0)) (m ((c.tc : Thread Cert.SsdStateIdeal.nD Cert.SsdStateIdeal.τ).loc Cert.SsdStateIdeal.main_arg1)) (m ((c.tc : Thread Cert.SsdStateIdeal.nD Cert.SsdStateIdeal.τ).loc Cert.SsdStateIdeal.main_arg2)) (m ((c.tc : Thread Cert.SsdStateIdeal.nD Cert.SsdStateIdeal.τ).loc Cert.SsdStateIdeal.main_arg3)) (m ((c.tc : Thread Cert.SsdStateIdeal.nD Cert.SsdStateIdeal.τ).loc Cert.SsdStateIdeal.main_arg4)) (m ((c.tc : Thread Cert.SsdStateIdeal.nD Cert.SsdStateIdeal.τ).loc Cert.SsdStateIdeal.main_arg5)) (m ((c.tc : Thread Cert.SsdStateIdeal.nD Cert.SsdStateIdeal.τ).loc Cert.SsdStateIdeal.main_arg6)) (m ((c.tc : Thread Cert.SsdStateIdeal.nD Cert.SsdStateIdeal.τ).loc Cert.SsdStateIdeal.main_arg7)) (m ((c.tc : Thread Cert.SsdStateIdeal.nD Cert.SsdStateIdeal.τ).loc Cert.SsdStateIdeal.main_arg8))) = (fun _ => 1#1)

def Pre_SsdStateRefIdeal (m : (ℓ : Loc Cert.SsdStateRefIdeal.nD Cert.SsdStateRefIdeal.τ Cert.SsdStateRefIdeal.sig) → Buf (Elt Ideal) ℓ) : Prop :=
  True

def Pre_SsdStateRefIdeal_finite_ssd [hPre_finite_ssd : Cert.Pre_finite_ssd.Facts] (m : (ℓ : Loc Cert.SsdStateRefIdeal.nD Cert.SsdStateRefIdeal.τ Cert.SsdStateRefIdeal.sig) → Buf (Elt Ideal) ℓ) : Prop :=
  ∀ c : Dev Cert.SsdStateRefIdeal.nD,
    (Cert.Pre_finite_ssd.fn (F := Ideal) (m ((c.tc : Thread Cert.SsdStateRefIdeal.nD Cert.SsdStateRefIdeal.τ).loc Cert.SsdStateRefIdeal.main_arg0)) (m ((c.tc : Thread Cert.SsdStateRefIdeal.nD Cert.SsdStateRefIdeal.τ).loc Cert.SsdStateRefIdeal.main_arg1)) (m ((c.tc : Thread Cert.SsdStateRefIdeal.nD Cert.SsdStateRefIdeal.τ).loc Cert.SsdStateRefIdeal.main_arg2)) (m ((c.tc : Thread Cert.SsdStateRefIdeal.nD Cert.SsdStateRefIdeal.τ).loc Cert.SsdStateRefIdeal.main_arg3)) (m ((c.tc : Thread Cert.SsdStateRefIdeal.nD Cert.SsdStateRefIdeal.τ).loc Cert.SsdStateRefIdeal.main_arg4)) (m ((c.tc : Thread Cert.SsdStateRefIdeal.nD Cert.SsdStateRefIdeal.τ).loc Cert.SsdStateRefIdeal.main_arg5)) (m ((c.tc : Thread Cert.SsdStateRefIdeal.nD Cert.SsdStateRefIdeal.τ).loc Cert.SsdStateRefIdeal.main_arg6)) (m ((c.tc : Thread Cert.SsdStateRefIdeal.nD Cert.SsdStateRefIdeal.τ).loc Cert.SsdStateRefIdeal.main_arg7)) (m ((c.tc : Thread Cert.SsdStateRefIdeal.nD Cert.SsdStateRefIdeal.τ).loc Cert.SsdStateRefIdeal.main_arg8))) = (fun _ => 1#1)

def Pre_GdnState (m : (ℓ : Loc Cert.GdnState.nD Cert.GdnState.τ Cert.GdnState.sig) → Buf (Elt Bits) ℓ) : Prop :=
  True

def Pre_GdnStateIdeal (m : (ℓ : Loc Cert.GdnStateIdeal.nD Cert.GdnStateIdeal.τ Cert.GdnStateIdeal.sig) → Buf (Elt Ideal) ℓ) : Prop :=
  True

def Pre_GdnStateIdeal_finite_gdn [hPre_finite_gdn : Cert.Pre_finite_gdn.Facts] (m : (ℓ : Loc Cert.GdnStateIdeal.nD Cert.GdnStateIdeal.τ Cert.GdnStateIdeal.sig) → Buf (Elt Ideal) ℓ) : Prop :=
  ∀ c : Dev Cert.GdnStateIdeal.nD,
    (Cert.Pre_finite_gdn.fn (F := Ideal) (m ((c.tc : Thread Cert.GdnStateIdeal.nD Cert.GdnStateIdeal.τ).loc Cert.GdnStateIdeal.main_arg0)) (m ((c.tc : Thread Cert.GdnStateIdeal.nD Cert.GdnStateIdeal.τ).loc Cert.GdnStateIdeal.main_arg1)) (m ((c.tc : Thread Cert.GdnStateIdeal.nD Cert.GdnStateIdeal.τ).loc Cert.GdnStateIdeal.main_arg2)) (m ((c.tc : Thread Cert.GdnStateIdeal.nD Cert.GdnStateIdeal.τ).loc Cert.GdnStateIdeal.main_arg3)) (m ((c.tc : Thread Cert.GdnStateIdeal.nD Cert.GdnStateIdeal.τ).loc Cert.GdnStateIdeal.main_arg4)) (m ((c.tc : Thread Cert.GdnStateIdeal.nD Cert.GdnStateIdeal.τ).loc Cert.GdnStateIdeal.main_arg5)) (m ((c.tc : Thread Cert.GdnStateIdeal.nD Cert.GdnStateIdeal.τ).loc Cert.GdnStateIdeal.main_arg6))) = (fun _ => 1#1)

def Pre_GdnStateRefIdeal (m : (ℓ : Loc Cert.GdnStateRefIdeal.nD Cert.GdnStateRefIdeal.τ Cert.GdnStateRefIdeal.sig) → Buf (Elt Ideal) ℓ) : Prop :=
  True

def Pre_GdnStateRefIdeal_finite_gdn [hPre_finite_gdn : Cert.Pre_finite_gdn.Facts] (m : (ℓ : Loc Cert.GdnStateRefIdeal.nD Cert.GdnStateRefIdeal.τ Cert.GdnStateRefIdeal.sig) → Buf (Elt Ideal) ℓ) : Prop :=
  ∀ c : Dev Cert.GdnStateRefIdeal.nD,
    (Cert.Pre_finite_gdn.fn (F := Ideal) (m ((c.tc : Thread Cert.GdnStateRefIdeal.nD Cert.GdnStateRefIdeal.τ).loc Cert.GdnStateRefIdeal.main_arg0)) (m ((c.tc : Thread Cert.GdnStateRefIdeal.nD Cert.GdnStateRefIdeal.τ).loc Cert.GdnStateRefIdeal.main_arg1)) (m ((c.tc : Thread Cert.GdnStateRefIdeal.nD Cert.GdnStateRefIdeal.τ).loc Cert.GdnStateRefIdeal.main_arg2)) (m ((c.tc : Thread Cert.GdnStateRefIdeal.nD Cert.GdnStateRefIdeal.τ).loc Cert.GdnStateRefIdeal.main_arg3)) (m ((c.tc : Thread Cert.GdnStateRefIdeal.nD Cert.GdnStateRefIdeal.τ).loc Cert.GdnStateRefIdeal.main_arg4)) (m ((c.tc : Thread Cert.GdnStateRefIdeal.nD Cert.GdnStateRefIdeal.τ).loc Cert.GdnStateRefIdeal.main_arg5)) (m ((c.tc : Thread Cert.GdnStateRefIdeal.nD Cert.GdnStateRefIdeal.τ).loc Cert.GdnStateRefIdeal.main_arg6))) = (fun _ => 1#1)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2))
      ∧ r.2.sem = fun _ => 0)

def quiescent_SsdConv [hSsdConv : Cert.SsdConv.Facts] : Prop :=
  ∀ (m : (ℓ : Loc Cert.SsdConv.nD Cert.SsdConv.τ Cert.SsdConv.sig) → Buf (Elt Bits) ℓ) (g : Dev Cert.SsdConv.nD → PrngReg), Pre_SsdConv m →
    θ_run (Cert.SsdConv.defs (F := Bits)) (onTc (τ := Cert.SsdConv.τ) (Cert.SsdConv.main (F := Bits))) ⟨m, fun _ => 0, g⟩ (fun r => (∀ c : Dev Cert.SsdConv.nD,
      r.2.mem ((c.tc : Thread Cert.SsdConv.nD Cert.SsdConv.τ).loc Cert.SsdConv.main_arg0) = m ((c.tc : Thread Cert.SsdConv.nD Cert.SsdConv.τ).loc Cert.SsdConv.main_arg0)
      ∧ r.2.mem ((c.tc : Thread Cert.SsdConv.nD Cert.SsdConv.τ).loc Cert.SsdConv.main_arg1) = m ((c.tc : Thread Cert.SsdConv.nD Cert.SsdConv.τ).loc Cert.SsdConv.main_arg1)
      ∧ r.2.mem ((c.tc : Thread Cert.SsdConv.nD Cert.SsdConv.τ).loc Cert.SsdConv.main_arg2) = m ((c.tc : Thread Cert.SsdConv.nD Cert.SsdConv.τ).loc Cert.SsdConv.main_arg2)
      ∧ r.2.mem ((c.tc : Thread Cert.SsdConv.nD Cert.SsdConv.τ).loc Cert.SsdConv.main_arg3) = m ((c.tc : Thread Cert.SsdConv.nD Cert.SsdConv.τ).loc Cert.SsdConv.main_arg3)
      ∧ r.2.mem ((c.tc : Thread Cert.SsdConv.nD Cert.SsdConv.τ).loc Cert.SsdConv.main_arg4) = m ((c.tc : Thread Cert.SsdConv.nD Cert.SsdConv.τ).loc Cert.SsdConv.main_arg4)
      ∧ r.2.mem ((c.tc : Thread Cert.SsdConv.nD Cert.SsdConv.τ).loc Cert.SsdConv.main_arg5) = m ((c.tc : Thread Cert.SsdConv.nD Cert.SsdConv.τ).loc Cert.SsdConv.main_arg5)
      ∧ r.2.mem ((c.tc : Thread Cert.SsdConv.nD Cert.SsdConv.τ).loc Cert.SsdConv.main_arg6) = m ((c.tc : Thread Cert.SsdConv.nD Cert.SsdConv.τ).loc Cert.SsdConv.main_arg6)
      ∧ r.2.mem ((c.tc : Thread Cert.SsdConv.nD Cert.SsdConv.τ).loc Cert.SsdConv.main_arg7) = m ((c.tc : Thread Cert.SsdConv.nD Cert.SsdConv.τ).loc Cert.SsdConv.main_arg7)
      ∧ r.2.mem ((c.tc : Thread Cert.SsdConv.nD Cert.SsdConv.τ).loc Cert.SsdConv.main_arg8) = m ((c.tc : Thread Cert.SsdConv.nD Cert.SsdConv.τ).loc Cert.SsdConv.main_arg8))
      ∧ r.2.sem = fun _ => 0)

def quiescent_SsdConvIdeal [hSsdConvIdeal : Cert.SsdConvIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg), Pre_SsdConvIdeal m →
    θ_run (Cert.SsdConvIdeal.defs (F := Ideal)) (onTc (τ := Cert.SsdConvIdeal.τ) (Cert.SsdConvIdeal.main (F := Ideal))) ⟨m, fun _ => 0, g⟩ (fun r => (∀ c : Dev Cert.SsdConvIdeal.nD,
      r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
      ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
      ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2)
      ∧ r.2.mem ((c.tc : Thread Cert.SsdConvIdeal.nD Cert.SsdConvIdeal.τ).loc Cert.SsdConvIdeal.main_arg3) = m ((c.tc : Thread Cert.SsdConvIdeal.nD Cert.SsdConvIdeal.τ).loc Cert.SsdConvIdeal.main_arg3)
      ∧ r.2.mem ((c.tc : Thread Cert.SsdConvIdeal.nD Cert.SsdConvIdeal.τ).loc Cert.SsdConvIdeal.main_arg4) = m ((c.tc : Thread Cert.SsdConvIdeal.nD Cert.SsdConvIdeal.τ).loc Cert.SsdConvIdeal.main_arg4)
      ∧ r.2.mem ((c.tc : Thread Cert.SsdConvIdeal.nD Cert.SsdConvIdeal.τ).loc Cert.SsdConvIdeal.main_arg5) = m ((c.tc : Thread Cert.SsdConvIdeal.nD Cert.SsdConvIdeal.τ).loc Cert.SsdConvIdeal.main_arg5)
      ∧ r.2.mem ((c.tc : Thread Cert.SsdConvIdeal.nD Cert.SsdConvIdeal.τ).loc Cert.SsdConvIdeal.main_arg6) = m ((c.tc : Thread Cert.SsdConvIdeal.nD Cert.SsdConvIdeal.τ).loc Cert.SsdConvIdeal.main_arg6)
      ∧ r.2.mem ((c.tc : Thread Cert.SsdConvIdeal.nD Cert.SsdConvIdeal.τ).loc Cert.SsdConvIdeal.main_arg7) = m ((c.tc : Thread Cert.SsdConvIdeal.nD Cert.SsdConvIdeal.τ).loc Cert.SsdConvIdeal.main_arg7)
      ∧ r.2.mem ((c.tc : Thread Cert.SsdConvIdeal.nD Cert.SsdConvIdeal.τ).loc Cert.SsdConvIdeal.main_arg8) = m ((c.tc : Thread Cert.SsdConvIdeal.nD Cert.SsdConvIdeal.τ).loc Cert.SsdConvIdeal.main_arg8))
      ∧ r.2.sem = fun _ => 0)

def quiescent_SsdConvRefIdeal [hSsdConvRefIdeal : Cert.SsdConvRefIdeal.Facts] : Prop :=
  ∀ (m : (ℓ : Loc Cert.SsdConvRefIdeal.nD Cert.SsdConvRefIdeal.τ Cert.SsdConvRefIdeal.sig) → Buf (Elt Ideal) ℓ) (g : Dev Cert.SsdConvRefIdeal.nD → PrngReg), Pre_SsdConvRefIdeal m →
    θ_run (Cert.SsdConvRefIdeal.defs (F := Ideal)) (onTc (τ := Cert.SsdConvRefIdeal.τ) (Cert.SsdConvRefIdeal.main (F := Ideal))) ⟨m, fun _ => 0, g⟩ (fun r => (∀ c : Dev Cert.SsdConvRefIdeal.nD,
      r.2.mem ((c.tc : Thread Cert.SsdConvRefIdeal.nD Cert.SsdConvRefIdeal.τ).loc Cert.SsdConvRefIdeal.main_arg0) = m ((c.tc : Thread Cert.SsdConvRefIdeal.nD Cert.SsdConvRefIdeal.τ).loc Cert.SsdConvRefIdeal.main_arg0)
      ∧ r.2.mem ((c.tc : Thread Cert.SsdConvRefIdeal.nD Cert.SsdConvRefIdeal.τ).loc Cert.SsdConvRefIdeal.main_arg1) = m ((c.tc : Thread Cert.SsdConvRefIdeal.nD Cert.SsdConvRefIdeal.τ).loc Cert.SsdConvRefIdeal.main_arg1)
      ∧ r.2.mem ((c.tc : Thread Cert.SsdConvRefIdeal.nD Cert.SsdConvRefIdeal.τ).loc Cert.SsdConvRefIdeal.main_arg2) = m ((c.tc : Thread Cert.SsdConvRefIdeal.nD Cert.SsdConvRefIdeal.τ).loc Cert.SsdConvRefIdeal.main_arg2)
      ∧ r.2.mem ((c.tc : Thread Cert.SsdConvRefIdeal.nD Cert.SsdConvRefIdeal.τ).loc Cert.SsdConvRefIdeal.main_arg3) = m ((c.tc : Thread Cert.SsdConvRefIdeal.nD Cert.SsdConvRefIdeal.τ).loc Cert.SsdConvRefIdeal.main_arg3)
      ∧ r.2.mem ((c.tc : Thread Cert.SsdConvRefIdeal.nD Cert.SsdConvRefIdeal.τ).loc Cert.SsdConvRefIdeal.main_arg4) = m ((c.tc : Thread Cert.SsdConvRefIdeal.nD Cert.SsdConvRefIdeal.τ).loc Cert.SsdConvRefIdeal.main_arg4)
      ∧ r.2.mem ((c.tc : Thread Cert.SsdConvRefIdeal.nD Cert.SsdConvRefIdeal.τ).loc Cert.SsdConvRefIdeal.main_arg5) = m ((c.tc : Thread Cert.SsdConvRefIdeal.nD Cert.SsdConvRefIdeal.τ).loc Cert.SsdConvRefIdeal.main_arg5)
      ∧ r.2.mem ((c.tc : Thread Cert.SsdConvRefIdeal.nD Cert.SsdConvRefIdeal.τ).loc Cert.SsdConvRefIdeal.main_arg6) = m ((c.tc : Thread Cert.SsdConvRefIdeal.nD Cert.SsdConvRefIdeal.τ).loc Cert.SsdConvRefIdeal.main_arg6)
      ∧ r.2.mem ((c.tc : Thread Cert.SsdConvRefIdeal.nD Cert.SsdConvRefIdeal.τ).loc Cert.SsdConvRefIdeal.main_arg7) = m ((c.tc : Thread Cert.SsdConvRefIdeal.nD Cert.SsdConvRefIdeal.τ).loc Cert.SsdConvRefIdeal.main_arg7)
      ∧ r.2.mem ((c.tc : Thread Cert.SsdConvRefIdeal.nD Cert.SsdConvRefIdeal.τ).loc Cert.SsdConvRefIdeal.main_arg8) = m ((c.tc : Thread Cert.SsdConvRefIdeal.nD Cert.SsdConvRefIdeal.τ).loc Cert.SsdConvRefIdeal.main_arg8))
      ∧ r.2.sem = fun _ => 0)

def quiescent_GdnConv [hGdnConv : Cert.GdnConv.Facts] : Prop :=
  ∀ (m : (ℓ : Loc Cert.GdnConv.nD Cert.GdnConv.τ Cert.GdnConv.sig) → Buf (Elt Bits) ℓ) (g : Dev Cert.GdnConv.nD → PrngReg), Pre_GdnConv m →
    θ_run (Cert.GdnConv.defs (F := Bits)) (onTc (τ := Cert.GdnConv.τ) (Cert.GdnConv.main (F := Bits))) ⟨m, fun _ => 0, g⟩ (fun r => (∀ c : Dev Cert.GdnConv.nD,
      r.2.mem ((c.tc : Thread Cert.GdnConv.nD Cert.GdnConv.τ).loc Cert.GdnConv.main_arg0) = m ((c.tc : Thread Cert.GdnConv.nD Cert.GdnConv.τ).loc Cert.GdnConv.main_arg0)
      ∧ r.2.mem ((c.tc : Thread Cert.GdnConv.nD Cert.GdnConv.τ).loc Cert.GdnConv.main_arg1) = m ((c.tc : Thread Cert.GdnConv.nD Cert.GdnConv.τ).loc Cert.GdnConv.main_arg1)
      ∧ r.2.mem ((c.tc : Thread Cert.GdnConv.nD Cert.GdnConv.τ).loc Cert.GdnConv.main_arg2) = m ((c.tc : Thread Cert.GdnConv.nD Cert.GdnConv.τ).loc Cert.GdnConv.main_arg2)
      ∧ r.2.mem ((c.tc : Thread Cert.GdnConv.nD Cert.GdnConv.τ).loc Cert.GdnConv.main_arg3) = m ((c.tc : Thread Cert.GdnConv.nD Cert.GdnConv.τ).loc Cert.GdnConv.main_arg3)
      ∧ r.2.mem ((c.tc : Thread Cert.GdnConv.nD Cert.GdnConv.τ).loc Cert.GdnConv.main_arg4) = m ((c.tc : Thread Cert.GdnConv.nD Cert.GdnConv.τ).loc Cert.GdnConv.main_arg4)
      ∧ r.2.mem ((c.tc : Thread Cert.GdnConv.nD Cert.GdnConv.τ).loc Cert.GdnConv.main_arg5) = m ((c.tc : Thread Cert.GdnConv.nD Cert.GdnConv.τ).loc Cert.GdnConv.main_arg5)
      ∧ r.2.mem ((c.tc : Thread Cert.GdnConv.nD Cert.GdnConv.τ).loc Cert.GdnConv.main_arg6) = m ((c.tc : Thread Cert.GdnConv.nD Cert.GdnConv.τ).loc Cert.GdnConv.main_arg6))
      ∧ r.2.sem = fun _ => 0)

def quiescent_GdnConvIdeal [hGdnConvIdeal : Cert.GdnConvIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg), Pre_GdnConvIdeal m →
    θ_run (Cert.GdnConvIdeal.defs (F := Ideal)) (onTc (τ := Cert.GdnConvIdeal.τ) (Cert.GdnConvIdeal.main (F := Ideal))) ⟨m, fun _ => 0, g⟩ (fun r => (∀ c : Dev Cert.GdnConvIdeal.nD,
      r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
      ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
      ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
      ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3)
      ∧ r.2.mem ((c.tc : Thread Cert.GdnConvIdeal.nD Cert.GdnConvIdeal.τ).loc Cert.GdnConvIdeal.main_arg4) = m ((c.tc : Thread Cert.GdnConvIdeal.nD Cert.GdnConvIdeal.τ).loc Cert.GdnConvIdeal.main_arg4)
      ∧ r.2.mem ((c.tc : Thread Cert.GdnConvIdeal.nD Cert.GdnConvIdeal.τ).loc Cert.GdnConvIdeal.main_arg5) = m ((c.tc : Thread Cert.GdnConvIdeal.nD Cert.GdnConvIdeal.τ).loc Cert.GdnConvIdeal.main_arg5)
      ∧ r.2.mem ((c.tc : Thread Cert.GdnConvIdeal.nD Cert.GdnConvIdeal.τ).loc Cert.GdnConvIdeal.main_arg6) = m ((c.tc : Thread Cert.GdnConvIdeal.nD Cert.GdnConvIdeal.τ).loc Cert.GdnConvIdeal.main_arg6))
      ∧ r.2.sem = fun _ => 0)

def quiescent_GdnConvRefIdeal [hGdnConvRefIdeal : Cert.GdnConvRefIdeal.Facts] : Prop :=
  ∀ (m : (ℓ : Loc Cert.GdnConvRefIdeal.nD Cert.GdnConvRefIdeal.τ Cert.GdnConvRefIdeal.sig) → Buf (Elt Ideal) ℓ) (g : Dev Cert.GdnConvRefIdeal.nD → PrngReg), Pre_GdnConvRefIdeal m →
    θ_run (Cert.GdnConvRefIdeal.defs (F := Ideal)) (onTc (τ := Cert.GdnConvRefIdeal.τ) (Cert.GdnConvRefIdeal.main (F := Ideal))) ⟨m, fun _ => 0, g⟩ (fun r => (∀ c : Dev Cert.GdnConvRefIdeal.nD,
      r.2.mem ((c.tc : Thread Cert.GdnConvRefIdeal.nD Cert.GdnConvRefIdeal.τ).loc Cert.GdnConvRefIdeal.main_arg0) = m ((c.tc : Thread Cert.GdnConvRefIdeal.nD Cert.GdnConvRefIdeal.τ).loc Cert.GdnConvRefIdeal.main_arg0)
      ∧ r.2.mem ((c.tc : Thread Cert.GdnConvRefIdeal.nD Cert.GdnConvRefIdeal.τ).loc Cert.GdnConvRefIdeal.main_arg1) = m ((c.tc : Thread Cert.GdnConvRefIdeal.nD Cert.GdnConvRefIdeal.τ).loc Cert.GdnConvRefIdeal.main_arg1)
      ∧ r.2.mem ((c.tc : Thread Cert.GdnConvRefIdeal.nD Cert.GdnConvRefIdeal.τ).loc Cert.GdnConvRefIdeal.main_arg2) = m ((c.tc : Thread Cert.GdnConvRefIdeal.nD Cert.GdnConvRefIdeal.τ).loc Cert.GdnConvRefIdeal.main_arg2)
      ∧ r.2.mem ((c.tc : Thread Cert.GdnConvRefIdeal.nD Cert.GdnConvRefIdeal.τ).loc Cert.GdnConvRefIdeal.main_arg3) = m ((c.tc : Thread Cert.GdnConvRefIdeal.nD Cert.GdnConvRefIdeal.τ).loc Cert.GdnConvRefIdeal.main_arg3)
      ∧ r.2.mem ((c.tc : Thread Cert.GdnConvRefIdeal.nD Cert.GdnConvRefIdeal.τ).loc Cert.GdnConvRefIdeal.main_arg4) = m ((c.tc : Thread Cert.GdnConvRefIdeal.nD Cert.GdnConvRefIdeal.τ).loc Cert.GdnConvRefIdeal.main_arg4)
      ∧ r.2.mem ((c.tc : Thread Cert.GdnConvRefIdeal.nD Cert.GdnConvRefIdeal.τ).loc Cert.GdnConvRefIdeal.main_arg5) = m ((c.tc : Thread Cert.GdnConvRefIdeal.nD Cert.GdnConvRefIdeal.τ).loc Cert.GdnConvRefIdeal.main_arg5)
      ∧ r.2.mem ((c.tc : Thread Cert.GdnConvRefIdeal.nD Cert.GdnConvRefIdeal.τ).loc Cert.GdnConvRefIdeal.main_arg6) = m ((c.tc : Thread Cert.GdnConvRefIdeal.nD Cert.GdnConvRefIdeal.τ).loc Cert.GdnConvRefIdeal.main_arg6))
      ∧ r.2.sem = fun _ => 0)

def quiescent_MlstmStep [hMlstmStep : Cert.MlstmStep.Facts] : Prop :=
  ∀ (m : (ℓ : Loc Cert.MlstmStep.nD Cert.MlstmStep.τ Cert.MlstmStep.sig) → Buf (Elt Bits) ℓ) (g : Dev Cert.MlstmStep.nD → PrngReg), Pre_MlstmStep m →
    θ_run (Cert.MlstmStep.defs (F := Bits)) (onTc (τ := Cert.MlstmStep.τ) (Cert.MlstmStep.main (F := Bits))) ⟨m, fun _ => 0, g⟩ (fun r => (∀ c : Dev Cert.MlstmStep.nD,
      r.2.mem ((c.tc : Thread Cert.MlstmStep.nD Cert.MlstmStep.τ).loc Cert.MlstmStep.main_arg0) = m ((c.tc : Thread Cert.MlstmStep.nD Cert.MlstmStep.τ).loc Cert.MlstmStep.main_arg0)
      ∧ r.2.mem ((c.tc : Thread Cert.MlstmStep.nD Cert.MlstmStep.τ).loc Cert.MlstmStep.main_arg1) = m ((c.tc : Thread Cert.MlstmStep.nD Cert.MlstmStep.τ).loc Cert.MlstmStep.main_arg1)
      ∧ r.2.mem ((c.tc : Thread Cert.MlstmStep.nD Cert.MlstmStep.τ).loc Cert.MlstmStep.main_arg2) = m ((c.tc : Thread Cert.MlstmStep.nD Cert.MlstmStep.τ).loc Cert.MlstmStep.main_arg2)
      ∧ r.2.mem ((c.tc : Thread Cert.MlstmStep.nD Cert.MlstmStep.τ).loc Cert.MlstmStep.main_arg3) = m ((c.tc : Thread Cert.MlstmStep.nD Cert.MlstmStep.τ).loc Cert.MlstmStep.main_arg3)
      ∧ r.2.mem ((c.tc : Thread Cert.MlstmStep.nD Cert.MlstmStep.τ).loc Cert.MlstmStep.main_arg4) = m ((c.tc : Thread Cert.MlstmStep.nD Cert.MlstmStep.τ).loc Cert.MlstmStep.main_arg4)
      ∧ r.2.mem ((c.tc : Thread Cert.MlstmStep.nD Cert.MlstmStep.τ).loc Cert.MlstmStep.main_arg5) = m ((c.tc : Thread Cert.MlstmStep.nD Cert.MlstmStep.τ).loc Cert.MlstmStep.main_arg5)
      ∧ r.2.mem ((c.tc : Thread Cert.MlstmStep.nD Cert.MlstmStep.τ).loc Cert.MlstmStep.main_arg6) = m ((c.tc : Thread Cert.MlstmStep.nD Cert.MlstmStep.τ).loc Cert.MlstmStep.main_arg6))
      ∧ r.2.sem = fun _ => 0)

def quiescent_MlstmStepIdeal [hMlstmStepIdeal : Cert.MlstmStepIdeal.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg), Pre_MlstmStepIdeal m →
    θ_run (Cert.MlstmStepIdeal.defs (F := Ideal)) (onTc (τ := Cert.MlstmStepIdeal.τ) (Cert.MlstmStepIdeal.main (F := Ideal))) ⟨m, fun _ => 0, g⟩ (fun r => (∀ c : Dev Cert.MlstmStepIdeal.nD,
      r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
      ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
      ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
      ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
      ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
      ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
      ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6))
      ∧ r.2.sem = fun _ => 0)

def quiescent_MlstmStepIdeal_pre_finite_step [hMlstmStepIdeal : Cert.MlstmStepIdeal.Facts] [hPre_finite_step : Cert.Pre_finite_step.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg), Pre_MlstmStepIdeal_finite_step m →
    θ_run (Cert.MlstmStepIdeal.defs (F := Ideal)) (onTc (τ := Cert.MlstmStepIdeal.τ) (Cert.MlstmStepIdeal.main (F := Ideal))) ⟨m, fun _ => 0, g⟩ (fun r => (∀ c : Dev Cert.MlstmStepIdeal.nD,
      r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
      ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
      ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
      ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
      ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
      ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
      ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6))
      ∧ r.2.sem = fun _ => 0)

def quiescent_MlstmStepRefIdeal [hMlstmStepRefIdeal : Cert.MlstmStepRefIdeal.Facts] : Prop :=
  ∀ (m : (ℓ : Loc Cert.MlstmStepRefIdeal.nD Cert.MlstmStepRefIdeal.τ Cert.MlstmStepRefIdeal.sig) → Buf (Elt Ideal) ℓ) (g : Dev Cert.MlstmStepRefIdeal.nD → PrngReg), Pre_MlstmStepRefIdeal m →
    θ_run (Cert.MlstmStepRefIdeal.defs (F := Ideal)) (onTc (τ := Cert.MlstmStepRefIdeal.τ) (Cert.MlstmStepRefIdeal.main (F := Ideal))) ⟨m, fun _ => 0, g⟩ (fun r => (∀ c : Dev Cert.MlstmStepRefIdeal.nD,
      r.2.mem ((c.tc : Thread Cert.MlstmStepRefIdeal.nD Cert.MlstmStepRefIdeal.τ).loc Cert.MlstmStepRefIdeal.main_arg0) = m ((c.tc : Thread Cert.MlstmStepRefIdeal.nD Cert.MlstmStepRefIdeal.τ).loc Cert.MlstmStepRefIdeal.main_arg0)
      ∧ r.2.mem ((c.tc : Thread Cert.MlstmStepRefIdeal.nD Cert.MlstmStepRefIdeal.τ).loc Cert.MlstmStepRefIdeal.main_arg1) = m ((c.tc : Thread Cert.MlstmStepRefIdeal.nD Cert.MlstmStepRefIdeal.τ).loc Cert.MlstmStepRefIdeal.main_arg1)
      ∧ r.2.mem ((c.tc : Thread Cert.MlstmStepRefIdeal.nD Cert.MlstmStepRefIdeal.τ).loc Cert.MlstmStepRefIdeal.main_arg2) = m ((c.tc : Thread Cert.MlstmStepRefIdeal.nD Cert.MlstmStepRefIdeal.τ).loc Cert.MlstmStepRefIdeal.main_arg2)
      ∧ r.2.mem ((c.tc : Thread Cert.MlstmStepRefIdeal.nD Cert.MlstmStepRefIdeal.τ).loc Cert.MlstmStepRefIdeal.main_arg3) = m ((c.tc : Thread Cert.MlstmStepRefIdeal.nD Cert.MlstmStepRefIdeal.τ).loc Cert.MlstmStepRefIdeal.main_arg3)
      ∧ r.2.mem ((c.tc : Thread Cert.MlstmStepRefIdeal.nD Cert.MlstmStepRefIdeal.τ).loc Cert.MlstmStepRefIdeal.main_arg4) = m ((c.tc : Thread Cert.MlstmStepRefIdeal.nD Cert.MlstmStepRefIdeal.τ).loc Cert.MlstmStepRefIdeal.main_arg4)
      ∧ r.2.mem ((c.tc : Thread Cert.MlstmStepRefIdeal.nD Cert.MlstmStepRefIdeal.τ).loc Cert.MlstmStepRefIdeal.main_arg5) = m ((c.tc : Thread Cert.MlstmStepRefIdeal.nD Cert.MlstmStepRefIdeal.τ).loc Cert.MlstmStepRefIdeal.main_arg5)
      ∧ r.2.mem ((c.tc : Thread Cert.MlstmStepRefIdeal.nD Cert.MlstmStepRefIdeal.τ).loc Cert.MlstmStepRefIdeal.main_arg6) = m ((c.tc : Thread Cert.MlstmStepRefIdeal.nD Cert.MlstmStepRefIdeal.τ).loc Cert.MlstmStepRefIdeal.main_arg6))
      ∧ r.2.sem = fun _ => 0)

def quiescent_MlstmStepRefIdeal_pre_finite_step [hMlstmStepRefIdeal : Cert.MlstmStepRefIdeal.Facts] [hPre_finite_step : Cert.Pre_finite_step.Facts] : Prop :=
  ∀ (m : (ℓ : Loc Cert.MlstmStepRefIdeal.nD Cert.MlstmStepRefIdeal.τ Cert.MlstmStepRefIdeal.sig) → Buf (Elt Ideal) ℓ) (g : Dev Cert.MlstmStepRefIdeal.nD → PrngReg), Pre_MlstmStepRefIdeal_finite_step m →
    θ_run (Cert.MlstmStepRefIdeal.defs (F := Ideal)) (onTc (τ := Cert.MlstmStepRefIdeal.τ) (Cert.MlstmStepRefIdeal.main (F := Ideal))) ⟨m, fun _ => 0, g⟩ (fun r => (∀ c : Dev Cert.MlstmStepRefIdeal.nD,
      r.2.mem ((c.tc : Thread Cert.MlstmStepRefIdeal.nD Cert.MlstmStepRefIdeal.τ).loc Cert.MlstmStepRefIdeal.main_arg0) = m ((c.tc : Thread Cert.MlstmStepRefIdeal.nD Cert.MlstmStepRefIdeal.τ).loc Cert.MlstmStepRefIdeal.main_arg0)
      ∧ r.2.mem ((c.tc : Thread Cert.MlstmStepRefIdeal.nD Cert.MlstmStepRefIdeal.τ).loc Cert.MlstmStepRefIdeal.main_arg1) = m ((c.tc : Thread Cert.MlstmStepRefIdeal.nD Cert.MlstmStepRefIdeal.τ).loc Cert.MlstmStepRefIdeal.main_arg1)
      ∧ r.2.mem ((c.tc : Thread Cert.MlstmStepRefIdeal.nD Cert.MlstmStepRefIdeal.τ).loc Cert.MlstmStepRefIdeal.main_arg2) = m ((c.tc : Thread Cert.MlstmStepRefIdeal.nD Cert.MlstmStepRefIdeal.τ).loc Cert.MlstmStepRefIdeal.main_arg2)
      ∧ r.2.mem ((c.tc : Thread Cert.MlstmStepRefIdeal.nD Cert.MlstmStepRefIdeal.τ).loc Cert.MlstmStepRefIdeal.main_arg3) = m ((c.tc : Thread Cert.MlstmStepRefIdeal.nD Cert.MlstmStepRefIdeal.τ).loc Cert.MlstmStepRefIdeal.main_arg3)
      ∧ r.2.mem ((c.tc : Thread Cert.MlstmStepRefIdeal.nD Cert.MlstmStepRefIdeal.τ).loc Cert.MlstmStepRefIdeal.main_arg4) = m ((c.tc : Thread Cert.MlstmStepRefIdeal.nD Cert.MlstmStepRefIdeal.τ).loc Cert.MlstmStepRefIdeal.main_arg4)
      ∧ r.2.mem ((c.tc : Thread Cert.MlstmStepRefIdeal.nD Cert.MlstmStepRefIdeal.τ).loc Cert.MlstmStepRefIdeal.main_arg5) = m ((c.tc : Thread Cert.MlstmStepRefIdeal.nD Cert.MlstmStepRefIdeal.τ).loc Cert.MlstmStepRefIdeal.main_arg5)
      ∧ r.2.mem ((c.tc : Thread Cert.MlstmStepRefIdeal.nD Cert.MlstmStepRefIdeal.τ).loc Cert.MlstmStepRefIdeal.main_arg6) = m ((c.tc : Thread Cert.MlstmStepRefIdeal.nD Cert.MlstmStepRefIdeal.τ).loc Cert.MlstmStepRefIdeal.main_arg6))
      ∧ r.2.sem = fun _ => 0)

def quiescent_SsdState [hSsdState : Cert.SsdState.Facts] : Prop :=
  ∀ (m : (ℓ : Loc Cert.SsdState.nD Cert.SsdState.τ Cert.SsdState.sig) → Buf (Elt Bits) ℓ) (g : Dev Cert.SsdState.nD → PrngReg), Pre_SsdState m →
    θ_run (Cert.SsdState.defs (F := Bits)) (onTc (τ := Cert.SsdState.τ) (Cert.SsdState.main (F := Bits))) ⟨m, fun _ => 0, g⟩ (fun r => (∀ c : Dev Cert.SsdState.nD,
      r.2.mem ((c.tc : Thread Cert.SsdState.nD Cert.SsdState.τ).loc Cert.SsdState.main_arg0) = m ((c.tc : Thread Cert.SsdState.nD Cert.SsdState.τ).loc Cert.SsdState.main_arg0)
      ∧ r.2.mem ((c.tc : Thread Cert.SsdState.nD Cert.SsdState.τ).loc Cert.SsdState.main_arg1) = m ((c.tc : Thread Cert.SsdState.nD Cert.SsdState.τ).loc Cert.SsdState.main_arg1)
      ∧ r.2.mem ((c.tc : Thread Cert.SsdState.nD Cert.SsdState.τ).loc Cert.SsdState.main_arg2) = m ((c.tc : Thread Cert.SsdState.nD Cert.SsdState.τ).loc Cert.SsdState.main_arg2)
      ∧ r.2.mem ((c.tc : Thread Cert.SsdState.nD Cert.SsdState.τ).loc Cert.SsdState.main_arg3) = m ((c.tc : Thread Cert.SsdState.nD Cert.SsdState.τ).loc Cert.SsdState.main_arg3)
      ∧ r.2.mem ((c.tc : Thread Cert.SsdState.nD Cert.SsdState.τ).loc Cert.SsdState.main_arg4) = m ((c.tc : Thread Cert.SsdState.nD Cert.SsdState.τ).loc Cert.SsdState.main_arg4)
      ∧ r.2.mem ((c.tc : Thread Cert.SsdState.nD Cert.SsdState.τ).loc Cert.SsdState.main_arg5) = m ((c.tc : Thread Cert.SsdState.nD Cert.SsdState.τ).loc Cert.SsdState.main_arg5)
      ∧ r.2.mem ((c.tc : Thread Cert.SsdState.nD Cert.SsdState.τ).loc Cert.SsdState.main_arg6) = m ((c.tc : Thread Cert.SsdState.nD Cert.SsdState.τ).loc Cert.SsdState.main_arg6)
      ∧ r.2.mem ((c.tc : Thread Cert.SsdState.nD Cert.SsdState.τ).loc Cert.SsdState.main_arg7) = m ((c.tc : Thread Cert.SsdState.nD Cert.SsdState.τ).loc Cert.SsdState.main_arg7)
      ∧ r.2.mem ((c.tc : Thread Cert.SsdState.nD Cert.SsdState.τ).loc Cert.SsdState.main_arg8) = m ((c.tc : Thread Cert.SsdState.nD Cert.SsdState.τ).loc Cert.SsdState.main_arg8))
      ∧ r.2.sem = fun _ => 0)

def quiescent_SsdStateIdeal [hSsdStateIdeal : Cert.SsdStateIdeal.Facts] : Prop :=
  ∀ (m : (ℓ : Loc Cert.SsdStateIdeal.nD Cert.SsdStateIdeal.τ Cert.SsdStateIdeal.sig) → Buf (Elt Ideal) ℓ) (g : Dev Cert.SsdStateIdeal.nD → PrngReg), Pre_SsdStateIdeal m →
    θ_run (Cert.SsdStateIdeal.defs (F := Ideal)) (onTc (τ := Cert.SsdStateIdeal.τ) (Cert.SsdStateIdeal.main (F := Ideal))) ⟨m, fun _ => 0, g⟩ (fun r => (∀ c : Dev Cert.SsdStateIdeal.nD,
      r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
      ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
      ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
      ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
      ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
      ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
      ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
      ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
      ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8))
      ∧ r.2.sem = fun _ => 0)

def quiescent_SsdStateIdeal_pre_finite_ssd [hSsdStateIdeal : Cert.SsdStateIdeal.Facts] [hPre_finite_ssd : Cert.Pre_finite_ssd.Facts] : Prop :=
  ∀ (m : (ℓ : Loc Cert.SsdStateIdeal.nD Cert.SsdStateIdeal.τ Cert.SsdStateIdeal.sig) → Buf (Elt Ideal) ℓ) (g : Dev Cert.SsdStateIdeal.nD → PrngReg), Pre_SsdStateIdeal_finite_ssd m →
    θ_run (Cert.SsdStateIdeal.defs (F := Ideal)) (onTc (τ := Cert.SsdStateIdeal.τ) (Cert.SsdStateIdeal.main (F := Ideal))) ⟨m, fun _ => 0, g⟩ (fun r => (∀ c : Dev Cert.SsdStateIdeal.nD,
      r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
      ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
      ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
      ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
      ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
      ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
      ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
      ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
      ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8))
      ∧ r.2.sem = fun _ => 0)

def quiescent_SsdStateRefIdeal [hSsdStateRefIdeal : Cert.SsdStateRefIdeal.Facts] : Prop :=
  ∀ (m : (ℓ : Loc Cert.SsdStateRefIdeal.nD Cert.SsdStateRefIdeal.τ Cert.SsdStateRefIdeal.sig) → Buf (Elt Ideal) ℓ) (g : Dev Cert.SsdStateRefIdeal.nD → PrngReg), Pre_SsdStateRefIdeal m →
    θ_run (Cert.SsdStateRefIdeal.defs (F := Ideal)) (onTc (τ := Cert.SsdStateRefIdeal.τ) (Cert.SsdStateRefIdeal.main (F := Ideal))) ⟨m, fun _ => 0, g⟩ (fun r => (∀ c : Dev Cert.SsdStateRefIdeal.nD,
      r.2.mem ((c.tc : Thread Cert.SsdStateRefIdeal.nD Cert.SsdStateRefIdeal.τ).loc Cert.SsdStateRefIdeal.main_arg0) = m ((c.tc : Thread Cert.SsdStateRefIdeal.nD Cert.SsdStateRefIdeal.τ).loc Cert.SsdStateRefIdeal.main_arg0)
      ∧ r.2.mem ((c.tc : Thread Cert.SsdStateRefIdeal.nD Cert.SsdStateRefIdeal.τ).loc Cert.SsdStateRefIdeal.main_arg1) = m ((c.tc : Thread Cert.SsdStateRefIdeal.nD Cert.SsdStateRefIdeal.τ).loc Cert.SsdStateRefIdeal.main_arg1)
      ∧ r.2.mem ((c.tc : Thread Cert.SsdStateRefIdeal.nD Cert.SsdStateRefIdeal.τ).loc Cert.SsdStateRefIdeal.main_arg2) = m ((c.tc : Thread Cert.SsdStateRefIdeal.nD Cert.SsdStateRefIdeal.τ).loc Cert.SsdStateRefIdeal.main_arg2)
      ∧ r.2.mem ((c.tc : Thread Cert.SsdStateRefIdeal.nD Cert.SsdStateRefIdeal.τ).loc Cert.SsdStateRefIdeal.main_arg3) = m ((c.tc : Thread Cert.SsdStateRefIdeal.nD Cert.SsdStateRefIdeal.τ).loc Cert.SsdStateRefIdeal.main_arg3)
      ∧ r.2.mem ((c.tc : Thread Cert.SsdStateRefIdeal.nD Cert.SsdStateRefIdeal.τ).loc Cert.SsdStateRefIdeal.main_arg4) = m ((c.tc : Thread Cert.SsdStateRefIdeal.nD Cert.SsdStateRefIdeal.τ).loc Cert.SsdStateRefIdeal.main_arg4)
      ∧ r.2.mem ((c.tc : Thread Cert.SsdStateRefIdeal.nD Cert.SsdStateRefIdeal.τ).loc Cert.SsdStateRefIdeal.main_arg5) = m ((c.tc : Thread Cert.SsdStateRefIdeal.nD Cert.SsdStateRefIdeal.τ).loc Cert.SsdStateRefIdeal.main_arg5)
      ∧ r.2.mem ((c.tc : Thread Cert.SsdStateRefIdeal.nD Cert.SsdStateRefIdeal.τ).loc Cert.SsdStateRefIdeal.main_arg6) = m ((c.tc : Thread Cert.SsdStateRefIdeal.nD Cert.SsdStateRefIdeal.τ).loc Cert.SsdStateRefIdeal.main_arg6)
      ∧ r.2.mem ((c.tc : Thread Cert.SsdStateRefIdeal.nD Cert.SsdStateRefIdeal.τ).loc Cert.SsdStateRefIdeal.main_arg7) = m ((c.tc : Thread Cert.SsdStateRefIdeal.nD Cert.SsdStateRefIdeal.τ).loc Cert.SsdStateRefIdeal.main_arg7)
      ∧ r.2.mem ((c.tc : Thread Cert.SsdStateRefIdeal.nD Cert.SsdStateRefIdeal.τ).loc Cert.SsdStateRefIdeal.main_arg8) = m ((c.tc : Thread Cert.SsdStateRefIdeal.nD Cert.SsdStateRefIdeal.τ).loc Cert.SsdStateRefIdeal.main_arg8))
      ∧ r.2.sem = fun _ => 0)

def quiescent_SsdStateRefIdeal_pre_finite_ssd [hSsdStateRefIdeal : Cert.SsdStateRefIdeal.Facts] [hPre_finite_ssd : Cert.Pre_finite_ssd.Facts] : Prop :=
  ∀ (m : (ℓ : Loc Cert.SsdStateRefIdeal.nD Cert.SsdStateRefIdeal.τ Cert.SsdStateRefIdeal.sig) → Buf (Elt Ideal) ℓ) (g : Dev Cert.SsdStateRefIdeal.nD → PrngReg), Pre_SsdStateRefIdeal_finite_ssd m →
    θ_run (Cert.SsdStateRefIdeal.defs (F := Ideal)) (onTc (τ := Cert.SsdStateRefIdeal.τ) (Cert.SsdStateRefIdeal.main (F := Ideal))) ⟨m, fun _ => 0, g⟩ (fun r => (∀ c : Dev Cert.SsdStateRefIdeal.nD,
      r.2.mem ((c.tc : Thread Cert.SsdStateRefIdeal.nD Cert.SsdStateRefIdeal.τ).loc Cert.SsdStateRefIdeal.main_arg0) = m ((c.tc : Thread Cert.SsdStateRefIdeal.nD Cert.SsdStateRefIdeal.τ).loc Cert.SsdStateRefIdeal.main_arg0)
      ∧ r.2.mem ((c.tc : Thread Cert.SsdStateRefIdeal.nD Cert.SsdStateRefIdeal.τ).loc Cert.SsdStateRefIdeal.main_arg1) = m ((c.tc : Thread Cert.SsdStateRefIdeal.nD Cert.SsdStateRefIdeal.τ).loc Cert.SsdStateRefIdeal.main_arg1)
      ∧ r.2.mem ((c.tc : Thread Cert.SsdStateRefIdeal.nD Cert.SsdStateRefIdeal.τ).loc Cert.SsdStateRefIdeal.main_arg2) = m ((c.tc : Thread Cert.SsdStateRefIdeal.nD Cert.SsdStateRefIdeal.τ).loc Cert.SsdStateRefIdeal.main_arg2)
      ∧ r.2.mem ((c.tc : Thread Cert.SsdStateRefIdeal.nD Cert.SsdStateRefIdeal.τ).loc Cert.SsdStateRefIdeal.main_arg3) = m ((c.tc : Thread Cert.SsdStateRefIdeal.nD Cert.SsdStateRefIdeal.τ).loc Cert.SsdStateRefIdeal.main_arg3)
      ∧ r.2.mem ((c.tc : Thread Cert.SsdStateRefIdeal.nD Cert.SsdStateRefIdeal.τ).loc Cert.SsdStateRefIdeal.main_arg4) = m ((c.tc : Thread Cert.SsdStateRefIdeal.nD Cert.SsdStateRefIdeal.τ).loc Cert.SsdStateRefIdeal.main_arg4)
      ∧ r.2.mem ((c.tc : Thread Cert.SsdStateRefIdeal.nD Cert.SsdStateRefIdeal.τ).loc Cert.SsdStateRefIdeal.main_arg5) = m ((c.tc : Thread Cert.SsdStateRefIdeal.nD Cert.SsdStateRefIdeal.τ).loc Cert.SsdStateRefIdeal.main_arg5)
      ∧ r.2.mem ((c.tc : Thread Cert.SsdStateRefIdeal.nD Cert.SsdStateRefIdeal.τ).loc Cert.SsdStateRefIdeal.main_arg6) = m ((c.tc : Thread Cert.SsdStateRefIdeal.nD Cert.SsdStateRefIdeal.τ).loc Cert.SsdStateRefIdeal.main_arg6)
      ∧ r.2.mem ((c.tc : Thread Cert.SsdStateRefIdeal.nD Cert.SsdStateRefIdeal.τ).loc Cert.SsdStateRefIdeal.main_arg7) = m ((c.tc : Thread Cert.SsdStateRefIdeal.nD Cert.SsdStateRefIdeal.τ).loc Cert.SsdStateRefIdeal.main_arg7)
      ∧ r.2.mem ((c.tc : Thread Cert.SsdStateRefIdeal.nD Cert.SsdStateRefIdeal.τ).loc Cert.SsdStateRefIdeal.main_arg8) = m ((c.tc : Thread Cert.SsdStateRefIdeal.nD Cert.SsdStateRefIdeal.τ).loc Cert.SsdStateRefIdeal.main_arg8))
      ∧ r.2.sem = fun _ => 0)

def quiescent_GdnState [hGdnState : Cert.GdnState.Facts] : Prop :=
  ∀ (m : (ℓ : Loc Cert.GdnState.nD Cert.GdnState.τ Cert.GdnState.sig) → Buf (Elt Bits) ℓ) (g : Dev Cert.GdnState.nD → PrngReg), Pre_GdnState m →
    θ_run (Cert.GdnState.defs (F := Bits)) (onTc (τ := Cert.GdnState.τ) (Cert.GdnState.main (F := Bits))) ⟨m, fun _ => 0, g⟩ (fun r => (∀ c : Dev Cert.GdnState.nD,
      r.2.mem ((c.tc : Thread Cert.GdnState.nD Cert.GdnState.τ).loc Cert.GdnState.main_arg0) = m ((c.tc : Thread Cert.GdnState.nD Cert.GdnState.τ).loc Cert.GdnState.main_arg0)
      ∧ r.2.mem ((c.tc : Thread Cert.GdnState.nD Cert.GdnState.τ).loc Cert.GdnState.main_arg1) = m ((c.tc : Thread Cert.GdnState.nD Cert.GdnState.τ).loc Cert.GdnState.main_arg1)
      ∧ r.2.mem ((c.tc : Thread Cert.GdnState.nD Cert.GdnState.τ).loc Cert.GdnState.main_arg2) = m ((c.tc : Thread Cert.GdnState.nD Cert.GdnState.τ).loc Cert.GdnState.main_arg2)
      ∧ r.2.mem ((c.tc : Thread Cert.GdnState.nD Cert.GdnState.τ).loc Cert.GdnState.main_arg3) = m ((c.tc : Thread Cert.GdnState.nD Cert.GdnState.τ).loc Cert.GdnState.main_arg3)
      ∧ r.2.mem ((c.tc : Thread Cert.GdnState.nD Cert.GdnState.τ).loc Cert.GdnState.main_arg4) = m ((c.tc : Thread Cert.GdnState.nD Cert.GdnState.τ).loc Cert.GdnState.main_arg4)
      ∧ r.2.mem ((c.tc : Thread Cert.GdnState.nD Cert.GdnState.τ).loc Cert.GdnState.main_arg5) = m ((c.tc : Thread Cert.GdnState.nD Cert.GdnState.τ).loc Cert.GdnState.main_arg5)
      ∧ r.2.mem ((c.tc : Thread Cert.GdnState.nD Cert.GdnState.τ).loc Cert.GdnState.main_arg6) = m ((c.tc : Thread Cert.GdnState.nD Cert.GdnState.τ).loc Cert.GdnState.main_arg6))
      ∧ r.2.sem = fun _ => 0)

def quiescent_GdnStateIdeal [hGdnStateIdeal : Cert.GdnStateIdeal.Facts] : Prop :=
  ∀ (m : (ℓ : Loc Cert.GdnStateIdeal.nD Cert.GdnStateIdeal.τ Cert.GdnStateIdeal.sig) → Buf (Elt Ideal) ℓ) (g : Dev Cert.GdnStateIdeal.nD → PrngReg), Pre_GdnStateIdeal m →
    θ_run (Cert.GdnStateIdeal.defs (F := Ideal)) (onTc (τ := Cert.GdnStateIdeal.τ) (Cert.GdnStateIdeal.main (F := Ideal))) ⟨m, fun _ => 0, g⟩ (fun r => (∀ c : Dev Cert.GdnStateIdeal.nD,
      r.2.mem ((c.tc : Thread Cert.GdnStateIdeal.nD Cert.GdnStateIdeal.τ).loc Cert.GdnStateIdeal.main_arg0) = m ((c.tc : Thread Cert.GdnStateIdeal.nD Cert.GdnStateIdeal.τ).loc Cert.GdnStateIdeal.main_arg0)
      ∧ r.2.mem ((c.tc : Thread Cert.GdnStateIdeal.nD Cert.GdnStateIdeal.τ).loc Cert.GdnStateIdeal.main_arg1) = m ((c.tc : Thread Cert.GdnStateIdeal.nD Cert.GdnStateIdeal.τ).loc Cert.GdnStateIdeal.main_arg1)
      ∧ r.2.mem ((c.tc : Thread Cert.GdnStateIdeal.nD Cert.GdnStateIdeal.τ).loc Cert.GdnStateIdeal.main_arg2) = m ((c.tc : Thread Cert.GdnStateIdeal.nD Cert.GdnStateIdeal.τ).loc Cert.GdnStateIdeal.main_arg2)
      ∧ r.2.mem ((c.tc : Thread Cert.GdnStateIdeal.nD Cert.GdnStateIdeal.τ).loc Cert.GdnStateIdeal.main_arg3) = m ((c.tc : Thread Cert.GdnStateIdeal.nD Cert.GdnStateIdeal.τ).loc Cert.GdnStateIdeal.main_arg3)
      ∧ r.2.mem ((c.tc : Thread Cert.GdnStateIdeal.nD Cert.GdnStateIdeal.τ).loc Cert.GdnStateIdeal.main_arg4) = m ((c.tc : Thread Cert.GdnStateIdeal.nD Cert.GdnStateIdeal.τ).loc Cert.GdnStateIdeal.main_arg4)
      ∧ r.2.mem ((c.tc : Thread Cert.GdnStateIdeal.nD Cert.GdnStateIdeal.τ).loc Cert.GdnStateIdeal.main_arg5) = m ((c.tc : Thread Cert.GdnStateIdeal.nD Cert.GdnStateIdeal.τ).loc Cert.GdnStateIdeal.main_arg5)
      ∧ r.2.mem ((c.tc : Thread Cert.GdnStateIdeal.nD Cert.GdnStateIdeal.τ).loc Cert.GdnStateIdeal.main_arg6) = m ((c.tc : Thread Cert.GdnStateIdeal.nD Cert.GdnStateIdeal.τ).loc Cert.GdnStateIdeal.main_arg6))
      ∧ r.2.sem = fun _ => 0)

def quiescent_GdnStateIdeal_pre_finite_gdn [hGdnStateIdeal : Cert.GdnStateIdeal.Facts] [hPre_finite_gdn : Cert.Pre_finite_gdn.Facts] : Prop :=
  ∀ (m : (ℓ : Loc Cert.GdnStateIdeal.nD Cert.GdnStateIdeal.τ Cert.GdnStateIdeal.sig) → Buf (Elt Ideal) ℓ) (g : Dev Cert.GdnStateIdeal.nD → PrngReg), Pre_GdnStateIdeal_finite_gdn m →
    θ_run (Cert.GdnStateIdeal.defs (F := Ideal)) (onTc (τ := Cert.GdnStateIdeal.τ) (Cert.GdnStateIdeal.main (F := Ideal))) ⟨m, fun _ => 0, g⟩ (fun r => (∀ c : Dev Cert.GdnStateIdeal.nD,
      r.2.mem ((c.tc : Thread Cert.GdnStateIdeal.nD Cert.GdnStateIdeal.τ).loc Cert.GdnStateIdeal.main_arg0) = m ((c.tc : Thread Cert.GdnStateIdeal.nD Cert.GdnStateIdeal.τ).loc Cert.GdnStateIdeal.main_arg0)
      ∧ r.2.mem ((c.tc : Thread Cert.GdnStateIdeal.nD Cert.GdnStateIdeal.τ).loc Cert.GdnStateIdeal.main_arg1) = m ((c.tc : Thread Cert.GdnStateIdeal.nD Cert.GdnStateIdeal.τ).loc Cert.GdnStateIdeal.main_arg1)
      ∧ r.2.mem ((c.tc : Thread Cert.GdnStateIdeal.nD Cert.GdnStateIdeal.τ).loc Cert.GdnStateIdeal.main_arg2) = m ((c.tc : Thread Cert.GdnStateIdeal.nD Cert.GdnStateIdeal.τ).loc Cert.GdnStateIdeal.main_arg2)
      ∧ r.2.mem ((c.tc : Thread Cert.GdnStateIdeal.nD Cert.GdnStateIdeal.τ).loc Cert.GdnStateIdeal.main_arg3) = m ((c.tc : Thread Cert.GdnStateIdeal.nD Cert.GdnStateIdeal.τ).loc Cert.GdnStateIdeal.main_arg3)
      ∧ r.2.mem ((c.tc : Thread Cert.GdnStateIdeal.nD Cert.GdnStateIdeal.τ).loc Cert.GdnStateIdeal.main_arg4) = m ((c.tc : Thread Cert.GdnStateIdeal.nD Cert.GdnStateIdeal.τ).loc Cert.GdnStateIdeal.main_arg4)
      ∧ r.2.mem ((c.tc : Thread Cert.GdnStateIdeal.nD Cert.GdnStateIdeal.τ).loc Cert.GdnStateIdeal.main_arg5) = m ((c.tc : Thread Cert.GdnStateIdeal.nD Cert.GdnStateIdeal.τ).loc Cert.GdnStateIdeal.main_arg5)
      ∧ r.2.mem ((c.tc : Thread Cert.GdnStateIdeal.nD Cert.GdnStateIdeal.τ).loc Cert.GdnStateIdeal.main_arg6) = m ((c.tc : Thread Cert.GdnStateIdeal.nD Cert.GdnStateIdeal.τ).loc Cert.GdnStateIdeal.main_arg6))
      ∧ r.2.sem = fun _ => 0)

def quiescent_GdnStateRefIdeal [hGdnStateRefIdeal : Cert.GdnStateRefIdeal.Facts] : Prop :=
  ∀ (m : (ℓ : Loc Cert.GdnStateRefIdeal.nD Cert.GdnStateRefIdeal.τ Cert.GdnStateRefIdeal.sig) → Buf (Elt Ideal) ℓ) (g : Dev Cert.GdnStateRefIdeal.nD → PrngReg), Pre_GdnStateRefIdeal m →
    θ_run (Cert.GdnStateRefIdeal.defs (F := Ideal)) (onTc (τ := Cert.GdnStateRefIdeal.τ) (Cert.GdnStateRefIdeal.main (F := Ideal))) ⟨m, fun _ => 0, g⟩ (fun r => (∀ c : Dev Cert.GdnStateRefIdeal.nD,
      r.2.mem ((c.tc : Thread Cert.GdnStateRefIdeal.nD Cert.GdnStateRefIdeal.τ).loc Cert.GdnStateRefIdeal.main_arg0) = m ((c.tc : Thread Cert.GdnStateRefIdeal.nD Cert.GdnStateRefIdeal.τ).loc Cert.GdnStateRefIdeal.main_arg0)
      ∧ r.2.mem ((c.tc : Thread Cert.GdnStateRefIdeal.nD Cert.GdnStateRefIdeal.τ).loc Cert.GdnStateRefIdeal.main_arg1) = m ((c.tc : Thread Cert.GdnStateRefIdeal.nD Cert.GdnStateRefIdeal.τ).loc Cert.GdnStateRefIdeal.main_arg1)
      ∧ r.2.mem ((c.tc : Thread Cert.GdnStateRefIdeal.nD Cert.GdnStateRefIdeal.τ).loc Cert.GdnStateRefIdeal.main_arg2) = m ((c.tc : Thread Cert.GdnStateRefIdeal.nD Cert.GdnStateRefIdeal.τ).loc Cert.GdnStateRefIdeal.main_arg2)
      ∧ r.2.mem ((c.tc : Thread Cert.GdnStateRefIdeal.nD Cert.GdnStateRefIdeal.τ).loc Cert.GdnStateRefIdeal.main_arg3) = m ((c.tc : Thread Cert.GdnStateRefIdeal.nD Cert.GdnStateRefIdeal.τ).loc Cert.GdnStateRefIdeal.main_arg3)
      ∧ r.2.mem ((c.tc : Thread Cert.GdnStateRefIdeal.nD Cert.GdnStateRefIdeal.τ).loc Cert.GdnStateRefIdeal.main_arg4) = m ((c.tc : Thread Cert.GdnStateRefIdeal.nD Cert.GdnStateRefIdeal.τ).loc Cert.GdnStateRefIdeal.main_arg4)
      ∧ r.2.mem ((c.tc : Thread Cert.GdnStateRefIdeal.nD Cert.GdnStateRefIdeal.τ).loc Cert.GdnStateRefIdeal.main_arg5) = m ((c.tc : Thread Cert.GdnStateRefIdeal.nD Cert.GdnStateRefIdeal.τ).loc Cert.GdnStateRefIdeal.main_arg5)
      ∧ r.2.mem ((c.tc : Thread Cert.GdnStateRefIdeal.nD Cert.GdnStateRefIdeal.τ).loc Cert.GdnStateRefIdeal.main_arg6) = m ((c.tc : Thread Cert.GdnStateRefIdeal.nD Cert.GdnStateRefIdeal.τ).loc Cert.GdnStateRefIdeal.main_arg6))
      ∧ r.2.sem = fun _ => 0)

def quiescent_GdnStateRefIdeal_pre_finite_gdn [hGdnStateRefIdeal : Cert.GdnStateRefIdeal.Facts] [hPre_finite_gdn : Cert.Pre_finite_gdn.Facts] : Prop :=
  ∀ (m : (ℓ : Loc Cert.GdnStateRefIdeal.nD Cert.GdnStateRefIdeal.τ Cert.GdnStateRefIdeal.sig) → Buf (Elt Ideal) ℓ) (g : Dev Cert.GdnStateRefIdeal.nD → PrngReg), Pre_GdnStateRefIdeal_finite_gdn m →
    θ_run (Cert.GdnStateRefIdeal.defs (F := Ideal)) (onTc (τ := Cert.GdnStateRefIdeal.τ) (Cert.GdnStateRefIdeal.main (F := Ideal))) ⟨m, fun _ => 0, g⟩ (fun r => (∀ c : Dev Cert.GdnStateRefIdeal.nD,
      r.2.mem ((c.tc : Thread Cert.GdnStateRefIdeal.nD Cert.GdnStateRefIdeal.τ).loc Cert.GdnStateRefIdeal.main_arg0) = m ((c.tc : Thread Cert.GdnStateRefIdeal.nD Cert.GdnStateRefIdeal.τ).loc Cert.GdnStateRefIdeal.main_arg0)
      ∧ r.2.mem ((c.tc : Thread Cert.GdnStateRefIdeal.nD Cert.GdnStateRefIdeal.τ).loc Cert.GdnStateRefIdeal.main_arg1) = m ((c.tc : Thread Cert.GdnStateRefIdeal.nD Cert.GdnStateRefIdeal.τ).loc Cert.GdnStateRefIdeal.main_arg1)
      ∧ r.2.mem ((c.tc : Thread Cert.GdnStateRefIdeal.nD Cert.GdnStateRefIdeal.τ).loc Cert.GdnStateRefIdeal.main_arg2) = m ((c.tc : Thread Cert.GdnStateRefIdeal.nD Cert.GdnStateRefIdeal.τ).loc Cert.GdnStateRefIdeal.main_arg2)
      ∧ r.2.mem ((c.tc : Thread Cert.GdnStateRefIdeal.nD Cert.GdnStateRefIdeal.τ).loc Cert.GdnStateRefIdeal.main_arg3) = m ((c.tc : Thread Cert.GdnStateRefIdeal.nD Cert.GdnStateRefIdeal.τ).loc Cert.GdnStateRefIdeal.main_arg3)
      ∧ r.2.mem ((c.tc : Thread Cert.GdnStateRefIdeal.nD Cert.GdnStateRefIdeal.τ).loc Cert.GdnStateRefIdeal.main_arg4) = m ((c.tc : Thread Cert.GdnStateRefIdeal.nD Cert.GdnStateRefIdeal.τ).loc Cert.GdnStateRefIdeal.main_arg4)
      ∧ r.2.mem ((c.tc : Thread Cert.GdnStateRefIdeal.nD Cert.GdnStateRefIdeal.τ).loc Cert.GdnStateRefIdeal.main_arg5) = m ((c.tc : Thread Cert.GdnStateRefIdeal.nD Cert.GdnStateRefIdeal.τ).loc Cert.GdnStateRefIdeal.main_arg5)
      ∧ r.2.mem ((c.tc : Thread Cert.GdnStateRefIdeal.nD Cert.GdnStateRefIdeal.τ).loc Cert.GdnStateRefIdeal.main_arg6) = m ((c.tc : Thread Cert.GdnStateRefIdeal.nD Cert.GdnStateRefIdeal.τ).loc Cert.GdnStateRefIdeal.main_arg6))
      ∧ r.2.sem = fun _ => 0)

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v5)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v5) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v39) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v23)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v23) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v35) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v13) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1))

def preserves_Mlstm_MlstmIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)) →
    ∃ (v0 : (c : Dev Cert.MlstmIdeal.nD) → Buf (Elt Ideal) ((c.tc : Thread Cert.MlstmIdeal.nD Cert.MlstmIdeal.τ).loc Cert.MlstmIdeal.main_v5_0)) (v1 : (c : Dev Cert.MlstmIdeal.nD) → Buf (Elt Ideal) ((c.tc : Thread Cert.MlstmIdeal.nD Cert.MlstmIdeal.τ).loc Cert.MlstmIdeal.main_v5_1)) (v2 : (c : Dev Cert.MlstmIdeal.nD) → Buf (Elt Ideal) ((c.tc : Thread Cert.MlstmIdeal.nD Cert.MlstmIdeal.τ).loc Cert.MlstmIdeal.main_v5_2)) (v3 : (c : Dev Cert.MlstmIdeal.nD) → Buf (Elt Ideal) ((c.tc : Thread Cert.MlstmIdeal.nD Cert.MlstmIdeal.τ).loc Cert.MlstmIdeal.main_v5_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v5_0) = v0 c
          ∧ r.2.mem ((c.tc : Thread Cert.MlstmIdeal.nD Cert.MlstmIdeal.τ).loc Cert.MlstmIdeal.main_v5_1) = v1 c
          ∧ r.2.mem ((c.tc : Thread Cert.MlstmIdeal.nD Cert.MlstmIdeal.τ).loc Cert.MlstmIdeal.main_v5_2) = v2 c
          ∧ r.2.mem ((c.tc : Thread Cert.MlstmIdeal.nD Cert.MlstmIdeal.τ).loc Cert.MlstmIdeal.main_v5_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v86) = v0 c
          ∧ r.2.mem ((c.tc : Thread Cert.MlstmRefIdeal.nD Cert.MlstmRefIdeal.τ).loc Cert.MlstmRefIdeal.main_v59_9) = v1 c
          ∧ r.2.mem ((c.tc : Thread Cert.MlstmRefIdeal.nD Cert.MlstmRefIdeal.τ).loc Cert.MlstmRefIdeal.main_v59_10) = v2 c
          ∧ r.2.mem ((c.tc : Thread Cert.MlstmRefIdeal.nD Cert.MlstmRefIdeal.τ).loc Cert.MlstmRefIdeal.main_v88) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v23)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v23) = v0 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v35) = v0 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2))

def preserves_SsdConv_SsdConvIdeal : Prop :=
  True

def algebraic_SsdConvIdeal_SsdConvRefIdeal [hSsdConvIdeal : Cert.SsdConvIdeal.Facts] [hSsdConvRefIdeal : Cert.SsdConvRefIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg)
    (m' : (ℓ : Loc Cert.SsdConvRefIdeal.nD Cert.SsdConvRefIdeal.τ Cert.SsdConvRefIdeal.sig) → Buf (Elt Ideal) ℓ) (g' : Dev Cert.SsdConvRefIdeal.nD → PrngReg), Pre_SsdConvIdeal m →
    (∀ c : Dev Cert.SsdConvIdeal.nD,
      m' ((c.tc : Thread Cert.SsdConvRefIdeal.nD Cert.SsdConvRefIdeal.τ).loc Cert.SsdConvRefIdeal.main_arg0) = m ((c.tc : Thread Cert.SsdConvIdeal.nD Cert.SsdConvIdeal.τ).loc Cert.SsdConvIdeal.main_arg0)
      ∧ m' ((c.tc : Thread Cert.SsdConvRefIdeal.nD Cert.SsdConvRefIdeal.τ).loc Cert.SsdConvRefIdeal.main_arg1) = m ((c.tc : Thread Cert.SsdConvIdeal.nD Cert.SsdConvIdeal.τ).loc Cert.SsdConvIdeal.main_arg1)
      ∧ m' ((c.tc : Thread Cert.SsdConvRefIdeal.nD Cert.SsdConvRefIdeal.τ).loc Cert.SsdConvRefIdeal.main_arg2) = m ((c.tc : Thread Cert.SsdConvIdeal.nD Cert.SsdConvIdeal.τ).loc Cert.SsdConvIdeal.main_arg2)
      ∧ m' ((c.tc : Thread Cert.SsdConvRefIdeal.nD Cert.SsdConvRefIdeal.τ).loc Cert.SsdConvRefIdeal.main_arg3) = m ((c.tc : Thread Cert.SsdConvIdeal.nD Cert.SsdConvIdeal.τ).loc Cert.SsdConvIdeal.main_arg3)
      ∧ m' ((c.tc : Thread Cert.SsdConvRefIdeal.nD Cert.SsdConvRefIdeal.τ).loc Cert.SsdConvRefIdeal.main_arg4) = m ((c.tc : Thread Cert.SsdConvIdeal.nD Cert.SsdConvIdeal.τ).loc Cert.SsdConvIdeal.main_arg4)
      ∧ m' ((c.tc : Thread Cert.SsdConvRefIdeal.nD Cert.SsdConvRefIdeal.τ).loc Cert.SsdConvRefIdeal.main_arg5) = m ((c.tc : Thread Cert.SsdConvIdeal.nD Cert.SsdConvIdeal.τ).loc Cert.SsdConvIdeal.main_arg5)
      ∧ m' ((c.tc : Thread Cert.SsdConvRefIdeal.nD Cert.SsdConvRefIdeal.τ).loc Cert.SsdConvRefIdeal.main_arg6) = m ((c.tc : Thread Cert.SsdConvIdeal.nD Cert.SsdConvIdeal.τ).loc Cert.SsdConvIdeal.main_arg6)
      ∧ m' ((c.tc : Thread Cert.SsdConvRefIdeal.nD Cert.SsdConvRefIdeal.τ).loc Cert.SsdConvRefIdeal.main_arg7) = m ((c.tc : Thread Cert.SsdConvIdeal.nD Cert.SsdConvIdeal.τ).loc Cert.SsdConvIdeal.main_arg7)
      ∧ m' ((c.tc : Thread Cert.SsdConvRefIdeal.nD Cert.SsdConvRefIdeal.τ).loc Cert.SsdConvRefIdeal.main_arg8) = m ((c.tc : Thread Cert.SsdConvIdeal.nD Cert.SsdConvIdeal.τ).loc Cert.SsdConvIdeal.main_arg8)) →
    ∃ (v0 : (c : Dev Cert.SsdConvIdeal.nD) → Buf (Elt Ideal) ((c.tc : Thread Cert.SsdConvIdeal.nD Cert.SsdConvIdeal.τ).loc Cert.SsdConvIdeal.main_v13_1)),
      θ_run (Cert.SsdConvIdeal.defs (F := Ideal)) (onTc (τ := Cert.SsdConvIdeal.τ) (Cert.SsdConvIdeal.main (F := Ideal))) ⟨m, fun _ => 0, g⟩ (fun r => ∀ c : Dev Cert.SsdConvIdeal.nD,
          r.2.mem ((c.tc : Thread Cert.SsdConvIdeal.nD Cert.SsdConvIdeal.τ).loc Cert.SsdConvIdeal.main_v13_1) = v0 c
          ∧ r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
          ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
          ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2)
          ∧ r.2.mem ((c.tc : Thread Cert.SsdConvIdeal.nD Cert.SsdConvIdeal.τ).loc Cert.SsdConvIdeal.main_arg3) = m ((c.tc : Thread Cert.SsdConvIdeal.nD Cert.SsdConvIdeal.τ).loc Cert.SsdConvIdeal.main_arg3)
          ∧ r.2.mem ((c.tc : Thread Cert.SsdConvIdeal.nD Cert.SsdConvIdeal.τ).loc Cert.SsdConvIdeal.main_arg4) = m ((c.tc : Thread Cert.SsdConvIdeal.nD Cert.SsdConvIdeal.τ).loc Cert.SsdConvIdeal.main_arg4)
          ∧ r.2.mem ((c.tc : Thread Cert.SsdConvIdeal.nD Cert.SsdConvIdeal.τ).loc Cert.SsdConvIdeal.main_arg5) = m ((c.tc : Thread Cert.SsdConvIdeal.nD Cert.SsdConvIdeal.τ).loc Cert.SsdConvIdeal.main_arg5)
          ∧ r.2.mem ((c.tc : Thread Cert.SsdConvIdeal.nD Cert.SsdConvIdeal.τ).loc Cert.SsdConvIdeal.main_arg6) = m ((c.tc : Thread Cert.SsdConvIdeal.nD Cert.SsdConvIdeal.τ).loc Cert.SsdConvIdeal.main_arg6)
          ∧ r.2.mem ((c.tc : Thread Cert.SsdConvIdeal.nD Cert.SsdConvIdeal.τ).loc Cert.SsdConvIdeal.main_arg7) = m ((c.tc : Thread Cert.SsdConvIdeal.nD Cert.SsdConvIdeal.τ).loc Cert.SsdConvIdeal.main_arg7)
          ∧ r.2.mem ((c.tc : Thread Cert.SsdConvIdeal.nD Cert.SsdConvIdeal.τ).loc Cert.SsdConvIdeal.main_arg8) = m ((c.tc : Thread Cert.SsdConvIdeal.nD Cert.SsdConvIdeal.τ).loc Cert.SsdConvIdeal.main_arg8))
      ∧ θ_run (Cert.SsdConvRefIdeal.defs (F := Ideal)) (onTc (τ := Cert.SsdConvRefIdeal.τ) (Cert.SsdConvRefIdeal.main (F := Ideal))) ⟨m', fun _ => 0, g'⟩ (fun r => ∀ c : Dev Cert.SsdConvRefIdeal.nD,
          r.2.mem ((c.tc : Thread Cert.SsdConvRefIdeal.nD Cert.SsdConvRefIdeal.τ).loc Cert.SsdConvRefIdeal.main_v6) = v0 c
          ∧ r.2.mem ((c.tc : Thread Cert.SsdConvRefIdeal.nD Cert.SsdConvRefIdeal.τ).loc Cert.SsdConvRefIdeal.main_arg0) = m' ((c.tc : Thread Cert.SsdConvRefIdeal.nD Cert.SsdConvRefIdeal.τ).loc Cert.SsdConvRefIdeal.main_arg0)
          ∧ r.2.mem ((c.tc : Thread Cert.SsdConvRefIdeal.nD Cert.SsdConvRefIdeal.τ).loc Cert.SsdConvRefIdeal.main_arg1) = m' ((c.tc : Thread Cert.SsdConvRefIdeal.nD Cert.SsdConvRefIdeal.τ).loc Cert.SsdConvRefIdeal.main_arg1)
          ∧ r.2.mem ((c.tc : Thread Cert.SsdConvRefIdeal.nD Cert.SsdConvRefIdeal.τ).loc Cert.SsdConvRefIdeal.main_arg2) = m' ((c.tc : Thread Cert.SsdConvRefIdeal.nD Cert.SsdConvRefIdeal.τ).loc Cert.SsdConvRefIdeal.main_arg2)
          ∧ r.2.mem ((c.tc : Thread Cert.SsdConvRefIdeal.nD Cert.SsdConvRefIdeal.τ).loc Cert.SsdConvRefIdeal.main_arg3) = m' ((c.tc : Thread Cert.SsdConvRefIdeal.nD Cert.SsdConvRefIdeal.τ).loc Cert.SsdConvRefIdeal.main_arg3)
          ∧ r.2.mem ((c.tc : Thread Cert.SsdConvRefIdeal.nD Cert.SsdConvRefIdeal.τ).loc Cert.SsdConvRefIdeal.main_arg4) = m' ((c.tc : Thread Cert.SsdConvRefIdeal.nD Cert.SsdConvRefIdeal.τ).loc Cert.SsdConvRefIdeal.main_arg4)
          ∧ r.2.mem ((c.tc : Thread Cert.SsdConvRefIdeal.nD Cert.SsdConvRefIdeal.τ).loc Cert.SsdConvRefIdeal.main_arg5) = m' ((c.tc : Thread Cert.SsdConvRefIdeal.nD Cert.SsdConvRefIdeal.τ).loc Cert.SsdConvRefIdeal.main_arg5)
          ∧ r.2.mem ((c.tc : Thread Cert.SsdConvRefIdeal.nD Cert.SsdConvRefIdeal.τ).loc Cert.SsdConvRefIdeal.main_arg6) = m' ((c.tc : Thread Cert.SsdConvRefIdeal.nD Cert.SsdConvRefIdeal.τ).loc Cert.SsdConvRefIdeal.main_arg6)
          ∧ r.2.mem ((c.tc : Thread Cert.SsdConvRefIdeal.nD Cert.SsdConvRefIdeal.τ).loc Cert.SsdConvRefIdeal.main_arg7) = m' ((c.tc : Thread Cert.SsdConvRefIdeal.nD Cert.SsdConvRefIdeal.τ).loc Cert.SsdConvRefIdeal.main_arg7)
          ∧ r.2.mem ((c.tc : Thread Cert.SsdConvRefIdeal.nD Cert.SsdConvRefIdeal.τ).loc Cert.SsdConvRefIdeal.main_arg8) = m' ((c.tc : Thread Cert.SsdConvRefIdeal.nD Cert.SsdConvRefIdeal.τ).loc Cert.SsdConvRefIdeal.main_arg8))

def preserves_GdnConv_GdnConvIdeal : Prop :=
  True

def algebraic_GdnConvIdeal_GdnConvRefIdeal [hGdnConvIdeal : Cert.GdnConvIdeal.Facts] [hGdnConvRefIdeal : Cert.GdnConvRefIdeal.Facts] : Prop :=
  ∀ (m : (ℓ : Loc Cert.GdnConvIdeal.nD Cert.GdnConvIdeal.τ Cert.GdnConvIdeal.sig) → Buf (Elt Ideal) ℓ) (g : Dev Cert.GdnConvIdeal.nD → PrngReg)
    (m' : (ℓ : Loc Cert.GdnConvRefIdeal.nD Cert.GdnConvRefIdeal.τ Cert.GdnConvRefIdeal.sig) → Buf (Elt Ideal) ℓ) (g' : Dev Cert.GdnConvRefIdeal.nD → PrngReg), Pre_GdnConvIdeal m →
    (∀ c : Dev Cert.GdnConvIdeal.nD,
      m' ((c.tc : Thread Cert.GdnConvRefIdeal.nD Cert.GdnConvRefIdeal.τ).loc Cert.GdnConvRefIdeal.main_arg0) = m ((c.tc : Thread Cert.GdnConvIdeal.nD Cert.GdnConvIdeal.τ).loc Cert.GdnConvIdeal.main_arg0)
      ∧ m' ((c.tc : Thread Cert.GdnConvRefIdeal.nD Cert.GdnConvRefIdeal.τ).loc Cert.GdnConvRefIdeal.main_arg1) = m ((c.tc : Thread Cert.GdnConvIdeal.nD Cert.GdnConvIdeal.τ).loc Cert.GdnConvIdeal.main_arg1)
      ∧ m' ((c.tc : Thread Cert.GdnConvRefIdeal.nD Cert.GdnConvRefIdeal.τ).loc Cert.GdnConvRefIdeal.main_arg2) = m ((c.tc : Thread Cert.GdnConvIdeal.nD Cert.GdnConvIdeal.τ).loc Cert.GdnConvIdeal.main_arg2)
      ∧ m' ((c.tc : Thread Cert.GdnConvRefIdeal.nD Cert.GdnConvRefIdeal.τ).loc Cert.GdnConvRefIdeal.main_arg3) = m ((c.tc : Thread Cert.GdnConvIdeal.nD Cert.GdnConvIdeal.τ).loc Cert.GdnConvIdeal.main_arg3)
      ∧ m' ((c.tc : Thread Cert.GdnConvRefIdeal.nD Cert.GdnConvRefIdeal.τ).loc Cert.GdnConvRefIdeal.main_arg4) = m ((c.tc : Thread Cert.GdnConvIdeal.nD Cert.GdnConvIdeal.τ).loc Cert.GdnConvIdeal.main_arg4)
      ∧ m' ((c.tc : Thread Cert.GdnConvRefIdeal.nD Cert.GdnConvRefIdeal.τ).loc Cert.GdnConvRefIdeal.main_arg5) = m ((c.tc : Thread Cert.GdnConvIdeal.nD Cert.GdnConvIdeal.τ).loc Cert.GdnConvIdeal.main_arg5)
      ∧ m' ((c.tc : Thread Cert.GdnConvRefIdeal.nD Cert.GdnConvRefIdeal.τ).loc Cert.GdnConvRefIdeal.main_arg6) = m ((c.tc : Thread Cert.GdnConvIdeal.nD Cert.GdnConvIdeal.τ).loc Cert.GdnConvIdeal.main_arg6)) →
    ∃ (v0 : (c : Dev Cert.GdnConvIdeal.nD) → Buf (Elt Ideal) ((c.tc : Thread Cert.GdnConvIdeal.nD Cert.GdnConvIdeal.τ).loc Cert.GdnConvIdeal.main_v8_1)),
      θ_run (Cert.GdnConvIdeal.defs (F := Ideal)) (onTc (τ := Cert.GdnConvIdeal.τ) (Cert.GdnConvIdeal.main (F := Ideal))) ⟨m, fun _ => 0, g⟩ (fun r => ∀ c : Dev Cert.GdnConvIdeal.nD,
          r.2.mem ((c.tc : Thread Cert.GdnConvIdeal.nD Cert.GdnConvIdeal.τ).loc Cert.GdnConvIdeal.main_v8_1) = v0 c
          ∧ r.2.mem ((c.tc : Thread Cert.GdnConvIdeal.nD Cert.GdnConvIdeal.τ).loc Cert.GdnConvIdeal.main_arg0) = m ((c.tc : Thread Cert.GdnConvIdeal.nD Cert.GdnConvIdeal.τ).loc Cert.GdnConvIdeal.main_arg0)
          ∧ r.2.mem ((c.tc : Thread Cert.GdnConvIdeal.nD Cert.GdnConvIdeal.τ).loc Cert.GdnConvIdeal.main_arg1) = m ((c.tc : Thread Cert.GdnConvIdeal.nD Cert.GdnConvIdeal.τ).loc Cert.GdnConvIdeal.main_arg1)
          ∧ r.2.mem ((c.tc : Thread Cert.GdnConvIdeal.nD Cert.GdnConvIdeal.τ).loc Cert.GdnConvIdeal.main_arg2) = m ((c.tc : Thread Cert.GdnConvIdeal.nD Cert.GdnConvIdeal.τ).loc Cert.GdnConvIdeal.main_arg2)
          ∧ r.2.mem ((c.tc : Thread Cert.GdnConvIdeal.nD Cert.GdnConvIdeal.τ).loc Cert.GdnConvIdeal.main_arg3) = m ((c.tc : Thread Cert.GdnConvIdeal.nD Cert.GdnConvIdeal.τ).loc Cert.GdnConvIdeal.main_arg3)
          ∧ r.2.mem ((c.tc : Thread Cert.GdnConvIdeal.nD Cert.GdnConvIdeal.τ).loc Cert.GdnConvIdeal.main_arg4) = m ((c.tc : Thread Cert.GdnConvIdeal.nD Cert.GdnConvIdeal.τ).loc Cert.GdnConvIdeal.main_arg4)
          ∧ r.2.mem ((c.tc : Thread Cert.GdnConvIdeal.nD Cert.GdnConvIdeal.τ).loc Cert.GdnConvIdeal.main_arg5) = m ((c.tc : Thread Cert.GdnConvIdeal.nD Cert.GdnConvIdeal.τ).loc Cert.GdnConvIdeal.main_arg5)
          ∧ r.2.mem ((c.tc : Thread Cert.GdnConvIdeal.nD Cert.GdnConvIdeal.τ).loc Cert.GdnConvIdeal.main_arg6) = m ((c.tc : Thread Cert.GdnConvIdeal.nD Cert.GdnConvIdeal.τ).loc Cert.GdnConvIdeal.main_arg6))
      ∧ θ_run (Cert.GdnConvRefIdeal.defs (F := Ideal)) (onTc (τ := Cert.GdnConvRefIdeal.τ) (Cert.GdnConvRefIdeal.main (F := Ideal))) ⟨m', fun _ => 0, g'⟩ (fun r => ∀ c : Dev Cert.GdnConvRefIdeal.nD,
          r.2.mem ((c.tc : Thread Cert.GdnConvRefIdeal.nD Cert.GdnConvRefIdeal.τ).loc Cert.GdnConvRefIdeal.main_v6) = v0 c
          ∧ r.2.mem ((c.tc : Thread Cert.GdnConvRefIdeal.nD Cert.GdnConvRefIdeal.τ).loc Cert.GdnConvRefIdeal.main_arg0) = m' ((c.tc : Thread Cert.GdnConvRefIdeal.nD Cert.GdnConvRefIdeal.τ).loc Cert.GdnConvRefIdeal.main_arg0)
          ∧ r.2.mem ((c.tc : Thread Cert.GdnConvRefIdeal.nD Cert.GdnConvRefIdeal.τ).loc Cert.GdnConvRefIdeal.main_arg1) = m' ((c.tc : Thread Cert.GdnConvRefIdeal.nD Cert.GdnConvRefIdeal.τ).loc Cert.GdnConvRefIdeal.main_arg1)
          ∧ r.2.mem ((c.tc : Thread Cert.GdnConvRefIdeal.nD Cert.GdnConvRefIdeal.τ).loc Cert.GdnConvRefIdeal.main_arg2) = m' ((c.tc : Thread Cert.GdnConvRefIdeal.nD Cert.GdnConvRefIdeal.τ).loc Cert.GdnConvRefIdeal.main_arg2)
          ∧ r.2.mem ((c.tc : Thread Cert.GdnConvRefIdeal.nD Cert.GdnConvRefIdeal.τ).loc Cert.GdnConvRefIdeal.main_arg3) = m' ((c.tc : Thread Cert.GdnConvRefIdeal.nD Cert.GdnConvRefIdeal.τ).loc Cert.GdnConvRefIdeal.main_arg3)
          ∧ r.2.mem ((c.tc : Thread Cert.GdnConvRefIdeal.nD Cert.GdnConvRefIdeal.τ).loc Cert.GdnConvRefIdeal.main_arg4) = m' ((c.tc : Thread Cert.GdnConvRefIdeal.nD Cert.GdnConvRefIdeal.τ).loc Cert.GdnConvRefIdeal.main_arg4)
          ∧ r.2.mem ((c.tc : Thread Cert.GdnConvRefIdeal.nD Cert.GdnConvRefIdeal.τ).loc Cert.GdnConvRefIdeal.main_arg5) = m' ((c.tc : Thread Cert.GdnConvRefIdeal.nD Cert.GdnConvRefIdeal.τ).loc Cert.GdnConvRefIdeal.main_arg5)
          ∧ r.2.mem ((c.tc : Thread Cert.GdnConvRefIdeal.nD Cert.GdnConvRefIdeal.τ).loc Cert.GdnConvRefIdeal.main_arg6) = m' ((c.tc : Thread Cert.GdnConvRefIdeal.nD Cert.GdnConvRefIdeal.τ).loc Cert.GdnConvRefIdeal.main_arg6))

def preserves_MlstmStep_MlstmStepIdeal : Prop :=
  True

def algebraic_MlstmStepIdeal_MlstmStepRefIdeal_pre_finite_step [hMlstmStepIdeal : Cert.MlstmStepIdeal.Facts] [hMlstmStepRefIdeal : Cert.MlstmStepRefIdeal.Facts] [hPre_finite_step : Cert.Pre_finite_step.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg)
    (m' : (ℓ : Loc Cert.MlstmStepRefIdeal.nD Cert.MlstmStepRefIdeal.τ Cert.MlstmStepRefIdeal.sig) → Buf (Elt Ideal) ℓ) (g' : Dev Cert.MlstmStepRefIdeal.nD → PrngReg), Pre_MlstmStepIdeal_finite_step m →
    (∀ c : Dev Cert.MlstmStepIdeal.nD,
      m' ((c.tc : Thread Cert.MlstmStepRefIdeal.nD Cert.MlstmStepRefIdeal.τ).loc Cert.MlstmStepRefIdeal.main_arg0) = m ((c.tc : Thread Cert.MlstmStepIdeal.nD Cert.MlstmStepIdeal.τ).loc Cert.MlstmStepIdeal.main_arg0)
      ∧ m' ((c.tc : Thread Cert.MlstmStepRefIdeal.nD Cert.MlstmStepRefIdeal.τ).loc Cert.MlstmStepRefIdeal.main_arg1) = m ((c.tc : Thread Cert.MlstmStepIdeal.nD Cert.MlstmStepIdeal.τ).loc Cert.MlstmStepIdeal.main_arg1)
      ∧ m' ((c.tc : Thread Cert.MlstmStepRefIdeal.nD Cert.MlstmStepRefIdeal.τ).loc Cert.MlstmStepRefIdeal.main_arg2) = m ((c.tc : Thread Cert.MlstmStepIdeal.nD Cert.MlstmStepIdeal.τ).loc Cert.MlstmStepIdeal.main_arg2)
      ∧ m' ((c.tc : Thread Cert.MlstmStepRefIdeal.nD Cert.MlstmStepRefIdeal.τ).loc Cert.MlstmStepRefIdeal.main_arg3) = m ((c.tc : Thread Cert.MlstmStepIdeal.nD Cert.MlstmStepIdeal.τ).loc Cert.MlstmStepIdeal.main_arg3)
      ∧ m' ((c.tc : Thread Cert.MlstmStepRefIdeal.nD Cert.MlstmStepRefIdeal.τ).loc Cert.MlstmStepRefIdeal.main_arg4) = m ((c.tc : Thread Cert.MlstmStepIdeal.nD Cert.MlstmStepIdeal.τ).loc Cert.MlstmStepIdeal.main_arg4)
      ∧ m' ((c.tc : Thread Cert.MlstmStepRefIdeal.nD Cert.MlstmStepRefIdeal.τ).loc Cert.MlstmStepRefIdeal.main_arg5) = m ((c.tc : Thread Cert.MlstmStepIdeal.nD Cert.MlstmStepIdeal.τ).loc Cert.MlstmStepIdeal.main_arg5)
      ∧ m' ((c.tc : Thread Cert.MlstmStepRefIdeal.nD Cert.MlstmStepRefIdeal.τ).loc Cert.MlstmStepRefIdeal.main_arg6) = m ((c.tc : Thread Cert.MlstmStepIdeal.nD Cert.MlstmStepIdeal.τ).loc Cert.MlstmStepIdeal.main_arg6)) →
    ∃ (v0 : (c : Dev Cert.MlstmStepIdeal.nD) → Buf (Elt Ideal) ((c.tc : Thread Cert.MlstmStepIdeal.nD Cert.MlstmStepIdeal.τ).loc Cert.MlstmStepIdeal.main_v6_0)) (v1 : (c : Dev Cert.MlstmStepIdeal.nD) → Buf (Elt Ideal) ((c.tc : Thread Cert.MlstmStepIdeal.nD Cert.MlstmStepIdeal.τ).loc Cert.MlstmStepIdeal.main_v6_1)) (v2 : (c : Dev Cert.MlstmStepIdeal.nD) → Buf (Elt Ideal) ((c.tc : Thread Cert.MlstmStepIdeal.nD Cert.MlstmStepIdeal.τ).loc Cert.MlstmStepIdeal.main_v6_2)) (v3 : (c : Dev Cert.MlstmStepIdeal.nD) → Buf (Elt Ideal) ((c.tc : Thread Cert.MlstmStepIdeal.nD Cert.MlstmStepIdeal.τ).loc Cert.MlstmStepIdeal.main_v6_3)),
      θ_run (Cert.MlstmStepIdeal.defs (F := Ideal)) (onTc (τ := Cert.MlstmStepIdeal.τ) (Cert.MlstmStepIdeal.main (F := Ideal))) ⟨m, fun _ => 0, g⟩ (fun r => ∀ c : Dev Cert.MlstmStepIdeal.nD,
          r.2.mem ((c.tc : Thread Cert.MlstmStepIdeal.nD Cert.MlstmStepIdeal.τ).loc Cert.MlstmStepIdeal.main_v6_0) = v0 c
          ∧ r.2.mem ((c.tc : Thread Cert.MlstmStepIdeal.nD Cert.MlstmStepIdeal.τ).loc Cert.MlstmStepIdeal.main_v6_1) = v1 c
          ∧ r.2.mem ((c.tc : Thread Cert.MlstmStepIdeal.nD Cert.MlstmStepIdeal.τ).loc Cert.MlstmStepIdeal.main_v6_2) = v2 c
          ∧ r.2.mem ((c.tc : Thread Cert.MlstmStepIdeal.nD Cert.MlstmStepIdeal.τ).loc Cert.MlstmStepIdeal.main_v6_3) = v3 c
          ∧ r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
          ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
          ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
          ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
          ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
          ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
          ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6))
      ∧ θ_run (Cert.MlstmStepRefIdeal.defs (F := Ideal)) (onTc (τ := Cert.MlstmStepRefIdeal.τ) (Cert.MlstmStepRefIdeal.main (F := Ideal))) ⟨m', fun _ => 0, g'⟩ (fun r => ∀ c : Dev Cert.MlstmStepRefIdeal.nD,
          r.2.mem ((c.tc : Thread Cert.MlstmStepRefIdeal.nD Cert.MlstmStepRefIdeal.τ).loc Cert.MlstmStepRefIdeal.main_v105) = v0 c
          ∧ r.2.mem ((c.tc : Thread Cert.MlstmStepRefIdeal.nD Cert.MlstmStepRefIdeal.τ).loc Cert.MlstmStepRefIdeal.main_v78) = v1 c
          ∧ r.2.mem ((c.tc : Thread Cert.MlstmStepRefIdeal.nD Cert.MlstmStepRefIdeal.τ).loc Cert.MlstmStepRefIdeal.main_v106) = v2 c
          ∧ r.2.mem ((c.tc : Thread Cert.MlstmStepRefIdeal.nD Cert.MlstmStepRefIdeal.τ).loc Cert.MlstmStepRefIdeal.main_v63) = v3 c
          ∧ r.2.mem ((c.tc : Thread Cert.MlstmStepRefIdeal.nD Cert.MlstmStepRefIdeal.τ).loc Cert.MlstmStepRefIdeal.main_arg0) = m' ((c.tc : Thread Cert.MlstmStepRefIdeal.nD Cert.MlstmStepRefIdeal.τ).loc Cert.MlstmStepRefIdeal.main_arg0)
          ∧ r.2.mem ((c.tc : Thread Cert.MlstmStepRefIdeal.nD Cert.MlstmStepRefIdeal.τ).loc Cert.MlstmStepRefIdeal.main_arg1) = m' ((c.tc : Thread Cert.MlstmStepRefIdeal.nD Cert.MlstmStepRefIdeal.τ).loc Cert.MlstmStepRefIdeal.main_arg1)
          ∧ r.2.mem ((c.tc : Thread Cert.MlstmStepRefIdeal.nD Cert.MlstmStepRefIdeal.τ).loc Cert.MlstmStepRefIdeal.main_arg2) = m' ((c.tc : Thread Cert.MlstmStepRefIdeal.nD Cert.MlstmStepRefIdeal.τ).loc Cert.MlstmStepRefIdeal.main_arg2)
          ∧ r.2.mem ((c.tc : Thread Cert.MlstmStepRefIdeal.nD Cert.MlstmStepRefIdeal.τ).loc Cert.MlstmStepRefIdeal.main_arg3) = m' ((c.tc : Thread Cert.MlstmStepRefIdeal.nD Cert.MlstmStepRefIdeal.τ).loc Cert.MlstmStepRefIdeal.main_arg3)
          ∧ r.2.mem ((c.tc : Thread Cert.MlstmStepRefIdeal.nD Cert.MlstmStepRefIdeal.τ).loc Cert.MlstmStepRefIdeal.main_arg4) = m' ((c.tc : Thread Cert.MlstmStepRefIdeal.nD Cert.MlstmStepRefIdeal.τ).loc Cert.MlstmStepRefIdeal.main_arg4)
          ∧ r.2.mem ((c.tc : Thread Cert.MlstmStepRefIdeal.nD Cert.MlstmStepRefIdeal.τ).loc Cert.MlstmStepRefIdeal.main_arg5) = m' ((c.tc : Thread Cert.MlstmStepRefIdeal.nD Cert.MlstmStepRefIdeal.τ).loc Cert.MlstmStepRefIdeal.main_arg5)
          ∧ r.2.mem ((c.tc : Thread Cert.MlstmStepRefIdeal.nD Cert.MlstmStepRefIdeal.τ).loc Cert.MlstmStepRefIdeal.main_arg6) = m' ((c.tc : Thread Cert.MlstmStepRefIdeal.nD Cert.MlstmStepRefIdeal.τ).loc Cert.MlstmStepRefIdeal.main_arg6))

def preserves_SsdState_SsdStateIdeal : Prop :=
  True

def algebraic_SsdStateIdeal_SsdStateRefIdeal_pre_finite_ssd [hSsdStateIdeal : Cert.SsdStateIdeal.Facts] [hSsdStateRefIdeal : Cert.SsdStateRefIdeal.Facts] [hPre_finite_ssd : Cert.Pre_finite_ssd.Facts] : Prop :=
  ∀ (m : (ℓ : Loc Cert.SsdStateIdeal.nD Cert.SsdStateIdeal.τ Cert.SsdStateIdeal.sig) → Buf (Elt Ideal) ℓ) (g : Dev Cert.SsdStateIdeal.nD → PrngReg)
    (m' : (ℓ : Loc Cert.SsdStateRefIdeal.nD Cert.SsdStateRefIdeal.τ Cert.SsdStateRefIdeal.sig) → Buf (Elt Ideal) ℓ) (g' : Dev Cert.SsdStateRefIdeal.nD → PrngReg), Pre_SsdStateIdeal_finite_ssd m →
    (∀ c : Dev Cert.SsdStateIdeal.nD,
      m' ((c.tc : Thread Cert.SsdStateRefIdeal.nD Cert.SsdStateRefIdeal.τ).loc Cert.SsdStateRefIdeal.main_arg0) = m ((c.tc : Thread Cert.SsdStateIdeal.nD Cert.SsdStateIdeal.τ).loc Cert.SsdStateIdeal.main_arg0)
      ∧ m' ((c.tc : Thread Cert.SsdStateRefIdeal.nD Cert.SsdStateRefIdeal.τ).loc Cert.SsdStateRefIdeal.main_arg1) = m ((c.tc : Thread Cert.SsdStateIdeal.nD Cert.SsdStateIdeal.τ).loc Cert.SsdStateIdeal.main_arg1)
      ∧ m' ((c.tc : Thread Cert.SsdStateRefIdeal.nD Cert.SsdStateRefIdeal.τ).loc Cert.SsdStateRefIdeal.main_arg2) = m ((c.tc : Thread Cert.SsdStateIdeal.nD Cert.SsdStateIdeal.τ).loc Cert.SsdStateIdeal.main_arg2)
      ∧ m' ((c.tc : Thread Cert.SsdStateRefIdeal.nD Cert.SsdStateRefIdeal.τ).loc Cert.SsdStateRefIdeal.main_arg3) = m ((c.tc : Thread Cert.SsdStateIdeal.nD Cert.SsdStateIdeal.τ).loc Cert.SsdStateIdeal.main_arg3)
      ∧ m' ((c.tc : Thread Cert.SsdStateRefIdeal.nD Cert.SsdStateRefIdeal.τ).loc Cert.SsdStateRefIdeal.main_arg4) = m ((c.tc : Thread Cert.SsdStateIdeal.nD Cert.SsdStateIdeal.τ).loc Cert.SsdStateIdeal.main_arg4)
      ∧ m' ((c.tc : Thread Cert.SsdStateRefIdeal.nD Cert.SsdStateRefIdeal.τ).loc Cert.SsdStateRefIdeal.main_arg5) = m ((c.tc : Thread Cert.SsdStateIdeal.nD Cert.SsdStateIdeal.τ).loc Cert.SsdStateIdeal.main_arg5)
      ∧ m' ((c.tc : Thread Cert.SsdStateRefIdeal.nD Cert.SsdStateRefIdeal.τ).loc Cert.SsdStateRefIdeal.main_arg6) = m ((c.tc : Thread Cert.SsdStateIdeal.nD Cert.SsdStateIdeal.τ).loc Cert.SsdStateIdeal.main_arg6)
      ∧ m' ((c.tc : Thread Cert.SsdStateRefIdeal.nD Cert.SsdStateRefIdeal.τ).loc Cert.SsdStateRefIdeal.main_arg7) = m ((c.tc : Thread Cert.SsdStateIdeal.nD Cert.SsdStateIdeal.τ).loc Cert.SsdStateIdeal.main_arg7)
      ∧ m' ((c.tc : Thread Cert.SsdStateRefIdeal.nD Cert.SsdStateRefIdeal.τ).loc Cert.SsdStateRefIdeal.main_arg8) = m ((c.tc : Thread Cert.SsdStateIdeal.nD Cert.SsdStateIdeal.τ).loc Cert.SsdStateIdeal.main_arg8)) →
    ∃ (v0 : (c : Dev Cert.SsdStateIdeal.nD) → Buf (Elt Ideal) ((c.tc : Thread Cert.SsdStateIdeal.nD Cert.SsdStateIdeal.τ).loc Cert.SsdStateIdeal.main_v13_2)),
      θ_run (Cert.SsdStateIdeal.defs (F := Ideal)) (onTc (τ := Cert.SsdStateIdeal.τ) (Cert.SsdStateIdeal.main (F := Ideal))) ⟨m, fun _ => 0, g⟩ (fun r => ∀ c : Dev Cert.SsdStateIdeal.nD,
          r.2.mem ((c.tc : Thread Cert.SsdStateIdeal.nD Cert.SsdStateIdeal.τ).loc Cert.SsdStateIdeal.main_v13_2) = v0 c
          ∧ r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
          ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
          ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
          ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
          ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
          ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
          ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
          ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
          ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8))
      ∧ θ_run (Cert.SsdStateRefIdeal.defs (F := Ideal)) (onTc (τ := Cert.SsdStateRefIdeal.τ) (Cert.SsdStateRefIdeal.main (F := Ideal))) ⟨m', fun _ => 0, g'⟩ (fun r => ∀ c : Dev Cert.SsdStateRefIdeal.nD,
          r.2.mem ((c.tc : Thread Cert.SsdStateRefIdeal.nD Cert.SsdStateRefIdeal.τ).loc Cert.SsdStateRefIdeal.main_v72) = v0 c
          ∧ r.2.mem ((c.tc : Thread Cert.SsdStateRefIdeal.nD Cert.SsdStateRefIdeal.τ).loc Cert.SsdStateRefIdeal.main_arg0) = m' ((c.tc : Thread Cert.SsdStateRefIdeal.nD Cert.SsdStateRefIdeal.τ).loc Cert.SsdStateRefIdeal.main_arg0)
          ∧ r.2.mem ((c.tc : Thread Cert.SsdStateRefIdeal.nD Cert.SsdStateRefIdeal.τ).loc Cert.SsdStateRefIdeal.main_arg1) = m' ((c.tc : Thread Cert.SsdStateRefIdeal.nD Cert.SsdStateRefIdeal.τ).loc Cert.SsdStateRefIdeal.main_arg1)
          ∧ r.2.mem ((c.tc : Thread Cert.SsdStateRefIdeal.nD Cert.SsdStateRefIdeal.τ).loc Cert.SsdStateRefIdeal.main_arg2) = m' ((c.tc : Thread Cert.SsdStateRefIdeal.nD Cert.SsdStateRefIdeal.τ).loc Cert.SsdStateRefIdeal.main_arg2)
          ∧ r.2.mem ((c.tc : Thread Cert.SsdStateRefIdeal.nD Cert.SsdStateRefIdeal.τ).loc Cert.SsdStateRefIdeal.main_arg3) = m' ((c.tc : Thread Cert.SsdStateRefIdeal.nD Cert.SsdStateRefIdeal.τ).loc Cert.SsdStateRefIdeal.main_arg3)
          ∧ r.2.mem ((c.tc : Thread Cert.SsdStateRefIdeal.nD Cert.SsdStateRefIdeal.τ).loc Cert.SsdStateRefIdeal.main_arg4) = m' ((c.tc : Thread Cert.SsdStateRefIdeal.nD Cert.SsdStateRefIdeal.τ).loc Cert.SsdStateRefIdeal.main_arg4)
          ∧ r.2.mem ((c.tc : Thread Cert.SsdStateRefIdeal.nD Cert.SsdStateRefIdeal.τ).loc Cert.SsdStateRefIdeal.main_arg5) = m' ((c.tc : Thread Cert.SsdStateRefIdeal.nD Cert.SsdStateRefIdeal.τ).loc Cert.SsdStateRefIdeal.main_arg5)
          ∧ r.2.mem ((c.tc : Thread Cert.SsdStateRefIdeal.nD Cert.SsdStateRefIdeal.τ).loc Cert.SsdStateRefIdeal.main_arg6) = m' ((c.tc : Thread Cert.SsdStateRefIdeal.nD Cert.SsdStateRefIdeal.τ).loc Cert.SsdStateRefIdeal.main_arg6)
          ∧ r.2.mem ((c.tc : Thread Cert.SsdStateRefIdeal.nD Cert.SsdStateRefIdeal.τ).loc Cert.SsdStateRefIdeal.main_arg7) = m' ((c.tc : Thread Cert.SsdStateRefIdeal.nD Cert.SsdStateRefIdeal.τ).loc Cert.SsdStateRefIdeal.main_arg7)
          ∧ r.2.mem ((c.tc : Thread Cert.SsdStateRefIdeal.nD Cert.SsdStateRefIdeal.τ).loc Cert.SsdStateRefIdeal.main_arg8) = m' ((c.tc : Thread Cert.SsdStateRefIdeal.nD Cert.SsdStateRefIdeal.τ).loc Cert.SsdStateRefIdeal.main_arg8))

def preserves_GdnState_GdnStateIdeal : Prop :=
  True

def algebraic_GdnStateIdeal_GdnStateRefIdeal_pre_finite_gdn [hGdnStateIdeal : Cert.GdnStateIdeal.Facts] [hGdnStateRefIdeal : Cert.GdnStateRefIdeal.Facts] [hPre_finite_gdn : Cert.Pre_finite_gdn.Facts] : Prop :=
  ∀ (m : (ℓ : Loc Cert.GdnStateIdeal.nD Cert.GdnStateIdeal.τ Cert.GdnStateIdeal.sig) → Buf (Elt Ideal) ℓ) (g : Dev Cert.GdnStateIdeal.nD → PrngReg)
    (m' : (ℓ : Loc Cert.GdnStateRefIdeal.nD Cert.GdnStateRefIdeal.τ Cert.GdnStateRefIdeal.sig) → Buf (Elt Ideal) ℓ) (g' : Dev Cert.GdnStateRefIdeal.nD → PrngReg), Pre_GdnStateIdeal_finite_gdn m →
    (∀ c : Dev Cert.GdnStateIdeal.nD,
      m' ((c.tc : Thread Cert.GdnStateRefIdeal.nD Cert.GdnStateRefIdeal.τ).loc Cert.GdnStateRefIdeal.main_arg0) = m ((c.tc : Thread Cert.GdnStateIdeal.nD Cert.GdnStateIdeal.τ).loc Cert.GdnStateIdeal.main_arg0)
      ∧ m' ((c.tc : Thread Cert.GdnStateRefIdeal.nD Cert.GdnStateRefIdeal.τ).loc Cert.GdnStateRefIdeal.main_arg1) = m ((c.tc : Thread Cert.GdnStateIdeal.nD Cert.GdnStateIdeal.τ).loc Cert.GdnStateIdeal.main_arg1)
      ∧ m' ((c.tc : Thread Cert.GdnStateRefIdeal.nD Cert.GdnStateRefIdeal.τ).loc Cert.GdnStateRefIdeal.main_arg2) = m ((c.tc : Thread Cert.GdnStateIdeal.nD Cert.GdnStateIdeal.τ).loc Cert.GdnStateIdeal.main_arg2)
      ∧ m' ((c.tc : Thread Cert.GdnStateRefIdeal.nD Cert.GdnStateRefIdeal.τ).loc Cert.GdnStateRefIdeal.main_arg3) = m ((c.tc : Thread Cert.GdnStateIdeal.nD Cert.GdnStateIdeal.τ).loc Cert.GdnStateIdeal.main_arg3)
      ∧ m' ((c.tc : Thread Cert.GdnStateRefIdeal.nD Cert.GdnStateRefIdeal.τ).loc Cert.GdnStateRefIdeal.main_arg4) = m ((c.tc : Thread Cert.GdnStateIdeal.nD Cert.GdnStateIdeal.τ).loc Cert.GdnStateIdeal.main_arg4)
      ∧ m' ((c.tc : Thread Cert.GdnStateRefIdeal.nD Cert.GdnStateRefIdeal.τ).loc Cert.GdnStateRefIdeal.main_arg5) = m ((c.tc : Thread Cert.GdnStateIdeal.nD Cert.GdnStateIdeal.τ).loc Cert.GdnStateIdeal.main_arg5)
      ∧ m' ((c.tc : Thread Cert.GdnStateRefIdeal.nD Cert.GdnStateRefIdeal.τ).loc Cert.GdnStateRefIdeal.main_arg6) = m ((c.tc : Thread Cert.GdnStateIdeal.nD Cert.GdnStateIdeal.τ).loc Cert.GdnStateIdeal.main_arg6)) →
    ∃ (v0 : (c : Dev Cert.GdnStateIdeal.nD) → Buf (Elt Ideal) ((c.tc : Thread Cert.GdnStateIdeal.nD Cert.GdnStateIdeal.τ).loc Cert.GdnStateIdeal.main_v8_2)),
      θ_run (Cert.GdnStateIdeal.defs (F := Ideal)) (onTc (τ := Cert.GdnStateIdeal.τ) (Cert.GdnStateIdeal.main (F := Ideal))) ⟨m, fun _ => 0, g⟩ (fun r => ∀ c : Dev Cert.GdnStateIdeal.nD,
          r.2.mem ((c.tc : Thread Cert.GdnStateIdeal.nD Cert.GdnStateIdeal.τ).loc Cert.GdnStateIdeal.main_v8_2) = v0 c
          ∧ r.2.mem ((c.tc : Thread Cert.GdnStateIdeal.nD Cert.GdnStateIdeal.τ).loc Cert.GdnStateIdeal.main_arg0) = m ((c.tc : Thread Cert.GdnStateIdeal.nD Cert.GdnStateIdeal.τ).loc Cert.GdnStateIdeal.main_arg0)
          ∧ r.2.mem ((c.tc : Thread Cert.GdnStateIdeal.nD Cert.GdnStateIdeal.τ).loc Cert.GdnStateIdeal.main_arg1) = m ((c.tc : Thread Cert.GdnStateIdeal.nD Cert.GdnStateIdeal.τ).loc Cert.GdnStateIdeal.main_arg1)
          ∧ r.2.mem ((c.tc : Thread Cert.GdnStateIdeal.nD Cert.GdnStateIdeal.τ).loc Cert.GdnStateIdeal.main_arg2) = m ((c.tc : Thread Cert.GdnStateIdeal.nD Cert.GdnStateIdeal.τ).loc Cert.GdnStateIdeal.main_arg2)
          ∧ r.2.mem ((c.tc : Thread Cert.GdnStateIdeal.nD Cert.GdnStateIdeal.τ).loc Cert.GdnStateIdeal.main_arg3) = m ((c.tc : Thread Cert.GdnStateIdeal.nD Cert.GdnStateIdeal.τ).loc Cert.GdnStateIdeal.main_arg3)
          ∧ r.2.mem ((c.tc : Thread Cert.GdnStateIdeal.nD Cert.GdnStateIdeal.τ).loc Cert.GdnStateIdeal.main_arg4) = m ((c.tc : Thread Cert.GdnStateIdeal.nD Cert.GdnStateIdeal.τ).loc Cert.GdnStateIdeal.main_arg4)
          ∧ r.2.mem ((c.tc : Thread Cert.GdnStateIdeal.nD Cert.GdnStateIdeal.τ).loc Cert.GdnStateIdeal.main_arg5) = m ((c.tc : Thread Cert.GdnStateIdeal.nD Cert.GdnStateIdeal.τ).loc Cert.GdnStateIdeal.main_arg5)
          ∧ r.2.mem ((c.tc : Thread Cert.GdnStateIdeal.nD Cert.GdnStateIdeal.τ).loc Cert.GdnStateIdeal.main_arg6) = m ((c.tc : Thread Cert.GdnStateIdeal.nD Cert.GdnStateIdeal.τ).loc Cert.GdnStateIdeal.main_arg6))
      ∧ θ_run (Cert.GdnStateRefIdeal.defs (F := Ideal)) (onTc (τ := Cert.GdnStateRefIdeal.τ) (Cert.GdnStateRefIdeal.main (F := Ideal))) ⟨m', fun _ => 0, g'⟩ (fun r => ∀ c : Dev Cert.GdnStateRefIdeal.nD,
          r.2.mem ((c.tc : Thread Cert.GdnStateRefIdeal.nD Cert.GdnStateRefIdeal.τ).loc Cert.GdnStateRefIdeal.main_v90) = v0 c
          ∧ r.2.mem ((c.tc : Thread Cert.GdnStateRefIdeal.nD Cert.GdnStateRefIdeal.τ).loc Cert.GdnStateRefIdeal.main_arg0) = m' ((c.tc : Thread Cert.GdnStateRefIdeal.nD Cert.GdnStateRefIdeal.τ).loc Cert.GdnStateRefIdeal.main_arg0)
          ∧ r.2.mem ((c.tc : Thread Cert.GdnStateRefIdeal.nD Cert.GdnStateRefIdeal.τ).loc Cert.GdnStateRefIdeal.main_arg1) = m' ((c.tc : Thread Cert.GdnStateRefIdeal.nD Cert.GdnStateRefIdeal.τ).loc Cert.GdnStateRefIdeal.main_arg1)
          ∧ r.2.mem ((c.tc : Thread Cert.GdnStateRefIdeal.nD Cert.GdnStateRefIdeal.τ).loc Cert.GdnStateRefIdeal.main_arg2) = m' ((c.tc : Thread Cert.GdnStateRefIdeal.nD Cert.GdnStateRefIdeal.τ).loc Cert.GdnStateRefIdeal.main_arg2)
          ∧ r.2.mem ((c.tc : Thread Cert.GdnStateRefIdeal.nD Cert.GdnStateRefIdeal.τ).loc Cert.GdnStateRefIdeal.main_arg3) = m' ((c.tc : Thread Cert.GdnStateRefIdeal.nD Cert.GdnStateRefIdeal.τ).loc Cert.GdnStateRefIdeal.main_arg3)
          ∧ r.2.mem ((c.tc : Thread Cert.GdnStateRefIdeal.nD Cert.GdnStateRefIdeal.τ).loc Cert.GdnStateRefIdeal.main_arg4) = m' ((c.tc : Thread Cert.GdnStateRefIdeal.nD Cert.GdnStateRefIdeal.τ).loc Cert.GdnStateRefIdeal.main_arg4)
          ∧ r.2.mem ((c.tc : Thread Cert.GdnStateRefIdeal.nD Cert.GdnStateRefIdeal.τ).loc Cert.GdnStateRefIdeal.main_arg5) = m' ((c.tc : Thread Cert.GdnStateRefIdeal.nD Cert.GdnStateRefIdeal.τ).loc Cert.GdnStateRefIdeal.main_arg5)
          ∧ r.2.mem ((c.tc : Thread Cert.GdnStateRefIdeal.nD Cert.GdnStateRefIdeal.τ).loc Cert.GdnStateRefIdeal.main_arg6) = m' ((c.tc : Thread Cert.GdnStateRefIdeal.nD Cert.GdnStateRefIdeal.τ).loc Cert.GdnStateRefIdeal.main_arg6))

def Claim : Prop :=
  ∃ (hCross : Cert.Cross.Facts) (hCrossIdeal : Cert.CrossIdeal.Facts) (hCrossRefIdeal : Cert.CrossRefIdeal.Facts) (hProj : Cert.Proj.Facts) (hProjIdeal : Cert.ProjIdeal.Facts) (hProjRefIdeal : Cert.ProjRefIdeal.Facts) (hKv : Cert.Kv.Facts) (hKvIdeal : Cert.KvIdeal.Facts) (hKvRefIdeal : Cert.KvRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hLast : Cert.Last.Facts) (hLastIdeal : Cert.LastIdeal.Facts) (hLastRefIdeal : Cert.LastRefIdeal.Facts) (hMlstm : Cert.Mlstm.Facts) (hMlstmIdeal : Cert.MlstmIdeal.Facts) (hMlstmRefIdeal : Cert.MlstmRefIdeal.Facts) (hProjSample : Cert.ProjSample.Facts) (hProjSampleIdeal : Cert.ProjSampleIdeal.Facts) (hProjSampleRefIdeal : Cert.ProjSampleRefIdeal.Facts) (hSsdConv : Cert.SsdConv.Facts) (hSsdConvIdeal : Cert.SsdConvIdeal.Facts) (hSsdConvRefIdeal : Cert.SsdConvRefIdeal.Facts) (hGdnConv : Cert.GdnConv.Facts) (hGdnConvIdeal : Cert.GdnConvIdeal.Facts) (hGdnConvRefIdeal : Cert.GdnConvRefIdeal.Facts) (hMlstmStep : Cert.MlstmStep.Facts) (hMlstmStepIdeal : Cert.MlstmStepIdeal.Facts) (hMlstmStepRefIdeal : Cert.MlstmStepRefIdeal.Facts) (hSsdState : Cert.SsdState.Facts) (hSsdStateIdeal : Cert.SsdStateIdeal.Facts) (hSsdStateRefIdeal : Cert.SsdStateRefIdeal.Facts) (hGdnState : Cert.GdnState.Facts) (hGdnStateIdeal : Cert.GdnStateIdeal.Facts) (hGdnStateRefIdeal : Cert.GdnStateRefIdeal.Facts) (hPre_finite_step : Cert.Pre_finite_step.Facts) (hPre_finite_ssd : Cert.Pre_finite_ssd.Facts) (hPre_finite_gdn : Cert.Pre_finite_gdn.Facts),
    quiescent_Cross (hCross := hCross)
    ∧ quiescent_CrossIdeal (hCrossIdeal := hCrossIdeal)
    ∧ quiescent_CrossRefIdeal (hCrossRefIdeal := hCrossRefIdeal)
    ∧ quiescent_Proj (hProj := hProj)
    ∧ quiescent_ProjIdeal (hProjIdeal := hProjIdeal)
    ∧ quiescent_ProjRefIdeal (hProjRefIdeal := hProjRefIdeal)
    ∧ quiescent_Kv (hKv := hKv)
    ∧ quiescent_KvIdeal (hKvIdeal := hKvIdeal)
    ∧ quiescent_KvRefIdeal (hKvRefIdeal := hKvRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Last (hLast := hLast)
    ∧ quiescent_LastIdeal (hLastIdeal := hLastIdeal)
    ∧ quiescent_LastRefIdeal (hLastRefIdeal := hLastRefIdeal)
    ∧ quiescent_Mlstm (hMlstm := hMlstm)
    ∧ quiescent_MlstmIdeal (hMlstmIdeal := hMlstmIdeal)
    ∧ quiescent_MlstmRefIdeal (hMlstmRefIdeal := hMlstmRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_SsdConv (hSsdConv := hSsdConv)
    ∧ quiescent_SsdConvIdeal (hSsdConvIdeal := hSsdConvIdeal)
    ∧ quiescent_SsdConvRefIdeal (hSsdConvRefIdeal := hSsdConvRefIdeal)
    ∧ quiescent_GdnConv (hGdnConv := hGdnConv)
    ∧ quiescent_GdnConvIdeal (hGdnConvIdeal := hGdnConvIdeal)
    ∧ quiescent_GdnConvRefIdeal (hGdnConvRefIdeal := hGdnConvRefIdeal)
    ∧ quiescent_MlstmStep (hMlstmStep := hMlstmStep)
    ∧ quiescent_MlstmStepIdeal (hMlstmStepIdeal := hMlstmStepIdeal)
    ∧ quiescent_MlstmStepIdeal_pre_finite_step (hMlstmStepIdeal := hMlstmStepIdeal) (hPre_finite_step := hPre_finite_step)
    ∧ quiescent_MlstmStepRefIdeal (hMlstmStepRefIdeal := hMlstmStepRefIdeal)
    ∧ quiescent_MlstmStepRefIdeal_pre_finite_step (hMlstmStepRefIdeal := hMlstmStepRefIdeal) (hPre_finite_step := hPre_finite_step)
    ∧ quiescent_SsdState (hSsdState := hSsdState)
    ∧ quiescent_SsdStateIdeal (hSsdStateIdeal := hSsdStateIdeal)
    ∧ quiescent_SsdStateIdeal_pre_finite_ssd (hSsdStateIdeal := hSsdStateIdeal) (hPre_finite_ssd := hPre_finite_ssd)
    ∧ quiescent_SsdStateRefIdeal (hSsdStateRefIdeal := hSsdStateRefIdeal)
    ∧ quiescent_SsdStateRefIdeal_pre_finite_ssd (hSsdStateRefIdeal := hSsdStateRefIdeal) (hPre_finite_ssd := hPre_finite_ssd)
    ∧ quiescent_GdnState (hGdnState := hGdnState)
    ∧ quiescent_GdnStateIdeal (hGdnStateIdeal := hGdnStateIdeal)
    ∧ quiescent_GdnStateIdeal_pre_finite_gdn (hGdnStateIdeal := hGdnStateIdeal) (hPre_finite_gdn := hPre_finite_gdn)
    ∧ quiescent_GdnStateRefIdeal (hGdnStateRefIdeal := hGdnStateRefIdeal)
    ∧ quiescent_GdnStateRefIdeal_pre_finite_gdn (hGdnStateRefIdeal := hGdnStateRefIdeal) (hPre_finite_gdn := hPre_finite_gdn)
    ∧ preserves_Cross_CrossIdeal
    ∧ algebraic_CrossIdeal_CrossRefIdeal (hCrossIdeal := hCrossIdeal) (hCrossRefIdeal := hCrossRefIdeal)
    ∧ preserves_Proj_ProjIdeal
    ∧ algebraic_ProjIdeal_ProjRefIdeal (hProjIdeal := hProjIdeal) (hProjRefIdeal := hProjRefIdeal)
    ∧ preserves_Kv_KvIdeal
    ∧ algebraic_KvIdeal_KvRefIdeal (hKvIdeal := hKvIdeal) (hKvRefIdeal := hKvRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Last_LastIdeal
    ∧ algebraic_LastIdeal_LastRefIdeal (hLastIdeal := hLastIdeal) (hLastRefIdeal := hLastRefIdeal)
    ∧ preserves_Mlstm_MlstmIdeal
    ∧ algebraic_MlstmIdeal_MlstmRefIdeal (hMlstmIdeal := hMlstmIdeal) (hMlstmRefIdeal := hMlstmRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_SsdConv_SsdConvIdeal
    ∧ algebraic_SsdConvIdeal_SsdConvRefIdeal (hSsdConvIdeal := hSsdConvIdeal) (hSsdConvRefIdeal := hSsdConvRefIdeal)
    ∧ preserves_GdnConv_GdnConvIdeal
    ∧ algebraic_GdnConvIdeal_GdnConvRefIdeal (hGdnConvIdeal := hGdnConvIdeal) (hGdnConvRefIdeal := hGdnConvRefIdeal)
    ∧ preserves_MlstmStep_MlstmStepIdeal
    ∧ algebraic_MlstmStepIdeal_MlstmStepRefIdeal_pre_finite_step (hMlstmStepIdeal := hMlstmStepIdeal) (hMlstmStepRefIdeal := hMlstmStepRefIdeal) (hPre_finite_step := hPre_finite_step)
    ∧ preserves_SsdState_SsdStateIdeal
    ∧ algebraic_SsdStateIdeal_SsdStateRefIdeal_pre_finite_ssd (hSsdStateIdeal := hSsdStateIdeal) (hSsdStateRefIdeal := hSsdStateRefIdeal) (hPre_finite_ssd := hPre_finite_ssd)
    ∧ preserves_GdnState_GdnStateIdeal
    ∧ algebraic_GdnStateIdeal_GdnStateRefIdeal_pre_finite_gdn (hGdnStateIdeal := hGdnStateIdeal) (hGdnStateRefIdeal := hGdnStateRefIdeal) (hPre_finite_gdn := hPre_finite_gdn)
-- ==== Pre_finite_gdn.lean ====
abbrev S128x11520 : Shape := ⟨2, ![128, 11520]⟩
abbrev S4x128x3x1536 : Shape := ⟨4, ![4, 128, 3, 1536]⟩
abbrev S4x128x4x128x128 : Shape := ⟨5, ![4, 128, 4, 128, 128]⟩
abbrev S4x1536 : Shape := ⟨2, ![4, 1536]⟩
abbrev S4 : Shape := ⟨1, ![4]⟩
abbrev S128 : Shape := ⟨1, ![128]⟩
abbrev S1x128x3x1536 : Shape := ⟨4, ![1, 128, 3, 1536]⟩
abbrev S128x3x1536 : Shape := ⟨3, ![128, 3, 1536]⟩
abbrev S128x1536 : Shape := ⟨2, ![128, 1536]⟩
abbrev S128x1x1536 : Shape := ⟨3, ![128, 1, 1536]⟩
abbrev S128x4x1536 : Shape := ⟨3, ![128, 4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S128x4 : Shape := ⟨2, ![128, 4]⟩
abbrev S1x4 : Shape := ⟨2, ![1, 4]⟩
abbrev S1x128x4x128x128 : Shape := ⟨5, ![1, 128, 4, 128, 128]⟩
abbrev S128x4x128x128 : Shape := ⟨4, ![128, 4, 128, 128]⟩
abbrev S128x65536 : Shape := ⟨2, ![128, 65536]⟩
abbrev S128x1x512 : Shape := ⟨3, ![128, 1, 512]⟩
abbrev S128x512 : Shape := ⟨2, ![128, 512]⟩
abbrev S128x66056 : Shape := ⟨2, ![128, 66056]⟩

class Facts : Prop where
  slices_S4x128x3x1536_S1x128x3x1536_0_0_0_0 : S4x128x3x1536.Slices ![0, 0, 0, 0] S1x128x3x1536
  shapeCasts_S1x128x3x1536_S128x3x1536 : S1x128x3x1536.ShapeCasts S128x3x1536
  slices_S128x11520_S128x1536_0_3072 : S128x11520.Slices ![0, 3072] S128x1536
  bcast_S128x1536_S128x1x1536_0_2 : S128x1536.BroadcastsInDim S128x1x1536 (![0, 2] : Fin 2 → Fin S128x1x1536.rank)
  concatenates_S128x3x1536_S128x1x1536_S128x4x1536_d1 : Shape.Concatenates [S128x3x1536, S128x1x1536] S128x4x1536 1
  slices_S128x4x1536_S128x1x1536_0_0_0 : S128x4x1536.Slices ![0, 0, 0] S128x1x1536
  slices_S4x1536_S1x1536_0_0 : S4x1536.Slices ![0, 0] S1x1536
  shapeCasts_S1x1536_S1536 : S1x1536.ShapeCasts S1536
  bcast_S1536_S1x1x1536_2 : S1536.BroadcastsInDim S1x1x1536 (![2] : Fin 1 → Fin S1x1x1536.rank)
  bcast_S1x1x1536_S128x1x1536_0_1_2 : S1x1x1536.BroadcastsInDim S128x1x1536 (![0, 1, 2] : Fin 3 → Fin S128x1x1536.rank)
  bcast_S_S128x1x1536 : S_.BroadcastsInDim S128x1x1536 (![] : Fin 0 → Fin S128x1x1536.rank)
  slices_S128x4x1536_S128x1x1536_0_1_0 : S128x4x1536.Slices ![0, 1, 0] S128x1x1536
  slices_S4x1536_S1x1536_1_0 : S4x1536.Slices ![1, 0] S1x1536
  slices_S128x4x1536_S128x1x1536_0_2_0 : S128x4x1536.Slices ![0, 2, 0] S128x1x1536
  slices_S4x1536_S1x1536_2_0 : S4x1536.Slices ![2, 0] S1x1536
  slices_S128x4x1536_S128x1x1536_0_3_0 : S128x4x1536.Slices ![0, 3, 0] S128x1x1536
  slices_S4x1536_S1x1536_3_0 : S4x1536.Slices ![3, 0] S1x1536
  slices_S128x11520_S128x4_0_11272 : S128x11520.Slices ![0, 11272] S128x4
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  slices_S4x128x4x128x128_S1x128x4x128x128_0_0_0_0_0 : S4x128x4x128x128.Slices ![0, 0, 0, 0, 0] S1x128x4x128x128
  shapeCasts_S1x128x4x128x128_S128x4x128x128 : S1x128x4x128x128.ShapeCasts S128x4x128x128
  shapeCasts_S128x4x128x128_S128x65536 : S128x4x128x128.ShapeCasts S128x65536
  slices_S128x1x1536_S128x1x512_0_0_1024 : S128x1x1536.Slices ![0, 0, 1024] S128x1x512
  shapeCasts_S128x1x512_S128x512 : S128x1x512.ShapeCasts S128x512
  bcast_S4_S128x4_1 : S4.BroadcastsInDim S128x4 (![1] : Fin 1 → Fin S128x4.rank)
  concatenates_S128x512_S128x4_S128x4_S128x65536_S128x66056_d1 : Shape.Concatenates [S128x512, S128x4, S128x4, S128x65536] S128x66056 1
  bcast_S_S128x66056 : S_.BroadcastsInDim S128x66056 (![] : Fin 0 → Fin S128x66056.rank)

variable [Facts]

def fn_part2 {F : FTy → Type} [FloatOps F] (main_v45 : FVec F S128x66056 .f32) (main_cst_0 : FVec F S_ .f32) : IVec S128x66056 1 :=
  let main_v46 : FVec F S128x66056 .f32 := broadcastInDim S128x66056 ![] bcast_S_S128x66056 main_cst_0
  let main_v47 : IVec S128x66056 1 := cmpf .olt main_v45 main_v46
  main_v47

def fn_part1 {F : FTy → Type} [FloatOps F] (main_arg0 : FVec F S128x11520 .f32) (main_arg2 : FVec F S4x128x4x128x128 .f32) (main_arg3 : FVec F S4x1536 .f32) (main_arg4 : FVec F S4 .f32) (main_arg5 : FVec F S4 .f32) (main_v4 : FVec F S128x4x1536 .f32) (main_v19 : FVec F S128x1x1536 .f32) (main_v20 : FVec F S128x1x1536 .f32) (main_v22 : FVec F S1536 .f32) : IVec S128x66056 1 :=
  let main_v23 : FVec F S1x1x1536 .f32 := broadcastInDim S1x1x1536 ![2] bcast_S1536_S1x1x1536_2 main_v22
  let main_v24 : FVec F S128x1x1536 .f32 := broadcastInDim S128x1x1536 ![0, 1, 2] bcast_S1x1x1536_S128x1x1536_0_1_2 main_v23
  let main_v25 : FVec F S128x1x1536 .f32 := mulf main_v20 main_v24
  let main_v26 : FVec F S128x1x1536 .f32 := addf main_v19 main_v25
  let main_v27 : FVec F S128x1x1536 .f32 := (extractStridedSlice S128x1x1536 ![0, 3, 0] · slices_S128x4x1536_S128x1x1536_0_3_0) main_v4
  let main_v28 : FVec F S1x1536 .f32 := (extractStridedSlice S1x1536 ![3, 0] · slices_S4x1536_S1x1536_3_0) main_arg3
  let main_v29 : FVec F S1536 .f32 := shapeCast S1536 main_v28 shapeCasts_S1x1536_S1536
  let main_v30 : FVec F S1x1x1536 .f32 := broadcastInDim S1x1x1536 ![2] bcast_S1536_S1x1x1536_2 main_v29
  let main_v31 : FVec F S128x1x1536 .f32 := broadcastInDim S128x1x1536 ![0, 1, 2] bcast_S1x1x1536_S128x1x1536_0_1_2 main_v30
  let main_v32 : FVec F S128x1x1536 .f32 := mulf main_v27 main_v31
  let main_v33 : FVec F S128x1x1536 .f32 := addf main_v26 main_v32
  let main_v34 : FVec F S128x4 .f32 := (extractStridedSlice S128x4 ![0, 11272] · slices_S128x11520_S128x4_0_11272) main_arg0
  let main_v35 : FVec F S1x4 .f32 := broadcastInDim S1x4 ![1] bcast_S4_S1x4_1 main_arg4
  let main_v36 : FVec F S128x4 .f32 := broadcastInDim S128x4 ![0, 1] bcast_S1x4_S128x4_0_1 main_v35
  let main_v37 : FVec F S128x4 .f32 := addf main_v34 main_v36
  let main_v38 : FVec F S1x128x4x128x128 .f32 := (extractStridedSlice S1x128x4x128x128 ![0, 0, 0, 0, 0] · slices_S4x128x4x128x128_S1x128x4x128x128_0_0_0_0_0) main_arg2
  let main_v39 : FVec F S128x4x128x128 .f32 := shapeCast S128x4x128x128 main_v38 shapeCasts_S1x128x4x128x128_S128x4x128x128
  let main_v40 : FVec F S128x4x128x128 .f32 := Host.absf main_v39
  let main_v41 : FVec F S128x65536 .f32 := shapeCast S128x65536 main_v40 shapeCasts_S128x4x128x128_S128x65536
  let main_v42 : FVec F S128x1x512 .f32 := (extractStridedSlice S128x1x512 ![0, 0, 1024] · slices_S128x1x1536_S128x1x512_0_0_1024) main_v33
  let main_v43 : FVec F S128x512 .f32 := shapeCast S128x512 main_v42 shapeCasts_S128x1x512_S128x512
  let main_v44 : FVec F S128x4 .f32 := broadcastInDim S128x4 ![1] bcast_S4_S128x4_1 main_arg5
  let main_v45 : FVec F S128x66056 .f32 := concatenate S128x66056 1 [⟨S128x512, main_v43⟩, ⟨S128x4, main_v37⟩, ⟨S128x4, main_v44⟩, ⟨S128x65536, main_v41⟩] concatenates_S128x512_S128x4_S128x4_S128x65536_S128x66056_d1
  let main_cst_0 : FVec F S_ .f32 := constant S_ .f32 0x7F800000#32
  fn_part2 (F := F) main_v45 main_cst_0

def fn {F : FTy → Type} [FloatOps F] (main_arg0 : FVec F S128x11520 .f32) (main_arg1 : FVec F S4x128x3x1536 .f32) (main_arg2 : FVec F S4x128x4x128x128 .f32) (main_arg3 : FVec F S4x1536 .f32) (main_arg4 : FVec F S4 .f32) (main_arg5 : FVec F S4 .f32) (main_arg6 : FVec F S128 .f32) : IVec S128x66056 1 :=
  let main_v0 : FVec F S1x128x3x1536 .f32 := (extractStridedSlice S1x128x3x1536 ![0, 0, 0, 0] · slices_S4x128x3x1536_S1x128x3x1536_0_0_0_0) main_arg1
  let main_v1 : FVec F S128x3x1536 .f32 := shapeCast S128x3x1536 main_v0 shapeCasts_S1x128x3x1536_S128x3x1536
  let main_v2 : FVec F S128x1536 .f32 := (extractStridedSlice S128x1536 ![0, 3072] · slices_S128x11520_S128x1536_0_3072) main_arg0
  let main_v3 : FVec F S128x1x1536 .f32 := broadcastInDim S128x1x1536 ![0, 2] bcast_S128x1536_S128x1x1536_0_2 main_v2
  let main_v4 : FVec F S128x4x1536 .f32 := (fun a b => concatenate S128x4x1536 1 [⟨S128x3x1536, a⟩, ⟨S128x1x1536, b⟩] concatenates_S128x3x1536_S128x1x1536_S128x4x1536_d1) main_v1 main_v3
  let main_v5 : FVec F S128x1x1536 .f32 := (extractStridedSlice S128x1x1536 ![0, 0, 0] · slices_S128x4x1536_S128x1x1536_0_0_0) main_v4
  let main_v6 : FVec F S1x1536 .f32 := (extractStridedSlice S1x1536 ![0, 0] · slices_S4x1536_S1x1536_0_0) main_arg3
  let main_v7 : FVec F S1536 .f32 := shapeCast S1536 main_v6 shapeCasts_S1x1536_S1536
  let main_v8 : FVec F S1x1x1536 .f32 := broadcastInDim S1x1x1536 ![2] bcast_S1536_S1x1x1536_2 main_v7
  let main_v9 : FVec F S128x1x1536 .f32 := broadcastInDim S128x1x1536 ![0, 1, 2] bcast_S1x1x1536_S128x1x1536_0_1_2 main_v8
  let main_v10 : FVec F S128x1x1536 .f32 := mulf main_v5 main_v9
  let main_cst : FVec F S_ .f32 := constant S_ .f32 0x00000000#32
  let main_v11 : FVec F S128x1x1536 .f32 := broadcastInDim S128x1x1536 ![] bcast_S_S128x1x1536 main_cst
  let main_v12 : FVec F S128x1x1536 .f32 := addf main_v11 main_v10
  let main_v13 : FVec F S128x1x1536 .f32 := (extractStridedSlice S128x1x1536 ![0, 1, 0] · slices_S128x4x1536_S128x1x1536_0_1_0) main_v4
  let main_v14 : FVec F S1x1536 .f32 := (extractStridedSlice S1x1536 ![1, 0] · slices_S4x1536_S1x1536_1_0) main_arg3
  let main_v15 : FVec F S1536 .f32 := shapeCast S1536 main_v14 shapeCasts_S1x1536_S1536
  let main_v16 : FVec F S1x1x1536 .f32 := broadcastInDim S1x1x1536 ![2] bcast_S1536_S1x1x1536_2 main_v15
  let main_v17 : FVec F S128x1x1536 .f32 := broadcastInDim S128x1x1536 ![0, 1, 2] bcast_S1x1x1536_S128x1x1536_0_1_2 main_v16
  let main_v18 : FVec F S128x1x1536 .f32 := mulf main_v13 main_v17
  let main_v19 : FVec F S128x1x1536 .f32 := addf main_v12 main_v18
  let main_v20 : FVec F S128x1x1536 .f32 := (extractStridedSlice S128x1x1536 ![0, 2, 0] · slices_S128x4x1536_S128x1x1536_0_2_0) main_v4
  let main_v21 : FVec F S1x1536 .f32 := (extractStridedSlice S1x1536 ![2, 0] · slices_S4x1536_S1x1536_2_0) main_arg3
  let main_v22 : FVec F S1536 .f32 := shapeCast S1536 main_v21 shapeCasts_S1x1536_S1536
  fn_part1 (F := F) main_arg0 main_arg2 main_arg3 main_arg4 main_arg5 main_v4 main_v19 main_v20 main_v22
-- ==== Pre_finite_ssd.lean ====
abbrev S128x11520 : Shape := ⟨2, ![128, 11520]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x128x3x1024 : Shape := ⟨4, ![1, 128, 3, 1024]⟩
abbrev S128x3x1024 : Shape := ⟨3, ![128, 3, 1024]⟩
abbrev S128x1024 : Shape := ⟨2, ![128, 1024]⟩
abbrev S128x1x1024 : Shape := ⟨3, ![128, 1, 1024]⟩
abbrev S128x4x1024 : Shape := ⟨3, ![128, 4, 1024]⟩
abbrev S1x1024 : Shape := ⟨2, ![1, 1024]⟩
abbrev S1x1x1024 : Shape := ⟨3, ![1, 1, 1024]⟩
abbrev S_ : Shape := ⟨0, ![]⟩
abbrev S128x8 : Shape := ⟨2, ![128, 8]⟩
abbrev S1x8 : Shape := ⟨2, ![1, 8]⟩
abbrev S128x1x768 : Shape := ⟨3, ![128, 1, 768]⟩
abbrev S128x768 : Shape := ⟨2, ![128, 768]⟩
abbrev S128x784 : Shape := ⟨2, ![128, 784]⟩

class Facts : Prop where
  slices_S4x128x3x1024_S1x128x3x1024_0_0_0_0 : S4x128x3x1024.Slices ![0, 0, 0, 0] S1x128x3x1024
  shapeCasts_S1x128x3x1024_S128x3x1024 : S1x128x3x1024.ShapeCasts S128x3x1024
  slices_S128x11520_S128x1024_0_2048 : S128x11520.Slices ![0, 2048] S128x1024
  bcast_S128x1024_S128x1x1024_0_2 : S128x1024.BroadcastsInDim S128x1x1024 (![0, 2] : Fin 2 → Fin S128x1x1024.rank)
  concatenates_S128x3x1024_S128x1x1024_S128x4x1024_d1 : Shape.Concatenates [S128x3x1024, S128x1x1024] S128x4x1024 1
  slices_S128x4x1024_S128x1x1024_0_0_0 : S128x4x1024.Slices ![0, 0, 0] S128x1x1024
  slices_S4x1024_S1x1024_0_0 : S4x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S128x1x1024_0_1_2 : S1x1x1024.BroadcastsInDim S128x1x1024 (![0, 1, 2] : Fin 3 → Fin S128x1x1024.rank)
  bcast_S_S128x1x1024 : S_.BroadcastsInDim S128x1x1024 (![] : Fin 0 → Fin S128x1x1024.rank)
  slices_S128x4x1024_S128x1x1024_0_1_0 : S128x4x1024.Slices ![0, 1, 0] S128x1x1024
  slices_S4x1024_S1x1024_1_0 : S4x1024.Slices ![1, 0] S1x1024
  slices_S128x4x1024_S128x1x1024_0_2_0 : S128x4x1024.Slices ![0, 2, 0] S128x1x1024
  slices_S4x1024_S1x1024_2_0 : S4x1024.Slices ![2, 0] S1x1024
  slices_S128x4x1024_S128x1x1024_0_3_0 : S128x4x1024.Slices ![0, 3, 0] S128x1x1024
  slices_S4x1024_S1x1024_3_0 : S4x1024.Slices ![3, 0] S1x1024
  slices_S128x11520_S128x8_0_11264 : S128x11520.Slices ![0, 11264] S128x8
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  slices_S128x1x1024_S128x1x768_0_0_0 : S128x1x1024.Slices ![0, 0, 0] S128x1x768
  shapeCasts_S128x1x768_S128x768 : S128x1x768.ShapeCasts S128x768
  bcast_S8_S128x8_1 : S8.BroadcastsInDim S128x8 (![1] : Fin 1 → Fin S128x8.rank)
  concatenates_S128x768_S128x8_S128x8_S128x784_d1 : Shape.Concatenates [S128x768, S128x8, S128x8] S128x784 1
  bcast_S_S128x784 : S_.BroadcastsInDim S128x784 (![] : Fin 0 → Fin S128x784.rank)

variable [Facts]

def fn_part2 {F : FTy → Type} [FloatOps F] (main_v44 : FVec F S128x784 .f32) (main_v45 : FVec F S128x784 .f32) : IVec S128x784 1 :=
  let main_v46 : IVec S128x784 1 := cmpf .olt main_v44 main_v45
  main_v46

def fn_part1 {F : FTy → Type} [FloatOps F] (main_arg0 : FVec F S128x11520 .f32) (main_arg3 : FVec F S4x1024 .f32) (main_arg4 : FVec F S1024 .f32) (main_arg5 : FVec F S8 .f32) (main_arg6 : FVec F S8 .f32) (main_v4 : FVec F S128x4x1024 .f32) (main_v19 : FVec F S128x1x1024 .f32) (main_v20 : FVec F S128x1x1024 .f32) (main_v22 : FVec F S1024 .f32) : IVec S128x784 1 :=
  let main_v23 : FVec F S1x1x1024 .f32 := broadcastInDim S1x1x1024 ![2] bcast_S1024_S1x1x1024_2 main_v22
  let main_v24 : FVec F S128x1x1024 .f32 := broadcastInDim S128x1x1024 ![0, 1, 2] bcast_S1x1x1024_S128x1x1024_0_1_2 main_v23
  let main_v25 : FVec F S128x1x1024 .f32 := mulf main_v20 main_v24
  let main_v26 : FVec F S128x1x1024 .f32 := addf main_v19 main_v25
  let main_v27 : FVec F S128x1x1024 .f32 := (extractStridedSlice S128x1x1024 ![0, 3, 0] · slices_S128x4x1024_S128x1x1024_0_3_0) main_v4
  let main_v28 : FVec F S1x1024 .f32 := (extractStridedSlice S1x1024 ![3, 0] · slices_S4x1024_S1x1024_3_0) main_arg3
  let main_v29 : FVec F S1024 .f32 := shapeCast S1024 main_v28 shapeCasts_S1x1024_S1024
  let main_v30 : FVec F S1x1x1024 .f32 := broadcastInDim S1x1x1024 ![2] bcast_S1024_S1x1x1024_2 main_v29
  let main_v31 : FVec F S128x1x1024 .f32 := broadcastInDim S128x1x1024 ![0, 1, 2] bcast_S1x1x1024_S128x1x1024_0_1_2 main_v30
  let main_v32 : FVec F S128x1x1024 .f32 := mulf main_v27 main_v31
  let main_v33 : FVec F S128x1x1024 .f32 := addf main_v26 main_v32
  let main_v34 : FVec F S1x1x1024 .f32 := broadcastInDim S1x1x1024 ![2] bcast_S1024_S1x1x1024_2 main_arg4
  let main_v35 : FVec F S128x1x1024 .f32 := broadcastInDim S128x1x1024 ![0, 1, 2] bcast_S1x1x1024_S128x1x1024_0_1_2 main_v34
  let main_v36 : FVec F S128x1x1024 .f32 := addf main_v33 main_v35
  let main_v37 : FVec F S128x8 .f32 := (extractStridedSlice S128x8 ![0, 11264] · slices_S128x11520_S128x8_0_11264) main_arg0
  let main_v38 : FVec F S1x8 .f32 := broadcastInDim S1x8 ![1] bcast_S8_S1x8_1 main_arg5
  let main_v39 : FVec F S128x8 .f32 := broadcastInDim S128x8 ![0, 1] bcast_S1x8_S128x8_0_1 main_v38
  let main_v40 : FVec F S128x8 .f32 := addf main_v37 main_v39
  let main_v41 : FVec F S128x1x768 .f32 := (extractStridedSlice S128x1x768 ![0, 0, 0] · slices_S128x1x1024_S128x1x768_0_0_0) main_v36
  let main_v42 : FVec F S128x768 .f32 := shapeCast S128x768 main_v41 shapeCasts_S128x1x768_S128x768
  let main_v43 : FVec F S128x8 .f32 := broadcastInDim S128x8 ![1] bcast_S8_S128x8_1 main_arg6
  let main_v44 : FVec F S128x784 .f32 := concatenate S128x784 1 [⟨S128x768, main_v42⟩, ⟨S128x8, main_v40⟩, ⟨S128x8, main_v43⟩] concatenates_S128x768_S128x8_S128x8_S128x784_d1
  let main_cst_0 : FVec F S_ .f32 := constant S_ .f32 0x7F800000#32
  let main_v45 : FVec F S128x784 .f32 := broadcastInDim S128x784 ![] bcast_S_S128x784 main_cst_0
  fn_part2 (F := F) main_v44 main_v45

def fn {F : FTy → Type} [FloatOps F] (main_arg0 : FVec F S128x11520 .f32) (main_arg1 : FVec F S4x128x3x1024 .f32) (main_arg2 : FVec F S4x128x8x64x128 .f32) (main_arg3 : FVec F S4x1024 .f32) (main_arg4 : FVec F S1024 .f32) (main_arg5 : FVec F S8 .f32) (main_arg6 : FVec F S8 .f32) (main_arg7 : FVec F S8 .f32) (main_arg8 : FVec F S512 .f32) : IVec S128x784 1 :=
  let main_v0 : FVec F S1x128x3x1024 .f32 := (extractStridedSlice S1x128x3x1024 ![0, 0, 0, 0] · slices_S4x128x3x1024_S1x128x3x1024_0_0_0_0) main_arg1
  let main_v1 : FVec F S128x3x1024 .f32 := shapeCast S128x3x1024 main_v0 shapeCasts_S1x128x3x1024_S128x3x1024
  let main_v2 : FVec F S128x1024 .f32 := (extractStridedSlice S128x1024 ![0, 2048] · slices_S128x11520_S128x1024_0_2048) main_arg0
  let main_v3 : FVec F S128x1x1024 .f32 := broadcastInDim S128x1x1024 ![0, 2] bcast_S128x1024_S128x1x1024_0_2 main_v2
  let main_v4 : FVec F S128x4x1024 .f32 := (fun a b => concatenate S128x4x1024 1 [⟨S128x3x1024, a⟩, ⟨S128x1x1024, b⟩] concatenates_S128x3x1024_S128x1x1024_S128x4x1024_d1) main_v1 main_v3
  let main_v5 : FVec F S128x1x1024 .f32 := (extractStridedSlice S128x1x1024 ![0, 0, 0] · slices_S128x4x1024_S128x1x1024_0_0_0) main_v4
  let main_v6 : FVec F S1x1024 .f32 := (extractStridedSlice S1x1024 ![0, 0] · slices_S4x1024_S1x1024_0_0) main_arg3
  let main_v7 : FVec F S1024 .f32 := shapeCast S1024 main_v6 shapeCasts_S1x1024_S1024
  let main_v8 : FVec F S1x1x1024 .f32 := broadcastInDim S1x1x1024 ![2] bcast_S1024_S1x1x1024_2 main_v7
  let main_v9 : FVec F S128x1x1024 .f32 := broadcastInDim S128x1x1024 ![0, 1, 2] bcast_S1x1x1024_S128x1x1024_0_1_2 main_v8
  let main_v10 : FVec F S128x1x1024 .f32 := mulf main_v5 main_v9
  let main_cst : FVec F S_ .f32 := constant S_ .f32 0x00000000#32
  let main_v11 : FVec F S128x1x1024 .f32 := broadcastInDim S128x1x1024 ![] bcast_S_S128x1x1024 main_cst
  let main_v12 : FVec F S128x1x1024 .f32 := addf main_v11 main_v10
  let main_v13 : FVec F S128x1x1024 .f32 := (extractStridedSlice S128x1x1024 ![0, 1, 0] · slices_S128x4x1024_S128x1x1024_0_1_0) main_v4
  let main_v14 : FVec F S1x1024 .f32 := (extractStridedSlice S1x1024 ![1, 0] · slices_S4x1024_S1x1024_1_0) main_arg3
  let main_v15 : FVec F S1024 .f32 := shapeCast S1024 main_v14 shapeCasts_S1x1024_S1024
  let main_v16 : FVec F S1x1x1024 .f32 := broadcastInDim S1x1x1024 ![2] bcast_S1024_S1x1x1024_2 main_v15
  let main_v17 : FVec F S128x1x1024 .f32 := broadcastInDim S128x1x1024 ![0, 1, 2] bcast_S1x1x1024_S128x1x1024_0_1_2 main_v16
  let main_v18 : FVec F S128x1x1024 .f32 := mulf main_v13 main_v17
  let main_v19 : FVec F S128x1x1024 .f32 := addf main_v12 main_v18
  let main_v20 : FVec F S128x1x1024 .f32 := (extractStridedSlice S128x1x1024 ![0, 2, 0] · slices_S128x4x1024_S128x1x1024_0_2_0) main_v4
  let main_v21 : FVec F S1x1024 .f32 := (extractStridedSlice S1x1024 ![2, 0] · slices_S4x1024_S1x1024_2_0) main_arg3
  let main_v22 : FVec F S1024 .f32 := shapeCast S1024 main_v21 shapeCasts_S1x1024_S1024
  fn_part1 (F := F) main_arg0 main_arg3 main_arg4 main_arg5 main_arg6 main_v4 main_v19 main_v20 main_v22
-- ==== Pre_finite_step.lean ====
abbrev S128x11520 : Shape := ⟨2, ![128, 11520]⟩
abbrev S4x128x4x128x128 : Shape := ⟨5, ![4, 128, 4, 128, 128]⟩
abbrev S4x128x4x128 : Shape := ⟨4, ![4, 128, 4, 128]⟩
abbrev S4x128x4 : Shape := ⟨3, ![4, 128, 4]⟩
abbrev S4 : Shape := ⟨1, ![4]⟩
abbrev S128 : Shape := ⟨1, ![128]⟩
abbrev S128x4 : Shape := ⟨2, ![128, 4]⟩
abbrev S1x4 : Shape := ⟨2, ![1, 4]⟩
abbrev S128x1024 : Shape := ⟨2, ![128, 1024]⟩
abbrev S128x1028 : Shape := ⟨2, ![128, 1028]⟩
abbrev S_ : Shape := ⟨0, ![]⟩

class Facts : Prop where
  slices_S128x11520_S128x4_0_11284 : S128x11520.Slices ![0, 11284] S128x4
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  slices_S128x11520_S128x1024_0_5632 : S128x11520.Slices ![0, 5632] S128x1024
  concatenates_S128x1024_S128x4_S128x1028_d1 : Shape.Concatenates [S128x1024, S128x4] S128x1028 1
  bcast_S_S128x1028 : S_.BroadcastsInDim S128x1028 (![] : Fin 0 → Fin S128x1028.rank)

variable [Facts]

def fn {F : FTy → Type} [FloatOps F] (main_arg0 : FVec F S128x11520 .f32) (main_arg1 : FVec F S4x128x4x128x128 .f32) (main_arg2 : FVec F S4x128x4x128 .f32) (main_arg3 : FVec F S4x128x4 .f32) (main_arg4 : FVec F S4 .f32) (main_arg5 : FVec F S4 .f32) (main_arg6 : FVec F S128 .f32) : IVec S128x1028 1 :=
  let main_v0 : FVec F S128x4 .f32 := (extractStridedSlice S128x4 ![0, 11284] · slices_S128x11520_S128x4_0_11284) main_arg0
  let main_v1 : FVec F S1x4 .f32 := broadcastInDim S1x4 ![1] bcast_S4_S1x4_1 main_arg5
  let main_v2 : FVec F S128x4 .f32 := broadcastInDim S128x4 ![0, 1] bcast_S1x4_S128x4_0_1 main_v1
  let main_v3 : FVec F S128x4 .f32 := addf main_v0 main_v2
  let main_v4 : FVec F S128x1024 .f32 := (extractStridedSlice S128x1024 ![0, 5632] · slices_S128x11520_S128x1024_0_5632) main_arg0
  let main_v5 : FVec F S128x1024 .f32 := Host.absf main_v4
  let main_v6 : FVec F S128x1024 .f32 := Host.negf main_v5
  let main_v7 : FVec F S128x1028 .f32 := (fun a b => concatenate S128x1028 1 [⟨S128x1024, a⟩, ⟨S128x4, b⟩] concatenates_S128x1024_S128x4_S128x1028_d1) main_v6 main_v3
  let main_cst : FVec F S_ .f32 := constant S_ .f32 0xFF800000#32
  let main_v8 : FVec F S128x1028 .f32 := broadcastInDim S128x1028 ![] bcast_S_S128x1028 main_cst
  let main_v9 : IVec S128x1028 1 := cmpf .ogt main_v7 main_v8
  main_v9
-- ==== Cross.lean ====
abbrev S8x2048x1024 : Shape := ⟨3, ![8, 2048, 1024]⟩
abbrev S1024 : Shape := ⟨1, ![1024]⟩
abbrev S8x256x2048 : Shape := ⟨3, ![8, 256, 2048]⟩
abbrev S1024x1024 : Shape := ⟨2, ![1024, 1024]⟩
abbrev S16384x1024 : Shape := ⟨2, ![16384, 1024]⟩
abbrev S2048x2048 : Shape := ⟨2, ![2048, 2048]⟩
abbrev S1x1024 : Shape := ⟨2, ![1, 1024]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x256x2048, .f32⟩
  | .hbm, ⟨3, _⟩ => ⟨S1024x1024, .f32⟩
  | .hbm, ⟨4, _⟩ => ⟨S1024x1024, .f32⟩
  | .hbm, ⟨5, _⟩ => ⟨S16384x1024, .f32⟩
  | .hbm, ⟨6, _⟩ => ⟨S2048x2048, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossRefIdeal.lean ====
abbrev S8x2048x1024 : Shape := ⟨3, ![8, 2048, 1024]⟩
abbrev S1024 : Shape := ⟨1, ![1024]⟩
abbrev S8x256x2048 : Shape := ⟨3, ![8, 256, 2048]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S16384x1024 : Shape := ⟨2, ![16384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x256x2048, .f32⟩
  | .hbm, ⟨3, _⟩ => ⟨S1024x1024, .f32⟩
  | .hbm, ⟨4, _⟩ => ⟨S1024x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x256x2x4x256, .f32⟩
  | .hbm, ⟨22, _⟩ => ⟨S8x256x1x4x256, .f32⟩
  | .hbm, ⟨23, _⟩ => ⟨S8x256x4x256, .f32⟩
  | .hbm, ⟨24, _⟩ => ⟨S8x256x1x4x256, .f32⟩
  | .hbm, ⟨25, _⟩ => ⟨S8x256x4x256, .f32⟩
  | .hbm, ⟨26, _⟩ => ⟨S8x2048x1024, .f32⟩
  | .hbm, ⟨27, _⟩ => ⟨S8x2048x4x256, .f32⟩
  | .hbm, ⟨28, _⟩ => ⟨S8x4x2048x256, .f32⟩
  | .hbm, ⟨29, _⟩ => ⟨S_, .f32⟩
  | .hbm, ⟨30, _⟩ => ⟨S8x4x2048x256, .f32⟩
  | .hbm, ⟨31, _⟩ => ⟨S8x4x2048x256, .f32⟩
  | .hbm, ⟨32, _⟩ => ⟨S_, .f32⟩
  | .hbm, ⟨33, _⟩ => ⟨S8x4x2048, .f32⟩
  | .hbm, ⟨34, _⟩ => ⟨S_, .f32⟩
  | .hbm, ⟨35, _⟩ => ⟨S8x4x2048, .f32⟩
  | .hbm, ⟨36, _⟩ => ⟨S8x4x2048, .f32⟩
  | .hbm, ⟨37, _⟩ => ⟨S8x4x2048x1, .f32⟩
  | .hbm, ⟨38, _⟩ => ⟨S8x4x2048x256, .f32⟩
  | .hbm, ⟨39, _⟩ => ⟨S8x4x2048x256, .f32⟩
  | .hbm, ⟨40, _⟩ => ⟨S8x4x2048x256, .f32⟩
  | .hbm, ⟨41, _⟩ => ⟨S_, .f32⟩
  | .hbm, ⟨42, _⟩ => ⟨S8x4x2048, .f32⟩
  | .hbm, ⟨43, _⟩ => ⟨S8x4x2048x1, .f32⟩
  | .hbm, ⟨44, _⟩ => ⟨S8x4x2048x256, .f32⟩
  | .hbm, ⟨45, _⟩ => ⟨S8x4x2048x256, .f32⟩
  | .hbm, ⟨46, _⟩ => ⟨S8x4x256x2048, .f32⟩
  | .hbm, ⟨47, _⟩ => ⟨S8x2048x4x256, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proj.lean ====
abbrev S8x2048x1024 : Shape := ⟨3, ![8, 2048, 1024]⟩
abbrev S1024 : Shape := ⟨1, ![1024]⟩
abbrev S1024x11288 : Shape := ⟨2, ![1024, 11288]⟩
abbrev S16384x1024 : Shape := ⟨2, ![16384, 1024]⟩
abbrev S1024x8 : Shape := ⟨2, ![1024, 8]⟩
abbrev S1024x4 : Shape := ⟨2, ![1024, 4]⟩
abbrev S_ : Shape := ⟨0, ![]⟩
abbrev S1024x232 : Shape := ⟨2, ![1024, 232]⟩
abbrev S1024x256 : Shape := ⟨2, ![1024, 256]⟩
abbrev S1024x512 : Shape := ⟨2, ![1024, 512]⟩
abbrev S1024x1024 : Shape := ⟨2, ![1024, 1024]⟩
abbrev S1024x1536 : Shape := ⟨2, ![1024, 1536]⟩
abbrev S1024x4096 : Shape := ⟨2, ![1024, 4096]⟩
abbrev S1024x11520 : Shape := ⟨2, ![1024, 11520]⟩
abbrev S1x1024 : Shape := ⟨2, ![1, 1024]⟩
abbrev S16384x11520 : Shape := ⟨2, ![16384, 11520]⟩
abbrev S2048x1024 : Shape := ⟨2, ![2048, 1024]⟩
abbrev S1024x1152 : Shape := ⟨2, ![1024, 1152]⟩
abbrev S2048x1152 : Shape := ⟨2, ![2048, 1152]⟩
abbrev S2048 : Shape := ⟨1, ![2048]⟩
abbrev S2048x1 : Shape := ⟨2, ![2048, 1]⟩

abbrev nBuf : Space → Nat
  | .hbm => 28
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x11288, .f32⟩
  | .hbm, ⟨3, _⟩ => ⟨S16384x1024, .f32⟩
  | .hbm, ⟨4, _⟩ => ⟨S1024x8, .f32⟩
  | .hbm, ⟨5, _⟩ => ⟨S1024x4, .f32⟩
  | .hbm, ⟨6, _⟩ => ⟨S1024x4, .f32⟩
  | .hbm, ⟨7, _⟩ => ⟨S1024x4, .f32⟩
  | .hbm, ⟨8, _⟩ => ⟨S1024x4, .f32⟩
  | .hbm, ⟨9, _⟩ => ⟨S_, .f32⟩
  | .hbm, ⟨10, _⟩ => ⟨S1024x232, .f32⟩
  | .hbm, ⟨11, _⟩ => ⟨S1024x256, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1536, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x4096, .f32⟩
  | .hbm, ⟨24, _⟩ => ⟨S1024x11520, .f32⟩
  | .hbm, ⟨25, _⟩ => ⟨S1024x11520, .bf16⟩
  | .hbm, ⟨26, _⟩ => ⟨S1x1024, .f32⟩
  | .hbm, ⟨27, _⟩ => ⟨S16384x11520, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1152, .bf16⟩
  | .local _ .vmem, ⟨4, _⟩ => ⟨S1024x1152, .bf16⟩
  | .local _ .vmem, ⟨5, _⟩ => ⟨S2048x1152, .f32⟩
  | .local _ .vmem, ⟨6, _⟩ => ⟨S2048x1152, .f32⟩
  | .local _ .vmem, ⟨7, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8x2048x1024 : Shape := ⟨3, ![8, 2048, 1024]⟩
abbrev S1024 : Shape := ⟨1, ![1024]⟩
abbrev S1024x11288 : Shape := ⟨2, ![1024, 11288]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x11288 : Shape := ⟨3, ![8, 2048, 11288]⟩
abbrev S8x2048x512 : Shape := ⟨3, ![8, 2048, 512]⟩
abbrev S8x2048x8 : Shape := ⟨3, ![8, 2048, 8]⟩
abbrev S8x2048x1536 : Shape := ⟨3, ![8, 2048, 1536]⟩
abbrev S8x2048x4 : Shape := ⟨3, ![8, 2048, 4]⟩
abbrev S8x2048x4096 : Shape := ⟨3, ![8, 2048, 4096]⟩
abbrev S8x2048x232 : Shape := ⟨3, ![8, 2048, 232]⟩
abbrev S8x2048x11284 : Shape := ⟨3, ![8, 2048, 11284]⟩
abbrev S8x2048x236 : Shape := ⟨3, ![8, 2048, 236]⟩
abbrev S8x2048x11520 : Shape := ⟨3, ![8, 2048, 11520]⟩
abbrev S16384x11520 : Shape := ⟨2, ![16384, 11520]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x11288, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x11288, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x1024, .f32⟩
  | .hbm, ⟨25, _⟩ => ⟨S8x2048x8, .f32⟩
  | .hbm, ⟨26, _⟩ => ⟨S8x2048x1536, .f32⟩
  | .hbm, ⟨27, _⟩ => ⟨S8x2048x512, .f32⟩
  | .hbm, ⟨28, _⟩ => ⟨S8x2048x4, .f32⟩
  | .hbm, ⟨29, _⟩ => ⟨S8x2048x4, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x4, .f32⟩
  | .hbm, ⟨35, _⟩ => ⟨S8x2048x4, .f32⟩
  | .hbm, ⟨36, _⟩ => ⟨S8x2048x4096, .f32⟩
  | .hbm, ⟨37, _⟩ => ⟨S_, .f32⟩
  | .hbm, ⟨38, _⟩ => ⟨S8x2048x232, .f32⟩
  | .hbm, ⟨39, _⟩ => ⟨S8x2048x11284, .f32⟩
  | .hbm, ⟨40, _⟩ => ⟨S8x2048x236, .f32⟩
  | .hbm, ⟨41, _⟩ => ⟨S8x2048x11520, .f32⟩
  | .hbm, ⟨42, _⟩ => ⟨S16384x11520, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kv.lean ====
abbrev S8x256x1024 : Shape := ⟨3, ![8, 256, 1024]⟩
abbrev S1024 : Shape := ⟨1, ![1024]⟩
abbrev S1024x2048 : Shape := ⟨2, ![1024, 2048]⟩
abbrev S2048x1024 : Shape := ⟨2, ![2048, 1024]⟩
abbrev S1x1024 : Shape := ⟨2, ![1, 1024]⟩
abbrev S2048x2048 : Shape := ⟨2, ![2048, 2048]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S1024x2048, .bf16⟩
  | .hbm, ⟨5, _⟩ => ⟨S1x1024, .f32⟩
  | .hbm, ⟨6, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S8x256x1024 : Shape := ⟨3, ![8, 256, 1024]⟩
abbrev S1024 : Shape := ⟨1, ![1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x2048, .f32⟩
  | .hbm, ⟨20, _⟩ => ⟨S2048x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ffn.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1024x1408 : Shape := ⟨2, ![1024, 1408]⟩
abbrev S1408x1024 : Shape := ⟨2, ![1408, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x5632, .f32⟩
  | .hbm, ⟨21, _⟩ => ⟨S8x2048x2816, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x1024, .f32⟩
  | .hbm, ⟨34, _⟩ => ⟨S8x2048x1024, .f32⟩
  | .hbm, ⟨35, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x512 : Shape := ⟨3, ![8, 2048, 512]⟩
abbrev S16384x11520 : Shape := ⟨2, ![16384, 11520]⟩
abbrev S4x512x1024 : Shape := ⟨3, ![4, 512, 1024]⟩
abbrev S1024x1024 : Shape := ⟨2, ![1024, 1024]⟩
abbrev S16384x1024 : Shape := ⟨2, ![16384, 1024]⟩
abbrev S16384x512 : Shape := ⟨2, ![16384, 512]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 16
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S16384x11520, .f32⟩
  | .hbm, ⟨6, _⟩ => ⟨S4x512x1024, .f32⟩
  | .hbm, ⟨7, _⟩ => ⟨S1024x1024, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S4x512x1024, .bf16⟩
  | .hbm, ⟨14, _⟩ => ⟨S1024x1024, .bf16⟩
  | .hbm, ⟨15, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S4x512x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8x2048x1024 : Shape := ⟨3, ![8, 2048, 1024]⟩
abbrev S8x2048x512 : Shape := ⟨3, ![8, 2048, 512]⟩
abbrev S16384x11520 : Shape := ⟨2, ![16384, 11520]⟩
abbrev S4x512x1024 : Shape := ⟨3, ![4, 512, 1024]⟩
abbrev S1024x1024 : Shape := ⟨2, ![1024, 1024]⟩
abbrev S16384x4096 : Shape := ⟨2, ![16384, 4096]⟩
abbrev S8x2048x1x512 : Shape := ⟨4, ![8, 2048, 1, 512]⟩
abbrev S8x2048x4x512 : Shape := ⟨4, ![8, 2048, 4, 512]⟩
abbrev S_ : Shape := ⟨0, ![]⟩
abbrev S8x2048x4x1024 : Shape := ⟨4, ![8, 2048, 4, 1024]⟩
abbrev S4x1024x8x2048 : Shape := ⟨4, ![4, 1024, 8, 2048]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S16384x11520, .f32⟩
  | .hbm, ⟨6, _⟩ => ⟨S4x512x1024, .f32⟩
  | .hbm, ⟨7, _⟩ => ⟨S1024x1024, .f32⟩
  | .hbm, ⟨8, _⟩ => ⟨S16384x4096, .f32⟩
  | .hbm, ⟨9, _⟩ => ⟨S8x2048x1x512, .f32⟩
  | .hbm, ⟨10, _⟩ => ⟨S8x2048x1x512, .f32⟩
  | .hbm, ⟨11, _⟩ => ⟨S8x2048x1x512, .f32⟩
  | .hbm, ⟨12, _⟩ => ⟨S8x2048x1x512, .f32⟩
  | .hbm, ⟨13, _⟩ => ⟨S8x2048x4x512, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S8x2048x4x1024, .f32⟩
  | .hbm, ⟨23, _⟩ => ⟨S4x1024x8x2048, .f32⟩
  | .hbm, ⟨24, _⟩ => ⟨S8x2048x4x1024, .f32⟩
  | .hbm, ⟨25, _⟩ => ⟨S8x2048x4x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Norm.lean ====
abbrev S8x2048x1024 : Shape := ⟨3, ![8, 2048, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2048x1024, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | .hbm, ⟨18, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Last.lean ====
abbrev S128x1x1024 : Shape := ⟨3, ![128, 1, 1024]⟩
abbrev S1024 : Shape := ⟨1, ![1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 5
  | .vmem => 3
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S1x1024, .f32⟩
  | .hbm, ⟨4, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== LastRefIdeal.lean ====
abbrev S128x1x1024 : Shape := ⟨3, ![128, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 19
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1x1024, .f32⟩
  | .hbm, ⟨3, _⟩ => ⟨S_, .f32⟩
  | .hbm, ⟨4, _⟩ => ⟨S128x1, .f32⟩
  | .hbm, ⟨5, _⟩ => ⟨S128x1x1, .f32⟩
  | .hbm, ⟨6, _⟩ => ⟨S_, .f32⟩
  | .hbm, ⟨7, _⟩ => ⟨S128x1x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S128x1x1, .f32⟩
  | .hbm, ⟨13, _⟩ => ⟨S128x1x1024, .f32⟩
  | .hbm, ⟨14, _⟩ => ⟨S128x1x1024, .f32⟩
  | .hbm, ⟨15, _⟩ => ⟨S1x1x1024, .f32⟩
  | .hbm, ⟨16, _⟩ => ⟨S128x1x1024, .f32⟩
  | .hbm, ⟨17, _⟩ => ⟨S128x1x1024, .f32⟩
  | .hbm, ⟨18, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mlstm.lean ====
abbrev S16384x11520 : Shape := ⟨2, ![16384, 11520]⟩
abbrev S4 : Shape := ⟨1, ![4]⟩
abbrev S128 : Shape := ⟨1, ![128]⟩
abbrev S_ : Shape := ⟨0, ![]⟩
abbrev S256 : Shape := ⟨1, ![256]⟩
abbrev S1x256 : Shape := ⟨2, ![1, 256]⟩
abbrev S1x128 : Shape := ⟨2, ![1, 128]⟩
abbrev S16384x512 : Shape := ⟨2, ![16384, 512]⟩
abbrev S8x4x128x128 : Shape := ⟨4, ![8, 4, 128, 128]⟩
abbrev S8x4x128 : Shape := ⟨3, ![8, 4, 128]⟩
abbrev S8x8x128 : Shape := ⟨3, ![8, 8, 128]⟩
abbrev S512x512 : Shape := ⟨2, ![512, 512]⟩
abbrev S512x256 : Shape := ⟨2, ![512, 256]⟩
abbrev S1x4x128x128 : Shape := ⟨4, ![1, 4, 128, 128]⟩
abbrev S1x4x128 : Shape := ⟨3, ![1, 4, 128]⟩
abbrev S1x8x128 : Shape := ⟨3, ![1, 8, 128]⟩
abbrev S4x128x128 : Shape := ⟨3, ![4, 128, 128]⟩
abbrev S4x128 : Shape := ⟨2, ![4, 128]⟩
abbrev S8x128 : Shape := ⟨2, ![8, 128]⟩
abbrev S512x128 : Shape := ⟨2, ![512, 128]⟩
abbrev S128x128 : Shape := ⟨2, ![128, 128]⟩
abbrev S128x1 : Shape := ⟨2, ![128, 1]⟩
abbrev S1x1 : Shape := ⟨2, ![1, 1]⟩
abbrev S1x1x128x128 : Shape := ⟨4, ![1, 1, 128, 128]⟩
abbrev S1x1x128 : Shape := ⟨3, ![1, 1, 128]⟩
abbrev S1x1x1 : Shape := ⟨3, ![1, 1, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x11520, .f32⟩
  | .hbm, ⟨1, _⟩ => ⟨S4, .f32⟩
  | .hbm, ⟨2, _⟩ => ⟨S4, .f32⟩
  | .hbm, ⟨3, _⟩ => ⟨S128, .f32⟩
  | .hbm, ⟨4, _⟩ => ⟨S_, .f32⟩
  | .hbm, ⟨5, _⟩ => ⟨S256, .f32⟩
  | .hbm, ⟨6, _⟩ => ⟨S_, .i32⟩
  | .hbm, ⟨7, _⟩ => ⟨S256, .f32⟩
  | .hbm, ⟨8, _⟩ => ⟨S_, .i32⟩
  | .hbm, ⟨9, _⟩ => ⟨S256, .f32⟩
  | .hbm, ⟨10, _⟩ => ⟨S1x256, .f32⟩
  | .hbm, ⟨11, _⟩ => ⟨S1x128, .f32⟩
  | .hbm, ⟨12, _⟩ => ⟨S16384x512, .f32⟩
  | .hbm, ⟨13, _⟩ => ⟨S8x4x128x128, .f32⟩
  | .hbm, ⟨14, _⟩ => ⟨S8x4x128, .f32⟩
  | .hbm, ⟨15, _⟩ => ⟨S8x8x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S1x128, .f32⟩
  | .local _ .vmem, ⟨12, _⟩ => ⟨S512x512, .f32⟩
  | .local _ .vmem, ⟨13, _⟩ => ⟨S512x512, .f32⟩
  | .local _ .vmem, ⟨14, _⟩ => ⟨S1x4x128x128, .f32⟩
  | .local _ .vmem, ⟨15, _⟩ => ⟨S1x4x128x128, .f32⟩
  | .local _ .vmem, ⟨16, _⟩ => ⟨S1x4x128, .f32⟩
  | .local _ .vmem, ⟨17, _⟩ => ⟨S1x4x128, .f32⟩
  | .local _ .vmem, ⟨18, _⟩ => ⟨S1x8x128, .f32⟩
  | .local _ .vmem, ⟨19, _⟩ => ⟨S1x8x128, .f32⟩
  | _, _ => ⟨S16384x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c11_i32 : BitVec 32 := 11#32
  let c0_i32 : BitVec 32 := 0#32
  ![v1.toNat, c11_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c12_i32 : BitVec 32 := 12#32
  let c0_i32 : BitVec 32 := 0#32
  ![v1.toNat, c12_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c13_i32 : BitVec 32 := 13#32
  let c0_i32 : BitVec 32 := 0#32
  ![v1.toNat, c13_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c44_i32 : BitVec 32 := 44#32
  let c0_i32 : BitVec 32 := 0#32
  ![v1.toNat, c44_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MlstmRefIdeal.lean ====
abbrev S16384x11520 : Shape := ⟨2, ![16384, 11520]⟩
abbrev S4 : Shape := ⟨1, ![4]⟩
abbrev S128 : Shape := ⟨1, ![128]⟩
abbrev S8x2048x11520 : Shape := ⟨3, ![8, 2048, 11520]⟩
abbrev S8x2048x512 : Shape := ⟨3, ![8, 2048, 512]⟩
abbrev S8x2048x4 : Shape := ⟨3, ![8, 2048, 4]⟩
abbrev S1x1x4 : Shape := ⟨3, ![1, 1, 4]⟩
abbrev S_ : Shape := ⟨0, ![]⟩
abbrev S8x4x128x128 : Shape := ⟨4, ![8, 4, 128, 128]⟩
abbrev S8x4x128 : Shape := ⟨3, ![8, 4, 128]⟩
abbrev S8x4 : Shape := ⟨2, ![8, 4]⟩
abbrev S8x2048x4x128 : Shape := ⟨4, ![8, 2048, 4, 128]⟩
abbrev S8x4x2048x128 : Shape := ⟨4, ![8, 4, 2048, 128]⟩
abbrev S8x4x16x128x128 : Shape := ⟨5, ![8, 4, 16, 128, 128]⟩
abbrev S8x4x2048 : Shape := ⟨3, ![8, 4, 2048]⟩
abbrev S8x4x16x128 : Shape := ⟨4, ![8, 4, 16, 128]⟩
abbrev S128x128 : Shape := ⟨2, ![128, 128]⟩
abbrev S8x4x16x128x1 : Shape := ⟨5, ![8, 4, 16, 128, 1]⟩
abbrev S8x4x16x1x128 : Shape := ⟨5, ![8, 4, 16, 1, 128]⟩
abbrev S8x4x16x1 : Shape := ⟨4, ![8, 4, 16, 1]⟩
abbrev S16x8x4x128x128 : Shape := ⟨5, ![16, 8, 4, 128, 128]⟩
abbrev S16x8x4x128 : Shape := ⟨4, ![16, 8, 4, 128]⟩
abbrev S1x8x4x128x128 : Shape := ⟨5, ![1, 8, 4, 128, 128]⟩
abbrev S1x8x4x128 : Shape := ⟨4, ![1, 8, 4, 128]⟩
abbrev S8x4x1 : Shape := ⟨3, ![8, 4, 1]⟩
abbrev S8x4x128x1 : Shape := ⟨4, ![8, 4, 128, 1]⟩
abbrev S8x4x1x1 : Shape := ⟨4, ![8, 4, 1, 1]⟩
abbrev S8x2048x4x1 : Shape := ⟨4, ![8, 2048, 4, 1]⟩
abbrev S1x1x1x128 : Shape := ⟨4, ![1, 1, 1, 128]⟩
abbrev S8x8 : Shape := ⟨2, ![8, 8]⟩
abbrev S16384x512 : Shape := ⟨2, ![16384, 512]⟩
abbrev S8x8x1 : Shape := ⟨3, ![8, 8, 1]⟩
abbrev S8x8x128 : Shape := ⟨3, ![8, 8, 128]⟩

abbrev nBuf : Space → Nat
  | .hbm => 259
  | .vmem => 0
  | .smem => 0
  | _ => 0

abbrev hbmTy0_0 (i : Nat) : BufTy := match i % 128 with
  | 0 => ⟨S16384x11520, .f32⟩
  | 1 => ⟨S4, .f32⟩
  | 2 => ⟨S4, .f32⟩
  | 3 => ⟨S128, .f32⟩
  | 4 => ⟨S8x2048x11520, .f32⟩
  | 5 => ⟨S8x2048x512, .f32⟩
  | 6 => ⟨S8x2048x512, .f32⟩
  | 7 => ⟨S8x2048x512, .f32⟩
  | 8 => ⟨S8x2048x512, .f32⟩
  | 9 => ⟨S8x2048x4, .f32⟩
  | 10 => ⟨S8x2048x4, .f32⟩
  | 11 => ⟨S1x1x4, .f32⟩
  | 12 => ⟨S8x2048x4, .f32⟩
  | 13 => ⟨S8x2048x4, .f32⟩
  | 14 => ⟨S1x1x4, .f32⟩
  | 15 => ⟨S8x2048x4, .f32⟩
  | 16 => ⟨S8x2048x4, .f32⟩
  | 17 => ⟨S8x2048x4, .f32⟩
  | 18 => ⟨S_, .f32⟩
  | 19 => ⟨S8x2048x4, .f32⟩
  | 20 => ⟨S8x2048x4, .f32⟩
  | 21 => ⟨S8x2048x4, .f32⟩
  | 22 => ⟨S8x2048x4, .f32⟩
  | 23 => ⟨S8x2048x4, .i1⟩
  | 24 => ⟨S8x2048x4, .f32⟩
  | 25 => ⟨S8x2048x4, .f32⟩
  | 26 => ⟨S8x2048x4, .f32⟩
  | 27 => ⟨S8x2048x4, .f32⟩
  | 28 => ⟨S8x2048x4, .f32⟩
  | 29 => ⟨S8x2048x4, .f32⟩
  | 30 => ⟨S8x2048x4, .f32⟩
  | 31 => ⟨S8x2048x4, .f32⟩
  | 32 => ⟨S8x2048x4, .f32⟩
  | 33 => ⟨S_, .f32⟩
  | 34 => ⟨S8x4x128x128, .f32⟩
  | 35 => ⟨S_, .f32⟩
  | 36 => ⟨S8x4x128, .f32⟩
  | 37 => ⟨S_, .f32⟩
  | 38 => ⟨S8x4, .f32⟩
  | 39 => ⟨S8x2048x4x128, .f32⟩
  | 40 => ⟨S8x2048x4x128, .f32⟩
  | 41 => ⟨S8x2048x4x128, .f32⟩
  | 42 => ⟨S8x4x2048x128, .f32⟩
  | 43 => ⟨S8x4x16x128x128, .f32⟩
  | 44 => ⟨S8x4x2048x128, .f32⟩
  | 45 => ⟨S8x4x16x128x128, .f32⟩
  | 46 => ⟨S_, .f32⟩
  | 47 => ⟨S8x4x16x128x128, .f32⟩
  | 48 => ⟨S8x4x16x128x128, .f32⟩
  | 49 => ⟨S8x4x2048x128, .f32⟩
  | 50 => ⟨S8x4x16x128x128, .f32⟩
  | 51 => ⟨S8x4x2048, .f32⟩
  | 52 => ⟨S8x4x16x128, .f32⟩
  | 53 => ⟨S8x4x2048, .f32⟩
  | 54 => ⟨S8x4x16x128, .f32⟩
  | 55 => ⟨S_, .f32⟩
  | 56 => ⟨S_, .f32⟩
  | 57 => ⟨S8x4x16x128, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S8x4x16x128x1, .f32⟩
  | 70 => ⟨S8x4x16x1x128, .f32⟩
  | 71 => ⟨S8x4x16x128x128, .f32⟩
  | 72 => ⟨S8x4x16x128x128, .f32⟩
  | 73 => ⟨S8x4x16x128x128, .f32⟩
  | 74 => ⟨S8x4x16x1x128, .f32⟩
  | 75 => ⟨S8x4x16x128x128, .f32⟩
  | 76 => ⟨S8x4x16x128x128, .f32⟩
  | 77 => ⟨S_, .f32⟩
  | 78 => ⟨S_, .f32⟩
  | 79 => ⟨S8x4x16x128x128, .i1⟩
  | 80 => ⟨S8x4x16x128x128, .f32⟩
  | 81 => ⟨S8x4x16x128x128, .f32⟩
  | 82 => ⟨S_, .f32⟩
  | 83 => ⟨S8x4x16x128, .f32⟩
  | 84 => ⟨S8x4x16x128x128, .f32⟩
  | 85 => ⟨S8x4x16x1, .f32⟩
  | 86 => ⟨S8x4x16x128, .f32⟩
  | 87 => ⟨S8x4x16x128, .f32⟩
  | 88 => ⟨S8x4x16x128, .f32⟩
  | 89 => ⟨S16x8x4x128x128, .f32⟩
  | 90 => ⟨S16x8x4x128x128, .f32⟩
  | 91 => ⟨S16x8x4x128x128, .f32⟩
  | 92 => ⟨S16x8x4x128, .f32⟩
  | 93 => ⟨S16x8x4x128x128, .f32⟩
  | 94 => ⟨S16x8x4x128, .f32⟩
  | 95 => ⟨S16x8x4x128x128, .f32⟩
  | 96 => ⟨S16x8x4x128, .f32⟩
  | 97 => ⟨S_, .f32⟩
  | 98 => ⟨S16x8x4x128x128, .f32⟩
  | 99 => ⟨S_, .i32⟩
  | 100 => ⟨S16x8x4x128x128, .f32⟩
  | 101 => ⟨S16x8x4x128x128, .f32⟩
  | 102 => ⟨S16x8x4x128x128, .f32⟩
  | 103 => ⟨S16x8x4x128, .f32⟩
  | 104 => ⟨S16x8x4x128x128, .f32⟩
  | 105 => ⟨S16x8x4x128, .f32⟩
  | 106 => ⟨S16x8x4x128x128, .f32⟩
  | 107 => ⟨S16x8x4x128, .f32⟩
  | 108 => ⟨S_, .i32⟩
  | 109 => ⟨S8x4x128x128, .f32⟩
  | 110 => ⟨S8x4x128, .f32⟩
  | 111 => ⟨S8x4, .f32⟩
  | 112 => ⟨S16x8x4x128x128, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S1x8x4x128x128, .f32⟩
  | 120 => ⟨S8x4x128x128, .f32⟩
  | 121 => ⟨S_, .i32⟩
  | 122 => ⟨S_, .i32⟩
  | 123 => ⟨S_, .i32⟩
  | 124 => ⟨S_, .i32⟩
  | 125 => ⟨S1x8x4x128x128, .f32⟩
  | 126 => ⟨S8x4x128x128, .f32⟩
  | 127 => ⟨S_, .i32⟩
  | _ => ⟨S16384x11520, .f32⟩

abbrev hbmTy0_1 (i : Nat) : BufTy := match i % 128 with
  | 0 => ⟨S_, .i32⟩
  | 1 => ⟨S_, .i32⟩
  | 2 => ⟨S_, .i32⟩
  | 3 => ⟨S1x8x4x128x128, .f32⟩
  | 4 => ⟨S8x4x128x128, .f32⟩
  | 5 => ⟨S_, .i32⟩
  | 6 => ⟨S_, .i32⟩
  | 7 => ⟨S_, .i32⟩
  | 8 => ⟨S1x8x4x128, .f32⟩
  | 9 => ⟨S8x4x128, .f32⟩
  | 10 => ⟨S_, .i32⟩
  | 11 => ⟨S_, .i32⟩
  | 12 => ⟨S_, .i32⟩
  | 13 => ⟨S_, .i32⟩
  | 14 => ⟨S1x8x4x128x128, .f32⟩
  | 15 => ⟨S8x4x128x128, .f32⟩
  | 16 => ⟨S_, .i32⟩
  | 17 => ⟨S_, .i32⟩
  | 18 => ⟨S_, .i32⟩
  | 19 => ⟨S1x8x4x128, .f32⟩
  | 20 => ⟨S8x4x128, .f32⟩
  | 21 => ⟨S_, .i32⟩
  | 22 => ⟨S_, .i32⟩
  | 23 => ⟨S_, .i32⟩
  | 24 => ⟨S_, .i32⟩
  | 25 => ⟨S1x8x4x128x128, .f32⟩
  | 26 => ⟨S8x4x128x128, .f32⟩
  | 27 => ⟨S_, .i32⟩
  | 28 => ⟨S_, .i32⟩
  | 29 => ⟨S_, .i32⟩
  | 30 => ⟨S1x8x4x128, .f32⟩
  | 31 => ⟨S8x4x128, .f32⟩
  | 32 => ⟨S8x4x1, .f32⟩
  | 33 => ⟨S8x4x128, .f32⟩
  | 34 => ⟨S8x4x128, .f32⟩
  | 35 => ⟨S8x4x128, .f32⟩
  | 36 => ⟨S8x4x1, .f32⟩
  | 37 => ⟨S8x4x128, .f32⟩
  | 38 => ⟨S8x4x128, .f32⟩
  | 39 => ⟨S8x4x128, .f32⟩
  | 40 => ⟨S8x4x128, .f32⟩
  | 41 => ⟨S8x4x128x1, .f32⟩
  | 42 => ⟨S8x4x128x128, .f32⟩
  | 43 => ⟨S8x4x128x128, .f32⟩
  | 44 => ⟨S8x4x128x128, .f32⟩
  | 45 => ⟨S8x4x128x128, .f32⟩
  | 46 => ⟨S8x4x128x1, .f32⟩
  | 47 => ⟨S8x4x128x128, .f32⟩
  | 48 => ⟨S8x4x128x128, .f32⟩
  | 49 => ⟨S8x4x128x128, .f32⟩
  | 50 => ⟨S8x4x128x128, .f32⟩
  | 51 => ⟨S8x4x128x128, .f32⟩
  | 52 => ⟨S8x4x128, .f32⟩
  | 53 => ⟨S8x4x128, .f32⟩
  | 54 => ⟨S_, .f32⟩
  | 55 => ⟨S8x4x128, .f32⟩
  | 56 => ⟨S8x4x128, .f32⟩
  | 57 => ⟨S8x4x128, .f32⟩
  | 58 => ⟨S8x4x128, .f32⟩
  | 59 => ⟨S8x4x128, .f32⟩
  | 60 => ⟨S8x4x128, .f32⟩
  | 61 => ⟨S8x4x128x1, .f32⟩
  | 62 => ⟨S8x4x128x128, .f32⟩
  | 63 => ⟨S8x4x128x128, .f32⟩
  | 64 => ⟨S8x4x1, .f32⟩
  | 65 => ⟨S8x4, .f32⟩
  | 66 => ⟨S8x4x1, .f32⟩
  | 67 => ⟨S8x4, .f32⟩
  | 68 => ⟨S8x4, .f32⟩
  | 69 => ⟨S8x4, .f32⟩
  | 70 => ⟨S8x4, .f32⟩
  | 71 => ⟨S8x4x1, .f32⟩
  | 72 => ⟨S8x4x128, .f32⟩
  | 73 => ⟨S8x4x128, .f32⟩
  | 74 => ⟨S8x4x128, .f32⟩
  | 75 => ⟨S8x4x1x1, .f32⟩
  | 76 => ⟨S8x4x128x128, .f32⟩
  | 77 => ⟨S8x4x128x128, .f32⟩
  | 78 => ⟨S8x4x128x1, .f32⟩
  | 79 => ⟨S8x4x128x128, .f32⟩
  | 80 => ⟨S8x4x128x128, .f32⟩
  | 81 => ⟨S8x4x128x128, .f32⟩
  | 82 => ⟨S8x4x128x128, .f32⟩
  | 83 => ⟨S8x4x1, .f32⟩
  | 84 => ⟨S8x4x128, .f32⟩
  | 85 => ⟨S8x4x128, .f32⟩
  | 86 => ⟨S8x4x128, .f32⟩
  | 87 => ⟨S8x4x128, .f32⟩
  | 88 => ⟨S1x8x4x128x128, .f32⟩
  | 89 => ⟨S_, .i32⟩
  | 90 => ⟨S_, .i32⟩
  | 91 => ⟨S_, .i32⟩
  | 92 => ⟨S_, .i32⟩
  | 93 => ⟨S16x8x4x128x128, .f32⟩
  | 94 => ⟨S_, .i32⟩
  | 95 => ⟨S_, .i32⟩
  | 96 => ⟨S8x4x16x128x128, .f32⟩
  | 97 => ⟨S8x4x2048x128, .f32⟩
  | 98 => ⟨S8x2048x4x128, .f32⟩
  | 99 => ⟨S8x2048x4x128, .f32⟩
  | 100 => ⟨S_, .f32⟩
  | 101 => ⟨S8x2048x4, .f32⟩
  | 102 => ⟨S8x2048x4x1, .f32⟩
  | 103 => ⟨S_, .f32⟩
  | 104 => ⟨S8x2048x4x1, .f32⟩
  | 105 => ⟨S8x2048x4x1, .f32⟩
  | 106 => ⟨S_, .f32⟩
  | 107 => ⟨S8x2048x4x1, .f32⟩
  | 108 => ⟨S8x2048x4x1, .f32⟩
  | 109 => ⟨S8x2048x4x1, .f32⟩
  | 110 => ⟨S8x2048x4x128, .f32⟩
  | 111 => ⟨S8x2048x4x128, .f32⟩
  | 112 => ⟨S1x1x1x128, .f32⟩
  | 113 => ⟨S8x2048x4x128, .f32⟩
  | 114 => ⟨S8x2048x4x128, .f32⟩
  | 115 => ⟨S8x2048x4x128, .f32⟩
  | 116 => ⟨S8x2048x4x128, .f32⟩
  | 117 => ⟨S8x2048x4x128, .f32⟩
  | 118 => ⟨S_, .f32⟩
  | 119 => ⟨S8x2048x4x128, .f32⟩
  | 120 => ⟨S8x2048x4x128, .f32⟩
  | 121 => ⟨S_, .f32⟩
  | 122 => ⟨S8x2048x4x128, .f32⟩
  | 123 => ⟨S8x2048x4x128, .f32⟩
  | 124 => ⟨S8x2048x4x128, .f32⟩
  | 125 => ⟨S_, .f32⟩
  | 126 => ⟨S8x4, .f32⟩
  | 127 => ⟨S8x8, .f32⟩
  | _ => ⟨S16384x11520, .f32⟩

abbrev hbmTy0_2 (i : Nat) : BufTy := match i % 128 with
  | 0 => ⟨S16384x512, .f32⟩
  | 1 => ⟨S8x8x1, .f32⟩
  | 2 => ⟨S8x8x128, .f32⟩
  | _ => ⟨S16384x11520, .f32⟩

abbrev hbmTy (i : Nat) : BufTy := match i / 128 with
  | 0 => hbmTy0_0 i
  | 1 => hbmTy0_1 i
  | 2 => hbmTy0_2 i
  | _ => ⟨S16384x11520, .f32⟩

abbrev bufTy : (tb : Table) → Fin (tcTables nBuf tb) → BufTy
  | .hbm, ⟨i, _⟩ => hbmTy i
  | _, _ => ⟨S16384x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_call0_cst : Ref sig .tc := ⟨.hbm, 55, rfl⟩
abbrev main_call1_call0_v0 : Ref sig .tc := ⟨.hbm, 56, rfl⟩
abbrev main_v32 : Ref sig .tc := ⟨.hbm, 57, rfl⟩
abbrev main_c : Ref sig .tc := ⟨.hbm, 58, rfl⟩
abbrev main_v33 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_3 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v43 : Ref sig .tc := ⟨.hbm, 81, rfl⟩
abbrev main_cst_4 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_5 : Ref sig .tc := ⟨.hbm, 97, rfl⟩
abbrev main_v58 : Ref sig .tc := ⟨.hbm, 98, rfl⟩
abbrev main_c_6 : Ref sig .tc := ⟨.hbm, 99, rfl⟩
abbrev main_v59_0 : Ref sig .tc := ⟨.hbm, 100, rfl⟩
abbrev main_v59_1 : Ref sig .tc := ⟨.hbm, 101, rfl⟩
abbrev main_v59_2 : Ref sig .tc := ⟨.hbm, 102, rfl⟩
abbrev main_v59_3 : Ref sig .tc := ⟨.hbm, 103, rfl⟩
abbrev main_v59_4 : Ref sig .tc := ⟨.hbm, 104, rfl⟩
abbrev main_v59_5 : Ref sig .tc := ⟨.hbm, 105, rfl⟩
abbrev main_v59_6 : Ref sig .tc := ⟨.hbm, 106, rfl⟩
abbrev main_v59_7 : Ref sig .tc := ⟨.hbm, 107, rfl⟩
abbrev main_v59_8 : Ref sig .tc := ⟨.hbm, 108, rfl⟩
abbrev main_v59_9 : Ref sig .tc := ⟨.hbm, 109, rfl⟩
abbrev main_v59_10 : Ref sig .tc := ⟨.hbm, 110, rfl⟩
abbrev main_v59_11 : Ref sig .tc := ⟨.hbm, 111, rfl⟩
abbrev main_v59_12 : Ref sig .tc := ⟨.hbm, 112, rfl⟩
abbrev main_while0c_c_25 : Ref sig .tc := ⟨.hbm, 113, rfl⟩
abbrev main_while0c_v89 : Ref sig .tc := ⟨.hbm, 114, rfl⟩
abbrev main_while0b_call4_c : Ref sig .tc := ⟨.hbm, 115, rfl⟩
abbrev main_while0b_call4_c_0 : Ref sig .tc := ⟨.hbm, 116, rfl⟩
abbrev main_while0b_call4_c_1 : Ref sig .tc := ⟨.hbm, 117, rfl⟩
abbrev main_while0b_call4_c_2 : Ref sig .tc := ⟨.hbm, 118, rfl⟩
abbrev main_while0b_call4_v0 : Ref sig .tc := ⟨.hbm, 119, rfl⟩
abbrev main_while0b_v89 : Ref sig .tc := ⟨.hbm, 120, rfl⟩
abbrev main_while0b_call5_c : Ref sig .tc := ⟨.hbm, 121, rfl⟩
abbrev main_while0b_call5_c_0 : Ref sig .tc := ⟨.hbm, 122, rfl⟩
abbrev main_while0b_call5_c_1 : Ref sig .tc := ⟨.hbm, 123, rfl⟩
abbrev main_while0b_call5_c_2 : Ref sig .tc := ⟨.hbm, 124, rfl⟩
abbrev main_while0b_call5_v0 : Ref sig .tc := ⟨.hbm, 125, rfl⟩
abbrev main_while0b_v90 : Ref sig .tc := ⟨.hbm, 126, rfl⟩
abbrev main_while0b_call6_c : Ref sig .tc := ⟨.hbm, 127, rfl⟩
abbrev main_while0b_call6_c_0 : Ref sig .tc := ⟨.hbm, 128, rfl⟩
abbrev main_while0b_call6_c_1 : Ref sig .tc := ⟨.hbm, 129, rfl⟩
abbrev main_while0b_call6_c_2 : Ref sig .tc := ⟨.hbm, 130, rfl⟩
abbrev main_while0b_call6_v0 : Ref sig .tc := ⟨.hbm, 131, rfl⟩
abbrev main_while0b_v91 : Ref sig .tc := ⟨.hbm, 132, rfl⟩
abbrev main_while0b_call7_c : Ref sig .tc := ⟨.hbm, 133, rfl⟩
abbrev main_while0b_call7_c_0 : Ref sig .tc := ⟨.hbm, 134, rfl⟩
abbrev main_while0b_call7_c_1 : Ref sig .tc := ⟨.hbm, 135, rfl⟩
abbrev main_while0b_call7_v0 : Ref sig .tc := ⟨.hbm, 136, rfl⟩
abbrev main_while0b_v92 : Ref sig .tc := ⟨.hbm, 137, rfl⟩
abbrev main_while0b_call8_c : Ref sig .tc := ⟨.hbm, 138, rfl⟩
abbrev main_while0b_call8_c_0 : Ref sig .tc := ⟨.hbm, 139, rfl⟩
abbrev main_while0b_call8_c_1 : Ref sig .tc := ⟨.hbm, 140, rfl⟩
abbrev main_while0b_call8_c_2 : Ref sig .tc := ⟨.hbm, 141, rfl⟩
abbrev main_while0b_call8_v0 : Ref sig .tc := ⟨.hbm, 142, rfl⟩
abbrev main_while0b_v93 : Ref sig .tc := ⟨.hbm, 143, rfl⟩
abbrev main_while0b_call9_c : Ref sig .tc := ⟨.hbm, 144, rfl⟩
abbrev main_while0b_call9_c_0 : Ref sig .tc := ⟨.hbm, 145, rfl⟩
abbrev main_while0b_call9_c_1 : Ref sig .tc := ⟨.hbm, 146, rfl⟩
abbrev main_while0b_call9_v0 : Ref sig .tc := ⟨.hbm, 147, rfl⟩
abbrev main_while0b_v94 : Ref sig .tc := ⟨.hbm, 148, rfl⟩
abbrev main_while0b_call10_c : Ref sig .tc := ⟨.hbm, 149, rfl⟩
abbrev main_while0b_call10_c_0 : Ref sig .tc := ⟨.hbm, 150, rfl⟩
abbrev main_while0b_call10_c_1 : Ref sig .tc := ⟨.hbm, 151, rfl⟩
abbrev main_while0b_call10_c_2 : Ref sig .tc := ⟨.hbm, 152, rfl⟩
abbrev main_while0b_call10_v0 : Ref sig .tc := ⟨.hbm, 153, rfl⟩
abbrev main_while0b_v95 : Ref sig .tc := ⟨.hbm, 154, rfl⟩
abbrev main_while0b_call11_c : Ref sig .tc := ⟨.hbm, 155, rfl⟩
abbrev main_while0b_call11_c_0 : Ref sig .tc := ⟨.hbm, 156, rfl⟩
abbrev main_while0b_call11_c_1 : Ref sig .tc := ⟨.hbm, 157, rfl⟩
abbrev main_while0b_call11_v0 : Ref sig .tc := ⟨.hbm, 158, rfl⟩
abbrev main_while0b_v96 : Ref sig .tc := ⟨.hbm, 159, rfl⟩
abbrev main_while0b_v97 : Ref sig .tc := ⟨.hbm, 160, rfl⟩
abbrev main_while0b_v98 : Ref sig .tc := ⟨.hbm, 161, rfl⟩
abbrev main_while0b_v99 : Ref sig .tc := ⟨.hbm, 162, rfl⟩
abbrev main_while0b_v100 : Ref sig .tc := ⟨.hbm, 163, rfl⟩
abbrev main_while0b_v101 : Ref sig .tc := ⟨.hbm, 164, rfl⟩
abbrev main_while0b_v102 : Ref sig .tc := ⟨.hbm, 165, rfl⟩
abbrev main_while0b_v103 : Ref sig .tc := ⟨.hbm, 166, rfl⟩
abbrev main_while0b_v104 : Ref sig .tc := ⟨.hbm, 167, rfl⟩
abbrev main_while0b_v105 : Ref sig .tc := ⟨.hbm, 168, rfl⟩
abbrev main_while0b_v106 : Ref sig .tc := ⟨.hbm, 169, rfl⟩
abbrev main_while0b_v107 : Ref sig .tc := ⟨.hbm, 170, rfl⟩
abbrev main_while0b_v108 : Ref sig .tc := ⟨.hbm, 171, rfl⟩
abbrev main_while0b_v109 : Ref sig .tc := ⟨.hbm, 172, rfl⟩
abbrev main_while0b_v110 : Ref sig .tc := ⟨.hbm, 173, rfl⟩
abbrev main_while0b_v111 : Ref sig .tc := ⟨.hbm, 174, rfl⟩
abbrev main_while0b_v112 : Ref sig .tc := ⟨.hbm, 175, rfl⟩
abbrev main_while0b_v113 : Ref sig .tc := ⟨.hbm, 176, rfl⟩
abbrev main_while0b_v114 : Ref sig .tc := ⟨.hbm, 177, rfl⟩
abbrev main_while0b_v115 : Ref sig .tc := ⟨.hbm, 178, rfl⟩
abbrev main_while0b_v116 : Ref sig .tc := ⟨.hbm, 179, rfl⟩
abbrev main_while0b_v117 : Ref sig .tc := ⟨.hbm, 180, rfl⟩
abbrev main_while0b_v118 : Ref sig .tc := ⟨.hbm, 181, rfl⟩
abbrev main_while0b_cst_25 : Ref sig .tc := ⟨.hbm, 182, rfl⟩
abbrev main_while0b_v119 : Ref sig .tc := ⟨.hbm, 183, rfl⟩
abbrev main_while0b_v120 : Ref sig .tc := ⟨.hbm, 184, rfl⟩
abbrev main_while0b_v121 : Ref sig .tc := ⟨.hbm, 185, rfl⟩
abbrev main_while0b_v122 : Ref sig .tc := ⟨.hbm, 186, rfl⟩
abbrev main_while0b_v123 : Ref sig .tc := ⟨.hbm, 187, rfl⟩
abbrev main_while0b_v124 : Ref sig .tc := ⟨.hbm, 188, rfl⟩
abbrev main_while0b_v125 : Ref sig .tc := ⟨.hbm, 189, rfl⟩
abbrev main_while0b_v126 : Ref sig .tc := ⟨.hbm, 190, rfl⟩
abbrev main_while0b_v127 : Ref sig .tc := ⟨.hbm, 191, rfl⟩
abbrev main_while0b_v128 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_v133 : Ref sig .tc := ⟨.hbm, 197, rfl⟩
abbrev main_while0b_v134 : Ref sig .tc := ⟨.hbm, 198, rfl⟩
abbrev main_while0b_v135 : Ref sig .tc := ⟨.hbm, 199, rfl⟩
abbrev main_while0b_v136 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_v142 : Ref sig .tc := ⟨.hbm, 206, rfl⟩
abbrev main_while0b_v143 : Ref sig .tc := ⟨.hbm, 207, rfl⟩
abbrev main_while0b_v144 : Ref sig .tc := ⟨.hbm, 208, rfl⟩
abbrev main_while0b_v145 : Ref sig .tc := ⟨.hbm, 209, rfl⟩
abbrev main_while0b_v146 : Ref sig .tc := ⟨.hbm, 210, rfl⟩
abbrev main_while0b_v147 : Ref sig .tc := ⟨.hbm, 211, rfl⟩
abbrev main_while0b_v148 : Ref sig .tc := ⟨.hbm, 212, rfl⟩
abbrev main_while0b_v149 : Ref sig .tc := ⟨.hbm, 213, rfl⟩
abbrev main_while0b_v150 : Ref sig .tc := ⟨.hbm, 214, rfl⟩
abbrev main_while0b_v151 : Ref sig .tc := ⟨.hbm, 215, rfl⟩
abbrev main_while0b_call12_v0 : Ref sig .tc := ⟨.hbm, 216, rfl⟩
abbrev main_while0b_call12_c : Ref sig .tc := ⟨.hbm, 217, rfl⟩
abbrev main_while0b_call12_c_0 : Ref sig .tc := ⟨.hbm, 218, rfl⟩
abbrev main_while0b_call12_c_1 : Ref sig .tc := ⟨.hbm, 219, rfl⟩
abbrev main_while0b_call12_c_2 : Ref sig .tc := ⟨.hbm, 220, rfl⟩
abbrev main_while0b_v152 : Ref sig .tc := ⟨.hbm, 221, rfl⟩
abbrev main_while0b_c_26 : Ref sig .tc := ⟨.hbm, 222, rfl⟩
abbrev main_while0b_v153 : Ref sig .tc := ⟨.hbm, 223, rfl⟩
abbrev main_v60 : Ref sig .tc := ⟨.hbm, 224, rfl⟩
abbrev main_v61 : Ref sig .tc := ⟨.hbm, 225, rfl⟩
abbrev main_v62 : Ref sig .tc := ⟨.hbm, 226, rfl⟩
abbrev main_v63 : Ref sig .tc := ⟨.hbm, 227, rfl⟩
abbrev main_cst_7 : Ref sig .tc := ⟨.hbm, 228, rfl⟩
abbrev main_v64 : Ref sig .tc := ⟨.hbm, 229, rfl⟩
abbrev main_v65 : Ref sig .tc := ⟨.hbm, 230, rfl⟩
abbrev main_cst_8 : Ref sig .tc := ⟨.hbm, 231, rfl⟩
abbrev main_v66 : Ref sig .tc := ⟨.hbm, 232, rfl⟩
abbrev main_v67 : Ref sig .tc := ⟨.hbm, 233, rfl⟩
abbrev main_cst_9 : Ref sig .tc := ⟨.hbm, 234, rfl⟩
abbrev main_v68 : Ref sig .tc := ⟨.hbm, 235, rfl⟩
abbrev main_v69 : Ref sig .tc := ⟨.hbm, 236, rfl⟩
abbrev main_v70 : Ref sig .tc := ⟨.hbm, 237, rfl⟩
abbrev main_v71 : Ref sig .tc := ⟨.hbm, 238, rfl⟩
abbrev main_v72 : Ref sig .tc := ⟨.hbm, 239, rfl⟩
abbrev main_v73 : Ref sig .tc := ⟨.hbm, 240, rfl⟩
abbrev main_v74 : Ref sig .tc := ⟨.hbm, 241, rfl⟩
abbrev main_v75 : Ref sig .tc := ⟨.hbm, 242, rfl⟩
abbrev main_v76 : Ref sig .tc := ⟨.hbm, 243, rfl⟩
abbrev main_v77 : Ref sig .tc := ⟨.hbm, 244, rfl⟩
abbrev main_v78 : Ref sig .tc := ⟨.hbm, 245, rfl⟩
abbrev main_cst_10 : Ref sig .tc := ⟨.hbm, 246, rfl⟩
abbrev main_v79 : Ref sig .tc := ⟨.hbm, 247, rfl⟩
abbrev main_v80 : Ref sig .tc := ⟨.hbm, 248, rfl⟩
abbrev main_cst_11 : Ref sig .tc := ⟨.hbm, 249, rfl⟩
abbrev main_v81 : Ref sig .tc := ⟨.hbm, 250, rfl⟩
abbrev main_v82 : Ref sig .tc := ⟨.hbm, 251, rfl⟩
abbrev main_v83 : Ref sig .tc := ⟨.hbm, 252, rfl⟩
abbrev main_cst_12 : Ref sig .tc := ⟨.hbm, 253, rfl⟩
abbrev main_v84 : Ref sig .tc := ⟨.hbm, 254, rfl⟩
abbrev main_v85 : Ref sig .tc := ⟨.hbm, 255, rfl⟩
abbrev main_v86 : Ref sig .tc := ⟨.hbm, 256, rfl⟩
abbrev main_v87 : Ref sig .tc := ⟨.hbm, 257, rfl⟩
abbrev main_v88 : Ref sig .tc := ⟨.hbm, 258, rfl⟩

abbrev nD : Nat := 1
abbrev τ : Topo := Topo.v7x

variable {F : FTy → Type} [FloatOps F]

abbrev main_while0_count : Scf.Loop 32 := ⟨0#32, 16#32, 1#32⟩
-- ==== ProjSample.lean ====
abbrev S128x1x1024 : Shape := ⟨3, ![128, 1, 1024]⟩
abbrev S1024 : Shape := ⟨1, ![1024]⟩
abbrev S1024x11288 : Shape := ⟨2, ![1024, 11288]⟩
abbrev S128x1024 : Shape := ⟨2, ![128, 1024]⟩
abbrev S1024x8 : Shape := ⟨2, ![1024, 8]⟩
abbrev S1024x4 : Shape := ⟨2, ![1024, 4]⟩
abbrev S_ : Shape := ⟨0, ![]⟩
abbrev S1024x232 : Shape := ⟨2, ![1024, 232]⟩
abbrev S1024x256 : Shape := ⟨2, ![1024, 256]⟩
abbrev S1024x512 : Shape := ⟨2, ![1024, 512]⟩
abbrev S1024x1024 : Shape := ⟨2, ![1024, 1024]⟩
abbrev S1024x1536 : Shape := ⟨2, ![1024, 1536]⟩
abbrev S1024x4096 : Shape := ⟨2, ![1024, 4096]⟩
abbrev S1024x11520 : Shape := ⟨2, ![1024, 11520]⟩
abbrev S1x1024 : Shape := ⟨2, ![1, 1024]⟩
abbrev S128x11520 : Shape := ⟨2, ![128, 11520]⟩
abbrev S1024x1152 : Shape := ⟨2, ![1024, 1152]⟩
abbrev S128x1152 : Shape := ⟨2, ![128, 1152]⟩
abbrev S128 : Shape := ⟨1, ![128]⟩
abbrev S128x1 : Shape := ⟨2, ![128, 1]⟩

abbrev nBuf : Space → Nat
  | .hbm => 28
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x11288, .f32⟩
  | .hbm, ⟨3, _⟩ => ⟨S128x1024, .f32⟩
  | .hbm, ⟨4, _⟩ => ⟨S1024x8, .f32⟩
  | .hbm, ⟨5, _⟩ => ⟨S1024x4, .f32⟩
  | .hbm, ⟨6, _⟩ => ⟨S1024x4, .f32⟩
  | .hbm, ⟨7, _⟩ => ⟨S1024x4, .f32⟩
  | .hbm, ⟨8, _⟩ => ⟨S1024x4, .f32⟩
  | .hbm, ⟨9, _⟩ => ⟨S_, .f32⟩
  | .hbm, ⟨10, _⟩ => ⟨S1024x232, .f32⟩
  | .hbm, ⟨11, _⟩ => ⟨S1024x256, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1536, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x4096, .f32⟩
  | .hbm, ⟨24, _⟩ => ⟨S1024x11520, .f32⟩
  | .hbm, ⟨25, _⟩ => ⟨S1024x11520, .bf16⟩
  | .hbm, ⟨26, _⟩ => ⟨S1x1024, .f32⟩
  | .hbm, ⟨27, _⟩ => ⟨S128x11520, .f32⟩
  | .local _ .vmem, ⟨0, _⟩ => ⟨S128x1024, .f32⟩
  | .local _ .vmem, ⟨1, _⟩ => ⟨S1x1024, .f32⟩
  | .local _ .vmem, ⟨2, _⟩ => ⟨S1024x1152, .bf16⟩
  | .local _ .vmem, ⟨3, _⟩ => ⟨S1024x1152, .bf16⟩
  | .local _ .vmem, ⟨4, _⟩ => ⟨S128x1152, .f32⟩
  | .local _ .vmem, ⟨5, _⟩ => ⟨S128x1152, .f32⟩
  | .local _ .vmem, ⟨6, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjSampleRefIdeal.lean ====
abbrev S128x1x1024 : Shape := ⟨3, ![128, 1, 1024]⟩
abbrev S1024 : Shape := ⟨1, ![1024]⟩
abbrev S1024x11288 : Shape := ⟨2, ![1024, 11288]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x11288 : Shape := ⟨3, ![128, 1, 11288]⟩
abbrev S128x1x512 : Shape := ⟨3, ![128, 1, 512]⟩
abbrev S128x1x8 : Shape := ⟨3, ![128, 1, 8]⟩
abbrev S128x1x1536 : Shape := ⟨3, ![128, 1, 1536]⟩
abbrev S128x1x4 : Shape := ⟨3, ![128, 1, 4]⟩
abbrev S128x1x4096 : Shape := ⟨3, ![128, 1, 4096]⟩
abbrev S128x1x232 : Shape := ⟨3, ![128, 1, 232]⟩
abbrev S128x1x11284 : Shape := ⟨3, ![128, 1, 11284]⟩
abbrev S128x1x236 : Shape := ⟨3, ![128, 1, 236]⟩
abbrev S128x1x11520 : Shape := ⟨3, ![128, 1, 11520]⟩
abbrev S128x11520 : Shape := ⟨2, ![128, 11520]⟩

abbrev nBuf : Space → Nat
  | .hbm => 43
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x11288, .f32⟩
  | .hbm, ⟨3, _⟩ => ⟨S128x1x1024, .f32⟩
  | .hbm, ⟨4, _⟩ => ⟨S_, .f32⟩
  | .hbm, ⟨5, _⟩ => ⟨S128x1, .f32⟩
  | .hbm, ⟨6, _⟩ => ⟨S128x1x1, .f32⟩
  | .hbm, ⟨7, _⟩ => ⟨S_, .f32⟩
  | .hbm, ⟨8, _⟩ => ⟨S128x1x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S128x1x1, .f32⟩
  | .hbm, ⟨14, _⟩ => ⟨S128x1x1024, .f32⟩
  | .hbm, ⟨15, _⟩ => ⟨S128x1x1024, .f32⟩
  | .hbm, ⟨16, _⟩ => ⟨S1x1x1024, .f32⟩
  | .hbm, ⟨17, _⟩ => ⟨S128x1x1024, .f32⟩
  | .hbm, ⟨18, _⟩ => ⟨S128x1x1024, .f32⟩
  | .hbm, ⟨19, _⟩ => ⟨S128x1x11288, .f32⟩
  | .hbm, ⟨20, _⟩ => ⟨S128x1x512, .f32⟩
  | .hbm, ⟨21, _⟩ => ⟨S128x1x512, .f32⟩
  | .hbm, ⟨22, _⟩ => ⟨S128x1x512, .f32⟩
  | .hbm, ⟨23, _⟩ => ⟨S128x1x512, .f32⟩
  | .hbm, ⟨24, _⟩ => ⟨S128x1x1024, .f32⟩
  | .hbm, ⟨25, _⟩ => ⟨S128x1x8, .f32⟩
  | .hbm, ⟨26, _⟩ => ⟨S128x1x1536, .f32⟩
  | .hbm, ⟨27, _⟩ => ⟨S128x1x512, .f32⟩
  | .hbm, ⟨28, _⟩ => ⟨S128x1x4, .f32⟩
  | .hbm, ⟨29, _⟩ => ⟨S128x1x4, .f32⟩
  | .hbm, ⟨30, _⟩ => ⟨S128x1x512, .f32⟩
  | .hbm, ⟨31, _⟩ => ⟨S128x1x512, .f32⟩
  | .hbm, ⟨32, _⟩ => ⟨S128x1x512, .f32⟩
  | .hbm, ⟨33, _⟩ => ⟨S128x1x512, .f32⟩
  | .hbm, ⟨34, _⟩ => ⟨S128x1x4, .f32⟩
  | .hbm, ⟨35, _⟩ => ⟨S128x1x4, .f32⟩
  | .hbm, ⟨36, _⟩ => ⟨S128x1x4096, .f32⟩
  | .hbm, ⟨37, _⟩ => ⟨S_, .f32⟩
  | .hbm, ⟨38, _⟩ => ⟨S128x1x232, .f32⟩
  | .hbm, ⟨39, _⟩ => ⟨S128x1x11284, .f32⟩
  | .hbm, ⟨40, _⟩ => ⟨S128x1x236, .f32⟩
  | .hbm, ⟨41, _⟩ => ⟨S128x1x11520, .f32⟩
  | .hbm, ⟨42, _⟩ => ⟨S128x11520, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== SsdConv.lean ====
abbrev S128x11520 : Shape := ⟨2, ![128, 11520]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x4x128x128 : Shape := ⟨5, ![4, 128, 4, 128, 128]⟩
abbrev S4x3x128x1024 : Shape := ⟨4, ![4, 3, 128, 1024]⟩
abbrev S1x1024 : Shape := ⟨2, ![1, 1024]⟩
abbrev S_ : Shape := ⟨0, ![]⟩
abbrev S256 : Shape := ⟨1, ![256]⟩
abbrev S1x256 : Shape := ⟨2, ![1, 256]⟩
abbrev S8x64 : Shape := ⟨2, ![8, 64]⟩
abbrev S1x512 : Shape := ⟨2, ![1, 512]⟩
abbrev S128x512 : Shape := ⟨2, ![128, 512]⟩
abbrev S3x128x1024 : Shape := ⟨3, ![3, 128, 1024]⟩
abbrev S128x4x128x128 : Shape := ⟨4, ![128, 4, 128, 128]⟩
abbrev S8x512 : Shape := ⟨2, ![8, 512]⟩
abbrev S8x1024 : Shape := ⟨2, ![8, 1024]⟩
abbrev S8x256 : Shape := ⟨2, ![8, 256]⟩
abbrev S1x3x8x1024 : Shape := ⟨4, ![1, 3, 8, 1024]⟩
abbrev S1x8x4x128x128 : Shape := ⟨5, ![1, 8, 4, 128, 128]⟩
abbrev S3x8x1024 : Shape := ⟨3, ![3, 8, 1024]⟩
abbrev S8x4x128x128 : Shape := ⟨4, ![8, 4, 128, 128]⟩
abbrev S1x1x8x1024 : Shape := ⟨4, ![1, 1, 8, 1024]⟩
abbrev S1x8x1024 : Shape := ⟨3, ![1, 8, 1024]⟩
abbrev S8x128 : Shape := ⟨2, ![8, 128]⟩
abbrev S1x128 : Shape := ⟨2, ![1, 128]⟩
abbrev S128x1 : Shape := ⟨2, ![128, 1]⟩
abbrev S8x1 : Shape := ⟨2, ![8, 1]⟩
abbrev S32x128 : Shape := ⟨2, ![32, 128]⟩
abbrev S128x32 : Shape := ⟨2, ![128, 32]⟩
abbrev S128x8 : Shape := ⟨2, ![128, 8]⟩
abbrev S1x1 : Shape := ⟨2, ![1, 1]⟩
abbrev S1x1x1x128x128 : Shape := ⟨5, ![1, 1, 1, 128, 128]⟩
abbrev S128x128 : Shape := ⟨2, ![128, 128]⟩
abbrev S1x1x128x128 : Shape := ⟨4, ![1, 1, 128, 128]⟩

abbrev nBuf : Space → Nat
  | .hbm => 29
  | .vmem => 22
  | .smem => 0
  | _ => 0

abbrev bufTy : (tb : Table) → Fin (tcTables nBuf tb) → BufTy
  | .hbm, ⟨0, _⟩ => ⟨S128x11520, .f32⟩
  | .hbm, ⟨1, _⟩ => ⟨S4x128x3x1024, .f32⟩
  | .hbm, ⟨2, _⟩ => ⟨S4x128x8x64x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S4x128x4x128x128, .f32⟩
  | .hbm, ⟨10, _⟩ => ⟨S4x3x128x1024, .f32⟩
  | .hbm, ⟨11, _⟩ => ⟨S1x1024, .f32⟩
  | .hbm, ⟨12, _⟩ => ⟨S_, .f32⟩
  | .hbm, ⟨13, _⟩ => ⟨S256, .f32⟩
  | .hbm, ⟨14, _⟩ => ⟨S_, .i32⟩
  | .hbm, ⟨15, _⟩ => ⟨S256, .f32⟩
  | .hbm, ⟨16, _⟩ => ⟨S1x256, .f32⟩
  | .hbm, ⟨17, _⟩ => ⟨S_, .f32⟩
  | .hbm, ⟨18, _⟩ => ⟨S256, .f32⟩
  | .hbm, ⟨19, _⟩ => ⟨S_, .i32⟩
  | .hbm, ⟨20, _⟩ => ⟨S256, .f32⟩
  | .hbm, ⟨21, _⟩ => ⟨S1x256, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x512, .f32⟩
  | .hbm, ⟨26, _⟩ => ⟨S128x512, .f32⟩
  | .hbm, ⟨27, _⟩ => ⟨S3x128x1024, .f32⟩
  | .hbm, ⟨28, _⟩ => ⟨S128x4x128x128, .f32⟩
  | .local _ .vmem, ⟨0, _⟩ => ⟨S8x512, .f32⟩
  | .local _ .vmem, ⟨1, _⟩ => ⟨S8x512, .f32⟩
  | .local _ .vmem, ⟨2, _⟩ => ⟨S8x1024, .f32⟩
  | .local _ .vmem, ⟨3, _⟩ => ⟨S8x1024, .f32⟩
  | .local _ .vmem, ⟨4, _⟩ => ⟨S8x256, .f32⟩
  | .local _ .vmem, ⟨5, _⟩ => ⟨S8x256, .f32⟩
  | .local _ .vmem, ⟨6, _⟩ => ⟨S1x3x8x1024, .f32⟩
  | .local _ .vmem, ⟨7, _⟩ => ⟨S1x3x8x1024, .f32⟩
  | .local _ .vmem, ⟨8, _⟩ => ⟨S1x8x4x128x128, .f32⟩
  | .local _ .vmem, ⟨9, _⟩ => ⟨S1x8x4x128x128, .f32⟩
  | .local _ .vmem, ⟨10, _⟩ => ⟨S4x1024, .f32⟩
  | .local _ .vmem, ⟨11, _⟩ => ⟨S1x1024, .f32⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S1x512, .f32⟩
  | .local _ .vmem, ⟨16, _⟩ => ⟨S8x512, .f32⟩
  | .local _ .vmem, ⟨17, _⟩ => ⟨S8x512, .f32⟩
  | .local _ .vmem, ⟨18, _⟩ => ⟨S3x8x1024, .f32⟩
  | .local _ .vmem, ⟨19, _⟩ => ⟨S3x8x1024, .f32⟩
  | .local _ .vmem, ⟨20, _⟩ => ⟨S8x4x128x128, .f32⟩
  | .local _ .vmem, ⟨21, _⟩ => ⟨S8x4x128x128, .f32⟩
  | _, _ => ⟨S128x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SsdConvRefIdeal.lean ====
abbrev S128x11520 : Shape := ⟨2, ![128, 11520]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S128x1024 : Shape := ⟨2, ![128, 1024]⟩
abbrev S128x1x1024 : Shape := ⟨3, ![128, 1, 1024]⟩
abbrev S1x128x3x1024 : Shape := ⟨4, ![1, 128, 3, 1024]⟩
abbrev S128x3x1024 : Shape := ⟨3, ![128, 3, 1024]⟩
abbrev S128x4x1024 : Shape := ⟨3, ![128, 4, 1024]⟩
abbrev S3x128x1024 : Shape := ⟨3, ![3, 128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S128x11520, .f32⟩
  | .hbm, ⟨1, _⟩ => ⟨S4x128x3x1024, .f32⟩
  | .hbm, ⟨2, _⟩ => ⟨S4x128x8x64x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S128x1024, .f32⟩
  | .hbm, ⟨10, _⟩ => ⟨S128x1x1024, .f32⟩
  | .hbm, ⟨11, _⟩ => ⟨S1x128x3x1024, .f32⟩
  | .hbm, ⟨12, _⟩ => ⟨S128x3x1024, .f32⟩
  | .hbm, ⟨13, _⟩ => ⟨S128x4x1024, .f32⟩
  | .hbm, ⟨14, _⟩ => ⟨S128x3x1024, .f32⟩
  | .hbm, ⟨15, _⟩ => ⟨S3x128x1024, .f32⟩
  | _, _ => ⟨S128x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== GdnConv.lean ====
abbrev S128x11520 : Shape := ⟨2, ![128, 11520]⟩
abbrev S4x128x3x1536 : Shape := ⟨4, ![4, 128, 3, 1536]⟩
abbrev S4x128x4x128x128 : Shape := ⟨5, ![4, 128, 4, 128, 128]⟩
abbrev S4x1536 : Shape := ⟨2, ![4, 1536]⟩
abbrev S4 : Shape := ⟨1, ![4]⟩
abbrev S128 : Shape := ⟨1, ![128]⟩
abbrev S4x3x128x1536 : Shape := ⟨4, ![4, 3, 128, 1536]⟩
abbrev S_ : Shape := ⟨0, ![]⟩
abbrev S256 : Shape := ⟨1, ![256]⟩
abbrev S1x256 : Shape := ⟨2, ![1, 256]⟩
abbrev S1x128 : Shape := ⟨2, ![1, 128]⟩
abbrev S128x512 : Shape := ⟨2, ![128, 512]⟩
abbrev S3x128x1536 : Shape := ⟨3, ![3, 128, 1536]⟩
abbrev S128x4x128x128 : Shape := ⟨4, ![128, 4, 128, 128]⟩
abbrev S8x1536 : Shape := ⟨2, ![8, 1536]⟩
abbrev S8x512 : Shape := ⟨2, ![8, 512]⟩
abbrev S8x256 : Shape := ⟨2, ![8, 256]⟩
abbrev S1x3x8x1536 : Shape := ⟨4, ![1, 3, 8, 1536]⟩
abbrev S1x8x4x128x128 : Shape := ⟨5, ![1, 8, 4, 128, 128]⟩
abbrev S3x8x1536 : Shape := ⟨3, ![3, 8, 1536]⟩
abbrev S8x4x128x128 : Shape := ⟨4, ![8, 4, 128, 128]⟩
abbrev S1x1x8x1536 : Shape := ⟨4, ![1, 1, 8, 1536]⟩
abbrev S1x8x1536 : Shape := ⟨3, ![1, 8, 1536]⟩
abbrev S1x1536 : Shape := ⟨2, ![1, 1536]⟩
abbrev S8x128 : Shape := ⟨2, ![8, 128]⟩
abbrev S8 : Shape := ⟨1, ![8]⟩
abbrev S8x1 : Shape := ⟨2, ![8, 1]⟩
abbrev S16x128 : Shape := ⟨2, ![16, 128]⟩
abbrev S1x1x1x128x128 : Shape := ⟨5, ![1, 1, 1, 128, 128]⟩
abbrev S128x128 : Shape := ⟨2, ![128, 128]⟩
abbrev S32x128 : Shape := ⟨2, ![32, 128]⟩
abbrev S128x32 : Shape := ⟨2, ![128, 32]⟩
abbrev S1x1 : Shape := ⟨2, ![1, 1]⟩
abbrev S1x1x128x128 : Shape := ⟨4, ![1, 1, 128, 128]⟩

abbrev nBuf : Space → Nat
  | .hbm => 22
  | .vmem => 20
  | .smem => 0
  | _ => 0

abbrev bufTy : (tb : Table) → Fin (tcTables nBuf tb) → BufTy
  | .hbm, ⟨0, _⟩ => ⟨S128x11520, .f32⟩
  | .hbm, ⟨1, _⟩ => ⟨S4x128x3x1536, .f32⟩
  | .hbm, ⟨2, _⟩ => ⟨S4x128x4x128x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S4x3x128x1536, .f32⟩
  | .hbm, ⟨8, _⟩ => ⟨S_, .f32⟩
  | .hbm, ⟨9, _⟩ => ⟨S256, .f32⟩
  | .hbm, ⟨10, _⟩ => ⟨S_, .i32⟩
  | .hbm, ⟨11, _⟩ => ⟨S256, .f32⟩
  | .hbm, ⟨12, _⟩ => ⟨S1x256, .f32⟩
  | .hbm, ⟨13, _⟩ => ⟨S_, .f32⟩
  | .hbm, ⟨14, _⟩ => ⟨S256, .f32⟩
  | .hbm, ⟨15, _⟩ => ⟨S_, .i32⟩
  | .hbm, ⟨16, _⟩ => ⟨S256, .f32⟩
  | .hbm, ⟨17, _⟩ => ⟨S1x256, .f32⟩
  | .hbm, ⟨18, _⟩ => ⟨S1x128, .f32⟩
  | .hbm, ⟨19, _⟩ => ⟨S128x512, .f32⟩
  | .hbm, ⟨20, _⟩ => ⟨S3x128x1536, .f32⟩
  | .hbm, ⟨21, _⟩ => ⟨S128x4x128x128, .f32⟩
  | .local _ .vmem, ⟨0, _⟩ => ⟨S8x1536, .f32⟩
  | .local _ .vmem, ⟨1, _⟩ => ⟨S8x1536, .f32⟩
  | .local _ .vmem, ⟨2, _⟩ => ⟨S8x512, .f32⟩
  | .local _ .vmem, ⟨3, _⟩ => ⟨S8x512, .f32⟩
  | .local _ .vmem, ⟨4, _⟩ => ⟨S8x256, .f32⟩
  | .local _ .vmem, ⟨5, _⟩ => ⟨S8x256, .f32⟩
  | .local _ .vmem, ⟨6, _⟩ => ⟨S1x3x8x1536, .f32⟩
  | .local _ .vmem, ⟨7, _⟩ => ⟨S1x3x8x1536, .f32⟩
  | .local _ .vmem, ⟨8, _⟩ => ⟨S1x8x4x128x128, .f32⟩
  | .local _ .vmem, ⟨9, _⟩ => ⟨S1x8x4x128x128, .f32⟩
  | .local _ .vmem, ⟨10, _⟩ => ⟨S4x1536, .f32⟩
  | .local _ .vmem, ⟨11, _⟩ => ⟨S1x256, .f32⟩
  | .local _ .vmem, ⟨12, _⟩ => ⟨S1x256, .f32⟩
  | .local _ .vmem, ⟨13, _⟩ => ⟨S1x128, .f32⟩
  | .local _ .vmem, ⟨14, _⟩ => ⟨S8x512, .f32⟩
  | .local _ .vmem, ⟨15, _⟩ => ⟨S8x512, .f32⟩
  | .local _ .vmem, ⟨16, _⟩ => ⟨S3x8x1536, .f32⟩
  | .local _ .vmem, ⟨17, _⟩ => ⟨S3x8x1536, .f32⟩
  | .local _ .vmem, ⟨18, _⟩ => ⟨S8x4x128x128, .f32⟩
  | .local _ .vmem, ⟨19, _⟩ => ⟨S8x4x128x128, .f32⟩
  | _, _ => ⟨S128x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x8x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GdnConvRefIdeal.lean ====
abbrev S128x11520 : Shape := ⟨2, ![128, 11520]⟩
abbrev S4x128x3x1536 : Shape := ⟨4, ![4, 128, 3, 1536]⟩
abbrev S4x128x4x128x128 : Shape := ⟨5, ![4, 128, 4, 128, 128]⟩
abbrev S4x1536 : Shape := ⟨2, ![4, 1536]⟩
abbrev S4 : Shape := ⟨1, ![4]⟩
abbrev S128 : Shape := ⟨1, ![128]⟩
abbrev S128x1536 : Shape := ⟨2, ![128, 1536]⟩
abbrev S128x1x1536 : Shape := ⟨3, ![128, 1, 1536]⟩
abbrev S1x128x3x1536 : Shape := ⟨4, ![1, 128, 3, 1536]⟩
abbrev S128x3x1536 : Shape := ⟨3, ![128, 3, 1536]⟩
abbrev S128x4x1536 : Shape := ⟨3, ![128, 4, 1536]⟩
abbrev S3x128x1536 : Shape := ⟨3, ![3, 128, 1536]⟩

abbrev nBuf : Space → Nat
  | .hbm => 14
  | .vmem => 0
  | .smem => 0
  | _ => 0

abbrev bufTy : (tb : Table) → Fin (tcTables nBuf tb) → BufTy
  | .hbm, ⟨0, _⟩ => ⟨S128x11520, .f32⟩
  | .hbm, ⟨1, _⟩ => ⟨S4x128x3x1536, .f32⟩
  | .hbm, ⟨2, _⟩ => ⟨S4x128x4x128x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S128x1536, .f32⟩
  | .hbm, ⟨8, _⟩ => ⟨S128x1x1536, .f32⟩
  | .hbm, ⟨9, _⟩ => ⟨S1x128x3x1536, .f32⟩
  | .hbm, ⟨10, _⟩ => ⟨S128x3x1536, .f32⟩
  | .hbm, ⟨11, _⟩ => ⟨S128x4x1536, .f32⟩
  | .hbm, ⟨12, _⟩ => ⟨S128x3x1536, .f32⟩
  | .hbm, ⟨13, _⟩ => ⟨S3x128x1536, .f32⟩
  | _, _ => ⟨S128x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== MlstmStep.lean ====
abbrev S128x11520 : Shape := ⟨2, ![128, 11520]⟩
abbrev S4x128x4x128x128 : Shape := ⟨5, ![4, 128, 4, 128, 128]⟩
abbrev S4x128x4x128 : Shape := ⟨4, ![4, 128, 4, 128]⟩
abbrev S4x128x4 : Shape := ⟨3, ![4, 128, 4]⟩
abbrev S4 : Shape := ⟨1, ![4]⟩
abbrev S128 : Shape := ⟨1, ![128]⟩
abbrev S4x512x128 : Shape := ⟨3, ![4, 512, 128]⟩
abbrev S_ : Shape := ⟨0, ![]⟩
abbrev S256 : Shape := ⟨1, ![256]⟩
abbrev S1x256 : Shape := ⟨2, ![1, 256]⟩
abbrev S1x128 : Shape := ⟨2, ![1, 128]⟩
abbrev S128x512 : Shape := ⟨2, ![128, 512]⟩
abbrev S128x4x128x128 : Shape := ⟨4, ![128, 4, 128, 128]⟩
abbrev S4x128x128 : Shape := ⟨3, ![4, 128, 128]⟩
abbrev S128x4 : Shape := ⟨2, ![128, 4]⟩
abbrev S8x512 : Shape := ⟨2, ![8, 512]⟩
abbrev S8x256 : Shape := ⟨2, ![8, 256]⟩
abbrev S1x8x4x128x128 : Shape := ⟨5, ![1, 8, 4, 128, 128]⟩
abbrev S1x32x128 : Shape := ⟨3, ![1, 32, 128]⟩
abbrev S1x8x4 : Shape := ⟨3, ![1, 8, 4]⟩
abbrev S8x4x128x128 : Shape := ⟨4, ![8, 4, 128, 128]⟩
abbrev S4x8x128 : Shape := ⟨3, ![4, 8, 128]⟩
abbrev S8x4 : Shape := ⟨2, ![8, 4]⟩
abbrev S8x128 : Shape := ⟨2, ![8, 128]⟩
abbrev S8x1 : Shape := ⟨2, ![8, 1]⟩
abbrev S8 : Shape := ⟨1, ![8]⟩
abbrev S1x8x128 : Shape := ⟨3, ![1, 8, 128]⟩
abbrev S1x1x1x128x128 : Shape := ⟨5, ![1, 1, 1, 128, 128]⟩
abbrev S128x128 : Shape := ⟨2, ![128, 128]⟩
abbrev S32x128 : Shape := ⟨2, ![32, 128]⟩
abbrev S128x32 : Shape := ⟨2, ![128, 32]⟩
abbrev S1x1 : Shape := ⟨2, ![1, 1]⟩
abbrev S1x1x128x128 : Shape := ⟨4, ![1, 1, 128, 128]⟩

abbrev nBuf : Space → Nat
  | .hbm => 20
  | .vmem => 26
  | .smem => 0
  | _ => 0

abbrev bufTy : (tb : Table) → Fin (tcTables nBuf tb) → BufTy
  | .hbm, ⟨0, _⟩ => ⟨S128x11520, .f32⟩
  | .hbm, ⟨1, _⟩ => ⟨S4x128x4x128x128, .f32⟩
  | .hbm, ⟨2, _⟩ => ⟨S4x128x4x128, .f32⟩
  | .hbm, ⟨3, _⟩ => ⟨S4x128x4, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S4x512x128, .f32⟩
  | .hbm, ⟨8, _⟩ => ⟨S_, .f32⟩
  | .hbm, ⟨9, _⟩ => ⟨S256, .f32⟩
  | .hbm, ⟨10, _⟩ => ⟨S_, .i32⟩
  | .hbm, ⟨11, _⟩ => ⟨S256, .f32⟩
  | .hbm, ⟨12, _⟩ => ⟨S_, .i32⟩
  | .hbm, ⟨13, _⟩ => ⟨S256, .f32⟩
  | .hbm, ⟨14, _⟩ => ⟨S1x256, .f32⟩
  | .hbm, ⟨15, _⟩ => ⟨S1x128, .f32⟩
  | .hbm, ⟨16, _⟩ => ⟨S128x512, .f32⟩
  | .hbm, ⟨17, _⟩ => ⟨S128x4x128x128, .f32⟩
  | .hbm, ⟨18, _⟩ => ⟨S4x128x128, .f32⟩
  | .hbm, ⟨19, _⟩ => ⟨S128x4, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x256, .f32⟩
  | .local _ .vmem, ⟨9, _⟩ => ⟨S8x256, .f32⟩
  | .local _ .vmem, ⟨10, _⟩ => ⟨S1x8x4x128x128, .f32⟩
  | .local _ .vmem, ⟨11, _⟩ => ⟨S1x8x4x128x128, .f32⟩
  | .local _ .vmem, ⟨12, _⟩ => ⟨S1x32x128, .f32⟩
  | .local _ .vmem, ⟨13, _⟩ => ⟨S1x32x128, .f32⟩
  | .local _ .vmem, ⟨14, _⟩ => ⟨S1x8x4, .f32⟩
  | .local _ .vmem, ⟨15, _⟩ => ⟨S1x8x4, .f32⟩
  | .local _ .vmem, ⟨16, _⟩ => ⟨S1x256, .f32⟩
  | .local _ .vmem, ⟨17, _⟩ => ⟨S1x128, .f32⟩
  | .local _ .vmem, ⟨18, _⟩ => ⟨S8x512, .f32⟩
  | .local _ .vmem, ⟨19, _⟩ => ⟨S8x512, .f32⟩
  | .local _ .vmem, ⟨20, _⟩ => ⟨S8x4x128x128, .f32⟩
  | .local _ .vmem, ⟨21, _⟩ => ⟨S8x4x128x128, .f32⟩
  | .local _ .vmem, ⟨22, _⟩ => ⟨S4x8x128, .f32⟩
  | .local _ .vmem, ⟨23, _⟩ => ⟨S4x8x128, .f32⟩
  | .local _ .vmem, ⟨24, _⟩ => ⟨S8x4, .f32⟩
  | .local _ .vmem, ⟨25, _⟩ => ⟨S8x4, .f32⟩
  | _, _ => ⟨S128x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MlstmStepRefIdeal.lean ====
abbrev S128x11520 : Shape := ⟨2, ![128, 11520]⟩
abbrev S4x128x4x128x128 : Shape := ⟨5, ![4, 128, 4, 128, 128]⟩
abbrev S4x128x4x128 : Shape := ⟨4, ![4, 128, 4, 128]⟩
abbrev S4x128x4 : Shape := ⟨3, ![4, 128, 4]⟩
abbrev S4 : Shape := ⟨1, ![4]⟩
abbrev S128 : Shape := ⟨1, ![128]⟩
abbrev S128x512 : Shape := ⟨2, ![128, 512]⟩
abbrev S128x4 : Shape := ⟨2, ![128, 4]⟩
abbrev S1x4 : Shape := ⟨2, ![1, 4]⟩
abbrev S128x4x1 : Shape := ⟨3, ![128, 4, 1]⟩
abbrev S_ : Shape := ⟨0, ![]⟩
abbrev S128x4x1x128 : Shape := ⟨4, ![128, 4, 1, 128]⟩
abbrev S1x128x4x128x128 : Shape := ⟨5, ![1, 128, 4, 128, 128]⟩
abbrev S128x4x128x128 : Shape := ⟨4, ![128, 4, 128, 128]⟩
abbrev S1x128x4x128 : Shape := ⟨4, ![1, 128, 4, 128]⟩
abbrev S128x4x128 : Shape := ⟨3, ![128, 4, 128]⟩
abbrev S1x128x4 : Shape := ⟨3, ![1, 128, 4]⟩
abbrev S128x4x1x1 : Shape := ⟨4, ![128, 4, 1, 1]⟩
abbrev S1x1x1x128 : Shape := ⟨4, ![1, 1, 1, 128]⟩
abbrev S4x128x128 : Shape := ⟨3, ![4, 128, 128]⟩

abbrev nBuf : Space → Nat
  | .hbm => 137
  | .vmem => 0
  | .smem => 0
  | _ => 0

abbrev hbmTy0_0 (i : Nat) : BufTy := match i % 128 with
  | 0 => ⟨S128x11520, .f32⟩
  | 1 => ⟨S4x128x4x128x128, .f32⟩
  | 2 => ⟨S4x128x4x128, .f32⟩
  | 3 => ⟨S4x128x4, .f32⟩
  | 4 => ⟨S4, .f32⟩
  | 5 => ⟨S4, .f32⟩
  | 6 => ⟨S128, .f32⟩
  | 7 => ⟨S128x512, .f32⟩
  | 8 => ⟨S128x512, .f32⟩
  | 9 => ⟨S128x512, .f32⟩
  | 10 => ⟨S128x512, .f32⟩
  | 11 => ⟨S128x4, .f32⟩
  | 12 => ⟨S1x4, .f32⟩
  | 13 => ⟨S128x4, .f32⟩
  | 14 => ⟨S128x4, .f32⟩
  | 15 => ⟨S128x4x1, .f32⟩
  | 16 => ⟨S128x4, .f32⟩
  | 17 => ⟨S1x4, .f32⟩
  | 18 => ⟨S128x4, .f32⟩
  | 19 => ⟨S128x4, .f32⟩
  | 20 => ⟨S128x4, .f32⟩
  | 21 => ⟨S_, .f32⟩
  | 22 => ⟨S128x4, .f32⟩
  | 23 => ⟨S128x4, .f32⟩
  | 24 => ⟨S128x4, .f32⟩
  | 25 => ⟨S128x4, .f32⟩
  | 26 => ⟨S128x4, .i1⟩
  | 27 => ⟨S128x4, .f32⟩
  | 28 => ⟨S128x4, .f32⟩
  | 29 => ⟨S128x4, .f32⟩
  | 30 => ⟨S128x4, .f32⟩
  | 31 => ⟨S128x4, .f32⟩
  | 32 => ⟨S128x4, .f32⟩
  | 33 => ⟨S128x4, .f32⟩
  | 34 => ⟨S128x4, .f32⟩
  | 35 => ⟨S128x4, .f32⟩
  | 36 => ⟨S128x4x1, .f32⟩
  | 37 => ⟨S128x4x1x128, .f32⟩
  | 38 => ⟨S128x4x1x128, .f32⟩
  | 39 => ⟨S_, .f32⟩
  | 40 => ⟨S128x4x1x128, .f32⟩
  | 41 => ⟨S128x4x1x128, .f32⟩
  | 42 => ⟨S128x4x1x128, .f32⟩
  | 43 => ⟨S1x128x4x128x128, .f32⟩
  | 44 => ⟨S128x4x128x128, .f32⟩
  | 45 => ⟨S1x128x4x128, .f32⟩
  | 46 => ⟨S128x4x128, .f32⟩
  | 47 => ⟨S1x128x4, .f32⟩
  | 48 => ⟨S128x4, .f32⟩
  | 49 => ⟨S128x4x1x1, .f32⟩
  | 50 => ⟨S128x4x1x1, .f32⟩
  | 51 => ⟨S128x4x1x1, .f32⟩
  | 52 => ⟨S128x4x1x1, .f32⟩
  | 53 => ⟨S128x4x1x1, .f32⟩
  | 54 => ⟨S128x4x1, .f32⟩
  | 55 => ⟨S128x4x1, .f32⟩
  | 56 => ⟨S128x4x1, .f32⟩
  | 57 => ⟨S128x4x1, .f32⟩
  | 58 => ⟨S_, .f32⟩
  | 59 => ⟨S128x4x1, .f32⟩
  | 60 => ⟨S128x4x1, .f32⟩
  | 61 => ⟨S128x4x1, .f32⟩
  | 62 => ⟨S128x4x1, .f32⟩
  | 63 => ⟨S128x4x1, .f32⟩
  | 64 => ⟨S128x4x1, .f32⟩
  | 65 => ⟨S128x4x1x1, .f32⟩
  | 66 => ⟨S128x4x1x1, .f32⟩
  | 67 => ⟨S128x4x1x1, .f32⟩
  | 68 => ⟨S128x4x1x1, .f32⟩
  | 69 => ⟨S128x4x1x1, .f32⟩
  | 70 => ⟨S128x4x1x1, .f32⟩
  | 71 => ⟨S128x4x1x128, .f32⟩
  | 72 => ⟨S128x4x1x128, .f32⟩
  | 73 => ⟨S128x4x1x128, .f32⟩
  | 74 => ⟨S128x4x1x128, .f32⟩
  | 75 => ⟨S128x4x1x128, .f32⟩
  | 76 => ⟨S128x4x1, .f32⟩
  | 77 => ⟨S128x4x1, .f32⟩
  | 78 => ⟨S_, .f32⟩
  | 79 => ⟨S128x4x1, .f32⟩
  | 80 => ⟨S128x4x1, .f32⟩
  | 81 => ⟨S128x4x1, .f32⟩
  | 82 => ⟨S128x4x1, .f32⟩
  | 83 => ⟨S128x4x1, .f32⟩
  | 84 => ⟨S128x4x1, .f32⟩
  | 85 => ⟨S128x4x1x1, .f32⟩
  | 86 => ⟨S128x4x1x128, .f32⟩
  | 87 => ⟨S128x4x1x128, .f32⟩
  | 88 => ⟨S128x4, .f32⟩
  | 89 => ⟨S128x4, .f32⟩
  | 90 => ⟨S128x4, .f32⟩
  | 91 => ⟨S128x4, .f32⟩
  | 92 => ⟨S128x4, .f32⟩
  | 93 => ⟨S128x4x1, .f32⟩
  | 94 => ⟨S128x4x1, .f32⟩
  | 95 => ⟨S128x4x1, .f32⟩
  | 96 => ⟨S128x4x1x1, .f32⟩
  | 97 => ⟨S128x4x128x128, .f32⟩
  | 98 => ⟨S128x4x128x128, .f32⟩
  | 99 => ⟨S128x4x1x1, .f32⟩
  | 100 => ⟨S128x4x1x128, .f32⟩
  | 101 => ⟨S128x4x1x128, .f32⟩
  | 102 => ⟨S128x4x128x128, .f32⟩
  | 103 => ⟨S128x4x128x128, .f32⟩
  | 104 => ⟨S128x4x1, .f32⟩
  | 105 => ⟨S128x4x128, .f32⟩
  | 106 => ⟨S128x4x128, .f32⟩
  | 107 => ⟨S128x4x128, .f32⟩
  | 108 => ⟨S128x4x128, .f32⟩
  | 109 => ⟨S128x4x1x128, .f32⟩
  | 110 => ⟨S_, .f32⟩
  | 111 => ⟨S128x4x1, .f32⟩
  | 112 => ⟨S128x4x1x1, .f32⟩
  | 113 => ⟨S_, .f32⟩
  | 114 => ⟨S128x4x1x1, .f32⟩
  | 115 => ⟨S128x4x1x1, .f32⟩
  | 116 => ⟨S_, .f32⟩
  | 117 => ⟨S128x4x1x1, .f32⟩
  | 118 => ⟨S128x4x1x1, .f32⟩
  | 119 => ⟨S128x4x1x1, .f32⟩
  | 120 => ⟨S128x4x1x128, .f32⟩
  | 121 => ⟨S128x4x1x128, .f32⟩
  | 122 => ⟨S1x1x1x128, .f32⟩
  | 123 => ⟨S128x4x1x128, .f32⟩
  | 124 => ⟨S128x4x1x128, .f32⟩
  | 125 => ⟨S128x4x1x128, .f32⟩
  | 126 => ⟨S128x4x1x128, .f32⟩
  | 127 => ⟨S128x4x1x128, .f32⟩
  | _ => ⟨S128x11520, .f32⟩

abbrev hbmTy0_1 (i : Nat) : BufTy := match i % 128 with
  | 0 => ⟨S_, .f32⟩
  | 1 => ⟨S128x4x1x128, .f32⟩
  | 2 => ⟨S128x4x1x128, .f32⟩
  | 3 => ⟨S_, .f32⟩
  | 4 => ⟨S128x4x1x128, .f32⟩
  | 5 => ⟨S128x4x1x128, .f32⟩
  | 6 => ⟨S128x4x1x128, .f32⟩
  | 7 => ⟨S128x512, .f32⟩
  | 8 => ⟨S4x128x128, .f32⟩
  | _ => ⟨S128x11520, .f32⟩

abbrev hbmTy (i : Nat) : BufTy := match i / 128 with
  | 0 => hbmTy0_0 i
  | 1 => hbmTy0_1 i
  | _ => ⟨S128x11520, .f32⟩

abbrev bufTy : (tb : Table) → Fin (tcTables nBuf tb) → BufTy
  | .hbm, ⟨i, _⟩ => hbmTy i
  | _, _ => ⟨S128x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_1 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_2 : Ref sig .tc := ⟨.hbm, 110, rfl⟩
abbrev main_v85 : Ref sig .tc := ⟨.hbm, 111, rfl⟩
abbrev main_v86 : Ref sig .tc := ⟨.hbm, 112, rfl⟩
abbrev main_cst_3 : Ref sig .tc := ⟨.hbm, 113, rfl⟩
abbrev main_v87 : Ref sig .tc := ⟨.hbm, 114, rfl⟩
abbrev main_v88 : Ref sig .tc := ⟨.hbm, 115, rfl⟩
abbrev main_cst_4 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_5 : Ref sig .tc := ⟨.hbm, 128, rfl⟩
abbrev main_v100 : Ref sig .tc := ⟨.hbm, 129, rfl⟩
abbrev main_v101 : Ref sig .tc := ⟨.hbm, 130, rfl⟩
abbrev main_cst_6 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩

abbrev nD : Nat := 1
abbrev τ : Topo := Topo.v7x

variable {F : FTy → Type} [FloatOps F]
-- ==== SsdState.lean ====
abbrev S128x11520 : Shape := ⟨2, ![128, 11520]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x4x128x128 : Shape := ⟨5, ![4, 128, 4, 128, 128]⟩
abbrev S4x3x128x1024 : Shape := ⟨4, ![4, 3, 128, 1024]⟩
abbrev S1x1024 : Shape := ⟨2, ![1, 1024]⟩
abbrev S_ : Shape := ⟨0, ![]⟩
abbrev S256 : Shape := ⟨1, ![256]⟩
abbrev S1x256 : Shape := ⟨2, ![1, 256]⟩
abbrev S8x64 : Shape := ⟨2, ![8, 64]⟩
abbrev S1x512 : Shape := ⟨2, ![1, 512]⟩
abbrev S128x512 : Shape := ⟨2, ![128, 512]⟩
abbrev S3x128x1024 : Shape := ⟨3, ![3, 128, 1024]⟩
abbrev S128x4x128x128 : Shape := ⟨4, ![128, 4, 128, 128]⟩
abbrev S8x512 : Shape := ⟨2, ![8, 512]⟩
abbrev S8x1024 : Shape := ⟨2, ![8, 1024]⟩
abbrev S8x256 : Shape := ⟨2, ![8, 256]⟩
abbrev S1x3x8x1024 : Shape := ⟨4, ![1, 3, 8, 1024]⟩
abbrev S1x8x4x128x128 : Shape := ⟨5, ![1, 8, 4, 128, 128]⟩
abbrev S3x8x1024 : Shape := ⟨3, ![3, 8, 1024]⟩
abbrev S8x4x128x128 : Shape := ⟨4, ![8, 4, 128, 128]⟩
abbrev S1x1x8x1024 : Shape := ⟨4, ![1, 1, 8, 1024]⟩
abbrev S1x8x1024 : Shape := ⟨3, ![1, 8, 1024]⟩
abbrev S8x128 : Shape := ⟨2, ![8, 128]⟩
abbrev S1x128 : Shape := ⟨2, ![1, 128]⟩
abbrev S128x1 : Shape := ⟨2, ![128, 1]⟩
abbrev S8x1 : Shape := ⟨2, ![8, 1]⟩
abbrev S32x128 : Shape := ⟨2, ![32, 128]⟩
abbrev S128x32 : Shape := ⟨2, ![128, 32]⟩
abbrev S128x8 : Shape := ⟨2, ![128, 8]⟩
abbrev S1x1 : Shape := ⟨2, ![1, 1]⟩
abbrev S1x1x1x128x128 : Shape := ⟨5, ![1, 1, 1, 128, 128]⟩
abbrev S128x128 : Shape := ⟨2, ![128, 128]⟩
abbrev S1x1x128x128 : Shape := ⟨4, ![1, 1, 128, 128]⟩

abbrev nBuf : Space → Nat
  | .hbm => 29
  | .vmem => 22
  | .smem => 0
  | _ => 0

abbrev bufTy : (tb : Table) → Fin (tcTables nBuf tb) → BufTy
  | .hbm, ⟨0, _⟩ => ⟨S128x11520, .f32⟩
  | .hbm, ⟨1, _⟩ => ⟨S4x128x3x1024, .f32⟩
  | .hbm, ⟨2, _⟩ => ⟨S4x128x8x64x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S4x128x4x128x128, .f32⟩
  | .hbm, ⟨10, _⟩ => ⟨S4x3x128x1024, .f32⟩
  | .hbm, ⟨11, _⟩ => ⟨S1x1024, .f32⟩
  | .hbm, ⟨12, _⟩ => ⟨S_, .f32⟩
  | .hbm, ⟨13, _⟩ => ⟨S256, .f32⟩
  | .hbm, ⟨14, _⟩ => ⟨S_, .i32⟩
  | .hbm, ⟨15, _⟩ => ⟨S256, .f32⟩
  | .hbm, ⟨16, _⟩ => ⟨S1x256, .f32⟩
  | .hbm, ⟨17, _⟩ => ⟨S_, .f32⟩
  | .hbm, ⟨18, _⟩ => ⟨S256, .f32⟩
  | .hbm, ⟨19, _⟩ => ⟨S_, .i32⟩
  | .hbm, ⟨20, _⟩ => ⟨S256, .f32⟩
  | .hbm, ⟨21, _⟩ => ⟨S1x256, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x512, .f32⟩
  | .hbm, ⟨26, _⟩ => ⟨S128x512, .f32⟩
  | .hbm, ⟨27, _⟩ => ⟨S3x128x1024, .f32⟩
  | .hbm, ⟨28, _⟩ => ⟨S128x4x128x128, .f32⟩
  | .local _ .vmem, ⟨0, _⟩ => ⟨S8x512, .f32⟩
  | .local _ .vmem, ⟨1, _⟩ => ⟨S8x512, .f32⟩
  | .local _ .vmem, ⟨2, _⟩ => ⟨S8x1024, .f32⟩
  | .local _ .vmem, ⟨3, _⟩ => ⟨S8x1024, .f32⟩
  | .local _ .vmem, ⟨4, _⟩ => ⟨S8x256, .f32⟩
  | .local _ .vmem, ⟨5, _⟩ => ⟨S8x256, .f32⟩
  | .local _ .vmem, ⟨6, _⟩ => ⟨S1x3x8x1024, .f32⟩
  | .local _ .vmem, ⟨7, _⟩ => ⟨S1x3x8x1024, .f32⟩
  | .local _ .vmem, ⟨8, _⟩ => ⟨S1x8x4x128x128, .f32⟩
  | .local _ .vmem, ⟨9, _⟩ => ⟨S1x8x4x128x128, .f32⟩
  | .local _ .vmem, ⟨10, _⟩ => ⟨S4x1024, .f32⟩
  | .local _ .vmem, ⟨11, _⟩ => ⟨S1x1024, .f32⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S1x512, .f32⟩
  | .local _ .vmem, ⟨16, _⟩ => ⟨S8x512, .f32⟩
  | .local _ .vmem, ⟨17, _⟩ => ⟨S8x512, .f32⟩
  | .local _ .vmem, ⟨18, _⟩ => ⟨S3x8x1024, .f32⟩
  | .local _ .vmem, ⟨19, _⟩ => ⟨S3x8x1024, .f32⟩
  | .local _ .vmem, ⟨20, _⟩ => ⟨S8x4x128x128, .f32⟩
  | .local _ .vmem, ⟨21, _⟩ => ⟨S8x4x128x128, .f32⟩
  | _, _ => ⟨S128x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SsdStateRefIdeal.lean ====
abbrev S128x11520 : Shape := ⟨2, ![128, 11520]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S128x1024 : Shape := ⟨2, ![128, 1024]⟩
abbrev S128x1x1024 : Shape := ⟨3, ![128, 1, 1024]⟩
abbrev S1x128x3x1024 : Shape := ⟨4, ![1, 128, 3, 1024]⟩
abbrev S128x3x1024 : Shape := ⟨3, ![128, 3, 1024]⟩
abbrev S128x4x1024 : Shape := ⟨3, ![128, 4, 1024]⟩
abbrev S1x1024 : Shape := ⟨2, ![1, 1024]⟩
abbrev S1x1x1024 : Shape := ⟨3, ![1, 1, 1024]⟩
abbrev S_ : Shape := ⟨0, ![]⟩
abbrev S128x1x512 : Shape := ⟨3, ![128, 1, 512]⟩
abbrev S128x1x256 : Shape := ⟨3, ![128, 1, 256]⟩
abbrev S128x1x8x64 : Shape := ⟨4, ![128, 1, 8, 64]⟩
abbrev S128x1x2x128 : Shape := ⟨4, ![128, 1, 2, 128]⟩
abbrev S128x1x2x4x128 : Shape := ⟨5, ![128, 1, 2, 4, 128]⟩
abbrev S128x1x8x128 : Shape := ⟨4, ![128, 1, 8, 128]⟩
abbrev S128x8 : Shape := ⟨2, ![128, 8]⟩
abbrev S128x1x8 : Shape := ⟨3, ![128, 1, 8]⟩
abbrev S1x1x8 : Shape := ⟨3, ![1, 1, 8]⟩
abbrev S128x1x8x1 : Shape := ⟨4, ![128, 1, 8, 1]⟩
abbrev S128x8x64x128 : Shape := ⟨4, ![128, 8, 64, 128]⟩
abbrev S1x128x8x64x128 : Shape := ⟨5, ![1, 128, 8, 64, 128]⟩
abbrev S128x8x1x1 : Shape := ⟨4, ![128, 8, 1, 1]⟩
abbrev S128x4x128x128 : Shape := ⟨4, ![128, 4, 128, 128]⟩

abbrev nBuf : Space → Nat
  | .hbm => 104
  | .vmem => 0
  | .smem => 0
  | _ => 0

abbrev bufTy : (tb : Table) → Fin (tcTables nBuf tb) → BufTy
  | .hbm, ⟨0, _⟩ => ⟨S128x11520, .f32⟩
  | .hbm, ⟨1, _⟩ => ⟨S4x128x3x1024, .f32⟩
  | .hbm, ⟨2, _⟩ => ⟨S4x128x8x64x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S128x1024, .f32⟩
  | .hbm, ⟨10, _⟩ => ⟨S128x1x1024, .f32⟩
  | .hbm, ⟨11, _⟩ => ⟨S1x128x3x1024, .f32⟩
  | .hbm, ⟨12, _⟩ => ⟨S128x3x1024, .f32⟩
  | .hbm, ⟨13, _⟩ => ⟨S128x4x1024, .f32⟩
  | .hbm, ⟨14, _⟩ => ⟨S128x1x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S_, .f32⟩
  | .hbm, ⟨21, _⟩ => ⟨S128x1x1024, .f32⟩
  | .hbm, ⟨22, _⟩ => ⟨S128x1x1024, .f32⟩
  | .hbm, ⟨23, _⟩ => ⟨S128x1x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x1x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S128x1x1024, .f32⟩
  | .hbm, ⟨42, _⟩ => ⟨S128x1x1024, .f32⟩
  | .hbm, ⟨43, _⟩ => ⟨S128x1x1024, .f32⟩
  | .hbm, ⟨44, _⟩ => ⟨S1x1x1024, .f32⟩
  | .hbm, ⟨45, _⟩ => ⟨S128x1x1024, .f32⟩
  | .hbm, ⟨46, _⟩ => ⟨S128x1x1024, .f32⟩
  | .hbm, ⟨47, _⟩ => ⟨S128x1x1024, .f32⟩
  | .hbm, ⟨48, _⟩ => ⟨S128x1x1024, .f32⟩
  | .hbm, ⟨49, _⟩ => ⟨S_, .f32⟩
  | .hbm, ⟨50, _⟩ => ⟨S128x1x1024, .f32⟩
  | .hbm, ⟨51, _⟩ => ⟨S128x1x1024, .f32⟩
  | .hbm, ⟨52, _⟩ => ⟨S_, .f32⟩
  | .hbm, ⟨53, _⟩ => ⟨S128x1x1024, .f32⟩
  | .hbm, ⟨54, _⟩ => ⟨S128x1x1024, .f32⟩
  | .hbm, ⟨55, _⟩ => ⟨S128x1x1024, .f32⟩
  | .hbm, ⟨56, _⟩ => ⟨S128x1x512, .f32⟩
  | .hbm, ⟨57, _⟩ => ⟨S128x1x256, .f32⟩
  | .hbm, ⟨58, _⟩ => ⟨S128x1x8x64, .f32⟩
  | .hbm, ⟨59, _⟩ => ⟨S128x1x2x128, .f32⟩
  | .hbm, ⟨60, _⟩ => ⟨S128x1x2x4x128, .f32⟩
  | .hbm, ⟨61, _⟩ => ⟨S128x1x8x128, .f32⟩
  | .hbm, ⟨62, _⟩ => ⟨S128x8, .f32⟩
  | .hbm, ⟨63, _⟩ => ⟨S128x1x8, .f32⟩
  | .hbm, ⟨64, _⟩ => ⟨S1x1x8, .f32⟩
  | .hbm, ⟨65, _⟩ => ⟨S128x1x8, .f32⟩
  | .hbm, ⟨66, _⟩ => ⟨S128x1x8, .f32⟩
  | .hbm, ⟨67, _⟩ => ⟨S_, .f32⟩
  | .hbm, ⟨68, _⟩ => ⟨S128x1x8, .f32⟩
  | .hbm, ⟨69, _⟩ => ⟨S128x1x8, .f32⟩
  | .hbm, ⟨70, _⟩ => ⟨S128x1x8, .f32⟩
  | .hbm, ⟨71, _⟩ => ⟨S128x1x8, .f32⟩
  | .hbm, ⟨72, _⟩ => ⟨S128x1x8, .i1⟩
  | .hbm, ⟨73, _⟩ => ⟨S128x1x8, .f32⟩
  | .hbm, ⟨74, _⟩ => ⟨S128x1x8, .f32⟩
  | .hbm, ⟨75, _⟩ => ⟨S128x1x8, .f32⟩
  | .hbm, ⟨76, _⟩ => ⟨S128x1x8, .f32⟩
  | .hbm, ⟨77, _⟩ => ⟨S128x1x8, .f32⟩
  | .hbm, ⟨78, _⟩ => ⟨S128x1x8, .f32⟩
  | .hbm, ⟨79, _⟩ => ⟨S128x1x8, .f32⟩
  | .hbm, ⟨80, _⟩ => ⟨S128x1x8, .f32⟩
  | .hbm, ⟨81, _⟩ => ⟨S8, .f32⟩
  | .hbm, ⟨82, _⟩ => ⟨S8, .f32⟩
  | .hbm, ⟨83, _⟩ => ⟨S1x1x8, .f32⟩
  | .hbm, ⟨84, _⟩ => ⟨S128x1x8, .f32⟩
  | .hbm, ⟨85, _⟩ => ⟨S128x1x8, .f32⟩
  | .hbm, ⟨86, _⟩ => ⟨S128x1x8x1, .f32⟩
  | .hbm, ⟨87, _⟩ => ⟨S128x1x8x64, .f32⟩
  | .hbm, ⟨88, _⟩ => ⟨S128x1x8x64, .f32⟩
  | .hbm, ⟨89, _⟩ => ⟨S128x1x8, .f32⟩
  | .hbm, ⟨90, _⟩ => ⟨S128x1x8, .f32⟩
  | .hbm, ⟨91, _⟩ => ⟨S128x1x8x1, .f32⟩
  | .hbm, ⟨92, _⟩ => ⟨S128x1x8x128, .f32⟩
  | .hbm, ⟨93, _⟩ => ⟨S128x1x8x128, .f32⟩
  | .hbm, ⟨94, _⟩ => ⟨S128x8x64x128, .f32⟩
  | .hbm, ⟨95, _⟩ => ⟨S128x8, .f32⟩
  | .hbm, ⟨96, _⟩ => ⟨S128x8, .f32⟩
  | .hbm, ⟨97, _⟩ => ⟨S1x128x8x64x128, .f32⟩
  | .hbm, ⟨98, _⟩ => ⟨S128x8x64x128, .f32⟩
  | .hbm, ⟨99, _⟩ => ⟨S128x8x1x1, .f32⟩
  | .hbm, ⟨100, _⟩ => ⟨S128x8x64x128, .f32⟩
  | .hbm, ⟨101, _⟩ => ⟨S128x8x64x128, .f32⟩
  | .hbm, ⟨102, _⟩ => ⟨S128x8x64x128, .f32⟩
  | .hbm, ⟨103, _⟩ => ⟨S128x4x128x128, .f32⟩
  | _, _ => ⟨S128x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== GdnState.lean ====
abbrev S128x11520 : Shape := ⟨2, ![128, 11520]⟩
abbrev S4x128x3x1536 : Shape := ⟨4, ![4, 128, 3, 1536]⟩
abbrev S4x128x4x128x128 : Shape := ⟨5, ![4, 128, 4, 128, 128]⟩
abbrev S4x1536 : Shape := ⟨2, ![4, 1536]⟩
abbrev S4 : Shape := ⟨1, ![4]⟩
abbrev S128 : Shape := ⟨1, ![128]⟩
abbrev S4x3x128x1536 : Shape := ⟨4, ![4, 3, 128, 1536]⟩
abbrev S_ : Shape := ⟨0, ![]⟩
abbrev S256 : Shape := ⟨1, ![256]⟩
abbrev S1x256 : Shape := ⟨2, ![1, 256]⟩
abbrev S1x128 : Shape := ⟨2, ![1, 128]⟩
abbrev S128x512 : Shape := ⟨2, ![128, 512]⟩
abbrev S3x128x1536 : Shape := ⟨3, ![3, 128, 1536]⟩
abbrev S128x4x128x128 : Shape := ⟨4, ![128, 4, 128, 128]⟩
abbrev S8x1536 : Shape := ⟨2, ![8, 1536]⟩
abbrev S8x512 : Shape := ⟨2, ![8, 512]⟩
abbrev S8x256 : Shape := ⟨2, ![8, 256]⟩
abbrev S1x3x8x1536 : Shape := ⟨4, ![1, 3, 8, 1536]⟩
abbrev S1x8x4x128x128 : Shape := ⟨5, ![1, 8, 4, 128, 128]⟩
abbrev S3x8x1536 : Shape := ⟨3, ![3, 8, 1536]⟩
abbrev S8x4x128x128 : Shape := ⟨4, ![8, 4, 128, 128]⟩
abbrev S1x1x8x1536 : Shape := ⟨4, ![1, 1, 8, 1536]⟩
abbrev S1x8x1536 : Shape := ⟨3, ![1, 8, 1536]⟩
abbrev S1x1536 : Shape := ⟨2, ![1, 1536]⟩
abbrev S8x128 : Shape := ⟨2, ![8, 128]⟩
abbrev S8 : Shape := ⟨1, ![8]⟩
abbrev S8x1 : Shape := ⟨2, ![8, 1]⟩
abbrev S16x128 : Shape := ⟨2, ![16, 128]⟩
abbrev S1x1x1x128x128 : Shape := ⟨5, ![1, 1, 1, 128, 128]⟩
abbrev S128x128 : Shape := ⟨2, ![128, 128]⟩
abbrev S32x128 : Shape := ⟨2, ![32, 128]⟩
abbrev S128x32 : Shape := ⟨2, ![128, 32]⟩
abbrev S1x1 : Shape := ⟨2, ![1, 1]⟩
abbrev S1x1x128x128 : Shape := ⟨4, ![1, 1, 128, 128]⟩

abbrev nBuf : Space → Nat
  | .hbm => 22
  | .vmem => 20
  | .smem => 0
  | _ => 0

abbrev bufTy : (tb : Table) → Fin (tcTables nBuf tb) → BufTy
  | .hbm, ⟨0, _⟩ => ⟨S128x11520, .f32⟩
  | .hbm, ⟨1, _⟩ => ⟨S4x128x3x1536, .f32⟩
  | .hbm, ⟨2, _⟩ => ⟨S4x128x4x128x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S4x3x128x1536, .f32⟩
  | .hbm, ⟨8, _⟩ => ⟨S_, .f32⟩
  | .hbm, ⟨9, _⟩ => ⟨S256, .f32⟩
  | .hbm, ⟨10, _⟩ => ⟨S_, .i32⟩
  | .hbm, ⟨11, _⟩ => ⟨S256, .f32⟩
  | .hbm, ⟨12, _⟩ => ⟨S1x256, .f32⟩
  | .hbm, ⟨13, _⟩ => ⟨S_, .f32⟩
  | .hbm, ⟨14, _⟩ => ⟨S256, .f32⟩
  | .hbm, ⟨15, _⟩ => ⟨S_, .i32⟩
  | .hbm, ⟨16, _⟩ => ⟨S256, .f32⟩
  | .hbm, ⟨17, _⟩ => ⟨S1x256, .f32⟩
  | .hbm, ⟨18, _⟩ => ⟨S1x128, .f32⟩
  | .hbm, ⟨19, _⟩ => ⟨S128x512, .f32⟩
  | .hbm, ⟨20, _⟩ => ⟨S3x128x1536, .f32⟩
  | .hbm, ⟨21, _⟩ => ⟨S128x4x128x128, .f32⟩
  | .local _ .vmem, ⟨0, _⟩ => ⟨S8x1536, .f32⟩
  | .local _ .vmem, ⟨1, _⟩ => ⟨S8x1536, .f32⟩
  | .local _ .vmem, ⟨2, _⟩ => ⟨S8x512, .f32⟩
  | .local _ .vmem, ⟨3, _⟩ => ⟨S8x512, .f32⟩
  | .local _ .vmem, ⟨4, _⟩ => ⟨S8x256, .f32⟩
  | .local _ .vmem, ⟨5, _⟩ => ⟨S8x256, .f32⟩
  | .local _ .vmem, ⟨6, _⟩ => ⟨S1x3x8x1536, .f32⟩
  | .local _ .vmem, ⟨7, _⟩ => ⟨S1x3x8x1536, .f32⟩
  | .local _ .vmem, ⟨8, _⟩ => ⟨S1x8x4x128x128, .f32⟩
  | .local _ .vmem, ⟨9, _⟩ => ⟨S1x8x4x128x128, .f32⟩
  | .local _ .vmem, ⟨10, _⟩ => ⟨S4x1536, .f32⟩
  | .local _ .vmem, ⟨11, _⟩ => ⟨S1x256, .f32⟩
  | .local _ .vmem, ⟨12, _⟩ => ⟨S1x256, .f32⟩
  | .local _ .vmem, ⟨13, _⟩ => ⟨S1x128, .f32⟩
  | .local _ .vmem, ⟨14, _⟩ => ⟨S8x512, .f32⟩
  | .local _ .vmem, ⟨15, _⟩ => ⟨S8x512, .f32⟩
  | .local _ .vmem, ⟨16, _⟩ => ⟨S3x8x1536, .f32⟩
  | .local _ .vmem, ⟨17, _⟩ => ⟨S3x8x1536, .f32⟩
  | .local _ .vmem, ⟨18, _⟩ => ⟨S8x4x128x128, .f32⟩
  | .local _ .vmem, ⟨19, _⟩ => ⟨S8x4x128x128, .f32⟩
  | _, _ => ⟨S128x11520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x8x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GdnStateRefIdeal.lean ====
abbrev S128x11520 : Shape := ⟨2, ![128, 11520]⟩
abbrev S4x128x3x1536 : Shape := ⟨4, ![4, 128, 3, 1536]⟩
abbrev S4x128x4x128x128 : Shape := ⟨5, ![4, 128, 4, 128, 128]⟩
abbrev S4x1536 : Shape := ⟨2, ![4, 1536]⟩
abbrev S4 : Shape := ⟨1, ![4]⟩
abbrev S128 : Shape := ⟨1, ![128]⟩
abbrev S128x1536 : Shape := ⟨2, ![128, 1536]⟩
abbrev S128x1x1536 : Shape := ⟨3, ![128, 1, 1536]⟩
abbrev S1x128x3x1536 : Shape := ⟨4, ![1, 128, 3, 1536]⟩
abbrev S128x3x1536 : Shape := ⟨3, ![128, 3, 1536]⟩
abbrev S128x4x1536 : Shape := ⟨3, ![128, 4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S128x3x4x1x128 : Shape := ⟨5, ![128, 3, 4, 1, 128]⟩
abbrev S128x1x4x1x128 : Shape := ⟨5, ![128, 1, 4, 1, 128]⟩
abbrev S128x4x1x128 : Shape := ⟨4, ![128, 4, 1, 128]⟩
abbrev S128x4x1 : Shape := ⟨3, ![128, 4, 1]⟩
abbrev S128x4x1x1 : Shape := ⟨4, ![128, 4, 1, 1]⟩
abbrev S128x4 : Shape := ⟨2, ![128, 4]⟩
abbrev S1x4 : Shape := ⟨2, ![1, 4]⟩
abbrev S1x128x4x128x128 : Shape := ⟨5, ![1, 128, 4, 128, 128]⟩
abbrev S128x4x128x128 : Shape := ⟨4, ![128, 4, 128, 128]⟩

abbrev nBuf : Space → Nat
  | .hbm => 124
  | .vmem => 0
  | .smem => 0
  | _ => 0

abbrev bufTy : (tb : Table) → Fin (tcTables nBuf tb) → BufTy
  | .hbm, ⟨0, _⟩ => ⟨S128x11520, .f32⟩
  | .hbm, ⟨1, _⟩ => ⟨S4x128x3x1536, .f32⟩
  | .hbm, ⟨2, _⟩ => ⟨S4x128x4x128x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S128x1536, .f32⟩
  | .hbm, ⟨8, _⟩ => ⟨S128x1x1536, .f32⟩
  | .hbm, ⟨9, _⟩ => ⟨S1x128x3x1536, .f32⟩
  | .hbm, ⟨10, _⟩ => ⟨S128x3x1536, .f32⟩
  | .hbm, ⟨11, _⟩ => ⟨S128x4x1536, .f32⟩
  | .hbm, ⟨12, _⟩ => ⟨S128x1x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S128x1x1536, .f32⟩
  | .hbm, ⟨17, _⟩ => ⟨S128x1x1536, .f32⟩
  | .hbm, ⟨18, _⟩ => ⟨S_, .f32⟩
  | .hbm, ⟨19, _⟩ => ⟨S128x1x1536, .f32⟩
  | .hbm, ⟨20, _⟩ => ⟨S128x1x1536, .f32⟩
  | .hbm, ⟨21, _⟩ => ⟨S128x1x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S128x1x1536, .f32⟩
  | .hbm, ⟨26, _⟩ => ⟨S128x1x1536, .f32⟩
  | .hbm, ⟨27, _⟩ => ⟨S128x1x1536, .f32⟩
  | .hbm, ⟨28, _⟩ => ⟨S128x1x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S128x1x1536, .f32⟩
  | .hbm, ⟨33, _⟩ => ⟨S128x1x1536, .f32⟩
  | .hbm, ⟨34, _⟩ => ⟨S128x1x1536, .f32⟩
  | .hbm, ⟨35, _⟩ => ⟨S128x1x1536, .f32⟩
  | .hbm, ⟨36, _⟩ => ⟨S1x1536, .f32⟩
  | .hbm, ⟨37, _⟩ => ⟨S1536, .f32⟩
  | .hbm, ⟨38, _⟩ => ⟨S1x1x1536, .f32⟩
  | .hbm, ⟨39, _⟩ => ⟨S128x1x1536, .f32⟩
  | .hbm, ⟨40, _⟩ => ⟨S128x1x1536, .f32⟩
  | .hbm, ⟨41, _⟩ => ⟨S128x1x1536, .f32⟩
  | .hbm, ⟨42, _⟩ => ⟨S128x1x1536, .f32⟩
  | .hbm, ⟨43, _⟩ => ⟨S128x1x1536, .f32⟩
  | .hbm, ⟨44, _⟩ => ⟨S_, .f32⟩
  | .hbm, ⟨45, _⟩ => ⟨S128x1x1536, .f32⟩
  | .hbm, ⟨46, _⟩ => ⟨S128x1x1536, .f32⟩
  | .hbm, ⟨47, _⟩ => ⟨S_, .f32⟩
  | .hbm, ⟨48, _⟩ => ⟨S128x1x1536, .f32⟩
  | .hbm, ⟨49, _⟩ => ⟨S128x1x1536, .f32⟩
  | .hbm, ⟨50, _⟩ => ⟨S128x1x1536, .f32⟩
  | .hbm, ⟨51, _⟩ => ⟨S128x3x4x1x128, .f32⟩
  | .hbm, ⟨52, _⟩ => ⟨S128x1x4x1x128, .f32⟩
  | .hbm, ⟨53, _⟩ => ⟨S128x4x1x128, .f32⟩
  | .hbm, ⟨54, _⟩ => ⟨S128x1x4x1x128, .f32⟩
  | .hbm, ⟨55, _⟩ => ⟨S128x4x1x128, .f32⟩
  | .hbm, ⟨56, _⟩ => ⟨S128x4x1x128, .f32⟩
  | .hbm, ⟨57, _⟩ => ⟨S_, .f32⟩
  | .hbm, ⟨58, _⟩ => ⟨S128x4x1, .f32⟩
  | .hbm, ⟨59, _⟩ => ⟨S128x4x1x1, .f32⟩
  | .hbm, ⟨60, _⟩ => ⟨S_, .f32⟩
  | .hbm, ⟨61, _⟩ => ⟨S128x4x1x1, .f32⟩
  | .hbm, ⟨62, _⟩ => ⟨S128x4x1x1, .f32⟩
  | .hbm, ⟨63, _⟩ => ⟨S128x4x1x1, .f32⟩
  | .hbm, ⟨64, _⟩ => ⟨S128x4x1x128, .f32⟩
  | .hbm, ⟨65, _⟩ => ⟨S128x4x1x128, .f32⟩
  | .hbm, ⟨66, _⟩ => ⟨S4, .f32⟩
  | .hbm, ⟨67, _⟩ => ⟨S4, .f32⟩
  | .hbm, ⟨68, _⟩ => ⟨S128x4, .f32⟩
  | .hbm, ⟨69, _⟩ => ⟨S1x4, .f32⟩
  | .hbm, ⟨70, _⟩ => ⟨S128x4, .f32⟩
  | .hbm, ⟨71, _⟩ => ⟨S128x4, .f32⟩
  | .hbm, ⟨72, _⟩ => ⟨S_, .f32⟩
  | .hbm, ⟨73, _⟩ => ⟨S128x4, .f32⟩
  | .hbm, ⟨74, _⟩ => ⟨S128x4, .f32⟩
  | .hbm, ⟨75, _⟩ => ⟨S128x4, .f32⟩
  | .hbm, ⟨76, _⟩ => ⟨S128x4, .f32⟩
  | .hbm, ⟨77, _⟩ => ⟨S128x4, .i1⟩
  | .hbm, ⟨78, _⟩ => ⟨S128x4, .f32⟩
  | .hbm, ⟨79, _⟩ => ⟨S128x4, .f32⟩
  | .hbm, ⟨80, _⟩ => ⟨S128x4, .f32⟩
  | .hbm, ⟨81, _⟩ => ⟨S128x4, .f32⟩
  | .hbm, ⟨82, _⟩ => ⟨S128x4, .f32⟩
  | .hbm, ⟨83, _⟩ => ⟨S128x4, .f32⟩
  | .hbm, ⟨84, _⟩ => ⟨S128x4, .f32⟩
  | .hbm, ⟨85, _⟩ => ⟨S128x4, .f32⟩
  | .hbm, ⟨86, _⟩ => ⟨S1x4, .f32⟩
  | .hbm, ⟨87, _⟩ => ⟨S128x4, .f32⟩
  | .hbm, ⟨88, _⟩ => ⟨S128x4, .f32⟩
  | .hbm, ⟨89, _⟩ => ⟨S128x4, .f32⟩
  | .hbm, ⟨90, _⟩ => ⟨S128x4, .f32⟩
  | .hbm, ⟨91, _⟩ => ⟨S128x4, .f32⟩
  | .hbm, ⟨92, _⟩ => ⟨S_, .f32⟩
  | .hbm, ⟨93, _⟩ => ⟨S128x4, .f32⟩
  | .hbm, ⟨94, _⟩ => ⟨S128x4, .f32⟩
  | .hbm, ⟨95, _⟩ => ⟨S_, .f32⟩
  | .hbm, ⟨96, _⟩ => ⟨S128x4, .f32⟩
  | .hbm, ⟨97, _⟩ => ⟨S128x4, .f32⟩
  | .hbm, ⟨98, _⟩ => ⟨S128x4x1x1, .f32⟩
  | .hbm, ⟨99, _⟩ => ⟨S128x4x1, .f32⟩
  | .hbm, ⟨100, _⟩ => ⟨S128x4x1x128, .f32⟩
  | .hbm, ⟨101, _⟩ => ⟨S128x4x1x128, .f32⟩
  | .hbm, ⟨102, _⟩ => ⟨S128x4x1, .f32⟩
  | .hbm, ⟨103, _⟩ => ⟨S128x4x1x1, .f32⟩
  | .hbm, ⟨104, _⟩ => ⟨S128x4x1x128, .f32⟩
  | .hbm, ⟨105, _⟩ => ⟨S128x4x1x128, .f32⟩
  | .hbm, ⟨106, _⟩ => ⟨S128x4x1, .f32⟩
  | .hbm, ⟨107, _⟩ => ⟨S128x4x1, .f32⟩
  | .hbm, ⟨108, _⟩ => ⟨S128x4x1x1, .f32⟩
  | .hbm, ⟨109, _⟩ => ⟨S128x4x1x128, .f32⟩
  | .hbm, ⟨110, _⟩ => ⟨S128x4x1x128, .f32⟩
  | .hbm, ⟨111, _⟩ => ⟨S1x128x4x128x128, .f32⟩
  | .hbm, ⟨112, _⟩ => ⟨S128x4x128x128, .f32⟩
  | .hbm, ⟨113, _⟩ => ⟨S128x4x1x128, .f32⟩
  | .hbm, ⟨114, _⟩ => ⟨S128x4x1x128, .f32⟩
  | .hbm, ⟨115, _⟩ => ⟨S128x4x1x128, .f32⟩
  | .hbm, ⟨116, _⟩ => ⟨S128x4x1x128, .f32⟩
  | .hbm, ⟨117, _⟩ => ⟨S128x4, .f32⟩
  | .hbm, ⟨118, _⟩ => ⟨S128x4, .f32⟩
  | .hbm, ⟨119, _⟩ => ⟨S128x4x1x1, .f32⟩
  | .hbm, ⟨120, _⟩ => ⟨S128x4x128x128, .f32⟩
  | .hbm, ⟨121, _⟩ => ⟨S128x4x128x128, .f32⟩
  | .hbm, ⟨122, _⟩ => ⟨S128x4x128x128, .f32⟩
  | .hbm, ⟨123, _⟩ => ⟨S128x4x128x128, .f32⟩
  | _, _ => ⟨S128x11520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_0 : Ref sig .tc := ⟨.hbm, 57, rfl⟩
abbrev main_v41 : Ref sig .tc := ⟨.hbm, 58, rfl⟩
abbrev main_v42 : Ref sig .tc := ⟨.hbm, 59, rfl⟩
abbrev main_cst_1 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_2 : Ref sig .tc := ⟨.hbm, 92, rfl⟩
abbrev main_v61 : Ref sig .tc := ⟨.hbm, 93, rfl⟩
abbrev main_v62 : Ref sig .tc := ⟨.hbm, 94, rfl⟩
abbrev main_cst_3 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== Proof.RowMath.lean ====
/-
  The row functions the claims speak of, in plain extended-real arithmetic: RMS normalisation of a row, softmax of a
  row of scores, and the laws that let a real nonnegative factor pass through a sum.
-/
module

public import Idealize.ShloMosaic.Lib.Pipeline.ValueKit
public import Idealize.ShloMosaic.Lib.Pointwise
public import Idealize.ShloMosaic.Lib.IdealHost

@[expose] public section

set_option maxRecDepth 16384

noncomputable section

namespace Cert.Rows

open Idealize.ShloMosaic

/-- Entry `e` of a row of width 1024 scaled by the reciprocal root of its mean square (plus the small constant of the
    model) and by the gain `g`. -/
def normRow (x g : Fin 1024 → EReal) (e : Fin 1024) : EReal :=
  x e * Ideal.rsqrt (Ideal.div (∑ k, x k * x k) (Ideal.ofBits FTy.f32 1149239296#32) + Ideal.ofBits FTy.f32 897988541#32) * g e

/-- The largest score of a row, not below the scores' floor (minus infinity). -/
def rowMax {n : ℕ} (s : Fin n → EReal) : EReal :=
  Finset.fold max (Ideal.ofBits FTy.f32 4286578688#32) s Finset.univ

/-- The softmax weight of position `k` among a row of scores. -/
def softRow {n : ℕ} (s : Fin n → EReal) (k : Fin n) : EReal :=
  Ideal.div (Ideal.exp (s k - rowMax s)) (∑ k', Ideal.exp (s k' - rowMax s))

/-- Taking the floor into the maximum a second time changes nothing. -/
theorem max_rowMax {n : ℕ} (s : Fin n → EReal) :
    max (Ideal.ofBits FTy.f32 4286578688#32) (rowMax s) = rowMax s :=
  max_eq_right ((Finset.le_fold_max _).mpr (Or.inl le_rfl))

/-- A nonnegative real factor passes through a finite sum of extended reals. -/
theorem sum_mul_of_real {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The word of one sixteenth is the real number 1/16. -/
theorem ofBits_sixteenth : Ideal.ofBits FTy.f32 1031798784#32 = ((1 / 16 : ℝ) : EReal) := by
  simp [Ideal.ofBits, Ideal.ieee]
  rw [← EReal.coe_mul]
  norm_num

/-- Scaling every query entry by one sixteenth before the product with a key scales the score by it. -/
theorem scaled_score {n : ℕ} (q k : Fin n → EReal) :
    ∑ d, (q d * Ideal.ofBits FTy.f32 1031798784#32) * k d = (∑ d, q d * k d) * Ideal.ofBits FTy.f32 1031798784#32 := by
  rw [sum_mul_of_real _ _ (by rw [ofBits_sixteenth]; exact EReal.coe_nonneg.mpr (by norm_num))
    (by rw [ofBits_sixteenth]; exact EReal.coe_ne_top _)]
  exact Finset.sum_congr rfl fun d _ => by rw [mul_assoc, mul_comm (Ideal.ofBits _ _), ← mul_assoc]

/-- Column `d` of the 256 columns of the head that column `c` lies in. -/
def headCol (c : Fin 1024) (d : Fin 256) : Fin 1024 :=
  ⟨c.val / 256 * 256 + d.val, by have := c.isLt; have := d.isLt; omega⟩

/-- Attention of one query row over 256 keys, output column `c` (of the head that `c` lies in): the softmax of the
    scores of that head against column `c` of the values. -/
def attendRow (q : Fin 1024 → EReal) (K V : Fin 256 → Fin 1024 → EReal) (c : Fin 1024) : EReal :=
  ∑ k, softRow (fun k' => ∑ d, q (headCol c d) * K k' (headCol c d)) k * V k c

/-- The host's maximum over the last of four axes, from the scores' floor, is the row's largest. -/
theorem hostMax_last {n0 n1 n2 n3 : ℕ} (x : FVec Ideal ⟨4, ![n0, n1, n2, n3]⟩ .f32)
    (h : (⟨4, ![n0, n1, n2, n3]⟩ : Shape).ReducesTo [3] (⟨3, ![n0, n1, n2]⟩ : Shape)) (hu : 0 < (⟨0, ![]⟩ : Shape).numel)
    (i : Fin n0) (j : Fin n1) (k : Fin n2) :
    Host.reduce FloatOps.maximumf x (constant (⟨0, ![]⟩ : Shape) .f32 0xFF800000#32) h hu (ix3 i j k)
      = rowMax fun l => x (ix4 i j k l) := by
  unfold rowMax
  pointwise

end Cert.Rows

end
-- ==== Proof.CrossKernel.lean ====
/-
  What one grid point of the cross-attention kernel leaves in its block of the result, read at an index: the row of
  the input plus the output projection of the four heads' attention.
-/
module

public import proofs.«01_k».proof.Proof.Gen.CrossIdeal.Value
public import proofs.«01_k».proof.Proof.Gen.CrossRefIdeal.Run
public import proofs.«01_k».proof.Proof.RowMath
public import Idealize.ShloMosaic.Lib.Pipeline.ValueKit
public import Idealize.ShloMosaic.Lib.Pointwise

@[expose] public section

set_option maxRecDepth 16384

noncomputable section

namespace Cert.CrossIdeal.RefValue

open Cert.CrossIdeal Cert.CrossIdeal.Gen Idealize.ShloMosaic Idealize.ShloMosaic.TcCoe Idealize.SL.Sem
open Cert.Rows

/-- The queries every head reads are one projection of the block's rows. -/
theorem pay10_eq (x : Vec Ideal S512x1024 .f32) (g : Vec Ideal S1x1024 .f32) (k v : Vec Ideal S256x1024 .f32)
    (w w' : Vec Ideal S1024x1024 .bf16) : k0_pay10 x g k v w w' = k0_pay3 x g w := by
  unfold k0_pay10
  frame_out

/-- The scaled queries of a block of rows, at an index. -/
theorem pay3_apply (x : Vec Ideal S512x1024 .f32) (g : Vec Ideal S1x1024 .f32)
    (w : Vec Ideal S1024x1024 .bf16) (r : Fin 512) (j : Fin 1024) :
    k0_pay3 x g w (ix2 r j)
      = (∑ e, normRow (fun e => x (ix2 r e)) (fun e => g (ix2 0 e)) e * w (ix2 e j)) * Ideal.ofBits FTy.f32 1031798784#32 := by
  pointwise [k0_pay3, k0_pay2]
  rfl

/-- Column `d` of the head of column `o + c`, for `o` a multiple of the head's width. -/
theorem headCol_eq (o : ℕ) (ho : o % 256 = 0) (c d : Fin 256) (h : o + c.val < 1024) (h' : o + d.val < 1024) :
    headCol ⟨o + c.val, h⟩ d = ⟨o + d.val, h'⟩ := by
  apply Fin.ext
  simp only [headCol]
  omega

/-- The first head of a block of query rows over the keys' and values' first columns. -/
theorem head0_apply (x : Vec Ideal S512x1024 .f32) (g : Vec Ideal S1x1024 .f32)
    (w : Vec Ideal S1024x1024 .bf16) (k v : Vec Ideal S256x1024 .f32) (r : Fin 512) (c : Fin 256) (hc : c.val < 1024) :
    k0_pay6 (k0_pay4 (View.ld v r0_3)) (k0_pay5 x g w (View.ld k r0_3)) (ix2 r c)
      = attendRow (fun e => k0_pay3 x g w (ix2 r e)) (fun a e => k (ix2 a e)) (fun a e => v (ix2 a e)) ⟨c.val, hc⟩ := by
  have e : ∀ d : Fin 256, headCol ⟨c.val, hc⟩ d = ⟨d.val, by omega⟩ := fun d => by
    apply Fin.ext; simp only [headCol]; omega
  pointwise [k0_pay6, k0_pay4, k0_pay5]
  simp only [attendRow, softRow, rowMax, e]

/-- The second head. -/
theorem head1_apply (q : FVec Ideal S512x1024 .f32) (k v : Vec Ideal S256x1024 .f32) (r : Fin 512) (c : Fin 256) (hc : 256 + c.val < 1024) :
    k0_pay7 q (View.ld k r0_4) (View.ld v r0_4) (ix2 r c)
      = attendRow (fun e => q (ix2 r e)) (fun a e => k (ix2 a e)) (fun a e => v (ix2 a e)) ⟨256 + c.val, hc⟩ := by
  have e := fun d : Fin 256 => headCol_eq 256 rfl c d hc (by omega)
  pointwise [k0_pay7]
  simp only [attendRow, softRow, rowMax, e]

/-- The third head. -/
theorem head2_apply (q : FVec Ideal S512x1024 .f32) (k v : Vec Ideal S256x1024 .f32) (r : Fin 512) (c : Fin 256) (hc : 512 + c.val < 1024) :
    k0_pay8 q (View.ld k r0_5) (View.ld v r0_5) (ix2 r c)
      = attendRow (fun e => q (ix2 r e)) (fun a e => k (ix2 a e)) (fun a e => v (ix2 a e)) ⟨512 + c.val, hc⟩ := by
  have e := fun d : Fin 256 => headCol_eq 512 rfl c d hc (by omega)
  pointwise [k0_pay8]
  simp only [attendRow, softRow, rowMax, e]

/-- The fourth head, from its own queries, keys and values. -/
theorem head3_apply (q : FVec Ideal S512x1024 .f32) (k v : Vec Ideal S256x1024 .f32) (r : Fin 512) (c : Fin 256) (hc : 768 + c.val < 1024) :
    (∑ a, softRow (fun a' => ∑ d, k0_pay9 q (ix2 r d) * View.ld k r0_6 (ix2 a' d)) a * View.ld v r0_6 (ix2 a c))
      = attendRow (fun e => q (ix2 r e)) (fun a e => k (ix2 a e)) (fun a e => v (ix2 a e)) ⟨768 + c.val, hc⟩ := by
  have e := fun d : Fin 256 => headCol_eq 768 rfl c d hc (by omega)
  pointwise [k0_pay9]
  simp only [attendRow, softRow, rowMax, e]

set_option maxHeartbeats 1000000 in
/-- The sum of a row of the block and the four heads' outputs through the output projection, when the first three
    heads are known and the fourth is computed from its queries. -/
theorem merge_apply (x : FVec Ideal S512x1024 .f32) (a0 a1 a2 a3 : FVec Ideal S512x256 .f32) (k v : Vec Ideal S256x256 .f32)
    (w' : Vec Ideal S1024x1024 .bf16) (r : Fin 512) (j : Fin 1024) (A : Fin 1024 → EReal)
    (h0 : ∀ (c : Fin 256) (hc : c.val < 1024), a0 (ix2 r c) = A ⟨c.val, hc⟩)
    (h1 : ∀ (c : Fin 256) (hc : 256 + c.val < 1024), a1 (ix2 r c) = A ⟨256 + c.val, hc⟩)
    (h2 : ∀ (c : Fin 256) (hc : 512 + c.val < 1024), a2 (ix2 r c) = A ⟨512 + c.val, hc⟩)
    (h3 : ∀ (c : Fin 256) (hc : 768 + c.val < 1024),
      (∑ a, softRow (fun a' => ∑ d, a3 (ix2 r d) * k (ix2 a' d)) a * v (ix2 a c)) = A ⟨768 + c.val, hc⟩) :
    k0_pay1 x a0 a1 a2 a3 k v w' (ix2 r j) = x (ix2 r j) + ∑ c, A c * w' (ix2 c j) := by
  pointwise [k0_pay1]
  congr 1
  refine Finset.sum_congr rfl fun c _ => ?_
  congr 1
  have hc := c.isLt
  by_cases b0 : c.val < 256
  · rw [dif_pos b0]; exact h0 ⟨c.val, b0⟩ hc
  rw [dif_neg b0]
  by_cases b1 : c.val - 256 < 256
  · have hb : 256 + (c.val - 256) = c.val := by omega
    rw [dif_pos b1]; exact (h1 ⟨c.val - 256, b1⟩ (hb.trans_lt hc)).trans (congrArg A (Fin.ext hb))
  rw [dif_neg b1]
  by_cases b2 : c.val - 256 - 256 < 256
  · have hb : 512 + (c.val - 256 - 256) = c.val := by omega
    rw [dif_pos b2]; exact (h2 ⟨c.val - 256 - 256, b2⟩ (hb.trans_lt hc)).trans (congrArg A (Fin.ext hb))
  rw [dif_neg b2]
  have hb : 768 + (c.val - 256 - 256 - 256) = c.val := by omega
  exact (h3 ⟨c.val - 256 - 256 - 256, by omega⟩ (hb.trans_lt hc)).trans (congrArg A (Fin.ext hb))

/-- What a grid point leaves in the output's block, at an index: the row plus the projected attention of its scaled
    queries. -/
theorem out_apply (x : Vec Ideal S512x1024 .f32) (g : Vec Ideal S1x1024 .f32) (k v : Vec Ideal S256x1024 .f32)
    (w w' : Vec Ideal S1024x1024 .bf16) (r : Fin 512) (j : Fin 1024) :
    out0_6 x g k v w w' (ix2 r j)
      = x (ix2 r j) + ∑ c, attendRow (fun e => k0_pay3 x g w (ix2 r e)) (fun a e => k (ix2 a e)) (fun a e => v (ix2 a e)) c * w' (ix2 c j) := by
  frame_out
  rw [pay10_eq]
  refine (merge_apply (k0_pay2 x) _ _ _ _ _ _ w' r j _ (fun c hc => head0_apply x g w k v r c hc)
    (fun c hc => head1_apply _ k v r c hc) (fun c hc => head2_apply _ k v r c hc)
    (fun c hc => head3_apply _ k v r c hc)).trans ?_
  pointwise [k0_pay2]

end Cert.CrossIdeal.RefValue

end
-- ==== Proof.CrossRef.lean ====
/-
  The cross-attention reference read at an index: its composed term cut into queries, scores, softmax, heads and output
  projection, each read by itself.
-/
module

public import proofs.«01_k».proof.Proof.RowMath
public import proofs.«01_k».proof.Proof.Gen.CrossRefIdeal.Run

@[expose] public section

set_option maxRecDepth 16384

noncomputable section

namespace Cert.CrossRefIdeal.RefValue

open Cert.CrossRefIdeal Cert.CrossRefIdeal.Gen Idealize.ShloMosaic Idealize.ShloMosaic.TcCoe Idealize.SL.Sem
open Cert.Rows

/-- The queries: the normalised rows through the query projection. -/
def queries (X : FVec Ideal S8x2048x1024 .f32) (G : FVec Ideal S1024 .f32) (W : FVec Ideal S1024x1024 .f32) :
    FVec Ideal S8x2048x1024 .f32 :=
  Host.dotGeneral dot_S8x2048x1024_S1024x1024_S8x2048x1024_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) W

/-- The keys, head by head. -/
def keys (M : FVec Ideal S8x256x2048 .f32) : FVec Ideal S8x256x4x256 .f32 :=
  shapeCast _ (extractStridedSlice S8x256x1x4x256 ![0, 0, 0, 0, 0] (shapeCast _ M shapeCasts_S8x256x2048_S8x256x2x4x256) slices_S8x256x2x4x256_S8x256x1x4x256_0_0_0_0_0) shapeCasts_S8x256x1x4x256_S8x256x4x256

/-- The values, head by head. -/
def vals (M : FVec Ideal S8x256x2048 .f32) : FVec Ideal S8x256x4x256 .f32 :=
  shapeCast _ (extractStridedSlice S8x256x1x4x256 ![0, 0, 1, 0, 0] (shapeCast _ M shapeCasts_S8x256x2048_S8x256x2x4x256) slices_S8x256x2x4x256_S8x256x1x4x256_0_0_1_0_0) shapeCasts_S8x256x1x4x256_S8x256x4x256

/-- The scores of every query against every key, scaled. -/
def scores (Q : FVec Ideal S8x2048x1024 .f32) (K : FVec Ideal S8x256x4x256 .f32) : FVec Ideal S8x4x2048x256 .f32 :=
  mulf (Host.dotGeneral dot_S8x2048x4x256_S8x256x4x256_S8x4x2048x256_3_3_1_1_02_02 none (shapeCast _ Q shapeCasts_S8x2048x1024_S8x2048x4x256) K) (broadcastInDim S8x4x2048x256 ![] bcast_S_S8x4x2048x256 (constant S_ .f32 0x3D800000#32))

/-- The largest score of every row. -/
def maxima (S : FVec Ideal S8x4x2048x256 .f32) : FVec Ideal S8x4x2048 .f32 :=
  Host.reduce FloatOps.maximumf S (constant S_ .f32 0xFF800000#32) reducesTo_S8x4x2048x256_S8x4x2048_d3 h_S_

/-- The exponentials of the scores less a number per row (raised to the scores' floor). -/
def weights (S : FVec Ideal S8x4x2048x256 .f32) (M : FVec Ideal S8x4x2048 .f32) : FVec Ideal S8x4x2048x256 .f32 :=
  Host.exp (subf S (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) M))))

/-- The softmax: the exponentials over their row's sum. -/
def soft (E : FVec Ideal S8x4x2048x256 .f32) : FVec Ideal S8x4x2048x256 .f32 :=
  Host.divf E (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd E (constant S_ .f32 0x00000000#32) reducesTo_S8x4x2048x256_S8x4x2048_d3 h_S_)))

/-- The heads' outputs side by side. -/
def heads (V : FVec Ideal S8x256x4x256 .f32) (P : FVec Ideal S8x4x2048x256 .f32) : FVec Ideal S8x2048x1024 .f32 :=
  shapeCast _ (transpose S8x2048x4x256 [0, 3, 1, 2] (Host.dotGeneral dot_S8x256x4x256_S8x4x2048x256_S8x4x256x2048_1_3_3_2_02_01 none V P) transposes_S8x4x256x2048_S8x2048x4x256_0_3_1_2) shapeCasts_S8x2048x4x256_S8x2048x1024

/-- The rows plus the projected heads, the batch's rows one after another. -/
def result (X O : FVec Ideal S8x2048x1024 .f32) (W : FVec Ideal S1024x1024 .f32) : FVec Ideal S16384x1024 .f32 :=
  shapeCast _ (addf X (Host.dotGeneral dot_S8x2048x1024_S1024x1024_S8x2048x1024_2_0_01_1_n_n none O W)) shapeCasts_S8x2048x1024_S16384x1024

/-- The reference's result, stage by stage, of its five arguments. -/
def REF (X : FVec Ideal S8x2048x1024 .f32) (G : FVec Ideal S1024 .f32) (M : FVec Ideal S8x256x2048 .f32)
    (W W' : FVec Ideal S1024x1024 .f32) : FVec Ideal S16384x1024 .f32 :=
  result X (heads (vals M) (soft (weights (scores (queries X G W) (keys M)) (maxima (scores (queries X G W) (keys M)))))) W'

/-- The generated term is the stages composed. -/
theorem res_eq (m : (ℓ : Loc nD τ sig) → Buf (Elt Ideal) ℓ) (c : Dev nD) :
    Value.res_out0 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A query entry. -/
theorem queries_apply (X : FVec Ideal S8x2048x1024 .f32) (G : FVec Ideal S1024 .f32) (W : FVec Ideal S1024x1024 .f32)
    (b : Fin 8) (t : Fin 2048) (j : Fin 1024) :
    queries X G W (ix3 b t j) = ∑ e, normRow (fun e => X (ix3 b t e)) (fun e => G (ix1 e)) e * W (ix2 e j) := by
  pointwise [queries]
  rfl

/-- A key entry: the first half of the memory's columns. -/
theorem keys_apply (M : FVec Ideal S8x256x2048 .f32) (b : Fin 8) (k : Fin 256) (h : Fin 4) (d : Fin 256)
    (hj : h.val * 256 + d.val < 2048) :
    keys M (ix4 b k h d) = M (ix3 b k ⟨h.val * 256 + d.val, hj⟩) := by
  pointwise [keys]
  all_goals blk_ext

/-- A value entry: the second half of the memory's columns. -/
theorem vals_apply (M : FVec Ideal S8x256x2048 .f32) (b : Fin 8) (k : Fin 256) (h : Fin 4) (d : Fin 256)
    (hj : 1024 + (h.val * 256 + d.val) < 2048) :
    vals M (ix4 b k h d) = M (ix3 b k ⟨1024 + (h.val * 256 + d.val), hj⟩) := by
  pointwise [vals]
  all_goals blk_ext

/-- A score. -/
theorem scores_apply (Q : FVec Ideal S8x2048x1024 .f32) (K : FVec Ideal S8x256x4x256 .f32)
    (b : Fin 8) (h : Fin 4) (t : Fin 2048) (k : Fin 256) :
    scores Q K (ix4 b h t k) = (∑ d : Fin 256, Q (ix3 b t ⟨h.val * 256 + d.val, by omega⟩) * K (ix4 b k h d)) * Ideal.ofBits FTy.f32 1031798784#32 := by
  pointwise [scores]

/-- A row's largest score. -/
theorem maxima_apply (S : FVec Ideal S8x4x2048x256 .f32) (b : Fin 8) (h : Fin 4) (t : Fin 2048) :
    maxima S (ix3 b h t) = rowMax (fun k' => S (ix4 b h t k')) :=
  hostMax_last S reducesTo_S8x4x2048x256_S8x4x2048_d3 h_S_ b h t

/-- A weight is the exponential of the score less its row's number. -/
theorem weights_apply (S : FVec Ideal S8x4x2048x256 .f32) (M : FVec Ideal S8x4x2048 .f32) (b : Fin 8) (h : Fin 4) (t : Fin 2048) (k : Fin 256) :
    weights S M (ix4 b h t k) = Ideal.exp (S (ix4 b h t k) - max (Ideal.ofBits FTy.f32 4286578688#32) (M (ix3 b h t))) := by
  pointwise [weights]

/-- A softmax weight. -/
theorem soft_apply (S : FVec Ideal S8x4x2048x256 .f32) (b : Fin 8) (h : Fin 4) (t : Fin 2048) (k : Fin 256) :
    soft (weights S (maxima S)) (ix4 b h t k) = softRow (fun k' => S (ix4 b h t k')) k := by
  pointwise [soft]
  simp only [weights_apply, maxima_apply, max_rowMax, softRow]

/-- A head output entry. -/
theorem heads_apply (V : FVec Ideal S8x256x4x256 .f32) (P : FVec Ideal S8x4x2048x256 .f32)
    (b : Fin 8) (t : Fin 2048) (c : Fin 1024) :
    heads V P (ix3 b t c) = ∑ k : Fin 256, P (ix4 b ⟨c.val / 256, by omega⟩ t k) * V (ix4 b k ⟨c.val / 256, by omega⟩ ⟨c.val % 256, by omega⟩) := by
  pointwise [heads]
  exact Finset.sum_congr rfl fun k _ => mul_comm _ _

/-- A result entry. -/
theorem result_apply (X O : FVec Ideal S8x2048x1024 .f32) (W : FVec Ideal S1024x1024 .f32) (r : Fin 16384) (j : Fin 1024) :
    result X O W (ix2 r j) = X (ix3 ⟨r.val / 2048, by omega⟩ ⟨r.val % 2048, by omega⟩ j)
      + ∑ c, O (ix3 ⟨r.val / 2048, by omega⟩ ⟨r.val % 2048, by omega⟩ c) * W (ix2 c j) := by
  pointwise [result]

/-- The reference's result at row `b·2048 + t`. -/
theorem REF_apply (X : FVec Ideal S8x2048x1024 .f32) (G : FVec Ideal S1024 .f32) (M : FVec Ideal S8x256x2048 .f32)
    (W W' : FVec Ideal S1024x1024 .f32) (r : Fin 16384) (b : Fin 8) (t : Fin 2048) (hr : r.val = b.val * 2048 + t.val) (j : Fin 1024) :
    REF X G M W W' (ix2 r j) = X (ix3 b t j)
      + ∑ c, attendRow (fun i => (∑ e, normRow (fun e => X (ix3 b t e)) (fun e => G (ix1 e)) e * W (ix2 e i)) * Ideal.ofBits FTy.f32 1031798784#32)
          (fun k i => M (ix3 b k ⟨i.val, by omega⟩)) (fun k i => M (ix3 b k ⟨1024 + i.val, by omega⟩)) c * W' (ix2 c j) := by
  have e0 : (⟨r.val / 2048, by omega⟩ : Fin 8) = b := Fin.ext (by simp only; omega)
  have e1 : (⟨r.val % 2048, by omega⟩ : Fin 2048) = t := Fin.ext (by simp only; omega)
  unfold REF
  rw [result_apply, e0, e1]
  congr 1
  refine Finset.sum_congr rfl fun c _ => ?_
  congr 1
  rw [heads_apply]
  unfold attendRow
  refine Finset.sum_congr rfl fun k _ => ?_
  rw [soft_apply]
  congr 1
  · congr 1
    funext k'
    rw [scores_apply, scaled_score]
    congr 1
    refine Finset.sum_congr rfl fun d _ => ?_
    rw [queries_apply, keys_apply _ _ _ _ _ (by simp only; omega)]
    rfl
  · rw [vals_apply _ _ _ _ _ (by simp only; omega)]
    congr 2
    exact Fin.ext (by simp only; omega)

/-- The reference runs to `REF` of its arguments, which it leaves as they were. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = REF (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res_eq m c), (h c).2⟩) (Cert.CrossRefIdeal.Value.run m ρ)

end Cert.CrossRefIdeal.RefValue

end
-- ==== Proof.CrossFinal.lean ====
/-
  The cross-attention kernel against its reference: the array the kernel leaves is the reference's result, and the two
  runs under one postcondition.
-/
module

public import proofs.«01_k».proof.Proof.Gen.CrossIdeal.Value
public import proofs.«01_k».proof.Proof.Gen.CrossRefIdeal.Run
public import proofs.«01_k».proof.Proof.CrossKernel
public import proofs.«01_k».proof.Proof.CrossRef
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.CrossIdeal.RefValue

open Cert.CrossIdeal Cert.CrossIdeal.Gen Idealize.ShloMosaic Idealize.ShloMosaic.TcCoe Idealize.SL.Sem
open Cert.Rows

variable (m : (ℓ : Loc nD τ sig) → Buf (Elt Ideal) ℓ) (ρ : Dev nD → PrngReg)

/-- The block every window stages at a grid point. -/
theorem idx : ∀ t : Fin cfg0.N, win0_0.index t = ![t.val, 0] ∧ win0_1.index t = ![0, 0] ∧ win0_2.index t = ![t.val / 4, 0]
    ∧ win0_3.index t = ![t.val / 4, 1] ∧ win0_4.index t = ![0, 0] ∧ win0_5.index t = ![0, 0] ∧ win0_6.index t = ![t.val, 0] :=
  (by decide +kernel : ∀ t : Fin grid0.N, _)

/-- The reference's result of device `c`'s argument arrays. -/
abbrev want (c : Dev nD) : FVec Ideal Cert.CrossRefIdeal.S16384x1024 .f32 :=
  Cert.CrossRefIdeal.RefValue.REF (m ((c : Thread nD τ).loc main_arg0)) (m ((c : Thread nD τ).loc main_arg1))
    (m ((c : Thread nD τ).loc main_arg2)) (m ((c : Thread nD τ).loc main_arg3)) (m ((c : Thread nD τ).loc main_arg4))

/-- A row of the rows' block is a row of the input. -/
theorem read_rows (c : Dev nD) (t : Fin cfg0.N) (r : Fin 512) (e : Fin 1024) (b : Fin 8) (s : Fin 2048)
    (hr : t.val * 512 + r.val = b.val * 2048 + s.val) :
    iblk m c 0 t (ix2 r e) = m ((c : Thread nD τ).loc main_arg0) (ix3 b s e) := by
  blk_point [iblk, V, idx t]

/-- The gain's block is the gain. -/
theorem read_gain (c : Dev nD) (t : Fin cfg0.N) (e : Fin 1024) :
    iblk m c 1 t (ix2 0 e) = m ((c : Thread nD τ).loc main_arg1) (ix1 e) := by
  blk_point [iblk, V, idx t]

/-- The keys' block is the first half of a batch entry's memory. -/
theorem read_keys (c : Dev nD) (t : Fin cfg0.N) (a : Fin 256) (e : Fin 1024) (b : Fin 8) (hb : b.val = t.val / 4) :
    iblk m c 2 t (ix2 a e) = m ((c : Thread nD τ).loc main_arg2) (ix3 b a ⟨e.val, by omega⟩) := by
  blk_point [iblk, V, idx t]

/-- The values' block is the second half of a batch entry's memory. -/
theorem read_vals (c : Dev nD) (t : Fin cfg0.N) (a : Fin 256) (e : Fin 1024) (b : Fin 8) (hb : b.val = t.val / 4) :
    iblk m c 3 t (ix2 a e) = m ((c : Thread nD τ).loc main_arg2) (ix3 b a ⟨1024 + e.val, by omega⟩) := by
  blk_point [iblk, V, idx t]

/-- The query weights' block is the query weights. -/
theorem read_wq (c : Dev nD) (t : Fin cfg0.N) (a e : Fin 1024) :
    iblk m c 4 t (ix2 a e) = m ((c : Thread nD τ).loc main_arg3) (ix2 a e) := by
  blk_point [iblk, V, idx t]

/-- The output weights' block is the output weights. -/
theorem read_wo (c : Dev nD) (t : Fin cfg0.N) (a e : Fin 1024) :
    iblk m c 5 t (ix2 a e) = m ((c : Thread nD τ).loc main_arg4) (ix2 a e) := by
  blk_point [iblk, V, idx t]

/-- What point `t` leaves at row `r` of its block is the reference's row `512·t + r`. -/
theorem point (c : Dev nD) (t : Fin cfg0.N) (r : Fin 512) (j : Fin 1024) (i : Fin 16384) (hi : i.val = t.val * 512 + r.val) :
    out0_6 (iblk m c 0 t) (iblk m c 1 t) (iblk m c 2 t) (iblk m c 3 t) (iblk m c 4 t) (iblk m c 5 t) (ix2 r j)
      = want m c (ix2 i j) := by
  have ht : t.val < 32 := lt_of_lt_of_eq t.isLt N_0
  let b : Fin 8 := ⟨t.val / 4, by omega⟩
  let s : Fin 2048 := ⟨t.val % 4 * 512 + r.val, by omega⟩
  have hr : t.val * 512 + r.val = b.val * 2048 + s.val := by simp only [b, s]; omega
  refine (out_apply _ _ _ _ _ _ r j).trans ?_
  refine Eq.trans ?_ (Cert.CrossRefIdeal.RefValue.REF_apply _ _ _ _ _ i b s (hi.trans hr) j).symm
  simp only [pay3_apply]
  have hx := fun e => read_rows m c t r e b s hr
  have hg := fun e => read_gain m c t e
  have hk := fun a e => read_keys m c t a e b rfl
  have hv := fun a e => read_vals m c t a e b rfl
  have hq := fun a e => read_wq m c t a e
  have ho := fun a e => read_wo m c t a e
  simp only [hx, hg, hk, hv, hq, ho]

/-- The result array after the run is the reference's result. -/
theorem final (c : Dev nD) : (dats m 0 c).arrAt 6 (cfgs 0).N = want m c := by
  refine (dats m 0 c).arrAt_eq_of_covers 6 _ (by decide +kernel) fun t _ y => ?_
  blk_simp
  rw [after0_6]
  have ht : t.val < 32 := lt_of_lt_of_eq t.isLt N_0
  have hy : (y 0 : ℕ) < 512 := (y 0).isLt
  rw [eq_ix2 y]
  refine (point m c t (y 0) (y 1) ⟨t.val * 512 + (y 0 : ℕ), by omega⟩ rfl).trans (congrArg (want m c) ?_)
  blk_ext [idx t]

/-- The cross-attention kernel and its reference leave the same array, both from any contents of the arguments. -/
theorem agrees : Cert.algebraic_CrossIdeal_CrossRefIdeal := by
  pair_intro
  · run_from Cert.CrossIdeal.Value.run_blocks m g
  · run_from Cert.CrossRefIdeal.RefValue.run_REF m' g'
    exact (final m c).symm

end Cert.CrossIdeal.RefValue

end
-- ==== Proof.PackRows.lean ====
/-
  The order in which the kernel keeps the columns of the wide projection, and arrays of rows with their columns in it.
-/
module

public import proofs.«01_k».proof.Proof.RowMath

@[expose] public section

set_option maxRecDepth 16384

noncomputable section

namespace Cert.Pack

open Idealize.ShloMosaic

variable {B L : ℕ}

/-- Which of the weights' columns stands at a packed place: the narrow groups of columns go last. -/
def src (j : ℕ) : ℕ :=
  if j < 3072 then j else if j < 4608 then j + 8 else if j < 5120 then j + 8 else if j < 7168 then j + 16
  else if j < 11264 then j + 24 else if j < 11272 then j - 8192 else if j < 11280 then j - 6144 else j - 4096

/-- A packed place is filled from a column of the weights, or is past them all. -/
theorem src_lt (j : ℕ) (hj : j < 11288) : src j < 11288 := by
  unfold src; split_ifs <;> omega

/-- Read a row by packed place: its column there, and zero past the weights' columns. -/
def pick (f : Fin 11288 → EReal) (j : ℕ) : EReal := if hj : j < 11288 then f ⟨src j, src_lt j hj⟩ else 0

/-- A group of columns of an array of rows is a block of it. -/
theorem columns (B L o w : ℕ) (h : o + w ≤ 11288) : (⟨3, ![B, L, 11288]⟩ : Shape).Slices ![0, 0, o] ⟨3, ![B, L, w]⟩ := by
  refine ⟨rfl, fun a => ?_⟩
  fin_cases a
  · exact (Nat.zero_add B).le
  · exact (Nat.zero_add L).le
  · exact h

/-- A concatenation of arrays of rows along the columns, read in the piece that holds the column. -/
theorem part_apply {w T : ℕ} (xs : List ((s : Shape) × (s.Idx → EReal)))
    (h : Shape.Concatenates (xs.map (·.1)) ⟨3, ![B, L, T]⟩ 2) (k : ℕ) (hk : k < xs.length)
    (x : (⟨3, ![B, L, w]⟩ : Shape).Idx → EReal) (hx : xs[k] = ⟨_, x⟩) (pre : ℕ)
    (hpre : (((xs.take k).map (·.1)).map fun s : Shape => if h : s.rank = 3 then s.size ((2 : Fin 3).cast h.symm) else 0).sum = pre)
    (b : Fin B) (s : Fin L) (j : Fin T) (i : Fin w) (hj : pre + i.val = j.val) :
    concatenate ⟨3, ![B, L, T]⟩ 2 xs h (ix3 b s j) = x (ix3 b s i) := by
  refine concatenate_apply_piece (t := ⟨3, ![B, L, T]⟩) 2 xs h (ix3 b s j) k hk _ x hx rfl pre hpre (ix3 b s i) (fun a ha => ?_) ?_
  · fin_cases a
    · rfl
    · rfl
    · exact absurd rfl ha
  · exact hj

/-- A concatenation of slices along the columns, read in the piece that holds column `i`: what `pick` reads at a packed
place `j` whose column is the slice's. -/
theorem slot {T : ℕ} (P : (⟨3, ![B, L, 11288]⟩ : Shape).Idx → EReal) (xs : List ((s : Shape) × (s.Idx → EReal)))
    (h : Shape.Concatenates (xs.map (·.1)) ⟨3, ![B, L, T]⟩ 2) (k : ℕ) (hk : k < xs.length) (w o : ℕ)
    (hs : (⟨3, ![B, L, 11288]⟩ : Shape).Slices ![0, 0, o] ⟨3, ![B, L, w]⟩)
    (hx : xs[k] = ⟨_, extractStridedSlice ⟨3, ![B, L, w]⟩ ![0, 0, o] P hs⟩) (pre : ℕ)
    (hpre : (((xs.take k).map (·.1)).map fun s : Shape => if h : s.rank = 3 then s.size ((2 : Fin 3).cast h.symm) else 0).sum = pre)
    (b : Fin B) (s : Fin L) (i : Fin T) (j : ℕ) (hj : j < 11288) (hi : pre ≤ i.val ∧ i.val < pre + w)
    (hn : src j + pre = o + i.val) :
    concatenate ⟨3, ![B, L, T]⟩ 2 xs h (ix3 b s i) = pick (fun n => P (ix3 b s n)) j := by
  refine (part_apply xs h k hk _ hx pre hpre b s i ⟨i.val - pre, by omega⟩ (by simp only; omega)).trans ?_
  unfold pick
  rw [dif_pos hj]
  refine extractStridedSlice_apply _ P hs _ (ix3 b s ⟨src j, src_lt j hj⟩) fun a => ?_
  fin_cases a
  · exact (Nat.zero_add _).symm
  · exact (Nat.zero_add _).symm
  · show src j = o + (i.val - pre)
    omega

/-- The packed columns of an array of rows, short of the last group. -/
def front (P : (⟨3, ![B, L, 11288]⟩ : Shape).Idx → EReal)
    (h : Shape.Concatenates [⟨3, ![B, L, 512]⟩, ⟨3, ![B, L, 512]⟩, ⟨3, ![B, L, 512]⟩, ⟨3, ![B, L, 512]⟩, ⟨3, ![B, L, 1024]⟩, ⟨3, ![B, L, 1536]⟩, ⟨3, ![B, L, 512]⟩, ⟨3, ![B, L, 512]⟩, ⟨3, ![B, L, 512]⟩, ⟨3, ![B, L, 512]⟩, ⟨3, ![B, L, 512]⟩, ⟨3, ![B, L, 4096]⟩, ⟨3, ![B, L, 8]⟩, ⟨3, ![B, L, 4]⟩, ⟨3, ![B, L, 4]⟩, ⟨3, ![B, L, 4]⟩]
      ⟨3, ![B, L, 11284]⟩ 2) : (⟨3, ![B, L, 11284]⟩ : Shape).Idx → EReal :=
  concatenate ⟨3, ![B, L, 11284]⟩ 2 [⟨⟨3, ![B, L, 512]⟩, (extractStridedSlice ⟨3, ![B, L, 512]⟩ ![0, 0, 0] P (columns B L 0 512 (by decide)))⟩,
    ⟨⟨3, ![B, L, 512]⟩, (extractStridedSlice ⟨3, ![B, L, 512]⟩ ![0, 0, 512] P (columns B L 512 512 (by decide)))⟩,
    ⟨⟨3, ![B, L, 512]⟩, (extractStridedSlice ⟨3, ![B, L, 512]⟩ ![0, 0, 1024] P (columns B L 1024 512 (by decide)))⟩,
    ⟨⟨3, ![B, L, 512]⟩, (extractStridedSlice ⟨3, ![B, L, 512]⟩ ![0, 0, 1536] P (columns B L 1536 512 (by decide)))⟩,
    ⟨⟨3, ![B, L, 1024]⟩, (extractStridedSlice ⟨3, ![B, L, 1024]⟩ ![0, 0, 2048] P (columns B L 2048 1024 (by decide)))⟩,
    ⟨⟨3, ![B, L, 1536]⟩, (extractStridedSlice ⟨3, ![B, L, 1536]⟩ ![0, 0, 3080] P (columns B L 3080 1536 (by decide)))⟩,
    ⟨⟨3, ![B, L, 512]⟩, (extractStridedSlice ⟨3, ![B, L, 512]⟩ ![0, 0, 4616] P (columns B L 4616 512 (by decide)))⟩,
    ⟨⟨3, ![B, L, 512]⟩, (extractStridedSlice ⟨3, ![B, L, 512]⟩ ![0, 0, 5136] P (columns B L 5136 512 (by decide)))⟩,
    ⟨⟨3, ![B, L, 512]⟩, (extractStridedSlice ⟨3, ![B, L, 512]⟩ ![0, 0, 5648] P (columns B L 5648 512 (by decide)))⟩,
    ⟨⟨3, ![B, L, 512]⟩, (extractStridedSlice ⟨3, ![B, L, 512]⟩ ![0, 0, 6160] P (columns B L 6160 512 (by decide)))⟩,
    ⟨⟨3, ![B, L, 512]⟩, (extractStridedSlice ⟨3, ![B, L, 512]⟩ ![0, 0, 6672] P (columns B L 6672 512 (by decide)))⟩,
    ⟨⟨3, ![B, L, 4096]⟩, (extractStridedSlice ⟨3, ![B, L, 4096]⟩ ![0, 0, 7192] P (columns B L 7192 4096 (by decide)))⟩,
    ⟨⟨3, ![B, L, 8]⟩, (extractStridedSlice ⟨3, ![B, L, 8]⟩ ![0, 0, 3072] P (columns B L 3072 8 (by decide)))⟩,
    ⟨⟨3, ![B, L, 4]⟩, (extractStridedSlice ⟨3, ![B, L, 4]⟩ ![0, 0, 5128] P (columns B L 5128 4 (by decide)))⟩,
    ⟨⟨3, ![B, L, 4]⟩, (extractStridedSlice ⟨3, ![B, L, 4]⟩ ![0, 0, 5132] P (columns B L 5132 4 (by decide)))⟩,
    ⟨⟨3, ![B, L, 4]⟩, (extractStridedSlice ⟨3, ![B, L, 4]⟩ ![0, 0, 7184] P (columns B L 7184 4 (by decide)))⟩] h

/-- The packed columns of an array of rows. -/
def pack (P : (⟨3, ![B, L, 11288]⟩ : Shape).Idx → EReal) (Z : (⟨3, ![B, L, 232]⟩ : Shape).Idx → EReal)
    (h : Shape.Concatenates [⟨3, ![B, L, 512]⟩, ⟨3, ![B, L, 512]⟩, ⟨3, ![B, L, 512]⟩, ⟨3, ![B, L, 512]⟩, ⟨3, ![B, L, 1024]⟩, ⟨3, ![B, L, 1536]⟩, ⟨3, ![B, L, 512]⟩, ⟨3, ![B, L, 512]⟩, ⟨3, ![B, L, 512]⟩, ⟨3, ![B, L, 512]⟩, ⟨3, ![B, L, 512]⟩, ⟨3, ![B, L, 4096]⟩, ⟨3, ![B, L, 8]⟩, ⟨3, ![B, L, 4]⟩, ⟨3, ![B, L, 4]⟩, ⟨3, ![B, L, 4]⟩]
      ⟨3, ![B, L, 11284]⟩ 2)
    (h4 : Shape.Concatenates [⟨3, ![B, L, 4]⟩, ⟨3, ![B, L, 232]⟩] ⟨3, ![B, L, 236]⟩ 2)
    (hT : Shape.Concatenates [⟨3, ![B, L, 11284]⟩, ⟨3, ![B, L, 236]⟩] ⟨3, ![B, L, 11520]⟩ 2) : (⟨3, ![B, L, 11520]⟩ : Shape).Idx → EReal :=
  concatenate ⟨3, ![B, L, 11520]⟩ 2 [⟨⟨3, ![B, L, 11284]⟩, front P h⟩,
    ⟨⟨3, ![B, L, 236]⟩, (concatenate ⟨3, ![B, L, 236]⟩ 2 [⟨⟨3, ![B, L, 4]⟩, (extractStridedSlice ⟨3, ![B, L, 4]⟩ ![0, 0, 7188] P (columns B L 7188 4 (by decide)))⟩,
    ⟨⟨3, ![B, L, 232]⟩, Z⟩] h4)⟩] hT

/-- Past the place `a` and short of `a + w`, or past that too. -/
theorem next_place {a j : ℕ} (w : ℕ) (h : a ≤ j) : (a ≤ j ∧ j < a + w) ∨ a + w ≤ j := by omega

set_option maxHeartbeats 2000000 in
/-- A packed row short of its last group is read through `pick`. -/
theorem front_apply (P : (⟨3, ![B, L, 11288]⟩ : Shape).Idx → EReal)
    (h : Shape.Concatenates [⟨3, ![B, L, 512]⟩, ⟨3, ![B, L, 512]⟩, ⟨3, ![B, L, 512]⟩, ⟨3, ![B, L, 512]⟩, ⟨3, ![B, L, 1024]⟩, ⟨3, ![B, L, 1536]⟩, ⟨3, ![B, L, 512]⟩, ⟨3, ![B, L, 512]⟩, ⟨3, ![B, L, 512]⟩, ⟨3, ![B, L, 512]⟩, ⟨3, ![B, L, 512]⟩, ⟨3, ![B, L, 4096]⟩, ⟨3, ![B, L, 8]⟩, ⟨3, ![B, L, 4]⟩, ⟨3, ![B, L, 4]⟩, ⟨3, ![B, L, 4]⟩]
      ⟨3, ![B, L, 11284]⟩ 2)
    (b : Fin B) (s : Fin L) (i : Fin 11284) :
    front P h (ix3 b s i) = pick (fun n => P (ix3 b s n)) i.val := by
  unfold front
  have hi := i.isLt
  have lt : i.val < 11288 := by omega
  rcases next_place 512 (Nat.zero_le i.val) with hp | hp
  · exact slot P _ _ 0 (Nat.le_of_ble_eq_true rfl) 512 0 _ rfl 0 (by simp) b s i _ lt hp (by unfold src; split_ifs <;> omega)
  rcases next_place 512 hp with hp | hp
  · exact slot P _ _ 1 (Nat.le_of_ble_eq_true rfl) 512 512 _ rfl 512 (by simp) b s i _ lt hp (by unfold src; split_ifs <;> omega)
  rcases next_place 512 hp with hp | hp
  · exact slot P _ _ 2 (Nat.le_of_ble_eq_true rfl) 512 1024 _ rfl 1024 (by simp) b s i _ lt hp (by unfold src; split_ifs <;> omega)
  rcases next_place 512 hp with hp | hp
  · exact slot P _ _ 3 (Nat.le_of_ble_eq_true rfl) 512 1536 _ rfl 1536 (by simp) b s i _ lt hp (by unfold src; split_ifs <;> omega)
  rcases next_place 1024 hp with hp | hp
  · exact slot P _ _ 4 (Nat.le_of_ble_eq_true rfl) 1024 2048 _ rfl 2048 (by simp) b s i _ lt hp (by unfold src; split_ifs <;> omega)
  rcases next_place 1536 hp with hp | hp
  · exact slot P _ _ 5 (Nat.le_of_ble_eq_true rfl) 1536 3080 _ rfl 3072 (by simp) b s i _ lt hp (by unfold src; split_ifs <;> omega)
  rcases next_place 512 hp with hp | hp
  · exact slot P _ _ 6 (Nat.le_of_ble_eq_true rfl) 512 4616 _ rfl 4608 (by simp) b s i _ lt hp (by unfold src; split_ifs <;> omega)
  rcases next_place 512 hp with hp | hp
  · exact slot P _ _ 7 (Nat.le_of_ble_eq_true rfl) 512 5136 _ rfl 5120 (by simp) b s i _ lt hp (by unfold src; split_ifs <;> omega)
  rcases next_place 512 hp with hp | hp
  · exact slot P _ _ 8 (Nat.le_of_ble_eq_true rfl) 512 5648 _ rfl 5632 (by simp) b s i _ lt hp (by unfold src; split_ifs <;> omega)
  rcases next_place 512 hp with hp | hp
  · exact slot P _ _ 9 (Nat.le_of_ble_eq_true rfl) 512 6160 _ rfl 6144 (by simp) b s i _ lt hp (by unfold src; split_ifs <;> omega)
  rcases next_place 512 hp with hp | hp
  · exact slot P _ _ 10 (Nat.le_of_ble_eq_true rfl) 512 6672 _ rfl 6656 (by simp) b s i _ lt hp (by unfold src; split_ifs <;> omega)
  rcases next_place 4096 hp with hp | hp
  · exact slot P _ _ 11 (Nat.le_of_ble_eq_true rfl) 4096 7192 _ rfl 7168 (by simp) b s i _ lt hp (by unfold src; split_ifs <;> omega)
  rcases next_place 8 hp with hp | hp
  · exact slot P _ _ 12 (Nat.le_of_ble_eq_true rfl) 8 3072 _ rfl 11264 (by simp) b s i _ lt hp (by unfold src; split_ifs <;> omega)
  rcases next_place 4 hp with hp | hp
  · exact slot P _ _ 13 (Nat.le_of_ble_eq_true rfl) 4 5128 _ rfl 11272 (by simp) b s i _ lt hp (by unfold src; split_ifs <;> omega)
  rcases next_place 4 hp with hp | hp
  · exact slot P _ _ 14 (Nat.le_of_ble_eq_true rfl) 4 5132 _ rfl 11276 (by simp) b s i _ lt hp (by unfold src; split_ifs <;> omega)
  exact slot P _ _ 15 (Nat.le_of_ble_eq_true rfl) 4 7184 _ rfl 11280 (by simp) b s i _ lt ⟨hp, by omega⟩ (by unfold src; split_ifs <;> omega)

/-- A packed row is read through `pick`. -/
theorem pack_apply (P : (⟨3, ![B, L, 11288]⟩ : Shape).Idx → EReal) (Z : (⟨3, ![B, L, 232]⟩ : Shape).Idx → EReal) (hZ : ∀ y, Z y = 0)
    (h : Shape.Concatenates [⟨3, ![B, L, 512]⟩, ⟨3, ![B, L, 512]⟩, ⟨3, ![B, L, 512]⟩, ⟨3, ![B, L, 512]⟩, ⟨3, ![B, L, 1024]⟩, ⟨3, ![B, L, 1536]⟩, ⟨3, ![B, L, 512]⟩, ⟨3, ![B, L, 512]⟩, ⟨3, ![B, L, 512]⟩, ⟨3, ![B, L, 512]⟩, ⟨3, ![B, L, 512]⟩, ⟨3, ![B, L, 4096]⟩, ⟨3, ![B, L, 8]⟩, ⟨3, ![B, L, 4]⟩, ⟨3, ![B, L, 4]⟩, ⟨3, ![B, L, 4]⟩]
      ⟨3, ![B, L, 11284]⟩ 2)
    (h4 : Shape.Concatenates [⟨3, ![B, L, 4]⟩, ⟨3, ![B, L, 232]⟩] ⟨3, ![B, L, 236]⟩ 2)
    (hT : Shape.Concatenates [⟨3, ![B, L, 11284]⟩, ⟨3, ![B, L, 236]⟩] ⟨3, ![B, L, 11520]⟩ 2)
    (b : Fin B) (s : Fin L) (j : Fin 11520) :
    pack P Z h h4 hT (ix3 b s j) = pick (fun n => P (ix3 b s n)) j.val := by
  unfold pack
  have hj := j.isLt
  by_cases h0 : j.val < 11284
  · exact (part_apply _ _ 0 (Nat.le_of_ble_eq_true rfl) (front P h) rfl 0 rfl b s j ⟨j.val, h0⟩ (Nat.zero_add _)).trans (front_apply P h b s _)
  refine (part_apply _ _ 1 (Nat.le_of_ble_eq_true rfl) _ rfl 11284 rfl b s j ⟨j.val - 11284, by omega⟩ (by simp only; omega)).trans ?_
  by_cases h1 : j.val < 11288
  · exact slot P _ _ 0 (Nat.le_of_ble_eq_true rfl) 4 7188 _ rfl 0 (by simp) b s _ _ h1 (by simp only; omega) (by unfold src; split_ifs <;> (simp only; omega))
  refine (part_apply _ _ 1 (Nat.le_of_ble_eq_true rfl) _ rfl 4 rfl b s _ ⟨j.val - 11288, by omega⟩ (by simp only; omega)).trans ?_
  unfold pick
  rw [dif_neg h1]
  exact hZ _

/-- A row's product with packed columns is the packed row of its products. -/
theorem pick_sum (h : Fin 1024 → EReal) (f : Fin 1024 → Fin 11288 → EReal) (j : ℕ) :
    ∑ e, h e * pick (f e) j = pick (fun n => ∑ e, h e * f e n) j := by
  unfold pick
  by_cases hj : j < 11288
  · simp only [dif_pos hj]
  · simp only [dif_neg hj, mul_zero, Finset.sum_const_zero]

end Cert.Pack

end
-- ==== Proof.ProjRef.lean ====
/-
  The layer's wide projection read at an index: a normalised row of the input through the weights, its columns put in
  the order the kernel keeps them.
-/
module

public import proofs.«01_k».proof.Proof.RowMath
public import proofs.«01_k».proof.Proof.PackRows
public import proofs.«01_k».proof.Proof.Gen.ProjRefIdeal.Run

@[expose] public section

set_option maxRecDepth 16384

noncomputable section

namespace Cert.ProjRefIdeal.RefValue

open Cert.ProjRefIdeal Cert.ProjRefIdeal.Gen Idealize.ShloMosaic Idealize.ShloMosaic.TcCoe Idealize.SL.Sem
open Cert.Rows Cert.Pack

/-- The projected rows, columns in the weights' own order. -/
def prod (X : FVec Ideal S8x2048x1024 .f32) (G : FVec Ideal S1024 .f32) (W : FVec Ideal S1024x11288 .f32) :
    FVec Ideal S8x2048x11288 .f32 :=
  Host.dotGeneral dot_S8x2048x1024_S1024x11288_S8x2048x11288_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) W

/-- An entry of the projected rows: a normalised row against a column of the weights. -/
theorem prod_apply (X : FVec Ideal S8x2048x1024 .f32) (G : FVec Ideal S1024 .f32) (W : FVec Ideal S1024x11288 .f32)
    (b : Fin 8) (s : Fin 2048) (j : Fin 11288) :
    prod X G W (ix3 b s j) = ∑ e : Fin 1024, normRow (fun k => X (ix3 b s k)) (fun k => G (ix1 k)) e * W (ix2 e j) := by
  pointwise [prod]
  rfl

/-- The packed columns of an array of rows, zeros after them. -/
def packRows (P : FVec Ideal S8x2048x11288 .f32) : FVec Ideal S8x2048x11520 .f32 :=
  pack P (broadcastInDim S8x2048x232 ![] bcast_S_S8x2048x232 (constant (F := Ideal) S_ .f32 0x00000000#32))
    concatenates_S8x2048x512_S8x2048x512_S8x2048x512_S8x2048x512_S8x2048x1024_S8x2048x1536_S8x2048x512_S8x2048x512_S8x2048x512_S8x2048x512_S8x2048x512_S8x2048x4096_S8x2048x8_S8x2048x4_S8x2048x4_S8x2048x4_S8x2048x11284_d2
    concatenates_S8x2048x4_S8x2048x232_S8x2048x236_d2 concatenates_S8x2048x11284_S8x2048x236_S8x2048x11520_d2

/-- A packed row is read through `pick`. -/
theorem packRows_apply (P : FVec Ideal S8x2048x11288 .f32) (b : Fin 8) (s : Fin 2048) (j : Fin 11520) :
    packRows P (ix3 b s j) = pick (fun n => P (ix3 b s n)) j.val :=
  pack_apply P _ (fun y => by pointwise []) _ _ _ b s j

/-- The rows of all batch entries one after the other. -/
def flat (P : FVec Ideal S8x2048x11520 .f32) : FVec Ideal S16384x11520 .f32 := shapeCast _ P shapeCasts_S8x2048x11520_S16384x11520

/-- An entry of the flat array. -/
theorem flat_apply (P : FVec Ideal S8x2048x11520 .f32) (i : Fin 16384) (b : Fin 8) (s : Fin 2048)
    (hi : i.val = b.val * 2048 + s.val) (j : Fin 11520) : flat P (ix2 i j) = P (ix3 b s j) := by
  pointwise [flat]
  all_goals blk_ext

/-- The reference's result as a function of its three arguments. -/
def REF (X : FVec Ideal S8x2048x1024 .f32) (G : FVec Ideal S1024 .f32) (W : FVec Ideal S1024x11288 .f32) :
    FVec Ideal S16384x11520 .f32 := flat (packRows (prod X G W))

/-- Entry `(i, j)` of the reference: row `i` of the input, normalised, against the weights' column at packed place `j`. -/
theorem REF_apply (X : FVec Ideal S8x2048x1024 .f32) (G : FVec Ideal S1024 .f32) (W : FVec Ideal S1024x11288 .f32)
    (i : Fin 16384) (b : Fin 8) (s : Fin 2048) (hi : i.val = b.val * 2048 + s.val) (j : Fin 11520) :
    REF X G W (ix2 i j) = ∑ e : Fin 1024, normRow (fun k => X (ix3 b s k)) (fun k => G (ix1 k)) e
      * pick (fun n => W (ix2 e n)) j.val := by
  unfold REF
  rw [flat_apply _ i b s hi, packRows_apply, pick_sum]
  simp only [prod_apply]

/-- The generated composed term is `REF` of the arguments. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ProjRefIdeal.Value.run m ρ

end Cert.ProjRefIdeal.RefValue

end
-- ==== Proof.ProjFinal.lean ====
/-
  The layer's wide projection kernel against its reference: the normalised rows are computed once per row block and kept, and
  the array the kernel leaves is the reference's result.
-/
module

public import proofs.«01_k».proof.Proof.Gen.ProjIdeal.Value
public import proofs.«01_k».proof.Defs
public import proofs.«01_k».proof.Proof.ProjRef
public import Idealize.ShloMosaic.Lib.Claim

@[expose] public section

set_option maxRecDepth 16384

noncomputable section

namespace Cert.ProjIdeal.RefValue

open Cert.ProjIdeal Cert.ProjIdeal.Gen Idealize.ShloMosaic Idealize.ShloMosaic.TcCoe Idealize.SL.Sem
open Cert.Rows
open Cert.Pack (pick src src_lt next_place)

variable (m : (ℓ : Loc nD τ sig) → Buf (Elt Ideal) ℓ) (ρ : Dev nD → PrngReg)

/-- The block every window stages at a grid point. -/
theorem idx : ∀ t : Fin cfg0.N, win0_0.index t = ![t.val / 10, 0] ∧ win0_1.index t = ![0, 0] ∧ win0_2.index t = ![0, t.val % 10]
    ∧ win0_3.index t = ![t.val / 10, t.val % 10] :=
  (by decide +kernel : ∀ t : Fin grid0.N, _)

/-- The kept rows are the normalised rows of the block. -/
theorem norm_apply (x : Vec Ideal S2048x1024 .f32) (g : Vec Ideal S1x1024 .f32) (r : Fin 2048) (e : Fin 1024) :
    k0_pay1 x g (ix2 r e) = normRow (fun k => x (ix2 r k)) (fun k => g (ix2 0 k)) e := by
  pointwise [k0_pay1]
  rfl

/-- The product of the kept rows with a block of the weights. -/
theorem prod_apply (h : Vec Ideal S2048x1024 .bf16) (w : Vec Ideal S1024x1152 .bf16) (r : Fin 2048) (j : Fin 1152) :
    k0_pay2 h w (ix2 r j) = ∑ e : Fin 1024, h (ix2 r e) * w (ix2 e j) := by
  pointwise [k0_pay2]

/-- A row of the rows' block is a row of the input. -/
theorem read_rows (c : Dev nD) (t : Fin cfg0.N) (r : Fin 2048) (e : Fin 1024) (b : Fin 8) (s : Fin 2048)
    (hr : t.val / 10 * 2048 + r.val = b.val * 2048 + s.val) :
    iblk m c 0 t (ix2 r e) = m ((c : Thread nD τ).loc main_arg0) (ix3 b s e) := by
  blk_point [iblk, V, idx t]

/-- The gain's block is the gain. -/
theorem read_gain (c : Dev nD) (t : Fin cfg0.N) (e : Fin 1024) :
    iblk m c 1 t (ix2 0 e) = m ((c : Thread nD τ).loc main_arg1) (ix1 e) := by
  blk_point [iblk, V, idx t]

/-- The weights' narrow columns, side by side, and zeros after them. -/
def narrow (W : FVec Ideal S1024x11288 .f32) : FVec Ideal S1024x256 .f32 :=
  concatenate S1024x256 1 [⟨S1024x8, (extractStridedSlice S1024x8 ![0, 3072] W slices_S1024x11288_S1024x8_0_3072)⟩,
    ⟨S1024x4, (extractStridedSlice S1024x4 ![0, 5128] W slices_S1024x11288_S1024x4_0_5128)⟩,
    ⟨S1024x4, (extractStridedSlice S1024x4 ![0, 5132] W slices_S1024x11288_S1024x4_0_5132)⟩,
    ⟨S1024x4, (extractStridedSlice S1024x4 ![0, 7184] W slices_S1024x11288_S1024x4_0_7184)⟩,
    ⟨S1024x4, (extractStridedSlice S1024x4 ![0, 7188] W slices_S1024x11288_S1024x4_0_7188)⟩,
    ⟨S1024x232, (broadcastInDim S1024x232 ![] bcast_S_S1024x232 (constant S_ .f32 0x00000000#32))⟩] concatenates_S1024x8_S1024x4_S1024x4_S1024x4_S1024x4_S1024x232_S1024x256_d1

/-- The weights' columns in packed order. -/
def packed (W : FVec Ideal S1024x11288 .f32) : FVec Ideal S1024x11520 .f32 :=
  concatenate S1024x11520 1 [⟨S1024x512, (extractStridedSlice S1024x512 ![0, 0] W slices_S1024x11288_S1024x512_0_0)⟩,
    ⟨S1024x512, (extractStridedSlice S1024x512 ![0, 512] W slices_S1024x11288_S1024x512_0_512)⟩,
    ⟨S1024x512, (extractStridedSlice S1024x512 ![0, 1024] W slices_S1024x11288_S1024x512_0_1024)⟩,
    ⟨S1024x512, (extractStridedSlice S1024x512 ![0, 1536] W slices_S1024x11288_S1024x512_0_1536)⟩,
    ⟨S1024x1024, (extractStridedSlice S1024x1024 ![0, 2048] W slices_S1024x11288_S1024x1024_0_2048)⟩,
    ⟨S1024x1536, (extractStridedSlice S1024x1536 ![0, 3080] W slices_S1024x11288_S1024x1536_0_3080)⟩,
    ⟨S1024x512, (extractStridedSlice S1024x512 ![0, 4616] W slices_S1024x11288_S1024x512_0_4616)⟩,
    ⟨S1024x512, (extractStridedSlice S1024x512 ![0, 5136] W slices_S1024x11288_S1024x512_0_5136)⟩,
    ⟨S1024x512, (extractStridedSlice S1024x512 ![0, 5648] W slices_S1024x11288_S1024x512_0_5648)⟩,
    ⟨S1024x512, (extractStridedSlice S1024x512 ![0, 6160] W slices_S1024x11288_S1024x512_0_6160)⟩,
    ⟨S1024x512, (extractStridedSlice S1024x512 ![0, 6672] W slices_S1024x11288_S1024x512_0_6672)⟩,
    ⟨S1024x4096, (extractStridedSlice S1024x4096 ![0, 7192] W slices_S1024x11288_S1024x4096_0_7192)⟩,
    ⟨S1024x256, (narrow W)⟩] concatenates_S1024x512_S1024x512_S1024x512_S1024x512_S1024x1024_S1024x1536_S1024x512_S1024x512_S1024x512_S1024x512_S1024x512_S1024x4096_S1024x256_S1024x11520_d1

/-- A concatenation of matrices along the columns, read in the piece that holds the column. -/
theorem part_apply {w T : ℕ} (xs : List ((s : Shape) × (s.Idx → EReal)))
    (h : Shape.Concatenates (xs.map (·.1)) ⟨2, ![1024, T]⟩ 1) (k : ℕ) (hk : k < xs.length)
    (x : (⟨2, ![1024, w]⟩ : Shape).Idx → EReal) (hx : xs[k] = ⟨_, x⟩) (pre : ℕ)
    (hpre : (((xs.take k).map (·.1)).map fun s : Shape => if h : s.rank = 2 then s.size ((1 : Fin 2).cast h.symm) else 0).sum = pre)
    (e : Fin 1024) (j : Fin T) (i : Fin w) (hj : pre + i.val = j.val) :
    concatenate ⟨2, ![1024, T]⟩ 1 xs h (ix2 e j) = x (ix2 e i) := by
  refine concatenate_apply_piece (t := ⟨2, ![1024, T]⟩) 1 xs h (ix2 e j) k hk _ x hx rfl pre hpre (ix2 e i) (fun a ha => ?_) ?_
  · fin_cases a
    · rfl
    · exact absurd rfl ha
  · exact hj

/-- A concatenation of slices along the columns, read in the piece that holds column `i`: what `pick` reads at a packed
place `j` whose column is the slice's. -/
theorem slot {T : ℕ} (W : FVec Ideal S1024x11288 .f32) (xs : List ((s : Shape) × (s.Idx → EReal)))
    (h : Shape.Concatenates (xs.map (·.1)) ⟨2, ![1024, T]⟩ 1) (k : ℕ) (hk : k < xs.length) (w o : ℕ)
    (hs : S1024x11288.Slices ![0, o] ⟨2, ![1024, w]⟩)
    (hx : xs[k] = ⟨_, extractStridedSlice ⟨2, ![1024, w]⟩ ![0, o] W hs⟩) (pre : ℕ)
    (hpre : (((xs.take k).map (·.1)).map fun s : Shape => if h : s.rank = 2 then s.size ((1 : Fin 2).cast h.symm) else 0).sum = pre)
    (e : Fin 1024) (i : Fin T) (j : ℕ) (hj : j < 11288) (hi : pre ≤ i.val ∧ i.val < pre + w)
    (hn : src j + pre = o + i.val) :
    concatenate ⟨2, ![1024, T]⟩ 1 xs h (ix2 e i) = pick (fun n => W (ix2 e n)) j := by
  refine (part_apply xs h k hk _ hx pre hpre e i ⟨i.val - pre, by omega⟩ (by simp only; omega)).trans ?_
  unfold pick
  rw [dif_pos hj]
  refine extractStridedSlice_apply _ W hs _ (ix2 e ⟨src j, src_lt j hj⟩) fun a => ?_
  fin_cases a
  · exact (Nat.zero_add _).symm
  · show src j = o + (i.val - pre)
    omega

/-- The narrow columns are what `pick` reads after the wide ones. -/
theorem narrow_apply (W : FVec Ideal S1024x11288 .f32) (e : Fin 1024) (i : Fin 256) :
    narrow W (ix2 e i) = pick (fun n => W (ix2 e n)) (11264 + i.val) := by
  unfold narrow
  have hi := i.isLt
  rcases next_place 8 (Nat.zero_le i.val) with h | h
  · exact slot W _ _ 0 (Nat.le_of_ble_eq_true rfl) 8 3072 _ rfl 0 (by simp) e i _ (by omega) h (by unfold src; split_ifs <;> omega)
  rcases next_place 4 h with h | h
  · exact slot W _ _ 1 (Nat.le_of_ble_eq_true rfl) 4 5128 _ rfl 8 (by simp) e i _ (by omega) h (by unfold src; split_ifs <;> omega)
  rcases next_place 4 h with h | h
  · exact slot W _ _ 2 (Nat.le_of_ble_eq_true rfl) 4 5132 _ rfl 12 (by simp) e i _ (by omega) h (by unfold src; split_ifs <;> omega)
  rcases next_place 4 h with h | h
  · exact slot W _ _ 3 (Nat.le_of_ble_eq_true rfl) 4 7184 _ rfl 16 (by simp) e i _ (by omega) h (by unfold src; split_ifs <;> omega)
  rcases next_place 4 h with h | h
  · exact slot W _ _ 4 (Nat.le_of_ble_eq_true rfl) 4 7188 _ rfl 20 (by simp) e i _ (by omega) h (by unfold src; split_ifs <;> omega)
  refine (part_apply _ _ 5 (Nat.le_of_ble_eq_true rfl) _ rfl 24 (by simp) e i ⟨i.val - 24, by omega⟩ (by simp only; omega)).trans ?_
  unfold pick
  rw [dif_neg (by omega)]
  pointwise []

set_option maxHeartbeats 2000000 in
/-- The packed weights are read through `pick`. -/
theorem packed_apply (W : FVec Ideal S1024x11288 .f32) (e : Fin 1024) (i : Fin 11520) :
    packed W (ix2 e i) = pick (fun n => W (ix2 e n)) i.val := by
  unfold packed
  have hi := i.isLt
  rcases next_place 512 (Nat.zero_le i.val) with h | h
  · exact slot W _ _ 0 (Nat.le_of_ble_eq_true rfl) 512 0 _ rfl 0 (by simp) e i _ (by omega) h (by unfold src; split_ifs <;> omega)
  rcases next_place 512 h with h | h
  · exact slot W _ _ 1 (Nat.le_of_ble_eq_true rfl) 512 512 _ rfl 512 (by simp) e i _ (by omega) h (by unfold src; split_ifs <;> omega)
  rcases next_place 512 h with h | h
  · exact slot W _ _ 2 (Nat.le_of_ble_eq_true rfl) 512 1024 _ rfl 1024 (by simp) e i _ (by omega) h (by unfold src; split_ifs <;> omega)
  rcases next_place 512 h with h | h
  · exact slot W _ _ 3 (Nat.le_of_ble_eq_true rfl) 512 1536 _ rfl 1536 (by simp) e i _ (by omega) h (by unfold src; split_ifs <;> omega)
  rcases next_place 1024 h with h | h
  · exact slot W _ _ 4 (Nat.le_of_ble_eq_true rfl) 1024 2048 _ rfl 2048 (by simp) e i _ (by omega) h (by unfold src; split_ifs <;> omega)
  rcases next_place 1536 h with h | h
  · exact slot W _ _ 5 (Nat.le_of_ble_eq_true rfl) 1536 3080 _ rfl 3072 (by simp) e i _ (by omega) h (by unfold src; split_ifs <;> omega)
  rcases next_place 512 h with h | h
  · exact slot W _ _ 6 (Nat.le_of_ble_eq_true rfl) 512 4616 _ rfl 4608 (by simp) e i _ (by omega) h (by unfold src; split_ifs <;> omega)
  rcases next_place 512 h with h | h
  · exact slot W _ _ 7 (Nat.le_of_ble_eq_true rfl) 512 5136 _ rfl 5120 (by simp) e i _ (by omega) h (by unfold src; split_ifs <;> omega)
  rcases next_place 512 h with h | h
  · exact slot W _ _ 8 (Nat.le_of_ble_eq_true rfl) 512 5648 _ rfl 5632 (by simp) e i _ (by omega) h (by unfold src; split_ifs <;> omega)
  rcases next_place 512 h with h | h
  · exact slot W _ _ 9 (Nat.le_of_ble_eq_true rfl) 512 6160 _ rfl 6144 (by simp) e i _ (by omega) h (by unfold src; split_ifs <;> omega)
  rcases next_place 512 h with h | h
  · exact slot W _ _ 10 (Nat.le_of_ble_eq_true rfl) 512 6672 _ rfl 6656 (by simp) e i _ (by omega) h (by unfold src; split_ifs <;> omega)
  rcases next_place 4096 h with h | h
  · exact slot W _ _ 11 (Nat.le_of_ble_eq_true rfl) 4096 7192 _ rfl 7168 (by simp) e i _ (by omega) h (by unfold src; split_ifs <;> omega)
  refine (part_apply _ _ 12 (Nat.le_of_ble_eq_true rfl) (narrow W) rfl 11264 (by simp) e i ⟨i.val - 11264, by omega⟩ (by simp only; omega)).trans ?_
  refine (narrow_apply W e _).trans (congrArg (pick _) ?_)
  simp only; omega

/-- The array of the weights' window is the packed weights. -/
theorem weights_eq (c : Dev nD) : V m c main_v21 = packed (m ((c : Thread nD τ).loc main_arg2)) := by
  unfold V
  after_results_simp
  rfl

/-- The weights' block is a tenth of the packed weights' columns. -/
theorem read_w (c : Dev nD) (t : Fin cfg0.N) (e : Fin 1024) (j : Fin 1152) (n : Fin 11520) (hn : n.val = t.val % 10 * 1152 + j.val) :
    iblk m c 2 t (ix2 e j) = packed (m ((c : Thread nD τ).loc main_arg2)) (ix2 e n) := by
  have h : iblk m c 2 t (ix2 e j) = V m c main_v21 (ix2 e n) := by
    blk_point [iblk, idx t]
  rw [h, weights_eq]

/-- The input row `(b, s)`, normalised. -/
abbrev keptRow (c : Dev nD) (b : Fin 8) (s : Fin 2048) : Fin 1024 → EReal :=
  normRow (fun k => m ((c : Thread nD τ).loc main_arg0) (ix3 b s k)) (fun k => m ((c : Thread nD τ).loc main_arg1) (ix1 k))

/-- After every grid point the kept block holds the normalised rows of the point's row block. -/
theorem kept (c : Dev nD) : ∀ (n : ℕ) (hn : n < cfg0.N) (r : Fin 2048) (e : Fin 1024) (b : Fin 8) (s : Fin 2048),
    n / 10 * 2048 + r.val = b.val * 2048 + s.val → (outsAt0 m c n hn).2 (ix2 r e) = keptRow m c b s e := by
  intro n
  induction n with
  | zero =>
    intro hn r e b s hr
    rw [show outsAt0 m c 0 hn = _ from outsAt0_A m c ⟨0, hn⟩ (Nat.zero_mod _)]
    refine Eq.trans ?_ ((norm_apply (iblk m c 0 ⟨0, hn⟩) (iblk m c 1 ⟨0, hn⟩) r e).trans ?_)
    · frame_out
    · simp only [read_rows m c ⟨0, hn⟩ r _ b s hr, read_gain]
  | succ n ih =>
    intro hn r e b s hr
    by_cases h0 : (n + 1) % 10 = 0
    · rw [show outsAt0 m c (n + 1) hn = _ from outsAt0_A m c ⟨n + 1, hn⟩ h0]
      refine Eq.trans ?_ ((norm_apply (iblk m c 0 ⟨n + 1, hn⟩) (iblk m c 1 ⟨n + 1, hn⟩) r e).trans ?_)
      · frame_out
      · simp only [read_rows m c ⟨n + 1, hn⟩ r _ b s hr, read_gain]
    · rw [show outsAt0 m c (n + 1) hn = _ from outsAt0_B m c ⟨n + 1, hn⟩ h0]
      exact ih (Nat.lt_of_succ_lt hn) r e b s (by omega)

/-- The output block at a point is the product of the block kept after it with the point's block of the weights. -/
theorem out_eq (c : Dev nD) (t : Fin cfg0.N) :
    (outsAt0 m c t.val t.isLt).1 = k0_pay2 (outsAt0 m c t.val t.isLt).2 (iblk m c 2 t) := by
  by_cases h0 : t.val % 10 = 0
  · rw [outsAt0_A m c t h0]
    unfold out0_A_3 sout0_A_0
    frame_out
  · rw [outsAt0_B m c t h0]
    unfold out0_B_3 sout0_B_0
    frame_out
    exact congrArg (k0_pay2 · _) (Memref.IsWhole.read_unread _ _)

/-- The reference's result of device `c`'s argument arrays. -/
abbrev want (c : Dev nD) : FVec Ideal Cert.ProjRefIdeal.S16384x11520 .f32 :=
  Cert.ProjRefIdeal.RefValue.REF (m ((c : Thread nD τ).loc main_arg0)) (m ((c : Thread nD τ).loc main_arg1))
    (m ((c : Thread nD τ).loc main_arg2))

/-- What a point leaves at an index of its block is the reference's entry there. -/
theorem point (c : Dev nD) (t : Fin cfg0.N) (r : Fin 2048) (j : Fin 1152) (i : Fin 16384) (n : Fin 11520)
    (hi : i.val = t.val / 10 * 2048 + r.val) (hn : n.val = t.val % 10 * 1152 + j.val) :
    (outsAt0 m c t.val t.isLt).1 (ix2 r j) = want m c (ix2 i n) := by
  have hs : i.val = (⟨i.val / 2048, by omega⟩ : Fin 8).val * 2048 + (⟨i.val % 2048, by omega⟩ : Fin 2048).val := by
    simp only; omega
  rw [out_eq, prod_apply]
  refine Eq.trans ?_ (Cert.ProjRefIdeal.RefValue.REF_apply _ _ _ i ⟨i.val / 2048, by omega⟩ ⟨i.val % 2048, by omega⟩ hs n).symm
  refine Finset.sum_congr rfl fun e _ => ?_
  rw [kept m c t.val t.isLt r e _ _ (hi.symm.trans hs), read_w m c t e j n hn, packed_apply]

/-- The result array after the run is the reference's result. -/
theorem final (c : Dev nD) : (dats m 0 c).arrAt 3 (cfgs 0).N = want m c := by
  refine (dats m 0 c).arrAt_eq_of_covers 3 _ (by decide +kernel) fun t _ y => ?_
  blk_simp
  rw [after0_3]
  have ht : t.val < 80 := lt_of_lt_of_eq t.isLt N_0
  have hy : (y 0 : ℕ) < 2048 := (y 0).isLt
  have hy1 : (y 1 : ℕ) < 1152 := (y 1).isLt
  rw [eq_ix2 y]
  refine (point m c t (y 0) (y 1) ⟨t.val / 10 * 2048 + (y 0 : ℕ), by omega⟩ ⟨t.val % 10 * 1152 + (y 1 : ℕ), by omega⟩ rfl rfl).trans
    (congrArg (want m c) ?_)
  blk_ext [idx t]

/-- The projection kernel and its reference leave the same array, both from any contents of the arguments. -/
theorem agrees : Cert.algebraic_ProjIdeal_ProjRefIdeal := by
  pair_intro
  · run_from Cert.ProjIdeal.Value.run_blocks m g
  · run_from Cert.ProjRefIdeal.RefValue.run_REF m' g'
    exact (final m c).symm

end Cert.ProjIdeal.RefValue

end
-- ==== Proof.KvRef.lean ====
/-
  The memory projection's reference read at an index: a normalised row of the memory through the weights.
-/
module

public import proofs.«01_k».proof.Proof.RowMath
public import proofs.«01_k».proof.Proof.Gen.KvRefIdeal.Run

@[expose] public section

set_option maxRecDepth 16384

noncomputable section

namespace Cert.KvRefIdeal.RefValue

open Cert.KvRefIdeal Cert.KvRefIdeal.Gen Idealize.ShloMosaic Idealize.ShloMosaic.TcCoe Idealize.SL.Sem
open Cert.Rows

/-- The projected memory, entry by entry of its rows. -/
def prod (X : FVec Ideal S8x256x1024 .f32) (G : FVec Ideal S1024 .f32) (W : FVec Ideal S1024x2048 .f32) :
    FVec Ideal S8x256x2048 .f32 :=
  Host.dotGeneral dot_S8x256x1024_S1024x2048_S8x256x2048_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) W

/-- An entry of the projected memory: a normalised row against a column of the weights. -/
theorem prod_apply (X : FVec Ideal S8x256x1024 .f32) (G : FVec Ideal S1024 .f32) (W : FVec Ideal S1024x2048 .f32)
    (b : Fin 8) (s : Fin 256) (j : Fin 2048) :
    prod X G W (ix3 b s j) = ∑ e : Fin 1024, normRow (fun k => X (ix3 b s k)) (fun k => G (ix1 k)) e * W (ix2 e j) := by
  pointwise [prod]
  rfl

/-- The rows of all batch entries one after the other. -/
def flat (P : FVec Ideal S8x256x2048 .f32) : FVec Ideal S2048x2048 .f32 := shapeCast _ P shapeCasts_S8x256x2048_S2048x2048

/-- An entry of the flat array. -/
theorem flat_apply (P : FVec Ideal S8x256x2048 .f32) (i : Fin 2048) (b : Fin 8) (s : Fin 256)
    (hi : i.val = b.val * 256 + s.val) (j : Fin 2048) : flat P (ix2 i j) = P (ix3 b s j) := by
  pointwise [flat]
  all_goals blk_ext

/-- The reference's result as a function of its three arguments. -/
def REF (X : FVec Ideal S8x256x1024 .f32) (G : FVec Ideal S1024 .f32) (W : FVec Ideal S1024x2048 .f32) :
    FVec Ideal S2048x2048 .f32 := flat (prod X G W)

/-- Entry `(i, j)` of the reference: row `i` of the memory, normalised, against column `j` of the weights. -/
theorem REF_apply (X : FVec Ideal S8x256x1024 .f32) (G : FVec Ideal S1024 .f32) (W : FVec Ideal S1024x2048 .f32)
    (i : Fin 2048) (b : Fin 8) (s : Fin 256) (hi : i.val = b.val * 256 + s.val) (j : Fin 2048) :
    REF X G W (ix2 i j) = ∑ e : Fin 1024, normRow (fun k => X (ix3 b s k)) (fun k => G (ix1 k)) e * W (ix2 e j) := by
  unfold REF
  rw [flat_apply _ i b s hi, prod_apply]

/-- The generated composed term is `REF` of the arguments. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.KvRefIdeal.Value.run m ρ

end Cert.KvRefIdeal.RefValue

end
-- ==== Proof.KvFinal.lean ====
/-
  The memory projection kernel against its reference: the normalised rows are computed once per row block and kept, and
  the array the kernel leaves is the reference's result.
-/
module

public import proofs.«01_k».proof.Proof.Gen.KvIdeal.Value
public import proofs.«01_k».proof.Defs
public import proofs.«01_k».proof.Proof.KvRef
public import Idealize.ShloMosaic.Lib.Claim

@[expose] public section

set_option maxRecDepth 16384

noncomputable section

namespace Cert.KvIdeal.RefValue

open Cert.KvIdeal Cert.KvIdeal.Gen Idealize.ShloMosaic Idealize.ShloMosaic.TcCoe Idealize.SL.Sem
open Cert.Rows

variable (m : (ℓ : Loc nD τ sig) → Buf (Elt Ideal) ℓ) (ρ : Dev nD → PrngReg)

/-- The block every window stages at a grid point. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- The kept rows are the normalised rows of the block. -/
theorem norm_apply (x : Vec Ideal S1024x1024 .f32) (g : Vec Ideal S1x1024 .f32) (r e : Fin 1024) :
    k0_pay1 x g (ix2 r e) = normRow (fun k => x (ix2 r k)) (fun k => g (ix2 0 k)) e := by
  pointwise [k0_pay1]
  rfl

/-- The product of the kept rows with a block of the weights. -/
theorem prod_apply (h w : Vec Ideal S1024x1024 .bf16) (r j : Fin 1024) :
    k0_pay2 h w (ix2 r j) = ∑ e : Fin 1024, h (ix2 r e) * w (ix2 e j) := by
  pointwise [k0_pay2]

/-- A row of the rows' block is a row of the memory. -/
theorem read_rows (c : Dev nD) (t : Fin cfg0.N) (r e : Fin 1024) (b : Fin 8) (s : Fin 256)
    (hr : t.val / 2 * 1024 + r.val = b.val * 256 + s.val) :
    iblk m c 0 t (ix2 r e) = m ((c : Thread nD τ).loc main_arg0) (ix3 b s e) := by
  blk_point [iblk, V, idx t]

/-- The gain's block is the gain. -/
theorem read_gain (c : Dev nD) (t : Fin cfg0.N) (e : Fin 1024) :
    iblk m c 1 t (ix2 0 e) = m ((c : Thread nD τ).loc main_arg1) (ix1 e) := by
  blk_point [iblk, V, idx t]

/-- The weights' block is a half of the weights' columns. -/
theorem read_w (c : Dev nD) (t : Fin cfg0.N) (e j : Fin 1024) (n : Fin 2048) (hn : n.val = t.val % 2 * 1024 + j.val) :
    iblk m c 2 t (ix2 e j) = m ((c : Thread nD τ).loc main_arg2) (ix2 e n) := by
  blk_point [iblk, V, idx t]

/-- The row of the memory (as a flat array of rows) that row `r` of row block `q` is, normalised. -/
abbrev keptRow (c : Dev nD) (b : Fin 8) (s : Fin 256) : Fin 1024 → EReal :=
  normRow (fun k => m ((c : Thread nD τ).loc main_arg0) (ix3 b s k)) (fun k => m ((c : Thread nD τ).loc main_arg1) (ix1 k))

/-- After every grid point the kept block holds the normalised rows of the point's row block. -/
theorem kept (c : Dev nD) : ∀ (n : ℕ) (hn : n < cfg0.N) (r e : Fin 1024) (b : Fin 8) (s : Fin 256),
    n / 2 * 1024 + r.val = b.val * 256 + s.val → (outsAt0 m c n hn).2 (ix2 r e) = keptRow m c b s e := by
  intro n
  induction n with
  | zero =>
    intro hn r e b s hr
    rw [show outsAt0 m c 0 hn = _ from outsAt0_A m c ⟨0, hn⟩ (Nat.zero_mod _)]
    refine Eq.trans ?_ ((norm_apply (iblk m c 0 ⟨0, hn⟩) (iblk m c 1 ⟨0, hn⟩) r e).trans ?_)
    · frame_out
    · simp only [read_rows m c ⟨0, hn⟩ r _ b s hr, read_gain]
  | succ n ih =>
    intro hn r e b s hr
    by_cases h0 : (n + 1) % 2 = 0
    · rw [show outsAt0 m c (n + 1) hn = _ from outsAt0_A m c ⟨n + 1, hn⟩ h0]
      refine Eq.trans ?_ ((norm_apply (iblk m c 0 ⟨n + 1, hn⟩) (iblk m c 1 ⟨n + 1, hn⟩) r e).trans ?_)
      · frame_out
      · simp only [read_rows m c ⟨n + 1, hn⟩ r _ b s hr, read_gain]
    · rw [show outsAt0 m c (n + 1) hn = _ from outsAt0_B m c ⟨n + 1, hn⟩ h0]
      exact ih (Nat.lt_of_succ_lt hn) r e b s (by omega)

/-- The output block at a point is the product of the block kept after it with the point's block of the weights. -/
theorem out_eq (c : Dev nD) (t : Fin cfg0.N) :
    (outsAt0 m c t.val t.isLt).1 = k0_pay2 (outsAt0 m c t.val t.isLt).2 (iblk m c 2 t) := by
  by_cases h0 : t.val % 2 = 0
  · rw [outsAt0_A m c t h0]
    unfold out0_A_3 sout0_A_0
    frame_out
  · rw [outsAt0_B m c t h0]
    unfold out0_B_3 sout0_B_0
    frame_out
    exact congrArg (k0_pay2 · _) (Memref.IsWhole.read_unread _ _)

/-- The reference's result of device `c`'s argument arrays. -/
abbrev want (c : Dev nD) : FVec Ideal Cert.KvRefIdeal.S2048x2048 .f32 :=
  Cert.KvRefIdeal.RefValue.REF (m ((c : Thread nD τ).loc main_arg0)) (m ((c : Thread nD τ).loc main_arg1))
    (m ((c : Thread nD τ).loc main_arg2))

/-- What a point leaves at an index of its block is the reference's entry there. -/
theorem point (c : Dev nD) (t : Fin cfg0.N) (r j : Fin 1024) (i n : Fin 2048) (hi : i.val = t.val / 2 * 1024 + r.val)
    (hn : n.val = t.val % 2 * 1024 + j.val) :
    (outsAt0 m c t.val t.isLt).1 (ix2 r j) = want m c (ix2 i n) := by
  have hs : i.val = (⟨i.val / 256, by omega⟩ : Fin 8).val * 256 + (⟨i.val % 256, by omega⟩ : Fin 256).val := by
    simp only; omega
  rw [out_eq, prod_apply]
  refine Eq.trans ?_ (Cert.KvRefIdeal.RefValue.REF_apply _ _ _ i ⟨i.val / 256, by omega⟩ ⟨i.val % 256, by omega⟩ hs n).symm
  refine Finset.sum_congr rfl fun e _ => ?_
  rw [kept m c t.val t.isLt r e _ _ (hi.symm.trans hs), read_w m c t e j n hn]

/-- The result array after the run is the reference's result. -/
theorem final (c : Dev nD) : (dats m 0 c).arrAt 3 (cfgs 0).N = want m c := by
  refine (dats m 0 c).arrAt_eq_of_covers 3 _ (by decide +kernel) fun t _ y => ?_
  blk_simp
  rw [after0_3]
  have ht : t.val < 4 := lt_of_lt_of_eq t.isLt N_0
  have hy : (y 0 : ℕ) < 1024 := (y 0).isLt
  have hy1 : (y 1 : ℕ) < 1024 := (y 1).isLt
  rw [eq_ix2 y]
  refine (point m c t (y 0) (y 1) ⟨t.val / 2 * 1024 + (y 0 : ℕ), by omega⟩ ⟨t.val % 2 * 1024 + (y 1 : ℕ), by omega⟩ rfl rfl).trans
    (congrArg (want m c) ?_)
  blk_ext [idx t]

/-- The memory projection kernel and its reference leave the same array, both from any contents of the arguments. -/
theorem agrees : Cert.algebraic_KvIdeal_KvRefIdeal := by
  pair_intro
  · run_from Cert.KvIdeal.Value.run_blocks m g
  · run_from Cert.KvRefIdeal.RefValue.run_REF m' g'
    exact (final m c).symm

end Cert.KvIdeal.RefValue

end
-- ==== Proof.FfnRef.lean ====
/-
  The feed-forward part's reference read at an index: a normalised row through the two halves of the first projection,
  the gated half times the other, through the second projection, onto the residual.
-/
module

public import proofs.«01_k».proof.Proof.RowMath
public import proofs.«01_k».proof.Proof.Gen.FfnRefIdeal.Run

@[expose] public section

set_option maxRecDepth 16384

noncomputable section

namespace Cert.FfnRefIdeal.RefValue

open Cert.FfnRefIdeal Cert.FfnRefIdeal.Gen Idealize.ShloMosaic Idealize.ShloMosaic.TcCoe Idealize.SL.Sem
open Cert.Rows

/-- The normalised rows through the first projection. -/
def wide (X : FVec Ideal S8x2048x1024 .f32) (G : FVec Ideal S1024 .f32) (W : FVec Ideal S1024x5632 .f32) :
    FVec Ideal S8x2048x5632 .f32 :=
  Host.dotGeneral dot_S8x2048x1024_S1024x5632_S8x2048x5632_2_0_01_1_n_n none (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) W

/-- The first half, gated by itself, times the second. -/
def act (U : FVec Ideal S8x2048x5632 .f32) : FVec Ideal S8x2048x2816 .f32 :=
  mulf (mulf (extractStridedSlice S8x2048x2816 ![0, 0, 0] U slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] U slices_S8x2048x5632_S8x2048x2816_0_0_0)))))) (extractStridedSlice S8x2048x2816 ![0, 0, 2816] U slices_S8x2048x5632_S8x2048x2816_0_0_2816)

/-- The residual plus the second projection. -/
def result (X : FVec Ideal S8x2048x1024 .f32) (A : FVec Ideal S8x2048x2816 .f32) (W : FVec Ideal S2816x1024 .f32) :
    FVec Ideal S16384x1024 .f32 :=
  shapeCast _ (addf X (Host.dotGeneral dot_S8x2048x2816_S2816x1024_S8x2048x1024_2_0_01_1_n_n none A W)) shapeCasts_S8x2048x1024_S16384x1024

/-- The reference's result as a function of its arguments. -/
def REF (X : FVec Ideal S8x2048x1024 .f32) (G : FVec Ideal S1024 .f32) (W : FVec Ideal S1024x5632 .f32)
    (D : FVec Ideal S2816x1024 .f32) : FVec Ideal S16384x1024 .f32 := result X (act (wide X G W)) D

/-- A gated entry: the first number by its logistic value, by the second. -/
def silu (a b : EReal) : EReal := a * Ideal.div 1 (1 + Ideal.exp (-a)) * b

/-- A row against a column. -/
def dotRow (h w : Fin 1024 → EReal) : EReal := ∑ e, h e * w e

/-- An entry of the first projection. -/
theorem wide_apply (X : FVec Ideal S8x2048x1024 .f32) (G : FVec Ideal S1024 .f32) (W : FVec Ideal S1024x5632 .f32)
    (b : Fin 8) (t : Fin 2048) (j : Fin 5632) :
    wide X G W (ix3 b t j) = dotRow (normRow (fun k => X (ix3 b t k)) (fun k => G (ix1 k))) (fun e => W (ix2 e j)) := by
  pointwise [wide]
  rfl

/-- A gated entry of the array. -/
theorem act_apply (U : FVec Ideal S8x2048x5632 .f32) (b : Fin 8) (t : Fin 2048) (f : Fin 2816) :
    act U (ix3 b t f) = silu (U (ix3 b t ⟨f.val, by omega⟩)) (U (ix3 b t ⟨2816 + f.val, by omega⟩)) := by
  pointwise [act]
  rfl

/-- A result entry. -/
theorem result_apply (X : FVec Ideal S8x2048x1024 .f32) (A : FVec Ideal S8x2048x2816 .f32) (W : FVec Ideal S2816x1024 .f32)
    (i : Fin 16384) (b : Fin 8) (t : Fin 2048) (hi : i.val = b.val * 2048 + t.val) (j : Fin 1024) :
    result X A W (ix2 i j) = X (ix3 b t j) + ∑ f : Fin 2816, A (ix3 b t f) * W (ix2 f j) := by
  have e0 : (⟨i.val / 2048, by omega⟩ : Fin 8) = b := Fin.ext (by simp only; omega)
  have e1 : (⟨i.val % 2048, by omega⟩ : Fin 2048) = t := Fin.ext (by simp only; omega)
  refine Eq.trans (b := X (ix3 ⟨i.val / 2048, by omega⟩ ⟨i.val % 2048, by omega⟩ j)
    + ∑ f : Fin 2816, A (ix3 ⟨i.val / 2048, by omega⟩ ⟨i.val % 2048, by omega⟩ f) * W (ix2 f j)) ?_ (by rw [e0, e1])
  pointwise [result]

/-- One summand of the second projection: hidden unit `f` of row `h`. -/
def unit (h : Fin 1024 → EReal) (W : FVec Ideal S1024x5632 .f32) (D : FVec Ideal S2816x1024 .f32) (j : Fin 1024) (f : Fin 2816) : EReal :=
  silu (dotRow h (fun e => W (ix2 e ⟨f.val, by omega⟩))) (dotRow h (fun e => W (ix2 e ⟨2816 + f.val, by omega⟩))) * D (ix2 f j)

/-- A sum over the hidden units is the sum over the first half of them plus the sum over the second. -/
theorem sum_halves (F : Fin 2816 → EReal) :
    ∑ f, F f = (∑ f : Fin 1408, F ⟨f.val, by omega⟩) + ∑ f : Fin 1408, F ⟨1408 + f.val, by omega⟩ :=
  Fin.sum_univ_add (a := 1408) (b := 1408) F

/-- Entry `(i, j)` of the reference. -/
theorem REF_apply (X : FVec Ideal S8x2048x1024 .f32) (G : FVec Ideal S1024 .f32) (W : FVec Ideal S1024x5632 .f32)
    (D : FVec Ideal S2816x1024 .f32) (i : Fin 16384) (b : Fin 8) (t : Fin 2048) (hi : i.val = b.val * 2048 + t.val) (j : Fin 1024) :
    REF X G W D (ix2 i j) = X (ix3 b t j)
      + ∑ f, unit (normRow (fun k => X (ix3 b t k)) (fun k => G (ix1 k))) W D j f := by
  unfold REF unit
  rw [result_apply _ _ _ i b t hi]
  simp only [act_apply, wide_apply]

/-- The reference runs to `REF` of its arguments, which it leaves as they were. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = REF (m ((c.tc : Thread nD τ).loc main_arg0))
          (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.FfnRefIdeal.Value.run m ρ

end Cert.FfnRefIdeal.RefValue

end
-- ==== Proof.FfnFinal.lean ====
/-
  The feed-forward kernel against its reference: the normalised rows are kept over the two blocks of hidden units, the
  accumulator holds the sum over the blocks done, and the array after the run is the reference's result.
-/
module

public import proofs.«01_k».proof.Defs
public import proofs.«01_k».proof.Proof.Gen.FfnIdeal.Value
public import proofs.«01_k».proof.Proof.FfnRef
public import Idealize.ShloMosaic.Lib.Claim

@[expose] public section

set_option maxRecDepth 16384

noncomputable section

namespace Cert.FfnIdeal.RefValue

open Cert.FfnIdeal Cert.FfnIdeal.Gen Idealize.ShloMosaic Idealize.ShloMosaic.TcCoe Idealize.SL.Sem
open Cert.Rows
open Cert.FfnRefIdeal.RefValue (REF REF_apply silu dotRow sum_halves)

variable (m : (ℓ : Loc nD τ sig) → Buf (Elt Ideal) ℓ) (ρ : Dev nD → PrngReg)

/-- The block every window stages at a grid point. -/
theorem idx : ∀ t : Fin cfg0.N, win0_0.index t = ![t.val / 2, 0] ∧ win0_1.index t = ![0, 0] ∧ win0_2.index t = ![0, t.val % 2]
    ∧ win0_3.index t = ![0, 2 + t.val % 2] ∧ win0_4.index t = ![t.val % 2, 0] ∧ win0_5.index t = ![t.val / 2, 0] :=
  (by decide +kernel : ∀ t : Fin grid0.N, _)

/-- The kept rows are the normalised rows of the block. -/
theorem norm_apply (x : Vec Ideal S1024x1024 .f32) (g : Vec Ideal S1x1024 .f32) (r e : Fin 1024) :
    k0_pay1 x g (ix2 r e) = normRow (fun k => x (ix2 r k)) (fun k => g (ix2 0 k)) e := by
  pointwise [k0_pay1]
  rfl

/-- One block's step: the accumulator plus the block's hidden units through their rows of the second projection. -/
theorem step_apply (h : Vec Ideal S1024x1024 .bf16) (u v : Vec Ideal S1024x1408 .bf16) (a : Vec Ideal S1024x1024 .f32)
    (w : Vec Ideal S1408x1024 .bf16) (r j : Fin 1024) :
    k0_pay3 h u v a w (ix2 r j) = a (ix2 r j) + ∑ f : Fin 1408,
      silu (dotRow (fun e => h (ix2 r e)) (fun e => u (ix2 e f))) (dotRow (fun e => h (ix2 r e)) (fun e => v (ix2 e f))) * w (ix2 f j) := by
  pointwise [k0_pay3]
  simp only [silu, dotRow, zero_sub]

/-- The accumulator starts at zero. -/
theorem zero_apply (r j : Fin 1024) : k0_pay2 (F := Ideal) (ix2 r j) = 0 := by
  pointwise [k0_pay2]

/-- The output is the residual plus the accumulator. -/
theorem sum_apply (x a : Vec Ideal S1024x1024 .f32) (r j : Fin 1024) : k0_pay4 x a (ix2 r j) = x (ix2 r j) + a (ix2 r j) := by
  pointwise [k0_pay4]

/-- A row of the rows' block is a row of the input. -/
theorem read_rows (c : Dev nD) (t : Fin cfg0.N) (r e : Fin 1024) (b : Fin 8) (s : Fin 2048)
    (hr : t.val / 2 * 1024 + r.val = b.val * 2048 + s.val) :
    iblk m c 0 t (ix2 r e) = m ((c : Thread nD τ).loc main_arg0) (ix3 b s e) := by
  blk_point [iblk, V, idx t]

/-- The gain's block is the gain. -/
theorem read_gain (c : Dev nD) (t : Fin cfg0.N) (e : Fin 1024) :
    iblk m c 1 t (ix2 0 e) = m ((c : Thread nD τ).loc main_arg1) (ix1 e) := by
  blk_point [iblk, V, idx t]

/-- The gated half's block of columns. -/
theorem read_wg (c : Dev nD) (t : Fin cfg0.N) (e : Fin 1024) (f : Fin 1408) (n : Fin 5632) (hn : n.val = t.val % 2 * 1408 + f.val) :
    iblk m c 2 t (ix2 e f) = m ((c : Thread nD τ).loc main_arg2) (ix2 e n) := by
  blk_point [iblk, V, idx t]

/-- The other half's block of columns. -/
theorem read_wu (c : Dev nD) (t : Fin cfg0.N) (e : Fin 1024) (f : Fin 1408) (n : Fin 5632)
    (hn : n.val = 2816 + (t.val % 2 * 1408 + f.val)) :
    iblk m c 3 t (ix2 e f) = m ((c : Thread nD τ).loc main_arg2) (ix2 e n) := by
  blk_point [iblk, V, idx t]

/-- The second projection's block of rows. -/
theorem read_wd (c : Dev nD) (t : Fin cfg0.N) (f : Fin 1408) (j : Fin 1024) (n : Fin 2816) (hn : n.val = t.val % 2 * 1408 + f.val) :
    iblk m c 4 t (ix2 f j) = m ((c : Thread nD τ).loc main_arg3) (ix2 n j) := by
  blk_point [iblk, V, idx t]

/-- What a first point of a row block leaves: kept rows, accumulator. -/
theorem first (c : Dev nD) (t : Fin cfg0.N) (h0 : t.val % 2 = 0) :
    (outsAt0 m c t.val t.isLt).2.1 = k0_pay1 (iblk m c 0 t) (iblk m c 1 t)
      ∧ (outsAt0 m c t.val t.isLt).2.2
        = k0_pay3 (k0_pay1 (iblk m c 0 t) (iblk m c 1 t)) (iblk m c 2 t) (iblk m c 3 t) (k0_pay2 (F := Ideal)) (iblk m c 4 t) := by
  rw [outsAt0_A m c t h0 (by omega)]
  constructor
  · unfold sout0_A_0
    frame_out
  · unfold sout0_A_1
    frame_out

/-- What a second point leaves in the output: the residual plus the accumulator after its own block. -/
theorem second (c : Dev nD) (t : Fin cfg0.N) (h1 : t.val % 2 = 1) (p : Fin cfg0.N) (hp : p.val = t.val - 1) :
    (outsAt0 m c t.val t.isLt).1
      = k0_pay4 (iblk m c 0 t) (k0_pay3 (outsAt0 m c p.val p.isLt).2.1 (iblk m c 2 t) (iblk m c 3 t)
          (outsAt0 m c p.val p.isLt).2.2 (iblk m c 4 t)) := by
  obtain ⟨p, hlt⟩ := p
  obtain rfl : p = t.val - 1 := hp
  rw [outsAt0_B m c t (by omega) h1]
  unfold out0_B_5
  frame_out
  refine congrArg (k0_pay4 _) (congrArg₂ (fun h a => k0_pay3 h _ _ a _) ?_ ?_) <;> exact Memref.IsWhole.read_unread _ _

/-- The input row `(b, s)`, normalised. -/
abbrev keptRow (c : Dev nD) (b : Fin 8) (s : Fin 2048) : Fin 1024 → EReal :=
  normRow (fun k => m ((c : Thread nD τ).loc main_arg0) (ix3 b s k)) (fun k => m ((c : Thread nD τ).loc main_arg1) (ix1 k))

/-- Hidden unit `f` of row `(b, s)` through its row of the second projection. -/
abbrev unit (c : Dev nD) (b : Fin 8) (s : Fin 2048) (j : Fin 1024) (f : Fin 2816) : EReal :=
  Cert.FfnRefIdeal.RefValue.unit (keptRow m c b s) (m ((c : Thread nD τ).loc main_arg2)) (m ((c : Thread nD τ).loc main_arg3)) j f

/-- A block's step over the kept rows adds the units of its block. -/
theorem step_units (c : Dev nD) (t : Fin cfg0.N) (h : Vec Ideal S1024x1024 .bf16) (a : Vec Ideal S1024x1024 .f32) (r j : Fin 1024)
    (b : Fin 8) (s : Fin 2048) (hh : ∀ e, h (ix2 r e) = keptRow m c b s e) (o : ℕ) (ho : o = t.val % 2 * 1408) (hlt : o ≤ 1408) :
    k0_pay3 h (iblk m c 2 t) (iblk m c 3 t) a (iblk m c 4 t) (ix2 r j)
      = a (ix2 r j) + ∑ f : Fin 1408, unit m c b s j ⟨o + f.val, by omega⟩ := by
  rw [step_apply]
  refine congrArg (a (ix2 r j) + ·) (Finset.sum_congr rfl fun f _ => ?_)
  have hg := fun e => read_wg m c t e f ⟨o + f.val, by omega⟩ (by simp only; omega)
  have hu := fun e => read_wu m c t e f ⟨2816 + (o + f.val), by omega⟩ (by simp only; omega)
  have hd := read_wd m c t f j ⟨o + f.val, by omega⟩ (by simp only; omega)
  simp only [hh, hg, hu, hd, Cert.FfnRefIdeal.RefValue.unit]

/-- The reference's result of device `c`'s argument arrays. -/
abbrev want (c : Dev nD) : FVec Ideal Cert.FfnRefIdeal.S16384x1024 .f32 :=
  REF (m ((c : Thread nD τ).loc main_arg0)) (m ((c : Thread nD τ).loc main_arg1))
    (m ((c : Thread nD τ).loc main_arg2)) (m ((c : Thread nD τ).loc main_arg3))

/-- What the second point of a row block leaves at an index of the output block is the reference's entry there. -/
theorem point (c : Dev nD) (t : Fin cfg0.N) (h1 : t.val % 2 = 1) (r j : Fin 1024) (i : Fin 16384)
    (hi : i.val = t.val / 2 * 1024 + r.val) :
    (outsAt0 m c t.val t.isLt).1 (ix2 r j) = want m c (ix2 i j) := by
  have hN := t.isLt
  let p : Fin cfg0.N := ⟨t.val - 1, by omega⟩
  have hp : p.val = t.val - 1 := rfl
  let b : Fin 8 := ⟨i.val / 2048, by omega⟩
  let s : Fin 2048 := ⟨i.val % 2048, by omega⟩
  have hs : i.val = b.val * 2048 + s.val := by simp only [b, s]; omega
  have hk : ∀ e, k0_pay1 (iblk m c 0 p) (iblk m c 1 p) (ix2 r e) = keptRow m c b s e := fun e => by
    rw [norm_apply]
    simp only [read_rows m c p r _ b s (by omega), read_gain]
  obtain ⟨f1, f2⟩ := first m c p (by omega)
  rw [second m c t h1 p hp, f1, f2, sum_apply, step_units m c t _ _ r j b s hk 1408 (by omega) (by omega),
    step_units m c p _ _ r j b s hk 0 (by omega) (by omega), zero_apply, zero_add]
  refine Eq.trans ?_ (REF_apply _ _ _ _ i b s hs j).symm
  rw [read_rows m c t r j b s (by omega), sum_halves]
  simp only [Nat.zero_add]

/-- The result array after the run is the reference's result. -/
theorem final (c : Dev nD) : (dats m 0 c).arrAt 5 (cfgs 0).N = want m c := by
  refine (dats m 0 c).arrAt_eq_of_covers 5 _ (by decide +kernel) fun t hf y => ?_
  blk_simp
  rw [after0_5]
  have ht : t.val < 32 := lt_of_lt_of_eq t.isLt N_0
  have hy : (y 0 : ℕ) < 1024 := (y 0).isLt
  rw [eq_ix2 y]
  refine (point m c t ((flush0_5 t).mp hf) (y 0) (y 1) ⟨t.val / 2 * 1024 + (y 0 : ℕ), by omega⟩ rfl).trans
    (congrArg (want m c) ?_)
  blk_ext [idx t]

/-- The feed-forward kernel and its reference leave the same array, both from any contents of the arguments. -/
theorem agrees : Cert.algebraic_FfnIdeal_FfnRefIdeal := by
  pair_intro
  · run_from Cert.FfnIdeal.Value.run_blocks m g
  · run_from Cert.FfnRefIdeal.RefValue.run_REF m' g'
    exact (final m c).symm

end Cert.FfnIdeal.RefValue

end
-- ==== Proof.MergeRef.lean ====
/-
  The merge's reference read at an index: gates, branches through their projections, the gated sum and the output
  projection.
-/
module

public import proofs.«01_k».proof.Proof.RowMath
public import proofs.«01_k».proof.Proof.Gen.MergeRefIdeal.Run

@[expose] public section

set_option maxRecDepth 16384

noncomputable section

namespace Cert.MergeRefIdeal.RefValue

open Cert.MergeRefIdeal Cert.MergeRefIdeal.Gen Idealize.ShloMosaic Idealize.ShloMosaic.TcCoe Idealize.SL.Sem
open Cert.Rows

/-- The gates: the logistic function of the four gate columns of every row. -/
def gates (P : FVec Ideal S16384x11520 .f32) : FVec Ideal S8x2048x4x1024 .f32 :=
  shapeCast _ (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 7168] P slices_S16384x11520_S16384x4096_0_7168))))) shapeCasts_S16384x4096_S8x2048x4x1024

/-- The four branches side by side. -/
def stack (A B C D : FVec Ideal S8x2048x512 .f32) : FVec Ideal S8x2048x4x512 .f32 :=
  concatenate S8x2048x4x512 2 [⟨S8x2048x1x512, ((broadcastInDim S8x2048x1x512 ![0, 1, 3] bcast_S8x2048x512_S8x2048x1x512_0_1_3 A) : (⟨S8x2048x1x512, .f32⟩ : BufTy).Contents (Elt Ideal))⟩, ⟨S8x2048x1x512, ((broadcastInDim S8x2048x1x512 ![0, 1, 3] bcast_S8x2048x512_S8x2048x1x512_0_1_3 B) : (⟨S8x2048x1x512, .f32⟩ : BufTy).Contents (Elt Ideal))⟩, ⟨S8x2048x1x512, ((broadcastInDim S8x2048x1x512 ![0, 1, 3] bcast_S8x2048x512_S8x2048x1x512_0_1_3 C) : (⟨S8x2048x1x512, .f32⟩ : BufTy).Contents (Elt Ideal))⟩, ⟨S8x2048x1x512, ((broadcastInDim S8x2048x1x512 ![0, 1, 3] bcast_S8x2048x512_S8x2048x1x512_0_1_3 D) : (⟨S8x2048x1x512, .f32⟩ : BufTy).Contents (Elt Ideal))⟩] concatenates_S8x2048x1x512_S8x2048x1x512_S8x2048x1x512_S8x2048x1x512_S8x2048x4x512_d2

/-- The branches through their projections. -/
def mixed (S : FVec Ideal S8x2048x4x512 .f32) (W : FVec Ideal S4x512x1024 .f32) : FVec Ideal S8x2048x4x1024 .f32 :=
  transpose S8x2048x4x1024 [2, 3, 0, 1] (Host.dotGeneral dot_S4x512x1024_S8x2048x4x512_S4x1024x8x2048_1_3_2_01_0_2 none W S) transposes_S4x1024x8x2048_S8x2048x4x1024_2_3_0_1

/-- The gated sum of the four. -/
def merged (G M : FVec Ideal S8x2048x4x1024 .f32) : FVec Ideal S8x2048x1024 .f32 :=
  Host.reduceAdd (mulf G M) (constant S_ .f32 0x00000000#32) reducesTo_S8x2048x4x1024_S8x2048x1024_d2 h_S_

/-- The residual plus the merged rows through the output projection. -/
def result (X Y : FVec Ideal S8x2048x1024 .f32) (W : FVec Ideal S1024x1024 .f32) : FVec Ideal S16384x1024 .f32 :=
  shapeCast _ (addf X (Host.dotGeneral dot_S8x2048x1024_S1024x1024_S8x2048x1024_2_0_01_1_n_n none Y W)) shapeCasts_S8x2048x1024_S16384x1024

/-- The reference's result as a function of its arguments. -/
def REF (X : FVec Ideal S8x2048x1024 .f32) (A B C D : FVec Ideal S8x2048x512 .f32) (P : FVec Ideal S16384x11520 .f32)
    (W : FVec Ideal S4x512x1024 .f32) (W' : FVec Ideal S1024x1024 .f32) : FVec Ideal S16384x1024 .f32 :=
  result X (merged (gates P) (mixed (stack A B C D) W)) W'

/-- The logistic function as the programs write it. -/
def sigmoidE (x : EReal) : EReal :=
  Ideal.div 1 (1 + Ideal.exp (-x))

/-- A gate. -/
theorem gates_apply (P : FVec Ideal S16384x11520 .f32) (i : Fin 16384) (b : Fin 8) (t : Fin 2048)
    (hi : i.val = b.val * 2048 + t.val) (n : Fin 4) (d : Fin 1024) (k : Fin 11520) (hk : k.val = 7168 + n.val * 1024 + d.val) :
    gates P (ix4 b t n d) = sigmoidE (P (ix2 i k)) := by
  have e0 : (⟨b.val * 2048 + t.val, by omega⟩ : Fin 16384) = i := Fin.ext hi.symm
  have e1 : (⟨7168 + (n.val * 1024 + d.val), by omega⟩ : Fin 11520) = k := Fin.ext (by simp only; omega)
  refine Eq.trans (b := sigmoidE (P (ix2 ⟨b.val * 2048 + t.val, by omega⟩ ⟨7168 + (n.val * 1024 + d.val), by omega⟩))) ?_
    (by rw [e0, e1])
  pointwise [gates]
  rfl

/-- The branch at place `n` of the stack. -/
theorem stack_apply (A B C D : FVec Ideal S8x2048x512 .f32) (b : Fin 8) (t : Fin 2048) (e : Fin 512) :
    stack A B C D (ix4 b t 0 e) = A (ix3 b t e) ∧ stack A B C D (ix4 b t 1 e) = B (ix3 b t e)
      ∧ stack A B C D (ix4 b t 2 e) = C (ix3 b t e) ∧ stack A B C D (ix4 b t 3 e) = D (ix3 b t e) := by
  refine ⟨?_, ?_, ?_, ?_⟩ <;> pointwise [stack]

/-- A branch through its projection. -/
theorem mixed_apply (S : FVec Ideal S8x2048x4x512 .f32) (W : FVec Ideal S4x512x1024 .f32) (b : Fin 8) (t : Fin 2048)
    (n : Fin 4) (d : Fin 1024) : mixed S W (ix4 b t n d) = ∑ e : Fin 512, S (ix4 b t n e) * W (ix3 n e d) := by
  refine Eq.trans (b := ∑ e : Fin 512, W (ix3 n e d) * S (ix4 b t n e)) ?_ (Finset.sum_congr rfl fun e _ => mul_comm _ _)
  pointwise [mixed]

/-- The gated sum. -/
theorem merged_apply (G M : FVec Ideal S8x2048x4x1024 .f32) (b : Fin 8) (t : Fin 2048) (d : Fin 1024) :
    merged G M (ix3 b t d) = G (ix4 b t 0 d) * M (ix4 b t 0 d) + G (ix4 b t 1 d) * M (ix4 b t 1 d)
      + G (ix4 b t 2 d) * M (ix4 b t 2 d) + G (ix4 b t 3 d) * M (ix4 b t 3 d) := by
  refine Eq.trans (b := ∑ n : Fin 4, G (ix4 b t n d) * M (ix4 b t n d)) ?_ (Fin.sum_univ_four _)
  pointwise [merged]

/-- A result entry. -/
theorem result_apply (X Y : FVec Ideal S8x2048x1024 .f32) (W : FVec Ideal S1024x1024 .f32) (i : Fin 16384) (b : Fin 8)
    (t : Fin 2048) (hi : i.val = b.val * 2048 + t.val) (j : Fin 1024) :
    result X Y W (ix2 i j) = X (ix3 b t j) + ∑ d : Fin 1024, Y (ix3 b t d) * W (ix2 d j) := by
  have e0 : (⟨i.val / 2048, by omega⟩ : Fin 8) = b := Fin.ext (by simp only; omega)
  have e1 : (⟨i.val % 2048, by omega⟩ : Fin 2048) = t := Fin.ext (by simp only; omega)
  refine Eq.trans (b := X (ix3 ⟨i.val / 2048, by omega⟩ ⟨i.val % 2048, by omega⟩ j)
    + ∑ d : Fin 1024, Y (ix3 ⟨i.val / 2048, by omega⟩ ⟨i.val % 2048, by omega⟩ d) * W (ix2 d j)) ?_ (by rw [e0, e1])
  pointwise [result]

/-- A branch's projected entry times its gate. -/
def gatedDot (g : EReal) (a w : Fin 512 → EReal) : EReal := sigmoidE g * ∑ e, a e * w e

/-- Entry `(i, j)` of the reference, from row `i` of the residual, the branches and the gate columns. -/
theorem REF_apply (X : FVec Ideal S8x2048x1024 .f32) (A B C D : FVec Ideal S8x2048x512 .f32)
    (P : FVec Ideal S16384x11520 .f32) (W : FVec Ideal S4x512x1024 .f32) (W' : FVec Ideal S1024x1024 .f32)
    (i : Fin 16384) (b : Fin 8) (t : Fin 2048) (hi : i.val = b.val * 2048 + t.val) (j : Fin 1024) :
    REF X A B C D P W W' (ix2 i j) = X (ix3 b t j) + ∑ d : Fin 1024,
      (gatedDot (P (ix2 i ⟨7168 + d.val, by omega⟩)) (fun e => A (ix3 b t e)) (fun e => W (ix3 0 e d))
        + gatedDot (P (ix2 i ⟨8192 + d.val, by omega⟩)) (fun e => B (ix3 b t e)) (fun e => W (ix3 1 e d))
        + gatedDot (P (ix2 i ⟨9216 + d.val, by omega⟩)) (fun e => C (ix3 b t e)) (fun e => W (ix3 2 e d))
        + gatedDot (P (ix2 i ⟨10240 + d.val, by omega⟩)) (fun e => D (ix3 b t e)) (fun e => W (ix3 3 e d))) * W' (ix2 d j) := by
  unfold REF gatedDot
  rw [result_apply _ _ _ i b t hi]
  congr 1
  refine Finset.sum_congr rfl fun d _ => ?_
  congr 1
  rw [merged_apply, gates_apply P i b t hi 0 d ⟨7168 + d.val, by omega⟩ (by simp),
    gates_apply P i b t hi 1 d ⟨8192 + d.val, by omega⟩ (by simp), gates_apply P i b t hi 2 d ⟨9216 + d.val, by omega⟩ (by simp),
    gates_apply P i b t hi 3 d ⟨10240 + d.val, by omega⟩ (by simp)]
  simp only [mixed_apply, stack_apply]

/-- The reference runs to `REF` of its arguments, which it leaves as they were. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = REF (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.MergeRefIdeal.Value.run m ρ

end Cert.MergeRefIdeal.RefValue

end
-- ==== Proof.MergeFinal.lean ====
/-
  The merge kernel against its reference: what a grid point leaves in its block, and the array after the run.
-/
module

public import proofs.«01_k».proof.Defs
public import proofs.«01_k».proof.Proof.Gen.MergeIdeal.Value
public import proofs.«01_k».proof.Proof.MergeRef
public import Idealize.ShloMosaic.Lib.Claim

@[expose] public section

set_option maxRecDepth 16384

noncomputable section

namespace Cert.MergeIdeal.RefValue

open Cert.MergeIdeal Cert.MergeIdeal.Gen Idealize.ShloMosaic Idealize.ShloMosaic.TcCoe Idealize.SL.Sem
open Cert.Rows Cert.MergeRefIdeal.RefValue

variable (m : (ℓ : Loc nD τ sig) → Buf (Elt Ideal) ℓ) (ρ : Dev nD → PrngReg)

/-- The block every window stages at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 7] ∧ win0_6.index t = ![t.val, 8]
    ∧ win0_7.index t = ![t.val, 9] ∧ win0_8.index t = ![t.val, 10] ∧ win0_9.index t = ![0, 0, 0] ∧ win0_10.index t = ![0, 0]
    ∧ win0_11.index t = ![t.val, 0] :=
  (by decide +kernel : ∀ t : Fin grid0.N, _)

/-- The first two branches, gated and added. -/
theorem pay1_apply (g0 g1 : Vec Ideal S256x1024 .f32) (a b : Vec Ideal S256x512 .f32) (u v : Vec Ideal S1x512x1024 .bf16)
    (r : Fin 256) (d : Fin 1024) :
    k0_pay1 g0 a u g1 b v (ix2 r d)
      = gatedDot (g0 (ix2 r d)) (fun e => a (ix2 r e)) (fun e => u (ix3 0 e d))
        + gatedDot (g1 (ix2 r d)) (fun e => b (ix2 r e)) (fun e => v (ix3 0 e d)) := by
  pointwise [k0_pay1]
  simp only [gatedDot, sigmoidE, zero_sub]

/-- All four added, through the output projection, onto the residual. -/
theorem pay3_apply (s g2 g3 x : Vec Ideal S256x1024 .f32) (a b : Vec Ideal S256x512 .f32) (u v : Vec Ideal S1x512x1024 .bf16)
    (w : Vec Ideal S1024x1024 .bf16) (r : Fin 256) (j : Fin 1024) :
    k0_pay3 s (k0_pay2 g2) a u g3 b v x w (ix2 r j)
      = x (ix2 r j) + ∑ d : Fin 1024, (s (ix2 r d) + gatedDot (g2 (ix2 r d)) (fun e => a (ix2 r e)) (fun e => u (ix3 0 e d))
        + gatedDot (g3 (ix2 r d)) (fun e => b (ix2 r e)) (fun e => v (ix3 0 e d))) * w (ix2 d j) := by
  pointwise [k0_pay3, k0_pay2]
  simp only [gatedDot, sigmoidE, zero_sub]

/-- A row of the residual's block is a row of the residual. -/
theorem read_x (c : Dev nD) (t : Fin cfg0.N) (r : Fin 256) (e : Fin 1024) (b : Fin 8) (s : Fin 2048)
    (hr : t.val * 256 + r.val = b.val * 2048 + s.val) :
    iblk m c 0 t (ix2 r e) = m ((c : Thread nD τ).loc main_arg0) (ix3 b s e) := by
  blk_point [iblk, V, idx t]

/-- A row of each branch's block is a row of the branch. -/
theorem read_branch (c : Dev nD) (t : Fin cfg0.N) (r : Fin 256) (e : Fin 512) (b : Fin 8) (s : Fin 2048)
    (hr : t.val * 256 + r.val = b.val * 2048 + s.val) :
    iblk m c 1 t (ix2 r e) = m ((c : Thread nD τ).loc main_arg1) (ix3 b s e)
      ∧ iblk m c 2 t (ix2 r e) = m ((c : Thread nD τ).loc main_arg2) (ix3 b s e)
      ∧ iblk m c 3 t (ix2 r e) = m ((c : Thread nD τ).loc main_arg3) (ix3 b s e)
      ∧ iblk m c 4 t (ix2 r e) = m ((c : Thread nD τ).loc main_arg4) (ix3 b s e) := by
  refine ⟨?_, ?_, ?_, ?_⟩ <;> blk_point [iblk, V, idx t]

/-- The branch projections' block is all of them. -/
theorem read_wb (c : Dev nD) (t : Fin cfg0.N) (n : Fin 4) (e : Fin 512) (d : Fin 1024) :
    iblk m c 9 t (ix3 n e d) = m ((c : Thread nD τ).loc main_arg6) (ix3 n e d) := by
  blk_point [iblk, V, idx t]

/-- The output projection's block is all of it. -/
theorem read_wo (c : Dev nD) (t : Fin cfg0.N) (e d : Fin 1024) :
    iblk m c 10 t (ix2 e d) = m ((c : Thread nD τ).loc main_arg7) (ix2 e d) := by
  blk_point [iblk, V, idx t]

/-- The gate blocks are the four groups of gate columns of the rows. -/
theorem read_gate (c : Dev nD) (t : Fin cfg0.N) (r : Fin 256) (d : Fin 1024) (i : Fin 16384) (hi : i.val = t.val * 256 + r.val) :
    X0_5 m c t (ix2 r d) = m ((c : Thread nD τ).loc main_arg5) (ix2 i ⟨7168 + d.val, by omega⟩)
      ∧ X0_6 m c t (ix2 r d) = m ((c : Thread nD τ).loc main_arg5) (ix2 i ⟨8192 + d.val, by omega⟩)
      ∧ X0_7 m c t (ix2 r d) = m ((c : Thread nD τ).loc main_arg5) (ix2 i ⟨9216 + d.val, by omega⟩)
      ∧ X0_8 m c t (ix2 r d) = m ((c : Thread nD τ).loc main_arg5) (ix2 i ⟨10240 + d.val, by omega⟩) := by
  refine ⟨?_, ?_, ?_, ?_⟩
  · unfold X0_5 Pipeline.Window.fill
    rw [dif_pos (moved0_5 t _)]
    blk_point [iblk, V, idx t]
  · unfold X0_6 Pipeline.Window.fill
    rw [dif_pos (moved0_6 t _)]
    blk_point [iblk, V, idx t]
  · unfold X0_7 Pipeline.Window.fill
    rw [dif_pos (moved0_7 t _)]
    blk_point [iblk, V, idx t]
  · unfold X0_8 Pipeline.Window.fill
    rw [dif_pos (moved0_8 t _)]
    blk_point [iblk, V, idx t]

/-- One entry of the body's output, of its input blocks. -/
def cell (x : Vec Ideal S256x1024 .f32) (a b p q : Vec Ideal S256x512 .f32) (g0 g1 g2 g3 : Vec Ideal S256x1024 .f32)
    (w : Vec Ideal S4x512x1024 .bf16) (w' : Vec Ideal S1024x1024 .bf16) (r : Fin 256) (j : Fin 1024) : EReal :=
  x (ix2 r j) + ∑ d : Fin 1024,
    (gatedDot (g0 (ix2 r d)) (fun e => a (ix2 r e)) (fun e => w (ix3 0 e d))
      + gatedDot (g1 (ix2 r d)) (fun e => b (ix2 r e)) (fun e => w (ix3 1 e d))
      + gatedDot (g2 (ix2 r d)) (fun e => p (ix2 r e)) (fun e => w (ix3 2 e d))
      + gatedDot (g3 (ix2 r d)) (fun e => q (ix2 r e)) (fun e => w (ix3 3 e d))) * w' (ix2 d j)

/-- The body's four loads of the branch projections read one of them each. -/
theorem slab (w : Vec Ideal S4x512x1024 .bf16) (e : Fin 512) (d : Fin 1024) :
    View.ld w (Rect.unit ![0, 0, 0] ![1, 512, 1024] inb_S4x512x1024_S1x512x1024_0_0_0) (ix3 0 e d) = w (ix3 0 e d)
      ∧ View.ld w (Rect.unit ![1, 0, 0] ![1, 512, 1024] inb_S4x512x1024_S1x512x1024_1_0_0) (ix3 0 e d) = w (ix3 1 e d)
      ∧ View.ld w (Rect.unit ![2, 0, 0] ![1, 512, 1024] inb_S4x512x1024_S1x512x1024_2_0_0) (ix3 0 e d) = w (ix3 2 e d)
      ∧ View.ld w (Rect.unit ![3, 0, 0] ![1, 512, 1024] inb_S4x512x1024_S1x512x1024_3_0_0) (ix3 0 e d) = w (ix3 3 e d) := by
  refine ⟨?_, ?_, ?_, ?_⟩ <;> pointwise [View.ld]

/-- What the body leaves in the output block. -/
theorem out_apply (c : Dev nD) (t : Fin cfg0.N) (r : Fin 256) (j : Fin 1024) :
    outsAt0 m c t (ix2 r j) = cell (iblk m c 0 t) (iblk m c 1 t) (iblk m c 2 t) (iblk m c 3 t) (iblk m c 4 t) (X0_5 m c t)
      (X0_6 m c t) (X0_7 m c t) (X0_8 m c t) (iblk m c 9 t) (iblk m c 10 t) r j := by
  unfold outsAt0 out0_A_11
  frame_out
  refine (pay3_apply _ _ _ _ _ _ _ _ _ r j).trans ?_
  simp only [pay1_apply]
  have h0 := fun e d => (slab (iblk m c 9 t) e d).1
  have h1 := fun e d => (slab (iblk m c 9 t) e d).2.1
  have h2 := fun e d => (slab (iblk m c 9 t) e d).2.2.1
  have h3 := fun e d => (slab (iblk m c 9 t) e d).2.2.2
  simp only [h0, h1, h2, h3, cell]

/-- The reference's result of device `c`'s argument arrays. -/
abbrev want (c : Dev nD) : FVec Ideal Cert.MergeRefIdeal.S16384x1024 .f32 :=
  REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What point `t` leaves at row `r` of its block is the reference's row `256·t + r`. -/
theorem point (c : Dev nD) (t : Fin cfg0.N) (r : Fin 256) (j : Fin 1024) (i : Fin 16384) (hi : i.val = t.val * 256 + r.val) :
    outsAt0 m c t (ix2 r j) = want m c (ix2 i j) := by
  let b : Fin 8 := ⟨i.val / 2048, by omega⟩
  let s : Fin 2048 := ⟨i.val % 2048, by omega⟩
  have hs : i.val = b.val * 2048 + s.val := by simp only [b, s]; omega
  refine (out_apply m c t r j).trans ?_
  refine Eq.trans ?_ (REF_apply _ _ _ _ _ _ _ _ i b s hs j).symm
  have hx := fun e => read_x m c t r e b s (hi.symm.trans hs)
  have hb := fun e => read_branch m c t r e b s (hi.symm.trans hs)
  have hg := fun d => read_gate m c t r d i hi
  have hw := fun n e d => read_wb m c t n e d
  have ho := fun e d => read_wo m c t e d
  unfold cell
  simp only [hx, hb, hg, hw, ho]

/-- The result array after the run is the reference's result. -/
theorem final (c : Dev nD) : (dats m 0 c).arrAt 11 (cfgs 0).N = want m c := by
  refine (dats m 0 c).arrAt_eq_of_covers 11 _ (by decide +kernel) fun t _ y => ?_
  blk_simp
  rw [after0_11]
  have ht : t.val < 64 := lt_of_lt_of_eq t.isLt N_0
  have hy : (y 0 : ℕ) < 256 := (y 0).isLt
  rw [eq_ix2 y]
  refine (point m c t (y 0) (y 1) ⟨t.val * 256 + (y 0 : ℕ), by omega⟩ rfl).trans (congrArg (want m c) ?_)
  blk_ext [idx t]

/-- The merge kernel and its reference leave the same array, both from any contents of the arguments. -/
theorem agrees : Cert.algebraic_MergeIdeal_MergeRefIdeal := by
  pair_intro
  · run_from Cert.MergeIdeal.Value.run_blocks m g
  · run_from Cert.MergeRefIdeal.RefValue.run_REF m' g'
    exact (final m c).symm

end Cert.MergeIdeal.RefValue

end
-- ==== Proof.NormFinal.lean ====
/-
  The final norm of the prompt rows: the array the kernel leaves is the reference's result.
-/
module

public import proofs.«01_k».proof.Proof.RowMath
public import proofs.«01_k».proof.Proof.Gen.NormIdeal.Value
public import proofs.«01_k».proof.Proof.Gen.NormRefIdeal.Run
public import proofs.«01_k».proof.Defs
public import Idealize.ShloMosaic.Lib.Claim

@[expose] public section

set_option maxRecDepth 16384

noncomputable section

namespace Cert.NormRefIdeal.RefValue

open Cert.NormRefIdeal Cert.NormRefIdeal.Gen Idealize.ShloMosaic Idealize.ShloMosaic.TcCoe Idealize.SL.Sem
open Cert.Rows

/-- An entry of the flat array of rows. -/
theorem pick (P : FVec Ideal S8x2048x1024 .f32) (i : Fin 16384) (b : Fin 8) (s : Fin 2048)
    (hi : i.val = b.val * 2048 + s.val) (e : Fin 1024) :
    shapeCast S16384x1024 P shapeCasts_S8x2048x1024_S16384x1024 (ix2 i e) = P (ix3 b s e) := by
  pointwise
  all_goals blk_ext

/-- The reference's result as a function of its two arguments. -/
def REF (X : FVec Ideal S8x2048x1024 .f32) (G : FVec Ideal S1024 .f32) : FVec Ideal S16384x1024 .f32 :=
  shapeCast _ (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) shapeCasts_S8x2048x1024_S16384x1024

/-- Entry `(i, e)` of the reference: row `i` of the input, normalised. -/
theorem REF_apply (X : FVec Ideal S8x2048x1024 .f32) (G : FVec Ideal S1024 .f32) (i : Fin 16384) (b : Fin 8) (s : Fin 2048)
    (hi : i.val = b.val * 2048 + s.val) (e : Fin 1024) :
    REF X G (ix2 i e) = normRow (fun k => X (ix3 b s k)) (fun k => G (ix1 k)) e := by
  unfold REF
  refine (pick _ i b s hi e).trans ?_
  pointwise
  rfl

/-- The generated composed term is `REF` of the arguments. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = REF (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.NormRefIdeal.Value.run m ρ

end Cert.NormRefIdeal.RefValue

namespace Cert.NormIdeal.RefValue

open Cert.NormIdeal Cert.NormIdeal.Gen Idealize.ShloMosaic Idealize.ShloMosaic.TcCoe Idealize.SL.Sem
open Cert.Rows

variable (m : (ℓ : Loc nD τ sig) → Buf (Elt Ideal) ℓ) (ρ : Dev nD → PrngReg)

/-- The block every window stages at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores are the normalised rows of its block. -/
theorem norm_apply (x : Vec Ideal S512x1024 .f32) (g : Vec Ideal S1x1024 .f32) (r : Fin 512) (e : Fin 1024) :
    k0_pay1 x g (ix2 r e) = normRow (fun k => x (ix2 r k)) (fun k => g (ix2 0 k)) e := by
  pointwise [k0_pay1]
  rfl

/-- The output block of a point is what the body stores of the point's blocks. -/
theorem out_eq (x : Vec Ideal S512x1024 .f32) (g : Vec Ideal S1x1024 .f32) : out0_2 x g = k0_pay1 x g := by
  unfold out0_2
  frame_out

/-- A row of the rows' block is a row of the input. -/
theorem read_rows (c : Dev nD) (t : Fin cfg0.N) (r : Fin 512) (e : Fin 1024) (b : Fin 8) (s : Fin 2048)
    (hr : t.val * 512 + r.val = b.val * 2048 + s.val) :
    iblk m c 0 t (ix2 r e) = m ((c : Thread nD τ).loc main_arg0) (ix3 b s e) := by
  blk_point [iblk, V, idx t]

/-- The gain's block is the gain. -/
theorem read_gain (c : Dev nD) (t : Fin cfg0.N) (e : Fin 1024) :
    iblk m c 1 t (ix2 0 e) = m ((c : Thread nD τ).loc main_arg1) (ix1 e) := by
  blk_point [iblk, V, idx t]

/-- The reference's result of device `c`'s argument arrays. -/
abbrev want (c : Dev nD) : FVec Ideal Cert.NormRefIdeal.S16384x1024 .f32 :=
  Cert.NormRefIdeal.RefValue.REF (m ((c : Thread nD τ).loc main_arg0)) (m ((c : Thread nD τ).loc main_arg1))

/-- What a point leaves at an index of its block is the reference's entry there. -/
theorem point (c : Dev nD) (t : Fin cfg0.N) (r : Fin 512) (e : Fin 1024) (i : Fin 16384) (hi : i.val = t.val * 512 + r.val) :
    out0_2 (iblk m c 0 t) (iblk m c 1 t) (ix2 r e) = want m c (ix2 i e) := by
  have hs : i.val = (⟨i.val / 2048, by omega⟩ : Fin 8).val * 2048 + (⟨i.val % 2048, by omega⟩ : Fin 2048).val := by
    simp only; omega
  rw [out_eq, norm_apply]
  refine Eq.trans ?_ (Cert.NormRefIdeal.RefValue.REF_apply _ _ i ⟨i.val / 2048, by omega⟩ ⟨i.val % 2048, by omega⟩ hs e).symm
  simp only [read_rows m c t r _ _ _ (hi.symm.trans hs), read_gain]

/-- The result array after the run is the reference's result. -/
theorem final (c : Dev nD) : (dats m 0 c).arrAt 2 (cfgs 0).N = want m c := by
  refine (dats m 0 c).arrAt_eq_of_covers 2 _ (by decide +kernel) fun t _ y => ?_
  blk_simp
  rw [after0_2]
  have ht : t.val < 32 := lt_of_lt_of_eq t.isLt N_0
  have hy : (y 0 : ℕ) < 512 := (y 0).isLt
  rw [eq_ix2 y]
  refine (point m c t (y 0) (y 1) ⟨t.val * 512 + (y 0 : ℕ), by omega⟩ rfl).trans (congrArg (want m c) ?_)
  blk_ext [idx t]

/-- The final norm's kernel and its reference leave the same array, both from any contents of the arguments. -/
theorem agrees : Cert.algebraic_NormIdeal_NormRefIdeal := by
  pair_intro
  · run_from Cert.NormIdeal.Value.run_blocks m g
  · run_from Cert.NormRefIdeal.RefValue.run_REF m' g'
    exact (final m c).symm

end Cert.NormIdeal.RefValue

end
-- ==== Proof.LastFinal.lean ====
/-
  The final norm of the sample rows: the array the kernel leaves is the reference's result.
-/
module

public import proofs.«01_k».proof.Proof.RowMath
public import proofs.«01_k».proof.Proof.Gen.LastIdeal.Value
public import proofs.«01_k».proof.Proof.Gen.LastRefIdeal.Run
public import proofs.«01_k».proof.Defs
public import Idealize.ShloMosaic.Lib.Claim

@[expose] public section

set_option maxRecDepth 16384

noncomputable section

namespace Cert.LastRefIdeal.RefValue

open Cert.LastRefIdeal Cert.LastRefIdeal.Gen Idealize.ShloMosaic Idealize.ShloMosaic.TcCoe Idealize.SL.Sem
open Cert.Rows

/-- An entry of the flat array of rows. -/
theorem pick (P : FVec Ideal S128x1x1024 .f32) (i : Fin 128) (b : Fin 128) (s : Fin 1)
    (hi : i.val = b.val * 1 + s.val) (e : Fin 1024) :
    shapeCast S128x1024 P shapeCasts_S128x1x1024_S128x1024 (ix2 i e) = P (ix3 b s e) := by
  pointwise
  all_goals blk_ext

/-- The reference's result as a function of its two arguments. -/
def REF (X : FVec Ideal S128x1x1024 .f32) (G : FVec Ideal S1024 .f32) : FVec Ideal S128x1024 .f32 :=
  shapeCast _ (mulf (mulf X (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf X X) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 G))) shapeCasts_S128x1x1024_S128x1024

/-- Entry `(i, e)` of the reference: row `i` of the input, normalised. -/
theorem REF_apply (X : FVec Ideal S128x1x1024 .f32) (G : FVec Ideal S1024 .f32) (i : Fin 128) (b : Fin 128) (s : Fin 1)
    (hi : i.val = b.val * 1 + s.val) (e : Fin 1024) :
    REF X G (ix2 i e) = normRow (fun k => X (ix3 b s k)) (fun k => G (ix1 k)) e := by
  unfold REF
  refine (pick _ i b s hi e).trans ?_
  obtain rfl : s = 0 := Subsingleton.elim _ _
  pointwise
  rfl

/-- The generated composed term is `REF` of the arguments. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = REF (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.LastRefIdeal.Value.run m ρ

end Cert.LastRefIdeal.RefValue

namespace Cert.LastIdeal.RefValue

open Cert.LastIdeal Cert.LastIdeal.Gen Idealize.ShloMosaic Idealize.ShloMosaic.TcCoe Idealize.SL.Sem
open Cert.Rows

variable (m : (ℓ : Loc nD τ sig) → Buf (Elt Ideal) ℓ) (ρ : Dev nD → PrngReg)

/-- The block every window stages at a grid point. -/
theorem idx : ∀ t : Fin cfg0.N, win0_0.index t = ![t.val, 0] ∧ win0_1.index t = ![0, 0] ∧ win0_2.index t = ![t.val, 0] :=
  (by decide +kernel : ∀ t : Fin grid0.N, _)

/-- What the body stores are the normalised rows of its block. -/
theorem norm_apply (x : Vec Ideal S128x1024 .f32) (g : Vec Ideal S1x1024 .f32) (r : Fin 128) (e : Fin 1024) :
    k0_pay1 x g (ix2 r e) = normRow (fun k => x (ix2 r k)) (fun k => g (ix2 0 k)) e := by
  pointwise [k0_pay1]
  rfl

/-- The output block of a point is what the body stores of the point's blocks. -/
theorem out_eq (x : Vec Ideal S128x1024 .f32) (g : Vec Ideal S1x1024 .f32) : out0_2 x g = k0_pay1 x g := by
  unfold out0_2
  frame_out

/-- A row of the rows' block is a row of the input. -/
theorem read_rows (c : Dev nD) (t : Fin cfg0.N) (r : Fin 128) (e : Fin 1024) (b : Fin 128) (s : Fin 1)
    (hr : t.val * 128 + r.val = b.val * 1 + s.val) :
    iblk m c 0 t (ix2 r e) = m ((c : Thread nD τ).loc main_arg0) (ix3 b s e) := by
  blk_point [iblk, V, idx t]

/-- The gain's block is the gain. -/
theorem read_gain (c : Dev nD) (t : Fin cfg0.N) (e : Fin 1024) :
    iblk m c 1 t (ix2 0 e) = m ((c : Thread nD τ).loc main_arg1) (ix1 e) := by
  blk_point [iblk, V, idx t]

/-- The reference's result of device `c`'s argument arrays. -/
abbrev want (c : Dev nD) : FVec Ideal Cert.LastRefIdeal.S128x1024 .f32 :=
  Cert.LastRefIdeal.RefValue.REF (m ((c : Thread nD τ).loc main_arg0)) (m ((c : Thread nD τ).loc main_arg1))

/-- What a point leaves at an index of its block is the reference's entry there. -/
theorem point (c : Dev nD) (t : Fin cfg0.N) (r : Fin 128) (e : Fin 1024) (i : Fin 128) (hi : i.val = t.val * 128 + r.val) :
    out0_2 (iblk m c 0 t) (iblk m c 1 t) (ix2 r e) = want m c (ix2 i e) := by
  have hs : i.val = (⟨i.val / 1, by omega⟩ : Fin 128).val * 1 + (⟨i.val % 1, by omega⟩ : Fin 1).val := by
    simp only; omega
  rw [out_eq, norm_apply]
  refine Eq.trans ?_ (Cert.LastRefIdeal.RefValue.REF_apply _ _ i ⟨i.val / 1, by omega⟩ ⟨i.val % 1, by omega⟩ hs e).symm
  simp only [read_rows m c t r _ _ _ (hi.symm.trans hs), read_gain]

/-- The result array after the run is the reference's result. -/
theorem final (c : Dev nD) : (dats m 0 c).arrAt 2 (cfgs 0).N = want m c := by
  refine (dats m 0 c).arrAt_eq_of_covers 2 _ (by decide +kernel) fun t _ y => ?_
  blk_simp
  rw [after0_2]
  have ht : t.val < 1 := lt_of_lt_of_eq t.isLt N_0
  have hy : (y 0 : ℕ) < 128 := (y 0).isLt
  rw [eq_ix2 y]
  refine (point m c t (y 0) (y 1) ⟨t.val * 128 + (y 0 : ℕ), by omega⟩ rfl).trans (congrArg (want m c) ?_)
  blk_ext [idx t]

/-- The final norm's kernel and its reference leave the same array, both from any contents of the arguments. -/
theorem agrees : Cert.algebraic_LastIdeal_LastRefIdeal := by
  pair_intro
  · run_from Cert.LastIdeal.Value.run_blocks m g
  · run_from Cert.LastRefIdeal.RefValue.run_REF m' g'
    exact (final m c).symm

end Cert.LastIdeal.RefValue

end
-- ==== Proof.MlstmMath.lean ====
/-
  The mLSTM recurrence over one run of 128 time steps of one head, in plain extended-real arithmetic: what the run makes
  of the state, and what it reads out at each step.
-/
module

public import proofs.«01_k».proof.Proof.RowMath

@[expose] public section

set_option maxRecDepth 16384

noncomputable section

namespace Cert.Chunk

open Idealize.ShloMosaic Cert.Rows

/-- What one head's 128 steps read: queries, scaled keys, values, the running sums of the log forget gates and the input
    gates. -/
@[ext] structure Run where
  q : Fin 128 → Fin 128 → EReal
  k : Fin 128 → Fin 128 → EReal
  v : Fin 128 → Fin 128 → EReal
  b : Fin 128 → EReal
  i : Fin 128 → EReal

/-- One head's state: the matrix, the normaliser and the stabiliser. -/
@[ext] structure State where
  C : Fin 128 → Fin 128 → EReal
  n : Fin 128 → EReal
  m : EReal

/-- The log weight of step `j` at step `i`: minus infinity for a later step. -/
def Run.dmat (u : Run) (i j : Fin 128) : EReal :=
  if j ≤ i then u.b i - u.b j + u.i j else Ideal.ofBits FTy.f32 4286578688#32

/-- The stabiliser at step `i`. -/
def Run.mt (u : Run) (s : State) (i : Fin 128) : EReal := max (u.b i + s.m) (rowMax (u.dmat i))

/-- The weighted score of step `j` at step `i`. -/
def Run.smat (u : Run) (s : State) (i j : Fin 128) : EReal :=
  (∑ d, u.q i d * u.k j d) * Ideal.exp (u.dmat i j - u.mt s i)

/-- The key of step `j` weighted for the state after the run. -/
def Run.kw (u : Run) (s : State) (j d : Fin 128) : EReal :=
  u.k j d * Ideal.exp (u.b 127 - u.b j + u.i j - u.mt s 127)

/-- The weight of the old state in the new. -/
def Run.wc (u : Run) (s : State) : EReal := Ideal.exp (u.b 127 + s.m - u.mt s 127)

/-- The state after the run. -/
def Run.step (u : Run) (s : State) : State where
  C d e := s.C d e * u.wc s + ∑ j, u.kw s j d * u.v j e
  n d := s.n d * u.wc s + ∑ j, u.kw s j d
  m := u.mt s 127

/-- The weight of the old state at step `i`. -/
def Run.wprev (u : Run) (s : State) (i : Fin 128) : EReal := Ideal.exp (u.b i + s.m - u.mt s i)

/-- The reading at step `i` before its scale. -/
def Run.num (u : Run) (s : State) (i e : Fin 128) : EReal :=
  u.wprev s i * (∑ d, u.q i d * s.C d e) + ∑ j, u.smat s i j * u.v j e

/-- The scale of the reading at step `i`. -/
def Run.den (u : Run) (s : State) (i : Fin 128) : EReal :=
  u.wprev s i * (∑ d, u.q i d * s.n d) + ∑ j, u.smat s i j

/-- The reading at step `i`. -/
def Run.hid (u : Run) (s : State) (i e : Fin 128) : EReal :=
  Ideal.div (u.num s i e) (max (max (u.den s i) (-(u.den s i))) (Ideal.exp (-(u.mt s i))))

/-- A reading normalised, times the gain and the output gate. -/
def gated (h g : Fin 128 → EReal) (o : EReal) (e : Fin 128) : EReal :=
  h e * Ideal.rsqrt (Ideal.div (∑ k, h k * h k) (Ideal.ofBits FTy.f32 1124073472#32) + Ideal.ofBits FTy.f32 897988541#32) * g e
    * Ideal.div 1 (1 + Ideal.exp (-o))

/-- The log sigmoid, of its argument. -/
def logSig (p : EReal) : EReal := -(max (-p) 0 + Ideal.log1p (Ideal.exp (-(max (-p) (-(-p))))))

/-- The packed row of step `i` of run `s` of sequence `b`. -/
def row (b : Fin 8) (s : Fin 16) (i : Fin 128) : Fin 16384 := ⟨b.val * 2048 + (s.val * 128 + i.val), by omega⟩

/-- Column `d` of head `h`, in the 512 columns from `o`. -/
def col (o : ℕ) (ho : o ≤ 11008) (h : Fin 4) (d : Fin 128) : Fin 11520 := ⟨o + (h.val * 128 + d.val), by omega⟩

/-- The log forget gate of step `i` of a run. -/
def forget (X : Fin 16384 → Fin 11520 → EReal) (fb : Fin 4 → EReal) (s : Fin 16) (b : Fin 8) (h : Fin 4) (i : Fin 128) : EReal :=
  logSig (X (row b s i) ⟨11284 + h.val, by omega⟩ + fb h)

/-- The numbers of run `s` of sequence `b` and head `h`, of the packed projections and the gates' biases. -/
def runOf (X : Fin 16384 → Fin 11520 → EReal) (ib fb : Fin 4 → EReal) (s : Fin 16) (b : Fin 8) (h : Fin 4) : Run where
  q i d := X (row b s i) (col 5120 (by omega) h d)
  k i d := X (row b s i) (col 5632 (by omega) h d) * Ideal.ofBits FTy.f32 1035273459#32
  v i d := X (row b s i) (col 6144 (by omega) h d)
  b i := ∑ j, if j ≤ i then forget X fb s b h j else 0
  i i := X (row b s i) ⟨11280 + h.val, by omega⟩ + ib h

/-- The state before run `k` of a sequence and head, from zero. -/
def stateAt (R : Fin 16 → Fin 8 → Fin 4 → Run) (b : Fin 8) (h : Fin 4) : ℕ → State
  | 0 => ⟨fun _ _ => 0, fun _ => 0, 0⟩
  | n + 1 => (R (Fin.ofNat 16 n) b h).step (stateAt R b h n)

/-- The gated reading at row `r` and column `e`, of the runs' numbers, the output gates and the gain. -/
def outAt (R : Fin 16 → Fin 8 → Fin 4 → Run) (o : Fin 16384 → Fin 11520 → EReal) (g : Fin 128 → EReal) (r : Fin 16384) (e : Fin 512) : EReal :=
  gated (fun e' => (R ⟨r.val % 2048 / 128, by omega⟩ ⟨r.val / 2048, by omega⟩ ⟨e.val / 128, by omega⟩).hid
      (stateAt R ⟨r.val / 2048, by omega⟩ ⟨e.val / 128, by omega⟩ (r.val % 2048 / 128)) ⟨r.val % 128, by omega⟩ e')
    g (o r ⟨6656 + e.val, by omega⟩) ⟨e.val % 128, by omega⟩

/-- The gated reading at step `i` of run `s` of sequence `b`, column `d` of head `h`. -/
theorem outAt_row (R : Fin 16 → Fin 8 → Fin 4 → Run) (o : Fin 16384 → Fin 11520 → EReal) (g : Fin 128 → EReal)
    (b : Fin 8) (s : Fin 16) (i : Fin 128) (h : Fin 4) (d : Fin 128) (e : Fin 512) (he : e.val = h.val * 128 + d.val) :
    outAt R o g (row b s i) e = gated ((R s b h).hid (stateAt R b h s.val) i) g (o (row b s i) (col 6656 (by omega) h d)) d := by
  have e0 : (⟨(row b s i).val % 2048 / 128, by omega⟩ : Fin 16) = s := Fin.ext (by simp only [row]; omega)
  have e1 : (⟨(row b s i).val / 2048, by omega⟩ : Fin 8) = b := Fin.ext (by simp only [row]; omega)
  have e2 : (⟨(row b s i).val % 128, by omega⟩ : Fin 128) = i := Fin.ext (by simp only [row]; omega)
  have e3 : (⟨e.val / 128, by omega⟩ : Fin 4) = h := Fin.ext (by simp only; omega)
  have e4 : (⟨e.val % 128, by omega⟩ : Fin 128) = d := Fin.ext (by simp only; omega)
  have e5 : (⟨6656 + e.val, by omega⟩ : Fin 11520) = col 6656 (by omega) h d := Fin.ext (by simp only [col]; omega)
  have e6 : (row b s i).val % 2048 / 128 = s.val := congrArg Fin.val e0
  unfold outAt
  rw [e0, e1, e2, e3, e4, e5, e6]

/-- Entry `r` of the stabilisers' result: the heads' stabilisers, then zeros. -/
def stabAt (R : Fin 16 → Fin 8 → Fin 4 → Run) (b : Fin 8) (r : Fin 8) : EReal :=
  if h : r.val < 4 then (stateAt R b ⟨r.val, h⟩ 16).m else 0

end Cert.Chunk
-- ==== Proof.MlstmUnit.lean ====
/-
  The vector arithmetic of one piece of mLSTM prompt work: 128 time steps of one head, from the state before them.
  The kernel's body does this sixteen times at a grid point, for four runs of 128 steps and four heads.
-/
module

public import proofs.«01_k».proof.Proof.MlstmMath
public import proofs.«01_k».proof.Proof.Gen.MlstmIdeal.Value

@[expose] public section

set_option maxRecDepth 65536

noncomputable section

namespace Cert.MlstmIdeal.Piece

open Cert.MlstmIdeal Cert.MlstmIdeal.Gen Idealize.ShloMosaic Idealize.ShloMosaic.TcCoe Idealize.SL.Sem Cert.Chunk Cert.Rows

/-- What one head's 128 steps read: queries, scaled keys, values, output gate inputs, the running sums of the log
    forget gates as a column and as a row, and the input gate as a column and as a row. -/
structure In where
  q : FVec Ideal S128x128 .f32
  k : FVec Ideal S128x128 .f32
  v : FVec Ideal S128x128 .f32
  o : FVec Ideal S128x128 .f32
  bc : FVec Ideal S128x1 .f32
  ic : FVec Ideal S128x1 .f32
  br : FVec Ideal S1x128 .f32
  ir : FVec Ideal S1x128 .f32
  g : FVec Ideal S1x128 .f32

/-- One head's state: the matrix, the normaliser row and the stabiliser. -/
structure St where
  C : FVec Ideal S128x128 .f32
  n : FVec Ideal S1x128 .f32
  m : FVec Ideal S1x1 .f32

/-- The log weights of the steps before a step, minus infinity after it. -/
def dmat (u : In) : FVec Ideal S128x128 .f32 :=
  select k0_pay24
    (addf (subf (broadcastTo S128x128 u.bc broadcasts_S128x1_S128x128) (broadcastTo S128x128 u.br broadcasts_S1x128_S128x128))
      (broadcastTo S128x128 u.ir broadcasts_S1x128_S128x128))
    (broadcast S128x128 (Scalar.ofBits .f32 0xFF800000#32))

/-- The stabiliser after each step. -/
def mt (u : In) (s : St) : FVec Ideal S128x1 .f32 :=
  maximumf (addf u.bc (broadcastTo S128x1 s.m broadcasts_S1x1_S128x1))
    (shapeCast S128x1 (multiReduction .maximumf [1] S128 (dmat u) 0xFF800000#32 reduces_S128x128_S128 (.inl rfl) rfl)
      shapeCasts_S128_S128x1)

/-- The stabiliser after the last step. -/
def mnew (u : In) (s : St) : FVec Ideal S1x1 .f32 := extractStridedSlice S1x1 ![127, 0] (mt u s) slices_S128x1_o127_0_S1x1

/-- The weighted scores. -/
def smat (u : In) (s : St) : FVec Ideal S128x128 .f32 :=
  mulf
    (matmul dot_S128x128_S128x128_S128x128_1_1_0_0_n_n none (truncf .bf16 u.q bitsLt_bf16_f32) (truncf .bf16 u.k bitsLt_bf16_f32)
      (constant S128x128 .f32 0x00000000#32))
    (exp (subf (dmat u) (broadcastTo S128x128 (mt u s) broadcasts_S128x1_S128x128)))

/-- The keys weighted for the state after the last step. -/
def kw (u : In) (s : St) : FVec Ideal S128x128 .f32 :=
  mulf u.k
    (broadcastTo S128x128
      (exp (subf
        (addf (subf (broadcastTo S128x1 (extractStridedSlice S1x1 ![127, 0] u.bc slices_S128x1_o127_0_S1x1) broadcasts_S1x1_S128x1)
          u.bc) u.ic)
        (broadcastTo S128x1 (mnew u s) broadcasts_S1x1_S128x1)))
      broadcasts_S128x1_S128x128)

/-- The weight of the old state in the state after the last step. -/
def wc (u : In) (s : St) : FVec Ideal S1x1 .f32 :=
  exp (subf (addf (extractStridedSlice S1x1 ![127, 0] u.bc slices_S128x1_o127_0_S1x1) s.m) (mnew u s))

/-- The state after the 128 steps. -/
def step (u : In) (s : St) : St where
  C := addf (mulf s.C (broadcastTo S128x128 (wc u s) broadcasts_S1x1_S128x128))
    (matmul dot_S128x128_S128x128_S128x128_1_0_0_1_n_n none
      (truncf .bf16 (transpose S128x128 [1, 0] (kw u s) transposes_S128x128_p1_0_S128x128) bitsLt_bf16_f32)
      (truncf .bf16 u.v bitsLt_bf16_f32) (constant S128x128 .f32 0x00000000#32))
  n := addf (mulf s.n (broadcastTo S1x128 (wc u s) broadcasts_S1x1_S1x128))
    (shapeCast S1x128 (multiReduction .add [0] S128 (kw u s) 0x00000000#32 reduces_S128x128_S128_2 (.inl rfl) rfl)
      shapeCasts_S128_S1x128)
  m := mnew u s

/-- The weight of the old state at each step. -/
def wprev (u : In) (s : St) : FVec Ideal S128x1 .f32 :=
  exp (subf (addf u.bc (broadcastTo S128x1 s.m broadcasts_S1x1_S128x1)) (mt u s))

/-- The head's reading at each step before its scale. -/
def num (u : In) (s : St) : FVec Ideal S128x128 .f32 :=
  addf
    (mulf (broadcastTo S128x128 (wprev u s) broadcasts_S128x1_S128x128)
      (matmul dot_S128x128_S128x128_S128x128_1_0_0_1_n_n none (truncf .bf16 u.q bitsLt_bf16_f32)
        (truncf .bf16 s.C bitsLt_bf16_f32) (constant S128x128 .f32 0x00000000#32)))
    (matmul dot_S128x128_S128x128_S128x128_1_0_0_1_n_n none (truncf .bf16 (smat u s) bitsLt_bf16_f32)
      (truncf .bf16 u.v bitsLt_bf16_f32) (constant S128x128 .f32 0x00000000#32))

/-- The scale of the reading at each step. -/
def den (u : In) (s : St) : FVec Ideal S128x1 .f32 :=
  addf
    (mulf (wprev u s)
      (shapeCast S128x1
        (multiReduction .add [1] S128 (mulf u.q (broadcastTo S128x128 s.n broadcasts_S1x128_S128x128)) 0x00000000#32
          reduces_S128x128_S128 (.inl rfl) rfl)
        shapeCasts_S128_S128x1))
    (shapeCast S128x1 (multiReduction .add [1] S128 (smat u s) 0x00000000#32 reduces_S128x128_S128 (.inl rfl) rfl)
      shapeCasts_S128_S128x1)

/-- The head's reading at each step. -/
def hid (u : In) (s : St) : FVec Ideal S128x128 .f32 :=
  divf (num u s)
    (broadcastTo S128x128
      (maximumf (absf (den u s)) (exp (subf (broadcast S128x1 (Scalar.ofBits .f32 0x00000000#32)) (mt u s))))
      broadcasts_S128x1_S128x128)

/-- The reading normalised, times the gain and the output gate. -/
def gated (h : FVec Ideal S128x128 .f32) (o : FVec Ideal S128x128 .f32) (g : FVec Ideal S1x128 .f32) :
    FVec Ideal S128x128 .f32 :=
  mulf
    (mulf
      (mulf h
        (broadcastTo S128x128
          (rsqrt (addf
            (divf
              (shapeCast S128x1 (multiReduction .add [1] S128 (mulf h h) 0x00000000#32 reduces_S128x128_S128 (.inl rfl) rfl)
                shapeCasts_S128_S128x1)
              (broadcast S128x1 (Scalar.ofBits .f32 0x43000000#32)))
            (broadcast S128x1 (Scalar.ofBits .f32 0x358637BD#32))))
          broadcasts_S128x1_S128x128))
      (broadcastTo S128x128 g broadcasts_S1x128_S128x128))
    (divf (broadcast S128x128 (Scalar.ofBits .f32 0x3F800000#32))
      (addf (broadcast S128x128 (Scalar.ofBits .f32 0x3F800000#32))
        (exp (subf (broadcast S128x128 (Scalar.ofBits .f32 0x00000000#32)) o))))

/-- What the head stores for its 128 steps. -/
def out (u : In) (s : St) : FVec Ideal S128x128 .f32 := gated (hid u s) u.o u.g

section Read

/-- The arrays a piece reads hold a run's numbers. -/
structure Holds (u : In) (c : Run) : Prop where
  q : ∀ i d, u.q (ix2 i d) = c.q i d
  k : ∀ i d, u.k (ix2 i d) = c.k i d
  v : ∀ i d, u.v (ix2 i d) = c.v i d
  bc : ∀ i, u.bc (ix2 i 0) = c.b i
  ic : ∀ i, u.ic (ix2 i 0) = c.i i
  br : ∀ i, u.br (ix2 0 i) = c.b i
  ir : ∀ i, u.ir (ix2 0 i) = c.i i

/-- The arrays of a piece's state hold a state's numbers. -/
structure HoldsSt (s : St) (σ : State) : Prop where
  C : ∀ d e, s.C (ix2 d e) = σ.C d e
  n : ∀ d, s.n (ix2 0 d) = σ.n d
  m : s.m (ix2 0 0) = σ.m

variable {u : In} {c : Run} {s : St} {σ : State} (hu : Holds u c) (hs : HoldsSt s σ)
include hu

/-- The log weights, entry by entry. -/
theorem dmat_apply (i j : Fin 128) : dmat u (ix2 i j) = c.dmat i j := by
  unfold dmat k0_pay24 Run.dmat
  pointwise
  simp only [hu.bc, hu.br, hu.ir]
  rw [WordCmp.cmpi_sge_ofNat (by omega) (by omega)]
  by_cases h : j ≤ i
  · simp [h, Scalar.select]
  · simp [h, Scalar.select, Fin.le_def.not.mp h]

include hs

/-- The stabilisers, entry by entry. -/
theorem mt_apply (i : Fin 128) : mt u s (ix2 i 0) = c.mt σ i := by
  unfold mt Run.mt rowMax
  pointwise
  simp only [hu.bc, hs.m, dmat_apply hu]

/-- The last stabiliser. -/
theorem mnew_apply : mnew u s (ix2 0 0) = c.mt σ 127 := by
  unfold mnew
  pointwise
  exact mt_apply hu hs 127

/-- The weighted scores, entry by entry. -/
theorem smat_apply (i j : Fin 128) : smat u s (ix2 i j) = c.smat σ i j := by
  unfold smat Run.smat
  pointwise
  simp only [hu.q, hu.k, mt_apply hu hs, dmat_apply hu]

/-- The weighted keys, entry by entry. -/
theorem kw_apply (j d : Fin 128) : kw u s (ix2 j d) = c.kw σ j d := by
  unfold kw Run.kw
  pointwise
  simp only [hu.k, hu.bc, hu.ic, mnew_apply hu hs]

/-- The weight of the old state. -/
theorem wc_apply : wc u s (ix2 0 0) = c.wc σ := by
  unfold wc Run.wc
  pointwise
  simp only [hs.m, mnew_apply hu hs]
  exact congrArg (fun z => Ideal.exp (z + σ.m - c.mt σ 127)) (hu.bc 127)

/-- A piece's new state holds the run's new state. -/
theorem step_holds : HoldsSt (step u s) (c.step σ) where
  C d e := by
    show addf _ _ _ = _
    unfold Run.step
    pointwise
    simp only [hs.C, hu.v, wc_apply hu hs, kw_apply hu hs]
  n d := by
    show addf _ _ _ = _
    unfold Run.step
    pointwise
    simp only [hs.n, wc_apply hu hs, kw_apply hu hs]
  m := mnew_apply hu hs

/-- The old state's weight at each step. -/
theorem wprev_apply (i : Fin 128) : wprev u s (ix2 i 0) = c.wprev σ i := by
  unfold wprev Run.wprev
  pointwise
  simp only [hu.bc, hs.m, mt_apply hu hs]

/-- The unscaled reading, entry by entry. -/
theorem num_apply (i e : Fin 128) : num u s (ix2 i e) = c.num σ i e := by
  unfold num Run.num
  pointwise
  simp only [hu.q, hu.v, hs.C, smat_apply hu hs, wprev_apply hu hs]

/-- The reading's scale at each step. -/
theorem den_apply (i : Fin 128) : den u s (ix2 i 0) = c.den σ i := by
  unfold den Run.den
  pointwise
  simp only [hu.q, hs.n, smat_apply hu hs, wprev_apply hu hs]

/-- The reading, entry by entry. -/
theorem hid_apply (i e : Fin 128) : hid u s (ix2 i e) = c.hid σ i e := by
  unfold hid Run.hid
  pointwise
  simp only [num_apply hu hs, den_apply hu hs, mt_apply hu hs, zero_sub]
  rfl

omit hu hs in
/-- The gated reading, entry by entry. -/
theorem gated_apply (h o : FVec Ideal S128x128 .f32) (g : FVec Ideal S1x128 .f32) (i e : Fin 128) :
    gated h o g (ix2 i e) = Cert.Chunk.gated (fun e => h (ix2 i e)) (fun e => g (ix2 0 e)) (o (ix2 i e)) e := by
  unfold gated Cert.Chunk.gated
  pointwise
  simp only [zero_sub]

end Read

section Block

variable (x0 x1 x2 x3 : Vec Ideal S512x512 .f32) (x4 : Vec Ideal S512x256 .f32) (x5 : Vec Ideal S1x256 .f32) (x6 : Vec Ideal S1x128 .f32)

/-- A 128 by 128 piece of a block of 512 steps and four heads. -/
def tile (x : Vec Ideal S512x512 .f32) (s h : Fin 4) : FVec Ideal S128x128 .f32 :=
  View.ld x (Rect.unit ![128 * s.val, 128 * h.val] ![128, 128] (by revert s h; decide))

/-- The gate inputs of a block with their biases. -/
def pre : FVec Ideal S512x128 .f32 :=
  k0_pay8 (View.ld x4 (Rect.unit ![0, 0] ![512, 128] inb_S512x256_S512x128_0_0))
    (View.ld x5 (Rect.unit ![0, 0] ![1, 128] inb_S1x256_S1x128_0_0))

/-- The log forget gates of a block. -/
def logf : FVec Ideal S512x128 .f32 :=
  k0_pay9 (View.ld x4 (Rect.unit ![0, 0] ![512, 128] inb_S512x256_S512x128_0_0))
    (View.ld x5 (Rect.unit ![0, 0] ![1, 128] inb_S1x256_S1x128_0_0))

/-- A run's rows are inside the block's. -/
theorem rows_inb (s : Fin 4) : S512x128.Slices ![128 * s.val, 0] S128x128 := by revert s; decide
/-- A head's forget gate column is inside a run's. -/
theorem fcol_inb (h : Fin 4) : S128x128.Slices ![0, 20 + h.val] S128x1 := by revert h; decide
/-- A head's input gate column is inside the block. -/
theorem icol_inb (s h : Fin 4) : S512x128.Slices ![128 * s.val, 16 + h.val] S128x1 := by revert s h; decide
/-- A head's forget gate row is inside a run's. -/
theorem frow_inb (h : Fin 4) : S128x128.Slices ![20 + h.val, 0] S1x128 := by revert h; decide
/-- A head's input gate row is inside a run's. -/
theorem irow_inb (h : Fin 4) : S128x128.Slices ![16 + h.val, 0] S1x128 := by revert h; decide

/-- The running sums of the log forget gates over a run of 128 steps. -/
def bcum (s : Fin 4) : FVec Ideal S128x128 .f32 :=
  matmul dot_S128x128_S128x128_S128x128_1_0_0_1_n_n (some .fp32) (k0_pay10 (F := Ideal))
    (extractStridedSlice S128x128 ![128 * s.val, 0] (logf x4 x5) (rows_inb s)) (constant S128x128 .f32 0x00000000#32)

/-- What head `h` reads in run `s`. -/
def ins (s h : Fin 4) : In where
  q := tile x0 s h
  k := mulf (tile x1 s h) (broadcast S128x128 (Scalar.ofBits .f32 0x3DB504F3#32))
  v := tile x2 s h
  o := tile x3 s h
  bc := extractStridedSlice S128x1 ![0, 20 + h.val] (bcum x4 x5 s) (fcol_inb h)
  ic := extractStridedSlice S128x1 ![128 * s.val, 16 + h.val] (pre x4 x5) (icol_inb s h)
  br := extractStridedSlice S1x128 ![20 + h.val, 0]
    (transpose S128x128 [1, 0] (bcum x4 x5 s) transposes_S128x128_p1_0_S128x128) (frow_inb h)
  ir := extractStridedSlice S1x128 ![16 + h.val, 0]
    (transpose S128x128 [1, 0] (extractStridedSlice S128x128 ![128 * s.val, 0] (pre x4 x5) (rows_inb s))
      transposes_S128x128_p1_0_S128x128) (irow_inb h)
  g := shapeCast S1x128 x6 shapeCasts_S1x128_S1x128

/-- The state of head `h` before run `s`, from the state before the block. -/
def stAt (s0 : St) (h : Fin 4) : ℕ → St
  | 0 => s0
  | n + 1 => step (ins x0 x1 x2 x3 x4 x5 x6 (Fin.ofNat 4 n) h) (stAt s0 h n)

/-- The state of head `h` read from the state blocks. -/
def load (xC : Vec Ideal S1x4x128x128 .f32) (xn : Vec Ideal S1x4x128 .f32) (xm : Vec Ideal S1x8x128 .f32) (h : Fin 4) : St where
  C := shapeCast S128x128 (View.ld xC (Rect.unit ![0, h.val, 0, 0] ![1, 1, 128, 128] (by revert h; decide)) : Vec Ideal S1x1x128x128 .f32)
    shapeCasts_S1x1x128x128_S128x128
  n := shapeCast S1x128 (View.ld xn (Rect.unit ![0, h.val, 0] ![1, 1, 128] (by revert h; decide)) : Vec Ideal S1x1x128 .f32)
    shapeCasts_S1x1x128_S1x128
  m := shapeCast S1x1 (View.ld xm (Rect.unit ![0, h.val, 0] ![1, 1, 1] (by revert h; decide)) : Vec Ideal S1x1x1 .f32)
    shapeCasts_S1x1x1_S1x1

end Block

end Cert.MlstmIdeal.Piece
-- ==== Proof.MlstmBlock.lean ====
/-
  What a grid point's input blocks hold: 512 time steps of one sequence, four runs of 128 steps of four heads.
-/
module

public import proofs.«01_k».proof.Proof.MlstmUnit
public import Idealize.ShloMosaic.Lib.WordCmp

@[expose] public section

set_option maxRecDepth 65536

noncomputable section

namespace Cert.MlstmIdeal.Piece

open Cert.MlstmIdeal Cert.MlstmIdeal.Gen Idealize.ShloMosaic Idealize.ShloMosaic.TcCoe Idealize.SL.Sem Cert.Chunk Cert.Rows

section Ins

variable {x0 x1 x2 x3 : Vec Ideal S512x512 .f32} {x4 : Vec Ideal S512x256 .f32} {x5 : Vec Ideal S1x256 .f32} {x6 : Vec Ideal S1x128 .f32}

/-- An entry of a piece of a block. -/
theorem tile_apply (x : Vec Ideal S512x512 .f32) (s h : Fin 4) (i d : Fin 128) :
    tile x s h (ix2 i d) = x (ix2 ⟨128 * s.val + i.val, by omega⟩ ⟨128 * h.val + d.val, by omega⟩) := by
  unfold tile
  pointwise [View.ld]

/-- A gate input with its bias. -/
theorem pre_apply (r : Fin 512) (e : Fin 128) :
    pre x4 x5 (ix2 r e) = x4 (ix2 r ⟨e.val, by omega⟩) + x5 (ix2 0 ⟨e.val, by omega⟩) := by
  unfold pre k0_pay8
  pointwise [View.ld]

/-- A log forget gate. -/
theorem logf_apply (r : Fin 512) (e : Fin 128) :
    logf x4 x5 (ix2 r e) = logSig (x4 (ix2 r ⟨e.val, by omega⟩) + x5 (ix2 0 ⟨e.val, by omega⟩)) := by
  unfold logf k0_pay9 k0_pay8 logSig
  pointwise [View.ld]
  simp only [zero_sub]
  rfl

/-- The number of a true comparison. -/
theorem tri_one : FloatOps.sitofp (F := Ideal) FTy.f32 (BitVec.setWidth 32 (BitVec.ofBool true)) = 1 := by
  show (((BitVec.setWidth 32 (BitVec.ofBool true)).toInt : ℝ) : EReal) = 1
  rw [show (BitVec.setWidth 32 (BitVec.ofBool true)).toInt = 1 from rfl]
  simp

/-- The number of a false comparison. -/
theorem tri_zero : FloatOps.sitofp (F := Ideal) FTy.f32 (BitVec.setWidth 32 (BitVec.ofBool false)) = 0 := by
  show (((BitVec.setWidth 32 (BitVec.ofBool false)).toInt : ℝ) : EReal) = 0
  rw [show (BitVec.setWidth 32 (BitVec.ofBool false)).toInt = 0 from rfl]
  simp

/-- A running sum of log forget gates. -/
theorem bcum_apply (s : Fin 4) (i e : Fin 128) :
    bcum x4 x5 s (ix2 i e) = ∑ j : Fin 128, if j ≤ i then logf x4 x5 (ix2 ⟨128 * s.val + j.val, by omega⟩ e) else 0 := by
  unfold bcum k0_pay10
  pointwise
  refine Finset.sum_congr rfl fun j _ => ?_
  rw [WordCmp.cmpi_sge_ofNat (by omega) (by omega)]
  by_cases h : j ≤ i
  · simp only [Fin.le_def.mp h, decide_true, h, if_true]
    exact (congrArg (· * _) tri_one).trans (one_mul _)
  · simp only [Fin.le_def.not.mp h, decide_false, h, if_false]
    exact (congrArg (· * _) tri_zero).trans (zero_mul _)

end Ins

/-- The packed row of row `r` of the `z`-th block of sequence `b`. -/
def rowOf (b : Fin 8) (z : Fin 4) (r : Fin 512) : Fin 16384 := ⟨b.val * 2048 + (z.val * 512 + r.val), by omega⟩

/-- The run of 128 steps that is the `s`-th of the `z`-th block. -/
def run (z s : Fin 4) : Fin 16 := ⟨4 * z.val + s.val, by omega⟩

/-- A row of the `s`-th run of a block. -/
theorem rowOf_run (b : Fin 8) (z s : Fin 4) (i : Fin 128) : rowOf b z ⟨128 * s.val + i.val, by omega⟩ = row b (run z s) i :=
  Fin.ext (by simp only [rowOf, row, run]; omega)

/-- The blocks a grid point reads hold the `z`-th 512 rows of sequence `b` of the packed projections, the biases and the
    gain. -/
structure Reads (x0 x1 x2 x3 : Vec Ideal S512x512 .f32) (x4 : Vec Ideal S512x256 .f32) (x5 : Vec Ideal S1x256 .f32)
    (x6 : Vec Ideal S1x128 .f32) (X : Fin 16384 → Fin 11520 → EReal) (ib fb : Fin 4 → EReal) (g : Fin 128 → EReal)
    (b : Fin 8) (z : Fin 4) : Prop where
  q : ∀ r e, x0 (ix2 r e) = X (rowOf b z r) ⟨5120 + e.val, by omega⟩
  k : ∀ r e, x1 (ix2 r e) = X (rowOf b z r) ⟨5632 + e.val, by omega⟩
  v : ∀ r e, x2 (ix2 r e) = X (rowOf b z r) ⟨6144 + e.val, by omega⟩
  o : ∀ r e, x3 (ix2 r e) = X (rowOf b z r) ⟨6656 + e.val, by omega⟩
  gate : ∀ r e, x4 (ix2 r e) = X (rowOf b z r) ⟨11264 + e.val, by omega⟩
  bi : ∀ h : Fin 4, x5 (ix2 0 ⟨16 + h.val, by omega⟩) = ib h
  bf : ∀ h : Fin 4, x5 (ix2 0 ⟨20 + h.val, by omega⟩) = fb h
  g : ∀ d, x6 (ix2 0 d) = g d

section Holds

variable {x0 x1 x2 x3 : Vec Ideal S512x512 .f32} {x4 : Vec Ideal S512x256 .f32} {x5 : Vec Ideal S1x256 .f32}
  {x6 : Vec Ideal S1x128 .f32} {X : Fin 16384 → Fin 11520 → EReal} {ib fb : Fin 4 → EReal} {g : Fin 128 → EReal}
  {b : Fin 8} {z : Fin 4} (R : Reads x0 x1 x2 x3 x4 x5 x6 X ib fb g b z)
include R

/-- The running sums of a head's log forget gates over a run. -/
theorem bcum_run (s h : Fin 4) (i : Fin 128) :
    bcum x4 x5 s (ix2 i ⟨20 + h.val, by omega⟩) = (runOf X ib fb (run z s) b h).b i := by
  refine (bcum_apply s i _).trans ?_
  show _ = ∑ j, if j ≤ i then forget X fb (run z s) b h j else 0
  refine Finset.sum_congr rfl fun j _ => ?_
  by_cases hj : j ≤ i
  · rw [if_pos hj, if_pos hj, logf_apply, R.gate, R.bf, rowOf_run]
    unfold forget
    refine congrArg (fun p => logSig (X (row b (run z s) j) p + fb h)) (Fin.ext ?_)
    simp only; omega
  · rw [if_neg hj, if_neg hj]

/-- The input gates of a head over a run. -/
theorem pre_run (s h : Fin 4) (i : Fin 128) :
    pre x4 x5 (ix2 ⟨128 * s.val + i.val, by omega⟩ ⟨16 + h.val, by omega⟩) = (runOf X ib fb (run z s) b h).i i := by
  rw [pre_apply, R.gate, R.bi, rowOf_run]
  refine congrArg (· + ib h) (congrArg (X _) (Fin.ext ?_))
  simp only; omega

/-- What a head reads in a run of a block holds the run's numbers. -/
theorem ins_holds (s h : Fin 4) : Holds (ins x0 x1 x2 x3 x4 x5 x6 s h) (runOf X ib fb (run z s) b h) where
  q i d := by
    refine (tile_apply x0 s h i d).trans ?_
    rw [R.q, rowOf_run]
    exact congrArg (X _) (Fin.ext (by simp only [col]; omega))
  k i d := by
    refine (congrArg (· * Ideal.ofBits FTy.f32 1035273459#32) (tile_apply x1 s h i d)).trans ?_
    rw [R.k, rowOf_run]
    exact congrArg (X _ · * Ideal.ofBits FTy.f32 1035273459#32) (Fin.ext (by simp only [col]; omega))
  v i d := by
    refine (tile_apply x2 s h i d).trans ?_
    rw [R.v, rowOf_run]
    exact congrArg (X _) (Fin.ext (by simp only [col]; omega))
  bc i := by
    refine Eq.trans ?_ (bcum_run R s h i)
    unfold ins
    pointwise
  ic i := by
    refine Eq.trans ?_ (pre_run R s h i)
    unfold ins
    pointwise
  br i := by
    refine Eq.trans ?_ (bcum_run R s h i)
    unfold ins
    pointwise
  ir i := by
    refine Eq.trans ?_ (pre_run R s h i)
    unfold ins
    pointwise

/-- A head's state after `n` runs of a block holds the sequence's state there. -/
theorem stAt_holds (h : Fin 4) {s0 : St} (h0 : HoldsSt s0 (stateAt (runOf X ib fb) b h (4 * z.val))) :
    ∀ n ≤ 4, HoldsSt (stAt x0 x1 x2 x3 x4 x5 x6 s0 h n) (stateAt (runOf X ib fb) b h (4 * z.val + n)) := by
  intro n
  induction n with
  | zero => exact fun _ => h0
  | succ n ih =>
    intro hn
    have hr : (Fin.ofNat 16 (4 * z.val + n) : Fin 16) = run z (Fin.ofNat 4 n) :=
      Fin.ext (by simp only [run, Fin.ofNat]; omega)
    have := step_holds (ins_holds R (Fin.ofNat 4 n) h) (ih (by omega))
    rw [← hr] at this
    exact this

/-- What a piece writes out is the rows and columns of the gated reading. -/
theorem out_apply (s h : Fin 4) {s0 : St} (h0 : HoldsSt s0 (stateAt (runOf X ib fb) b h (4 * z.val))) (i d : Fin 128)
    (r : Fin 16384) (e : Fin 512) (hr : r = rowOf b z ⟨128 * s.val + i.val, by omega⟩) (he : e.val = 128 * h.val + d.val) :
    out (ins x0 x1 x2 x3 x4 x5 x6 s h) (stAt x0 x1 x2 x3 x4 x5 x6 s0 h s.val) (ix2 i d)
      = outAt (runOf X ib fb) X g r e := by
  subst hr
  rw [rowOf_run, outAt_row (runOf X ib fb) X g b (run z s) i h d e (by omega)]
  have hs := stAt_holds R h h0 s.val (by omega)
  have ho : (ins x0 x1 x2 x3 x4 x5 x6 s h).o (ix2 i d) = X (row b (run z s) i) (col 6656 (by omega) h d) := by
    refine (tile_apply x3 s h i d).trans ?_
    rw [R.o, rowOf_run]
    exact congrArg (X _) (Fin.ext (by simp only [col]; omega))
  have hg : ∀ e, (ins x0 x1 x2 x3 x4 x5 x6 s h).g (ix2 0 e) = g e := by
    intro e
    refine Eq.trans ?_ (R.g e)
    unfold ins
    pointwise
  unfold out
  rw [gated_apply, ho]
  simp only [hid_apply (ins_holds R s h) hs, hg]
  rfl

end Holds

end Cert.MlstmIdeal.Piece

end
-- ==== Proof.MlstmReads.lean ====
/-
  The mLSTM prompt kernel's windows: what the input blocks of a grid point hold of the argument arrays.
-/
module

public import proofs.«01_k».proof.Proof.MlstmBlock
public import Idealize.ShloMosaic.Lib.Pipeline.Value

@[expose] public section

set_option maxRecDepth 65536

noncomputable section

namespace Cert.MlstmIdeal.RefValue

open Cert.MlstmIdeal Cert.MlstmIdeal.Gen Idealize.ShloMosaic Idealize.ShloMosaic.TcCoe Idealize.SL.Sem Cert.Chunk Cert.Rows

variable (m : (ℓ : Loc nD τ sig) → Buf (Elt Ideal) ℓ)

/-- The block every window stages at a grid point. -/
theorem idx : ∀ t : Fin cfg0.N, win0_0.index t = ![t.val, 10] ∧ win0_1.index t = ![t.val, 11] ∧ win0_2.index t = ![t.val, 12]
    ∧ win0_3.index t = ![t.val, 13] ∧ win0_4.index t = ![t.val, 44] ∧ win0_5.index t = ![0, 0] ∧ win0_6.index t = ![0, 0]
    ∧ win0_7.index t = ![t.val, 0] ∧ win0_8.index t = ![t.val / 4, 0, 0, 0] ∧ win0_9.index t = ![t.val / 4, 0, 0]
    ∧ win0_10.index t = ![t.val / 4, 0, 0] :=
  (by decide +kernel : ∀ t : Fin grid0.N, _)

/-- The packed projections of device `c`. -/
abbrev packed (c : Dev nD) : Fin 16384 → Fin 11520 → EReal := fun r e => m ((c : Thread nD τ).loc main_arg0) (ix2 r e)

/-- The input gates' biases. -/
abbrev biasI (c : Dev nD) : Fin 4 → EReal := fun h => m ((c : Thread nD τ).loc main_arg1) (ix1 h)

/-- The forget gates' biases. -/
abbrev biasF (c : Dev nD) : Fin 4 → EReal := fun h => m ((c : Thread nD τ).loc main_arg2) (ix1 h)

/-- The gain. -/
abbrev gain (c : Dev nD) : Fin 128 → EReal := fun d => m ((c : Thread nD τ).loc main_arg3) (ix1 d)

/-- The query, key, value and output gate blocks are columns of the rows of the point's block. -/
theorem read_part (c : Dev nD) (t : Fin cfg0.N) (r e : Fin 512) (i : Fin 16384) (hi : i.val = t.val * 512 + r.val) :
    X0_0 m c t (ix2 r e) = packed m c i ⟨5120 + e.val, by omega⟩
      ∧ X0_1 m c t (ix2 r e) = packed m c i ⟨5632 + e.val, by omega⟩
      ∧ X0_2 m c t (ix2 r e) = packed m c i ⟨6144 + e.val, by omega⟩
      ∧ X0_3 m c t (ix2 r e) = packed m c i ⟨6656 + e.val, by omega⟩ := by
  refine ⟨?_, ?_, ?_, ?_⟩
  · unfold X0_0 Pipeline.Window.fill
    rw [dif_pos (moved0_0 t _)]
    blk_point [iblk, V, idx t]
  · unfold X0_1 Pipeline.Window.fill
    rw [dif_pos (moved0_1 t _)]
    blk_point [iblk, V, idx t]
  · unfold X0_2 Pipeline.Window.fill
    rw [dif_pos (moved0_2 t _)]
    blk_point [iblk, V, idx t]
  · unfold X0_3 Pipeline.Window.fill
    rw [dif_pos (moved0_3 t _)]
    blk_point [iblk, V, idx t]

/-- The gates' block is the narrow columns of the rows of the point's block. -/
theorem read_gate (c : Dev nD) (t : Fin cfg0.N) (r : Fin 512) (e : Fin 256) (i : Fin 16384) (hi : i.val = t.val * 512 + r.val) :
    iblk m c 4 t (ix2 r e) = packed m c i ⟨11264 + e.val, by omega⟩ := by
  blk_point [iblk, V, idx t]

/-- A short vector placed in a row. -/
def place (x : FVec Ideal S256 .f32) (u : FVec Ideal S4 .f32) (st : Fin S256.rank → ℤ) : FVec Ideal S256 .f32 :=
  Host.dynamicUpdateSlice x u st updateFits_S256_S4

/-- Rows with a short vector placed at equal places are equal. -/
theorem place_congr {x x' : FVec Ideal S256 .f32} (u : FVec Ideal S4 .f32) {st st' : Fin S256.rank → ℤ} (hx : x = x')
    (hs : ∀ k, st k = st' k) : place x u st = place x' u st' := by
  rw [hx, funext hs]

/-- An entry of a row with a short vector placed in it. -/
theorem place_apply (x : FVec Ideal S256 .f32) (u : FVec Ideal S4 .f32) (k : ℕ) (hk : k ≤ 252) (e : Fin 256) :
    place x u (fun _ => (k : ℤ)) (ix1 e)
      = if h : k ≤ e.val ∧ e.val < k + 4 then u (ix1 ⟨e.val - k, by omega⟩) else x (ix1 e) := by
  unfold place
  rw [Host.dynamicUpdateSlice_eq_updateSlice x u _ _ (fun _ => k) (by
      intro a
      obtain rfl : a = 0 := Subsingleton.elim _ _
      show (min (max (k : ℤ) 0) ((256 - 4 : ℕ) : ℤ)).toNat = k
      omega) ⟨rfl, by
      intro a
      obtain rfl : a = 0 := Subsingleton.elim _ _
      show k + 4 ≤ 256
      omega⟩]
  unfold updateSlice
  pointwise
  split_ifs with h
  · refine congrArg u (funext fun b => ?_)
    obtain rfl : b = 0 := Subsingleton.elim _ _
    rfl
  · rfl

/-- The row of zeros the biases are placed in. -/
abbrev blank : FVec Ideal S256 .f32 := broadcastInDim S256 ![] bcast_S_S256 (constant S_ FTy.f32 0#32)

/-- The row of the gates' biases. -/
abbrev biases (u v : FVec Ideal S4 .f32) : FVec Ideal S256 .f32 := place (place blank u (fun _ => (16 : ℕ))) v (fun _ => (20 : ℕ))

/-- The array of the biases' window. -/
theorem bias_eq (c : Dev nD) : V m c main_v3 = shapeCast S1x256
    (biases (m ((c : Thread nD τ).loc main_arg1)) (m ((c : Thread nD τ).loc main_arg2))) shapeCasts_S256_S1x256 := by
  unfold V
  after_results_simp
  refine congrArg (fun x => shapeCast S1x256 x shapeCasts_S256_S1x256) (place_congr _ (place_congr _ rfl ?_) ?_)
  · intro k
    obtain rfl : k = 0 := Subsingleton.elim _ _
    rfl
  · intro k
    obtain rfl : k = 0 := Subsingleton.elim _ _
    rfl

/-- The array of the gain's window. -/
theorem gain_eq (c : Dev nD) : V m c main_v4 = shapeCast S1x128 (m ((c : Thread nD τ).loc main_arg3)) shapeCasts_S128_S1x128 := by
  unfold V
  after_results_simp
  rfl

/-- The gain's block. -/
theorem read_gain (c : Dev nD) (t : Fin cfg0.N) (d : Fin 128) : iblk m c 6 t (ix2 0 d) = gain m c d := by
  have h : iblk m c 6 t (ix2 0 d) = V m c main_v4 (ix2 0 d) := by blk_point [iblk, idx t]
  rw [h, gain_eq]
  pointwise

/-- The biases' block. -/
theorem read_bias (c : Dev nD) (t : Fin cfg0.N) (e : Fin 256) : iblk m c 5 t (ix2 0 e)
    = biases (m ((c : Thread nD τ).loc main_arg1)) (m ((c : Thread nD τ).loc main_arg2)) (ix1 e) := by
  have h : iblk m c 5 t (ix2 0 e) = V m c main_v3 (ix2 0 e) := by blk_point [iblk, idx t]
  rw [h, bias_eq]
  pointwise

/-- A grid point's blocks hold 512 rows of one sequence. -/
theorem reads (c : Dev nD) (t : Fin cfg0.N) (b : Fin 8) (z : Fin 4) (ht : t.val = 4 * b.val + z.val) :
    Piece.Reads (X0_0 m c t) (X0_1 m c t) (X0_2 m c t) (X0_3 m c t) (iblk m c 4 t) (iblk m c 5 t) (iblk m c 6 t)
      (packed m c) (biasI m c) (biasF m c) (gain m c) b z where
  q r e := (read_part m c t r e (Piece.rowOf b z r) (by simp only [Piece.rowOf]; omega)).1
  k r e := (read_part m c t r e (Piece.rowOf b z r) (by simp only [Piece.rowOf]; omega)).2.1
  v r e := (read_part m c t r e (Piece.rowOf b z r) (by simp only [Piece.rowOf]; omega)).2.2.1
  o r e := (read_part m c t r e (Piece.rowOf b z r) (by simp only [Piece.rowOf]; omega)).2.2.2
  gate r e := read_gate m c t r e (Piece.rowOf b z r) (by simp only [Piece.rowOf]; omega)
  bi h := by
    rw [read_bias]
    unfold biases
    rw [place_apply _ _ 20 (by omega), dif_neg (by simp only; omega), place_apply _ _ 16 (by omega),
      dif_pos (by simp only; omega)]
    exact congrArg (fun k => m ((c : Thread nD τ).loc main_arg1) (ix1 k)) (Fin.ext (by simp only; omega))
  bf h := by
    rw [read_bias]
    unfold biases
    rw [place_apply _ _ 20 (by omega), dif_pos (by simp only; omega)]
    exact congrArg (fun k => m ((c : Thread nD τ).loc main_arg2) (ix1 k)) (Fin.ext (by simp only; omega))
  g d := read_gain m c t d

end Cert.MlstmIdeal.RefValue

end
-- ==== Proof.MlstmCases.lean ====
/-
  What a grid point of the mLSTM prompt kernel leaves in its output blocks, of its input blocks and the state before it.
-/
module

public import proofs.«01_k».proof.Proof.MlstmReads
public import Idealize.ShloMosaic.Lib.Pipeline.ReadBack

@[expose] public section

set_option maxRecDepth 65536

noncomputable section

namespace Cert.MlstmIdeal.RefValue

open Cert.MlstmIdeal Cert.MlstmIdeal.Gen Idealize.ShloMosaic Idealize.ShloMosaic.TcCoe Idealize.SL.Sem Cert.Chunk Cert.Rows

variable (m : (ℓ : Loc nD τ sig) → Buf (Elt Ideal) ℓ)

/-- The state of head `h` after `n` of a point's runs, from `s0`. -/
abbrev stOf (c : Dev nD) (t : Fin cfg0.N) (s0 : Piece.St) (h : Fin 4) (n : ℕ) : Piece.St :=
  Piece.stAt (X0_0 m c t) (X0_1 m c t) (X0_2 m c t) (X0_3 m c t) (iblk m c 4 t) (iblk m c 5 t) (iblk m c 6 t) s0 h n

/-- The state of head `h` that the point before left. -/
abbrev prev (c : Dev nD) (t : Fin cfg0.N) (h : Fin 4) : Piece.St :=
  Piece.load (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2 h

/-- The state of every head before a sequence's first block: the cleared blocks. -/
abbrev start (h : Fin 4) : Piece.St := Piece.load (k0_pay5 (F := Ideal)) (k0_pay6 (F := Ideal)) (k0_pay7 (F := Ideal)) h

/-- The cleared block of matrices. -/
theorem cleared_mat (h : Fin 4) (d e : Fin 128) : k0_pay5 (F := Ideal) (ix4 0 h d e) = (0 : EReal) := by
  pointwise [k0_pay5]

/-- The cleared block of normalisers. -/
theorem cleared_norm (h : Fin 4) (d : Fin 128) : k0_pay6 (F := Ideal) (ix3 0 h d) = (0 : EReal) := by
  pointwise [k0_pay6]

/-- The cleared block of stabilisers. -/
theorem cleared_stab (r : Fin 8) (d : Fin 128) : k0_pay7 (F := Ideal) (ix3 0 r d) = (0 : EReal) := by
  pointwise [k0_pay7]

section Load

variable (xC : Vec Ideal S1x4x128x128 .f32) (xn : Vec Ideal S1x4x128 .f32) (xm : Vec Ideal S1x8x128 .f32)

/-- A matrix with two leading unit axes, without them. -/
theorem drop_unit (w : Vec Ideal S1x1x128x128 .f32) (d e : Fin 128) :
    shapeCast S128x128 w shapeCasts_S1x1x128x128_S128x128 (ix2 d e) = w (ix4 0 0 d e) := by
  pointwise

/-- A head's matrix read from the matrices' block. -/
theorem load_C (h : Fin 4) (d e : Fin 128) : (Piece.load xC xn xm h).C (ix2 d e) = xC (ix4 0 h d e) := by
  refine (drop_unit (View.ld xC (Rect.unit ![0, h.val, 0, 0] ![1, 1, 128, 128] (by revert h; decide))) d e).trans ?_
  rw [View.ld_apply]
  refine congrArg xC (funext fun a => Fin.ext ?_)
  fin_cases a
  · rfl
  · exact Nat.add_zero _
  · show 0 + 1 * d.val = d.val
    omega
  · show 0 + 1 * e.val = e.val
    omega

/-- A head's normaliser read from the normalisers' block. -/
theorem load_n (h : Fin 4) (d : Fin 128) : (Piece.load xC xn xm h).n (ix2 0 d) = xn (ix3 0 h d) := by
  unfold Piece.load
  pointwise [View.ld]

/-- A head's stabiliser read from the stabilisers' block. -/
theorem load_m (h : Fin 4) : (Piece.load xC xn xm h).m (ix2 0 0) = xm (ix3 0 ⟨h.val, by omega⟩ 0) := by
  unfold Piece.load
  pointwise [View.ld]

end Load

/-- Every head starts from the zero state. -/
theorem start_holds (R : Fin 16 → Fin 8 → Fin 4 → Run) (b : Fin 8) (h : Fin 4) : Piece.HoldsSt (start h) (stateAt R b h 0) where
  C d e := (load_C _ _ _ h d e).trans (cleared_mat h d e)
  n d := (load_n _ _ _ h d).trans (cleared_norm h d)
  m := (load_m _ _ _ h).trans (cleared_stab _ 0)

section Pieces

variable {S : Shape} {e : EltTy} {y : S.Idx} {x : Elt Ideal e}

/-- The newest of a list of pieces decides where it holds an index, and the earlier ones decide elsewhere. -/
theorem canon_step (r : Rect S) (w : r.shape.Idx → Elt Ideal e) (L : List (View.Piece (Elt Ideal) S e))
    (h : View.RectAt y r w x) (h' : y ∉ r.set → View.canon L y = x) :
    View.canon ((⟨r, w⟩ : View.Piece (Elt Ideal) S e) :: L) y = x := by
  by_cases hy : y ∈ r.set
  · obtain ⟨z, rfl⟩ : ∃ z, r.emb z = y := r.exists_idx_of_mem hy
    rw [View.canon_cons_emb]
    exact h z rfl
  · rw [View.canon_cons_of_not_mem _ _ hy]
    exact h' hy

/-- The same of stores made over a buffer's contents. -/
theorem read_step {sp : Space} {κ : Kind} (v : View sig κ sp S e) (f : v.ty.Contents (Elt Ideal)) (r : Rect S)
    (w : r.shape.Idx → Elt Ideal e) (L : List (View.Piece (Elt Ideal) S e)) (h : View.RectAt y r w x)
    (h' : y ∉ r.set → v.read (Elt Ideal) (v.writes (Elt Ideal) f L) y = x) :
    v.read (Elt Ideal) (v.writes (Elt Ideal) f ((⟨r, w⟩ : View.Piece (Elt Ideal) S e) :: L)) y = x := by
  by_cases hy : y ∈ r.set
  · obtain ⟨z, rfl⟩ : ∃ z, r.emb z = y := r.exists_idx_of_mem hy
    rw [View.read_writes_cons_emb]
    exact h z rfl
  · have hy' : y ∉ Finset.univ.map r.emb := by rwa [Rect.map_emb_univ]
    rw [View.writes_cons, View.read_slice_write_of_not_mem r _ _ _ hy']
    exact h' hy

end Pieces

/-- The piece of the matrices' block that head `k` stores. -/
theorem mat_rect (U : Fin 4 → Piece.St) (k : Fin 4) (y : S1x4x128x128.Idx) (inb)
    (w : (Rect.unit (s := S1x4x128x128) ![0, k.val, 0, 0] ![1, 1, 128, 128] inb).shape.Idx → Elt Ideal .f32)
    (hw : w = shapeCast S1x1x128x128 (U k).C shapeCasts_S128x128_S1x1x128x128) :
    View.RectAt (Val := Elt Ideal) (e := .f32) y (Rect.unit (s := S1x4x128x128) ![0, k.val, 0, 0] ![1, 1, 128, 128] inb) w
      ((U (y 1)).C (ix2 (y 2) (y 3))) := by
  rintro x rfl
  rw [hw]
  have e1 : (Rect.unit (s := S1x4x128x128) ![0, k.val, 0, 0] ![1, 1, 128, 128] inb).emb x 1 = k := Fin.ext (by
    have h : (x 1).val < 1 := (x 1).isLt
    show k.val + 1 * (x 1).val = k.val
    omega)
  have e2 : (Rect.unit (s := S1x4x128x128) ![0, k.val, 0, 0] ![1, 1, 128, 128] inb).emb x 2 = x 2 := Fin.ext (by
    show 0 + 1 * (x 2).val = (x 2).val
    omega)
  have e3 : (Rect.unit (s := S1x4x128x128) ![0, k.val, 0, 0] ![1, 1, 128, 128] inb).emb x 3 = x 3 := Fin.ext (by
    show 0 + 1 * (x 3).val = (x 3).val
    omega)
  rw [e1]
  refine Eq.trans ?_ (congrArg₂ (fun p q => (U k).C (ix2 p q)) e2 e3).symm
  have hx : x = (ix4 (0 : Fin 1) (0 : Fin 1) (x 2) (x 3) : S1x1x128x128.Idx) := by
    refine (eq_ix4 (n0 := 1) (n1 := 1) (n2 := 128) (n3 := 128) x).trans ?_
    rw [Subsingleton.elim (α := Fin 1) (x 0) 0, Subsingleton.elim (α := Fin 1) (x 1) 0]
  refine (congrArg (shapeCast S1x1x128x128 (U k).C shapeCasts_S128x128_S1x1x128x128) hx).trans ?_
  generalize x 2 = p
  generalize x 3 = q
  pointwise

/-- The piece of the normalisers' block that head `k` stores. -/
theorem norm_rect (U : Fin 4 → Piece.St) (k : Fin 4) (y : S1x4x128.Idx) (inb)
    (w : (Rect.unit (s := S1x4x128) ![0, k.val, 0] ![1, 1, 128] inb).shape.Idx → Elt Ideal .f32)
    (hw : w = shapeCast S1x1x128 (U k).n shapeCasts_S1x128_S1x1x128) :
    View.RectAt (Val := Elt Ideal) (e := .f32) y (Rect.unit (s := S1x4x128) ![0, k.val, 0] ![1, 1, 128] inb) w
      ((U (y 1)).n (ix2 0 (y 2))) := by
  rintro x rfl
  rw [hw]
  have e1 : (Rect.unit (s := S1x4x128) ![0, k.val, 0] ![1, 1, 128] inb).emb x 1 = k := Fin.ext (by
    have h : (x 1).val < 1 := (x 1).isLt
    show k.val + 1 * (x 1).val = k.val
    omega)
  have e2 : (Rect.unit (s := S1x4x128) ![0, k.val, 0] ![1, 1, 128] inb).emb x 2 = x 2 := Fin.ext (by
    show 0 + 1 * (x 2).val = (x 2).val
    omega)
  rw [e1]
  refine Eq.trans ?_ (congrArg (fun p => (U k).n (ix2 0 p)) e2).symm
  have hx : x = (ix3 (0 : Fin 1) (0 : Fin 1) (x 2) : S1x1x128.Idx) := by
    refine (eq_ix3 (n0 := 1) (n1 := 1) (n2 := 128) x).trans ?_
    rw [Subsingleton.elim (α := Fin 1) (x 0) 0, Subsingleton.elim (α := Fin 1) (x 1) 0]
  refine (congrArg (shapeCast S1x1x128 (U k).n shapeCasts_S1x128_S1x1x128) hx).trans ?_
  generalize x 2 = p
  pointwise

/-- The stabilisers' block: a head's stabiliser along each of the first four rows, `b` below. -/
def stabVal (U : Fin 4 → Piece.St) (b : EReal) (r : Fin 8) : EReal :=
  if h : r.val < 4 then (U ⟨r.val, h⟩).m (ix2 0 0) else b

/-- The piece of the stabilisers' block that head `k` stores. -/
theorem stab_rect (U : Fin 4 → Piece.St) (b : EReal) (k : Fin 4) (y : S1x8x128.Idx) (inb)
    (w : (Rect.unit (s := S1x8x128) ![0, k.val, 0] ![1, 1, 128] inb).shape.Idx → Elt Ideal .f32)
    (hw : w = shapeCast S1x1x128 (broadcastTo S1x128 (shapeCast S1x1 (U k).m shapeCasts_S1x1_S1x1) broadcasts_S1x1_S1x128)
      shapeCasts_S1x128_S1x1x128) :
    View.RectAt (Val := Elt Ideal) (e := .f32) y (Rect.unit (s := S1x8x128) ![0, k.val, 0] ![1, 1, 128] inb) w
      (stabVal U b (y 1)) := by
  rintro x rfl
  rw [hw]
  have e1 : (Rect.unit (s := S1x8x128) ![0, k.val, 0] ![1, 1, 128] inb).emb x 1 = (⟨k.val, by omega⟩ : Fin 8) := Fin.ext (by
    have h : (x 1).val < 1 := (x 1).isLt
    show k.val + 1 * (x 1).val = k.val
    omega)
  rw [e1]
  have hv : stabVal U b ⟨k.val, by omega⟩ = (U k).m (ix2 0 0) := dif_pos k.isLt
  refine Eq.trans ?_ hv.symm
  have hx : x = (ix3 (0 : Fin 1) (0 : Fin 1) (x 2) : S1x1x128.Idx) := by
    refine (eq_ix3 (n0 := 1) (n1 := 1) (n2 := 128) x).trans ?_
    rw [Subsingleton.elim (α := Fin 1) (x 0) 0, Subsingleton.elim (α := Fin 1) (x 1) 0]
  refine (congrArg (shapeCast S1x1x128 (broadcastTo S1x128 (shapeCast S1x1 (U k).m shapeCasts_S1x1_S1x1) broadcasts_S1x1_S1x128)
    shapeCasts_S1x128_S1x1x128) hx).trans ?_
  generalize x 2 = p
  pointwise

/-- Off the heads' pieces of the stabilisers' block the row is one of the last four. -/
theorem stab_off (U : Fin 4 → Piece.St) (b : EReal) (y : S1x8x128.Idx)
    (h : ∀ (k : Fin 4) (inb), y ∉ (Rect.unit (s := S1x8x128) ![0, k.val, 0] ![1, 1, 128] inb).set) : b = stabVal U b (y 1) := by
  have hy : ¬(y 1).val < 4 := fun hk =>
    h ⟨(y 1).val, hk⟩ (by
      intro a
      fin_cases a
      · exact Nat.le_refl 1
      · show (y 1).val + 1 ≤ 8
        omega
      · exact Nat.le_refl 128) (Rect.mem_set_unit.mpr fun a => by
      fin_cases a
      · exact ⟨Nat.zero_le _, (y 0).isLt⟩
      · exact ⟨Nat.le_refl _, Nat.lt_succ_self _⟩
      · exact ⟨Nat.zero_le _, (y 2).isLt⟩)
  unfold stabVal
  rw [dif_neg hy]

/-- The output block: run `s`, head `h` at rows `128 s` and columns `128 h`. -/
def outVal (W : Fin 4 → Fin 4 → FVec Ideal S128x128 .f32) (r e : Fin 512) : EReal :=
  W ⟨r.val / 128, by omega⟩ ⟨e.val / 128, by omega⟩ (ix2 ⟨r.val % 128, by omega⟩ ⟨e.val % 128, by omega⟩)

/-- The piece of the output block that run `s` and head `h` store. -/
theorem out_rect (W : Fin 4 → Fin 4 → FVec Ideal S128x128 .f32) (s h : Fin 4) (y : S512x512.Idx) (inb)
    (w : (Rect.unit (s := S512x512) ![128 * s.val, 128 * h.val] ![128, 128] inb).shape.Idx → Elt Ideal .f32) (hw : w = W s h) :
    View.RectAt (Val := Elt Ideal) (e := .f32) y (Rect.unit (s := S512x512) ![128 * s.val, 128 * h.val] ![128, 128] inb) w
      (outVal W (y 0) (y 1)) := by
  rintro x rfl
  rw [hw]
  have h0 : (x 0).val < 128 := (x 0).isLt
  have h1 : (x 1).val < 128 := (x 1).isLt
  have e0 : ((Rect.unit (s := S512x512) ![128 * s.val, 128 * h.val] ![128, 128] inb).emb x 0).val = 128 * s.val + (x 0).val := by
    show 128 * s.val + 1 * (x 0).val = _
    omega
  have e1 : ((Rect.unit (s := S512x512) ![128 * s.val, 128 * h.val] ![128, 128] inb).emb x 1).val = 128 * h.val + (x 1).val := by
    show 128 * h.val + 1 * (x 1).val = _
    omega
  unfold outVal
  have a0 : (⟨((Rect.unit (s := S512x512) ![128 * s.val, 128 * h.val] ![128, 128] inb).emb x 0).val / 128, by omega⟩ : Fin 4) = s :=
    Fin.ext (by simp only [e0]; omega)
  have a1 : (⟨((Rect.unit (s := S512x512) ![128 * s.val, 128 * h.val] ![128, 128] inb).emb x 1).val / 128, by omega⟩ : Fin 4) = h :=
    Fin.ext (by simp only [e1]; omega)
  have a2 : (⟨((Rect.unit (s := S512x512) ![128 * s.val, 128 * h.val] ![128, 128] inb).emb x 0).val % 128, by omega⟩ : Fin 128)
      = (⟨(x 0).val, h0⟩ : Fin 128) := Fin.ext (by simp only [e0]; omega)
  have a3 : (⟨((Rect.unit (s := S512x512) ![128 * s.val, 128 * h.val] ![128, 128] inb).emb x 1).val % 128, by omega⟩ : Fin 128)
      = (⟨(x 1).val, h1⟩ : Fin 128) := Fin.ext (by simp only [e1]; omega)
  rw [a0, a1, a2, a3]
  exact congrArg (W s h) (eq_ix2 (n0 := 128) (n1 := 128) x)

/-- What run `s` and head `h` of a point write out, from the heads' states `s0`. -/
abbrev outOf (c : Dev nD) (t : Fin cfg0.N) (s0 : Fin 4 → Piece.St) (s h : Fin 4) : FVec Ideal S128x128 .f32 :=
  Piece.out (Piece.ins (X0_0 m c t) (X0_1 m c t) (X0_2 m c t) (X0_3 m c t) (iblk m c 4 t) (iblk m c 5 t) (iblk m c 6 t) s h)
    (stOf m c t (s0 h) h s.val)

/-- Every index of the matrices' block is in a head's piece. -/
theorem mat_cover (y : S1x4x128x128.Idx) {i0 i1 i2 i3} : ¬(y ∉ (Rect.unit (s := S1x4x128x128) ![0, 0, 0, 0] ![1, 1, 128, 128] i0).set
    ∧ y ∉ (Rect.unit (s := S1x4x128x128) ![0, 1, 0, 0] ![1, 1, 128, 128] i1).set
    ∧ y ∉ (Rect.unit (s := S1x4x128x128) ![0, 2, 0, 0] ![1, 1, 128, 128] i2).set
    ∧ y ∉ (Rect.unit (s := S1x4x128x128) ![0, 3, 0, 0] ![1, 1, 128, 128] i3).set) := by
  rintro ⟨h0, h1, h2, h3⟩
  have key : ∀ (k : Fin 4) (i), y 1 = k → y ∈ (Rect.unit (s := S1x4x128x128) ![0, k.val, 0, 0] ![1, 1, 128, 128] i).set := by
    rintro k i rfl
    refine Rect.mem_set_unit.mpr fun a => ?_
    fin_cases a
    · exact ⟨Nat.zero_le _, (y 0).isLt⟩
    · exact ⟨Nat.le_refl _, Nat.lt_succ_self _⟩
    · exact ⟨Nat.zero_le _, (y 2).isLt⟩
    · exact ⟨Nat.zero_le _, (y 3).isLt⟩
  have hy : (y 1).val < 4 := (y 1).isLt
  rcases (by omega : (y 1).val = 0 ∨ (y 1).val = 1 ∨ (y 1).val = 2 ∨ (y 1).val = 3) with h | h | h | h
  · exact h0 (key 0 _ (Fin.ext h))
  · exact h1 (key 1 _ (Fin.ext h))
  · exact h2 (key 2 _ (Fin.ext h))
  · exact h3 (key 3 _ (Fin.ext h))

/-- Every index of the normalisers' block is in a head's piece. -/
theorem norm_cover (y : S1x4x128.Idx) {i0 i1 i2 i3} : ¬(y ∉ (Rect.unit (s := S1x4x128) ![0, 0, 0] ![1, 1, 128] i0).set
    ∧ y ∉ (Rect.unit (s := S1x4x128) ![0, 1, 0] ![1, 1, 128] i1).set
    ∧ y ∉ (Rect.unit (s := S1x4x128) ![0, 2, 0] ![1, 1, 128] i2).set
    ∧ y ∉ (Rect.unit (s := S1x4x128) ![0, 3, 0] ![1, 1, 128] i3).set) := by
  rintro ⟨h0, h1, h2, h3⟩
  have key : ∀ (k : Fin 4) (i), y 1 = k → y ∈ (Rect.unit (s := S1x4x128) ![0, k.val, 0] ![1, 1, 128] i).set := by
    rintro k i rfl
    refine Rect.mem_set_unit.mpr fun a => ?_
    fin_cases a
    · exact ⟨Nat.zero_le _, (y 0).isLt⟩
    · exact ⟨Nat.le_refl _, Nat.lt_succ_self _⟩
    · exact ⟨Nat.zero_le _, (y 2).isLt⟩
  have hy : (y 1).val < 4 := (y 1).isLt
  rcases (by omega : (y 1).val = 0 ∨ (y 1).val = 1 ∨ (y 1).val = 2 ∨ (y 1).val = 3) with h | h | h | h
  · exact h0 (key 0 _ (Fin.ext h))
  · exact h1 (key 1 _ (Fin.ext h))
  · exact h2 (key 2 _ (Fin.ext h))
  · exact h3 (key 3 _ (Fin.ext h))

/-- The matrices a later point leaves. -/
theorem matB (c : Dev nD) (t : Fin cfg0.N) (h0 : ¬t.val % 4 = 0) (U : Fin 4 → Piece.St)
    (hU : ∀ h, U h = stOf m c t (prev m c t h) h 4) (y : S1x4x128x128.Idx) :
    (outsAt0 m c t.val t.isLt).2.1 y = (U (y 1)).C (ix2 (y 2) (y 3)) := by
  rw [outsAt0_B m c t h0]
  dsimp only
  unfold out0_B_8
  frame_out
  refine canon_step _ _ _ (mat_rect U 3 _ _ _ (by rw [hU]; rfl)) fun h3 => ?_
  refine canon_step _ _ _ (mat_rect U 2 _ _ _ (by rw [hU]; rfl)) fun h2 => ?_
  refine canon_step _ _ _ (mat_rect U 1 _ _ _ (by rw [hU]; rfl)) fun h1 => ?_
  refine canon_step _ _ _ (mat_rect U 0 _ _ _ (by rw [hU]; rfl)) fun h0 => ?_
  exact absurd ⟨h0, h1, h2, h3⟩ (mat_cover y)

/-- The normalisers a later point leaves. -/
theorem normB (c : Dev nD) (t : Fin cfg0.N) (h0 : ¬t.val % 4 = 0) (U : Fin 4 → Piece.St)
    (hU : ∀ h, U h = stOf m c t (prev m c t h) h 4) (y : S1x4x128.Idx) :
    (outsAt0 m c t.val t.isLt).2.2.1 y = (U (y 1)).n (ix2 0 (y 2)) := by
  rw [outsAt0_B m c t h0]
  dsimp only
  unfold out0_B_9
  frame_out
  refine canon_step _ _ _ (norm_rect U 3 _ _ _ (by rw [hU]; rfl)) fun h3 => ?_
  refine canon_step _ _ _ (norm_rect U 2 _ _ _ (by rw [hU]; rfl)) fun h2 => ?_
  refine canon_step _ _ _ (norm_rect U 1 _ _ _ (by rw [hU]; rfl)) fun h1 => ?_
  refine canon_step _ _ _ (norm_rect U 0 _ _ _ (by rw [hU]; rfl)) fun h0 => ?_
  exact absurd ⟨h0, h1, h2, h3⟩ (norm_cover y)

/-- The stabilisers a later point leaves. -/
theorem stabB (c : Dev nD) (t : Fin cfg0.N) (h0 : ¬t.val % 4 = 0) (U : Fin 4 → Piece.St)
    (hU : ∀ h, U h = stOf m c t (prev m c t h) h 4) (y : S1x8x128.Idx) :
    (outsAt0 m c t.val t.isLt).2.2.2 y = stabVal U ((outsAt0 m c (t.val - 1) (Nat.lt_of_le_of_lt (Nat.sub_le _ _) t.isLt)).2.2.2 y) (y 1) := by
  rw [outsAt0_B m c t h0]
  dsimp only
  unfold out0_B_10
  frame_out
  refine read_step _ _ _ _ _ (stab_rect U _ 3 _ _ _ (by rw [hU]; rfl)) fun h3 => ?_
  refine read_step _ _ _ _ _ (stab_rect U _ 2 _ _ _ (by rw [hU]; rfl)) fun h2 => ?_
  refine read_step _ _ _ _ _ (stab_rect U _ 1 _ _ _ (by rw [hU]; rfl)) fun h1 => ?_
  refine read_step _ _ _ _ _ (stab_rect U _ 0 _ _ _ (by rw [hU]; rfl)) fun h0 => ?_
  refine Eq.trans ?_ (stab_off U _ y fun k inb => ?_)
  · rw [View.writes_nil]
    exact congrFun (Memref.IsWhole.read_unread _ _) y
  · fin_cases k
    · exact h0
    · exact h1
    · exact h2
    · exact h3

/-- The output block a later point leaves. -/
theorem outB (c : Dev nD) (t : Fin cfg0.N) (h0 : ¬t.val % 4 = 0) (W : Fin 4 → Fin 4 → FVec Ideal S128x128 .f32)
    (hW : ∀ s h, W s h = outOf m c t (prev m c t) s h) (y : S512x512.Idx) :
    (outsAt0 m c t.val t.isLt).1 y = outVal W (y 0) (y 1) := by
  rw [outsAt0_B m c t h0]
  dsimp only
  unfold out0_B_7
  frame_out
  refine View.canon_eq_of_allAt _ _ _ ?_ ?_
  · exact View.cover_of_tiled_head _ _ _ (by sl_kernel_rfl) _
  refine View.allAt_cons _ _ _ (out_rect W 3 3 _ _ _ (by rw [hW]; rfl)) ?_
  refine View.allAt_cons _ _ _ (out_rect W 3 2 _ _ _ (by rw [hW]; rfl)) ?_
  refine View.allAt_cons _ _ _ (out_rect W 3 1 _ _ _ (by rw [hW]; rfl)) ?_
  refine View.allAt_cons _ _ _ (out_rect W 3 0 _ _ _ (by rw [hW]; rfl)) ?_
  refine View.allAt_cons _ _ _ (out_rect W 2 3 _ _ _ (by rw [hW]; rfl)) ?_
  refine View.allAt_cons _ _ _ (out_rect W 2 2 _ _ _ (by rw [hW]; rfl)) ?_
  refine View.allAt_cons _ _ _ (out_rect W 2 1 _ _ _ (by rw [hW]; rfl)) ?_
  refine View.allAt_cons _ _ _ (out_rect W 2 0 _ _ _ (by rw [hW]; rfl)) ?_
  refine View.allAt_cons _ _ _ (out_rect W 1 3 _ _ _ (by rw [hW]; rfl)) ?_
  refine View.allAt_cons _ _ _ (out_rect W 1 2 _ _ _ (by rw [hW]; rfl)) ?_
  refine View.allAt_cons _ _ _ (out_rect W 1 1 _ _ _ (by rw [hW]; rfl)) ?_
  refine View.allAt_cons _ _ _ (out_rect W 1 0 _ _ _ (by rw [hW]; rfl)) ?_
  refine View.allAt_cons _ _ _ (out_rect W 0 3 _ _ _ (by rw [hW]; rfl)) ?_
  refine View.allAt_cons _ _ _ (out_rect W 0 2 _ _ _ (by rw [hW]; rfl)) ?_
  refine View.allAt_cons _ _ _ (out_rect W 0 1 _ _ _ (by rw [hW]; rfl)) ?_
  refine View.allAt_cons _ _ _ (out_rect W 0 0 _ _ _ (by rw [hW]; rfl)) ?_
  exact View.allAt_nil _ _

/-- The matrices a first point leaves. -/
theorem matA (c : Dev nD) (t : Fin cfg0.N) (h0 : t.val % 4 = 0) (U : Fin 4 → Piece.St)
    (hU : ∀ h, U h = stOf m c t (start h) h 4) (y : S1x4x128x128.Idx) :
    (outsAt0 m c t.val t.isLt).2.1 y = (U (y 1)).C (ix2 (y 2) (y 3)) := by
  rw [outsAt0_A m c t h0]
  dsimp only
  unfold out0_A_8
  frame_open
  simp (disch := decide) only [↓ View.readCov_skip, ↓ View.readCov_cons_toLoadRect, ↓ View.readCov_fill]
  frame_out
  refine canon_step _ _ _ (mat_rect U 3 _ _ _ (by rw [hU]; rfl)) fun h3 => ?_
  refine canon_step _ _ _ (mat_rect U 2 _ _ _ (by rw [hU]; rfl)) fun h2 => ?_
  refine canon_step _ _ _ (mat_rect U 1 _ _ _ (by rw [hU]; rfl)) fun h1 => ?_
  refine canon_step _ _ _ (mat_rect U 0 _ _ _ (by rw [hU]; rfl)) fun h0 => ?_
  exact absurd ⟨h0, h1, h2, h3⟩ (mat_cover y)

/-- The normalisers a first point leaves. -/
theorem normA (c : Dev nD) (t : Fin cfg0.N) (h0 : t.val % 4 = 0) (U : Fin 4 → Piece.St)
    (hU : ∀ h, U h = stOf m c t (start h) h 4) (y : S1x4x128.Idx) :
    (outsAt0 m c t.val t.isLt).2.2.1 y = (U (y 1)).n (ix2 0 (y 2)) := by
  rw [outsAt0_A m c t h0]
  dsimp only
  unfold out0_A_9
  frame_open
  simp (disch := decide) only [↓ View.readCov_skip, ↓ View.readCov_cons_toLoadRect, ↓ View.readCov_fill]
  frame_out
  refine canon_step _ _ _ (norm_rect U 3 _ _ _ (by rw [hU]; rfl)) fun h3 => ?_
  refine canon_step _ _ _ (norm_rect U 2 _ _ _ (by rw [hU]; rfl)) fun h2 => ?_
  refine canon_step _ _ _ (norm_rect U 1 _ _ _ (by rw [hU]; rfl)) fun h1 => ?_
  refine canon_step _ _ _ (norm_rect U 0 _ _ _ (by rw [hU]; rfl)) fun h0 => ?_
  exact absurd ⟨h0, h1, h2, h3⟩ (norm_cover y)

/-- The stabilisers a first point leaves. -/
theorem stabA (c : Dev nD) (t : Fin cfg0.N) (h0 : t.val % 4 = 0) (U : Fin 4 → Piece.St)
    (hU : ∀ h, U h = stOf m c t (start h) h 4) (y : S1x8x128.Idx) :
    (outsAt0 m c t.val t.isLt).2.2.2 y = stabVal U 0 (y 1) := by
  rw [outsAt0_A m c t h0]
  dsimp only
  unfold out0_A_10
  frame_open
  simp (disch := decide) only [↓ View.readCov_skip, ↓ View.readCov_cons_toLoadRect, ↓ View.readCov_fill]
  frame_out
  refine canon_step _ _ _ (stab_rect U _ 3 _ _ _ (by rw [hU]; rfl)) fun h3 => ?_
  refine canon_step _ _ _ (stab_rect U _ 2 _ _ _ (by rw [hU]; rfl)) fun h2 => ?_
  refine canon_step _ _ _ (stab_rect U _ 1 _ _ _ (by rw [hU]; rfl)) fun h1 => ?_
  refine canon_step _ _ _ (stab_rect U _ 0 _ _ _ (by rw [hU]; rfl)) fun h0 => ?_
  refine Eq.trans ?_ (stab_off U _ y fun k inb => ?_)
  · refine canon_step _ _ _ ?_ fun h => absurd (View.mem_set_unit_zero (by decide) _ y) h
    rintro x rfl
    have hx : x = (ix3 (0 : Fin 1) (x 1) (x 2) : S1x8x128.Idx) := by
      refine (eq_ix3 (n0 := 1) (n1 := 8) (n2 := 128) x).trans ?_
      rw [Subsingleton.elim (α := Fin 1) (x 0) 0]
    exact (congrArg (k0_pay7 (F := Ideal)) hx).trans (cleared_stab _ _)
  · fin_cases k
    · exact h0
    · exact h1
    · exact h2
    · exact h3

/-- The output block a first point leaves. -/
theorem outA (c : Dev nD) (t : Fin cfg0.N) (h0 : t.val % 4 = 0) (W : Fin 4 → Fin 4 → FVec Ideal S128x128 .f32)
    (hW : ∀ s h, W s h = outOf m c t start s h) (y : S512x512.Idx) :
    (outsAt0 m c t.val t.isLt).1 y = outVal W (y 0) (y 1) := by
  rw [outsAt0_A m c t h0]
  dsimp only
  unfold out0_A_7
  frame_open
  simp (disch := decide) only [↓ View.readCov_skip, ↓ View.readCov_cons_toLoadRect, ↓ View.readCov_fill]
  frame_out
  refine View.canon_eq_of_allAt _ _ _ ?_ ?_
  · exact View.cover_of_tiled_head _ _ _ (by sl_kernel_rfl) _
  refine View.allAt_cons _ _ _ (out_rect W 3 3 _ _ _ (by rw [hW]; rfl)) ?_
  refine View.allAt_cons _ _ _ (out_rect W 3 2 _ _ _ (by rw [hW]; rfl)) ?_
  refine View.allAt_cons _ _ _ (out_rect W 3 1 _ _ _ (by rw [hW]; rfl)) ?_
  refine View.allAt_cons _ _ _ (out_rect W 3 0 _ _ _ (by rw [hW]; rfl)) ?_
  refine View.allAt_cons _ _ _ (out_rect W 2 3 _ _ _ (by rw [hW]; rfl)) ?_
  refine View.allAt_cons _ _ _ (out_rect W 2 2 _ _ _ (by rw [hW]; rfl)) ?_
  refine View.allAt_cons _ _ _ (out_rect W 2 1 _ _ _ (by rw [hW]; rfl)) ?_
  refine View.allAt_cons _ _ _ (out_rect W 2 0 _ _ _ (by rw [hW]; rfl)) ?_
  refine View.allAt_cons _ _ _ (out_rect W 1 3 _ _ _ (by rw [hW]; rfl)) ?_
  refine View.allAt_cons _ _ _ (out_rect W 1 2 _ _ _ (by rw [hW]; rfl)) ?_
  refine View.allAt_cons _ _ _ (out_rect W 1 1 _ _ _ (by rw [hW]; rfl)) ?_
  refine View.allAt_cons _ _ _ (out_rect W 1 0 _ _ _ (by rw [hW]; rfl)) ?_
  refine View.allAt_cons _ _ _ (out_rect W 0 3 _ _ _ (by rw [hW]; rfl)) ?_
  refine View.allAt_cons _ _ _ (out_rect W 0 2 _ _ _ (by rw [hW]; rfl)) ?_
  refine View.allAt_cons _ _ _ (out_rect W 0 1 _ _ _ (by rw [hW]; rfl)) ?_
  refine View.allAt_cons _ _ _ (out_rect W 0 0 _ _ _ (by rw [hW]; rfl)) ?_
  exact View.allAt_nil _ _

end Cert.MlstmIdeal.RefValue

end
-- ==== Proof.MlstmStep.lean ====
/-
  One trip of the reference's loop over the sixteen runs of mLSTM prompt work: the carried buffers hold a state for each
  sequence and head, and a trip takes each to the state after one more run.
-/
module

public import proofs.«01_k».proof.Proof.MlstmMath
public import proofs.«01_k».proof.Proof.Gen.MlstmRefIdeal.Run
public import Idealize.ShloMosaic.Lib.DynamicIndex
public import Idealize.ShloMosaic.Lib.Pipeline.Value

@[expose] public section

set_option maxRecDepth 65536

noncomputable section

namespace Cert.MlstmRefIdeal.Value

open Cert.MlstmRefIdeal Cert.MlstmRefIdeal.Gen Idealize.ShloMosaic Idealize.ShloMosaic.TcCoe Idealize.SL.Sem Cert.Chunk Cert.Rows

/-- The carried buffers hold the runs' numbers, the states before run `k`, and the readings of the runs before it. -/
structure Holds (V : Valuation τ sig (Elt Ideal)) (R : Fin 16 → Fin 8 → Fin 4 → Run) (z : ℕ) : Prop where
  q : ∀ s b h i d, (V (Proc.devRef .tc main_v59_0) : Vec Ideal S16x8x4x128x128 .f32) (ix5 s b h i d) = (R s b h).q i d
  k : ∀ s b h i d, (V (Proc.devRef .tc main_v59_1) : Vec Ideal S16x8x4x128x128 .f32) (ix5 s b h i d) = (R s b h).k i d
  v : ∀ s b h i d, (V (Proc.devRef .tc main_v59_2) : Vec Ideal S16x8x4x128x128 .f32) (ix5 s b h i d) = (R s b h).v i d
  b : ∀ s b h i, (V (Proc.devRef .tc main_v59_3) : Vec Ideal S16x8x4x128 .f32) (ix4 s b h i) = (R s b h).b i
  dmat : ∀ s b h i j, (V (Proc.devRef .tc main_v59_4) : Vec Ideal S16x8x4x128x128 .f32) (ix5 s b h i j) = (R s b h).dmat i j
  dmax : ∀ s b h i, (V (Proc.devRef .tc main_v59_5) : Vec Ideal S16x8x4x128 .f32) (ix4 s b h i) = rowMax ((R s b h).dmat i)
  qk : ∀ s b h i j, (V (Proc.devRef .tc main_v59_6) : Vec Ideal S16x8x4x128x128 .f32) (ix5 s b h i j) = ∑ d, (R s b h).q i d * (R s b h).k j d
  te : ∀ s b h j, (V (Proc.devRef .tc main_v59_7) : Vec Ideal S16x8x4x128 .f32) (ix4 s b h j)
    = (R s b h).b 127 - (R s b h).b j + (R s b h).i j
  ctr : (V (Proc.devRef .tc main_v59_8) : IVec S_ 32) = fun _ => BitVec.ofNat 32 z
  C : ∀ b h d e, (V (Proc.devRef .tc main_v59_9) : Vec Ideal S8x4x128x128 .f32) (ix4 b h d e) = (stateAt R b h z).C d e
  n : ∀ b h d, (V (Proc.devRef .tc main_v59_10) : Vec Ideal S8x4x128 .f32) (ix3 b h d) = (stateAt R b h z).n d
  m : ∀ b h, (V (Proc.devRef .tc main_v59_11) : Vec Ideal S8x4 .f32) (ix2 b h) = (stateAt R b h z).m
  hid : ∀ s : Fin 16, s.val < z → ∀ b h i e, (V (Proc.devRef .tc main_v59_12) : Vec Ideal S16x8x4x128x128 .f32) (ix5 s b h i e)
    = (R s b h).hid (stateAt R b h s.val) i e

/-- A trip's slab of a five-axis array is inside it. -/
theorem slab5_inb (k : Fin 16) : S16x8x4x128x128.Slices ![k.val, 0, 0, 0, 0] S1x8x4x128x128 := by revert k; decide
/-- A trip's slab of a four-axis array is inside it. -/
theorem slab4_inb (k : Fin 16) : S16x8x4x128.Slices ![k.val, 0, 0, 0] S1x8x4x128 := by revert k; decide

/-- The slab of an array at the loop's counter. -/
theorem slab5 (x : Vec Ideal S16x8x4x128x128 .f32) (k : Fin 16) :
    Host.dynamicSlice S1x8x4x128x128 x (fun j => (((![fun _ => BitVec.ofNat 32 k.val, constantI S_ 32 0#32, constantI S_ 32 0#32,
      constantI S_ 32 0#32, constantI S_ 32 0#32] : Fin 5 → (⟨S_, .i32⟩ : BufTy).Contents (Elt Ideal))) j (Shape.Idx.first h_S_)).toInt)
      sliceFits_S16x8x4x128x128_S1x8x4x128x128 = extractStridedSlice S1x8x4x128x128 ![k.val, 0, 0, 0, 0] x (slab5_inb k) := by
  refine Host.dynamicSlice_eq_extractStridedSlice _ _ _ _ _ _ fun a => ?_
  match a with
  | ⟨0, _⟩ => exact toInt_ofNat_of_lt (by omega)
  | ⟨1, _⟩ => rfl
  | ⟨2, _⟩ => rfl
  | ⟨3, _⟩ => rfl
  | ⟨4, _⟩ => rfl

/-- The slab of a shorter array at the loop's counter. -/
theorem slab4 (x : Vec Ideal S16x8x4x128 .f32) (k : Fin 16) :
    Host.dynamicSlice S1x8x4x128 x (fun j => (((![fun _ => BitVec.ofNat 32 k.val, constantI S_ 32 0#32, constantI S_ 32 0#32,
      constantI S_ 32 0#32] : Fin 4 → (⟨S_, .i32⟩ : BufTy).Contents (Elt Ideal))) j (Shape.Idx.first h_S_)).toInt)
      sliceFits_S16x8x4x128_S1x8x4x128 = extractStridedSlice S1x8x4x128 ![k.val, 0, 0, 0] x (slab4_inb k) := by
  refine Host.dynamicSlice_eq_extractStridedSlice _ _ _ _ _ _ fun a => ?_
  match a with
  | ⟨0, _⟩ => exact toInt_ofNat_of_lt (by omega)
  | ⟨1, _⟩ => rfl
  | ⟨2, _⟩ => rfl
  | ⟨3, _⟩ => rfl

section Read

variable {V : Valuation τ sig (Elt Ideal)} {R : Fin 16 → Fin 8 → Fin 4 → Run} {k : Fin 16} (H : Holds V R k.val)
include H

/-- The trip's queries. -/
theorem q_read (b : Fin 8) (h : Fin 4) (i d : Fin 128) :
    (res_main_while0b_v89 V : Vec Ideal S8x4x128x128 .f32) (ix4 b h i d) = (R k b h).q i d := by
  unfold res_main_while0b_v89
  rw [H.ctr]; erw [slab5]
  pointwise
  simp only [H.q]

/-- The trip's keys. -/
theorem k_read (b : Fin 8) (h : Fin 4) (i d : Fin 128) :
    (res_main_while0b_v90 V : Vec Ideal S8x4x128x128 .f32) (ix4 b h i d) = (R k b h).k i d := by
  unfold res_main_while0b_v90
  rw [H.ctr]; erw [slab5]
  pointwise
  simp only [H.k]

/-- The trip's values. -/
theorem v_read (b : Fin 8) (h : Fin 4) (i d : Fin 128) :
    (res_main_while0b_v91 V : Vec Ideal S8x4x128x128 .f32) (ix4 b h i d) = (R k b h).v i d := by
  unfold res_main_while0b_v91
  rw [H.ctr]; erw [slab5]
  pointwise
  simp only [H.v]

/-- The trip's running sums. -/
theorem b_read (b : Fin 8) (h : Fin 4) (i : Fin 128) :
    (res_main_while0b_v92 V : Vec Ideal S8x4x128 .f32) (ix3 b h i) = (R k b h).b i := by
  unfold res_main_while0b_v92
  rw [H.ctr]; erw [slab4]
  pointwise
  simp only [H.b]

/-- The trip's stabilisers. -/
theorem mt_read (b : Fin 8) (h : Fin 4) (i : Fin 128) :
    (res_main_while0b_v100 V : Vec Ideal S8x4x128 .f32) (ix3 b h i) = (R k b h).mt (stateAt R b h k.val) i := by
  unfold res_main_while0b_v100 Run.mt
  rw [H.ctr]; erw [slab4]
  pointwise
  simp only [b_read H, H.m, H.dmax]

/-- The old states' weights. -/
theorem wprev_read (b : Fin 8) (h : Fin 4) (i : Fin 128) :
    (res_main_while0b_v105 V : Vec Ideal S8x4x128 .f32) (ix3 b h i) = (R k b h).wprev (stateAt R b h k.val) i := by
  unfold res_main_while0b_v105 Run.wprev
  pointwise
  simp only [b_read H, H.m, mt_read H]

/-- The weighted scores. -/
theorem smat_read (b : Fin 8) (h : Fin 4) (i j : Fin 128) :
    (res_main_while0b_v110 V : Vec Ideal S8x4x128x128 .f32) (ix4 b h i j) = (R k b h).smat (stateAt R b h k.val) i j := by
  unfold res_main_while0b_v110 Run.smat
  rw [H.ctr]; erw [slab5, slab5]
  pointwise
  simp only [H.qk, H.dmat, mt_read H]

/-- The new stabilisers. -/
theorem mnew_read (b : Fin 8) (h : Fin 4) :
    (res_main_while0b_v129 V : Vec Ideal S8x4 .f32) (ix2 b h) = (R k b h).mt (stateAt R b h k.val) 127 := by
  unfold res_main_while0b_v129
  pointwise
  exact mt_read H b h 127

/-- The old states' weights in the new. -/
theorem wc_read (b : Fin 8) (h : Fin 4) :
    (res_main_while0b_v134 V : Vec Ideal S8x4 .f32) (ix2 b h) = (R k b h).wc (stateAt R b h k.val) := by
  unfold res_main_while0b_v134 Run.wc
  pointwise
  simp only [H.m, mnew_read H]
  exact congrArg (fun z => Ideal.exp (z + _ - _)) (b_read H b h 127)

/-- The keys' weights. -/
theorem w_read (b : Fin 8) (h : Fin 4) (j : Fin 128) :
    (res_main_while0b_v138 V : Vec Ideal S8x4x128 .f32) (ix3 b h j)
      = Ideal.exp ((R k b h).b 127 - (R k b h).b j + (R k b h).i j - (R k b h).mt (stateAt R b h k.val) 127) := by
  unfold res_main_while0b_v138
  rw [H.ctr]; erw [slab4]
  pointwise
  simp only [H.te, mnew_read H]

/-- The new matrices. -/
theorem C_step (b : Fin 8) (h : Fin 4) (d e : Fin 128) :
    (step_main_v59_9 V : Vec Ideal S8x4x128x128 .f32) (ix4 b h d e) = ((R k b h).step (stateAt R b h k.val)).C d e := by
  unfold step_main_v59_9 Run.step Run.kw
  rw [id]
  pointwise
  simp only [H.C, wc_read H, k_read H, v_read H, w_read H]

/-- The new normalisers. -/
theorem n_step (b : Fin 8) (h : Fin 4) (d : Fin 128) :
    (step_main_v59_10 V : Vec Ideal S8x4x128 .f32) (ix3 b h d) = ((R k b h).step (stateAt R b h k.val)).n d := by
  unfold step_main_v59_10 Run.step Run.kw
  rw [id]
  pointwise
  simp only [H.n, wc_read H, k_read H, w_read H]

/-- The new stabilisers. -/
theorem m_step (b : Fin 8) (h : Fin 4) :
    (step_main_v59_11 V : Vec Ideal S8x4 .f32) (ix2 b h) = ((R k b h).step (stateAt R b h k.val)).m := mnew_read H b h

/-- The readings after the trip. -/
theorem hid_step (s : Fin 16) (hs : s.val < k.val + 1) (b : Fin 8) (h : Fin 4) (i e : Fin 128) :
    (step_main_v59_12 V : Vec Ideal S16x8x4x128x128 .f32) (ix5 s b h i e) = (R s b h).hid (stateAt R b h s.val) i e := by
  unfold step_main_v59_12
  rw [H.ctr, id, Host.dynamicUpdateSlice_eq_updateSlice _ _ _ _ ![k.val, 0, 0, 0, 0] ?_ (slab5_inb k)]
  · rw [updateSlice_apply]
    by_cases hk : s = k
    · subst hk
      rw [dif_pos (fun a => by fin_cases a <;> simp)]
      unfold Run.hid Run.num Run.den
      pointwise
      simp only [wprev_read H, q_read H, v_read H, smat_read H, mt_read H, H.C, H.n]
      rfl
    · rw [dif_neg]
      · exact H.hid s (by omega) b h i e
      · intro hin
        have h0 := hin 0
        simp at h0
        omega
  · intro a
    match a with
    | ⟨0, _⟩ =>
      show (min (max (BitVec.ofNat 32 k.val).toInt 0) (15 : Int)).toNat = k.val
      rw [toInt_ofNat_of_lt (by omega)]
      omega
    | ⟨1, _⟩ => rfl
    | ⟨2, _⟩ => rfl
    | ⟨3, _⟩ => rfl
    | ⟨4, _⟩ => rfl

omit H in
/-- The run's number, read back from its value. -/
theorem ofNat_val (k : Fin 16) : Fin.ofNat 16 k.val = k := Fin.ext (Nat.mod_eq_of_lt k.isLt)

/-- One trip takes the states before a run to the states before the next. -/
theorem step_holds : Holds (STEP V) R (k.val + 1) where
  q s b h i d := by rw [STEP_main_v59_0]; exact H.q s b h i d
  k s b h i d := by rw [STEP_main_v59_1]; exact H.k s b h i d
  v s b h i d := by rw [STEP_main_v59_2]; exact H.v s b h i d
  b s b h i := by rw [STEP_main_v59_3]; exact H.b s b h i
  dmat s b h i j := by rw [STEP_main_v59_4]; exact H.dmat s b h i j
  dmax s b h i := by rw [STEP_main_v59_5]; exact H.dmax s b h i
  qk s b h i j := by rw [STEP_main_v59_6]; exact H.qk s b h i j
  te s b h j := by rw [STEP_main_v59_7]; exact H.te s b h j
  ctr := by
    rw [STEP_main_v59_8]
    unfold step_main_v59_8
    rw [H.ctr]
    funext _
    exact (BitVec.ofNat_add k.val 1).symm
  C b h d e := by
    rw [STEP_main_v59_9]
    refine (C_step H b h d e).trans ?_
    rw [stateAt, ofNat_val]
  n b h d := by
    rw [STEP_main_v59_10]
    refine (n_step H b h d).trans ?_
    rw [stateAt, ofNat_val]
  m b h := by
    rw [STEP_main_v59_11]
    refine (m_step H b h).trans ?_
    rw [stateAt, ofNat_val]
  hid s hs b h i e := by
    rw [STEP_main_v59_12]
    exact hid_step H s hs b h i e

end Read

/-- After `n` trips the carried buffers hold the states before run `n`. -/
theorem trips_hold {V : Valuation τ sig (Elt Ideal)} {R : Fin 16 → Fin 8 → Fin 4 → Run} (H : Holds V R 0) :
    ∀ n, n ≤ 16 → Holds (STEP^[n] V) R n
  | 0, _ => H
  | n + 1, hn => by
    rw [Function.iterate_succ_apply']
    exact step_holds (k := ⟨n, hn⟩) (trips_hold H n (Nat.le_of_succ_le hn))

end Cert.MlstmRefIdeal.Value
-- ==== Proof.MlstmCumsum.lean ====
/-
  The reference's running sum along the last axis, entry by entry: the sum of the entries up to and including that one.
-/
module

public import proofs.«01_k».proof.Proof.MlstmMath
public import proofs.«01_k».proof.Proof.Gen.MlstmRefIdeal.Run

@[expose] public section

set_option maxRecDepth 65536

noncomputable section

namespace Cert.MlstmRefIdeal.Value

open Cert.MlstmRefIdeal Cert.MlstmRefIdeal.Gen Idealize.ShloMosaic Idealize.ShloMosaic.TcCoe

/-- A left fold of sums is the start plus the sum of the list. -/
theorem foldl_sum {β : Type} (f : β → EReal) (l : List β) (a : EReal) :
    l.foldl (fun r n => r + f n) a = a + (l.map f).sum := by
  induction l generalizing a with
  | nil => simp
  | cons y l ih => rw [List.foldl_cons, ih, List.map_cons, List.sum_cons, add_assoc]

/-- The window's shape: one row of 128. -/
abbrev W : Shape := ⟨4, ![1, 1, 1, 128]⟩

/-- The positions of a row, counted along it. -/
def along : W.Idx ≃ Fin 128 where
  toFun w := w 3
  invFun k := ix4 0 0 0 k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- The running sum, entry by entry. -/
theorem cumsum_apply (x : FVec Ideal S8x4x16x128 .f32) (init : FVec Ideal S_ .f32) (h0 : init = fun _ => 0)
    (h : S8x4x16x128.ReduceWindows ![1, 1, 1, 128] ![1, 1, 1, 1] ![0, 0, 0, 127] ![0, 0, 0, 0] S8x4x16x128)
    (b : Fin 8) (c : Fin 4) (s : Fin 16) (i : Fin 128) :
    Host.reduceWindowAdd ![1, 1, 1, 128] ![1, 1, 1, 1] ![0, 0, 0, 127] ![0, 0, 0, 0] x init h h_S_ (ix4 b c s i)
      = ∑ j, if j ≤ i then x (ix4 b c s j) else 0 := by
  subst h0
  show Host.reduceWindow (· + ·) ![1, 1, 1, 128] ![1, 1, 1, 1] ![0, 0, 0, 127] ![0, 0, 0, 0] x
    (fun _ : (⟨0, ![]⟩ : Shape).Idx => 0) h (by decide) (ix4 b c s i) = _
  unfold Host.reduceWindow
  dsimp only
  rw [foldl_sum, zero_add, ← Fin.sum_univ_def]
  refine Fintype.sum_equiv (W.rowMajor.symm.trans (along.trans (Equiv.addRight (i + 1)))) _ _ fun n => ?_
  show _ = if along (W.rowMajor.symm n) + (i + 1) ≤ i then x (ix4 b c s (along (W.rowMajor.symm n) + (i + 1))) else 0
  have hk : (along (W.rowMajor.symm n)).val = (W.rowMajor.symm n 3).val := rfl
  have h0 : (W.rowMajor.symm n 0).val = 0 := Nat.lt_one_iff.mp (W.rowMajor.symm n 0).isLt
  have h1 : (W.rowMajor.symm n 1).val = 0 := Nat.lt_one_iff.mp (W.rowMajor.symm n 1).isLt
  have h2 : (W.rowMajor.symm n 2).val = 0 := Nat.lt_one_iff.mp (W.rowMajor.symm n 2).isLt
  have hlt : (along (W.rowMajor.symm n)).val < 128 := (along (W.rowMajor.symm n)).isLt
  have hv : (along (W.rowMajor.symm n) + (i + 1)).val = ((along (W.rowMajor.symm n)).val + i.val + 1) % 128 := by
    rw [Fin.val_add, Fin.val_add]
    simp only [Fin.val_one]
    omega
  by_cases hc : 127 ≤ i.val + (along (W.rowMajor.symm n)).val
  · rw [if_pos (Fin.le_def.mpr (by rw [hv]; omega)), dif_pos]
    · refine congrArg x (funext fun a => Fin.ext ?_)
      match a with
      | ⟨0, _⟩ => show b.val * 1 + (W.rowMajor.symm n 0).val - 0 = b.val; omega
      | ⟨1, _⟩ => show c.val * 1 + (W.rowMajor.symm n 1).val - 0 = c.val; omega
      | ⟨2, _⟩ => show s.val * 1 + (W.rowMajor.symm n 2).val - 0 = s.val; omega
      | ⟨3, _⟩ =>
        show i.val * 1 + (W.rowMajor.symm n 3).val - 127 = (along (W.rowMajor.symm n) + (i + 1)).val
        rw [hv]
        omega
    · intro a
      match a with
      | ⟨0, _⟩ =>
        show 0 ≤ b.val * 1 + (W.rowMajor.symm n 0).val ∧ b.val * 1 + (W.rowMajor.symm n 0).val - 0 < 8
        omega
      | ⟨1, _⟩ =>
        show 0 ≤ c.val * 1 + (W.rowMajor.symm n 1).val ∧ c.val * 1 + (W.rowMajor.symm n 1).val - 0 < 4
        omega
      | ⟨2, _⟩ =>
        show 0 ≤ s.val * 1 + (W.rowMajor.symm n 2).val ∧ s.val * 1 + (W.rowMajor.symm n 2).val - 0 < 16
        omega
      | ⟨3, _⟩ =>
        show 127 ≤ i.val * 1 + (W.rowMajor.symm n 3).val ∧ i.val * 1 + (W.rowMajor.symm n 3).val - 127 < 128
        omega
  · rw [if_neg (fun hle => by have := Fin.le_def.mp hle; rw [hv] at this; omega), dif_neg]
    intro hin
    have h3 : 127 ≤ i.val * 1 + (W.rowMajor.symm n 3).val := (hin 3).1
    omega

end Cert.MlstmRefIdeal.Value
-- ==== Proof.MlstmEntry.lean ====
/-
  What the reference's carried buffers hold when its loop begins: the runs' numbers as functions of the arguments.
-/
module

public import proofs.«01_k».proof.Proof.MlstmStep
public import proofs.«01_k».proof.Proof.MlstmCumsum
public import Idealize.ShloMosaic.Lib.WordCmp

@[expose] public section

set_option maxRecDepth 100000

noncomputable section

namespace Cert.MlstmRefIdeal.Value

open Cert.MlstmRefIdeal Cert.MlstmRefIdeal.Gen Idealize.ShloMosaic Idealize.ShloMosaic.TcCoe Idealize.SL.Sem Cert.Chunk Cert.Rows
open Idealize.ShloMosaic.StableHlo

/-- The packed projections, by sequence and step. -/
def seqs (P : FVec Ideal S16384x11520 .f32) : FVec Ideal S8x2048x11520 .f32 := shapeCast S8x2048x11520 P shapeCasts_S16384x11520_S8x2048x11520

/-- The heads of a 512-column array, in runs of 128 steps. -/
def heads (x : FVec Ideal S8x2048x512 .f32) : FVec Ideal S8x4x16x128x128 .f32 :=
  shapeCast S8x4x16x128x128 (transpose S8x4x2048x128 [0, 2, 1, 3] (shapeCast S8x2048x4x128 x shapeCasts_S8x2048x512_S8x2048x4x128)
    transposes_S8x2048x4x128_S8x4x2048x128_0_2_1_3) shapeCasts_S8x4x2048x128_S8x4x16x128x128

/-- A gate of four columns, in runs of 128 steps. -/
def gate (x : FVec Ideal S8x2048x4 .f32) : FVec Ideal S8x4x16x128 .f32 :=
  shapeCast S8x4x16x128 (transpose S8x4x2048 [0, 2, 1] x transposes_S8x2048x4_S8x4x2048_0_2_1) shapeCasts_S8x4x2048_S8x4x16x128

/-- A gate's bias, at every sequence and step. -/
def bias (g : FVec Ideal S4 .f32) : FVec Ideal S8x2048x4 .f32 :=
  broadcastInDim S8x2048x4 ![0, 1, 2] bcast_S1x1x4_S8x2048x4_0_1_2 (broadcastInDim S1x1x4 ![2] bcast_S4_S1x1x4_2 g)

/-- The queries. -/
def qAll (P : FVec Ideal S16384x11520 .f32) : FVec Ideal S8x4x16x128x128 .f32 :=
  heads (extractStridedSlice S8x2048x512 ![0, 0, 5120] (seqs P) slices_S8x2048x11520_S8x2048x512_0_0_5120)

/-- The scaled keys. -/
def kAll (P : FVec Ideal S16384x11520 .f32) : FVec Ideal S8x4x16x128x128 .f32 :=
  mulf (heads (extractStridedSlice S8x2048x512 ![0, 0, 5632] (seqs P) slices_S8x2048x11520_S8x2048x512_0_0_5632))
    (broadcastInDim S8x4x16x128x128 ![] bcast_S_S8x4x16x128x128 (constant S_ .f32 0x3DB504F3#32))

/-- The values. -/
def vAll (P : FVec Ideal S16384x11520 .f32) : FVec Ideal S8x4x16x128x128 .f32 :=
  heads (extractStridedSlice S8x2048x512 ![0, 0, 6144] (seqs P) slices_S8x2048x11520_S8x2048x512_0_0_6144)

/-- The input gates. -/
def iAll (P : FVec Ideal S16384x11520 .f32) (ib : FVec Ideal S4 .f32) : FVec Ideal S8x4x16x128 .f32 :=
  gate (addf (extractStridedSlice S8x2048x4 ![0, 0, 11280] (seqs P) slices_S8x2048x11520_S8x2048x4_0_0_11280) (bias ib))

/-- The zero array the log sigmoid compares with. -/
def zeros : FVec Ideal S8x2048x4 .f32 := broadcastInDim S8x2048x4 ![] bcast_S_S8x2048x4 (constant S_ .f32 0x00000000#32)

/-- The log sigmoid. -/
def logSig (x : FVec Ideal S8x2048x4 .f32) : FVec Ideal S8x2048x4 .f32 :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- The running sums of the log forget gates. -/
def bAll (P : FVec Ideal S16384x11520 .f32) (fb : FVec Ideal S4 .f32) : FVec Ideal S8x4x16x128 .f32 :=
  Host.reduceWindowAdd ![1, 1, 1, 128] ![1, 1, 1, 1] ![0, 0, 0, 127] ![0, 0, 0, 0]
    (gate (logSig (addf (extractStridedSlice S8x2048x4 ![0, 0, 11284] (seqs P) slices_S8x2048x11520_S8x2048x4_0_0_11284) (bias fb))))
    (broadcastInDim S_ ![] bcast_S_S_ (constant S_ .f32 0x00000000#32)) reduceWindows_S8x4x16x128_S8x4x16x128_w1s1p0_0_w1s1p0_0_w1s1p0_0_w128s1p127_0 h_S_

/-- The mask of the steps up to each step. -/
def tri : IVec S128x128 1 :=
  select (cmpi .sge (addi (iotaInDim S128x128 32 0) (broadcastInDim S128x128 ![] bcast_S_S128x128 (constantI S_ 32 0#32)))
    (iotaInDim S128x128 32 1)) (broadcastInDim S128x128 ![] bcast_S_S128x128 (constantI S_ 1 1#1))
    (broadcastInDim S128x128 ![] bcast_S_S128x128 (constantI S_ 1 0#1))

/-- The log weights, of the running sums and the input gates. -/
def dAll (b i : FVec Ideal S8x4x16x128 .f32) : FVec Ideal S8x4x16x128x128 .f32 :=
  select (broadcastInDim S8x4x16x128x128 ![3, 4] bcast_S128x128_S8x4x16x128x128_3_4 tri)
    (addf
      (subf
        (broadcastInDim S8x4x16x128x128 ![0, 1, 2, 3, 4] bcast_S8x4x16x128x1_S8x4x16x128x128_0_1_2_3_4
          (broadcastInDim S8x4x16x128x1 ![0, 1, 2, 3] bcast_S8x4x16x128_S8x4x16x128x1_0_1_2_3 b))
        (broadcastInDim S8x4x16x128x128 ![0, 1, 2, 3, 4] bcast_S8x4x16x1x128_S8x4x16x128x128_0_1_2_3_4
          (broadcastInDim S8x4x16x1x128 ![0, 1, 2, 4] bcast_S8x4x16x128_S8x4x16x1x128_0_1_2_4 b)))
      (broadcastInDim S8x4x16x128x128 ![0, 1, 2, 3, 4] bcast_S8x4x16x1x128_S8x4x16x128x128_0_1_2_3_4
        (broadcastInDim S8x4x16x1x128 ![0, 1, 2, 4] bcast_S8x4x16x128_S8x4x16x1x128_0_1_2_4 i)))
    (broadcastInDim S8x4x16x128x128 ![] bcast_S_S8x4x16x128x128 (constant S_ .f32 0xFF800000#32))

/-- The largest log weight of every row, run by run. -/
def maxAll (D : FVec Ideal S8x4x16x128x128 .f32) : FVec Ideal S16x8x4x128 .f32 :=
  transpose _ [2, 0, 1, 3] (Host.reduce FloatOps.maximumf D (constant S_ .f32 0xFF800000#32) reducesTo_S8x4x16x128x128_S8x4x16x128_d4 h_S_)
    transposes_S8x4x16x128_S16x8x4x128_2_0_1_3

/-- The log weights of the steps at the end of a run. -/
def teAll (b i : FVec Ideal S8x4x16x128 .f32) : FVec Ideal S8x4x16x128 .f32 :=
  addf (subf (broadcastInDim S8x4x16x128 ![0, 1, 2, 3] bcast_S8x4x16x1_S8x4x16x128_0_1_2_3
    (extractStridedSlice S8x4x16x1 ![0, 0, 0, 127] b slices_S8x4x16x128_S8x4x16x1_0_0_0_127)) b) i

variable (m : (ℓ : Loc nD τ sig) → Buf (Elt Ideal) ℓ) (c : Dev nD)

/-- The queries at the loop's entry. -/
theorem q0 : entryContents preI m c (Proc.devRef .tc main_v59_0)
    = transpose S16x8x4x128x128 [2, 0, 1, 3, 4] (qAll (m ((c.tc : Thread nD τ).loc main_arg0)))
        transposes_S8x4x16x128x128_S16x8x4x128x128_2_0_1_3_4 := by
  simp only [entryContents, afterL_cons, afterL_nil]
  after_reads_simp
  rfl

/-- The scaled keys at the loop's entry. -/
theorem k0 : entryContents preI m c (Proc.devRef .tc main_v59_1)
    = transpose S16x8x4x128x128 [2, 0, 1, 3, 4] (kAll (m ((c.tc : Thread nD τ).loc main_arg0)))
        transposes_S8x4x16x128x128_S16x8x4x128x128_2_0_1_3_4 := by
  simp only [entryContents, afterL_cons, afterL_nil]
  after_reads_simp
  rfl

/-- The values at the loop's entry. -/
theorem v0 : entryContents preI m c (Proc.devRef .tc main_v59_2)
    = transpose S16x8x4x128x128 [2, 0, 1, 3, 4] (vAll (m ((c.tc : Thread nD τ).loc main_arg0)))
        transposes_S8x4x16x128x128_S16x8x4x128x128_2_0_1_3_4 := by
  simp only [entryContents, afterL_cons, afterL_nil]
  after_reads_simp
  rfl

/-- The running sums of the log forget gates at the loop's entry. -/
theorem b0 : entryContents preI m c (Proc.devRef .tc main_v59_3)
    = transpose S16x8x4x128 [2, 0, 1, 3] (bAll (m ((c.tc : Thread nD τ).loc main_arg0)) (m ((c.tc : Thread nD τ).loc main_arg2)))
        transposes_S8x4x16x128_S16x8x4x128_2_0_1_3 := by
  simp only [entryContents, afterL_cons, afterL_nil]
  after_reads_simp
  rfl

/-- The log weights at the loop's entry. -/
theorem d0 : entryContents preI m c (Proc.devRef .tc main_v59_4)
    = transpose S16x8x4x128x128 [2, 0, 1, 3, 4] (dAll (bAll (m ((c.tc : Thread nD τ).loc main_arg0)) (m ((c.tc : Thread nD τ).loc main_arg2)))
        (iAll (m ((c.tc : Thread nD τ).loc main_arg0)) (m ((c.tc : Thread nD τ).loc main_arg1))))
        transposes_S8x4x16x128x128_S16x8x4x128x128_2_0_1_3_4 := by
  simp only [entryContents, afterL_cons, afterL_nil]
  after_reads_simp
  rfl

/-- The log weights before they are moved. -/
theorem d1 : entryContents preI m c (Proc.devRef .tc main_v43)
    = dAll (bAll (m ((c.tc : Thread nD τ).loc main_arg0)) (m ((c.tc : Thread nD τ).loc main_arg2)))
        (iAll (m ((c.tc : Thread nD τ).loc main_arg0)) (m ((c.tc : Thread nD τ).loc main_arg1))) := by
  simp only [entryContents, afterL_cons, afterL_nil]
  after_reads_simp
  rfl

/-- The row maxima of the log weights. -/
theorem x0 : entryContents preI m c (Proc.devRef .tc main_v59_5) = maxAll (entryContents preI m c (Proc.devRef .tc main_v43)) := by
  unfold maxAll
  simp only [entryContents, afterL_cons, afterL_nil]
  after_reads_simp
  congr 1

/-- The scores at the loop's entry. -/
theorem s0 : entryContents preI m c (Proc.devRef .tc main_v59_6)
    = transpose S16x8x4x128x128 [2, 0, 1, 3, 4] (Host.dotGeneral dot_S8x4x16x128x128_S8x4x16x128x128_S8x4x16x128x128_4_4_3_3_012_012 none
        (qAll (m ((c.tc : Thread nD τ).loc main_arg0))) (kAll (m ((c.tc : Thread nD τ).loc main_arg0))))
        transposes_S8x4x16x128x128_S16x8x4x128x128_2_0_1_3_4 := by
  simp only [entryContents, afterL_cons, afterL_nil]
  after_reads_simp
  rfl

/-- The weights to the end of a run at the loop's entry. -/
theorem t0 : entryContents preI m c (Proc.devRef .tc main_v59_7)
    = transpose S16x8x4x128 [2, 0, 1, 3] (teAll (bAll (m ((c.tc : Thread nD τ).loc main_arg0)) (m ((c.tc : Thread nD τ).loc main_arg2)))
        (iAll (m ((c.tc : Thread nD τ).loc main_arg0)) (m ((c.tc : Thread nD τ).loc main_arg1))))
        transposes_S8x4x16x128_S16x8x4x128_2_0_1_3 := by
  simp only [entryContents, afterL_cons, afterL_nil]
  after_reads_simp
  rfl

/-- The carried matrices at the loop's entry. -/
theorem C0 : entryContents preI m c (Proc.devRef .tc main_v59_9)
    = (broadcastInDim S8x4x128x128 ![] bcast_S_S8x4x128x128 (constant S_ .f32 0x00000000#32) : FVec Ideal S8x4x128x128 .f32) := by
  simp only [entryContents, afterL_cons, afterL_nil]
  after_reads_simp
  rfl

/-- The carried normalisers at the loop's entry. -/
theorem n0 : entryContents preI m c (Proc.devRef .tc main_v59_10)
    = (broadcastInDim S8x4x128 ![] bcast_S_S8x4x128 (constant S_ .f32 0x00000000#32) : FVec Ideal S8x4x128 .f32) := by
  simp only [entryContents, afterL_cons, afterL_nil]
  after_reads_simp
  rfl

/-- The carried stabilisers at the loop's entry. -/
theorem m0 : entryContents preI m c (Proc.devRef .tc main_v59_11)
    = (broadcastInDim S8x4 ![] bcast_S_S8x4 (constant S_ .f32 0x00000000#32) : FVec Ideal S8x4 .f32) := by
  simp only [entryContents, afterL_cons, afterL_nil]
  after_reads_simp
  rfl

section Read

variable (P : FVec Ideal S16384x11520 .f32) (ib fb : FVec Ideal S4 .f32)

/-- The runs of the argument arrays. -/
abbrev runs : Fin 16 → Fin 8 → Fin 4 → Run := runOf (fun r e => P (ix2 r e)) (fun h => ib (ix1 h)) (fun h => fb (ix1 h))

/-- The queries, entry by entry. -/
theorem qAll_apply (b : Fin 8) (h : Fin 4) (s : Fin 16) (i d : Fin 128) :
    qAll P (ix5 b h s i d) = (runs P ib fb s b h).q i d := by
  unfold qAll heads seqs runs runOf row col
  pointwise

/-- The scaled keys, entry by entry. -/
theorem kAll_apply (b : Fin 8) (h : Fin 4) (s : Fin 16) (i d : Fin 128) :
    kAll P (ix5 b h s i d) = (runs P ib fb s b h).k i d := by
  unfold kAll heads seqs runs runOf row col
  pointwise

/-- The values, entry by entry. -/
theorem vAll_apply (b : Fin 8) (h : Fin 4) (s : Fin 16) (i d : Fin 128) :
    vAll P (ix5 b h s i d) = (runs P ib fb s b h).v i d := by
  unfold vAll heads seqs runs runOf row col
  pointwise

/-- The input gates, entry by entry. -/
theorem iAll_apply (b : Fin 8) (h : Fin 4) (s : Fin 16) (i : Fin 128) :
    iAll P ib (ix4 b h s i) = (runs P ib fb s b h).i i := by
  unfold iAll gate seqs bias runs runOf row
  pointwise

/-- The log sigmoid, entry by entry. -/
theorem logSig_apply (x : FVec Ideal S8x2048x4 .f32) (j : S8x2048x4.Idx) : logSig x j = Cert.Chunk.logSig (x j) := by
  unfold logSig zeros Cert.Chunk.logSig
  pointwise
  rw [if_neg (fun h => h rfl)]
  rfl

/-- The log weights, entry by entry. -/
theorem dAll_apply (B I : FVec Ideal S8x4x16x128 .f32) (b : Fin 8) (h : Fin 4) (s : Fin 16) (i j : Fin 128) :
    dAll B I (ix5 b h s i j) = if j ≤ i then B (ix4 b h s i) - B (ix4 b h s j) + I (ix4 b h s j) else Ideal.ofBits FTy.f32 4286578688#32 := by
  unfold dAll tri
  pointwise
  have e : IntOp.addi (BitVec.ofNat 32 i.val) 0#32 = BitVec.ofNat 32 i.val := BitVec.add_zero _
  rw [e, WordCmp.cmpi_sge_ofNat (by omega) (by omega)]
  by_cases h : j ≤ i
  · simp [h, Scalar.select]
  · simp [h, Scalar.select, Fin.le_def.not.mp h]

/-- A row's largest log weight. -/
theorem maxAll_apply (D : FVec Ideal S8x4x16x128x128 .f32) (b : Fin 8) (h : Fin 4) (s : Fin 16) (i : Fin 128) :
    maxAll D (ix4 s b h i) = rowMax fun k => D (ix5 b h s i k) := by
  unfold maxAll rowMax
  pointwise

/-- The running sums, entry by entry. -/
theorem bAll_apply (b : Fin 8) (h : Fin 4) (s : Fin 16) (i : Fin 128) :
    bAll P fb (ix4 b h s i) = (runs P ib fb s b h).b i := by
  unfold bAll
  rw [cumsum_apply _ _ (by funext j; pointwise)]
  show _ = ∑ j, if j ≤ i then forget _ _ s b h j else 0
  refine Finset.sum_congr rfl fun j _ => ?_
  unfold gate seqs bias forget row
  split
  · pointwise
    rw [logSig_apply]
    pointwise
  · rfl

end Read

/-- The buffers the loop carries hold, when it begins, the runs' numbers and the zero states. -/
theorem entry_holds : Holds (entryContents preI m c) (runs (m ((c.tc : Thread nD τ).loc main_arg0)) (m ((c.tc : Thread nD τ).loc main_arg1)) (m ((c.tc : Thread nD τ).loc main_arg2))) 0 where
  q s b h i d := by
    rw [q0]
    pointwise
    exact qAll_apply _ _ _ b h s i d
  k s b h i d := by
    rw [k0]
    pointwise
    exact kAll_apply _ _ _ b h s i d
  v s b h i d := by
    rw [v0]
    pointwise
    exact vAll_apply _ _ _ b h s i d
  b s b h i := by
    rw [b0]
    pointwise
    exact bAll_apply _ _ _ b h s i
  dmat s b h i j := by
    rw [d0]
    pointwise
    rw [dAll_apply]
    simp only [bAll_apply _ (m ((c.tc : Thread nD τ).loc main_arg1)), iAll_apply _ _ (m ((c.tc : Thread nD τ).loc main_arg2))]
    rfl
  dmax s b h i := by
    rw [x0, d1, maxAll_apply]
    simp only [dAll_apply, bAll_apply _ (m ((c.tc : Thread nD τ).loc main_arg1)), iAll_apply _ _ (m ((c.tc : Thread nD τ).loc main_arg2))]
    rfl
  qk s b h i j := by
    rw [s0]
    pointwise
    simp only [qAll_apply _ (m ((c.tc : Thread nD τ).loc main_arg1)) (m ((c.tc : Thread nD τ).loc main_arg2)), kAll_apply _ (m ((c.tc : Thread nD τ).loc main_arg1)) (m ((c.tc : Thread nD τ).loc main_arg2))]
  te s b h j := by
    rw [t0]
    unfold teAll
    pointwise
    simp only [bAll_apply _ (m ((c.tc : Thread nD τ).loc main_arg1)), iAll_apply _ _ (m ((c.tc : Thread nD τ).loc main_arg2))]
  ctr := ctr_entry m c
  C b h d e := by rw [C0]; pointwise; rfl
  n b h d := by rw [n0]; pointwise; rfl
  m b h := by rw [m0]; pointwise; rfl
  hid s hs := absurd hs (Nat.not_lt_zero _)

end Cert.MlstmRefIdeal.Value
-- ==== Proof.MlstmPost.lean ====
/-
  The reference's results of its arguments: the carried states and the gated readings after sixteen runs.
-/
module

public import proofs.«01_k».proof.Proof.MlstmEntry

@[expose] public section

set_option maxRecDepth 100000

noncomputable section

namespace Cert.MlstmRefIdeal.Value

open Cert.MlstmRefIdeal Cert.MlstmRefIdeal.Gen Idealize.ShloMosaic Idealize.ShloMosaic.TcCoe Idealize.ShloMosaic.StableHlo Idealize.SL.Sem Cert.Chunk Cert.Rows

/-- What the loop's operations write. -/
abbrev loopW : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W

/-- A stretch of the loop leaves alone what the loop does not write. -/
theorem stretch_keep (ops : List (HloOp τ sig (Elt Ideal))) (W : List (Ref sig .tc))
    (hw : ops.Forall fun op => op.writes ⊆ (W.map (Proc.devRef (τ := τ) .tc)).toFinset) (hs : W ⊆ loopW)
    (V : Valuation τ sig (Elt Ideal)) (r : Ref sig .tc) (hr : r ∉ loopW) : after ops V (Proc.devRef .tc r) = V (Proc.devRef .tc r) :=
  after_of_writes_sub ops V hw fun h => hr (hs h)

/-- A trip leaves alone what the loop does not write. -/
theorem trip_keep (V : Valuation τ sig (Elt Ideal)) (r : Ref sig .tc) (hr : r ∉ loopW) :
    afterL bodyI (after condOps V) (Proc.devRef .tc r) = V (Proc.devRef .tc r) := by
  simp only [afterL_cons, afterL_nil]
  rw [stretch_keep _ _ while0Ops0_10_writes (by decide +kernel) _ r hr, stretch_keep _ _ while0Ops0_9_writes (by decide +kernel) _ r hr, stretch_keep _ _ while0Ops0_8_writes (by decide +kernel) _ r hr, stretch_keep _ _ while0Ops0_7_writes (by decide +kernel) _ r hr, stretch_keep _ _ while0Ops0_6_writes (by decide +kernel) _ r hr, stretch_keep _ _ while0Ops0_5_writes (by decide +kernel) _ r hr, stretch_keep _ _ while0Ops0_4_writes (by decide +kernel) _ r hr, stretch_keep _ _ while0Ops0_3_writes (by decide +kernel) _ r hr, stretch_keep _ _ while0Ops0_2_writes (by decide +kernel) _ r hr, stretch_keep _ _ while0Ops0_1_writes (by decide +kernel) _ r hr, stretch_keep _ _ while0Ops0_writes (by decide +kernel) _ r hr, stretch_keep _ _ condOps_writes (by decide +kernel) _ r hr]

variable (m : (ℓ : Loc nD τ sig) → Buf (Elt Ideal) ℓ) (c : Dev nD)

/-- The loop leaves alone what it does not write. -/
theorem atK_keep (r : Ref sig .tc) (hr : r ∉ loopW) : ∀ k, atK m k c (Proc.devRef .tc r) = entryContents preI m c (Proc.devRef .tc r)
  | 0 => rfl
  | k + 1 => (trip_keep (atK m k c) r hr).trans (atK_keep r hr k)

/-- What the buffers hold when the loop has ended. -/
abbrev done : Valuation τ sig (Elt Ideal) := after condOps (atK m 16 c)

/-- The loop and its last test leave alone what they do not write. -/
theorem done_keep (r : Ref sig .tc) (hr : r ∉ loopW) : done m c (Proc.devRef .tc r) = entryContents preI m c (Proc.devRef .tc r) :=
  (stretch_keep condOps condOps_W condOps_writes (by decide +kernel) _ r hr).trans (atK_keep m c r hr 16)

/-- The runs' numbers of the arguments. -/
abbrev argRuns : Fin 16 → Fin 8 → Fin 4 → Run :=
  runs (m ((c.tc : Thread nD τ).loc main_arg0)) (m ((c.tc : Thread nD τ).loc main_arg1)) (m ((c.tc : Thread nD τ).loc main_arg2))

/-- The loop ends with the last state and all the readings. -/
theorem done_holds : Holds (STEP^[16] (entryContents preI m c)) (argRuns m c) 16 :=
  trips_hold (entry_holds m c) 16 (le_refl _)

/-- A carried buffer when the loop has ended. -/
theorem done_carried (j : Ref sig .tc) (hj : j ∈ carriedRefs) :
    done m c (Proc.devRef .tc j) = STEP^[16] (entryContents preI m c) (Proc.devRef .tc j) :=
  (cond_keeps _ j hj).trans (atK_agree m c 16 j hj)

/-- The readings, step by step. -/
def steps (H : FVec Ideal S16x8x4x128x128 .f32) : FVec Ideal S8x2048x4x128 .f32 :=
  transpose _ [0, 2, 1, 3] (shapeCast S8x4x2048x128 (transpose S8x4x16x128x128 [1, 2, 0, 3, 4] H
    transposes_S16x8x4x128x128_S8x4x16x128x128_1_2_0_3_4) shapeCasts_S8x4x16x128x128_S8x4x2048x128) transposes_S8x4x2048x128_S8x2048x4x128_0_2_1_3

/-- The readings normalised, times the gain and the output gates. -/
def gatedAll (Y : FVec Ideal S8x2048x4x128 .f32) (O : FVec Ideal S8x2048x512 .f32) (G : FVec Ideal S128 .f32) : FVec Ideal S16384x512 .f32 :=
  shapeCast _ (mulf (mulf (mulf Y (broadcastInDim S8x2048x4x128 ![0, 1, 2, 3] bcast_S8x2048x4x1_S8x2048x4x128_0_1_2_3
    (Host.rsqrt (addf (Host.divf (broadcastInDim S8x2048x4x1 ![0, 1, 2] bcast_S8x2048x4_S8x2048x4x1_0_1_2
      (Host.reduceAdd (mulf Y Y) (constant S_ .f32 0x00000000#32) reducesTo_S8x2048x4x128_S8x2048x4_d3 h_S_))
      (broadcastInDim S8x2048x4x1 ![] bcast_S_S8x2048x4x1 (constant S_ .f32 0x43000000#32)))
      (broadcastInDim S8x2048x4x1 ![] bcast_S_S8x2048x4x1 (constant S_ .f32 0x358637BD#32))))))
    (broadcastInDim S8x2048x4x128 ![0, 1, 2, 3] bcast_S1x1x1x128_S8x2048x4x128_0_1_2_3 (broadcastInDim S1x1x1x128 ![3] bcast_S128_S1x1x1x128_3 G)))
    (Host.divf (broadcastInDim S8x2048x4x128 ![] bcast_S_S8x2048x4x128 (constant S_ .f32 0x3F800000#32))
      (addf (broadcastInDim S8x2048x4x128 ![] bcast_S_S8x2048x4x128 (constant S_ .f32 0x3F800000#32))
        (Host.exp (Host.negf (shapeCast _ O shapeCasts_S8x2048x512_S8x2048x4x128)))))) shapeCasts_S8x2048x4x128_S16384x512

/-- The stabilisers with zeros below them. -/
def stabs (M : FVec Ideal S8x4 .f32) : FVec Ideal S8x8x128 .f32 :=
  broadcastInDim S8x8x128 ![0, 1, 2] bcast_S8x8x1_S8x8x128_0_1_2 (broadcastInDim S8x8x1 ![0, 1] bcast_S8x8_S8x8x1_0_1
    (concatenate S8x8 1 [⟨S8x4, M⟩, ⟨S8x4, broadcastInDim S8x4 ![] bcast_S_S8x4 (constant S_ .f32 0x00000000#32)⟩] concatenates_S8x4_S8x4_S8x8_d1))

/-- The operations after the loop leave the gated readings. -/
theorem post_out (X : Valuation τ sig (Elt Ideal)) : afterL postI X (Proc.devRef .tc main_v86)
    = gatedAll (steps (X (Proc.devRef .tc main_v59_12))) (X (Proc.devRef .tc main_v4)) (X (Proc.devRef .tc main_arg3)) := by
  simp only [afterL_cons, afterL_nil]
  after_reads_simp
  rfl

/-- The operations after the loop leave the stabilisers with zeros below. -/
theorem post_stab (X : Valuation τ sig (Elt Ideal)) : afterL postI X (Proc.devRef .tc main_v88) = stabs (X (Proc.devRef .tc main_v59_11)) := by
  simp only [afterL_cons, afterL_nil]
  after_reads_simp
  rfl

/-- The output gates' inputs when the loop begins. -/
theorem o0 : entryContents preI m c (Proc.devRef .tc main_v4)
    = extractStridedSlice S8x2048x512 ![0, 0, 6656] (shapeCast S8x2048x11520 (m ((c.tc : Thread nD τ).loc main_arg0) : FVec Ideal S16384x11520 .f32)
        shapeCasts_S16384x11520_S8x2048x11520) slices_S8x2048x11520_S8x2048x512_0_0_6656 := by
  simp only [entryContents, afterL_cons, afterL_nil]
  after_reads_simp
  rfl

/-- The gain when the loop begins. -/
theorem a3 : entryContents preI m c (Proc.devRef .tc main_arg3) = m ((c.tc : Thread nD τ).loc main_arg3) := by
  simp only [entryContents, afterL_cons, afterL_nil]
  after_reads_simp

/-- The projections are as they were when the loop begins. -/
theorem a0 : entryContents preI m c (Proc.devRef .tc main_arg0) = m ((c.tc : Thread nD τ).loc main_arg0) := by
  simp only [entryContents, afterL_cons, afterL_nil]
  after_reads_simp

/-- The input gates' biases are as they were when the loop begins. -/
theorem a1 : entryContents preI m c (Proc.devRef .tc main_arg1) = m ((c.tc : Thread nD τ).loc main_arg1) := by
  simp only [entryContents, afterL_cons, afterL_nil]
  after_reads_simp

/-- The forget gates' biases are as they were when the loop begins. -/
theorem a2 : entryContents preI m c (Proc.devRef .tc main_arg2) = m ((c.tc : Thread nD τ).loc main_arg2) := by
  simp only [entryContents, afterL_cons, afterL_nil]
  after_reads_simp

/-- What the operations after the loop write. -/
theorem post_keep (X : Valuation τ sig (Elt Ideal)) (r : Ref sig .tc)
    (hr : r ∈ [main_arg0, main_arg1, main_arg2, main_arg3, main_v59_9, main_v59_10]) :
    afterL postI X (Proc.devRef .tc r) = X (Proc.devRef .tc r) := by
  simp only [List.mem_cons, List.not_mem_nil, or_false] at hr
  rcases hr with rfl | rfl | rfl | rfl | rfl | rfl <;>
    · simp only [afterL_cons, afterL_nil]
      after_reads_simp

/-- A gated reading. -/
theorem gatedAll_apply (Y : FVec Ideal S8x2048x4x128 .f32) (O : FVec Ideal S8x2048x512 .f32) (G : FVec Ideal S128 .f32)
    (r : Fin 16384) (e : Fin 512) (b : Fin 8) (t : Fin 2048) (h : Fin 4) (d : Fin 128) (hr : r.val = b.val * 2048 + t.val) (he : e.val = h.val * 128 + d.val) :
    gatedAll Y O G (ix2 r e) = gated (fun e' => Y (ix4 b t h e')) (fun k => G (ix1 k)) (O (ix3 b t e)) d := by
  have e0 : (⟨r.val / 2048, by omega⟩ : Fin 8) = b := Fin.ext (by simp only; omega)
  have e1 : (⟨r.val % 2048, by omega⟩ : Fin 2048) = t := Fin.ext (by simp only; omega)
  have e2 : (⟨e.val / 128, by omega⟩ : Fin 4) = h := Fin.ext (by simp only; omega)
  have e3 : (⟨e.val % 128, by omega⟩ : Fin 128) = d := Fin.ext (by simp only; omega)
  unfold gatedAll gated
  pointwise
  rw [e0, e1, e2, e3]

/-- A step's reading. -/
theorem steps_apply (H : FVec Ideal S16x8x4x128x128 .f32) (b : Fin 8) (s : Fin 16) (i : Fin 128) (t : Fin 2048) (ht : t.val = s.val * 128 + i.val)
    (h : Fin 4) (e : Fin 128) : steps H (ix4 b t h e) = H (ix5 s b h i e) := by
  have e0 : (⟨t.val / 128, by omega⟩ : Fin 16) = s := Fin.ext (by simp only; omega)
  have e1 : (⟨t.val % 128, by omega⟩ : Fin 128) = i := Fin.ext (by simp only; omega)
  unfold steps
  pointwise
  rw [e0, e1]

/-- A stabiliser's row. -/
theorem stabs_apply (M : FVec Ideal S8x4 .f32) (b r : Fin 8) (l : Fin 128) :
    stabs M (ix3 b r l) = if h : r.val < 4 then M (ix2 b ⟨r.val, h⟩) else 0 := by
  unfold stabs
  pointwise

section Want

variable (P : FVec Ideal S16384x11520 .f32) (ib fb : FVec Ideal S4 .f32) (G : FVec Ideal S128 .f32)

/-- The gated readings, of the arguments. -/
def wantOut : FVec Ideal S16384x512 .f32 := fun y => outAt (runs P ib fb) (fun r e => P (ix2 r e)) (fun k => G (ix1 k)) (y 0) (y 1)

/-- The state matrices, of the arguments. -/
def wantC : FVec Ideal S8x4x128x128 .f32 := fun y => (stateAt (runs P ib fb) (y 0) (y 1) 16).C (y 2) (y 3)

/-- The normalisers, of the arguments. -/
def wantN : FVec Ideal S8x4x128 .f32 := fun y => (stateAt (runs P ib fb) (y 0) (y 1) 16).n (y 2)

/-- The stabilisers, of the arguments. -/
def wantM : FVec Ideal S8x8x128 .f32 := fun y => stabAt (runs P ib fb) (y 0) (y 1)

end Want

/-- The gated readings of an array of readings are those of the runs whose readings it holds. -/
theorem gatedAll_eq (R : Fin 16 → Fin 8 → Fin 4 → Run) (H : FVec Ideal S16x8x4x128x128 .f32)
    (hH : ∀ s b h i e, H (ix5 s b h i e) = (R s b h).hid (stateAt R b h s.val) i e) (P : FVec Ideal S16384x11520 .f32) (G : FVec Ideal S128 .f32) :
    gatedAll (steps H) (extractStridedSlice S8x2048x512 ![0, 0, 6656] (shapeCast S8x2048x11520 P
        shapeCasts_S16384x11520_S8x2048x11520) slices_S8x2048x11520_S8x2048x512_0_0_6656) G
      = fun y => outAt R (fun r e => P (ix2 r e)) (fun k => G (ix1 k)) (y 0) (y 1) := by
  funext y
  obtain ⟨b, s, i, h, d, e0, e1⟩ : ∃ (b : Fin 8) (s : Fin 16) (i : Fin 128) (h : Fin 4) (d : Fin 128),
      y 0 = row b s i ∧ (y 1).val = h.val * 128 + d.val := by
    have hy0 : (y 0).val < 16384 := (y 0).isLt
    have hy1 : (y 1).val < 512 := (y 1).isLt
    exact ⟨⟨(y 0).val / 2048, by omega⟩, ⟨(y 0).val % 2048 / 128, by omega⟩, ⟨(y 0).val % 128, by omega⟩, ⟨(y 1).val / 128, by omega⟩,
      ⟨(y 1).val % 128, by omega⟩, Fin.ext (by simp only [row]; omega), by simp only; omega⟩
  refine (congrArg _ (eq_ix2 y)).trans ?_
  rw [e0, outAt_row _ _ _ b s i h d _ e1]
  refine (gatedAll_apply _ _ _ _ _ b ⟨s.val * 128 + i.val, by omega⟩ h d rfl e1).trans ?_
  have hs := fun e' => (steps_apply H b s i ⟨s.val * 128 + i.val, by omega⟩ rfl h e').trans (hH s b h i e')
  simp only [hs]
  congr 1
  pointwise
  exact congrArg P (congrArg (ix2 (row b s i)) (Fin.ext (congrArg (6656 + ·) e1)))

/-- The reference leaves the gated readings. -/
theorem out_eq : finalContents condOps preI bodyI postI 16 m c (Proc.devRef .tc main_v86)
    = wantOut (m ((c.tc : Thread nD τ).loc main_arg0)) (m ((c.tc : Thread nD τ).loc main_arg1)) (m ((c.tc : Thread nD τ).loc main_arg2))
        (m ((c.tc : Thread nD τ).loc main_arg3)) := by
  refine (post_out (done m c)).trans ?_
  rw [done_keep m c main_v4 (by decide +kernel), done_keep m c main_arg3 (by decide +kernel), o0, a3, done_carried m c main_v59_12 (by decide +kernel)]
  exact gatedAll_eq (argRuns m c) _ (fun s b h i e => (done_holds m c).hid s s.isLt b h i e) _ _

/-- The reference leaves the state matrices. -/
theorem C_eq : finalContents condOps preI bodyI postI 16 m c (Proc.devRef .tc main_v59_9)
    = wantC (m ((c.tc : Thread nD τ).loc main_arg0)) (m ((c.tc : Thread nD τ).loc main_arg1)) (m ((c.tc : Thread nD τ).loc main_arg2)) := by
  refine (post_keep (done m c) main_v59_9 (by decide +kernel)).trans ?_
  rw [done_carried m c main_v59_9 (by decide +kernel)]
  funext y
  refine (congrArg _ (eq_ix4 y)).trans ?_
  exact (done_holds m c).C _ _ _ _

/-- The reference leaves the normalisers. -/
theorem n_eq : finalContents condOps preI bodyI postI 16 m c (Proc.devRef .tc main_v59_10)
    = wantN (m ((c.tc : Thread nD τ).loc main_arg0)) (m ((c.tc : Thread nD τ).loc main_arg1)) (m ((c.tc : Thread nD τ).loc main_arg2)) := by
  refine (post_keep (done m c) main_v59_10 (by decide +kernel)).trans ?_
  rw [done_carried m c main_v59_10 (by decide +kernel)]
  funext y
  refine (congrArg _ (eq_ix3 y)).trans ?_
  exact (done_holds m c).n _ _ _

/-- The reference leaves the stabilisers. -/
theorem m_eq : finalContents condOps preI bodyI postI 16 m c (Proc.devRef .tc main_v88)
    = wantM (m ((c.tc : Thread nD τ).loc main_arg0)) (m ((c.tc : Thread nD τ).loc main_arg1)) (m ((c.tc : Thread nD τ).loc main_arg2)) := by
  refine (post_stab (done m c)).trans ?_
  rw [done_carried m c main_v59_11 (by decide +kernel)]
  funext y
  refine (congrArg _ (eq_ix3 y)).trans ((stabs_apply _ _ _ _).trans ?_)
  unfold wantM stabAt
  split
  · exact (done_holds m c).m _ _
  · rfl

/-- The reference leaves its arguments as they were. -/
theorem arg_eq (r : Ref sig .tc) (hr : r ∈ [main_arg0, main_arg1, main_arg2, main_arg3]) :
    finalContents condOps preI bodyI postI 16 m c (Proc.devRef .tc r) = m ((c.tc : Thread nD τ).loc r) := by
  simp only [List.mem_cons, List.not_mem_nil, or_false] at hr
  rcases hr with rfl | rfl | rfl | rfl
  · exact (post_keep (done m c) _ (by decide +kernel)).trans ((done_keep m c _ (by decide +kernel)).trans (a0 m c))
  · exact (post_keep (done m c) _ (by decide +kernel)).trans ((done_keep m c _ (by decide +kernel)).trans (a1 m c))
  · exact (post_keep (done m c) _ (by decide +kernel)).trans ((done_keep m c _ (by decide +kernel)).trans (a2 m c))
  · exact (post_keep (done m c) _ (by decide +kernel)).trans ((done_keep m c _ (by decide +kernel)).trans (a3 m c))

/-- The reference runs to the readings and states of its arguments, which it leaves as they were. -/
theorem run_REF (ρ : Dev nD → PrngReg) :
    θ_run defs (onTc (τ := τ) (main (F := Ideal))) ⟨m, fun _ => 0, ρ⟩ fun r => ∀ c : Dev nD,
      r.2.mem ((c.tc : Thread nD τ).loc main_v86) = wantOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v59_9) = wantC (m ((c.tc : Thread nD τ).loc main_arg0)) (m ((c.tc : Thread nD τ).loc main_arg1))
          (m ((c.tc : Thread nD τ).loc main_arg2))
      ∧ r.2.mem ((c.tc : Thread nD τ).loc main_v59_10) = wantN (m ((c.tc : Thread nD τ).loc main_arg0)) (m ((c.tc : Thread nD τ).loc main_arg1))
          (m ((c.tc : Thread nD τ).loc main_arg2))
      ∧ r.2.mem ((c.tc : Thread nD τ).loc main_v88) = wantM (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c _ rfl).trans (out_eq m c), (h c _ rfl).trans (C_eq m c), (h c _ rfl).trans (n_eq m c),
    (h c _ rfl).trans (m_eq m c), (h c _ rfl).trans (arg_eq m c _ (by decide +kernel)), (h c _ rfl).trans (arg_eq m c _ (by decide +kernel)),
    (h c _ rfl).trans (arg_eq m c _ (by decide +kernel)), (h c _ rfl).trans (arg_eq m c _ (by decide +kernel))⟩) (run_fold m ρ)

end Cert.MlstmRefIdeal.Value

end
-- ==== Proof.MlstmFinal.lean ====
/-
  The mLSTM prompt kernel against its reference: the states after every grid point, and the arrays after the run.
-/
module

public import proofs.«01_k».proof.Defs
public import proofs.«01_k».proof.Proof.MlstmCases
public import proofs.«01_k».proof.Proof.MlstmPost
public import Idealize.ShloMosaic.Lib.Claim

@[expose] public section

set_option maxRecDepth 65536

noncomputable section

namespace Cert.MlstmIdeal.RefValue

open Cert.MlstmIdeal Cert.MlstmIdeal.Gen Idealize.ShloMosaic Idealize.ShloMosaic.TcCoe Idealize.SL.Sem Cert.Chunk Cert.Rows
open Cert.MlstmRefIdeal.Value (wantOut wantC wantN wantM)

variable (m : (ℓ : Loc nD τ sig) → Buf (Elt Ideal) ℓ)

/-- The runs' numbers of device `c`'s argument arrays. -/
abbrev runsOf (c : Dev nD) : Fin 16 → Fin 8 → Fin 4 → Run := runOf (packed m c) (biasI m c) (biasF m c)

/-- The `z`-th grid point of sequence `b`. -/
abbrev pt (b : Fin 8) (z : ℕ) (hz : z < 4) : Fin cfg0.N := ⟨4 * b.val + z, lt_of_lt_of_eq (by omega) N_0.symm⟩

/-- The states `s0` are the sequence's states before a grid point, and the point leaves its blocks of them. -/
structure Left (c : Dev nD) (t : Fin cfg0.N) (b : Fin 8) (z : ℕ) (s0 : Fin 4 → Piece.St) : Prop where
  pre : ∀ h, Piece.HoldsSt (s0 h) (stateAt (runsOf m c) b h (4 * z))
  out : ∀ y, (outsAt0 m c t.val t.isLt).1 y = outVal (outOf m c t s0) (y 0) (y 1)
  mat : ∀ y, (outsAt0 m c t.val t.isLt).2.1 y = (stOf m c t (s0 (y 1)) (y 1) 4).C (ix2 (y 2) (y 3))
  norm : ∀ y, (outsAt0 m c t.val t.isLt).2.2.1 y = (stOf m c t (s0 (y 1)) (y 1) 4).n (ix2 0 (y 2))
  stab : ∀ y, (outsAt0 m c t.val t.isLt).2.2.2 y = stabVal (fun h => stOf m c t (s0 h) h 4) 0 (y 1)

/-- A head's state after a grid point is the sequence's. -/
theorem after_holds {c : Dev nD} {b : Fin 8} {z : ℕ} (hz : z < 4) {s0 : Fin 4 → Piece.St}
    (H : Left m c (pt b z hz) b z s0) (h : Fin 4) :
    Piece.HoldsSt (stOf m c (pt b z hz) (s0 h) h 4) (stateAt (runsOf m c) b h (4 * z + 4)) :=
  Piece.stAt_holds (reads m c (pt b z hz) b ⟨z, hz⟩ rfl) h (H.pre h) 4 (Nat.le_refl 4)

/-- Every grid point leaves its blocks of the sequence's states before it. -/
theorem left (c : Dev nD) (b : Fin 8) : ∀ (z : ℕ) (hz : z < 4), ∃ s0, Left m c (pt b z hz) b z s0 := by
  intro z
  induction z with
  | zero =>
    intro hz
    have h0 : (pt b 0 hz).val % 4 = 0 := by show (4 * b.val + 0) % 4 = 0; omega
    exact ⟨start, ⟨fun h => start_holds _ b h, outA m c _ h0 _ fun _ _ => rfl, matA m c _ h0 (fun h => stOf m c _ (start h) h 4) fun _ => rfl,
      normA m c _ h0 (fun h => stOf m c _ (start h) h 4) fun _ => rfl, stabA m c _ h0 _ fun _ => rfl⟩⟩
  | succ z ih =>
    intro hz
    obtain ⟨s0, H⟩ := ih (Nat.lt_of_succ_lt hz)
    have h0 : ¬(pt b (z + 1) hz).val % 4 = 0 := by show ¬(4 * b.val + (z + 1)) % 4 = 0; omega
    have hs := fun h => after_holds m (Nat.lt_of_succ_lt hz) H h
    have hp : ∀ r : Fin 8, ¬r.val < 4 → ∀ y : S1x8x128.Idx, y 1 = r →
        (outsAt0 m c ((pt b (z + 1) hz).val - 1) (Nat.lt_of_le_of_lt (Nat.sub_le _ _) (pt b (z + 1) hz).isLt)).2.2.2 y = 0 := by
      rintro r hr y rfl
      exact (H.stab y).trans (dif_neg hr)
    refine ⟨prev m c _, ⟨fun h => ⟨fun d e => ?_, fun d => ?_, ?_⟩, outB m c _ h0 _ fun _ _ => rfl,
      matB m c _ h0 (fun h => stOf m c _ (prev m c _ h) h 4) fun _ => rfl,
      normB m c _ h0 (fun h => stOf m c _ (prev m c _ h) h 4) fun _ => rfl, fun y => ?_⟩⟩
    · exact (load_C _ _ _ h d e).trans ((H.mat _).trans ((hs h).C d e))
    · exact (load_n _ _ _ h d).trans ((H.norm _).trans ((hs h).n d))
    · exact (load_m _ _ _ h).trans ((H.stab _).trans ((dif_pos h.isLt).trans (hs h).m))
    · refine (stabB m c _ h0 _ (fun _ => rfl) y).trans ?_
      by_cases hy : (y 1).val < 4
      · unfold stabVal
        rw [dif_pos hy, dif_pos hy]
      · unfold stabVal
        rw [dif_neg hy, dif_neg hy]
        exact hp (y 1) hy y rfl

/-- The readings of device `c`'s argument arrays. -/
abbrev want (c : Dev nD) : FVec Ideal Cert.MlstmRefIdeal.S16384x512 .f32 :=
  wantOut (m ((c : Thread nD τ).loc main_arg0)) (m ((c : Thread nD τ).loc main_arg1)) (m ((c : Thread nD τ).loc main_arg2))
    (m ((c : Thread nD τ).loc main_arg3))

/-- What point `t` leaves at row `r` of its output block is the reading at row `512·t + r`. -/
theorem point (c : Dev nD) (t : Fin cfg0.N) (r e : Fin 512) (i : Fin 16384) (hi : i.val = t.val * 512 + r.val) :
    (outsAt0 m c t.val t.isLt).1 (ix2 r e) = want m c (ix2 i e) := by
  have ht : t.val < 32 := lt_of_lt_of_eq t.isLt N_0
  obtain ⟨b, z, hz, rfl⟩ : ∃ (b : Fin 8) (z : ℕ) (hz : z < 4), t = pt b z hz :=
    ⟨⟨t.val / 4, by omega⟩, t.val % 4, Nat.mod_lt _ (by decide), Fin.ext (by show t.val = 4 * (t.val / 4) + t.val % 4; omega)⟩
  obtain ⟨s0, H⟩ := left m c b z hz
  refine (H.out (ix2 r e)).trans ?_
  have hv : (pt b z hz).val = 4 * b.val + z := rfl
  exact Piece.out_apply (reads m c (pt b z hz) b ⟨z, hz⟩ rfl) ⟨r.val / 128, by omega⟩ ⟨e.val / 128, by omega⟩ (H.pre _)
    ⟨r.val % 128, by omega⟩ ⟨e.val % 128, by omega⟩ i e
    (Fin.ext (by simp only [Piece.rowOf]; omega)) (by simp only; omega)

/-- The readings' array after the run. -/
theorem final (c : Dev nD) : (dats m 0 c).arrAt 7 (cfgs 0).N = want m c := by
  refine (dats m 0 c).arrAt_eq_of_covers 7 _ (by decide +kernel) fun t _ y => ?_
  blk_simp
  rw [after0_7]
  have ht : t.val < 32 := lt_of_lt_of_eq t.isLt N_0
  have hy : (y 0 : ℕ) < 512 := (y 0).isLt
  rw [eq_ix2 y]
  refine (point m c t (y 0) (y 1) ⟨t.val * 512 + (y 0 : ℕ), by omega⟩ rfl).trans (congrArg (want m c) ?_)
  blk_ext [idx t]

/-- The last grid point of a sequence. -/
theorem last_pt (t : Fin cfg0.N) (h : t.val % 4 = 3) : ∃ b : Fin 8, t = pt b 3 (by decide) :=
  have ht : t.val < 32 := lt_of_lt_of_eq t.isLt N_0
  ⟨⟨t.val / 4, by omega⟩, Fin.ext (by show t.val = 4 * (t.val / 4) + 3; omega)⟩

/-- The matrices' array after the run. -/
theorem final_mat (c : Dev nD) : (dats m 0 c).arrAt 8 (cfgs 0).N
    = wantC (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨b, rfl⟩ := last_pt t ((flush0_8 t).mp hf)
  blk_simp
  rw [after0_8]
  obtain ⟨s0, H⟩ := left m c b 3 (by decide)
  refine (H.mat y).trans (((after_holds m (by decide) H (y 1)).C (y 2) (y 3)).trans ?_)
  have hy : (y 0 : ℕ) < 1 := (y 0).isLt
  have hb : (pt b 3 (by decide)).val / 4 = b.val := by show (4 * b.val + 3) / 4 = b.val; omega
  refine (congrArg (wantC _ _ _) ?_ : wantC _ _ _ (ix4 b (y 1) (y 2) (y 3)) = _)
  blk_ext [idx (pt b 3 (by decide))]

/-- The normalisers' array after the run. -/
theorem final_norm (c : Dev nD) : (dats m 0 c).arrAt 9 (cfgs 0).N
    = wantN (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨b, rfl⟩ := last_pt t ((flush0_9 t).mp hf)
  blk_simp
  rw [after0_9]
  obtain ⟨s0, H⟩ := left m c b 3 (by decide)
  refine (H.norm y).trans (((after_holds m (by decide) H (y 1)).n (y 2)).trans ?_)
  have hy : (y 0 : ℕ) < 1 := (y 0).isLt
  have hb : (pt b 3 (by decide)).val / 4 = b.val := by show (4 * b.val + 3) / 4 = b.val; omega
  refine (congrArg (wantN _ _ _) ?_ : wantN _ _ _ (ix3 b (y 1) (y 2)) = _)
  blk_ext [idx (pt b 3 (by decide))]

/-- The stabilisers' array after the run. -/
theorem final_stab (c : Dev nD) : (dats m 0 c).arrAt 10 (cfgs 0).N
    = wantM (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨b, rfl⟩ := last_pt t ((flush0_10 t).mp hf)
  blk_simp
  rw [after0_10]
  obtain ⟨s0, H⟩ := left m c b 3 (by decide)
  refine (H.stab y).trans ?_
  have hs : stabVal (fun h => stOf m c (pt b 3 (by decide)) (s0 h) h 4) 0 (y 1) = stabAt (runsOf m c) b (y 1) := by
    unfold stabVal stabAt
    split
    · exact (after_holds m (by decide) H _).m
    · rfl
  refine hs.trans ?_
  have hy : (y 0 : ℕ) < 1 := (y 0).isLt
  have hb : (pt b 3 (by decide)).val / 4 = b.val := by show (4 * b.val + 3) / 4 = b.val; omega
  refine (congrArg (wantM _ _ _) ?_ : wantM _ _ _ (ix3 b (y 1) (y 2)) = _)
  blk_ext [idx (pt b 3 (by decide))]

/-- The mLSTM prompt kernel and its reference leave the same arrays, both from any contents of the arguments. -/
theorem agrees : Cert.algebraic_MlstmIdeal_MlstmRefIdeal := by
  pair_intro
  · run_from Cert.MlstmIdeal.Value.run_blocks m g
  · run_from Cert.MlstmRefIdeal.Value.run_REF m' g'
    · exact (final m c).symm
    · exact (final_mat m c).symm
    · exact (final_norm m c).symm
    · exact (final_stab m c).symm

end Cert.MlstmIdeal.RefValue

end
-- ==== Proof.ProjSampleRef.lean ====
/-
  The layer's wide projection of the sample rows read at an index: a normalised row of the input through the weights, its columns put in
  the order the kernel keeps them.
-/
module

public import proofs.«01_k».proof.Proof.RowMath
public import proofs.«01_k».proof.Proof.PackRows
public import proofs.«01_k».proof.Proof.Gen.ProjSampleRefIdeal.Run

@[expose] public section

set_option maxRecDepth 16384

noncomputable section

namespace Cert.ProjSampleRefIdeal.RefValue

open Cert.ProjSampleRefIdeal Cert.ProjSampleRefIdeal.Gen Idealize.ShloMosaic Idealize.ShloMosaic.TcCoe Idealize.SL.Sem
open Cert.Rows Cert.Pack

/-- The projected rows, columns in the weights' own order. -/
def prod (X : FVec Ideal S128x1x1024 .f32) (G : FVec Ideal S1024 .f32) (W : FVec Ideal S1024x11288 .f32) :
    FVec Ideal S128x1x11288 .f32 :=
  Host.dotGeneral dot_S128x1x1024_S1024x11288_S128x1x11288_2_0_01_1_n_n none (mulf (mulf X (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf X X) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 G))) W

/-- An entry of the projected rows: a normalised row against a column of the weights. -/
theorem prod_apply (X : FVec Ideal S128x1x1024 .f32) (G : FVec Ideal S1024 .f32) (W : FVec Ideal S1024x11288 .f32)
    (b : Fin 128) (s : Fin 1) (j : Fin 11288) :
    prod X G W (ix3 b s j) = ∑ e : Fin 1024, normRow (fun k => X (ix3 b s k)) (fun k => G (ix1 k)) e * W (ix2 e j) := by
  obtain rfl : s = 0 := Subsingleton.elim _ _
  pointwise [prod]
  rfl

/-- The packed columns of an array of rows, zeros after them. -/
def packRows (P : FVec Ideal S128x1x11288 .f32) : FVec Ideal S128x1x11520 .f32 :=
  pack P (broadcastInDim S128x1x232 ![] bcast_S_S128x1x232 (constant (F := Ideal) S_ .f32 0x00000000#32))
    concatenates_S128x1x512_S128x1x512_S128x1x512_S128x1x512_S128x1x1024_S128x1x1536_S128x1x512_S128x1x512_S128x1x512_S128x1x512_S128x1x512_S128x1x4096_S128x1x8_S128x1x4_S128x1x4_S128x1x4_S128x1x11284_d2
    concatenates_S128x1x4_S128x1x232_S128x1x236_d2 concatenates_S128x1x11284_S128x1x236_S128x1x11520_d2

/-- A packed row is read through `pick`. -/
theorem packRows_apply (P : FVec Ideal S128x1x11288 .f32) (b : Fin 128) (s : Fin 1) (j : Fin 11520) :
    packRows P (ix3 b s j) = pick (fun n => P (ix3 b s n)) j.val :=
  pack_apply P _ (fun y => by pointwise []) _ _ _ b s j

/-- The rows of all batch entries one after the other. -/
def flat (P : FVec Ideal S128x1x11520 .f32) : FVec Ideal S128x11520 .f32 := shapeCast _ P shapeCasts_S128x1x11520_S128x11520

/-- An entry of the flat array. -/
theorem flat_apply (P : FVec Ideal S128x1x11520 .f32) (i : Fin 128) (b : Fin 128) (s : Fin 1)
    (hi : i.val = b.val * 1 + s.val) (j : Fin 11520) : flat P (ix2 i j) = P (ix3 b s j) := by
  pointwise [flat]
  all_goals blk_ext

/-- The reference's result as a function of its three arguments. -/
def REF (X : FVec Ideal S128x1x1024 .f32) (G : FVec Ideal S1024 .f32) (W : FVec Ideal S1024x11288 .f32) :
    FVec Ideal S128x11520 .f32 := flat (packRows (prod X G W))

/-- Entry `(i, j)` of the reference: row `i` of the input, normalised, against the weights' column at packed place `j`. -/
theorem REF_apply (X : FVec Ideal S128x1x1024 .f32) (G : FVec Ideal S1024 .f32) (W : FVec Ideal S1024x11288 .f32)
    (i : Fin 128) (b : Fin 128) (s : Fin 1) (hi : i.val = b.val * 1 + s.val) (j : Fin 11520) :
    REF X G W (ix2 i j) = ∑ e : Fin 1024, normRow (fun k => X (ix3 b s k)) (fun k => G (ix1 k)) e
      * pick (fun n => W (ix2 e n)) j.val := by
  unfold REF
  rw [flat_apply _ i b s hi, packRows_apply, pick_sum]
  simp only [prod_apply]

/-- The generated composed term is `REF` of the arguments. -/
theorem run_REF (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ProjSampleRefIdeal.Value.run m ρ

end Cert.ProjSampleRefIdeal.RefValue

end
-- ==== Proof.ProjSampleFinal.lean ====
/-
  The wide projection kernel at the sample rows against its reference: the normalised rows are computed at the first grid
  point and kept, and the array the kernel leaves is the reference's result.
-/
module

public import proofs.«01_k».proof.Proof.Gen.ProjSampleIdeal.Value
public import proofs.«01_k».proof.Defs
public import proofs.«01_k».proof.Proof.ProjSampleRef
public import proofs.«01_k».proof.Proof.ProjFinal
public import Idealize.ShloMosaic.Lib.Claim

@[expose] public section

set_option maxRecDepth 16384

noncomputable section

namespace Cert.ProjSampleIdeal.RefValue

open Cert.ProjSampleIdeal Cert.ProjSampleIdeal.Gen Idealize.ShloMosaic Idealize.ShloMosaic.TcCoe Idealize.SL.Sem
open Cert.Rows
open Cert.ProjIdeal.RefValue (packed packed_apply)

variable (m : (ℓ : Loc nD τ sig) → Buf (Elt Ideal) ℓ) (ρ : Dev nD → PrngReg)

/-- The block every window stages at a grid point: the rows are one block, the weights ten. -/
theorem idx : ∀ t : Fin cfg0.N, win0_0.index t = ![0, 0] ∧ win0_1.index t = ![0, 0] ∧ win0_2.index t = ![0, t.val]
    ∧ win0_3.index t = ![0, t.val] :=
  (by decide +kernel : ∀ t : Fin grid0.N, _)

/-- The kept rows are the normalised rows of the block. -/
theorem norm_apply (x : Vec Ideal S128x1024 .f32) (g : Vec Ideal S1x1024 .f32) (r : Fin 128) (e : Fin 1024) :
    k0_pay1 x g (ix2 r e) = normRow (fun k => x (ix2 r k)) (fun k => g (ix2 0 k)) e := by
  pointwise [k0_pay1]
  rfl

/-- The product of the kept rows with a block of the weights. -/
theorem prod_apply (h : Vec Ideal S128x1024 .bf16) (w : Vec Ideal S1024x1152 .bf16) (r : Fin 128) (j : Fin 1152) :
    k0_pay2 h w (ix2 r j) = ∑ e : Fin 1024, h (ix2 r e) * w (ix2 e j) := by
  pointwise [k0_pay2]

/-- A row of the rows' block is a row of the input. -/
theorem read_rows (c : Dev nD) (t : Fin cfg0.N) (r : Fin 128) (e : Fin 1024) (b : Fin 128) (s : Fin 1)
    (hr : r.val = b.val * 1 + s.val) :
    iblk m c 0 t (ix2 r e) = m ((c : Thread nD τ).loc main_arg0) (ix3 b s e) := by
  blk_point [iblk, V, idx t]

/-- The gain's block is the gain. -/
theorem read_gain (c : Dev nD) (t : Fin cfg0.N) (e : Fin 1024) :
    iblk m c 1 t (ix2 0 e) = m ((c : Thread nD τ).loc main_arg1) (ix1 e) := by
  blk_point [iblk, V, idx t]

/-- The array of the weights' window is the packed weights. -/
theorem weights_eq (c : Dev nD) : V m c main_v21 = packed (m ((c : Thread nD τ).loc main_arg2)) := by
  unfold V
  after_results_simp
  rfl

/-- The weights' block is a tenth of the packed weights' columns. -/
theorem read_w (c : Dev nD) (t : Fin cfg0.N) (e : Fin 1024) (j : Fin 1152) (n : Fin 11520) (hn : n.val = t.val * 1152 + j.val) :
    iblk m c 2 t (ix2 e j) = packed (m ((c : Thread nD τ).loc main_arg2)) (ix2 e n) := by
  have h : iblk m c 2 t (ix2 e j) = V m c main_v21 (ix2 e n) := by
    blk_point [iblk, idx t]
  rw [h, weights_eq]

/-- After every grid point the kept block holds the normalised rows of the input. -/
theorem kept (c : Dev nD) : ∀ (n : ℕ) (hn : n < cfg0.N) (r : Fin 128) (e : Fin 1024) (b : Fin 128) (s : Fin 1),
    r.val = b.val * 1 + s.val → (outsAt0 m c n hn).2 (ix2 r e)
      = normRow (fun k => m ((c : Thread nD τ).loc main_arg0) (ix3 b s k)) (fun k => m ((c : Thread nD τ).loc main_arg1) (ix1 k)) e := by
  intro n
  induction n with
  | zero =>
    intro hn r e b s hr
    rw [show outsAt0 m c 0 hn = _ from outsAt0_A m c ⟨0, hn⟩ (Nat.zero_mod _)]
    refine Eq.trans ?_ ((norm_apply (iblk m c 0 ⟨0, hn⟩) (iblk m c 1 ⟨0, hn⟩) r e).trans ?_)
    · frame_out
    · simp only [read_rows m c ⟨0, hn⟩ r _ b s hr, read_gain]
  | succ n ih =>
    intro hn r e b s hr
    have h0 : ¬(n + 1) % 10 = 0 := by
      have := lt_of_lt_of_eq hn N_0
      omega
    rw [show outsAt0 m c (n + 1) hn = _ from outsAt0_B m c ⟨n + 1, hn⟩ h0]
    exact ih (Nat.lt_of_succ_lt hn) r e b s hr

/-- The output block at a point is the product of the block kept after it with the point's block of the weights. -/
theorem out_eq (c : Dev nD) (t : Fin cfg0.N) :
    (outsAt0 m c t.val t.isLt).1 = k0_pay2 (outsAt0 m c t.val t.isLt).2 (iblk m c 2 t) := by
  by_cases h0 : t.val % 10 = 0
  · rw [outsAt0_A m c t h0]
    unfold out0_A_3 sout0_A_0
    frame_out
  · rw [outsAt0_B m c t h0]
    unfold out0_B_3 sout0_B_0
    frame_out
    exact congrArg (k0_pay2 · _) (Memref.IsWhole.read_unread _ _)

/-- The reference's result of device `c`'s argument arrays. -/
abbrev want (c : Dev nD) : FVec Ideal Cert.ProjSampleRefIdeal.S128x11520 .f32 :=
  Cert.ProjSampleRefIdeal.RefValue.REF (m ((c : Thread nD τ).loc main_arg0)) (m ((c : Thread nD τ).loc main_arg1))
    (m ((c : Thread nD τ).loc main_arg2))

/-- What a point leaves at an index of its block is the reference's entry there. -/
theorem point (c : Dev nD) (t : Fin cfg0.N) (r : Fin 128) (j : Fin 1152) (n : Fin 11520) (hn : n.val = t.val * 1152 + j.val) :
    (outsAt0 m c t.val t.isLt).1 (ix2 r j) = want m c (ix2 r n) := by
  have hs : r.val = r.val * 1 + (0 : Fin 1).val := by simp
  rw [out_eq, prod_apply]
  refine Eq.trans ?_ (Cert.ProjSampleRefIdeal.RefValue.REF_apply _ _ _ r r 0 hs n).symm
  refine Finset.sum_congr rfl fun e _ => ?_
  rw [kept m c t.val t.isLt r e r 0 hs, read_w m c t e j n hn, packed_apply]

/-- The result array after the run is the reference's result. -/
theorem final (c : Dev nD) : (dats m 0 c).arrAt 3 (cfgs 0).N = want m c := by
  refine (dats m 0 c).arrAt_eq_of_covers 3 _ (by decide +kernel) fun t _ y => ?_
  blk_simp
  rw [after0_3]
  have ht : t.val < 10 := lt_of_lt_of_eq t.isLt N_0
  have hy1 : (y 1 : ℕ) < 1152 := (y 1).isLt
  rw [eq_ix2 y]
  refine (point m c t (y 0) (y 1) ⟨t.val * 1152 + (y 1 : ℕ), by omega⟩ rfl).trans (congrArg (want m c) ?_)
  blk_ext [idx t]

/-- The projection kernel at the sample rows and its reference leave the same array, both from any contents of the
arguments. -/
theorem agrees : Cert.algebraic_ProjSampleIdeal_ProjSampleRefIdeal := by
  pair_intro
  · run_from Cert.ProjSampleIdeal.Value.run_blocks m g
  · run_from Cert.ProjSampleRefIdeal.RefValue.run_REF m' g'
    exact (final m c).symm

end Cert.ProjSampleIdeal.RefValue

end
-- ==== Proof.ConvShift.lean ====
/-
  A convolution's buffer of the last three inputs, moved on by one input: the reference's array read at an index, and the
  block that a grid point of a decoding step stores row by row.
-/
module

public import proofs.«01_k».proof.Proof.MlstmCases

@[expose] public section

set_option maxRecDepth 65536

noncomputable section

namespace Cert.Shift

open Idealize.ShloMosaic Idealize.ShloMosaic.TcCoe Idealize.SL.Sem
open Cert.MlstmIdeal.RefValue (canon_step)

variable {n : ℕ}

/-- Entry `j` of the buffer after the input `x`: the next older entry of the buffer `u`, or the input at the last place. -/
def next (u : Fin 3 → EReal) (x : EReal) (j : Fin 3) : EReal := if h : j.val < 2 then u ⟨j.val + 1, by omega⟩ else x

/-- The buffer and the input side by side, read at the place `k`. -/
theorem side_apply (u : (⟨3, ![128, 3, n]⟩ : Shape).Idx → EReal) (x : (⟨3, ![128, 1, n]⟩ : Shape).Idx → EReal)
    (h : Shape.Concatenates [⟨3, ![128, 3, n]⟩, ⟨3, ![128, 1, n]⟩] ⟨3, ![128, 4, n]⟩ 1) (b : Fin 128) (j : Fin 3) (e : Fin n) :
    concatenate ⟨3, ![128, 4, n]⟩ 1 [⟨⟨3, ![128, 3, n]⟩, u⟩, ⟨⟨3, ![128, 1, n]⟩, x⟩] h (ix3 b ⟨j.val + 1, by omega⟩ e)
      = next (fun k => u (ix3 b k e)) (x (ix3 b 0 e)) j := by
  unfold next
  split
  · rename_i hj
    refine concatenate_apply_piece (t := ⟨3, ![128, 4, n]⟩) 1 [⟨⟨3, ![128, 3, n]⟩, u⟩, ⟨⟨3, ![128, 1, n]⟩, x⟩] h _ 0 (by simp) _ u rfl rfl 0 rfl
      (ix3 b ⟨j.val + 1, by omega⟩ e) (fun a ha => ?_) (Nat.zero_add _)
    fin_cases a
    · rfl
    · exact absurd rfl ha
    · rfl
  · rename_i hj
    refine concatenate_apply_piece (t := ⟨3, ![128, 4, n]⟩) 1 [⟨⟨3, ![128, 3, n]⟩, u⟩, ⟨⟨3, ![128, 1, n]⟩, x⟩] h _ 1 (by simp) _ x rfl rfl 3 rfl
      (ix3 b 0 e) (fun a ha => ?_) ?_
    · fin_cases a
      · rfl
      · exact absurd rfl ha
      · rfl
    · show 3 + 0 = j.val + 1
      omega

/-- The last three places of the buffer and the input side by side, the places put first. -/
theorem moved_apply (u : (⟨3, ![128, 3, n]⟩ : Shape).Idx → EReal) (x : (⟨3, ![128, 1, n]⟩ : Shape).Idx → EReal)
    (h : Shape.Concatenates [⟨3, ![128, 3, n]⟩, ⟨3, ![128, 1, n]⟩] ⟨3, ![128, 4, n]⟩ 1)
    (hs : (⟨3, ![128, 4, n]⟩ : Shape).Slices ![0, 1, 0] ⟨3, ![128, 3, n]⟩)
    (ht : (⟨3, ![128, 3, n]⟩ : Shape).Transposes [1, 0, 2] ⟨3, ![3, 128, n]⟩) (j : Fin 3) (b : Fin 128) (e : Fin n) :
    transpose ⟨3, ![3, 128, n]⟩ [1, 0, 2] (extractStridedSlice ⟨3, ![128, 3, n]⟩ ![0, 1, 0]
        (concatenate ⟨3, ![128, 4, n]⟩ 1 [⟨⟨3, ![128, 3, n]⟩, u⟩, ⟨⟨3, ![128, 1, n]⟩, x⟩] h) hs) ht (ix3 j b e)
      = next (fun k => u (ix3 b k e)) (x (ix3 b 0 e)) j := by
  refine Eq.trans ?_ (side_apply u x h b j e)
  generalize concatenate ⟨3, ![128, 4, n]⟩ 1 [⟨⟨3, ![128, 3, n]⟩, u⟩, ⟨⟨3, ![128, 1, n]⟩, x⟩] h = w
  refine (transpose_apply _ _ ht _ (ix3 b j e) fun a => ?_).trans (extractStridedSlice_apply _ w hs _ _ fun a => ?_)
  · fin_cases a <;> rfl
  · fin_cases a
    · exact (Nat.zero_add _).symm
    · exact Nat.add_comm _ _
    · exact (Nat.zero_add _).symm

/-- The piece of the block that the store of the place `k` makes. -/
theorem rect (F : Fin 3 → Fin 8 → Fin n → EReal) (k : Fin 3) (y : (⟨3, ![3, 8, n]⟩ : Shape).Idx) (inb)
    (w : (Rect.unit (s := ⟨3, ![3, 8, n]⟩) ![k.val, 0, 0] ![1, 8, n] inb).shape.Idx → Elt Ideal .f32)
    (hw : ∀ (r : Fin 8) (e : Fin n), w (ix3 (0 : Fin 1) r e) = F k r e) :
    View.RectAt (Val := Elt Ideal) (e := .f32) y (Rect.unit (s := ⟨3, ![3, 8, n]⟩) ![k.val, 0, 0] ![1, 8, n] inb) w
      (F (y 0) (y 1) (y 2)) := by
  rintro x rfl
  have e0 : (Rect.unit (s := ⟨3, ![3, 8, n]⟩) ![k.val, 0, 0] ![1, 8, n] inb).emb x 0 = k := Fin.ext (by
    have h : (x 0).val < 1 := (x 0).isLt
    show k.val + 1 * (x 0).val = k.val
    omega)
  have e1 : (Rect.unit (s := ⟨3, ![3, 8, n]⟩) ![k.val, 0, 0] ![1, 8, n] inb).emb x 1 = x 1 := Fin.ext (by
    show 0 + 1 * (x 1).val = (x 1).val
    omega)
  have e2 : (Rect.unit (s := ⟨3, ![3, 8, n]⟩) ![k.val, 0, 0] ![1, 8, n] inb).emb x 2 = x 2 := Fin.ext (by
    show 0 + 1 * (x 2).val = (x 2).val
    omega)
  rw [e0]
  refine Eq.trans ?_ (congrArg₂ (F k) e1 e2).symm
  refine Eq.trans (congrArg w ?_) (hw (x 1) (x 2))
  refine (eq_ix3 (n0 := 1) (n1 := 8) (n2 := n) x).trans ?_
  rw [Subsingleton.elim (α := Fin 1) (x 0) 0]

/-- Every index of the block is in the piece of its place. -/
theorem cover (y : (⟨3, ![3, 8, n]⟩ : Shape).Idx) {i0 i1 i2} :
    ¬(y ∉ (Rect.unit (s := ⟨3, ![3, 8, n]⟩) ![0, 0, 0] ![1, 8, n] i0).set
      ∧ y ∉ (Rect.unit (s := ⟨3, ![3, 8, n]⟩) ![1, 0, 0] ![1, 8, n] i1).set
      ∧ y ∉ (Rect.unit (s := ⟨3, ![3, 8, n]⟩) ![2, 0, 0] ![1, 8, n] i2).set) := by
  rintro ⟨h0, h1, h2⟩
  have key : ∀ (k : Fin 3) (i), y 0 = k → y ∈ (Rect.unit (s := ⟨3, ![3, 8, n]⟩) ![k.val, 0, 0] ![1, 8, n] i).set := by
    rintro k i rfl
    refine Rect.mem_set_unit.mpr fun a => ?_
    fin_cases a
    · exact ⟨Nat.le_refl _, Nat.lt_succ_self _⟩
    · exact ⟨Nat.zero_le _, (Nat.zero_add 8).symm ▸ (y 1).isLt⟩
    · exact ⟨Nat.zero_le _, (Nat.zero_add n).symm ▸ (y 2).isLt⟩
  have hy : (y 0).val < 3 := (y 0).isLt
  rcases (by omega : (y 0).val = 0 ∨ (y 0).val = 1 ∨ (y 0).val = 2) with h | h | h
  · exact h0 (key 0 _ (Fin.ext h))
  · exact h1 (key 1 _ (Fin.ext h))
  · exact h2 (key 2 _ (Fin.ext h))

end Cert.Shift

end
-- ==== Proof.SsdConvFinal.lean ====
/-
  The decoding step of the SSD mixer: the convolution's buffer that the kernel leaves is the reference's.
-/
module

public import proofs.«01_k».proof.Proof.Gen.SsdConvIdeal.Value
public import proofs.«01_k».proof.Proof.Gen.SsdConvRefIdeal.Run
public import proofs.«01_k».proof.Defs
public import proofs.«01_k».proof.Proof.ConvShift
public import Idealize.ShloMosaic.Lib.Claim

@[expose] public section

set_option maxRecDepth 65536

noncomputable section

namespace Cert.SsdConvRefIdeal.RefValue

open Cert.SsdConvRefIdeal Cert.SsdConvRefIdeal.Gen Idealize.ShloMosaic Idealize.ShloMosaic.TcCoe Idealize.SL.Sem
open Cert.Shift

/-- The buffer of the first layer. -/
def buffer (S : FVec Ideal S4x128x3x1024 .f32) : FVec Ideal S128x3x1024 .f32 :=
  shapeCast _ (extractStridedSlice S1x128x3x1024 ![0, 0, 0, 0] S slices_S4x128x3x1024_S1x128x3x1024_0_0_0_0) shapeCasts_S1x128x3x1024_S128x3x1024

/-- The convolution's input, of the packed projection. -/
def input (P : FVec Ideal S128x11520 .f32) : FVec Ideal S128x1x1024 .f32 :=
  broadcastInDim S128x1x1024 ![0, 2] bcast_S128x1024_S128x1x1024_0_2 (extractStridedSlice S128x1024 ![0, 2048] P slices_S128x11520_S128x1024_0_2048)

/-- The reference's result of the packed projection and the buffers. -/
def REF (P : FVec Ideal S128x11520 .f32) (S : FVec Ideal S4x128x3x1024 .f32) : FVec Ideal S3x128x1024 .f32 :=
  transpose S3x128x1024 [1, 0, 2] (extractStridedSlice S128x3x1024 ![0, 1, 0] (concatenate S128x4x1024 1 [⟨S128x3x1024, buffer S⟩, ⟨S128x1x1024, input P⟩] concatenates_S128x3x1024_S128x1x1024_S128x4x1024_d1) slices_S128x4x1024_S128x3x1024_0_1_0) transposes_S128x3x1024_S3x128x1024_1_0_2

/-- An entry of the first layer's buffer. -/
theorem buffer_apply (S : FVec Ideal S4x128x3x1024 .f32) (b : Fin 128) (k : Fin 3) (e : Fin 1024) :
    buffer S (ix3 b k e) = S (ix4 0 b k e) := by
  pointwise [buffer]
  all_goals blk_ext

/-- An entry of the convolution's input. -/
theorem input_apply (P : FVec Ideal S128x11520 .f32) (b : Fin 128) (e : Fin 1024) :
    input P (ix3 b 0 e) = P (ix2 b ⟨2048 + e.val, by omega⟩) := by
  pointwise [input]
  all_goals blk_ext

/-- An entry of the reference: the buffer after the input. -/
theorem REF_apply (P : FVec Ideal S128x11520 .f32) (S : FVec Ideal S4x128x3x1024 .f32) (j : Fin 3) (b : Fin 128) (e : Fin 1024) :
    REF P S (ix3 j b e) = next (fun k => S (ix4 0 b k e)) (P (ix2 b ⟨2048 + e.val, by omega⟩)) j := by
  unfold REF
  refine (moved_apply (buffer S) (input P) _ _ _ j b e).trans ?_
  simp only [buffer_apply, input_apply]

/-- The generated composed term is `REF` of the arguments. -/
theorem result_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.SsdConvRefIdeal.Value.run m ρ

end Cert.SsdConvRefIdeal.RefValue

namespace Cert.SsdConvIdeal.RefValue

open Cert.SsdConvIdeal Cert.SsdConvIdeal.Gen Idealize.ShloMosaic Idealize.ShloMosaic.TcCoe Idealize.SL.Sem
open Cert.Shift
open Cert.MlstmIdeal.RefValue (canon_step)

variable (m : (ℓ : Loc nD τ sig) → Buf (Elt Ideal) ℓ) (ρ : Dev nD → PrngReg)

/-- The blocks that the input's, the buffer's and the result's windows stage at a grid point. -/
theorem idx : ∀ t : Fin cfg0.N, win0_1.index t = ![t.val, 2] ∧ win0_3.index t = ![0, 0, t.val, 0]
    ∧ win0_12.index t = ![0, t.val, 0] :=
  (by decide +kernel : ∀ t : Fin grid0.N, _)

/-- The convolution's input at a point is columns of the point's rows. -/
theorem read_input (c : Dev nD) (t : Fin cfg0.N) (r : Fin 8) (e : Fin 1024) (b : Fin 128) (hb : b.val = t.val * 8 + r.val) :
    X0_1 m c t (ix2 r e) = m ((c : Thread nD τ).loc main_arg0) (ix2 b ⟨2048 + e.val, by omega⟩) := by
  unfold X0_1 Pipeline.Window.fill
  rw [dif_pos (moved0_1 t _)]
  blk_point [iblk, V, idx t]

/-- The buffer's block at a point is the first layer's buffer of the point's rows. -/
theorem read_buffer (c : Dev nD) (t : Fin cfg0.N) (k : Fin 3) (r : Fin 8) (e : Fin 1024) (b : Fin 128) (hb : b.val = t.val * 8 + r.val) :
    iblk m c 3 t (ix4 0 k r e) = m ((c : Thread nD τ).loc main_arg1) (ix4 0 b k e) := by
  blk_point [iblk, V, idx t]

/-- What a point leaves of the buffer's block: the buffer after the input, row by row. -/
theorem out_eq (c : Dev nD) (t : Fin cfg0.N) (y : S3x8x1024.Idx) :
    (outsAt0 m c t).2.1 y
      = next (fun k => iblk m c 3 t (ix4 0 k (y 1) (y 2))) (X0_1 m c t (ix2 (y 1) (y 2))) (y 0) := by
  unfold outsAt0
  dsimp only
  unfold out0_A_12
  frame_out
  refine canon_step _ _ _ (rect (fun j r e => next (fun k => iblk m c 3 t (ix4 0 k r e)) (X0_1 m c t (ix2 r e)) j) 2 y _ _
    fun r e => ?_) fun h2 => ?_
  · pointwise [k0_pay6]
    rfl
  refine canon_step _ _ _ (rect (fun j r e => next (fun k => iblk m c 3 t (ix4 0 k r e)) (X0_1 m c t (ix2 r e)) j) 1 y _ _
    fun r e => ?_) fun h1 => ?_
  · pointwise [k0_pay5, k0_pay3, View.ld]
    rfl
  refine canon_step _ _ _ (rect (fun j r e => next (fun k => iblk m c 3 t (ix4 0 k r e)) (X0_1 m c t (ix2 r e)) j) 0 y _ _
    fun r e => ?_) fun h0 => absurd ⟨h0, h1, h2⟩ (cover y)
  pointwise [k0_pay4, k0_pay2, View.ld]
  rfl

/-- The reference's result of device `c`'s argument arrays. -/
abbrev want (c : Dev nD) : FVec Ideal Cert.SsdConvRefIdeal.S3x128x1024 .f32 :=
  Cert.SsdConvRefIdeal.RefValue.REF (m ((c : Thread nD τ).loc main_arg0)) (m ((c : Thread nD τ).loc main_arg1))

/-- What a point leaves at an index of its block is the reference's entry there. -/
theorem point (c : Dev nD) (t : Fin cfg0.N) (j : Fin 3) (r : Fin 8) (e : Fin 1024) (b : Fin 128) (hb : b.val = t.val * 8 + r.val) :
    (outsAt0 m c t).2.1 (ix3 j r e) = want m c (ix3 j b e) := by
  rw [out_eq]
  refine Eq.trans ?_ (Cert.SsdConvRefIdeal.RefValue.REF_apply _ _ j b e).symm
  show next (fun k => iblk m c 3 t (ix4 0 k r e)) (X0_1 m c t (ix2 r e)) j = _
  simp only [read_buffer m c t _ r e b hb, read_input m c t r e b hb]

/-- The result array after the run is the reference's result. -/
theorem final (c : Dev nD) : (dats m 0 c).arrAt 12 (cfgs 0).N = want m c := by
  refine (dats m 0 c).arrAt_eq_of_covers 12 _ (by decide +kernel) fun t _ y => ?_
  blk_simp
  rw [after0_12]
  have ht : t.val < 16 := lt_of_lt_of_eq t.isLt N_0
  have hy : (y 1 : ℕ) < 8 := (y 1).isLt
  rw [eq_ix3 y]
  refine (point m c t (y 0) (y 1) (y 2) ⟨t.val * 8 + (y 1 : ℕ), by omega⟩ rfl).trans (congrArg (want m c) ?_)
  blk_ext [idx t]

/-- The kernel and its reference leave the same buffer, both from any contents of the arguments. -/
theorem agrees : Cert.algebraic_SsdConvIdeal_SsdConvRefIdeal := by
  pair_intro
  · run_from Cert.SsdConvIdeal.Value.run_blocks m g
  · run_from Cert.SsdConvRefIdeal.RefValue.result_eq m' g'
    exact (final m c).symm

end Cert.SsdConvIdeal.RefValue

end
-- ==== Proof.GdnConvFinal.lean ====
/-
  The decoding step of the gated delta mixer: the convolution's buffer that the kernel leaves is the reference's.
-/
module

public import proofs.«01_k».proof.Proof.Gen.GdnConvIdeal.Value
public import proofs.«01_k».proof.Proof.Gen.GdnConvRefIdeal.Run
public import proofs.«01_k».proof.Defs
public import proofs.«01_k».proof.Proof.ConvShift
public import Idealize.ShloMosaic.Lib.Claim

@[expose] public section

set_option maxRecDepth 65536

noncomputable section

namespace Cert.GdnConvRefIdeal.RefValue

open Cert.GdnConvRefIdeal Cert.GdnConvRefIdeal.Gen Idealize.ShloMosaic Idealize.ShloMosaic.TcCoe Idealize.SL.Sem
open Cert.Shift

/-- The buffer of the first layer. -/
def buffer (S : FVec Ideal S4x128x3x1536 .f32) : FVec Ideal S128x3x1536 .f32 :=
  shapeCast _ (extractStridedSlice S1x128x3x1536 ![0, 0, 0, 0] S slices_S4x128x3x1536_S1x128x3x1536_0_0_0_0) shapeCasts_S1x128x3x1536_S128x3x1536

/-- The convolution's input, of the packed projection. -/
def input (P : FVec Ideal S128x11520 .f32) : FVec Ideal S128x1x1536 .f32 :=
  broadcastInDim S128x1x1536 ![0, 2] bcast_S128x1536_S128x1x1536_0_2 (extractStridedSlice S128x1536 ![0, 3072] P slices_S128x11520_S128x1536_0_3072)

/-- The reference's result of the packed projection and the buffers. -/
def REF (P : FVec Ideal S128x11520 .f32) (S : FVec Ideal S4x128x3x1536 .f32) : FVec Ideal S3x128x1536 .f32 :=
  transpose S3x128x1536 [1, 0, 2] (extractStridedSlice S128x3x1536 ![0, 1, 0] (concatenate S128x4x1536 1 [⟨S128x3x1536, buffer S⟩, ⟨S128x1x1536, input P⟩] concatenates_S128x3x1536_S128x1x1536_S128x4x1536_d1) slices_S128x4x1536_S128x3x1536_0_1_0) transposes_S128x3x1536_S3x128x1536_1_0_2

/-- An entry of the first layer's buffer. -/
theorem buffer_apply (S : FVec Ideal S4x128x3x1536 .f32) (b : Fin 128) (k : Fin 3) (e : Fin 1536) :
    buffer S (ix3 b k e) = S (ix4 0 b k e) := by
  pointwise [buffer]
  all_goals blk_ext

/-- An entry of the convolution's input. -/
theorem input_apply (P : FVec Ideal S128x11520 .f32) (b : Fin 128) (e : Fin 1536) :
    input P (ix3 b 0 e) = P (ix2 b ⟨3072 + e.val, by omega⟩) := by
  pointwise [input]
  all_goals blk_ext

/-- An entry of the reference: the buffer after the input. -/
theorem REF_apply (P : FVec Ideal S128x11520 .f32) (S : FVec Ideal S4x128x3x1536 .f32) (j : Fin 3) (b : Fin 128) (e : Fin 1536) :
    REF P S (ix3 j b e) = next (fun k => S (ix4 0 b k e)) (P (ix2 b ⟨3072 + e.val, by omega⟩)) j := by
  unfold REF
  refine (moved_apply (buffer S) (input P) _ _ _ j b e).trans ?_
  simp only [buffer_apply, input_apply]

/-- The generated composed term is `REF` of the arguments. -/
theorem result_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.GdnConvRefIdeal.Value.run m ρ

end Cert.GdnConvRefIdeal.RefValue

namespace Cert.GdnConvIdeal.RefValue

open Cert.GdnConvIdeal Cert.GdnConvIdeal.Gen Idealize.ShloMosaic Idealize.ShloMosaic.TcCoe Idealize.SL.Sem
open Cert.Shift
open Cert.MlstmIdeal.RefValue (canon_step)

variable (m : (ℓ : Loc nD τ sig) → Buf (Elt Ideal) ℓ) (ρ : Dev nD → PrngReg)

/-- The blocks that the input's, the buffer's and the result's windows stage at a grid point. -/
theorem idx : ∀ t : Fin cfg0.N, win0_0.index t = ![t.val, 2] ∧ win0_3.index t = ![0, 0, t.val, 0]
    ∧ win0_10.index t = ![0, t.val, 0] :=
  (by decide +kernel : ∀ t : Fin grid0.N, _)

/-- The convolution's input at a point is columns of the point's rows. -/
theorem read_input (c : Dev nD) (t : Fin cfg0.N) (r : Fin 8) (e : Fin 1536) (b : Fin 128) (hb : b.val = t.val * 8 + r.val) :
    X0_0 m c t (ix2 r e) = m ((c : Thread nD τ).loc main_arg0) (ix2 b ⟨3072 + e.val, by omega⟩) := by
  unfold X0_0 Pipeline.Window.fill
  rw [dif_pos (moved0_0 t _)]
  blk_point [iblk, V, idx t]

/-- The buffer's block at a point is the first layer's buffer of the point's rows. -/
theorem read_buffer (c : Dev nD) (t : Fin cfg0.N) (k : Fin 3) (r : Fin 8) (e : Fin 1536) (b : Fin 128) (hb : b.val = t.val * 8 + r.val) :
    iblk m c 3 t (ix4 0 k r e) = m ((c : Thread nD τ).loc main_arg1) (ix4 0 b k e) := by
  blk_point [iblk, V, idx t]

/-- What a point leaves of the buffer's block: the buffer after the input, row by row. -/
theorem out_eq (c : Dev nD) (t : Fin cfg0.N) (y : S3x8x1536.Idx) :
    (outsAt0 m c t).2.1 y
      = next (fun k => iblk m c 3 t (ix4 0 k (y 1) (y 2))) (X0_0 m c t (ix2 (y 1) (y 2))) (y 0) := by
  unfold outsAt0
  dsimp only
  unfold out0_A_10
  frame_out
  refine canon_step _ _ _ (rect (fun j r e => next (fun k => iblk m c 3 t (ix4 0 k r e)) (X0_0 m c t (ix2 r e)) j) 2 y _ _
    fun r e => ?_) fun h2 => ?_
  · pointwise [k0_pay7]
    rfl
  refine canon_step _ _ _ (rect (fun j r e => next (fun k => iblk m c 3 t (ix4 0 k r e)) (X0_0 m c t (ix2 r e)) j) 1 y _ _
    fun r e => ?_) fun h1 => ?_
  · pointwise [k0_pay6, k0_pay4, View.ld]
    rfl
  refine canon_step _ _ _ (rect (fun j r e => next (fun k => iblk m c 3 t (ix4 0 k r e)) (X0_0 m c t (ix2 r e)) j) 0 y _ _
    fun r e => ?_) fun h0 => absurd ⟨h0, h1, h2⟩ (cover y)
  pointwise [k0_pay5, k0_pay3, View.ld]
  rfl

/-- The reference's result of device `c`'s argument arrays. -/
abbrev want (c : Dev nD) : FVec Ideal Cert.GdnConvRefIdeal.S3x128x1536 .f32 :=
  Cert.GdnConvRefIdeal.RefValue.REF (m ((c : Thread nD τ).loc main_arg0)) (m ((c : Thread nD τ).loc main_arg1))

/-- What a point leaves at an index of its block is the reference's entry there. -/
theorem point (c : Dev nD) (t : Fin cfg0.N) (j : Fin 3) (r : Fin 8) (e : Fin 1536) (b : Fin 128) (hb : b.val = t.val * 8 + r.val) :
    (outsAt0 m c t).2.1 (ix3 j r e) = want m c (ix3 j b e) := by
  rw [out_eq]
  refine Eq.trans ?_ (Cert.GdnConvRefIdeal.RefValue.REF_apply _ _ j b e).symm
  show next (fun k => iblk m c 3 t (ix4 0 k r e)) (X0_0 m c t (ix2 r e)) j = _
  simp only [read_buffer m c t _ r e b hb, read_input m c t r e b hb]

/-- The result array after the run is the reference's result. -/
theorem final (c : Dev nD) : (dats m 0 c).arrAt 10 (cfgs 0).N = want m c := by
  refine (dats m 0 c).arrAt_eq_of_covers 10 _ (by decide +kernel) fun t _ y => ?_
  blk_simp
  rw [after0_10]
  have ht : t.val < 16 := lt_of_lt_of_eq t.isLt N_0
  have hy : (y 1 : ℕ) < 8 := (y 1).isLt
  rw [eq_ix3 y]
  refine (point m c t (y 0) (y 1) (y 2) ⟨t.val * 8 + (y 1 : ℕ), by omega⟩ rfl).trans (congrArg (want m c) ?_)
  blk_ext [idx t]

/-- The kernel and its reference leave the same buffer, both from any contents of the arguments. -/
theorem agrees : Cert.algebraic_GdnConvIdeal_GdnConvRefIdeal := by
  pair_intro
  · run_from Cert.GdnConvIdeal.Value.run_blocks m g
  · run_from Cert.GdnConvRefIdeal.RefValue.result_eq m' g'
    exact (final m c).symm

end Cert.GdnConvIdeal.RefValue

end
-- ==== Proof.StepUnit.lean ====
/-
  The vector arithmetic of one head of the mLSTM decoding step: eight rows of the batch, from their states.
  The kernel's body does this four times at a grid point, once for each head.
-/
module

public import proofs.«01_k».proof.Proof.MlstmCases
public import proofs.«01_k».proof.Proof.Gen.MlstmStepIdeal.Value
public import Idealize.ShloMosaic.Lib.Pipeline.ReadBack

@[expose] public section

set_option maxRecDepth 65536

noncomputable section

namespace Cert.MlstmStepIdeal.Piece

open Cert.MlstmStepIdeal Cert.MlstmStepIdeal.Gen Idealize.ShloMosaic Idealize.ShloMosaic.TcCoe Idealize.SL.Sem

/-- What one head of eight rows reads: queries, scaled keys, values, output gate inputs, the input gate, the log forget
    gate, the gain, and the rows' states: matrices, normalisers and stabilisers. -/
structure In where
  q : FVec Ideal S8x128 .f32
  k : FVec Ideal S8x128 .f32
  v : FVec Ideal S8x128 .f32
  o : FVec Ideal S8x128 .f32
  i : FVec Ideal S8x1 .f32
  b : FVec Ideal S8x1 .f32
  g : FVec Ideal S1x128 .f32
  C : Fin 8 → FVec Ideal S128x128 .f32
  n : FVec Ideal S8x128 .f32
  m : FVec Ideal S8x1 .f32

/-- The stabiliser after the step. -/
def mt (u : In) : FVec Ideal S8x1 .f32 := maximumf (addf u.b u.m) u.i

/-- The weight of the old state. -/
def wprev (u : In) : FVec Ideal S8x1 .f32 := exp (subf (addf u.b u.m) (mt u))

/-- The weight of the step's key. -/
def wj (u : In) : FVec Ideal S8x1 .f32 := exp (subf u.i (mt u))

/-- The sum of each row. -/
def rowSum (x : FVec Ideal S8x128 .f32) : FVec Ideal S8x1 .f32 :=
  shapeCast S8x1 (multiReduction .add [1] S8 x 0x00000000#32 reduces_S8x128_S8 (.inl rfl) rfl) shapeCasts_S8_S8x1

/-- The weighted score of the step. -/
def score (u : In) : FVec Ideal S8x1 .f32 := mulf (rowSum (mulf u.q u.k)) (wj u)

/-- Every row's query against the matrix of row `r`. -/
def against (u : In) (r : Fin 8) : FVec Ideal S8x128 .f32 :=
  matmul dot_S8x128_S128x128_S8x128_1_0_0_1_n_n none (truncf .bf16 u.q bitsLt_bf16_f32) (truncf .bf16 (u.C r) bitsLt_bf16_f32)
    (constant S8x128 .f32 0x00000000#32)

/-- Row `r` of one block in place of that row of another. -/
def pick (r : BitVec 32) (a b : FVec Ideal S8x128 .f32) : FVec Ideal S8x128 .f32 :=
  select (cmpi .eq (iota .tc S8x128 32 [0] iota_S8x128_d0_w32) (broadcast S8x128 r)) a b

/-- Every row's query against its own matrix. -/
def qc (u : In) : FVec Ideal S8x128 .f32 :=
  pick 7#32 (against u 7) (pick 6#32 (against u 6) (pick 5#32 (against u 5) (pick 4#32 (against u 4) (pick 3#32 (against u 3)
    (pick 2#32 (against u 2) (pick 1#32 (against u 1) (against u 0)))))))

/-- The reading before its scale. -/
def num (u : In) : FVec Ideal S8x128 .f32 :=
  addf (mulf (broadcastTo S8x128 (wprev u) broadcasts_S8x1_S8x128) (qc u))
    (mulf (broadcastTo S8x128 (score u) broadcasts_S8x1_S8x128) u.v)

/-- The scale of the reading. -/
def den (u : In) : FVec Ideal S8x1 .f32 := addf (mulf (wprev u) (rowSum (mulf u.q u.n))) (score u)

/-- The reading. -/
def hid (u : In) : FVec Ideal S8x128 .f32 :=
  divf (num u)
    (broadcastTo S8x128
      (maximumf (absf (den u)) (exp (subf (broadcast S8x1 (Scalar.ofBits .f32 0x00000000#32)) (mt u))))
      broadcasts_S8x1_S8x128)

/-- The reading normalised, times the gain and the output gate. -/
def gated (h o : FVec Ideal S8x128 .f32) (g : FVec Ideal S1x128 .f32) : FVec Ideal S8x128 .f32 :=
  mulf
    (mulf
      (mulf h
        (broadcastTo S8x128
          (rsqrt (addf (divf (rowSum (mulf h h)) (broadcast S8x1 (Scalar.ofBits .f32 0x43000000#32)))
            (broadcast S8x1 (Scalar.ofBits .f32 0x358637BD#32))))
          broadcasts_S8x1_S8x128))
      (broadcastTo S8x128 g broadcasts_S1x128_S8x128))
    (divf (broadcast S8x128 (Scalar.ofBits .f32 0x3F800000#32))
      (addf (broadcast S8x128 (Scalar.ofBits .f32 0x3F800000#32))
        (exp (subf (broadcast S8x128 (Scalar.ofBits .f32 0x00000000#32)) o))))

/-- What the head stores of its reading. -/
def out (u : In) : FVec Ideal S8x128 .f32 := gated (hid u) u.o u.g

/-- The weighted keys. -/
def kw (u : In) : FVec Ideal S8x128 .f32 := mulf u.k (broadcastTo S8x128 (wj u) broadcasts_S8x1_S8x128)

/-- The leading part of a block's numbers. -/
def hi (x : FVec Ideal S8x128 .f32) : FVec Ideal S8x128 .f32 := extf .f32 (truncf .bf16 x bitsLt_bf16_f32) bitsLt_bf16_f32

/-- What the leading part leaves. -/
def lo (x : FVec Ideal S8x128 .f32) : FVec Ideal S8x128 .f32 := hi (subf x (hi x))

/-- A block of zeros. -/
def zeros : FVec Ideal S8x128 .f32 := broadcast S8x128 (Scalar.ofBits .f32 0x00000000#32)

/-- Four blocks of eight rows, one below the other. -/
def stack (a b c d : FVec Ideal S8x128 .f32) : FVec Ideal S32x128 .f32 :=
  concatenate S32x128 0 [⟨S8x128, a⟩, ⟨S8x128, b⟩, ⟨S8x128, c⟩, ⟨S8x128, d⟩] concatenates_S8x128_S8x128_S8x128_S8x128_S32x128_d0

/-- The left factor of the outer products: the parts of the weighted keys as columns. -/
def lhs (x : FVec Ideal S8x128 .f32) : FVec Ideal S128x32 .bf16 :=
  truncf .bf16 (transpose S128x32 [1, 0] (stack (hi x) (hi x) (lo x) zeros) transposes_S32x128_p1_0_S128x32) bitsLt_bf16_f32

/-- Row `r` of a block, the others zero. -/
def keep (r : BitVec 32) (x : FVec Ideal S8x128 .f32) : FVec Ideal S8x128 .f32 := pick r x zeros

/-- The right factor of the outer product of row `r`: the parts of that row. -/
def rhs (r : BitVec 32) (x : FVec Ideal S8x128 .f32) : FVec Ideal S32x128 .bf16 :=
  truncf .bf16 (stack (hi (keep r x)) (lo (keep r x)) (hi (keep r x)) zeros) bitsLt_bf16_f32

/-- The entry of row `r` of a column is a slice of it. -/
theorem one_slices (r : Fin 8) : S8x1.Slices ![r.val, 0] S1x1 := by
  revert r
  decide

/-- The matrix of row `r` after the step. -/
def newC (u : In) (r : Fin 8) : FVec Ideal S128x128 .f32 :=
  addf (mulf (u.C r) (broadcastTo S128x128 (extractStridedSlice S1x1 ![r.val, 0] (wprev u) (one_slices r)) broadcasts_S1x1_S128x128))
    (matmul dot_S128x32_S32x128_S128x128_1_0_0_1_n_n none (lhs (kw u)) (rhs (BitVec.ofNat 32 r.val) u.v)
      (constant S128x128 .f32 0x00000000#32))

/-- The normalisers after the step. -/
def newN (u : In) : FVec Ideal S8x128 .f32 := addf (mulf u.n (broadcastTo S8x128 (wprev u) broadcasts_S8x1_S8x128)) (kw u)

section Inputs

variable (x0 x1 x2 x3 : Vec Ideal S8x512 .f32) (x4 : Vec Ideal S8x256 .f32) (x5 : Vec Ideal S1x8x4x128x128 .f32)
  (x6 : Fin 4 → Vec Ideal S1x8x128 .f32) (x7 : Vec Ideal S1x8x4 .f32) (x8 : Vec Ideal S1x256 .f32) (x9 : Vec Ideal S1x128 .f32)

/-- A head's columns of a block. -/
abbrev cols (x : Vec Ideal S8x512 .f32) (h : Fin 4) : FVec Ideal S8x128 .f32 :=
  View.ld x (Rect.unit ![0, 128 * h.val] ![8, 128] (by revert h; decide))

/-- The gates' inputs, the bias added. -/
abbrev gates : FVec Ideal S8x128 .f32 :=
  k0_pay3 (View.ld x4 (Rect.unit ![0, 0] ![8, 128] (by decide))) (View.ld x8 (Rect.unit ![0, 0] ![1, 128] (by decide)))

/-- The log forget gates. -/
abbrev logs : FVec Ideal S8x128 .f32 :=
  k0_pay4 (View.ld x4 (Rect.unit ![0, 0] ![8, 128] (by decide))) (View.ld x8 (Rect.unit ![0, 0] ![1, 128] (by decide)))

/-- The stabilisers of every head. -/
abbrev stabs : FVec Ideal S8x4 .f32 := k0_pay5 x7

/-- A head's column of the gates is a slice of them. -/
theorem col_slices (k : ℕ) (hk : k + 1 ≤ 128) : S8x128.Slices ![0, k] S8x1 := by
  refine ⟨rfl, fun a => ?_⟩
  fin_cases a
  · exact Nat.le_refl 8
  · exact hk

/-- A head's column of the stabilisers is a slice of them. -/
theorem stab_slices (h : Fin 4) : S8x4.Slices ![0, h.val] S8x1 := by
  revert h
  decide

/-- The matrix of row `r` and head `h`. -/
abbrev mat (r : Fin 8) (h : Fin 4) : FVec Ideal S128x128 .f32 :=
  shapeCast S128x128 (View.ld x5 (Rect.unit ![0, r.val, h.val, 0, 0] ![1, 1, 1, 128, 128] (by revert r h; decide)))
    shapeCasts_S1x1x1x128x128_S128x128

/-- What head `h` of a grid point reads of the point's blocks. -/
def ins (h : Fin 4) : In where
  q := cols x0 h
  k := mulf (cols x1 h) (broadcast S8x128 (Scalar.ofBits .f32 0x3DB504F3#32))
  v := cols x2 h
  o := cols x3 h
  i := extractStridedSlice S8x1 ![0, 16 + h.val] (gates x4 x8) (col_slices _ (by omega))
  b := extractStridedSlice S8x1 ![0, 20 + h.val] (logs x4 x8) (col_slices _ (by omega))
  g := k0_pay2 x9
  C r := mat x5 r h
  n := shapeCast S8x128 (x6 h) shapeCasts_S1x8x128_S8x128
  m := extractStridedSlice S8x1 ![0, h.val] (stabs x7) (stab_slices h)

end Inputs

end Cert.MlstmStepIdeal.Piece

end
-- ==== Proof.StepMath.lean ====
/-
  One step of the mLSTM recurrence of one row and head, in plain extended-real arithmetic, and what the kernel's vector
  arithmetic makes of eight rows, entry by entry.
-/
module

public import proofs.«01_k».proof.Proof.StepUnit

@[expose] public section

set_option maxRecDepth 65536

noncomputable section

namespace Cert.Step

open Idealize.ShloMosaic

/-- What a row's head reads: query, scaled key, value, input gate, log forget gate, and its state. -/
structure Cell where
  q : Fin 128 → EReal
  k : Fin 128 → EReal
  v : Fin 128 → EReal
  i : EReal
  b : EReal
  C : Fin 128 → Fin 128 → EReal
  n : Fin 128 → EReal
  m : EReal

/-- The stabiliser after the step. -/
def Cell.mt (c : Cell) : EReal := max (c.b + c.m) c.i

/-- The weight of the old state. -/
def Cell.wprev (c : Cell) : EReal := Ideal.exp (c.b + c.m - c.mt)

/-- The weight of the step. -/
def Cell.wj (c : Cell) : EReal := Ideal.exp (c.i - c.mt)

/-- The weighted score. -/
def Cell.score (c : Cell) : EReal := (∑ d, c.q d * c.k d) * c.wj

/-- The reading before its scale. -/
def Cell.num (c : Cell) (e : Fin 128) : EReal := c.wprev * (∑ d, c.q d * c.C d e) + c.score * c.v e

/-- The scale of the reading. -/
def Cell.den (c : Cell) : EReal := c.wprev * (∑ d, c.q d * c.n d) + c.score

/-- The reading. -/
def Cell.hid (c : Cell) (e : Fin 128) : EReal := Ideal.div (c.num e) (max (max c.den (-c.den)) (Ideal.exp (-c.mt)))

/-- The matrix after the step. -/
def Cell.newC (c : Cell) (d e : Fin 128) : EReal := c.C d e * c.wprev + c.k d * c.wj * c.v e

/-- The normaliser after the step. -/
def Cell.newN (c : Cell) (d : Fin 128) : EReal := c.n d * c.wprev + c.k d * c.wj

/-- What head `h` of row `b` reads of the packed projections, the states and the gates' biases. -/
def cellOf (P : (⟨2, ![128, 11520]⟩ : Shape).Idx → EReal) (C : (⟨5, ![4, 128, 4, 128, 128]⟩ : Shape).Idx → EReal)
    (n : (⟨4, ![4, 128, 4, 128]⟩ : Shape).Idx → EReal) (s : (⟨3, ![4, 128, 4]⟩ : Shape).Idx → EReal)
    (ib fb : (⟨1, ![4]⟩ : Shape).Idx → EReal) (b : Fin 128) (h : Fin 4) : Cell where
  q d := P (ix2 b (Cert.Chunk.col 5120 (by omega) h d))
  k d := P (ix2 b (Cert.Chunk.col 5632 (by omega) h d)) * Ideal.ofBits FTy.f32 1035273459#32
  v d := P (ix2 b (Cert.Chunk.col 6144 (by omega) h d))
  i := P (ix2 b ⟨11280 + h.val, by omega⟩) + ib (ix1 h)
  b := Cert.Chunk.logSig (P (ix2 b ⟨11284 + h.val, by omega⟩) + fb (ix1 h))
  C d e := C (ix5 0 b h d e)
  n d := n (ix4 0 b h d)
  m := s (ix3 0 b h)

/-- A number that is neither infinity. -/
def Real (x : EReal) : Prop := x ≠ ⊥ ∧ x ≠ ⊤

/-- A number less itself is zero unless it is infinite. -/
theorem Real.sub_self {x : EReal} (h : Real x) : x - x = 0 := EReal.sub_self h.2 h.1

/-- A product of real numbers is real. -/
theorem Real.mul {x y : EReal} (hx : Real x) (hy : Real y) : Real (x * y) := by
  lift x to ℝ using ⟨hx.2, hx.1⟩
  lift y to ℝ using ⟨hy.2, hy.1⟩
  rw [← EReal.coe_mul]
  exact ⟨EReal.coe_ne_bot _, EReal.coe_ne_top _⟩

/-- The weight of a step is real. -/
theorem Cell.wj_real (c : Cell) : Real c.wj := by
  have hle : c.i ≤ c.mt := le_max_right _ _
  have hz : Ideal.exp ⊥ = 0 := rfl
  have h0 : Real 0 := ⟨EReal.zero_ne_bot, EReal.zero_ne_top⟩
  unfold Cell.wj
  generalize c.mt = z at hle
  generalize c.i = x at hle
  induction x using EReal.rec with
  | bot =>
    rw [sub_eq_add_neg, EReal.bot_add, hz]
    exact h0
  | top =>
    rw [top_le_iff.mp hle, sub_eq_add_neg, EReal.neg_top, EReal.add_bot, hz]
    exact h0
  | coe x =>
    induction z using EReal.rec with
    | bot => exact absurd (le_bot_iff.mp hle) (EReal.coe_ne_bot x)
    | coe y =>
      rw [← EReal.coe_sub]
      exact ⟨EReal.coe_ne_bot _, EReal.coe_ne_top _⟩
    | top =>
      rw [sub_eq_add_neg, EReal.neg_top, EReal.add_bot, hz]
      exact h0

end Cert.Step

namespace Cert.MlstmStepIdeal.Piece

open Cert.MlstmStepIdeal Cert.MlstmStepIdeal.Gen Idealize.ShloMosaic Idealize.ShloMosaic.TcCoe Idealize.SL.Sem Cert.Step

/-- The arrays a head reads hold eight rows' numbers. -/
structure Holds (u : In) (c : Fin 8 → Cell) : Prop where
  q : ∀ r d, u.q (ix2 r d) = (c r).q d
  k : ∀ r d, u.k (ix2 r d) = (c r).k d
  v : ∀ r d, u.v (ix2 r d) = (c r).v d
  i : ∀ r, u.i (ix2 r 0) = (c r).i
  b : ∀ r, u.b (ix2 r 0) = (c r).b
  C : ∀ r d e, u.C r (ix2 d e) = (c r).C d e
  n : ∀ r d, u.n (ix2 r d) = (c r).n d
  m : ∀ r, u.m (ix2 r 0) = (c r).m

/-- The sum of a row. -/
theorem rowSum_apply (x : FVec Ideal S8x128 .f32) (r : Fin 8) : rowSum x (ix2 r 0) = ∑ d, x (ix2 r d) := by
  unfold rowSum
  pointwise

/-- One row in place of another. -/
theorem pick_apply (k : ℕ) (hk : k < 8) (a b : FVec Ideal S8x128 .f32) (r : Fin 8) (e : Fin 128) :
    pick (BitVec.ofNat 32 k) a b (ix2 r e) = if r.val = k then a (ix2 r e) else b (ix2 r e) := by
  unfold pick
  pointwise
  rw [WordCmp.cmpi_eq_ofNat (by omega) (by omega)]
  by_cases h : r.val = k
  · simp [h, Scalar.select]
  · simp [h, Scalar.select]

section Entries

variable {u : In} {c : Fin 8 → Cell} (hu : Holds u c)
include hu

/-- The stabilisers, entry by entry. -/
theorem mt_apply (r : Fin 8) : mt u (ix2 r 0) = (c r).mt := by
  unfold mt Cell.mt
  pointwise
  simp only [hu.b, hu.m, hu.i]

/-- The old states' weights, entry by entry. -/
theorem wprev_apply (r : Fin 8) : wprev u (ix2 r 0) = (c r).wprev := by
  unfold wprev Cell.wprev
  pointwise
  simp only [hu.b, hu.m, mt_apply hu]

/-- The steps' weights, entry by entry. -/
theorem wj_apply (r : Fin 8) : wj u (ix2 r 0) = (c r).wj := by
  unfold wj Cell.wj
  pointwise
  simp only [hu.i, mt_apply hu]

/-- The weighted scores, entry by entry. -/
theorem score_apply (r : Fin 8) : score u (ix2 r 0) = (c r).score := by
  unfold score Cell.score
  pointwise
  rw [rowSum_apply, wj_apply hu]
  refine congrArg (· * _) (Finset.sum_congr rfl fun d _ => ?_)
  pointwise
  simp only [hu.q, hu.k]

/-- Every row's query against one row's matrix. -/
theorem against_apply (r k : Fin 8) (e : Fin 128) : against u k (ix2 r e) = ∑ d, (c r).q d * (c k).C d e := by
  unfold against
  pointwise
  simp only [hu.q, hu.C]

/-- Every row's query against its own matrix. -/
theorem qc_apply (r : Fin 8) (e : Fin 128) : qc u (ix2 r e) = ∑ d, (c r).q d * (c r).C d e := by
  refine Eq.trans ?_ (against_apply hu r r e)
  unfold qc
  rw [pick_apply 7 (by decide), pick_apply 6 (by decide), pick_apply 5 (by decide), pick_apply 4 (by decide),
    pick_apply 3 (by decide), pick_apply 2 (by decide), pick_apply 1 (by decide)]
  fin_cases r <;> simp

/-- The unscaled readings, entry by entry. -/
theorem num_apply (r : Fin 8) (e : Fin 128) : num u (ix2 r e) = (c r).num e := by
  unfold num Cell.num
  pointwise
  simp only [wprev_apply hu, qc_apply hu, score_apply hu, hu.v]

/-- The readings' scales, entry by entry. -/
theorem den_apply (r : Fin 8) : den u (ix2 r 0) = (c r).den := by
  unfold den Cell.den
  pointwise
  rw [rowSum_apply, wprev_apply hu, score_apply hu]
  refine congrArg (fun z => _ * z + _) (Finset.sum_congr rfl fun d _ => ?_)
  pointwise
  simp only [hu.q, hu.n]

/-- The readings, entry by entry. -/
theorem hid_apply (r : Fin 8) (e : Fin 128) : hid u (ix2 r e) = (c r).hid e := by
  unfold hid Cell.hid
  pointwise
  simp only [num_apply hu, den_apply hu, mt_apply hu, zero_sub]
  rfl

omit hu in
/-- The gated readings, entry by entry. -/
theorem gated_apply (h o : FVec Ideal S8x128 .f32) (g : FVec Ideal S1x128 .f32) (r : Fin 8) (e : Fin 128) :
    gated h o g (ix2 r e) = Cert.Chunk.gated (fun e => h (ix2 r e)) (fun e => g (ix2 0 e)) (o (ix2 r e)) e := by
  unfold gated Cert.Chunk.gated
  pointwise
  rw [rowSum_apply]
  simp only [zero_sub]
  rfl

/-- What a head stores of its readings, entry by entry. -/
theorem out_apply (r : Fin 8) (e : Fin 128) :
    out u (ix2 r e) = Cert.Chunk.gated (c r).hid (fun e => u.g (ix2 0 e)) (u.o (ix2 r e)) e := by
  unfold out
  rw [gated_apply]
  exact congrArg (fun h => Cert.Chunk.gated h _ _ e) (funext fun e => hid_apply hu r e)

/-- The weighted keys, entry by entry. -/
theorem kw_apply (r : Fin 8) (d : Fin 128) : kw u (ix2 r d) = (c r).k d * (c r).wj := by
  unfold kw
  pointwise
  simp only [hu.k, wj_apply hu]

/-- The normalisers after the step, entry by entry. -/
theorem newN_apply (r : Fin 8) (d : Fin 128) : newN u (ix2 r d) = (c r).newN d := by
  unfold newN Cell.newN
  pointwise
  simp only [hu.n, wprev_apply hu, kw_apply hu]

omit hu in
/-- An entry of four blocks stacked, in the block at place `k`. -/
theorem stack_piece (a b c d x : FVec Ideal S8x128 .f32) (k : Fin 4)
    (hk : k.val < ([⟨S8x128, a⟩, ⟨S8x128, b⟩, ⟨S8x128, c⟩, ⟨S8x128, d⟩] : List ((s : Shape) × (s.Idx → EReal))).length)
    (hx : ([⟨S8x128, a⟩, ⟨S8x128, b⟩, ⟨S8x128, c⟩, ⟨S8x128, d⟩] : List ((s : Shape) × (s.Idx → EReal)))[k.val] = ⟨S8x128, x⟩)
    (hp : (((([⟨S8x128, a⟩, ⟨S8x128, b⟩, ⟨S8x128, c⟩, ⟨S8x128, d⟩] : List ((s : Shape) × (s.Idx → EReal))).take k.val).map (·.1)).map
      fun s : Shape => if h : s.rank = 2 then s.size ((0 : Fin 2).cast h.symm) else 0).sum = 8 * k.val)
    (p : Fin 8) (e : Fin 128) : stack a b c d (ix2 (finProdFinEquiv (k, p)) e) = x (ix2 p e) := by
  refine concatenate_apply_piece (t := S32x128) 0 _ _ (ix2 (finProdFinEquiv (k, p)) e)
    k.val hk _ x hx rfl (8 * k.val) hp (ix2 p e) (fun z hz => ?_) ?_
  · fin_cases z
    · exact absurd rfl hz
    · rfl
  · show 8 * k.val + p.val = p.val + 8 * k.val
    omega

omit hu in
/-- An entry of four blocks stacked, by block and row. -/
theorem stack_apply (a b c d : FVec Ideal S8x128 .f32) (k : Fin 4) (p : Fin 8) (e : Fin 128) :
    stack a b c d (ix2 (finProdFinEquiv (k, p)) e) = (![a, b, c, d] k) (ix2 p e) := by
  fin_cases k
  · exact stack_piece a b c d a 0 (Nat.le_of_ble_eq_true rfl) rfl rfl p e
  · exact stack_piece a b c d b 1 (Nat.le_of_ble_eq_true rfl) rfl rfl p e
  · exact stack_piece a b c d c 2 (Nat.le_of_ble_eq_true rfl) rfl rfl p e
  · exact stack_piece a b c d d 3 (Nat.le_of_ble_eq_true rfl) rfl rfl p e

omit hu in
/-- The leading part of a number is the number. -/
theorem hi_eq (x : FVec Ideal S8x128 .f32) : hi x = x := rfl

omit hu in
/-- Of real numbers the leading part leaves nothing. -/
theorem lo_eq (x : FVec Ideal S8x128 .f32) (h : ∀ r d, Real (x (ix2 r d))) (r : Fin 8) (d : Fin 128) : lo x (ix2 r d) = 0 := by
  show x (ix2 r d) - x (ix2 r d) = 0
  exact (h r d).sub_self

omit hu in
/-- The zeros, entry by entry. -/
theorem zeros_apply (r : Fin 8) (d : Fin 128) : zeros (ix2 r d) = 0 := by
  unfold zeros
  pointwise

omit hu in
/-- The outer products' sum, of real numbers: the product of row `r`. -/
theorem outer_apply (x y : FVec Ideal S8x128 .f32) (hx : ∀ r d, Real (x (ix2 r d))) (hy : ∀ r d, Real (y (ix2 r d)))
    (r : Fin 8) (d e : Fin 128) :
    matmul dot_S128x32_S32x128_S128x128_1_0_0_1_n_n none (lhs x) (rhs (BitVec.ofNat 32 r.val) y)
      (constant S128x128 .f32 0x00000000#32) (ix2 d e) = x (ix2 r d) * y (ix2 r e) := by
  have hk : ∀ p e, keep (BitVec.ofNat 32 r.val) y (ix2 p e) = if p.val = r.val then y (ix2 p e) else 0 := fun p e => by
    unfold keep
    rw [pick_apply _ r.isLt, zeros_apply]
  have hkr : ∀ p e, Real (keep (BitVec.ofNat 32 r.val) y (ix2 p e)) := fun p e => by
    rw [hk]
    split_ifs
    · exact hy p e
    · exact ⟨EReal.zero_ne_bot, EReal.zero_ne_top⟩
  have hl : ∀ j, lhs x (ix2 d j) = stack (hi x) (hi x) (lo x) zeros (ix2 j d) := fun j => by
    unfold lhs
    pointwise
  have hr : ∀ j, rhs (BitVec.ofNat 32 r.val) y (ix2 j e)
      = stack (hi (keep (BitVec.ofNat 32 r.val) y)) (lo (keep (BitVec.ofNat 32 r.val) y))
          (hi (keep (BitVec.ofNat 32 r.val) y)) zeros (ix2 j e) := fun j => rfl
  have hs : matmul dot_S128x32_S32x128_S128x128_1_0_0_1_n_n none (lhs x) (rhs (BitVec.ofNat 32 r.val) y)
      (constant S128x128 .f32 0x00000000#32) (ix2 d e) = ∑ j, lhs x (ix2 d j) * rhs (BitVec.ofNat 32 r.val) y (ix2 j e) := by
    generalize lhs x = a
    generalize rhs (BitVec.ofNat 32 r.val) y = b
    pointwise
  rw [hs, ← (finProdFinEquiv (m := 4) (n := 8)).sum_comp, Fintype.sum_prod_type, Fin.sum_univ_four]
  simp only [hl, hr, stack_apply, Matrix.cons_val, hi_eq, lo_eq _ hkr, lo_eq _ hx, zeros_apply, mul_zero, zero_mul, Finset.sum_const_zero,
    add_zero, hk, mul_ite, Fin.val_inj, Finset.sum_ite_eq', Finset.mem_univ, if_true]

/-- The matrices after the step, entry by entry. -/
theorem newC_apply (hk : ∀ r d, Real ((c r).k d)) (hv : ∀ r d, Real ((c r).v d)) (r : Fin 8) (d e : Fin 128) :
    newC u r (ix2 d e) = (c r).newC d e := by
  have ho := outer_apply (kw u) u.v (fun r d => by rw [kw_apply hu]; exact (hk r d).mul ((c r).wj_real))
    (fun r d => by rw [hu.v]; exact hv r d) r d e
  have hw : extractStridedSlice S1x1 ![r.val, 0] (wprev u) (one_slices r) (ix2 0 0) = (c r).wprev := by
    refine (extractStridedSlice_apply _ _ _ _ (ix2 r 0) fun a => ?_).trans (wprev_apply hu r)
    fin_cases a
    · rfl
    · rfl
  unfold newC Cell.newC
  rw [kw_apply hu, hu.v] at ho
  rw [← ho]
  generalize matmul dot_S128x32_S32x128_S128x128_1_0_0_1_n_n none (lhs (kw u)) (rhs (BitVec.ofNat 32 r.val) u.v)
    (constant S128x128 .f32 0x00000000#32) = z
  rw [← hw, ← hu.C]
  generalize extractStridedSlice S1x1 ![r.val, 0] (wprev u) (one_slices r) = w
  pointwise

end Entries

end Cert.MlstmStepIdeal.Piece

end
-- ==== Proof.StepCases.lean ====
/-
  What a grid point of the mLSTM decoding kernel leaves in its output blocks, of what each head reads.
-/
module

public import proofs.«01_k».proof.Proof.StepUnit

@[expose] public section

set_option maxRecDepth 65536

noncomputable section

namespace Cert.MlstmStepIdeal.RefValue

open Cert.MlstmStepIdeal Cert.MlstmStepIdeal.Gen Idealize.ShloMosaic Idealize.ShloMosaic.TcCoe Idealize.SL.Sem

variable (m : (ℓ : Loc nD τ sig) → Buf (Elt Ideal) ℓ)

/-- A head's rows of the normalisers' block, every fourth. -/
abbrev norms (c : Dev nD) (t : Fin cfg0.N) (h : Fin 4) : Vec Ideal S1x8x128 .f32 :=
  View.readAt (Elt Ideal) (ms0_6 t).view
    { off := ![0, h.val, 0], size := ![1, 8, 128], stride := ![1, 4, 1], inb := by revert h; decide }
    ((hs0_6 t).unread (iblk m c 6 t))

/-- What head `h` of grid point `t` reads. -/
abbrev head (c : Dev nD) (t : Fin cfg0.N) (h : Fin 4) : Piece.In :=
  Piece.ins (X0_0 m c t) (X0_1 m c t) (X0_2 m c t) (X0_3 m c t) (iblk m c 4 t) (iblk m c 5 t) (norms m c t) (iblk m c 7 t)
    (iblk m c 8 t) (iblk m c 9 t) h

/-- The stabilisers' block, of the heads. -/
def stabOut (u : Fin 4 → Piece.In) : FVec Ideal S8x4 .f32 :=
  put 3#32 (u 3) (put 2#32 (u 2) (put 1#32 (u 1) (put 0#32 (u 0) (broadcast S8x4 (Scalar.ofBits .f32 0x00000000#32)))))
where
  /-- A head's stabilisers in their column of the block. -/
  put (h : BitVec 32) (u : Piece.In) (x : FVec Ideal S8x4 .f32) : FVec Ideal S8x4 .f32 :=
    select (cmpi .eq (iota .tc S8x4 32 [1] iota_S8x4_d1_w32) (broadcast S8x4 h))
      (broadcastTo S8x4 (shapeCast S8x1 (Piece.mt u) shapeCasts_S8x1_S8x1) broadcasts_S8x1_S8x4) x

/-- The stabilisers' block a point leaves. -/
theorem stab_left (c : Dev nD) (t : Fin cfg0.N) (y : S8x4.Idx) : (outsAt0 m c t).2.2.2 y = stabOut (head m c t) y := by
  unfold outsAt0
  dsimp only
  unfold out0_A_13
  frame_out
  rfl

section Lists

variable {S : Shape} {e : EltTy} {α : Type}

/-- Where every piece of a list made piece by piece has a value, the list has it. -/
theorem allAt_map (f : α → View.Piece (Elt Ideal) S e) (l : List α) (y : S.Idx) (v : Elt Ideal e)
    (h : ∀ a, View.RectAt y (f a).1 (f a).2 v) : View.AllAt (l.map f) y v := by
  intro p hp
  obtain ⟨a, _, rfl⟩ := List.mem_map.mp hp
  exact h a

end Lists

/-- The piece of the normalisers' block that head `h` stores. -/
def normPiece (U : Fin 4 → Piece.In) (h : Fin 4) : View.Piece (Elt Ideal) S4x8x128 .f32 :=
  ⟨Rect.unit (s := S4x8x128) ![h.val, 0, 0] ![1, 8, 128] (by revert h; decide),
    shapeCast S1x8x128 (Piece.newN (U h)) shapeCasts_S8x128_S1x8x128⟩

/-- The piece of the matrices' block of a head and a row. -/
def matPiece (U : Fin 4 → Piece.In) (p : Fin 8 × Fin 4) : View.Piece (Elt Ideal) S8x4x128x128 .f32 :=
  ⟨Rect.unit (s := S8x4x128x128) ![p.1.val, p.2.val, 0, 0] ![1, 1, 128, 128] (by
      obtain ⟨r, h⟩ := p
      revert r h
      decide),
    shapeCast S1x1x128x128 (Piece.newC (U p.2) p.1) shapeCasts_S128x128_S1x1x128x128⟩

/-- The piece of the readings' block that head `h` stores. -/
def outPiece (U : Fin 4 → Piece.In) (h : Fin 4) : View.Piece (Elt Ideal) S8x512 .f32 :=
  ⟨Rect.unit (s := S8x512) ![0, 128 * h.val] ![8, 128] (by revert h; decide), Piece.out (U h)⟩

/-- The heads, last first. -/
abbrev heads : List (Fin 4) := [3, 2, 1, 0]

/-- The heads and rows, last first. -/
abbrev headRows : List (Fin 8 × Fin 4) := heads.flatMap fun h => [(7, h), (6, h), (5, h), (4, h), (3, h), (2, h), (1, h), (0, h)]

/-- A head's piece of the normalisers' block holds its normalisers. -/
theorem norm_rect (U : Fin 4 → Piece.In) (h : Fin 4) (y : S4x8x128.Idx) :
    View.RectAt y (normPiece U h).1 (normPiece U h).2 (Piece.newN (U (y 0)) (ix2 (y 1) (y 2))) := by
  rintro x rfl
  have e0 : (normPiece U h).1.emb x 0 = h := Fin.ext (by
    have hx : (x 0).val < 1 := (x 0).isLt
    show h.val + 1 * (x 0).val = h.val
    omega)
  have e1 : (normPiece U h).1.emb x 1 = x 1 := Fin.ext (by
    show 0 + 1 * (x 1).val = (x 1).val
    omega)
  have e2 : (normPiece U h).1.emb x 2 = x 2 := Fin.ext (by
    show 0 + 1 * (x 2).val = (x 2).val
    omega)
  rw [e0]
  refine Eq.trans ?_ (congrArg₂ (fun p q => Piece.newN (U h) (ix2 p q)) e1 e2).symm
  have hx : x = (ix3 (0 : Fin 1) (x 1) (x 2) : S1x8x128.Idx) := by
    refine (eq_ix3 (n0 := 1) (n1 := 8) (n2 := 128) x).trans ?_
    rw [Subsingleton.elim (α := Fin 1) (x 0) 0]
  refine (congrArg (shapeCast S1x8x128 (Piece.newN (U h)) shapeCasts_S8x128_S1x8x128) hx).trans ?_
  generalize Piece.newN (U h) = z
  generalize x 1 = a
  generalize x 2 = b
  pointwise

/-- A head's and row's piece of the matrices' block holds their matrix. -/
theorem mat_rect (U : Fin 4 → Piece.In) (p : Fin 8 × Fin 4) (y : S8x4x128x128.Idx) :
    View.RectAt y (matPiece U p).1 (matPiece U p).2 (Piece.newC (U (y 1)) (y 0) (ix2 (y 2) (y 3))) := by
  rintro x rfl
  have e0 : (matPiece U p).1.emb x 0 = p.1 := Fin.ext (by
    have hx : (x 0).val < 1 := (x 0).isLt
    show p.1.val + 1 * (x 0).val = p.1.val
    omega)
  have e1 : (matPiece U p).1.emb x 1 = p.2 := Fin.ext (by
    have hx : (x 1).val < 1 := (x 1).isLt
    show p.2.val + 1 * (x 1).val = p.2.val
    omega)
  have e2 : (matPiece U p).1.emb x 2 = x 2 := Fin.ext (by
    show 0 + 1 * (x 2).val = (x 2).val
    omega)
  have e3 : (matPiece U p).1.emb x 3 = x 3 := Fin.ext (by
    show 0 + 1 * (x 3).val = (x 3).val
    omega)
  rw [e0, e1]
  refine Eq.trans ?_ (congrArg₂ (fun a b => Piece.newC (U p.2) p.1 (ix2 a b)) e2 e3).symm
  have hx : x = (ix4 (0 : Fin 1) (0 : Fin 1) (x 2) (x 3) : S1x1x128x128.Idx) := by
    refine (eq_ix4 (n0 := 1) (n1 := 1) (n2 := 128) (n3 := 128) x).trans ?_
    rw [Subsingleton.elim (α := Fin 1) (x 0) 0, Subsingleton.elim (α := Fin 1) (x 1) 0]
  refine (congrArg (shapeCast S1x1x128x128 (Piece.newC (U p.2) p.1) shapeCasts_S128x128_S1x1x128x128) hx).trans ?_
  generalize Piece.newC (U p.2) p.1 = z
  generalize x 2 = a
  generalize x 3 = b
  pointwise

/-- A head's piece of the readings' block holds its readings. -/
theorem out_rect (U : Fin 4 → Piece.In) (h : Fin 4) (y : S8x512.Idx) :
    View.RectAt y (outPiece U h).1 (outPiece U h).2
      (Piece.out (U ⟨(y 1).val / 128, by have h : (y 1).val < 512 := (y 1).isLt; omega⟩)
        (ix2 (y 0) ⟨(y 1).val % 128, by omega⟩)) := by
  rintro x rfl
  have hx : (x 1).val < 128 := (x 1).isLt
  have e1 : ((outPiece U h).1.emb x 1).val = 128 * h.val + (x 1).val := by
    show 128 * h.val + 1 * (x 1).val = _
    omega
  have e0 : (outPiece U h).1.emb x 0 = x 0 := Fin.ext (by
    show 0 + 1 * (x 0).val = (x 0).val
    omega)
  have eh : (⟨((outPiece U h).1.emb x 1).val / 128, by rw [e1]; omega⟩ : Fin 4) = h := Fin.ext (by
    show ((outPiece U h).1.emb x 1).val / 128 = h.val
    rw [e1]
    omega)
  have ed : (⟨((outPiece U h).1.emb x 1).val % 128, by omega⟩ : Fin 128) = x 1 := Fin.ext (by
    show ((outPiece U h).1.emb x 1).val % 128 = (x 1).val
    rw [e1]
    omega)
  rw [eh, ed]
  exact congrArg (Piece.out (U h)) ((eq_ix2 x).trans (congrArg (fun a => ix2 a (x 1)) e0.symm))

/-- The normalisers' block a point leaves. -/
theorem norm_left (c : Dev nD) (t : Fin cfg0.N) (y : S4x8x128.Idx) :
    (outsAt0 m c t).2.2.1 y = Piece.newN (head m c t (y 0)) (ix2 (y 1) (y 2)) := by
  have h : (outsAt0 m c t).2.2.1 y = View.canon (heads.map (normPiece (head m c t))) y := by
    unfold outsAt0
    dsimp only
    unfold out0_A_12
    frame_out
    sl_kernel_rfl
  rw [h]
  exact View.canon_eq_of_allAt _ _ _ (View.cover_of_tiled_head _ _ _ (by sl_kernel_rfl) _)
    (allAt_map _ _ _ _ fun h => norm_rect _ h y)

/-- The matrices' block a point leaves. -/
theorem mat_left (c : Dev nD) (t : Fin cfg0.N) (y : S8x4x128x128.Idx) :
    (outsAt0 m c t).2.1 y = Piece.newC (head m c t (y 1)) (y 0) (ix2 (y 2) (y 3)) := by
  have h : (outsAt0 m c t).2.1 y = View.canon (headRows.map (matPiece (head m c t))) y := by
    unfold outsAt0
    dsimp only
    unfold out0_A_11
    frame_out
    sl_kernel_rfl
  rw [h]
  exact View.canon_eq_of_allAt _ _ _ (View.cover_of_tiled_head _ _ _ (by sl_kernel_rfl) _)
    (allAt_map _ _ _ _ fun p => mat_rect _ p y)

/-- The readings' block a point leaves. -/
theorem out_left (c : Dev nD) (t : Fin cfg0.N) (y : S8x512.Idx) :
    (outsAt0 m c t).1 y = Piece.out (head m c t ⟨(y 1).val / 128, by have h : (y 1).val < 512 := (y 1).isLt; omega⟩)
        (ix2 (y 0) ⟨(y 1).val % 128, by omega⟩) := by
  have h : (outsAt0 m c t).1 y = View.canon (heads.map (outPiece (head m c t))) y := by
    unfold outsAt0
    dsimp only
    unfold out0_A_10
    frame_out
    sl_kernel_rfl
  rw [h]
  exact View.canon_eq_of_allAt _ _ _ (View.cover_of_tiled_head _ _ _ (by sl_kernel_rfl) _)
    (allAt_map _ _ _ _ fun h => out_rect _ h y)

end Cert.MlstmStepIdeal.RefValue

end
-- ==== Proof.StepReads.lean ====
/-
  The mLSTM decoding kernel's windows: what the input blocks of a grid point hold of the argument arrays, and so what
  every head reads.
-/
module

public import proofs.«01_k».proof.Proof.StepMath
public import proofs.«01_k».proof.Proof.StepCases
public import Idealize.ShloMosaic.Lib.Pipeline.Value

@[expose] public section

set_option maxRecDepth 65536

noncomputable section

namespace Cert.MlstmStepIdeal.RefValue

open Cert.MlstmStepIdeal Cert.MlstmStepIdeal.Gen Idealize.ShloMosaic Idealize.ShloMosaic.TcCoe Idealize.SL.Sem Cert.Step Cert.Chunk

variable (m : (ℓ : Loc nD τ sig) → Buf (Elt Ideal) ℓ)

/-- The block every window stages at a grid point. -/
theorem idx : ∀ t : Fin cfg0.N, win0_0.index t = ![t.val, 10] ∧ win0_1.index t = ![t.val, 11] ∧ win0_2.index t = ![t.val, 12]
    ∧ win0_3.index t = ![t.val, 13] ∧ win0_4.index t = ![t.val, 44] ∧ win0_5.index t = ![0, t.val, 0, 0, 0]
    ∧ win0_6.index t = ![0, t.val, 0] ∧ win0_7.index t = ![0, t.val, 0] ∧ win0_8.index t = ![0, 0] ∧ win0_9.index t = ![0, 0]
    ∧ win0_10.index t = ![t.val, 0] ∧ win0_11.index t = ![t.val, 0, 0, 0] ∧ win0_12.index t = ![0, t.val, 0]
    ∧ win0_13.index t = ![t.val, 0] :=
  (by decide +kernel : ∀ t : Fin grid0.N, _)

/-- The packed projections of device `c`. -/
abbrev packed (c : Dev nD) : Fin 128 → Fin 11520 → EReal := fun r e => m ((c : Thread nD τ).loc main_arg0) (ix2 r e)

/-- What head `h` of row `b` reads of device `c`'s argument arrays. -/
abbrev cell (c : Dev nD) (b : Fin 128) (h : Fin 4) : Cell :=
  cellOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b h

/-- The row of the batch at row `r` of a grid point's block. -/
def rowOf (t : Fin cfg0.N) (r : Fin 8) : Fin 128 := ⟨t.val * 8 + r.val, by
  have ht : t.val < 16 := lt_of_lt_of_eq t.isLt N_0
  omega⟩

/-- The query, key, value and output gate blocks are columns of the rows of the point's block. -/
theorem read_part (c : Dev nD) (t : Fin cfg0.N) (r : Fin 8) (e : Fin 512) :
    X0_0 m c t (ix2 r e) = packed m c (rowOf t r) ⟨5120 + e.val, by omega⟩
      ∧ X0_1 m c t (ix2 r e) = packed m c (rowOf t r) ⟨5632 + e.val, by omega⟩
      ∧ X0_2 m c t (ix2 r e) = packed m c (rowOf t r) ⟨6144 + e.val, by omega⟩
      ∧ X0_3 m c t (ix2 r e) = packed m c (rowOf t r) ⟨6656 + e.val, by omega⟩ := by
  have hi : (rowOf t r).val = t.val * 8 + r.val := rfl
  refine ⟨?_, ?_, ?_, ?_⟩
  · unfold X0_0 Pipeline.Window.fill
    rw [dif_pos (moved0_0 t _)]
    blk_point [iblk, V, idx t]
  · unfold X0_1 Pipeline.Window.fill
    rw [dif_pos (moved0_1 t _)]
    blk_point [iblk, V, idx t]
  · unfold X0_2 Pipeline.Window.fill
    rw [dif_pos (moved0_2 t _)]
    blk_point [iblk, V, idx t]
  · unfold X0_3 Pipeline.Window.fill
    rw [dif_pos (moved0_3 t _)]
    blk_point [iblk, V, idx t]

/-- The gates' block is the narrow columns of the rows of the point's block. -/
theorem read_gate (c : Dev nD) (t : Fin cfg0.N) (r : Fin 8) (e : Fin 256) :
    iblk m c 4 t (ix2 r e) = packed m c (rowOf t r) ⟨11264 + e.val, by omega⟩ := by
  have hi : (rowOf t r).val = t.val * 8 + r.val := rfl
  blk_point [iblk, V, idx t]

/-- The matrices' block. -/
theorem read_mat (c : Dev nD) (t : Fin cfg0.N) (r : Fin 8) (h : Fin 4) (d e : Fin 128) :
    iblk m c 5 t (ix5 0 r h d e) = m ((c : Thread nD τ).loc main_arg1) (ix5 0 (rowOf t r) h d e) := by
  have hi : (rowOf t r).val = t.val * 8 + r.val := rfl
  blk_point [iblk, V, idx t]

/-- The stabilisers' block. -/
theorem read_stab (c : Dev nD) (t : Fin cfg0.N) (r : Fin 8) (h : Fin 4) :
    iblk m c 7 t (ix3 0 r h) = m ((c : Thread nD τ).loc main_arg3) (ix3 0 (rowOf t r) h) := by
  have hi : (rowOf t r).val = t.val * 8 + r.val := rfl
  blk_point [iblk, V, idx t]

/-- The array of the normalisers' window. -/
theorem norm_eq (c : Dev nD) : V m c main_v0 = shapeCast S4x512x128 (m ((c : Thread nD τ).loc main_arg2)) shapeCasts_S4x128x4x128_S4x512x128 := by
  unfold V
  after_results_simp
  rfl

/-- The states of all rows and heads in one axis: place `4·b + h` is head `h` of row `b`. -/
theorem merged_apply (x : FVec Ideal S4x128x4x128 .f32) (b : Fin 128) (h : Fin 4) (d : Fin 128) :
    shapeCast S4x512x128 x shapeCasts_S4x128x4x128_S4x512x128 (ix3 0 ⟨4 * b.val + h.val, by omega⟩ d) = x (ix4 0 b h d) := by
  pointwise

/-- The normalisers' block: row `4·r + h` is head `h` of row `r`. -/
theorem read_norm (c : Dev nD) (t : Fin cfg0.N) (r : Fin 8) (h : Fin 4) (d : Fin 128) :
    iblk m c 6 t (ix3 0 ⟨4 * r.val + h.val, by omega⟩ d) = m ((c : Thread nD τ).loc main_arg2) (ix4 0 (rowOf t r) h d) := by
  have ht : t.val < 16 := lt_of_lt_of_eq t.isLt N_0
  have e : iblk m c 6 t (ix3 0 ⟨4 * r.val + h.val, by omega⟩ d)
      = V m c main_v0 (ix3 0 ⟨t.val * 32 + (4 * r.val + h.val), by omega⟩ d) := by blk_point [iblk, idx t]
  refine e.trans ((congrFun (norm_eq m c) _).trans (Eq.trans ?_ (merged_apply _ (rowOf t r) h d)))
  refine congrArg (fun k => shapeCast S4x512x128 (m ((c : Thread nD τ).loc main_arg2)) shapeCasts_S4x128x4x128_S4x512x128 (ix3 0 k d))
    (Fin.ext ?_)
  show t.val * 32 + (4 * r.val + h.val) = 4 * (t.val * 8 + r.val) + h.val
  omega

/-- The rows of the normalisers' block a head reads. -/
theorem norms_apply (c : Dev nD) (t : Fin cfg0.N) (h : Fin 4) (r : Fin 8) (d : Fin 128) :
    norms m c t h (ix3 0 r d) = m ((c : Thread nD τ).loc main_arg2) (ix4 0 (rowOf t r) h d) := by
  refine Eq.trans ?_ (read_norm m c t r h d)
  unfold norms
  rw [View.readAt_apply, Memref.IsWhole.read_unread]
  refine congrArg (iblk m c 6 t) (funext fun a => Fin.ext ?_)
  fin_cases a
  · rfl
  · show h.val + 4 * r.val = 4 * r.val + h.val
    omega
  · show 0 + 1 * d.val = d.val
    omega

/-- A short vector placed in a row. -/
def place (x : FVec Ideal S256 .f32) (u : FVec Ideal S4 .f32) (st : Fin S256.rank → ℤ) : FVec Ideal S256 .f32 :=
  Host.dynamicUpdateSlice x u st updateFits_S256_S4

/-- Rows with a short vector placed at equal places are equal. -/
theorem place_congr {x x' : FVec Ideal S256 .f32} (u : FVec Ideal S4 .f32) {st st' : Fin S256.rank → ℤ} (hx : x = x')
    (hs : ∀ k, st k = st' k) : place x u st = place x' u st' := by
  rw [hx, funext hs]

/-- The row of the gates' biases. -/
abbrev biases (u v : FVec Ideal S4 .f32) : FVec Ideal S256 .f32 :=
  place (place (broadcastInDim S256 ![] bcast_S_S256 (constant S_ FTy.f32 0#32)) u (fun _ => (16 : ℕ))) v (fun _ => (20 : ℕ))

/-- The array of the biases' window. -/
theorem bias_eq (c : Dev nD) : V m c main_v4 = shapeCast S1x256
    (biases (m ((c : Thread nD τ).loc main_arg4)) (m ((c : Thread nD τ).loc main_arg5))) shapeCasts_S256_S1x256 := by
  unfold V
  after_results_simp
  refine congrArg (fun x => shapeCast S1x256 x shapeCasts_S256_S1x256) (place_congr _ (place_congr _ rfl ?_) ?_)
  · intro k
    obtain rfl : k = 0 := Subsingleton.elim _ _
    rfl
  · intro k
    obtain rfl : k = 0 := Subsingleton.elim _ _
    rfl

/-- The array of the gain's window. -/
theorem gain_eq (c : Dev nD) : V m c main_v5 = shapeCast S1x128 (m ((c : Thread nD τ).loc main_arg6)) shapeCasts_S128_S1x128 := by
  unfold V
  after_results_simp
  rfl

/-- The gain's block. -/
theorem read_gain (c : Dev nD) (t : Fin cfg0.N) (d : Fin 128) : iblk m c 9 t (ix2 0 d) = m ((c : Thread nD τ).loc main_arg6) (ix1 d) := by
  have h : iblk m c 9 t (ix2 0 d) = V m c main_v5 (ix2 0 d) := by blk_point [iblk, idx t]
  rw [h, gain_eq]
  pointwise

/-- The biases' block. -/
theorem read_bias (c : Dev nD) (t : Fin cfg0.N) (e : Fin 256) : iblk m c 8 t (ix2 0 e)
    = biases (m ((c : Thread nD τ).loc main_arg4)) (m ((c : Thread nD τ).loc main_arg5)) (ix1 e) := by
  have h : iblk m c 8 t (ix2 0 e) = V m c main_v4 (ix2 0 e) := by blk_point [iblk, idx t]
  rw [h, bias_eq]
  pointwise

/-- The input gates' biases in the biases' block. -/
theorem read_bi (c : Dev nD) (t : Fin cfg0.N) (h : Fin 4) :
    iblk m c 8 t (ix2 0 ⟨16 + h.val, by omega⟩) = m ((c : Thread nD τ).loc main_arg4) (ix1 h) := by
  rw [read_bias]
  refine (Cert.MlstmIdeal.RefValue.place_apply _ _ 20 (by omega) _).trans ?_
  rw [dif_neg (by simp only; omega)]
  refine (Cert.MlstmIdeal.RefValue.place_apply _ _ 16 (by omega) _).trans ?_
  rw [dif_pos (by simp only; omega)]
  exact congrArg (fun k => m ((c : Thread nD τ).loc main_arg4) (ix1 k)) (Fin.ext (by simp only; omega))

/-- The forget gates' biases in the biases' block. -/
theorem read_bf (c : Dev nD) (t : Fin cfg0.N) (h : Fin 4) :
    iblk m c 8 t (ix2 0 ⟨20 + h.val, by omega⟩) = m ((c : Thread nD τ).loc main_arg5) (ix1 h) := by
  rw [read_bias]
  refine (Cert.MlstmIdeal.RefValue.place_apply _ _ 20 (by omega) _).trans ?_
  rw [dif_pos (by simp only; omega)]
  exact congrArg (fun k => m ((c : Thread nD τ).loc main_arg5) (ix1 k)) (Fin.ext (by simp only; omega))

/-- A head's columns of a block, entry by entry. -/
theorem cols_apply (x : Vec Ideal S8x512 .f32) (h : Fin 4) (r : Fin 8) (d : Fin 128) :
    Piece.cols x h (ix2 r d) = x (ix2 r ⟨128 * h.val + d.val, by omega⟩) := by
  unfold Piece.cols
  pointwise [View.ld]

/-- A gate's input with its bias, entry by entry. -/
theorem gates_apply (x4 : Vec Ideal S8x256 .f32) (x8 : Vec Ideal S1x256 .f32) (r : Fin 8) (e : Fin 128) :
    Piece.gates x4 x8 (ix2 r e) = x4 (ix2 r ⟨e.val, by omega⟩) + x8 (ix2 0 ⟨e.val, by omega⟩) := by
  unfold Piece.gates k0_pay3
  pointwise [View.ld]

/-- A log forget gate, entry by entry. -/
theorem logs_apply (x4 : Vec Ideal S8x256 .f32) (x8 : Vec Ideal S1x256 .f32) (r : Fin 8) (e : Fin 128) :
    Piece.logs x4 x8 (ix2 r e) = logSig (x4 (ix2 r ⟨e.val, by omega⟩) + x8 (ix2 0 ⟨e.val, by omega⟩)) := by
  unfold Piece.logs k0_pay4 k0_pay3 logSig
  pointwise [View.ld]
  simp only [zero_sub]
  rfl

/-- A column of a block of gates, entry by entry. -/
theorem col_apply (x : FVec Ideal S8x128 .f32) (k : ℕ) (hk : k + 1 ≤ 128) (r : Fin 8) :
    extractStridedSlice S8x1 ![0, k] x (Piece.col_slices k hk) (ix2 r 0) = x (ix2 r ⟨k, by omega⟩) := by
  refine extractStridedSlice_apply _ _ _ _ _ fun a => ?_
  fin_cases a
  · exact (Nat.zero_add _).symm
  · rfl

/-- A matrix with three leading unit axes, without them. -/
theorem drop_unit (w : Vec Ideal S1x1x1x128x128 .f32) (d e : Fin 128) :
    shapeCast S128x128 w shapeCasts_S1x1x1x128x128_S128x128 (ix2 d e) = w (ix5 0 0 0 d e) := by
  pointwise

/-- The matrix of a row and a head of the matrices' block. -/
theorem mat_apply (x : Vec Ideal S1x8x4x128x128 .f32) (r : Fin 8) (h : Fin 4) (d e : Fin 128) :
    Piece.mat x r h (ix2 d e) = x (ix5 0 r h d e) := by
  refine (drop_unit (View.ld x (Rect.unit ![0, r.val, h.val, 0, 0] ![1, 1, 1, 128, 128] (by revert r h; decide))) d e).trans ?_
  rw [View.ld_apply]
  refine congrArg x (funext fun a => Fin.ext ?_)
  fin_cases a
  · rfl
  · exact Nat.add_zero _
  · exact Nat.add_zero _
  · show 0 + 1 * d.val = d.val
    omega
  · show 0 + 1 * e.val = e.val
    omega

/-- What every head reads at a grid point is eight rows' numbers. -/
theorem head_holds (c : Dev nD) (t : Fin cfg0.N) (h : Fin 4) : Piece.Holds (head m c t h) (fun r => cell m c (rowOf t r) h) where
  q r d := by
    refine (cols_apply _ h r d).trans (((read_part m c t r _).1).trans ?_)
    exact congrArg (packed m c _) (Fin.ext (by simp only [col]; omega))
  k r d := by
    refine (congrArg (· * Ideal.ofBits FTy.f32 1035273459#32) ((cols_apply _ h r d).trans (read_part m c t r _).2.1)).trans ?_
    exact congrArg (packed m c _ · * Ideal.ofBits FTy.f32 1035273459#32) (Fin.ext (by simp only [col]; omega))
  v r d := by
    refine (cols_apply _ h r d).trans (((read_part m c t r _).2.2.1).trans ?_)
    exact congrArg (packed m c _) (Fin.ext (by simp only [col]; omega))
  i r := by
    refine (col_apply _ (16 + h.val) (by omega) r).trans ((gates_apply _ _ r ⟨16 + h.val, by omega⟩).trans ?_)
    refine (congrArg₂ (fun x y : EReal => x + y) (read_gate m c t r _) (read_bi m c t h)).trans ?_
    exact congrArg (packed m c _ · + _) (Fin.ext (by simp only; omega))
  b r := by
    refine (col_apply _ (20 + h.val) (by omega) r).trans ((logs_apply _ _ r ⟨20 + h.val, by omega⟩).trans ?_)
    refine (congrArg₂ (fun x y => logSig (x + y)) (read_gate m c t r _) (read_bf m c t h)).trans ?_
    exact congrArg (fun k => logSig (packed m c _ k + _)) (Fin.ext (by simp only; omega))
  C r d e := (mat_apply _ r h d e).trans (read_mat m c t r h d e)
  n r d := by
    refine Eq.trans ?_ (norms_apply m c t h r d)
    show shapeCast S8x128 (norms m c t h) shapeCasts_S1x8x128_S8x128 (ix2 r d) = _
    generalize norms m c t h = z
    pointwise
  m r := by
    refine Eq.trans ?_ (read_stab m c t r h)
    show extractStridedSlice S8x1 ![0, h.val] (k0_pay5 (iblk m c 7 t)) (Piece.stab_slices h) (ix2 r 0) = _
    refine (extractStridedSlice_apply _ _ _ _ (ix2 r h) fun a => ?_).trans ?_
    · fin_cases a
      · exact (Nat.zero_add _).symm
      · rfl
    · unfold k0_pay5
      generalize iblk m c 7 t = z
      pointwise

/-- The gain a head reads. -/
theorem head_gain (c : Dev nD) (t : Fin cfg0.N) (h : Fin 4) (e : Fin 128) :
    (head m c t h).g (ix2 0 e) = m ((c : Thread nD τ).loc main_arg6) (ix1 e) := by
  refine Eq.trans ?_ (read_gain m c t e)
  show k0_pay2 (iblk m c 9 t) (ix2 0 e) = _
  unfold k0_pay2
  generalize iblk m c 9 t = z
  pointwise

/-- The output gates' inputs a head reads. -/
theorem head_gate (c : Dev nD) (t : Fin cfg0.N) (h : Fin 4) (r : Fin 8) (e : Fin 128) :
    (head m c t h).o (ix2 r e) = packed m c (rowOf t r) (col 6656 (by omega) h e) := by
  refine (cols_apply _ h r e).trans (((read_part m c t r _).2.2.2).trans ?_)
  exact congrArg (packed m c _) (Fin.ext (by simp only [col]; omega))

end Cert.MlstmStepIdeal.RefValue

end
-- ==== Proof.StepRef.lean ====
/-
  The mLSTM step's reference, entry by entry: the recurrence's one step of every row and head.
-/
module

public import proofs.«01_k».proof.Proof.StepMath
public import proofs.«01_k».proof.Proof.Gen.MlstmStepRefIdeal.Run

@[expose] public section

set_option maxRecDepth 65536

noncomputable section

namespace Cert.MlstmStepRefIdeal.Value

open Cert.MlstmStepRefIdeal Cert.MlstmStepRefIdeal.Gen Idealize.ShloMosaic Idealize.ShloMosaic.TcCoe Idealize.ShloMosaic.StableHlo Cert.Step
  Cert.Rows

variable (V0 : Valuation τ sig (Elt Ideal))

/-- What head `h` of row `b` reads of the argument arrays. -/
abbrev cell (b : Fin 128) (h : Fin 4) : Cell :=
  cellOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) b h

/-- The input gates, entry by entry. -/
theorem i_apply (b : Fin 128) (h : Fin 4) : res_main_v8 V0 (ix3 b h 0) = (cell V0 b h).i := by
  unfold res_main_v8 cell cellOf
  pointwise

/-- The log forget gates, entry by entry. -/
theorem b_apply (b : Fin 128) (h : Fin 4) : res_main_v14 V0 (ix3 b h 0) = (cell V0 b h).b := by
  unfold res_main_v14 res_main_call0_call0_v3 res_main_call0_v0 res_main_call0_call0_cst cell cellOf Cert.Chunk.logSig
  pointwise
  rw [if_neg (fun h => h rfl)]
  rfl

/-- The queries, entry by entry. -/
theorem q_apply (b : Fin 128) (h : Fin 4) (d : Fin 128) : res_main_v15 V0 (ix4 b h 0 d) = (cell V0 b h).q d := by
  unfold res_main_v15 cell cellOf Cert.Chunk.col
  pointwise

/-- The scaled keys, entry by entry. -/
theorem k_apply (b : Fin 128) (h : Fin 4) (d : Fin 128) : res_main_v18 V0 (ix4 b h 0 d) = (cell V0 b h).k d := by
  unfold res_main_v18 cell cellOf Cert.Chunk.col
  pointwise

/-- The values, entry by entry. -/
theorem v_apply (b : Fin 128) (h : Fin 4) (d : Fin 128) : res_main_v19 V0 (ix4 b h 0 d) = (cell V0 b h).v d := by
  unfold res_main_v19 cell cellOf Cert.Chunk.col
  pointwise

/-- The states' matrices, entry by entry. -/
theorem C_apply (b : Fin 128) (h : Fin 4) (d e : Fin 128) : res_main_v21 V0 (ix4 b h d e) = (cell V0 b h).C d e := by
  unfold res_main_v21 cell cellOf
  pointwise

/-- The states' normalisers, entry by entry. -/
theorem n_apply (b : Fin 128) (h : Fin 4) (d : Fin 128) : res_main_v23 V0 (ix3 b h d) = (cell V0 b h).n d := by
  unfold res_main_v23 cell cellOf
  pointwise

/-- The states' stabilisers, entry by entry. -/
theorem m_apply (b : Fin 128) (h : Fin 4) : res_main_v25 V0 (ix2 b h) = (cell V0 b h).m := by
  unfold res_main_v25 cell cellOf
  pointwise

/-- The largest of one number. -/
theorem rowMax_one (f : Fin 1 → EReal) : rowMax f = f 0 := by
  unfold rowMax
  rw [Finset.univ_unique, Finset.fold_singleton]
  have e : Ideal.ofBits FTy.f32 4286578688#32 = ⊥ := by simp [Ideal.ofBits, Ideal.ieee]
  rw [e]
  exact max_eq_left bot_le

/-- The readings normalised, times the gain and the output gates. -/
def gatedAll (Y : FVec Ideal S128x4x1x128 .f32) (O : FVec Ideal S128x4x1x128 .f32) (G : FVec Ideal S128 .f32) :
    FVec Ideal S128x4x1x128 .f32 :=
  mulf (mulf (mulf Y (broadcastInDim S128x4x1x128 ![0, 1, 2, 3] bcast_S128x4x1x1_S128x4x1x128_0_1_2_3 (Host.rsqrt (addf
      (Host.divf (broadcastInDim S128x4x1x1 ![0, 1, 2] bcast_S128x4x1_S128x4x1x1_0_1_2
        (Host.reduceAdd (mulf Y Y) (constant S_ .f32 0x00000000#32) reducesTo_S128x4x1x128_S128x4x1_d3 h_S_))
        (broadcastInDim S128x4x1x1 ![] bcast_S_S128x4x1x1 (constant S_ .f32 0x43000000#32)))
      (broadcastInDim S128x4x1x1 ![] bcast_S_S128x4x1x1 (constant S_ .f32 0x358637BD#32))))))
    (broadcastInDim S128x4x1x128 ![0, 1, 2, 3] bcast_S1x1x1x128_S128x4x1x128_0_1_2_3
      (broadcastInDim S1x1x1x128 ![3] bcast_S128_S1x1x1x128_3 G)))
    (Host.divf (broadcastInDim S128x4x1x128 ![] bcast_S_S128x4x1x128 (constant S_ .f32 0x3F800000#32))
      (addf (broadcastInDim S128x4x1x128 ![] bcast_S_S128x4x1x128 (constant S_ .f32 0x3F800000#32)) (Host.exp (Host.negf O))))

/-- The new matrices, from the old, their weights, the keys, the step's weights and the values. -/
def matsOf (C : FVec Ideal S128x4x128x128 .f32) (w : FVec Ideal S128x4 .f32) (k : FVec Ideal S128x4x1x128 .f32)
    (j : FVec Ideal S128x4x1 .f32) (v : FVec Ideal S128x4x1x128 .f32) : FVec Ideal S128x4x128x128 .f32 :=
  addf (mulf C (broadcastInDim S128x4x128x128 ![0, 1, 2, 3] bcast_S128x4x1x1_S128x4x128x128_0_1_2_3
      (broadcastInDim S128x4x1x1 ![0, 1] bcast_S128x4_S128x4x1x1_0_1 w)))
    (Host.dotGeneral dot_S128x4x1x128_S128x4x1x128_S128x4x128x128_2_2_3_3_01_01 none
      (mulf k (broadcastInDim S128x4x1x128 ![0, 1, 2, 3] bcast_S128x4x1x1_S128x4x1x128_0_1_2_3
        (broadcastInDim S128x4x1x1 ![0, 1, 2] bcast_S128x4x1_S128x4x1x1_0_1_2 j))) v)

/-- The new normalisers, from the old, their weights, the keys and the step's weights. -/
def normsOf (n : FVec Ideal S128x4x128 .f32) (w : FVec Ideal S128x4 .f32) (k : FVec Ideal S128x4x1x128 .f32)
    (j : FVec Ideal S128x4x1 .f32) : FVec Ideal S4x128x128 .f32 :=
  transpose S4x128x128 [1, 0, 2] (addf (mulf n (broadcastInDim S128x4x128 ![0, 1, 2] bcast_S128x4x1_S128x4x128_0_1_2
      (broadcastInDim S128x4x1 ![0, 1] bcast_S128x4_S128x4x1_0_1 w)))
    (Host.dotGeneral dot_S128x4x1x128_S128x4x1_S128x4x128_2_2_3_n_01_01 none k j)) transposes_S128x4x128_S4x128x128_1_0_2

/-- The readings' array, from the readings, the packed projections and the gain. -/
def outsOf (Y : FVec Ideal S128x4x1x128 .f32) (P : FVec Ideal S128x11520 .f32) (G : FVec Ideal S128 .f32) :
    FVec Ideal S128x512 .f32 :=
  shapeCast S128x512 (gatedAll Y
    (shapeCast S128x4x1x128 (extractStridedSlice S128x512 ![0, 6656] P slices_S128x11520_S128x512_0_6656)
      shapeCasts_S128x512_S128x4x1x128) G) shapeCasts_S128x4x1x128_S128x512

/-- The readings' array. -/
def outs : FVec Ideal S128x512 .f32 :=
  outsOf (res_main_v62 V0) (V0 (Proc.devRef .tc main_arg0)) (V0 (Proc.devRef .tc main_arg6))

/-- The matrices' array. -/
def mats : FVec Ideal S128x4x128x128 .f32 :=
  matsOf (res_main_v21 V0) (res_main_v67 V0) (res_main_v18 V0) (res_main_v70 V0) (res_main_v19 V0)

/-- The normalisers' array. -/
def norms : FVec Ideal S4x128x128 .f32 :=
  normsOf (res_main_v23 V0) (res_main_v67 V0) (res_main_v18 V0) (res_main_v70 V0)

/-- A gated reading, entry by entry. -/
theorem gatedAll_apply (Y O : FVec Ideal S128x4x1x128 .f32) (G : FVec Ideal S128 .f32) (b : Fin 128) (h : Fin 4) (e : Fin 128) :
    gatedAll Y O G (ix4 b h 0 e) = Cert.Chunk.gated (fun d => Y (ix4 b h 0 d)) (fun d => G (ix1 d)) (O (ix4 b h 0 e)) e := by
  unfold gatedAll Cert.Chunk.gated
  pointwise

/-- Heads side by side, entry by entry. -/
theorem side_apply (Z : FVec Ideal S128x4x1x128 .f32) (b : Fin 128) (h : Fin 4) (e : Fin 128) (j : Fin 512)
    (hj : j.val = h.val * 128 + e.val) :
    shapeCast S128x512 Z shapeCasts_S128x4x1x128_S128x512 (ix2 b j) = Z (ix4 b h 0 e) := by
  have hh : h = ⟨j.val / 128, by omega⟩ := Fin.ext (by simp only; omega)
  have he : e = ⟨j.val % 128, by omega⟩ := Fin.ext (by simp only; omega)
  refine Eq.trans ?_ (congrArg₂ (fun x y => Z (ix4 b x 0 y)) hh he).symm
  pointwise

/-- The output gates, entry by entry. -/
theorem o_apply (b : Fin 128) (h : Fin 4) (e : Fin 128) :
    shapeCast S128x4x1x128 (extractStridedSlice S128x512 ![0, 6656] (V0 (Proc.devRef .tc main_arg0) : FVec Ideal S128x11520 .f32)
      slices_S128x11520_S128x512_0_6656) shapeCasts_S128x512_S128x4x1x128 (ix4 b h 0 e)
      = V0 (Proc.devRef .tc main_arg0) (ix2 b (Cert.Chunk.col 6656 (by omega) h e)) := by
  unfold Cert.Chunk.col
  pointwise

variable {V0} {b : Fin 128} {h : Fin 4} (hb : Real (cell V0 b h).b)
include hb

/-- The step's log weight at itself is its input gate. -/
theorem d_apply : res_main_v30 V0 (ix4 b h 0 0) = (cell V0 b h).i := by
  unfold res_main_v30
  pointwise
  rw [b_apply, i_apply, hb.sub_self, zero_add]

/-- The stabiliser after the step. -/
theorem mt_apply : res_main_v36 V0 (ix3 b h 0) = (cell V0 b h).mt := by
  have e : Host.reduce FloatOps.maximumf (res_main_v30 V0) (constant S_ .f32 0xFF800000#32) reducesTo_S128x4x1x1_S128x4x1_d3 h_S_ (ix3 b h 0)
      = (cell V0 b h).i := (hostMax_last _ _ _ b h 0).trans ((rowMax_one _).trans (d_apply hb))
  unfold res_main_v36 Cell.mt
  rw [← e]
  pointwise
  rw [b_apply, m_apply]

/-- The weight of the old state. -/
theorem wprev_apply : res_main_v40 V0 (ix3 b h 0) = (cell V0 b h).wprev := by
  unfold res_main_v40 Cell.wprev
  pointwise
  rw [b_apply, m_apply, mt_apply hb]

/-- The weighted score. -/
theorem score_apply : res_main_v45 V0 (ix4 b h 0 0) = (cell V0 b h).score := by
  unfold res_main_v45 Cell.score Cell.wj
  pointwise
  simp only [q_apply, k_apply]
  rw [d_apply hb, mt_apply hb]

/-- The reading. -/
theorem hid_apply (e : Fin 128) : res_main_v62 V0 (ix4 b h 0 e) = (cell V0 b h).hid e := by
  unfold res_main_v62 Cell.hid Cell.num Cell.den
  pointwise
  simp only [q_apply, C_apply, n_apply, v_apply, Fin.sum_univ_one, wprev_apply hb, score_apply hb, mt_apply hb]
  rfl

/-- The stabiliser's result. -/
theorem stab_apply : res_main_v63 V0 (ix2 b h) = (cell V0 b h).mt := by
  refine Eq.trans ?_ (mt_apply hb)
  unfold res_main_v63
  pointwise

/-- The weight of the old state in the new. -/
theorem wc_apply : res_main_v67 V0 (ix2 b h) = (cell V0 b h).wprev := by
  have e : shapeCast S128x4 (res_main_v14 V0) shapeCasts_S128x4x1_S128x4 (ix2 b h) = (cell V0 b h).b := by
    refine Eq.trans ?_ (b_apply V0 b h)
    pointwise
  unfold res_main_v67 Cell.wprev
  rw [← e]
  pointwise
  rw [m_apply, stab_apply hb]

/-- The weight of the step in the new state. -/
theorem wj_apply : res_main_v70 V0 (ix3 b h 0) = (cell V0 b h).wj := by
  unfold res_main_v70 Cell.wj
  pointwise
  rw [b_apply, i_apply, hb.sub_self, zero_add, stab_apply hb]

/-- The matrices' result. -/
theorem mats_apply (d e : Fin 128) : mats V0 (ix4 b h d e) = (cell V0 b h).newC d e := by
  unfold mats matsOf Cell.newC
  pointwise
  simp only [C_apply, k_apply, v_apply, Fin.sum_univ_one, wc_apply hb, wj_apply hb]

/-- The normalisers' result. -/
theorem norms_apply (d : Fin 128) : norms V0 (ix3 h b d) = (cell V0 b h).newN d := by
  unfold norms normsOf Cell.newN
  pointwise
  simp only [n_apply, k_apply, Fin.sum_univ_one, wc_apply hb, wj_apply hb]

/-- The readings' result. -/
theorem outs_apply (e : Fin 128) (j : Fin 512) (hj : j.val = h.val * 128 + e.val) :
    outs V0 (ix2 b j) = Cert.Chunk.gated (cell V0 b h).hid (fun d => V0 (Proc.devRef .tc main_arg6) (ix1 d))
      (V0 (Proc.devRef .tc main_arg0) (ix2 b (Cert.Chunk.col 6656 (by omega) h e))) e := by
  refine (side_apply _ b h e j hj).trans ((gatedAll_apply _ _ _ b h e).trans ?_)
  rw [o_apply, funext (hid_apply hb)]

end Cert.MlstmStepRefIdeal.Value

end
-- ==== Proof.StepPre.lean ====
/-
  The decoding step's precondition, read: the keys, the values and the log forget gates are real numbers.
-/
module

public import proofs.«01_k».proof.Proof.StepMath
public import proofs.«01_k».proof.Pre_finite_step

@[expose] public section

set_option maxRecDepth 65536

noncomputable section

namespace Cert.Pre_finite_step

open Idealize.ShloMosaic Cert.Step

/-- The side conditions of the precondition's operations. -/
instance facts : Facts where
  slices_S128x11520_S128x4_0_11284 := by decide
  bcast_S4_S1x4_1 := by decide
  bcast_S1x4_S128x4_0_1 := by decide
  slices_S128x11520_S128x1024_0_5632 := by decide
  concatenates_S128x1024_S128x4_S128x1028_d1 := by decide
  bcast_S_S128x1028 := by decide

/-- The array whose entries the precondition bounds. -/
def bounded (P : FVec Ideal S128x11520 .f32) (fb : FVec Ideal S4 .f32) : FVec Ideal S128x1028 .f32 :=
  concatenate S128x1028 1
    [⟨S128x1024, Host.negf (Host.absf (extractStridedSlice S128x1024 ![0, 5632] P Facts.slices_S128x11520_S128x1024_0_5632))⟩,
      ⟨S128x4, addf (extractStridedSlice S128x4 ![0, 11284] P Facts.slices_S128x11520_S128x4_0_11284)
        (broadcastInDim S128x4 ![0, 1] Facts.bcast_S1x4_S128x4_0_1 (broadcastInDim S1x4 ![1] Facts.bcast_S4_S1x4_1 fb))⟩]
    Facts.concatenates_S128x1024_S128x4_S128x1028_d1

/-- A number whose size is not infinite is real. -/
theorem real_of_ne {x : EReal} (h : -max x (-x) ≠ ⊥) : Real x := by
  refine ⟨?_, ?_⟩
  · rintro rfl
    exact h (by simp)
  · rintro rfl
    exact h (by simp)

/-- The precondition says that no bounded entry is minus infinity. -/
theorem bounded_ne {P C n s ib fb g} (h : fn (F := Ideal) P C n s ib fb g = fun _ => 1#1) (y : S128x1028.Idx) :
    bounded P fb y ≠ ⊥ := by
  have e : FloatOps.cmpf (F := Ideal) (φ := .f32) .ogt (bounded P fb y) (Ideal.ofBits FTy.f32 4286578688#32) = 1#1 := congrFun h y
  have ht : Ideal.ofBits FTy.f32 4286578688#32 = ⊥ := by simp [Ideal.ofBits, Ideal.ieee]
  rw [ht] at e
  intro hz
  rw [hz] at e
  have : FloatOps.cmpf (F := Ideal) (φ := .f32) .ogt (⊥ : EReal) (⊥ : EReal) = BitVec.ofBool (decide ((⊥ : EReal) < ⊥)) := rfl
  rw [this] at e
  simp at e

/-- The bounded entries that are sizes of keys and values. -/
theorem bounded_row (P : FVec Ideal S128x11520 .f32) (fb : FVec Ideal S4 .f32) (b : Fin 128) (j : Fin 1024) :
    bounded P fb (ix2 b ⟨j.val, by omega⟩)
      = -max (P (ix2 b ⟨5632 + j.val, by omega⟩)) (-P (ix2 b ⟨5632 + j.val, by omega⟩)) := by
  unfold bounded
  pointwise
  rfl

/-- The bounded entries that are forget gates. -/
theorem bounded_f (P : FVec Ideal S128x11520 .f32) (fb : FVec Ideal S4 .f32) (b : Fin 128) (h : Fin 4) :
    bounded P fb (ix2 b ⟨1024 + h.val, by omega⟩) = P (ix2 b ⟨11284 + h.val, by omega⟩) + fb (ix1 h) := by
  unfold bounded
  pointwise

/-- The larger of two real numbers is real. -/
theorem real_max {x y : EReal} (hx : Real x) (hy : Real y) : Real (max x y) := by
  rcases max_choice x y with e | e <;> rw [e] <;> assumption

/-- The negative of a real number is real. -/
theorem real_neg {x : EReal} (hx : Real x) : Real (-x) := by
  lift x to ℝ using ⟨hx.2, hx.1⟩
  exact ⟨EReal.coe_ne_bot (-x), EReal.coe_ne_top (-x)⟩

/-- The sum of two real numbers is real. -/
theorem real_add {x y : EReal} (hx : Real x) (hy : Real y) : Real (x + y) := by
  lift x to ℝ using ⟨hx.2, hx.1⟩
  lift y to ℝ using ⟨hy.2, hy.1⟩
  exact ⟨EReal.coe_ne_bot (x + y), EReal.coe_ne_top (x + y)⟩

/-- The logarithm of one plus the exponential of a real number is real. -/
theorem real_softplus {x : EReal} (hx : Real x) : Real (Ideal.log1p (Ideal.exp x)) := by
  lift x to ℝ using ⟨hx.2, hx.1⟩
  have e : Ideal.log1p (Ideal.exp (x : EReal)) = Ideal.log ((1 + Real.exp x : ℝ) : EReal) := rfl
  have e' : Ideal.log ((1 + Real.exp x : ℝ) : EReal)
      = if 1 + Real.exp x ≤ 0 then ⊥ else ((Real.log (1 + Real.exp x) : ℝ) : EReal) := rfl
  rw [e, e', if_neg (not_le.mpr (by positivity))]
  exact ⟨EReal.coe_ne_bot _, EReal.coe_ne_top _⟩

/-- The log sigmoid of anything but minus infinity is real. -/
theorem logSig_real {x : EReal} (h : x ≠ ⊥) : Real (Cert.Chunk.logSig x) := by
  unfold Cert.Chunk.logSig
  have hz : Real (0 : EReal) := ⟨EReal.zero_ne_bot, EReal.zero_ne_top⟩
  by_cases ht : x = ⊤
  · subst ht
    have e : Ideal.log1p (Ideal.exp (-max (-⊤) (- -⊤))) = ((Real.log 1 : ℝ) : EReal) := by
      rw [neg_neg, max_eq_right le_top, EReal.neg_top]
      have e0 : Ideal.log1p (Ideal.exp ⊥) = Ideal.log ((1 + 0 : ℝ) : EReal) := rfl
      have e1 : Ideal.log ((1 + 0 : ℝ) : EReal) = if (1 + 0 : ℝ) ≤ 0 then ⊥ else ((Real.log (1 + 0) : ℝ) : EReal) := rfl
      rw [e0, e1, if_neg (by norm_num), add_zero]
    rw [e, EReal.neg_top, max_eq_right bot_le]
    exact real_neg (real_add hz ⟨EReal.coe_ne_bot _, EReal.coe_ne_top _⟩)
  · have hx : Real x := ⟨h, ht⟩
    exact real_neg (real_add (real_max (real_neg hx) hz)
      (real_softplus (real_neg (real_max (real_neg hx) (real_neg (real_neg hx))))))

/-- The scale of the keys is real. -/
theorem scale_real : Real (Ideal.ofBits FTy.f32 1035273459#32) := by
  simp [Ideal.ofBits, Ideal.ieee]
  rw [← EReal.coe_mul]
  exact ⟨EReal.coe_ne_bot _, EReal.coe_ne_top _⟩

/-- Under the precondition every row's head reads real log forget gates, keys and values. -/
theorem real_cell {P C n s ib fb g} (hp : fn (F := Ideal) P C n s ib fb g = fun _ => 1#1) (b : Fin 128) (h : Fin 4) :
    Real (cellOf P C n s ib fb b h).b ∧ (∀ d, Real ((cellOf P C n s ib fb b h).k d))
      ∧ ∀ d, Real ((cellOf P C n s ib fb b h).v d) := by
  have hr : ∀ j : Fin 1024, Real (P (ix2 b ⟨5632 + j.val, by omega⟩)) := fun j =>
    real_of_ne (bounded_row P fb b j ▸ bounded_ne hp _)
  refine ⟨logSig_real ?_, fun d => Cert.Step.Real.mul ?_ scale_real, fun d => ?_⟩
  · exact bounded_f P fb b h ▸ bounded_ne hp _
  · exact hr ⟨h.val * 128 + d.val, by omega⟩
  · have e : (Cert.Chunk.col 6144 (by omega) h d) = ⟨5632 + (512 + (h.val * 128 + d.val)), by omega⟩ :=
      Fin.ext (by simp only [Cert.Chunk.col]; omega)
    show Real (P (ix2 b (Cert.Chunk.col 6144 (by omega) h d)))
    rw [e]
    exact hr ⟨512 + (h.val * 128 + d.val), by omega⟩

end Cert.Pre_finite_step

end
-- ==== Proof.StepFinal.lean ====
/-
  The mLSTM decoding step's proof: what the kernel leaves in its four results is the reference's one step.
-/
module

public import proofs.«01_k».proof.Defs
public import proofs.«01_k».proof.Proof.StepReads
public import proofs.«01_k».proof.Proof.StepRef
public import proofs.«01_k».proof.Proof.StepPre
public import proofs.«01_k».proof.Proof.Gen.MlstmStepIdeal
public import Idealize.ShloMosaic.Lib.Claim

@[expose] public section

set_option maxRecDepth 65536

noncomputable section

namespace Cert.MlstmStepIdeal.RefValue

open Cert.MlstmStepIdeal Cert.MlstmStepIdeal.Gen Idealize.ShloMosaic Idealize.ShloMosaic.TcCoe Idealize.SL.Sem Cert.Step Cert.Chunk

variable (m : (ℓ : Loc nD τ sig) → Buf (Elt Ideal) ℓ)

/-- The stabilisers' block a point leaves, entry by entry. -/
theorem stab_entry (u : Fin 4 → Piece.In) (r : Fin 8) (h : Fin 4) : stabOut u (ix2 r h) = Piece.mt (u h) (ix2 r 0) := by
  unfold stabOut
  fin_cases h
  all_goals
    unfold stabOut.put
    pointwise
    try rfl

/-- The log forget gates, keys and values every head of device `c` reads are real numbers. -/
structure Reals (c : Dev nD) : Prop where
  b : ∀ b h, Real (cell m c b h).b
  k : ∀ b h d, Real ((cell m c b h).k d)
  v : ∀ b h d, Real ((cell m c b h).v d)

/-- The reference's contents `V0` hold device `c`'s arguments. -/
structure Same (c : Dev nD) (V0 : Valuation Cert.MlstmStepRefIdeal.τ Cert.MlstmStepRefIdeal.sig (Elt Ideal)) : Prop where
  a0 : V0 (Proc.devRef .tc Cert.MlstmStepRefIdeal.main_arg0) = m ((c : Thread nD τ).loc main_arg0)
  a1 : V0 (Proc.devRef .tc Cert.MlstmStepRefIdeal.main_arg1) = m ((c : Thread nD τ).loc main_arg1)
  a2 : V0 (Proc.devRef .tc Cert.MlstmStepRefIdeal.main_arg2) = m ((c : Thread nD τ).loc main_arg2)
  a3 : V0 (Proc.devRef .tc Cert.MlstmStepRefIdeal.main_arg3) = m ((c : Thread nD τ).loc main_arg3)
  a4 : V0 (Proc.devRef .tc Cert.MlstmStepRefIdeal.main_arg4) = m ((c : Thread nD τ).loc main_arg4)
  a5 : V0 (Proc.devRef .tc Cert.MlstmStepRefIdeal.main_arg5) = m ((c : Thread nD τ).loc main_arg5)
  a6 : V0 (Proc.devRef .tc Cert.MlstmStepRefIdeal.main_arg6) = m ((c : Thread nD τ).loc main_arg6)

variable {m} {c : Dev nD} {V0 : Valuation Cert.MlstmStepRefIdeal.τ Cert.MlstmStepRefIdeal.sig (Elt Ideal)}

/-- Both sides' heads read the same numbers. -/
theorem Same.cell (hV : Same m c V0) (b : Fin 128) (h : Fin 4) : Cert.MlstmStepRefIdeal.Value.cell V0 b h = cell m c b h := by
  unfold Cert.MlstmStepRefIdeal.Value.cell RefValue.cell
  rw [hV.a0, hV.a1, hV.a2, hV.a3, hV.a4, hV.a5]

/-- The reference's log forget gates are real. -/
theorem Same.real (hV : Same m c V0) (hr : Reals m c) (b : Fin 128) (h : Fin 4) :
    Real (Cert.MlstmStepRefIdeal.Value.cell V0 b h).b := by
  rw [hV.cell]
  exact hr.b b h

/-- A reading a point leaves is the reference's. -/
theorem point_out (hV : Same m c V0) (hr : Reals m c) (t : Fin cfg0.N) (r : Fin 8) (j : Fin 512) :
    (outsAt0 m c t).1 (ix2 r j) = Cert.MlstmStepRefIdeal.Value.outs V0 (ix2 (rowOf t r) j) := by
  refine (out_left m c t (ix2 r j)).trans ((Piece.out_apply (head_holds m c t ⟨j.val / 128, by omega⟩) r
    ⟨j.val % 128, by omega⟩).trans ?_)
  rw [Cert.MlstmStepRefIdeal.Value.outs_apply (hV.real hr (rowOf t r) ⟨j.val / 128, by omega⟩) ⟨j.val % 128, by omega⟩ j
    (by simp only; omega), hV.cell, hV.a0, hV.a6, head_gate, funext (fun d => head_gain m c t _ d)]

/-- A matrix's entry a point leaves is the reference's. -/
theorem point_mat (hV : Same m c V0) (hr : Reals m c) (t : Fin cfg0.N) (r : Fin 8) (h : Fin 4) (d e : Fin 128) :
    (outsAt0 m c t).2.1 (ix4 r h d e) = Cert.MlstmStepRefIdeal.Value.mats V0 (ix4 (rowOf t r) h d e) := by
  refine (mat_left m c t (ix4 r h d e)).trans ((Piece.newC_apply (head_holds m c t h) (fun r d => hr.k _ _ d)
    (fun r d => hr.v _ _ d) r d e).trans ?_)
  rw [Cert.MlstmStepRefIdeal.Value.mats_apply (hV.real hr (rowOf t r) h) d e, hV.cell]

/-- A normaliser's entry a point leaves is the reference's. -/
theorem point_norm (hV : Same m c V0) (hr : Reals m c) (t : Fin cfg0.N) (h : Fin 4) (r : Fin 8) (d : Fin 128) :
    (outsAt0 m c t).2.2.1 (ix3 h r d) = Cert.MlstmStepRefIdeal.Value.norms V0 (ix3 h (rowOf t r) d) := by
  refine (norm_left m c t (ix3 h r d)).trans ((Piece.newN_apply (head_holds m c t h) r d).trans ?_)
  rw [Cert.MlstmStepRefIdeal.Value.norms_apply (hV.real hr (rowOf t r) h) d, hV.cell]

/-- A stabiliser a point leaves is the reference's. -/
theorem point_stab (hV : Same m c V0) (hr : Reals m c) (t : Fin cfg0.N) (r : Fin 8) (h : Fin 4) :
    (outsAt0 m c t).2.2.2 (ix2 r h) = Cert.MlstmStepRefIdeal.Value.res_main_v63 V0 (ix2 (rowOf t r) h) := by
  refine (stab_left m c t (ix2 r h)).trans ((stab_entry _ r h).trans ((Piece.mt_apply (head_holds m c t h) r).trans ?_))
  rw [Cert.MlstmStepRefIdeal.Value.stab_apply (hV.real hr (rowOf t r) h), hV.cell]

/-- The readings' array after the run. -/
theorem final (hV : Same m c V0) (hr : Reals m c) :
    (dats m 0 c).arrAt 10 (cfgs 0).N = Cert.MlstmStepRefIdeal.Value.outs V0 := by
  refine (dats m 0 c).arrAt_eq_of_covers 10 _ (by decide +kernel) fun t _ y => ?_
  blk_simp
  rw [after0_10]
  rw [eq_ix2 y]
  refine (point_out hV hr t (y 0) (y 1)).trans (congrArg (Cert.MlstmStepRefIdeal.Value.outs V0) ?_)
  have hi : (rowOf t (y 0)).val = t.val * 8 + (y 0).val := rfl
  blk_ext [idx t]

/-- The matrices' array after the run. -/
theorem final_mat (hV : Same m c V0) (hr : Reals m c) :
    (dats m 0 c).arrAt 11 (cfgs 0).N = Cert.MlstmStepRefIdeal.Value.mats V0 := by
  refine (dats m 0 c).arrAt_eq_of_covers 11 _ (by decide +kernel) fun t _ y => ?_
  blk_simp
  rw [after0_11]
  rw [eq_ix4 y]
  refine (point_mat hV hr t (y 0) (y 1) (y 2) (y 3)).trans (congrArg (Cert.MlstmStepRefIdeal.Value.mats V0) ?_)
  have hi : (rowOf t (y 0)).val = t.val * 8 + (y 0).val := rfl
  blk_ext [idx t]

/-- The normalisers' array after the run. -/
theorem final_norm (hV : Same m c V0) (hr : Reals m c) :
    (dats m 0 c).arrAt 12 (cfgs 0).N = Cert.MlstmStepRefIdeal.Value.norms V0 := by
  refine (dats m 0 c).arrAt_eq_of_covers 12 _ (by decide +kernel) fun t _ y => ?_
  blk_simp
  rw [after0_12]
  rw [eq_ix3 y]
  refine (point_norm hV hr t (y 0) (y 1) (y 2)).trans (congrArg (Cert.MlstmStepRefIdeal.Value.norms V0) ?_)
  have hi : (rowOf t (y 1)).val = t.val * 8 + (y 1).val := rfl
  blk_ext [idx t]

/-- The stabilisers' array after the run. -/
theorem final_stab (hV : Same m c V0) (hr : Reals m c) :
    (dats m 0 c).arrAt 13 (cfgs 0).N = Cert.MlstmStepRefIdeal.Value.res_main_v63 V0 := by
  refine (dats m 0 c).arrAt_eq_of_covers 13 _ (by decide +kernel) fun t _ y => ?_
  blk_simp
  rw [after0_13]
  rw [eq_ix2 y]
  refine (point_stab hV hr t (y 0) (y 1)).trans (congrArg (Cert.MlstmStepRefIdeal.Value.res_main_v63 V0) ?_)
  have hi : (rowOf t (y 0)).val = t.val * 8 + (y 0).val := rfl
  blk_ext [idx t]

/-- The precondition makes every head's log forget gate, keys and values real. -/
theorem reals (hp : Cert.Pre_MlstmStepIdeal_finite_step m) (c : Dev nD) : Reals m c where
  b b h := (Cert.Pre_finite_step.real_cell (hp c) b h).1
  k b h := (Cert.Pre_finite_step.real_cell (hp c) b h).2.1
  v b h := (Cert.Pre_finite_step.real_cell (hp c) b h).2.2

/-- The readings' array after the run, from the arguments. -/
theorem final_out (hV : Same m c V0) (hr : Reals m c) :
    (dats m 0 c).arrAt 10 (cfgs 0).N = Cert.MlstmStepRefIdeal.Value.outsOf (Cert.MlstmStepRefIdeal.Value.res_main_v62 V0)
      (m ((c : Thread nD τ).loc main_arg0)) (m ((c : Thread nD τ).loc main_arg6)) := by
  rw [final hV hr, ← hV.a0, ← hV.a6]
  rfl

/-- Launches that agree on the arguments hold the same arguments. -/
theorem same {m' : (ℓ : Loc Cert.MlstmStepRefIdeal.nD Cert.MlstmStepRefIdeal.τ Cert.MlstmStepRefIdeal.sig) → Buf (Elt Ideal) ℓ}
    (hagree : ∀ c : Dev nD, m' (c.tc.loc Cert.MlstmStepRefIdeal.main_arg0) = m (c.tc.loc main_arg0)
      ∧ m' (c.tc.loc Cert.MlstmStepRefIdeal.main_arg1) = m (c.tc.loc main_arg1)
      ∧ m' (c.tc.loc Cert.MlstmStepRefIdeal.main_arg2) = m (c.tc.loc main_arg2)
      ∧ m' (c.tc.loc Cert.MlstmStepRefIdeal.main_arg3) = m (c.tc.loc main_arg3)
      ∧ m' (c.tc.loc Cert.MlstmStepRefIdeal.main_arg4) = m (c.tc.loc main_arg4)
      ∧ m' (c.tc.loc Cert.MlstmStepRefIdeal.main_arg5) = m (c.tc.loc main_arg5)
      ∧ m' (c.tc.loc Cert.MlstmStepRefIdeal.main_arg6) = m (c.tc.loc main_arg6)) (c : Dev nD) :
    Same m c (StableHlo.launchContents m' c) where
  a0 := (hagree c).1
  a1 := (hagree c).2.1
  a2 := (hagree c).2.2.1
  a3 := (hagree c).2.2.2.1
  a4 := (hagree c).2.2.2.2.1
  a5 := (hagree c).2.2.2.2.2.1
  a6 := (hagree c).2.2.2.2.2.2

/-- The decoding kernel and its reference leave the same arrays where the precondition holds. -/
theorem agrees : Cert.algebraic_MlstmStepIdeal_MlstmStepRefIdeal_pre_finite_step := by
  pair_intro
  · run_from Cert.MlstmStepIdeal.Value.run_blocks m g
  · run_from Cert.MlstmStepRefIdeal.Value.run m' g'
    · exact (final_out (same hagree c) (reals hpre c)).symm
    · exact (final_mat (same hagree c) (reals hpre c)).symm
    · exact (final_norm (same hagree c) (reals hpre c)).symm
    · exact (final_stab (same hagree c) (reals hpre c)).symm

end Cert.MlstmStepIdeal.RefValue

end
-- ==== Proof.SsdUnit.lean ====
/-
  The vector arithmetic of one pair of heads of the SSD decoding step: the states of eight rows of the batch. The
  kernel's body does this four times at a grid point, once for each pair.
-/
module

public import proofs.«01_k».proof.Proof.StepMath
public import proofs.«01_k».proof.Proof.Gen.SsdStateIdeal.Value
public import Idealize.ShloMosaic.Lib.Pipeline.ReadBack

@[expose] public section

set_option maxRecDepth 65536

noncomputable section

namespace Cert.SsdStateIdeal.Piece

open Cert.SsdStateIdeal Cert.SsdStateIdeal.Gen Idealize.ShloMosaic Idealize.ShloMosaic.TcCoe Idealize.SL.Sem

/-- What one pair of heads of eight rows reads for its states: the inputs, the input directions, the two heads' step
    sizes, the two heads' decays of every row, and the rows' states. -/
structure In where
  x : FVec Ideal S8x128 .f32
  b : FVec Ideal S8x128 .f32
  t0 : FVec Ideal S8x1 .f32
  t1 : FVec Ideal S8x1 .f32
  d0 : Fin 8 → FVec Ideal S1x1 .f32
  d1 : Fin 8 → FVec Ideal S1x1 .f32
  C : Fin 8 → FVec Ideal S128x128 .f32

/-- The inputs, each times its head's step size. -/
def weighted (u : In) : FVec Ideal S8x128 .f32 :=
  mulf u.x (select (cmpi .slt (iota .tc S8x128 32 [1] iota_S8x128_d1_w32) (broadcast S8x128 64#32))
    (broadcastTo S8x128 (shapeCast S8x1 u.t0 shapeCasts_S8x1_S8x1) broadcasts_S8x1_S8x128)
    (broadcastTo S8x128 (shapeCast S8x1 u.t1 shapeCasts_S8x1_S8x1) broadcasts_S8x1_S8x128))

/-- The decays of row `r`, each head's beside its half of the state. -/
def decay (u : In) (r : Fin 8) : FVec Ideal S128x1 .f32 :=
  select (cmpi .slt (iota .tc S128x1 32 [0] iota_S128x1_d0_w32) (broadcast S128x1 64#32))
    (broadcastTo S128x1 (shapeCast S1x1 (u.d0 r) shapeCasts_S1x1_S1x1) broadcasts_S1x1_S128x1)
    (broadcastTo S128x1 (shapeCast S1x1 (u.d1 r) shapeCasts_S1x1_S1x1) broadcasts_S1x1_S128x1)

/-- The state of row `r` after the step. -/
def newC (u : In) (r : Fin 8) : FVec Ideal S128x128 .f32 :=
  addf (mulf (u.C r) (broadcastTo S128x128 (decay u r) broadcasts_S128x1_S128x128))
    (matmul dot_S128x32_S32x128_S128x128_1_0_0_1_n_n none (Cert.MlstmStepIdeal.Piece.lhs (weighted u))
      (Cert.MlstmStepIdeal.Piece.rhs (BitVec.ofNat 32 r.val) u.b) (constant S128x128 .f32 0x00000000#32))

section Inputs

variable (x1 : Vec Ideal S8x1024 .f32) (x2 : Vec Ideal S8x256 .f32) (x3 : Vec Ideal S1x3x8x1024 .f32)
  (x4 : Vec Ideal S1x8x4x128x128 .f32) (x5 : Vec Ideal S4x1024 .f32) (x6 : Vec Ideal S1x1024 .f32) (x7 x8 : Vec Ideal S1x256 .f32)

/-- The buffer's step `k`. -/
abbrev tap (k : Fin 3) : Vec Ideal S1x1x8x1024 .f32 :=
  View.ld x3 (Rect.unit ![0, k.val, 0, 0] ![1, 1, 8, 1024] (by revert k; decide))

/-- The convolution's outputs, activated. -/
abbrev act : FVec Ideal S8x1024 .f32 := k0_pay9 (k0_pay7 x5 (tap x3 0) (tap x3 1) (tap x3 2)) (k0_pay8 x5 x1) x6

/-- The step sizes. -/
abbrev sizes : FVec Ideal S8x128 .f32 :=
  k0_pay13 (View.ld x2 (Rect.unit ![0, 0] ![8, 128] (by decide))) (View.ld x7 (Rect.unit ![0, 0] ![1, 128] (by decide)))

/-- The decays. -/
abbrev decays : FVec Ideal S8x128 .f32 :=
  k0_pay14 (View.ld x2 (Rect.unit ![0, 0] ![8, 128] (by decide))) (View.ld x7 (Rect.unit ![0, 0] ![1, 128] (by decide)))
    (View.ld x8 (Rect.unit ![0, 0] ![1, 128] (by decide)))

/-- A pair's inputs are a slice of all. -/
theorem x_slices (j : Fin 4) : S8x512.Slices ![0, 128 * j.val] S8x128 := by
  revert j
  decide

/-- A group's input directions are a slice of all. -/
theorem b_slices (j : Fin 4) : S8x256.Slices ![0, 128 * (j.val / 2)] S8x128 := by
  revert j
  decide

/-- A head's step sizes are a column of all. -/
theorem t_slices (h : Fin 8) : S8x128.Slices ![0, h.val] S8x1 := by
  revert h
  decide

/-- A head's decay of a row is an entry of all. -/
theorem d_slices (r h : Fin 8) : S8x128.Slices ![r.val, h.val] S1x1 := by
  revert r h
  decide

/-- The first head of a pair. -/
abbrev head0 (j : Fin 4) : Fin 8 := ⟨2 * j.val, by omega⟩

/-- The second head of a pair. -/
abbrev head1 (j : Fin 4) : Fin 8 := ⟨2 * j.val + 1, by omega⟩

/-- The state of row `r` and pair `j`. -/
abbrev mat (r : Fin 8) (j : Fin 4) : FVec Ideal S128x128 .f32 :=
  shapeCast S128x128 (View.ld x4 (Rect.unit ![0, r.val, j.val, 0, 0] ![1, 1, 1, 128, 128] (by revert r j; decide)))
    shapeCasts_S1x1x1x128x128_S128x128

/-- What pair `j` of a grid point reads of the point's blocks. -/
def ins (j : Fin 4) : In where
  x := extractStridedSlice S8x128 ![0, 128 * j.val]
    (extractStridedSlice S8x512 ![0, 0] (act x1 x3 x5 x6) slices_S8x1024_o0_0_S8x512) (x_slices j)
  b := extractStridedSlice S8x128 ![0, 128 * (j.val / 2)]
    (extractStridedSlice S8x256 ![0, 512] (act x1 x3 x5 x6) slices_S8x1024_o0_512_S8x256) (b_slices j)
  t0 := extractStridedSlice S8x1 ![0, (head0 j).val] (sizes x2 x7) (t_slices _)
  t1 := extractStridedSlice S8x1 ![0, (head1 j).val] (sizes x2 x7) (t_slices _)
  d0 r := extractStridedSlice S1x1 ![r.val, (head0 j).val] (decays x2 x7 x8) (d_slices _ _)
  d1 r := extractStridedSlice S1x1 ![r.val, (head1 j).val] (decays x2 x7 x8) (d_slices _ _)
  C r := mat x4 r j

end Inputs

end Cert.SsdStateIdeal.Piece

namespace Cert.SsdStateIdeal.RefValue

open Cert.SsdStateIdeal Cert.SsdStateIdeal.Gen Idealize.ShloMosaic Idealize.ShloMosaic.TcCoe Idealize.SL.Sem

variable (m : (ℓ : Loc nD τ sig) → Buf (Elt Ideal) ℓ)

/-- What pair `j` of grid point `t` reads. -/
abbrev pair (c : Dev nD) (t : Fin cfg0.N) (j : Fin 4) : Piece.In :=
  Piece.ins (X0_1 m c t) (iblk m c 2 t) (iblk m c 3 t) (iblk m c 4 t) (iblk m c 5 t) (iblk m c 6 t) (iblk m c 7 t) (iblk m c 8 t) j

/-- The piece of the states' block of a row and a pair. -/
def matPiece (U : Fin 4 → Piece.In) (p : Fin 8 × Fin 4) : View.Piece (Elt Ideal) S8x4x128x128 .f32 :=
  ⟨Rect.unit (s := S8x4x128x128) ![p.1.val, p.2.val, 0, 0] ![1, 1, 128, 128] (by
      obtain ⟨r, h⟩ := p
      revert r h
      decide),
    shapeCast S1x1x128x128 (Piece.newC (U p.2) p.1) shapeCasts_S128x128_S1x1x128x128⟩

/-- The rows and pairs, last first. -/
abbrev pairRows : List (Fin 8 × Fin 4) :=
  ([3, 2, 1, 0] : List (Fin 4)).flatMap fun h => [(7, h), (6, h), (5, h), (4, h), (3, h), (2, h), (1, h), (0, h)]

/-- Where every piece of a list made piece by piece has a value, the list has it. -/
theorem allAt_map {S : Shape} {e : EltTy} {α : Type} (f : α → View.Piece (Elt Ideal) S e) (l : List α) (y : S.Idx) (v : Elt Ideal e)
    (h : ∀ a, View.RectAt y (f a).1 (f a).2 v) : View.AllAt (l.map f) y v := by
  intro p hp
  obtain ⟨a, _, rfl⟩ := List.mem_map.mp hp
  exact h a

/-- A row's and pair's piece of the states' block holds their state. -/
theorem mat_rect (U : Fin 4 → Piece.In) (p : Fin 8 × Fin 4) (y : S8x4x128x128.Idx) :
    View.RectAt y (matPiece U p).1 (matPiece U p).2 (Piece.newC (U (y 1)) (y 0) (ix2 (y 2) (y 3))) := by
  rintro x rfl
  have e0 : (matPiece U p).1.emb x 0 = p.1 := Fin.ext (by
    have hx : (x 0).val < 1 := (x 0).isLt
    show p.1.val + 1 * (x 0).val = p.1.val
    omega)
  have e1 : (matPiece U p).1.emb x 1 = p.2 := Fin.ext (by
    have hx : (x 1).val < 1 := (x 1).isLt
    show p.2.val + 1 * (x 1).val = p.2.val
    omega)
  have e2 : (matPiece U p).1.emb x 2 = x 2 := Fin.ext (by
    show 0 + 1 * (x 2).val = (x 2).val
    omega)
  have e3 : (matPiece U p).1.emb x 3 = x 3 := Fin.ext (by
    show 0 + 1 * (x 3).val = (x 3).val
    omega)
  rw [e0, e1]
  refine Eq.trans ?_ (congrArg₂ (fun a b => Piece.newC (U p.2) p.1 (ix2 a b)) e2 e3).symm
  have hx : x = (ix4 (0 : Fin 1) (0 : Fin 1) (x 2) (x 3) : S1x1x128x128.Idx) := by
    refine (eq_ix4 (n0 := 1) (n1 := 1) (n2 := 128) (n3 := 128) x).trans ?_
    rw [Subsingleton.elim (α := Fin 1) (x 0) 0, Subsingleton.elim (α := Fin 1) (x 1) 0]
  refine (congrArg (shapeCast S1x1x128x128 (Piece.newC (U p.2) p.1) shapeCasts_S128x128_S1x1x128x128) hx).trans ?_
  generalize Piece.newC (U p.2) p.1 = z
  generalize x 2 = a
  generalize x 3 = b
  pointwise

/-- The states' block a point leaves. -/
theorem mat_left (c : Dev nD) (t : Fin cfg0.N) (y : S8x4x128x128.Idx) :
    (outsAt0 m c t).2.2 y = Piece.newC (pair m c t (y 1)) (y 0) (ix2 (y 2) (y 3)) := by
  have h : (outsAt0 m c t).2.2 y = View.canon (pairRows.map (matPiece (pair m c t))) y := by
    unfold outsAt0
    dsimp only
    unfold out0_A_13
    frame_out
    sl_kernel_rfl
  rw [h]
  exact View.canon_eq_of_allAt _ _ _ (View.cover_of_tiled_head _ _ _ (by sl_kernel_rfl) _)
    (allAt_map _ _ _ _ fun p => mat_rect _ p y)

end Cert.SsdStateIdeal.RefValue

end
-- ==== Proof.SsdMath.lean ====
/-
  One step of the SSD recurrence of a row and a pair of heads, in plain extended-real arithmetic, and what the kernel's
  vector arithmetic makes of eight rows, entry by entry.
-/
module

public import proofs.«01_k».proof.Proof.SsdUnit

@[expose] public section

set_option maxRecDepth 65536

noncomputable section

namespace Cert.Ssd

open Idealize.ShloMosaic

/-- A number times its sigmoid. -/
def silu (x : EReal) : EReal := x * Ideal.div 1 (1 + Ideal.exp (-x))

/-- The logarithm of one plus the exponential. -/
def soft (x : EReal) : EReal := max x 0 + Ideal.log1p (Ideal.exp (-(max x (-x))))

/-- What a row's pair of heads reads: by input its number, its head's step size and decay, by direction its number, and
    the state. -/
structure Cell where
  x : Fin 128 → EReal
  b : Fin 128 → EReal
  t : Fin 128 → EReal
  d : Fin 128 → EReal
  C : Fin 128 → Fin 128 → EReal

/-- The state after the step. -/
def Cell.newC (c : Cell) (p n : Fin 128) : EReal := c.C p n * c.d p + c.x p * c.t p * c.b n

/-- The head of a pair's input. -/
def headOf (j : Fin 4) (p : Fin 128) : Fin 8 := ⟨2 * j.val + p.val / 64, by omega⟩

/-- The place of a pair's input among its head's. -/
def placeOf (p : Fin 128) : Fin 64 := ⟨p.val % 64, by omega⟩

section Arrays

variable (P : (⟨2, ![128, 11520]⟩ : Shape).Idx → EReal) (B : (⟨4, ![4, 128, 3, 1024]⟩ : Shape).Idx → EReal)
  (S : (⟨5, ![4, 128, 8, 64, 128]⟩ : Shape).Idx → EReal) (W : (⟨2, ![4, 1024]⟩ : Shape).Idx → EReal)
  (g : (⟨1, ![1024]⟩ : Shape).Idx → EReal) (u a : (⟨1, ![8]⟩ : Shape).Idx → EReal)

/-- The convolution of a row's channel. -/
def conv (b : Fin 128) (e : Fin 1024) : EReal :=
  B (ix4 0 b 0 e) * W (ix2 0 e) + B (ix4 0 b 1 e) * W (ix2 1 e) + B (ix4 0 b 2 e) * W (ix2 2 e)
    + P (ix2 b ⟨2048 + e.val, by omega⟩) * W (ix2 3 e) + g (ix1 e)

/-- The input of a row's step size. -/
def stepIn (b : Fin 128) (h : Fin 8) : EReal := P (ix2 b ⟨11264 + h.val, by omega⟩) + u (ix1 h)

/-- The decay of a row's head. -/
def decay (b : Fin 128) (h : Fin 8) : EReal := Ideal.exp (-(Ideal.exp (a (ix1 h))) * soft (stepIn P u b h))

/-- What pair `j` of row `b` reads of the packed projections, the buffers, the states and the parameters. -/
def cellOf (b : Fin 128) (j : Fin 4) : Cell where
  x p := silu (conv P B W g b ⟨128 * j.val + p.val, by omega⟩)
  b n := silu (conv P B W g b ⟨512 + (128 * (j.val / 2) + n.val), by omega⟩)
  t p := soft (stepIn P u b (headOf j p))
  d p := decay P u a b (headOf j p)
  C p n := S (ix5 0 b (headOf j p) (placeOf p) n)

end Arrays

end Cert.Ssd

namespace Cert.SsdStateIdeal.Piece

open Cert.SsdStateIdeal Cert.SsdStateIdeal.Gen Idealize.ShloMosaic Idealize.ShloMosaic.TcCoe Idealize.SL.Sem Cert.Ssd Cert.Step

/-- The arrays a pair reads hold eight rows' numbers. -/
structure Holds (u : In) (c : Fin 8 → Ssd.Cell) : Prop where
  x : ∀ r p, u.x (ix2 r p) = (c r).x p
  b : ∀ r n, u.b (ix2 r n) = (c r).b n
  t : ∀ r p, (if p.val < 64 then u.t0 (ix2 r 0) else u.t1 (ix2 r 0)) = (c r).t p
  d : ∀ r (p : Fin 128), (if p.val < 64 then u.d0 r (ix2 0 0) else u.d1 r (ix2 0 0)) = (c r).d p
  C : ∀ r p n, u.C r (ix2 p n) = (c r).C p n

/-- A choice by whether a small number is below 64. -/
theorem below (k : ℕ) (hk : k < 128) (a b : EReal) :
    Scalar.select (IntOp.cmpi .slt (BitVec.ofNat 32 k) 64#32) a b = if k < 64 then a else b := by
  rw [show (64#32 : BitVec 32) = BitVec.ofNat 32 64 from rfl, WordCmp.cmpi_slt_ofNat (by omega) (by omega)]
  by_cases hb : k < 64
  · simp [hb, Scalar.select]
  · simp [hb, Scalar.select]

section Entries

variable {u : In} {c : Fin 8 → Ssd.Cell} (hu : Holds u c)
include hu

/-- The inputs times their step sizes, entry by entry. -/
theorem weighted_apply (r : Fin 8) (p : Fin 128) : weighted u (ix2 r p) = (c r).x p * (c r).t p := by
  rw [← hu.x, ← hu.t]
  unfold weighted
  pointwise
  rw [below _ p.isLt]

/-- The decays, entry by entry. -/
theorem decay_apply (r : Fin 8) (p : Fin 128) : decay u r (ix2 p 0) = (c r).d p := by
  rw [← hu.d]
  unfold decay
  pointwise
  rw [below _ p.isLt]

/-- The states after the step, entry by entry. -/
theorem newC_apply (hx : ∀ r p, Real ((c r).x p * (c r).t p)) (hb : ∀ r n, Real ((c r).b n)) (r : Fin 8) (p n : Fin 128) :
    newC u r (ix2 p n) = (c r).newC p n := by
  have ho := Cert.MlstmStepIdeal.Piece.outer_apply (weighted u) u.b (fun r p => by rw [weighted_apply hu]; exact hx r p)
    (fun r n => by rw [hu.b]; exact hb r n) r p n
  have ho' : matmul dot_S128x32_S32x128_S128x128_1_0_0_1_n_n none (Cert.MlstmStepIdeal.Piece.lhs (weighted u))
      (Cert.MlstmStepIdeal.Piece.rhs (BitVec.ofNat 32 r.val) u.b) (constant S128x128 .f32 0x00000000#32) (ix2 p n)
      = weighted u (ix2 r p) * u.b (ix2 r n) := ho
  rw [weighted_apply hu, hu.b] at ho'
  unfold newC Ssd.Cell.newC
  rw [← ho']
  generalize matmul dot_S128x32_S32x128_S128x128_1_0_0_1_n_n none (Cert.MlstmStepIdeal.Piece.lhs (weighted u))
    (Cert.MlstmStepIdeal.Piece.rhs (BitVec.ofNat 32 r.val) u.b) (constant S128x128 .f32 0x00000000#32) = z
  rw [← decay_apply hu, ← hu.C]
  generalize decay u r = w
  pointwise

end Entries

end Cert.SsdStateIdeal.Piece

end
-- ==== Proof.SsdReads.lean ====
/-
  The SSD decoding kernel's windows: what the input blocks of a grid point hold of the argument arrays, and so what every
  pair of heads reads.
-/
module

public import proofs.«01_k».proof.Proof.SsdMath
public import Idealize.ShloMosaic.Lib.Pipeline.Value

@[expose] public section

set_option maxRecDepth 65536

noncomputable section

namespace Cert.SsdStateIdeal.RefValue

open Cert.SsdStateIdeal Cert.SsdStateIdeal.Gen Idealize.ShloMosaic Idealize.ShloMosaic.TcCoe Idealize.SL.Sem Cert.Ssd

variable (m : (ℓ : Loc nD τ sig) → Buf (Elt Ideal) ℓ)

/-- The block every window of the states stages at a grid point. -/
theorem idx : ∀ t : Fin cfg0.N, win0_1.index t = ![t.val, 2] ∧ win0_2.index t = ![t.val, 44] ∧ win0_3.index t = ![0, 0, t.val, 0]
    ∧ win0_4.index t = ![0, t.val, 0, 0, 0] ∧ win0_5.index t = ![0, 0] ∧ win0_6.index t = ![0, 0] ∧ win0_7.index t = ![0, 0]
    ∧ win0_8.index t = ![0, 0] ∧ win0_13.index t = ![t.val, 0, 0, 0] :=
  (by decide +kernel : ∀ t : Fin grid0.N, _)

/-- What pair `j` of row `b` reads of device `c`'s argument arrays. -/
abbrev cell (c : Dev nD) (b : Fin 128) (j : Fin 4) : Cell :=
  cellOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b j

/-- The row of the batch at row `r` of a grid point's block. -/
def rowOf (t : Fin cfg0.N) (r : Fin 8) : Fin 128 := ⟨t.val * 8 + r.val, by
  have ht : t.val < 16 := lt_of_lt_of_eq t.isLt N_0
  omega⟩

/-- The convolution's input at a point is columns of the point's rows. -/
theorem read_input (c : Dev nD) (t : Fin cfg0.N) (r : Fin 8) (e : Fin 1024) :
    X0_1 m c t (ix2 r e) = m ((c : Thread nD τ).loc main_arg0) (ix2 (rowOf t r) ⟨2048 + e.val, by omega⟩) := by
  have hi : (rowOf t r).val = t.val * 8 + r.val := rfl
  unfold X0_1 Pipeline.Window.fill
  rw [dif_pos (moved0_1 t _)]
  blk_point [iblk, V, idx t]

/-- The narrow columns' block. -/
theorem read_small (c : Dev nD) (t : Fin cfg0.N) (r : Fin 8) (e : Fin 256) :
    iblk m c 2 t (ix2 r e) = m ((c : Thread nD τ).loc main_arg0) (ix2 (rowOf t r) ⟨11264 + e.val, by omega⟩) := by
  have hi : (rowOf t r).val = t.val * 8 + r.val := rfl
  blk_point [iblk, V, idx t]

/-- The buffer's block at a point is the first layer's buffer of the point's rows. -/
theorem read_buffer (c : Dev nD) (t : Fin cfg0.N) (k : Fin 3) (r : Fin 8) (e : Fin 1024) :
    iblk m c 3 t (ix4 0 k r e) = m ((c : Thread nD τ).loc main_arg1) (ix4 0 (rowOf t r) k e) := by
  have hi : (rowOf t r).val = t.val * 8 + r.val := rfl
  blk_point [iblk, V, idx t]

/-- The convolution's weights. -/
theorem read_weight (c : Dev nD) (t : Fin cfg0.N) (k : Fin 4) (e : Fin 1024) :
    iblk m c 5 t (ix2 k e) = m ((c : Thread nD τ).loc main_arg3) (ix2 k e) := by
  blk_point [iblk, V, idx t]

/-- The array of the states' window. -/
theorem state_eq (c : Dev nD) : V m c main_v0
    = shapeCast S4x128x4x128x128 (m ((c : Thread nD τ).loc main_arg2)) shapeCasts_S4x128x8x64x128_S4x128x4x128x128 := by
  unfold V
  after_results_simp
  rfl

/-- The states of two heads in one axis. -/
theorem paired_apply (x : FVec Ideal S4x128x8x64x128 .f32) (b : Fin 128) (j : Fin 4) (p n : Fin 128) :
    shapeCast S4x128x4x128x128 x shapeCasts_S4x128x8x64x128_S4x128x4x128x128 (ix5 0 b j p n)
      = x (ix5 0 b (headOf j p) (placeOf p) n) := by
  unfold headOf placeOf
  simp only [Nat.mul_comm 2]
  pointwise

/-- The states' block. -/
theorem read_state (c : Dev nD) (t : Fin cfg0.N) (r : Fin 8) (j : Fin 4) (p n : Fin 128) :
    iblk m c 4 t (ix5 0 r j p n) = m ((c : Thread nD τ).loc main_arg2) (ix5 0 (rowOf t r) (headOf j p) (placeOf p) n) := by
  have hi : (rowOf t r).val = t.val * 8 + r.val := rfl
  have h : iblk m c 4 t (ix5 0 r j p n) = V m c main_v0 (ix5 0 (rowOf t r) j p n) := by blk_point [iblk, idx t]
  exact h.trans ((congrFun (state_eq m c) _).trans (paired_apply _ _ _ _ _))

/-- The array of the convolution's bias. -/
theorem shift_eq (c : Dev nD) : V m c main_v2 = shapeCast S1x1024 (m ((c : Thread nD τ).loc main_arg4)) shapeCasts_S1024_S1x1024 := by
  unfold V
  after_results_simp
  rfl

/-- The convolution's bias. -/
theorem read_shift (c : Dev nD) (t : Fin cfg0.N) (e : Fin 1024) :
    iblk m c 6 t (ix2 0 e) = m ((c : Thread nD τ).loc main_arg4) (ix1 e) := by
  have h : iblk m c 6 t (ix2 0 e) = V m c main_v2 (ix2 0 e) := by blk_point [iblk, idx t]
  rw [h, shift_eq]
  pointwise

/-- A short vector placed in a row. -/
def place (x : FVec Ideal S256 .f32) (u : FVec Ideal S8 .f32) (st : Fin S256.rank → ℤ) : FVec Ideal S256 .f32 :=
  Host.dynamicUpdateSlice x u st updateFits_S256_S8

/-- Rows with a short vector placed at equal places are equal. -/
theorem place_congr {x x' : FVec Ideal S256 .f32} (u : FVec Ideal S8 .f32) {st st' : Fin S256.rank → ℤ} (hx : x = x')
    (hs : ∀ k, st k = st' k) : place x u st = place x' u st' := by
  rw [hx, funext hs]

/-- An entry of the short vector placed at a row's start. -/
theorem place_apply (x : FVec Ideal S256 .f32) (u : FVec Ideal S8 .f32) (e : Fin 8) :
    place x u (fun _ => ((0 : ℕ) : ℤ)) (ix1 ⟨e.val, by omega⟩) = u (ix1 e) := by
  unfold place
  rw [Host.dynamicUpdateSlice_eq_updateSlice x u _ _ (fun _ => 0) (by
      intro a
      obtain rfl : a = 0 := Subsingleton.elim _ _
      show (min (max ((0 : ℕ) : ℤ) 0) ((256 - 8 : ℕ) : ℤ)).toNat = 0
      omega) ⟨rfl, by
      intro a
      obtain rfl : a = 0 := Subsingleton.elim _ _
      show 0 + 8 ≤ 256
      omega⟩]
  unfold updateSlice
  pointwise
  refine congrArg u (funext fun b => ?_)
  obtain rfl : b = 0 := Subsingleton.elim _ _
  rfl

/-- The row a vector of the heads is placed in. -/
abbrev rowed (u : FVec Ideal S8 .f32) : FVec Ideal S256 .f32 :=
  place (broadcastInDim S256 ![] bcast_S_S256 (constant S_ FTy.f32 0#32)) u (fun _ => ((0 : ℕ) : ℤ))

/-- The array of the step sizes' biases. -/
theorem bias_eq (c : Dev nD) : V m c main_v5 = shapeCast S1x256 (rowed (m ((c : Thread nD τ).loc main_arg5))) shapeCasts_S256_S1x256 := by
  unfold V
  after_results_simp
  refine congrArg (fun x => shapeCast S1x256 x shapeCasts_S256_S1x256) (place_congr _ rfl ?_)
  intro k
  obtain rfl : k = 0 := Subsingleton.elim _ _
  rfl

/-- The array of the decays' rates. -/
theorem rate_eq (c : Dev nD) : V m c main_v8 = shapeCast S1x256 (rowed (m ((c : Thread nD τ).loc main_arg6))) shapeCasts_S256_S1x256 := by
  unfold V
  after_results_simp
  refine congrArg (fun x => shapeCast S1x256 x shapeCasts_S256_S1x256) (place_congr _ rfl ?_)
  intro k
  obtain rfl : k = 0 := Subsingleton.elim _ _
  rfl

/-- A row with a unit axis before it. -/
theorem unit_apply (x : FVec Ideal S256 .f32) (e : Fin 256) : shapeCast S1x256 x shapeCasts_S256_S1x256 (ix2 0 e) = x (ix1 e) := by
  pointwise

/-- The step sizes' biases. -/
theorem read_bias (c : Dev nD) (t : Fin cfg0.N) (h : Fin 8) :
    iblk m c 7 t (ix2 0 ⟨h.val, by omega⟩) = m ((c : Thread nD τ).loc main_arg5) (ix1 h) := by
  have e : iblk m c 7 t (ix2 0 ⟨h.val, by omega⟩) = V m c main_v5 (ix2 0 ⟨h.val, by omega⟩) := by blk_point [iblk, idx t]
  rw [e, bias_eq, unit_apply]
  exact place_apply _ _ h

/-- The decays' rates. -/
theorem read_rate (c : Dev nD) (t : Fin cfg0.N) (h : Fin 8) :
    iblk m c 8 t (ix2 0 ⟨h.val, by omega⟩) = m ((c : Thread nD τ).loc main_arg6) (ix1 h) := by
  have e : iblk m c 8 t (ix2 0 ⟨h.val, by omega⟩) = V m c main_v8 (ix2 0 ⟨h.val, by omega⟩) := by blk_point [iblk, idx t]
  rw [e, rate_eq, unit_apply]
  exact place_apply _ _ h

/-- An activated output of the convolution, entry by entry. -/
theorem act_apply (x1 : Vec Ideal S8x1024 .f32) (x3 : Vec Ideal S1x3x8x1024 .f32) (x5 : Vec Ideal S4x1024 .f32)
    (x6 : Vec Ideal S1x1024 .f32) (r : Fin 8) (e : Fin 1024) :
    Piece.act x1 x3 x5 x6 (ix2 r e) = silu (x3 (ix4 0 0 r e) * x5 (ix2 0 e) + x3 (ix4 0 1 r e) * x5 (ix2 1 e)
      + x3 (ix4 0 2 r e) * x5 (ix2 2 e) + x1 (ix2 r e) * x5 (ix2 3 e) + x6 (ix2 0 e)) := by
  unfold Piece.act k0_pay9 k0_pay8 k0_pay7 k0_pay3 k0_pay2 Piece.tap silu
  pointwise [View.ld]
  simp only [zero_sub]

/-- A step size, entry by entry. -/
theorem sizes_apply (x2 : Vec Ideal S8x256 .f32) (x7 : Vec Ideal S1x256 .f32) (r : Fin 8) (e : Fin 128) :
    Piece.sizes x2 x7 (ix2 r e) = soft (x2 (ix2 r ⟨e.val, by omega⟩) + x7 (ix2 0 ⟨e.val, by omega⟩)) := by
  unfold Piece.sizes k0_pay13 soft
  pointwise [View.ld]
  simp only [zero_sub]
  rfl

/-- A decay, entry by entry. -/
theorem decays_apply (x2 : Vec Ideal S8x256 .f32) (x7 x8 : Vec Ideal S1x256 .f32) (r : Fin 8) (e : Fin 128) :
    Piece.decays x2 x7 x8 (ix2 r e) = Ideal.exp (-(Ideal.exp (x8 (ix2 0 ⟨e.val, by omega⟩)))
      * soft (x2 (ix2 r ⟨e.val, by omega⟩) + x7 (ix2 0 ⟨e.val, by omega⟩))) := by
  refine Eq.trans ?_ (congrArg (fun z => Ideal.exp (-(Ideal.exp (x8 (ix2 0 ⟨e.val, by omega⟩))) * z)) (sizes_apply x2 x7 r e))
  unfold Piece.decays k0_pay14 Piece.sizes
  generalize k0_pay13 (View.ld x2 (Rect.unit ![0, 0] ![8, 128] (by decide))) (View.ld x7 (Rect.unit ![0, 0] ![1, 128] (by decide))) = z
  pointwise [View.ld]
  simp only [zero_sub]

/-- A pair's inputs among all. -/
theorem x_apply (z : FVec Ideal S8x1024 .f32) (j : Fin 4) (r : Fin 8) (p : Fin 128) :
    extractStridedSlice S8x128 ![0, 128 * j.val] (extractStridedSlice S8x512 ![0, 0] z slices_S8x1024_o0_0_S8x512)
      (Piece.x_slices j) (ix2 r p) = z (ix2 r ⟨128 * j.val + p.val, by omega⟩) := by
  refine (extractStridedSlice_apply _ _ _ _ (ix2 r ⟨128 * j.val + p.val, by omega⟩) fun a => ?_).trans
    (extractStridedSlice_apply _ _ _ _ (ix2 r ⟨128 * j.val + p.val, by omega⟩) fun a => ?_)
  · fin_cases a
    · exact (Nat.zero_add _).symm
    · rfl
  · fin_cases a
    · exact (Nat.zero_add _).symm
    · exact (Nat.zero_add _).symm

/-- A group's input directions among all. -/
theorem b_apply (z : FVec Ideal S8x1024 .f32) (j : Fin 4) (r : Fin 8) (n : Fin 128) :
    extractStridedSlice S8x128 ![0, 128 * (j.val / 2)] (extractStridedSlice S8x256 ![0, 512] z slices_S8x1024_o0_512_S8x256)
      (Piece.b_slices j) (ix2 r n) = z (ix2 r ⟨512 + (128 * (j.val / 2) + n.val), by omega⟩) := by
  refine (extractStridedSlice_apply _ _ _ _ (ix2 r ⟨128 * (j.val / 2) + n.val, by omega⟩) fun a => ?_).trans
    (extractStridedSlice_apply _ _ _ _ (ix2 r ⟨512 + (128 * (j.val / 2) + n.val), by omega⟩) fun a => ?_)
  · fin_cases a
    · exact (Nat.zero_add _).symm
    · rfl
  · fin_cases a
    · exact (Nat.zero_add _).symm
    · rfl

/-- A head's column among all. -/
theorem t_apply (z : FVec Ideal S8x128 .f32) (h : Fin 8) (r : Fin 8) :
    extractStridedSlice S8x1 ![0, h.val] z (Piece.t_slices h) (ix2 r 0) = z (ix2 r ⟨h.val, by omega⟩) := by
  refine extractStridedSlice_apply _ _ _ _ _ fun a => ?_
  fin_cases a
  · exact (Nat.zero_add _).symm
  · rfl

/-- A head's entry of a row among all. -/
theorem d_apply (z : FVec Ideal S8x128 .f32) (r h : Fin 8) :
    extractStridedSlice S1x1 ![r.val, h.val] z (Piece.d_slices r h) (ix2 0 0) = z (ix2 r ⟨h.val, by omega⟩) := by
  refine extractStridedSlice_apply _ _ _ _ _ fun a => ?_
  fin_cases a
  · rfl
  · rfl

/-- A state with three leading unit axes, without them. -/
theorem drop_unit (w : Vec Ideal S1x1x1x128x128 .f32) (d e : Fin 128) :
    shapeCast S128x128 w shapeCasts_S1x1x1x128x128_S128x128 (ix2 d e) = w (ix5 0 0 0 d e) := by
  pointwise

/-- The state of a row and a pair of the states' block. -/
theorem mat_apply (x : Vec Ideal S1x8x4x128x128 .f32) (r : Fin 8) (h : Fin 4) (d e : Fin 128) :
    Piece.mat x r h (ix2 d e) = x (ix5 0 r h d e) := by
  refine (drop_unit (View.ld x (Rect.unit ![0, r.val, h.val, 0, 0] ![1, 1, 1, 128, 128] (by revert r h; decide))) d e).trans ?_
  rw [View.ld_apply]
  refine congrArg x (funext fun a => Fin.ext ?_)
  fin_cases a
  · rfl
  · exact Nat.add_zero _
  · exact Nat.add_zero _
  · show 0 + 1 * d.val = d.val
    omega
  · show 0 + 1 * e.val = e.val
    omega

/-- The activated outputs a point reads. -/
theorem act_read (c : Dev nD) (t : Fin cfg0.N) (r : Fin 8) (e : Fin 1024) :
    Piece.act (X0_1 m c t) (iblk m c 3 t) (iblk m c 5 t) (iblk m c 6 t) (ix2 r e)
      = silu (conv (m ((c : Thread nD τ).loc main_arg0)) (m ((c : Thread nD τ).loc main_arg1)) (m ((c : Thread nD τ).loc main_arg3))
          (m ((c : Thread nD τ).loc main_arg4)) (rowOf t r) e) := by
  refine (act_apply _ _ _ _ r e).trans (congrArg silu ?_)
  unfold conv
  rw [read_buffer, read_buffer, read_buffer, read_input, read_shift]
  simp only [read_weight]

/-- The step sizes a point reads. -/
theorem sizes_read (c : Dev nD) (t : Fin cfg0.N) (r h : Fin 8) :
    Piece.sizes (iblk m c 2 t) (iblk m c 7 t) (ix2 r ⟨h.val, by omega⟩)
      = soft (stepIn (m ((c : Thread nD τ).loc main_arg0)) (m ((c : Thread nD τ).loc main_arg5)) (rowOf t r) h) := by
  refine (sizes_apply _ _ r ⟨h.val, by omega⟩).trans (congrArg soft ?_)
  exact congrArg₂ (fun x y : EReal => x + y) (read_small m c t r _) (read_bias m c t h)

/-- The decays a point reads. -/
theorem decays_read (c : Dev nD) (t : Fin cfg0.N) (r h : Fin 8) :
    Piece.decays (iblk m c 2 t) (iblk m c 7 t) (iblk m c 8 t) (ix2 r ⟨h.val, by omega⟩)
      = decay (m ((c : Thread nD τ).loc main_arg0)) (m ((c : Thread nD τ).loc main_arg5)) (m ((c : Thread nD τ).loc main_arg6))
          (rowOf t r) h := by
  refine (decays_apply _ _ _ r ⟨h.val, by omega⟩).trans ?_
  unfold decay stepIn
  exact congrArg₂ (fun a z : EReal => Ideal.exp (-(Ideal.exp a) * soft z)) (read_rate m c t h)
    (congrArg₂ (fun x y : EReal => x + y) (read_small m c t r _) (read_bias m c t h))

/-- The head of an input in a pair's first half. -/
theorem head_lo (j : Fin 4) (p : Fin 128) (h : p.val < 64) : Piece.head0 j = headOf j p := Fin.ext (by
  show 2 * j.val = 2 * j.val + p.val / 64
  omega)

/-- The head of an input in a pair's second half. -/
theorem head_hi (j : Fin 4) (p : Fin 128) (h : ¬p.val < 64) : Piece.head1 j = headOf j p := Fin.ext (by
  show 2 * j.val + 1 = 2 * j.val + p.val / 64
  omega)

/-- What every pair reads at a grid point is eight rows' numbers. -/
theorem pair_holds (c : Dev nD) (t : Fin cfg0.N) (j : Fin 4) : Piece.Holds (pair m c t j) (fun r => cell m c (rowOf t r) j) where
  x r p := (x_apply _ j r p).trans (act_read m c t r _)
  b r n := (b_apply _ j r n).trans (act_read m c t r _)
  t r p := by
    have e0 : (pair m c t j).t0 (ix2 r 0) = _ := (t_apply _ (Piece.head0 j) r).trans (sizes_read m c t r (Piece.head0 j))
    have e1 : (pair m c t j).t1 (ix2 r 0) = _ := (t_apply _ (Piece.head1 j) r).trans (sizes_read m c t r (Piece.head1 j))
    rw [e0, e1]
    split_ifs with h
    · rw [head_lo j p h]
      rfl
    · rw [head_hi j p h]
      rfl
  d r p := by
    have e0 : (pair m c t j).d0 r (ix2 0 0) = _ := (d_apply _ r (Piece.head0 j)).trans (decays_read m c t r (Piece.head0 j))
    have e1 : (pair m c t j).d1 r (ix2 0 0) = _ := (d_apply _ r (Piece.head1 j)).trans (decays_read m c t r (Piece.head1 j))
    rw [e0, e1]
    split_ifs with h
    · rw [head_lo j p h]
      rfl
    · rw [head_hi j p h]
      rfl
  C r p n := (mat_apply _ r j p n).trans (read_state m c t r j p n)

end Cert.SsdStateIdeal.RefValue

end
-- ==== Proof.SsdRef.lean ====
/-
  The SSD step's reference, entry by entry: the recurrence's one step of every row and pair of heads.
-/
module

public import proofs.«01_k».proof.Proof.SsdMath
public import proofs.«01_k».proof.Proof.Gen.SsdStateRefIdeal.Run

@[expose] public section

set_option maxRecDepth 65536

noncomputable section

namespace Cert.SsdStateRefIdeal.Value

open Cert.SsdStateRefIdeal Cert.SsdStateRefIdeal.Gen Idealize.ShloMosaic Idealize.ShloMosaic.TcCoe Idealize.ShloMosaic.StableHlo Cert.Ssd
  Cert.Step

variable (P : FVec Ideal S128x11520 .f32) (B : FVec Ideal S4x128x3x1024 .f32) (S : FVec Ideal S4x128x8x64x128 .f32)
  (W : FVec Ideal S4x1024 .f32) (g : FVec Ideal S1024 .f32) (u a : FVec Ideal S8 .f32)

/-- The rows a step's convolution runs over: the buffer, then the input. -/
def joined : FVec Ideal S128x4x1024 .f32 :=
  concatenate S128x4x1024 1 [⟨S128x3x1024, shapeCast S128x3x1024 (extractStridedSlice S1x128x3x1024 ![0, 0, 0, 0] B
      slices_S4x128x3x1024_S1x128x3x1024_0_0_0_0) shapeCasts_S1x128x3x1024_S128x3x1024⟩,
    ⟨S128x1x1024, broadcastInDim S128x1x1024 ![0, 2] bcast_S128x1024_S128x1x1024_0_2
      (extractStridedSlice S128x1024 ![0, 2048] P slices_S128x11520_S128x1024_0_2048)⟩]
    concatenates_S128x3x1024_S128x1x1024_S128x4x1024_d1

/-- A row of weights, over the batch. -/
def weights (w : FVec Ideal S1x1024 .f32) : FVec Ideal S128x1x1024 .f32 :=
  broadcastInDim S128x1x1024 ![0, 1, 2] bcast_S1x1x1024_S128x1x1024_0_1_2
    (broadcastInDim S1x1x1024 ![2] bcast_S1024_S1x1x1024_2 (shapeCast S1024 w shapeCasts_S1x1024_S1024))

/-- The convolution, from the rows it runs over. -/
def convOf (J : FVec Ideal S128x4x1024 .f32) : FVec Ideal S128x1x1024 .f32 :=
  addf (addf (addf (addf (addf (broadcastInDim S128x1x1024 ![] bcast_S_S128x1x1024 (constant S_ FTy.f32 0x00000000#32))
    (mulf (extractStridedSlice S128x1x1024 ![0, 0, 0] J slices_S128x4x1024_S128x1x1024_0_0_0)
      (weights (extractStridedSlice S1x1024 ![0, 0] W slices_S4x1024_S1x1024_0_0))))
    (mulf (extractStridedSlice S128x1x1024 ![0, 1, 0] J slices_S128x4x1024_S128x1x1024_0_1_0)
      (weights (extractStridedSlice S1x1024 ![1, 0] W slices_S4x1024_S1x1024_1_0))))
    (mulf (extractStridedSlice S128x1x1024 ![0, 2, 0] J slices_S128x4x1024_S128x1x1024_0_2_0)
      (weights (extractStridedSlice S1x1024 ![2, 0] W slices_S4x1024_S1x1024_2_0))))
    (mulf (extractStridedSlice S128x1x1024 ![0, 3, 0] J slices_S128x4x1024_S128x1x1024_0_3_0)
      (weights (extractStridedSlice S1x1024 ![3, 0] W slices_S4x1024_S1x1024_3_0))))
    (broadcastInDim S128x1x1024 ![0, 1, 2] bcast_S1x1x1024_S128x1x1024_0_1_2
      (broadcastInDim S1x1x1024 ![2] bcast_S1024_S1x1x1024_2 g))

/-- The convolution. -/
def convAll : FVec Ideal S128x1x1024 .f32 := convOf W g (joined P B)

/-- Numbers times their sigmoids. -/
def siluAll (y : FVec Ideal S128x1x1024 .f32) : FVec Ideal S128x1x1024 .f32 :=
  mulf y (Host.divf (broadcastInDim S128x1x1024 ![] bcast_S_S128x1x1024 (constant S_ FTy.f32 0x3F800000#32))
    (addf (broadcastInDim S128x1x1024 ![] bcast_S_S128x1x1024 (constant S_ FTy.f32 0x3F800000#32)) (Host.exp (Host.negf y))))

/-- The step sizes' inputs. -/
def stepAll : FVec Ideal S128x1x8 .f32 :=
  addf (broadcastInDim S128x1x8 ![0, 2] bcast_S128x8_S128x1x8_0_2
      (extractStridedSlice S128x8 ![0, 11264] P slices_S128x11520_S128x8_0_11264))
    (broadcastInDim S128x1x8 ![0, 1, 2] bcast_S1x1x8_S128x1x8_0_1_2 (broadcastInDim S1x1x8 ![2] bcast_S8_S1x1x8_2 u))

/-- Zeros. -/
def zeros : FVec Ideal S128x1x8 .f32 := broadcastInDim S128x1x8 ![] bcast_S_S128x1x8 (constant S_ FTy.f32 0x00000000#32)

/-- The step sizes, from their inputs. -/
def softAll (x : FVec Ideal S128x1x8 .f32) : FVec Ideal S128x1x8 .f32 :=
  select (cmpf .une (subf x zeros) (subf x zeros)) (addf x zeros)
    (addf (maximumf x zeros) (Host.log1p (Host.exp (Host.negf (Host.absf (subf x zeros))))))

/-- The decays' logarithms, from the step sizes. -/
def logs (t : FVec Ideal S128x1x8 .f32) : FVec Ideal S128x1x8 .f32 :=
  mulf t (broadcastInDim S128x1x8 ![0, 1, 2] bcast_S1x1x8_S128x1x8_0_1_2
    (broadcastInDim S1x1x8 ![2] bcast_S8_S1x1x8_2 (Host.negf (Host.exp a))))

/-- The weighted inputs, from the activated convolution and the step sizes. -/
def inputs (z : FVec Ideal S128x1x1024 .f32) (t : FVec Ideal S128x1x8 .f32) : FVec Ideal S128x1x8x64 .f32 :=
  mulf (shapeCast S128x1x8x64 (extractStridedSlice S128x1x512 ![0, 0, 0] z slices_S128x1x1024_S128x1x512_0_0_0)
      shapeCasts_S128x1x512_S128x1x8x64)
    (broadcastInDim S128x1x8x64 ![0, 1, 2, 3] bcast_S128x1x8x1_S128x1x8x64_0_1_2_3
      (broadcastInDim S128x1x8x1 ![0, 1, 2] bcast_S128x1x8_S128x1x8x1_0_1_2 t))

/-- The input directions by head, times the decays to the step's end. -/
def directions (z : FVec Ideal S128x1x1024 .f32) (l : FVec Ideal S128x1x8 .f32) : FVec Ideal S128x1x8x128 .f32 :=
  mulf (shapeCast S128x1x8x128 (broadcastInDim S128x1x2x4x128 ![0, 1, 2, 4] bcast_S128x1x2x128_S128x1x2x4x128_0_1_2_4
      (shapeCast S128x1x2x128 (extractStridedSlice S128x1x256 ![0, 0, 512] z slices_S128x1x1024_S128x1x256_0_0_512)
        shapeCasts_S128x1x256_S128x1x2x128)) shapeCasts_S128x1x2x4x128_S128x1x8x128)
    (broadcastInDim S128x1x8x128 ![0, 1, 2, 3] bcast_S128x1x8x1_S128x1x8x128_0_1_2_3
      (broadcastInDim S128x1x8x1 ![0, 1, 2] bcast_S128x1x8_S128x1x8x1_0_1_2 (Host.exp (subf l l))))

/-- The new states by head, from the old, the decays' logarithms, the inputs and their directions. -/
def newOf (l : FVec Ideal S128x1x8 .f32) (x : FVec Ideal S128x1x8x64 .f32) (y : FVec Ideal S128x1x8x128 .f32) :
    FVec Ideal S128x8x64x128 .f32 :=
  addf (mulf (shapeCast S128x8x64x128 (extractStridedSlice S1x128x8x64x128 ![0, 0, 0, 0, 0] S
        slices_S4x128x8x64x128_S1x128x8x64x128_0_0_0_0_0) shapeCasts_S1x128x8x64x128_S128x8x64x128)
      (broadcastInDim S128x8x64x128 ![0, 1, 2, 3] bcast_S128x8x1x1_S128x8x64x128_0_1_2_3
        (broadcastInDim S128x8x1x1 ![0, 1] bcast_S128x8_S128x8x1x1_0_1
          (Host.exp (shapeCast S128x8 l shapeCasts_S128x1x8_S128x8)))))
    (Host.dotGeneral dot_S128x1x8x64_S128x1x8x128_S128x8x64x128_1_1_3_3_02_02 none x y)

/-- The new states by pair of heads. -/
def states : FVec Ideal S128x4x128x128 .f32 :=
  shapeCast S128x4x128x128 (newOf S (logs a (softAll (stepAll P u)))
    (inputs (siluAll (convAll P B W g)) (softAll (stepAll P u)))
    (directions (siluAll (convAll P B W g)) (logs a (softAll (stepAll P u))))) shapeCasts_S128x8x64x128_S128x4x128x128

/-- The reference's result is `states` of the arguments. -/
theorem result_eq (m : (ℓ : Loc nD τ sig) → Buf (Elt Ideal) ℓ) (c : Dev nD) : res_main_v72 m c
    = states (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := rfl

/-- The buffer's rows among the joined. -/
theorem joined_lo (b : Fin 128) (k : Fin 3) (e : Fin 1024) : joined P B (ix3 b ⟨k.val, by omega⟩ e) = B (ix4 0 b k e) := by
  unfold joined
  fin_cases k
  all_goals
    pointwise

/-- The input's row among the joined. -/
theorem joined_hi (b : Fin 128) (e : Fin 1024) : joined P B (ix3 b 3 e) = P (ix2 b ⟨2048 + e.val, by omega⟩) := by
  unfold joined
  pointwise

/-- The convolution of the joined rows, entry by entry. -/
theorem convOf_apply (J : FVec Ideal S128x4x1024 .f32) (b : Fin 128) (e : Fin 1024) : convOf W g J (ix3 b 0 e)
    = J (ix3 b 0 e) * W (ix2 0 e) + J (ix3 b 1 e) * W (ix2 1 e) + J (ix3 b 2 e) * W (ix2 2 e) + J (ix3 b 3 e) * W (ix2 3 e)
      + g (ix1 e) := by
  unfold convOf weights
  pointwise

/-- The convolution, entry by entry. -/
theorem conv_apply (b : Fin 128) (e : Fin 1024) : convAll P B W g (ix3 b 0 e) = conv P B W g b e := by
  unfold convAll
  rw [convOf_apply, joined_hi]
  have h0 : joined P B (ix3 b 0 e) = _ := joined_lo P B b 0 e
  have h1 : joined P B (ix3 b 1 e) = _ := joined_lo P B b 1 e
  have h2 : joined P B (ix3 b 2 e) = _ := joined_lo P B b 2 e
  rw [h0, h1, h2]
  rfl

/-- A number times its sigmoid, entry by entry. -/
theorem silu_apply (y : FVec Ideal S128x1x1024 .f32) (b : Fin 128) (e : Fin 1024) :
    siluAll y (ix3 b 0 e) = silu (y (ix3 b 0 e)) := by
  unfold siluAll silu
  pointwise

/-- A step size's input, entry by entry. -/
theorem step_apply (b : Fin 128) (h : Fin 8) : stepAll P u (ix3 b 0 h) = stepIn P u b h := by
  unfold stepAll stepIn
  pointwise

/-- A step size, entry by entry. -/
theorem soft_apply (x : FVec Ideal S128x1x8 .f32) (b : Fin 128) (h : Fin 8) : softAll x (ix3 b 0 h) = soft (x (ix3 b 0 h)) := by
  unfold softAll zeros soft
  pointwise
  rw [if_neg (fun h => h rfl)]
  rfl

/-- A decay's logarithm, entry by entry. -/
theorem logs_apply (t : FVec Ideal S128x1x8 .f32) (b : Fin 128) (h : Fin 8) :
    logs a t (ix3 b 0 h) = t (ix3 b 0 h) * -(Ideal.exp (a (ix1 h))) := by
  unfold logs
  pointwise

/-- A weighted input, entry by entry. -/
theorem inputs_apply (z : FVec Ideal S128x1x1024 .f32) (t : FVec Ideal S128x1x8 .f32) (b : Fin 128) (h : Fin 8) (p : Fin 64) :
    inputs z t (ix4 b 0 h p) = z (ix3 b 0 ⟨h.val * 64 + p.val, by omega⟩) * t (ix3 b 0 h) := by
  unfold inputs
  pointwise

/-- An input direction, entry by entry. -/
theorem directions_apply (z : FVec Ideal S128x1x1024 .f32) (l : FVec Ideal S128x1x8 .f32) (b : Fin 128) (h : Fin 8) (n : Fin 128) :
    directions z l (ix4 b 0 h n) = z (ix3 b 0 ⟨512 + (h.val / 4 * 128 + n.val), by omega⟩)
      * Ideal.exp (l (ix3 b 0 h) - l (ix3 b 0 h)) := by
  unfold directions
  pointwise

/-- A new state, entry by entry. -/
theorem new_apply (l : FVec Ideal S128x1x8 .f32) (x : FVec Ideal S128x1x8x64 .f32) (y : FVec Ideal S128x1x8x128 .f32)
    (b : Fin 128) (h : Fin 8) (p : Fin 64) (n : Fin 128) :
    newOf S l x y (ix4 b h p n) = S (ix5 0 b h p n) * Ideal.exp (l (ix3 b 0 h)) + x (ix4 b 0 h p) * y (ix4 b 0 h n) := by
  unfold newOf
  pointwise
  simp

/-- The states of two heads in one axis. -/
theorem paired_apply (x : FVec Ideal S128x8x64x128 .f32) (b : Fin 128) (j : Fin 4) (p n : Fin 128) :
    shapeCast S128x4x128x128 x shapeCasts_S128x8x64x128_S128x4x128x128 (ix4 b j p n) = x (ix4 b (headOf j p) (placeOf p) n) := by
  unfold headOf placeOf
  simp only [Nat.mul_comm 2]
  pointwise

/-- The reference's states are the recurrence's step where the decays' logarithms are real. -/
theorem states_apply (b : Fin 128) (j : Fin 4) (p n : Fin 128)
    (hl : Real (soft (stepIn P u b (headOf j p)) * -(Ideal.exp (a (ix1 (headOf j p)))))) :
    states P B S W g u a (ix4 b j p n) = (cellOf P B S W g u a b j).newC p n := by
  unfold states
  rw [paired_apply, new_apply, inputs_apply, directions_apply, silu_apply, silu_apply, conv_apply, conv_apply, logs_apply,
    soft_apply, step_apply, hl.sub_self]
  have e1 : Ideal.exp 0 = 1 := by
    show ((Real.exp 0 : ℝ) : EReal) = 1
    rw [Real.exp_zero]
    rfl
  rw [e1, mul_one, mul_comm (soft _) (-_)]
  have hx : (⟨(headOf j p).val * 64 + (placeOf p).val, by omega⟩ : Fin 1024) = ⟨128 * j.val + p.val, by omega⟩ := Fin.ext (by
    show (2 * j.val + p.val / 64) * 64 + p.val % 64 = 128 * j.val + p.val
    omega)
  have hb : (⟨512 + ((headOf j p).val / 4 * 128 + n.val), by omega⟩ : Fin 1024) = ⟨512 + (128 * (j.val / 2) + n.val), by omega⟩ :=
    Fin.ext (by
      show 512 + ((2 * j.val + p.val / 64) / 4 * 128 + n.val) = 512 + (128 * (j.val / 2) + n.val)
      omega)
  rw [hx, hb]
  rfl

end Cert.SsdStateRefIdeal.Value

end
-- ==== Proof.SsdPre.lean ====
/-
  The SSD step's precondition, read: the activated convolution, the step sizes and the decays' logarithms are real numbers.
-/
module

public import proofs.«01_k».proof.Proof.SsdRef
public import proofs.«01_k».proof.Proof.StepPre
public import proofs.«01_k».proof.Pre_finite_ssd

@[expose] public section

set_option maxRecDepth 65536

noncomputable section

namespace Cert.Pre_finite_ssd

open Idealize.ShloMosaic Cert.Ssd Cert.Step Cert.Pre_finite_step

/-- The side conditions of the precondition's operations. -/
instance facts : Facts where
  slices_S4x128x3x1024_S1x128x3x1024_0_0_0_0 := by decide
  shapeCasts_S1x128x3x1024_S128x3x1024 := by decide
  slices_S128x11520_S128x1024_0_2048 := by decide
  bcast_S128x1024_S128x1x1024_0_2 := by decide
  concatenates_S128x3x1024_S128x1x1024_S128x4x1024_d1 := by decide
  slices_S128x4x1024_S128x1x1024_0_0_0 := by decide
  slices_S4x1024_S1x1024_0_0 := by decide
  shapeCasts_S1x1024_S1024 := by decide
  bcast_S1024_S1x1x1024_2 := by decide
  bcast_S1x1x1024_S128x1x1024_0_1_2 := by decide
  bcast_S_S128x1x1024 := by decide
  slices_S128x4x1024_S128x1x1024_0_1_0 := by decide
  slices_S4x1024_S1x1024_1_0 := by decide
  slices_S128x4x1024_S128x1x1024_0_2_0 := by decide
  slices_S4x1024_S1x1024_2_0 := by decide
  slices_S128x4x1024_S128x1x1024_0_3_0 := by decide
  slices_S4x1024_S1x1024_3_0 := by decide
  slices_S128x11520_S128x8_0_11264 := by decide
  bcast_S8_S1x8_1 := by decide
  bcast_S1x8_S128x8_0_1 := by decide
  slices_S128x1x1024_S128x1x768_0_0_0 := by decide
  shapeCasts_S128x1x768_S128x768 := by decide
  bcast_S8_S128x8_1 := by decide
  concatenates_S128x768_S128x8_S128x8_S128x784_d1 := by decide
  bcast_S_S128x784 := by decide

/-- The array whose entries the precondition bounds. -/
def bounded (P : FVec Ideal S128x11520 .f32) (B : FVec Ideal S4x128x3x1024 .f32) (W : FVec Ideal S4x1024 .f32)
    (g : FVec Ideal S1024 .f32) (u a : FVec Ideal S8 .f32) : FVec Ideal S128x784 .f32 :=
  concatenate S128x784 1
    [⟨S128x768, shapeCast S128x768 (extractStridedSlice S128x1x768 ![0, 0, 0] (Cert.SsdStateRefIdeal.Value.convAll P B W g)
        Facts.slices_S128x1x1024_S128x1x768_0_0_0) Facts.shapeCasts_S128x1x768_S128x768⟩,
      ⟨S128x8, addf (extractStridedSlice S128x8 ![0, 11264] P Facts.slices_S128x11520_S128x8_0_11264)
        (broadcastInDim S128x8 ![0, 1] Facts.bcast_S1x8_S128x8_0_1 (broadcastInDim S1x8 ![1] Facts.bcast_S8_S1x8_1 u))⟩,
      ⟨S128x8, broadcastInDim S128x8 ![1] Facts.bcast_S8_S128x8_1 a⟩]
    Facts.concatenates_S128x768_S128x8_S128x8_S128x784_d1

/-- The precondition says that no bounded entry is plus infinity. -/
theorem bounded_ne {P B S W g u a s v} (h : fn (F := Ideal) P B S W g u a s v = fun _ => 1#1) (y : S128x784.Idx) :
    bounded P B W g u a y ≠ ⊤ := by
  have e : FloatOps.cmpf (F := Ideal) (φ := .f32) .olt (bounded P B W g u a y) (Ideal.ofBits FTy.f32 2139095040#32) = 1#1 := congrFun h y
  have ht : Ideal.ofBits FTy.f32 2139095040#32 = ⊤ := by simp [Ideal.ofBits, Ideal.ieee]
  rw [ht] at e
  intro hz
  rw [hz] at e
  have : FloatOps.cmpf (F := Ideal) (φ := .f32) .olt (⊤ : EReal) (⊤ : EReal) = BitVec.ofBool (decide ((⊤ : EReal) < ⊤)) := rfl
  rw [this] at e
  simp at e

/-- The bounded entries that are the convolution's. -/
theorem bounded_conv (P : FVec Ideal S128x11520 .f32) (B : FVec Ideal S4x128x3x1024 .f32) (W : FVec Ideal S4x1024 .f32)
    (g : FVec Ideal S1024 .f32) (u a : FVec Ideal S8 .f32) (b : Fin 128) (e : Fin 768) :
    bounded P B W g u a (ix2 b ⟨e.val, by omega⟩) = conv P B W g b ⟨e.val, by omega⟩ := by
  refine Eq.trans ?_ (Cert.SsdStateRefIdeal.Value.conv_apply P B W g b ⟨e.val, by omega⟩)
  unfold bounded
  generalize Cert.SsdStateRefIdeal.Value.convAll P B W g = z
  pointwise

/-- The bounded entries that are the step sizes' inputs. -/
theorem bounded_step (P : FVec Ideal S128x11520 .f32) (B : FVec Ideal S4x128x3x1024 .f32) (W : FVec Ideal S4x1024 .f32)
    (g : FVec Ideal S1024 .f32) (u a : FVec Ideal S8 .f32) (b : Fin 128) (h : Fin 8) :
    bounded P B W g u a (ix2 b ⟨768 + h.val, by omega⟩) = stepIn P u b h := by
  unfold bounded stepIn
  generalize Cert.SsdStateRefIdeal.Value.convAll P B W g = z
  pointwise

/-- The bounded entries that are the decays' rates. -/
theorem bounded_rate (P : FVec Ideal S128x11520 .f32) (B : FVec Ideal S4x128x3x1024 .f32) (W : FVec Ideal S4x1024 .f32)
    (g : FVec Ideal S1024 .f32) (u a : FVec Ideal S8 .f32) (b : Fin 128) (h : Fin 8) :
    bounded P B W g u a (ix2 b ⟨776 + h.val, by omega⟩) = a (ix1 h) := by
  unfold bounded
  generalize Cert.SsdStateRefIdeal.Value.convAll P B W g = z
  pointwise
  rw [dif_neg (by omega), dif_neg (by omega)]
  refine congrArg a (congrArg ix1 (Fin.ext ?_))
  show 776 + h.val - 768 - 8 = h.val
  omega

/-- Zero is real. -/
theorem real_zero : Real (0 : EReal) := ⟨EReal.zero_ne_bot, EReal.zero_ne_top⟩

/-- The exponential of anything but plus infinity is real. -/
theorem real_exp {x : EReal} (h : x ≠ ⊤) : Real (Ideal.exp x) := by
  by_cases hb : x = ⊥
  · subst hb
    exact real_zero
  · lift x to ℝ using ⟨h, hb⟩
    exact ⟨EReal.coe_ne_bot (Real.exp x), EReal.coe_ne_top (Real.exp x)⟩

/-- A number times its sigmoid is real unless the number is plus infinity. -/
theorem real_silu {x : EReal} (h : x ≠ ⊤) : Real (silu x) := by
  unfold silu
  by_cases hb : x = ⊥
  · subst hb
    have e : Ideal.div 1 (1 + Ideal.exp (-⊥)) = 0 := by
      rw [EReal.neg_bot]
      show (1 : EReal) / (1 + ⊤) = 0
      rw [show (1 : EReal) + ⊤ = ⊤ from EReal.coe_add_top 1, EReal.div_top]
    rw [e, mul_zero]
    exact real_zero
  · lift x to ℝ using ⟨h, hb⟩
    have e : Ideal.div 1 (1 + Ideal.exp (-(x : EReal))) = Ideal.div ((1 : ℝ) : EReal) ((1 + Real.exp (-x) : ℝ) : EReal) := rfl
    rw [e]
    refine Cert.Step.Real.mul ⟨EReal.coe_ne_bot x, EReal.coe_ne_top x⟩ ?_
    have e' : Ideal.div ((1 : ℝ) : EReal) ((1 + Real.exp (-x) : ℝ) : EReal) = ((1 / (1 + Real.exp (-x)) : ℝ) : EReal) := by
      have hn : ((1 + Real.exp (-x) : ℝ) : EReal) ≠ 0 := EReal.coe_ne_zero.mpr (by positivity)
      rw [EReal.coe_div]
      unfold Ideal.div
      exact if_neg hn
    rw [e']
    exact ⟨EReal.coe_ne_bot _, EReal.coe_ne_top _⟩

/-- The logarithm of one plus an exponential is real unless the number is plus infinity. -/
theorem real_soft {x : EReal} (h : x ≠ ⊤) : Real (soft x) := by
  unfold soft
  by_cases hb : x = ⊥
  · subst hb
    have e : Ideal.log1p (Ideal.exp (-max ⊥ (-⊥))) = ((Real.log 1 : ℝ) : EReal) := by
      rw [EReal.neg_bot, max_eq_right bot_le, EReal.neg_top]
      have e0 : Ideal.log1p (Ideal.exp ⊥) = Ideal.log ((1 + 0 : ℝ) : EReal) := rfl
      have e1 : Ideal.log ((1 + 0 : ℝ) : EReal) = if (1 + 0 : ℝ) ≤ 0 then ⊥ else ((Real.log (1 + 0) : ℝ) : EReal) := rfl
      rw [e0, e1, if_neg (by norm_num), add_zero]
    rw [e, max_eq_right bot_le]
    exact real_add real_zero ⟨EReal.coe_ne_bot _, EReal.coe_ne_top _⟩
  · have hx : Real x := ⟨hb, h⟩
    exact real_add (real_max hx real_zero) (real_softplus (real_neg (real_max hx (real_neg hx))))

/-- Under the precondition every pair's weighted inputs, input directions and decays' logarithms are real. -/
theorem real_cell {P B S W g u a s v} (hp : fn (F := Ideal) P B S W g u a s v = fun _ => 1#1) (b : Fin 128) (j : Fin 4) :
    (∀ p, Real ((cellOf P B S W g u a b j).x p * (cellOf P B S W g u a b j).t p))
      ∧ (∀ n, Real ((cellOf P B S W g u a b j).b n))
      ∧ ∀ h : Fin 8, Real (soft (stepIn P u b h) * -(Ideal.exp (a (ix1 h)))) := by
  have hc : ∀ e : Fin 768, Real (silu (conv P B W g b ⟨e.val, by omega⟩)) := fun e =>
    real_silu (bounded_conv P B W g u a b e ▸ bounded_ne hp _)
  have ht : ∀ h : Fin 8, Real (soft (stepIn P u b h)) := fun h => real_soft (bounded_step P B W g u a b h ▸ bounded_ne hp _)
  refine ⟨fun p => Cert.Step.Real.mul (hc ⟨128 * j.val + p.val, by omega⟩) (ht (headOf j p)),
    fun n => hc ⟨512 + (128 * (j.val / 2) + n.val), by omega⟩, fun h => Cert.Step.Real.mul (ht h) (real_neg (real_exp ?_))⟩
  exact bounded_rate P B W g u a b h ▸ bounded_ne hp _

end Cert.Pre_finite_ssd

end
-- ==== Proof.SsdFinal.lean ====
/-
  The SSD decoding step's proof: what the kernel leaves in the states' result is the reference's one step.
-/
module

public import proofs.«01_k».proof.Defs
public import proofs.«01_k».proof.Proof.SsdReads
public import proofs.«01_k».proof.Proof.SsdRef
public import proofs.«01_k».proof.Proof.SsdPre
public import proofs.«01_k».proof.Proof.Gen.SsdStateIdeal
public import Idealize.ShloMosaic.Lib.Claim

@[expose] public section

set_option maxRecDepth 65536

noncomputable section

namespace Cert.SsdStateIdeal.RefValue

open Cert.SsdStateIdeal Cert.SsdStateIdeal.Gen Idealize.ShloMosaic Idealize.ShloMosaic.TcCoe Idealize.SL.Sem Cert.Ssd

variable (m : (ℓ : Loc nD τ sig) → Buf (Elt Ideal) ℓ)

/-- What the reference leaves of device `c`'s arguments. -/
abbrev want (c : Dev nD) : FVec Ideal S128x4x128x128 .f32 :=
  Cert.SsdStateRefIdeal.Value.states (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

variable {m}

/-- A state's entry a point leaves is the reference's. -/
theorem point_state (hp : Cert.Pre_SsdStateIdeal_finite_ssd m) (c : Dev nD) (t : Fin cfg0.N) (r : Fin 8) (j : Fin 4)
    (p n : Fin 128) : (outsAt0 m c t).2.2 (ix4 r j p n) = want m c (ix4 (rowOf t r) j p n) := by
  refine (mat_left m c t (ix4 r j p n)).trans ((Piece.newC_apply (pair_holds m c t j)
    (fun r => (Cert.Pre_finite_ssd.real_cell (hp c) (rowOf t r) j).1)
    (fun r => (Cert.Pre_finite_ssd.real_cell (hp c) (rowOf t r) j).2.1) r p n).trans ?_)
  exact (Cert.SsdStateRefIdeal.Value.states_apply _ _ _ _ _ _ _ (rowOf t r) j p n
    ((Cert.Pre_finite_ssd.real_cell (hp c) (rowOf t r) j).2.2 (headOf j p))).symm

/-- The states' array after the run. -/
theorem final (hp : Cert.Pre_SsdStateIdeal_finite_ssd m) (c : Dev nD) : (dats m 0 c).arrAt 13 (cfgs 0).N = want m c := by
  refine (dats m 0 c).arrAt_eq_of_covers 13 _ (by decide +kernel) fun t _ y => ?_
  blk_simp
  rw [after0_13]
  rw [eq_ix4 y]
  refine (point_state hp c t (y 0) (y 1) (y 2) (y 3)).trans (congrArg (want m c) ?_)
  have hi : (rowOf t (y 0)).val = t.val * 8 + (y 0).val := rfl
  blk_ext [idx t]

/-- The decoding kernel and its reference leave the same states where the precondition holds. -/
theorem agrees : Cert.algebraic_SsdStateIdeal_SsdStateRefIdeal_pre_finite_ssd := by
  pair_intro
  · run_from Cert.SsdStateIdeal.Value.run_blocks m g
  · run_from Cert.SsdStateRefIdeal.Value.run m' g'
    refine (Cert.SsdStateRefIdeal.Value.result_eq m' c).trans (Eq.trans ?_ (final hpre c).symm)
    obtain ⟨h0, h1, h2, h3, h4, h5, h6, _⟩ := hagree c
    unfold want
    rw [h0, h1, h2, h3, h4, h5, h6]

end Cert.SsdStateIdeal.RefValue

end
-- ==== Proof.GdnStateUnit.lean ====
/-
  The vector arithmetic of one head of the gated delta decoding step: the states of eight rows of the batch. The kernel's
  body does this four times at a grid point, once for each head.
-/
module

public import proofs.«01_k».proof.Proof.SsdUnit
public import proofs.«01_k».proof.Proof.Gen.GdnStateIdeal.Value
public import Idealize.ShloMosaic.Lib.Pipeline.ReadBack

@[expose] public section

set_option maxRecDepth 65536

noncomputable section

namespace Cert.GdnStateIdeal.Piece

open Cert.GdnStateIdeal Cert.GdnStateIdeal.Gen Idealize.ShloMosaic Idealize.ShloMosaic.TcCoe Idealize.SL.Sem

/-- What one head of eight rows reads for its states: the keys and queries before their scale, the values, the decays, the
    strengths of the writing, and the rows' states. -/
structure In where
  k : FVec Ideal S8x128 .f32
  q : FVec Ideal S8x128 .f32
  v : FVec Ideal S8x128 .f32
  d : FVec Ideal S8x1 .f32
  s : FVec Ideal S8x1 .f32
  C : Fin 8 → FVec Ideal S128x128 .f32

/-- Every row over its length. -/
def unit (x : FVec Ideal S8x128 .f32) : FVec Ideal S8x128 .f32 :=
  mulf x (broadcastTo S8x128
    (rsqrt (addf (Cert.MlstmStepIdeal.Piece.rowSum (mulf x x)) (broadcast S8x1 (Scalar.ofBits .f32 0x358637BD#32))))
    broadcasts_S8x1_S8x128)

/-- The scaled queries. -/
def query (u : In) : FVec Ideal S8x128 .f32 := mulf (unit u.q) (broadcast S8x128 (Scalar.ofBits .f32 0x3DB504F3#32))

/-- The keys times their strengths and decays. -/
def reader (u : In) : FVec Ideal S8x128 .f32 := mulf (unit u.k) (broadcastTo S8x128 (mulf u.s u.d) broadcasts_S8x1_S8x128)

/-- What the states are read with: the weighted keys above the decayed queries. -/
def readers (u : In) : FVec Ideal S16x128 .bf16 :=
  truncf .bf16 (concatenate S16x128 0 [⟨S8x128, reader u⟩,
    ⟨S8x128, mulf (query u) (broadcastTo S8x128 u.d broadcasts_S8x1_S8x128)⟩] concatenates_S8x128_S8x128_S16x128_d0) bitsLt_bf16_f32

/-- Every row's weighted key against the state of row `r`. -/
def against (u : In) (r : Fin 8) : FVec Ideal S8x128 .f32 :=
  extractStridedSlice S8x128 ![0, 0]
    (matmul dot_S16x128_S128x128_S16x128_1_0_0_1_n_n none (readers u) (truncf .bf16 (u.C r) bitsLt_bf16_f32)
      (constant S16x128 .f32 0x00000000#32)) slices_S16x128_o0_0_S8x128

/-- Every row's weighted key against its own state. -/
def held (u : In) : FVec Ideal S8x128 .f32 :=
  Cert.MlstmStepIdeal.Piece.pick 7#32 (against u 7) (Cert.MlstmStepIdeal.Piece.pick 6#32 (against u 6)
    (Cert.MlstmStepIdeal.Piece.pick 5#32 (against u 5) (Cert.MlstmStepIdeal.Piece.pick 4#32 (against u 4)
      (Cert.MlstmStepIdeal.Piece.pick 3#32 (against u 3) (Cert.MlstmStepIdeal.Piece.pick 2#32 (against u 2)
        (Cert.MlstmStepIdeal.Piece.pick 1#32 (against u 1) (against u 0)))))))

/-- The values to write, less what the states hold for their keys. -/
def fresh (u : In) : FVec Ideal S8x128 .f32 := subf (mulf u.v (broadcastTo S8x128 u.s broadcasts_S8x1_S8x128)) (held u)

/-- The entry of row `r` of a column is a slice of it. -/
theorem one_slices (r : Fin 8) : S8x1.Slices ![r.val, 0] S1x1 := by
  revert r
  decide

/-- The state of row `r` after the step. -/
def newC (u : In) (r : Fin 8) : FVec Ideal S128x128 .f32 :=
  addf (mulf (u.C r) (broadcastTo S128x128 (extractStridedSlice S1x1 ![r.val, 0] u.d (one_slices r)) broadcasts_S1x1_S128x128))
    (matmul dot_S128x32_S32x128_S128x128_1_0_0_1_n_n none (Cert.MlstmStepIdeal.Piece.lhs (unit u.k))
      (Cert.MlstmStepIdeal.Piece.rhs (BitVec.ofNat 32 r.val) (fresh u)) (constant S128x128 .f32 0x00000000#32))

section Inputs

variable (x0 : Vec Ideal S8x1536 .f32) (x2 : Vec Ideal S8x256 .f32) (x3 : Vec Ideal S1x3x8x1536 .f32)
  (x4 : Vec Ideal S1x8x4x128x128 .f32) (x5 : Vec Ideal S4x1536 .f32) (x6 x7 : Vec Ideal S1x256 .f32)

/-- The buffer's step `k`. -/
abbrev tap (k : Fin 3) : Vec Ideal S1x1x8x1536 .f32 :=
  View.ld x3 (Rect.unit ![0, k.val, 0, 0] ![1, 1, 8, 1536] (by revert k; decide))

/-- The convolution's outputs, activated. -/
abbrev act : FVec Ideal S8x1536 .f32 := k0_pay10 x5 x0 (k0_pay8 x5 (tap x3 0) (tap x3 1)) (k0_pay9 x5 (tap x3 2))

/-- The decays. -/
abbrev decays : FVec Ideal S8x128 .f32 :=
  k0_pay11 (View.ld x2 (Rect.unit ![0, 0] ![8, 128] (by decide))) (View.ld x7 (Rect.unit ![0, 0] ![1, 128] (by decide)))
    (View.ld x6 (Rect.unit ![0, 0] ![1, 128] (by decide)))

/-- The strengths. -/
abbrev strengths : FVec Ideal S8x128 .f32 := k0_pay12 (View.ld x2 (Rect.unit ![0, 0] ![8, 128] (by decide)))

/-- A head's channels are a slice of all. -/
theorem chan_slices (o : Fin 3) (h : Fin 4) : S8x1536.Slices ![0, 512 * o.val + 128 * h.val] S8x128 := by
  revert o h
  decide

/-- A head's decays are a column of all. -/
theorem d_slices (h : Fin 4) : S8x128.Slices ![0, 8 + h.val] S8x1 := by
  revert h
  decide

/-- A head's strengths are a column of all. -/
theorem s_slices (h : Fin 4) : S8x128.Slices ![0, 12 + h.val] S8x1 := by
  revert h
  decide

/-- The state of row `r` and head `h`. -/
abbrev mat (r : Fin 8) (h : Fin 4) : FVec Ideal S128x128 .f32 :=
  shapeCast S128x128 (View.ld x4 (Rect.unit ![0, r.val, h.val, 0, 0] ![1, 1, 1, 128, 128] (by revert r h; decide)))
    shapeCasts_S1x1x1x128x128_S128x128

/-- A head's channels of the activated outputs: queries, keys or values. -/
abbrev chan (o : Fin 3) (h : Fin 4) : FVec Ideal S8x128 .f32 :=
  extractStridedSlice S8x128 ![0, 512 * o.val + 128 * h.val] (act x0 x3 x5) (chan_slices o h)

/-- What head `h` of a grid point reads of the point's blocks. -/
def ins (h : Fin 4) : In where
  k := chan x0 x3 x5 1 h
  q := chan x0 x3 x5 0 h
  v := chan x0 x3 x5 2 h
  d := extractStridedSlice S8x1 ![0, 8 + h.val] (decays x2 x6 x7) (d_slices h)
  s := extractStridedSlice S8x1 ![0, 12 + h.val] (strengths x2) (s_slices h)
  C r := mat x4 r h

end Inputs

end Cert.GdnStateIdeal.Piece

namespace Cert.GdnStateIdeal.RefValue

open Cert.GdnStateIdeal Cert.GdnStateIdeal.Gen Idealize.ShloMosaic Idealize.ShloMosaic.TcCoe Idealize.SL.Sem

variable (m : (ℓ : Loc nD τ sig) → Buf (Elt Ideal) ℓ)

/-- What head `h` of grid point `t` reads. -/
abbrev head (c : Dev nD) (t : Fin cfg0.N) (h : Fin 4) : Piece.In :=
  Piece.ins (X0_0 m c t) (iblk m c 2 t) (iblk m c 3 t) (iblk m c 4 t) (iblk m c 5 t) (iblk m c 6 t) (iblk m c 7 t) h

/-- The piece of the states' block of a row and a head. -/
def matPiece (U : Fin 4 → Piece.In) (p : Fin 8 × Fin 4) : View.Piece (Elt Ideal) S8x4x128x128 .f32 :=
  ⟨Rect.unit (s := S8x4x128x128) ![p.1.val, p.2.val, 0, 0] ![1, 1, 128, 128] (by
      obtain ⟨r, h⟩ := p
      revert r h
      decide),
    shapeCast S1x1x128x128 (Piece.newC (U p.2) p.1) shapeCasts_S128x128_S1x1x128x128⟩

/-- The rows and heads, last first. -/
abbrev headRows : List (Fin 8 × Fin 4) :=
  ([3, 2, 1, 0] : List (Fin 4)).flatMap fun h => [(7, h), (6, h), (5, h), (4, h), (3, h), (2, h), (1, h), (0, h)]

/-- A row's and head's piece of the states' block holds their state. -/
theorem mat_rect (U : Fin 4 → Piece.In) (p : Fin 8 × Fin 4) (y : S8x4x128x128.Idx) :
    View.RectAt y (matPiece U p).1 (matPiece U p).2 (Piece.newC (U (y 1)) (y 0) (ix2 (y 2) (y 3))) := by
  rintro x rfl
  have e0 : (matPiece U p).1.emb x 0 = p.1 := Fin.ext (by
    have hx : (x 0).val < 1 := (x 0).isLt
    show p.1.val + 1 * (x 0).val = p.1.val
    omega)
  have e1 : (matPiece U p).1.emb x 1 = p.2 := Fin.ext (by
    have hx : (x 1).val < 1 := (x 1).isLt
    show p.2.val + 1 * (x 1).val = p.2.val
    omega)
  have e2 : (matPiece U p).1.emb x 2 = x 2 := Fin.ext (by
    show 0 + 1 * (x 2).val = (x 2).val
    omega)
  have e3 : (matPiece U p).1.emb x 3 = x 3 := Fin.ext (by
    show 0 + 1 * (x 3).val = (x 3).val
    omega)
  rw [e0, e1]
  refine Eq.trans ?_ (congrArg₂ (fun a b => Piece.newC (U p.2) p.1 (ix2 a b)) e2 e3).symm
  have hx : x = (ix4 (0 : Fin 1) (0 : Fin 1) (x 2) (x 3) : S1x1x128x128.Idx) := by
    refine (eq_ix4 (n0 := 1) (n1 := 1) (n2 := 128) (n3 := 128) x).trans ?_
    rw [Subsingleton.elim (α := Fin 1) (x 0) 0, Subsingleton.elim (α := Fin 1) (x 1) 0]
  refine (congrArg (shapeCast S1x1x128x128 (Piece.newC (U p.2) p.1) shapeCasts_S128x128_S1x1x128x128) hx).trans ?_
  generalize Piece.newC (U p.2) p.1 = z
  generalize x 2 = a
  generalize x 3 = b
  pointwise

/-- The states' block a point leaves. -/
theorem mat_left (c : Dev nD) (t : Fin cfg0.N) (y : S8x4x128x128.Idx) :
    (outsAt0 m c t).2.2 y = Piece.newC (head m c t (y 1)) (y 0) (ix2 (y 2) (y 3)) := by
  have h : (outsAt0 m c t).2.2 y = View.canon (headRows.map (matPiece (head m c t))) y := by
    unfold outsAt0
    dsimp only
    unfold out0_A_11
    frame_out
    sl_kernel_rfl
  rw [h]
  exact View.canon_eq_of_allAt _ _ _ (View.cover_of_tiled_head _ _ _ (by sl_kernel_rfl) _)
    (Cert.SsdStateIdeal.RefValue.allAt_map _ _ _ _ fun p => mat_rect _ p y)

end Cert.GdnStateIdeal.RefValue

end
-- ==== Proof.GdnStateMath.lean ====
/-
  One step of the gated delta recurrence of a row and a head, in plain extended-real arithmetic, and what the kernel's
  vector arithmetic makes of eight rows, entry by entry.
-/
module

public import proofs.«01_k».proof.Proof.GdnStateUnit
public import proofs.«01_k».proof.Proof.SsdPre

@[expose] public section

set_option maxRecDepth 65536

noncomputable section

namespace Cert.Gdn

open Idealize.ShloMosaic Cert.Step Cert.Ssd

/-- A number's sigmoid. -/
def sig (x : EReal) : EReal := Ideal.div 1 (1 + Ideal.exp (-x))

/-- The small number added to a squared length. -/
def eps : EReal := Ideal.ofBits FTy.f32 897988541#32

/-- A vector over its length. -/
def unit (x : Fin 128 → EReal) (d : Fin 128) : EReal := x d * Ideal.rsqrt ((∑ e, x e * x e) + eps)

/-- What a row's head reads: its key before the scale, its value, its decay, the strength of its writing, and its state. -/
structure Cell where
  k : Fin 128 → EReal
  v : Fin 128 → EReal
  d : EReal
  s : EReal
  C : Fin 128 → Fin 128 → EReal

/-- The value to write, less what the state holds for the key. -/
def Cell.fresh (c : Cell) (e : Fin 128) : EReal := c.v e * c.s - ∑ d, unit c.k d * (c.s * c.d) * c.C d e

/-- The state after the step. -/
def Cell.newC (c : Cell) (d e : Fin 128) : EReal := c.C d e * c.d + unit c.k d * c.fresh e

section Arrays

variable (P : (⟨2, ![128, 11520]⟩ : Shape).Idx → EReal) (B : (⟨4, ![4, 128, 3, 1536]⟩ : Shape).Idx → EReal)
  (S : (⟨5, ![4, 128, 4, 128, 128]⟩ : Shape).Idx → EReal) (W : (⟨2, ![4, 1536]⟩ : Shape).Idx → EReal)
  (u a : (⟨1, ![4]⟩ : Shape).Idx → EReal)

/-- The convolution of a row's channel. -/
def conv (b : Fin 128) (e : Fin 1536) : EReal :=
  B (ix4 0 b 0 e) * W (ix2 0 e) + B (ix4 0 b 1 e) * W (ix2 1 e) + B (ix4 0 b 2 e) * W (ix2 2 e)
    + P (ix2 b ⟨3072 + e.val, by omega⟩) * W (ix2 3 e)

/-- The input of a row's decay. -/
def stepIn (b : Fin 128) (h : Fin 4) : EReal := P (ix2 b ⟨11272 + h.val, by omega⟩) + u (ix1 h)

/-- The logarithm of a row's decay. -/
def rate (b : Fin 128) (h : Fin 4) : EReal := -(Ideal.exp (a (ix1 h))) * soft (stepIn P u b h)

/-- What head `h` of row `b` reads of the packed projections, the buffers, the states and the parameters. -/
def cellOf (b : Fin 128) (h : Fin 4) : Cell where
  k d := silu (conv P B W b ⟨512 + 128 * h.val + d.val, by omega⟩)
  v d := silu (conv P B W b ⟨1024 + 128 * h.val + d.val, by omega⟩)
  d := Ideal.exp (rate P u a b h)
  s := sig (P (ix2 b ⟨11276 + h.val, by omega⟩))
  C d e := S (ix5 0 b h d e)

end Arrays

/-- A number's sigmoid is real. -/
theorem real_sig (x : EReal) : Real (sig x) := by
  unfold sig
  induction x using EReal.rec with
  | bot =>
    have e : Ideal.div 1 (1 + Ideal.exp (-⊥)) = 0 := by
      rw [EReal.neg_bot]
      show (1 : EReal) / (1 + ⊤) = 0
      rw [show (1 : EReal) + ⊤ = ⊤ from EReal.coe_add_top 1, EReal.div_top]
    rw [e]
    exact Cert.Pre_finite_ssd.real_zero
  | coe x =>
    have e : Ideal.div 1 (1 + Ideal.exp (-(x : EReal))) = Ideal.div ((1 : ℝ) : EReal) ((1 + Real.exp (-x) : ℝ) : EReal) := rfl
    have e' : Ideal.div ((1 : ℝ) : EReal) ((1 + Real.exp (-x) : ℝ) : EReal) = ((1 / (1 + Real.exp (-x)) : ℝ) : EReal) := by
      have hn : ((1 + Real.exp (-x) : ℝ) : EReal) ≠ 0 := EReal.coe_ne_zero.mpr (by positivity)
      rw [EReal.coe_div]
      unfold Ideal.div
      exact if_neg hn
    rw [e, e']
    exact ⟨EReal.coe_ne_bot _, EReal.coe_ne_top _⟩
  | top =>
    have e : Ideal.div 1 (1 + Ideal.exp (-⊤)) = ((1 / (1 + 0) : ℝ) : EReal) := by
      rw [EReal.neg_top]
      have hn : ((1 + 0 : ℝ) : EReal) ≠ 0 := EReal.coe_ne_zero.mpr (by norm_num)
      show Ideal.div ((1 : ℝ) : EReal) ((1 + 0 : ℝ) : EReal) = _
      rw [EReal.coe_div]
      unfold Ideal.div
      exact if_neg hn
    rw [e]
    exact ⟨EReal.coe_ne_bot _, EReal.coe_ne_top _⟩

/-- The small number is a positive real. -/
theorem eps_eq : ∃ r : ℝ, 0 < r ∧ eps = (r : EReal) := by
  refine ⟨_, ?_, by unfold eps Ideal.ofBits Ideal.ieee; simp; rfl⟩
  norm_num

/-- A sum of real numbers is real. -/
theorem real_sum (f : Fin 128 → EReal) (h : ∀ d, Real (f d)) : Real (∑ d, f d) := by
  refine Finset.sum_induction f Real (fun _ _ => Cert.Pre_finite_step.real_add) Cert.Pre_finite_ssd.real_zero fun d _ => h d

/-- A number's square is not negative. -/
theorem square_nonneg (x : EReal) : 0 ≤ x * x := by
  rcases le_total 0 x with h | h
  · exact mul_nonneg h h
  · rw [← neg_mul_neg]
    have h' : 0 ≤ -x := EReal.neg_nonneg.mpr h
    exact mul_nonneg h' h'

/-- A vector over its length is real: where an entry is infinite, so is the length, and the quotient is zero. -/
theorem real_unit (x : Fin 128 → EReal) (d : Fin 128) : Real (unit x d) := by
  obtain ⟨r, hr, he⟩ := eps_eq
  unfold unit
  rw [he]
  by_cases h : ∀ e, Real (x e)
  · have hs := real_sum (fun e => x e * x e) fun e => (h e).mul (h e)
    have h0 : 0 ≤ ∑ e, x e * x e := Finset.sum_nonneg fun e _ => square_nonneg _
    refine (h d).mul ?_
    generalize ∑ e, x e * x e = z at hs h0
    lift z to ℝ using ⟨hs.2, hs.1⟩
    have hz : 0 ≤ z := EReal.coe_nonneg.mp h0
    rw [← EReal.coe_add]
    have e : Ideal.rsqrt ((z + r : ℝ) : EReal)
        = if z + r < 0 then (⊥ : EReal) else if z + r = 0 then ⊤ else (((Real.sqrt (z + r))⁻¹ : ℝ) : EReal) := rfl
    rw [e, if_neg (by linarith), if_neg (by linarith)]
    exact ⟨EReal.coe_ne_bot _, EReal.coe_ne_top _⟩
  · obtain ⟨e, hx⟩ := not_forall.mp h
    have ht : x e * x e = ⊤ := by
      induction hy : x e using EReal.rec with
      | bot => exact EReal.bot_mul_bot
      | coe y => exact absurd (by rw [hy]; exact ⟨EReal.coe_ne_bot _, EReal.coe_ne_top _⟩) hx
      | top => exact EReal.top_mul_top
    have hs : ∑ e, x e * x e = ⊤ := top_le_iff.mp (ht ▸ Finset.single_le_sum (f := fun e => x e * x e)
      (fun e _ => square_nonneg _) (Finset.mem_univ e))
    rw [hs, EReal.top_add_coe]
    have e0 : Ideal.rsqrt ⊤ = 0 := rfl
    rw [e0, mul_zero]
    exact Cert.Pre_finite_ssd.real_zero

end Cert.Gdn

namespace Cert.GdnStateIdeal.Piece

open Cert.GdnStateIdeal Cert.GdnStateIdeal.Gen Idealize.ShloMosaic Idealize.ShloMosaic.TcCoe Idealize.SL.Sem Cert.Gdn Cert.Step

/-- The arrays a head reads hold eight rows' numbers. -/
structure Holds (u : In) (c : Fin 8 → Gdn.Cell) : Prop where
  k : ∀ r d, u.k (ix2 r d) = (c r).k d
  v : ∀ r d, u.v (ix2 r d) = (c r).v d
  d : ∀ r, u.d (ix2 r 0) = (c r).d
  s : ∀ r, u.s (ix2 r 0) = (c r).s
  C : ∀ r d e, u.C r (ix2 d e) = (c r).C d e

/-- A row over its length, entry by entry. -/
theorem unit_apply (x : FVec Ideal S8x128 .f32) (r : Fin 8) (d : Fin 128) :
    unit x (ix2 r d) = Gdn.unit (fun e => x (ix2 r e)) d := by
  unfold unit Gdn.unit eps
  pointwise
  rw [Cert.MlstmStepIdeal.Piece.rowSum_apply]
  rfl

section Entries

variable {u : In} {c : Fin 8 → Gdn.Cell} (hu : Holds u c)
include hu

/-- The keys, entry by entry. -/
theorem key_apply (r : Fin 8) (d : Fin 128) : unit u.k (ix2 r d) = Gdn.unit (c r).k d := by
  rw [unit_apply]
  simp only [hu.k]

/-- The weighted keys, entry by entry. -/
theorem reader_apply (r : Fin 8) (d : Fin 128) : reader u (ix2 r d) = Gdn.unit (c r).k d * ((c r).s * (c r).d) := by
  rw [← key_apply hu, ← hu.s, ← hu.d]
  unfold reader
  generalize unit u.k = z
  pointwise

/-- The upper half of what the states are read with. -/
theorem readers_apply (r : Fin 8) (d : Fin 128) :
    readers u (ix2 ⟨r.val, by omega⟩ d) = Gdn.unit (c r).k d * ((c r).s * (c r).d) := by
  rw [← reader_apply hu]
  unfold readers
  generalize reader u = z
  generalize query u = w
  pointwise

/-- Every row's weighted key against one row's state. -/
theorem against_apply (r k : Fin 8) (e : Fin 128) :
    against u k (ix2 r e) = ∑ d, Gdn.unit (c r).k d * ((c r).s * (c r).d) * (c k).C d e := by
  have h : against u k (ix2 r e) = ∑ d, readers u (ix2 ⟨r.val, by omega⟩ d) * u.C k (ix2 d e) := by
    unfold against
    generalize readers u = z
    pointwise
  rw [h]
  exact Finset.sum_congr rfl fun d _ => by rw [readers_apply hu, hu.C]

/-- Every row's weighted key against its own state. -/
theorem held_apply (r : Fin 8) (e : Fin 128) :
    held u (ix2 r e) = ∑ d, Gdn.unit (c r).k d * ((c r).s * (c r).d) * (c r).C d e := by
  refine Eq.trans ?_ (against_apply hu r r e)
  have hp := fun (k : ℕ) (hk : k < 8) (a b : FVec Ideal S8x128 .f32) => Cert.MlstmStepIdeal.Piece.pick_apply k hk a b r e
  unfold held
  rw [hp 7 (by decide), hp 6 (by decide), hp 5 (by decide), hp 4 (by decide), hp 3 (by decide), hp 2 (by decide), hp 1 (by decide)]
  fin_cases r <;> simp

/-- The values to write, entry by entry. -/
theorem fresh_apply (r : Fin 8) (e : Fin 128) : fresh u (ix2 r e) = (c r).fresh e := by
  unfold Gdn.Cell.fresh
  rw [← held_apply hu, ← hu.v, ← hu.s]
  unfold fresh
  generalize held u = z
  pointwise

/-- The states after the step, entry by entry. -/
theorem newC_apply (hf : ∀ r e, Real ((c r).fresh e)) (r : Fin 8) (d e : Fin 128) : newC u r (ix2 d e) = (c r).newC d e := by
  have ho := Cert.MlstmStepIdeal.Piece.outer_apply (unit u.k) (fresh u) (fun r d => by rw [key_apply hu]; exact real_unit _ d)
    (fun r e => by rw [fresh_apply hu]; exact hf r e) r d e
  have ho' : matmul dot_S128x32_S32x128_S128x128_1_0_0_1_n_n none (Cert.MlstmStepIdeal.Piece.lhs (unit u.k))
      (Cert.MlstmStepIdeal.Piece.rhs (BitVec.ofNat 32 r.val) (fresh u)) (constant S128x128 .f32 0x00000000#32) (ix2 d e)
      = unit u.k (ix2 r d) * fresh u (ix2 r e) := ho
  have hw : extractStridedSlice S1x1 ![r.val, 0] u.d (one_slices r) (ix2 0 0) = (c r).d := by
    refine (extractStridedSlice_apply _ _ _ _ (ix2 r 0) fun a => ?_).trans (hu.d r)
    fin_cases a
    · rfl
    · rfl
  rw [key_apply hu, fresh_apply hu] at ho'
  unfold newC Gdn.Cell.newC
  rw [← ho', ← hw, ← hu.C]
  generalize matmul dot_S128x32_S32x128_S128x128_1_0_0_1_n_n none (Cert.MlstmStepIdeal.Piece.lhs (unit u.k))
    (Cert.MlstmStepIdeal.Piece.rhs (BitVec.ofNat 32 r.val) (fresh u)) (constant S128x128 .f32 0x00000000#32) = z
  generalize extractStridedSlice S1x1 ![r.val, 0] u.d (one_slices r) = w
  pointwise

end Entries

end Cert.GdnStateIdeal.Piece

end
-- ==== Proof.GdnStateReads.lean ====
/-
  The gated delta decoding kernel's windows: what the input blocks of a grid point hold of the argument arrays, and so what
  every head reads.
-/
module

public import proofs.«01_k».proof.Proof.GdnStateMath
public import Idealize.ShloMosaic.Lib.Pipeline.Value

@[expose] public section

set_option maxRecDepth 65536

noncomputable section

namespace Cert.GdnStateIdeal.RefValue

open Cert.GdnStateIdeal Cert.GdnStateIdeal.Gen Idealize.ShloMosaic Idealize.ShloMosaic.TcCoe Idealize.SL.Sem Cert.Gdn
open Cert.Ssd (silu soft)

variable (m : (ℓ : Loc nD τ sig) → Buf (Elt Ideal) ℓ)

/-- The block every window of the states stages at a grid point. -/
theorem idx : ∀ t : Fin cfg0.N, win0_0.index t = ![t.val, 2] ∧ win0_2.index t = ![t.val, 44] ∧ win0_3.index t = ![0, 0, t.val, 0]
    ∧ win0_4.index t = ![0, t.val, 0, 0, 0] ∧ win0_5.index t = ![0, 0] ∧ win0_6.index t = ![0, 0] ∧ win0_7.index t = ![0, 0]
    ∧ win0_11.index t = ![t.val, 0, 0, 0] :=
  (by decide +kernel : ∀ t : Fin grid0.N, _)

/-- What head `h` of row `b` reads of device `c`'s argument arrays. -/
abbrev cell (c : Dev nD) (b : Fin 128) (h : Fin 4) : Cell :=
  cellOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b h

/-- The row of the batch at row `r` of a grid point's block. -/
def rowOf (t : Fin cfg0.N) (r : Fin 8) : Fin 128 := ⟨t.val * 8 + r.val, by
  have ht : t.val < 16 := lt_of_lt_of_eq t.isLt N_0
  omega⟩

/-- The convolution's input at a point is columns of the point's rows. -/
theorem read_input (c : Dev nD) (t : Fin cfg0.N) (r : Fin 8) (e : Fin 1536) :
    X0_0 m c t (ix2 r e) = m ((c : Thread nD τ).loc main_arg0) (ix2 (rowOf t r) ⟨3072 + e.val, by omega⟩) := by
  have hi : (rowOf t r).val = t.val * 8 + r.val := rfl
  unfold X0_0 Pipeline.Window.fill
  rw [dif_pos (moved0_0 t _)]
  blk_point [iblk, V, idx t]

/-- The narrow columns' block. -/
theorem read_small (c : Dev nD) (t : Fin cfg0.N) (r : Fin 8) (e : Fin 256) :
    iblk m c 2 t (ix2 r e) = m ((c : Thread nD τ).loc main_arg0) (ix2 (rowOf t r) ⟨11264 + e.val, by omega⟩) := by
  have hi : (rowOf t r).val = t.val * 8 + r.val := rfl
  blk_point [iblk, V, idx t]

/-- The buffer's block at a point is the first layer's buffer of the point's rows. -/
theorem read_buffer (c : Dev nD) (t : Fin cfg0.N) (k : Fin 3) (r : Fin 8) (e : Fin 1536) :
    iblk m c 3 t (ix4 0 k r e) = m ((c : Thread nD τ).loc main_arg1) (ix4 0 (rowOf t r) k e) := by
  have hi : (rowOf t r).val = t.val * 8 + r.val := rfl
  blk_point [iblk, V, idx t]

/-- The states' block. -/
theorem read_state (c : Dev nD) (t : Fin cfg0.N) (r : Fin 8) (h : Fin 4) (d e : Fin 128) :
    iblk m c 4 t (ix5 0 r h d e) = m ((c : Thread nD τ).loc main_arg2) (ix5 0 (rowOf t r) h d e) := by
  have hi : (rowOf t r).val = t.val * 8 + r.val := rfl
  blk_point [iblk, V, idx t]

/-- The convolution's weights. -/
theorem read_weight (c : Dev nD) (t : Fin cfg0.N) (k : Fin 4) (e : Fin 1536) :
    iblk m c 5 t (ix2 k e) = m ((c : Thread nD τ).loc main_arg3) (ix2 k e) := by
  blk_point [iblk, V, idx t]

/-- A short vector placed in a row. -/
def place (x : FVec Ideal S256 .f32) (u : FVec Ideal S4 .f32) (st : Fin S256.rank → ℤ) : FVec Ideal S256 .f32 :=
  Host.dynamicUpdateSlice x u st updateFits_S256_S4

/-- Rows with a short vector placed at equal places are equal. -/
theorem place_congr {x x' : FVec Ideal S256 .f32} (u : FVec Ideal S4 .f32) {st st' : Fin S256.rank → ℤ} (hx : x = x')
    (hs : ∀ k, st k = st' k) : place x u st = place x' u st' := by
  rw [hx, funext hs]

/-- An entry of the short vector placed eight places from a row's start. -/
theorem place_apply (x : FVec Ideal S256 .f32) (u : FVec Ideal S4 .f32) (e : Fin 4) :
    place x u (fun _ => ((8 : ℕ) : ℤ)) (ix1 ⟨8 + e.val, by omega⟩) = u (ix1 e) := by
  unfold place
  rw [Host.dynamicUpdateSlice_eq_updateSlice x u _ _ (fun _ => 8) (by
      intro a
      obtain rfl : a = 0 := Subsingleton.elim _ _
      show (min (max ((8 : ℕ) : ℤ) 0) ((256 - 4 : ℕ) : ℤ)).toNat = 8
      omega) ⟨rfl, by
      intro a
      obtain rfl : a = 0 := Subsingleton.elim _ _
      show 8 + 4 ≤ 256
      omega⟩]
  unfold updateSlice
  pointwise
  rw [dif_pos (by omega)]
  refine congrArg u (funext fun b => ?_)
  obtain rfl : b = 0 := Subsingleton.elim _ _
  refine Fin.ext ?_
  show 8 + e.val - 8 = e.val
  omega

/-- The row a vector of the heads is placed in. -/
abbrev rowed (u : FVec Ideal S4 .f32) : FVec Ideal S256 .f32 :=
  place (broadcastInDim S256 ![] bcast_S_S256 (constant S_ FTy.f32 0#32)) u (fun _ => ((8 : ℕ) : ℤ))

/-- The array of the decays' biases. -/
theorem bias_eq (c : Dev nD) : V m c main_v3 = shapeCast S1x256 (rowed (m ((c : Thread nD τ).loc main_arg4))) shapeCasts_S256_S1x256 := by
  unfold V
  after_results_simp
  refine congrArg (fun x => shapeCast S1x256 x shapeCasts_S256_S1x256) (place_congr _ rfl ?_)
  intro k
  obtain rfl : k = 0 := Subsingleton.elim _ _
  rfl

/-- The array of the decays' rates. -/
theorem rate_eq (c : Dev nD) : V m c main_v6 = shapeCast S1x256 (rowed (m ((c : Thread nD τ).loc main_arg5))) shapeCasts_S256_S1x256 := by
  unfold V
  after_results_simp
  refine congrArg (fun x => shapeCast S1x256 x shapeCasts_S256_S1x256) (place_congr _ rfl ?_)
  intro k
  obtain rfl : k = 0 := Subsingleton.elim _ _
  rfl

/-- A row with a unit axis before it. -/
theorem lead_apply (x : FVec Ideal S256 .f32) (e : Fin 256) : shapeCast S1x256 x shapeCasts_S256_S1x256 (ix2 0 e) = x (ix1 e) := by
  pointwise

/-- The decays' biases. -/
theorem read_bias (c : Dev nD) (t : Fin cfg0.N) (h : Fin 4) :
    iblk m c 6 t (ix2 0 ⟨8 + h.val, by omega⟩) = m ((c : Thread nD τ).loc main_arg4) (ix1 h) := by
  have e : iblk m c 6 t (ix2 0 ⟨8 + h.val, by omega⟩) = V m c main_v3 (ix2 0 ⟨8 + h.val, by omega⟩) := by blk_point [iblk, idx t]
  rw [e, bias_eq, lead_apply]
  exact place_apply _ _ h

/-- The decays' rates. -/
theorem read_rate (c : Dev nD) (t : Fin cfg0.N) (h : Fin 4) :
    iblk m c 7 t (ix2 0 ⟨8 + h.val, by omega⟩) = m ((c : Thread nD τ).loc main_arg5) (ix1 h) := by
  have e : iblk m c 7 t (ix2 0 ⟨8 + h.val, by omega⟩) = V m c main_v6 (ix2 0 ⟨8 + h.val, by omega⟩) := by blk_point [iblk, idx t]
  rw [e, rate_eq, lead_apply]
  exact place_apply _ _ h

/-- An activated output of the convolution, entry by entry. -/
theorem act_apply (x0 : Vec Ideal S8x1536 .f32) (x3 : Vec Ideal S1x3x8x1536 .f32) (x5 : Vec Ideal S4x1536 .f32)
    (r : Fin 8) (e : Fin 1536) :
    Piece.act x0 x3 x5 (ix2 r e) = silu (x3 (ix4 0 0 r e) * x5 (ix2 0 e) + x3 (ix4 0 1 r e) * x5 (ix2 1 e)
      + x3 (ix4 0 2 r e) * x5 (ix2 2 e) + x0 (ix2 r e) * x5 (ix2 3 e)) := by
  unfold Piece.act k0_pay10 k0_pay9 k0_pay8 k0_pay4 k0_pay3 Piece.tap silu
  pointwise [View.ld]
  simp only [zero_sub]

/-- A decay, entry by entry. -/
theorem decays_apply (x2 : Vec Ideal S8x256 .f32) (x6 x7 : Vec Ideal S1x256 .f32) (r : Fin 8) (e : Fin 128) :
    Piece.decays x2 x6 x7 (ix2 r e) = Ideal.exp (-(Ideal.exp (x7 (ix2 0 ⟨e.val, by omega⟩)))
      * soft (x2 (ix2 r ⟨e.val, by omega⟩) + x6 (ix2 0 ⟨e.val, by omega⟩))) := by
  unfold Piece.decays k0_pay11 soft
  pointwise [View.ld]
  simp only [zero_sub]
  rfl

/-- A strength, entry by entry. -/
theorem strengths_apply (x2 : Vec Ideal S8x256 .f32) (r : Fin 8) (e : Fin 128) :
    Piece.strengths x2 (ix2 r e) = Gdn.sig (x2 (ix2 r ⟨e.val, by omega⟩)) := by
  unfold Piece.strengths k0_pay12 Gdn.sig
  pointwise [View.ld]
  simp only [zero_sub]

/-- A head's channels among all. -/
theorem chan_apply (z : FVec Ideal S8x1536 .f32) (o : Fin 3) (h : Fin 4) (r : Fin 8) (d : Fin 128) :
    extractStridedSlice S8x128 ![0, 512 * o.val + 128 * h.val] z (Piece.chan_slices o h) (ix2 r d)
      = z (ix2 r ⟨512 * o.val + 128 * h.val + d.val, by omega⟩) := by
  refine extractStridedSlice_apply _ _ _ _ _ fun a => ?_
  fin_cases a
  · exact (Nat.zero_add _).symm
  · rfl

/-- A head's decay among all. -/
theorem d_apply (z : FVec Ideal S8x128 .f32) (h : Fin 4) (r : Fin 8) :
    extractStridedSlice S8x1 ![0, 8 + h.val] z (Piece.d_slices h) (ix2 r 0) = z (ix2 r ⟨8 + h.val, by omega⟩) := by
  refine extractStridedSlice_apply _ _ _ _ _ fun a => ?_
  fin_cases a
  · exact (Nat.zero_add _).symm
  · rfl

/-- A head's strength among all. -/
theorem s_apply (z : FVec Ideal S8x128 .f32) (h : Fin 4) (r : Fin 8) :
    extractStridedSlice S8x1 ![0, 12 + h.val] z (Piece.s_slices h) (ix2 r 0) = z (ix2 r ⟨12 + h.val, by omega⟩) := by
  refine extractStridedSlice_apply _ _ _ _ _ fun a => ?_
  fin_cases a
  · exact (Nat.zero_add _).symm
  · rfl

/-- A state with three leading unit axes, without them. -/
theorem drop_unit (w : Vec Ideal S1x1x1x128x128 .f32) (d e : Fin 128) :
    shapeCast S128x128 w shapeCasts_S1x1x1x128x128_S128x128 (ix2 d e) = w (ix5 0 0 0 d e) := by
  pointwise

/-- The state of a row and a head of the states' block. -/
theorem mat_apply (x : Vec Ideal S1x8x4x128x128 .f32) (r : Fin 8) (h : Fin 4) (d e : Fin 128) :
    Piece.mat x r h (ix2 d e) = x (ix5 0 r h d e) := by
  refine (drop_unit (View.ld x (Rect.unit ![0, r.val, h.val, 0, 0] ![1, 1, 1, 128, 128] (by revert r h; decide))) d e).trans ?_
  rw [View.ld_apply]
  refine congrArg x (funext fun a => Fin.ext ?_)
  fin_cases a
  · rfl
  · exact Nat.add_zero _
  · exact Nat.add_zero _
  · show 0 + 1 * d.val = d.val
    omega
  · show 0 + 1 * e.val = e.val
    omega

/-- The activated outputs a point reads. -/
theorem act_read (c : Dev nD) (t : Fin cfg0.N) (r : Fin 8) (e : Fin 1536) :
    Piece.act (X0_0 m c t) (iblk m c 3 t) (iblk m c 5 t) (ix2 r e)
      = silu (conv (m ((c : Thread nD τ).loc main_arg0)) (m ((c : Thread nD τ).loc main_arg1)) (m ((c : Thread nD τ).loc main_arg3))
          (rowOf t r) e) := by
  refine (act_apply _ _ _ r e).trans (congrArg silu ?_)
  unfold conv
  rw [read_buffer, read_buffer, read_buffer, read_input]
  simp only [read_weight]

/-- A head's channels that a point reads. -/
theorem chan_read (c : Dev nD) (t : Fin cfg0.N) (o : Fin 3) (h : Fin 4) (r : Fin 8) (d : Fin 128) (e : Fin 1536)
    (he : 512 * o.val + 128 * h.val + d.val = e.val) :
    Piece.chan (X0_0 m c t) (iblk m c 3 t) (iblk m c 5 t) o h (ix2 r d)
      = silu (conv (m ((c : Thread nD τ).loc main_arg0)) (m ((c : Thread nD τ).loc main_arg1)) (m ((c : Thread nD τ).loc main_arg3))
          (rowOf t r) e) := by
  have hf : (⟨512 * o.val + 128 * h.val + d.val, by omega⟩ : Fin 1536) = e := Fin.ext he
  rw [← hf]
  exact (chan_apply _ o h r d).trans (act_read m c t r _)

/-- The decays a point reads. -/
theorem decays_read (c : Dev nD) (t : Fin cfg0.N) (r : Fin 8) (h : Fin 4) :
    Piece.decays (iblk m c 2 t) (iblk m c 6 t) (iblk m c 7 t) (ix2 r ⟨8 + h.val, by omega⟩)
      = Ideal.exp (rate (m ((c : Thread nD τ).loc main_arg0)) (m ((c : Thread nD τ).loc main_arg4))
          (m ((c : Thread nD τ).loc main_arg5)) (rowOf t r) h) := by
  refine (decays_apply _ _ _ r ⟨8 + h.val, by omega⟩).trans ?_
  unfold rate stepIn
  refine congrArg₂ (fun a z : EReal => Ideal.exp (-(Ideal.exp a) * soft z)) (read_rate m c t h)
    (congrArg₂ (fun x y : EReal => x + y) ((read_small m c t r ⟨8 + h.val, by omega⟩).trans ?_) (read_bias m c t h))
  refine congrArg (fun e => m ((c : Thread nD τ).loc main_arg0) (ix2 (rowOf t r) e)) (Fin.ext ?_)
  show 11264 + (8 + h.val) = 11272 + h.val
  omega

/-- The strengths a point reads. -/
theorem strengths_read (c : Dev nD) (t : Fin cfg0.N) (r : Fin 8) (h : Fin 4) :
    Piece.strengths (iblk m c 2 t) (ix2 r ⟨12 + h.val, by omega⟩)
      = Gdn.sig (m ((c : Thread nD τ).loc main_arg0) (ix2 (rowOf t r) ⟨11276 + h.val, by omega⟩)) := by
  refine (strengths_apply _ r ⟨12 + h.val, by omega⟩).trans (congrArg Gdn.sig ?_)
  refine (read_small m c t r ⟨12 + h.val, by omega⟩).trans ?_
  refine congrArg (fun e => m ((c : Thread nD τ).loc main_arg0) (ix2 (rowOf t r) e)) (Fin.ext ?_)
  show 11264 + (12 + h.val) = 11276 + h.val
  omega

/-- What every head reads at a grid point is eight rows' numbers. -/
theorem head_holds (c : Dev nD) (t : Fin cfg0.N) (h : Fin 4) : Piece.Holds (head m c t h) (fun r => cell m c (rowOf t r) h) where
  k r d := chan_read m c t 1 h r d ⟨512 + 128 * h.val + d.val, by omega⟩ rfl
  v r d := chan_read m c t 2 h r d ⟨1024 + 128 * h.val + d.val, by omega⟩ rfl
  d r := (d_apply _ h r).trans (decays_read m c t r h)
  s r := (s_apply _ h r).trans (strengths_read m c t r h)
  C r d e := (mat_apply _ r h d e).trans (read_state m c t r h d e)

end Cert.GdnStateIdeal.RefValue

end
-- ==== Proof.GdnStateRef.lean ====
/-
  The gated delta step's reference, entry by entry: the recurrence's one step of every row and head.
-/
module

public import proofs.«01_k».proof.Proof.GdnStateMath
public import proofs.«01_k».proof.Proof.Gen.GdnStateRefIdeal.Run

@[expose] public section

set_option maxRecDepth 65536

noncomputable section

namespace Cert.GdnStateRefIdeal.Value

open Cert.GdnStateRefIdeal Cert.GdnStateRefIdeal.Gen Idealize.ShloMosaic Idealize.ShloMosaic.TcCoe Idealize.ShloMosaic.StableHlo Cert.Gdn
  Cert.Step
open Cert.Ssd (silu soft)

variable (P : FVec Ideal S128x11520 .f32) (B : FVec Ideal S4x128x3x1536 .f32) (S : FVec Ideal S4x128x4x128x128 .f32)
  (W : FVec Ideal S4x1536 .f32) (u a : FVec Ideal S4 .f32)

/-- The rows a step's convolution runs over: the buffer, then the input. -/
def joined : FVec Ideal S128x4x1536 .f32 :=
  concatenate S128x4x1536 1 [⟨S128x3x1536, shapeCast S128x3x1536 (extractStridedSlice S1x128x3x1536 ![0, 0, 0, 0] B
      slices_S4x128x3x1536_S1x128x3x1536_0_0_0_0) shapeCasts_S1x128x3x1536_S128x3x1536⟩,
    ⟨S128x1x1536, broadcastInDim S128x1x1536 ![0, 2] bcast_S128x1536_S128x1x1536_0_2
      (extractStridedSlice S128x1536 ![0, 3072] P slices_S128x11520_S128x1536_0_3072)⟩]
    concatenates_S128x3x1536_S128x1x1536_S128x4x1536_d1

/-- A row of weights, over the batch. -/
def weights (w : FVec Ideal S1x1536 .f32) : FVec Ideal S128x1x1536 .f32 :=
  broadcastInDim S128x1x1536 ![0, 1, 2] bcast_S1x1x1536_S128x1x1536_0_1_2
    (broadcastInDim S1x1x1536 ![2] bcast_S1536_S1x1x1536_2 (shapeCast S1536 w shapeCasts_S1x1536_S1536))

/-- The convolution, from the rows it runs over. -/
def convOf (J : FVec Ideal S128x4x1536 .f32) : FVec Ideal S128x1x1536 .f32 :=
  addf (addf (addf (addf (broadcastInDim S128x1x1536 ![] bcast_S_S128x1x1536 (constant S_ FTy.f32 0x00000000#32))
    (mulf (extractStridedSlice S128x1x1536 ![0, 0, 0] J slices_S128x4x1536_S128x1x1536_0_0_0)
      (weights (extractStridedSlice S1x1536 ![0, 0] W slices_S4x1536_S1x1536_0_0))))
    (mulf (extractStridedSlice S128x1x1536 ![0, 1, 0] J slices_S128x4x1536_S128x1x1536_0_1_0)
      (weights (extractStridedSlice S1x1536 ![1, 0] W slices_S4x1536_S1x1536_1_0))))
    (mulf (extractStridedSlice S128x1x1536 ![0, 2, 0] J slices_S128x4x1536_S128x1x1536_0_2_0)
      (weights (extractStridedSlice S1x1536 ![2, 0] W slices_S4x1536_S1x1536_2_0))))
    (mulf (extractStridedSlice S128x1x1536 ![0, 3, 0] J slices_S128x4x1536_S128x1x1536_0_3_0)
      (weights (extractStridedSlice S1x1536 ![3, 0] W slices_S4x1536_S1x1536_3_0)))

/-- The convolution. -/
def convAll : FVec Ideal S128x1x1536 .f32 := convOf W (joined P B)

/-- Numbers times their sigmoids. -/
def siluAll (y : FVec Ideal S128x1x1536 .f32) : FVec Ideal S128x1x1536 .f32 :=
  mulf y (Host.divf (broadcastInDim S128x1x1536 ![] bcast_S_S128x1x1536 (constant S_ FTy.f32 0x3F800000#32))
    (addf (broadcastInDim S128x1x1536 ![] bcast_S_S128x1x1536 (constant S_ FTy.f32 0x3F800000#32)) (Host.exp (Host.negf y))))

/-- The activated channels by role and head. -/
def parts (z : FVec Ideal S128x1x1536 .f32) : FVec Ideal S128x3x4x1x128 .f32 :=
  shapeCast S128x3x4x1x128 z shapeCasts_S128x1x1536_S128x3x4x1x128

/-- The keys before their scale. -/
def keys (z : FVec Ideal S128x1x1536 .f32) : FVec Ideal S128x4x1x128 .f32 :=
  shapeCast S128x4x1x128 (extractStridedSlice S128x1x4x1x128 ![0, 1, 0, 0, 0] (parts z)
    slices_S128x3x4x1x128_S128x1x4x1x128_0_1_0_0_0) shapeCasts_S128x1x4x1x128_S128x4x1x128

/-- The values. -/
def values (z : FVec Ideal S128x1x1536 .f32) : FVec Ideal S128x4x1x128 .f32 :=
  shapeCast S128x4x1x128 (extractStridedSlice S128x1x4x1x128 ![0, 2, 0, 0, 0] (parts z)
    slices_S128x3x4x1x128_S128x1x4x1x128_0_2_0_0_0) shapeCasts_S128x1x4x1x128_S128x4x1x128

/-- Vectors over their lengths. -/
def unitAll (k : FVec Ideal S128x4x1x128 .f32) : FVec Ideal S128x4x1x128 .f32 :=
  mulf k (broadcastInDim S128x4x1x128 ![0, 1, 2, 3] bcast_S128x4x1x1_S128x4x1x128_0_1_2_3
    (Host.rsqrt (addf (broadcastInDim S128x4x1x1 ![0, 1, 2] bcast_S128x4x1_S128x4x1x1_0_1_2
      (Host.reduceAdd (mulf k k) (constant S_ FTy.f32 0x00000000#32) reducesTo_S128x4x1x128_S128x4x1_d3 h_S_))
      (broadcastInDim S128x4x1x1 ![] bcast_S_S128x4x1x1 (constant S_ FTy.f32 0x358637BD#32)))))

/-- A vector of the heads, over the batch. -/
def spread (x : FVec Ideal S4 .f32) : FVec Ideal S128x4 .f32 :=
  broadcastInDim S128x4 ![0, 1] bcast_S1x4_S128x4_0_1 (broadcastInDim S1x4 ![1] bcast_S4_S1x4_1 x)

/-- The decays' inputs. -/
def stepAll : FVec Ideal S128x4 .f32 :=
  addf (extractStridedSlice S128x4 ![0, 11272] P slices_S128x11520_S128x4_0_11272) (spread u)

/-- Zeros. -/
def zeros : FVec Ideal S128x4 .f32 := broadcastInDim S128x4 ![] bcast_S_S128x4 (constant S_ FTy.f32 0x00000000#32)

/-- The logarithms of one plus the exponentials. -/
def softAll (x : FVec Ideal S128x4 .f32) : FVec Ideal S128x4 .f32 :=
  select (cmpf .une (subf x zeros) (subf x zeros)) (addf x zeros)
    (addf (maximumf x zeros) (Host.log1p (Host.exp (Host.negf (Host.absf (subf x zeros))))))

/-- The decays' logarithms. -/
def logs : FVec Ideal S128x4 .f32 := mulf (spread (Host.negf (Host.exp a))) (softAll (stepAll P u))

/-- Ones. -/
def ones : FVec Ideal S128x4 .f32 := broadcastInDim S128x4 ![] bcast_S_S128x4 (constant S_ FTy.f32 0x3F800000#32)

/-- The strengths. -/
def strengths : FVec Ideal S128x4 .f32 :=
  Host.divf ones (addf ones (Host.exp (Host.negf (extractStridedSlice S128x4 ![0, 11276] P slices_S128x11520_S128x4_0_11276))))

/-- A number of every row and head, with two axes after it. -/
def two (s : FVec Ideal S128x4 .f32) : FVec Ideal S128x4x1x1 .f32 := broadcastInDim S128x4x1x1 ![0, 1] bcast_S128x4_S128x4x1x1_0_1 s

/-- A number of every row and head, over the places of a vector. -/
def along (s : FVec Ideal S128x4x1x1 .f32) : FVec Ideal S128x4x1x128 .f32 :=
  broadcastInDim S128x4x1x128 ![0, 1, 2, 3] bcast_S128x4x1x1_S128x4x1x128_0_1_2_3 s

/-- A number of every row and head, with one axis after it. -/
def one (l : FVec Ideal S128x4 .f32) : FVec Ideal S128x4x1 .f32 := broadcastInDim S128x4x1 ![0, 1] bcast_S128x4_S128x4x1_0_1 l

/-- The same with another axis. -/
def more (l : FVec Ideal S128x4x1 .f32) : FVec Ideal S128x4x1x1 .f32 :=
  broadcastInDim S128x4x1x1 ![0, 1, 2] bcast_S128x4x1_S128x4x1x1_0_1_2 l

/-- The first layer's states. -/
def old : FVec Ideal S128x4x128x128 .f32 :=
  shapeCast S128x4x128x128 (extractStridedSlice S1x128x4x128x128 ![0, 0, 0, 0, 0] S
    slices_S4x128x4x128x128_S1x128x4x128x128_0_0_0_0_0) shapeCasts_S1x128x4x128x128_S128x4x128x128

/-- The values to write, from the keys over their lengths, the values, the decays' logarithms, the strengths and the states. -/
def freshOf (k v : FVec Ideal S128x4x1x128 .f32) (l s : FVec Ideal S128x4 .f32) (C : FVec Ideal S128x4x128x128 .f32) :
    FVec Ideal S128x4x1x128 .f32 :=
  subf (mulf v (along (two s)))
    (Host.dotGeneral dot_S128x4x1x128_S128x4x128x128_S128x4x1x128_3_2_2_3_01_01 none
      (mulf (mulf k (along (two s))) (along (more (Host.exp (one l))))) C)

/-- The new states, from the keys over their lengths, the decays' logarithms, the old states and the values to write. -/
def newOf (k : FVec Ideal S128x4x1x128 .f32) (l : FVec Ideal S128x4 .f32) (C : FVec Ideal S128x4x128x128 .f32)
    (f : FVec Ideal S128x4x1x128 .f32) : FVec Ideal S128x4x128x128 .f32 :=
  addf (mulf C (broadcastInDim S128x4x128x128 ![0, 1, 2, 3] bcast_S128x4x1x1_S128x4x128x128_0_1_2_3
      (two (Host.exp (shapeCast S128x4 (one l) shapeCasts_S128x4x1_S128x4)))))
    (Host.dotGeneral dot_S128x4x1x128_S128x4x1x128_S128x4x128x128_2_2_3_3_01_01 none
      (mulf k (along (more (Host.exp (subf (one l) (one l)))))) f)

/-- The new states. -/
def states : FVec Ideal S128x4x128x128 .f32 :=
  newOf (unitAll (keys (siluAll (convAll P B W)))) (logs P u a) (old S)
    (freshOf (unitAll (keys (siluAll (convAll P B W)))) (values (siluAll (convAll P B W))) (logs P u a) (strengths P) (old S))

/-- The reference's result is `states` of the arguments. -/
theorem result_eq (m : (ℓ : Loc nD τ sig) → Buf (Elt Ideal) ℓ) (c : Dev nD) : res_main_v90 m c
    = states (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := rfl

/-- The buffer's rows among the joined. -/
theorem joined_lo (b : Fin 128) (k : Fin 3) (e : Fin 1536) : joined P B (ix3 b ⟨k.val, by omega⟩ e) = B (ix4 0 b k e) := by
  unfold joined
  fin_cases k
  all_goals
    pointwise

/-- The input's row among the joined. -/
theorem joined_hi (b : Fin 128) (e : Fin 1536) : joined P B (ix3 b 3 e) = P (ix2 b ⟨3072 + e.val, by omega⟩) := by
  unfold joined
  pointwise

/-- The convolution of the joined rows, entry by entry. -/
theorem convOf_apply (J : FVec Ideal S128x4x1536 .f32) (b : Fin 128) (e : Fin 1536) : convOf W J (ix3 b 0 e)
    = J (ix3 b 0 e) * W (ix2 0 e) + J (ix3 b 1 e) * W (ix2 1 e) + J (ix3 b 2 e) * W (ix2 2 e) + J (ix3 b 3 e) * W (ix2 3 e) := by
  unfold convOf weights
  pointwise

/-- The convolution, entry by entry. -/
theorem conv_apply (b : Fin 128) (e : Fin 1536) : convAll P B W (ix3 b 0 e) = conv P B W b e := by
  unfold convAll
  rw [convOf_apply, joined_hi]
  have h0 : joined P B (ix3 b 0 e) = _ := joined_lo P B b 0 e
  have h1 : joined P B (ix3 b 1 e) = _ := joined_lo P B b 1 e
  have h2 : joined P B (ix3 b 2 e) = _ := joined_lo P B b 2 e
  rw [h0, h1, h2]
  rfl

/-- A number times its sigmoid, entry by entry. -/
theorem silu_apply (y : FVec Ideal S128x1x1536 .f32) (b : Fin 128) (e : Fin 1536) :
    siluAll y (ix3 b 0 e) = silu (y (ix3 b 0 e)) := by
  unfold siluAll silu
  pointwise

/-- A key's entry among the channels. -/
theorem keys_apply (z : FVec Ideal S128x1x1536 .f32) (b : Fin 128) (h : Fin 4) (d : Fin 128) :
    keys z (ix4 b h 0 d) = z (ix3 b 0 ⟨512 + 128 * h.val + d.val, by omega⟩) := by
  unfold keys parts
  pointwise
  blk_ext

/-- A value's entry among the channels. -/
theorem values_apply (z : FVec Ideal S128x1x1536 .f32) (b : Fin 128) (h : Fin 4) (d : Fin 128) :
    values z (ix4 b h 0 d) = z (ix3 b 0 ⟨1024 + 128 * h.val + d.val, by omega⟩) := by
  unfold values parts
  pointwise
  blk_ext

/-- A vector over its length, entry by entry. -/
theorem unit_apply (k : FVec Ideal S128x4x1x128 .f32) (b : Fin 128) (h : Fin 4) (d : Fin 128) :
    unitAll k (ix4 b h 0 d) = Gdn.unit (fun e => k (ix4 b h 0 e)) d := by
  unfold unitAll Gdn.unit eps
  pointwise

/-- A decay's input, entry by entry. -/
theorem step_apply (b : Fin 128) (h : Fin 4) : stepAll P u (ix2 b h) = stepIn P u b h := by
  unfold stepAll stepIn spread
  pointwise

/-- The logarithm of one plus an exponential, entry by entry. -/
theorem soft_apply (x : FVec Ideal S128x4 .f32) (b : Fin 128) (h : Fin 4) : softAll x (ix2 b h) = soft (x (ix2 b h)) := by
  unfold softAll zeros soft
  pointwise
  rw [if_neg (fun h => h rfl)]
  rfl

/-- A decay's logarithm, entry by entry. -/
theorem logs_apply (b : Fin 128) (h : Fin 4) : logs P u a (ix2 b h) = rate P u a b h := by
  unfold rate
  rw [← step_apply, ← soft_apply]
  unfold logs spread
  generalize softAll (stepAll P u) = z
  pointwise

/-- A strength, entry by entry. -/
theorem strengths_apply (b : Fin 128) (h : Fin 4) : strengths P (ix2 b h) = Gdn.sig (P (ix2 b ⟨11276 + h.val, by omega⟩)) := by
  unfold strengths ones Gdn.sig
  pointwise

/-- An old state, entry by entry. -/
theorem old_apply (b : Fin 128) (h : Fin 4) (d e : Fin 128) : old S (ix4 b h d e) = S (ix5 0 b h d e) := by
  unfold old
  pointwise

/-- A value to write, entry by entry. -/
theorem fresh_apply (k v : FVec Ideal S128x4x1x128 .f32) (l s : FVec Ideal S128x4 .f32) (C : FVec Ideal S128x4x128x128 .f32)
    (b : Fin 128) (h : Fin 4) (e : Fin 128) : freshOf k v l s C (ix4 b h 0 e)
      = v (ix4 b h 0 e) * s (ix2 b h)
        - ∑ d, k (ix4 b h 0 d) * s (ix2 b h) * Ideal.exp (l (ix2 b h)) * C (ix4 b h d e) := by
  unfold freshOf along more one two
  pointwise

/-- A new state, entry by entry. -/
theorem new_apply (k : FVec Ideal S128x4x1x128 .f32) (l : FVec Ideal S128x4 .f32) (C : FVec Ideal S128x4x128x128 .f32)
    (f : FVec Ideal S128x4x1x128 .f32) (b : Fin 128) (h : Fin 4) (d e : Fin 128) : newOf k l C f (ix4 b h d e)
      = C (ix4 b h d e) * Ideal.exp (l (ix2 b h))
        + k (ix4 b h 0 d) * Ideal.exp (l (ix2 b h) - l (ix2 b h)) * f (ix4 b h 0 e) := by
  unfold newOf along more one two
  pointwise
  simp

/-- The reference's states are the recurrence's step where the decays' logarithms are real. -/
theorem states_apply (b : Fin 128) (h : Fin 4) (d e : Fin 128) (hl : Real (rate P u a b h)) :
    states P B S W u a (ix4 b h d e) = (cellOf P B S W u a b h).newC d e := by
  have e1 : Ideal.exp 0 = 1 := by
    show ((Real.exp 0 : ℝ) : EReal) = 1
    rw [Real.exp_zero]
    rfl
  have hk : ∀ d, unitAll (keys (siluAll (convAll P B W))) (ix4 b h 0 d) = Gdn.unit (cellOf P B S W u a b h).k d := fun d => by
    rw [unit_apply]
    refine congrArg (fun x => Gdn.unit x d) (funext fun e => ?_)
    rw [keys_apply, silu_apply, conv_apply]
    rfl
  have hv : values (siluAll (convAll P B W)) (ix4 b h 0 e) = (cellOf P B S W u a b h).v e := by
    rw [values_apply, silu_apply, conv_apply]
    rfl
  unfold states
  rw [new_apply, fresh_apply, logs_apply, hl.sub_self, e1, mul_one, hv, strengths_apply]
  simp only [hk, old_apply]
  unfold Gdn.Cell.newC Gdn.Cell.fresh
  simp only [mul_assoc]
  rfl

end Cert.GdnStateRefIdeal.Value

end
-- ==== Proof.GdnStatePre.lean ====
/-
  The gated delta step's precondition, read: the values to write and the decays' logarithms are real numbers.
-/
module

public import proofs.«01_k».proof.Proof.GdnStateRef
public import proofs.«01_k».proof.Proof.SsdPre
public import proofs.«01_k».proof.Pre_finite_gdn

@[expose] public section

set_option maxRecDepth 65536

noncomputable section

namespace Cert.Pre_finite_gdn

open Idealize.ShloMosaic Cert.Gdn Cert.Step Cert.Pre_finite_step Cert.Pre_finite_ssd
open Cert.Ssd (silu soft)

/-- The side conditions of the precondition's operations. -/
instance facts : Facts where
  slices_S4x128x3x1536_S1x128x3x1536_0_0_0_0 := by decide
  shapeCasts_S1x128x3x1536_S128x3x1536 := by decide
  slices_S128x11520_S128x1536_0_3072 := by decide
  bcast_S128x1536_S128x1x1536_0_2 := by decide
  concatenates_S128x3x1536_S128x1x1536_S128x4x1536_d1 := by decide
  slices_S128x4x1536_S128x1x1536_0_0_0 := by decide
  slices_S4x1536_S1x1536_0_0 := by decide
  shapeCasts_S1x1536_S1536 := by decide
  bcast_S1536_S1x1x1536_2 := by decide
  bcast_S1x1x1536_S128x1x1536_0_1_2 := by decide
  bcast_S_S128x1x1536 := by decide
  slices_S128x4x1536_S128x1x1536_0_1_0 := by decide
  slices_S4x1536_S1x1536_1_0 := by decide
  slices_S128x4x1536_S128x1x1536_0_2_0 := by decide
  slices_S4x1536_S1x1536_2_0 := by decide
  slices_S128x4x1536_S128x1x1536_0_3_0 := by decide
  slices_S4x1536_S1x1536_3_0 := by decide
  slices_S128x11520_S128x4_0_11272 := by decide
  bcast_S4_S1x4_1 := by decide
  bcast_S1x4_S128x4_0_1 := by decide
  slices_S4x128x4x128x128_S1x128x4x128x128_0_0_0_0_0 := by decide
  shapeCasts_S1x128x4x128x128_S128x4x128x128 := by decide
  shapeCasts_S128x4x128x128_S128x65536 := by decide
  slices_S128x1x1536_S128x1x512_0_0_1024 := by decide
  shapeCasts_S128x1x512_S128x512 := by decide
  bcast_S4_S128x4_1 := by decide
  concatenates_S128x512_S128x4_S128x4_S128x65536_S128x66056_d1 := by decide
  bcast_S_S128x66056 := by decide

/-- The first layer's states, without their signs, a row of the batch in one axis. -/
def sizes (S : FVec Ideal S4x128x4x128x128 .f32) : FVec Ideal S128x65536 .f32 :=
  shapeCast S128x65536 (Host.absf (Cert.GdnStateRefIdeal.Value.old S)) Facts.shapeCasts_S128x4x128x128_S128x65536

/-- The array whose entries the precondition bounds, of the convolution and the states' sizes. -/
def boundedOf (y : FVec Ideal S128x1x1536 .f32) (z : FVec Ideal S128x65536 .f32) (P : FVec Ideal S128x11520 .f32)
    (u a : FVec Ideal S4 .f32) : FVec Ideal S128x66056 .f32 :=
  concatenate S128x66056 1
    [⟨S128x512, shapeCast S128x512 (extractStridedSlice S128x1x512 ![0, 0, 1024] y
        Facts.slices_S128x1x1536_S128x1x512_0_0_1024) Facts.shapeCasts_S128x1x512_S128x512⟩,
      ⟨S128x4, addf (extractStridedSlice S128x4 ![0, 11272] P Facts.slices_S128x11520_S128x4_0_11272)
        (broadcastInDim S128x4 ![0, 1] Facts.bcast_S1x4_S128x4_0_1 (broadcastInDim S1x4 ![1] Facts.bcast_S4_S1x4_1 u))⟩,
      ⟨S128x4, broadcastInDim S128x4 ![1] Facts.bcast_S4_S128x4_1 a⟩,
      ⟨S128x65536, z⟩]
    Facts.concatenates_S128x512_S128x4_S128x4_S128x65536_S128x66056_d1

/-- The array whose entries the precondition bounds. -/
def bounded (P : FVec Ideal S128x11520 .f32) (B : FVec Ideal S4x128x3x1536 .f32) (S : FVec Ideal S4x128x4x128x128 .f32)
    (W : FVec Ideal S4x1536 .f32) (u a : FVec Ideal S4 .f32) : FVec Ideal S128x66056 .f32 :=
  boundedOf (Cert.GdnStateRefIdeal.Value.convAll P B W) (sizes S) P u a

/-- The precondition says that no bounded entry is plus infinity. -/
theorem bounded_ne {P B S W u a v} (h : fn (F := Ideal) P B S W u a v = fun _ => 1#1) (y : S128x66056.Idx) :
    bounded P B S W u a y ≠ ⊤ := by
  have e : FloatOps.cmpf (F := Ideal) (φ := .f32) .olt (bounded P B S W u a y) (Ideal.ofBits FTy.f32 2139095040#32) = 1#1 := congrFun h y
  have ht : Ideal.ofBits FTy.f32 2139095040#32 = ⊤ := by simp [Ideal.ofBits, Ideal.ieee]
  rw [ht] at e
  intro hz
  rw [hz] at e
  have : FloatOps.cmpf (F := Ideal) (φ := .f32) .olt (⊤ : EReal) (⊤ : EReal) = BitVec.ofBool (decide ((⊤ : EReal) < ⊤)) := rfl
  rw [this] at e
  simp at e

/-- The bounded entries that are the convolution's. -/
theorem bounded_conv (y : FVec Ideal S128x1x1536 .f32) (z : FVec Ideal S128x65536 .f32) (P : FVec Ideal S128x11520 .f32)
    (u a : FVec Ideal S4 .f32) (b : Fin 128) (e : Fin 512) :
    boundedOf y z P u a (ix2 b ⟨e.val, by omega⟩) = y (ix3 b 0 ⟨1024 + e.val, by omega⟩) := by
  unfold boundedOf
  pointwise

/-- The bounded entries that are the decays' inputs. -/
theorem bounded_step (y : FVec Ideal S128x1x1536 .f32) (z : FVec Ideal S128x65536 .f32) (P : FVec Ideal S128x11520 .f32)
    (u a : FVec Ideal S4 .f32) (b : Fin 128) (h : Fin 4) :
    boundedOf y z P u a (ix2 b ⟨512 + h.val, by omega⟩) = stepIn P u b h := by
  unfold boundedOf stepIn
  pointwise

/-- The bounded entries that are the decays' rates. -/
theorem bounded_rate (y : FVec Ideal S128x1x1536 .f32) (z : FVec Ideal S128x65536 .f32) (P : FVec Ideal S128x11520 .f32)
    (u a : FVec Ideal S4 .f32) (b : Fin 128) (h : Fin 4) :
    boundedOf y z P u a (ix2 b ⟨516 + h.val, by omega⟩) = a (ix1 h) := by
  unfold boundedOf
  pointwise
  rw [dif_neg (by omega), dif_neg (by omega), dif_pos (by omega)]
  refine congrArg a (congrArg ix1 (Fin.ext ?_))
  show 516 + h.val - 512 - 4 = h.val
  omega

/-- The bounded entries that are the states'. -/
theorem bounded_size (y : FVec Ideal S128x1x1536 .f32) (z : FVec Ideal S128x65536 .f32) (P : FVec Ideal S128x11520 .f32)
    (u a : FVec Ideal S4 .f32) (b : Fin 128) (i : Fin 65536) :
    boundedOf y z P u a (ix2 b ⟨520 + i.val, by omega⟩) = z (ix2 b i) := by
  unfold boundedOf
  pointwise
  rw [dif_neg (by omega), dif_neg (by omega), dif_neg (by omega)]
  refine congrArg z (congrArg (ix2 b) (Fin.ext ?_))
  show 520 + i.val - 512 - 4 - 4 = i.val
  omega

/-- A state's size. -/
theorem sizes_apply (S : FVec Ideal S4x128x4x128x128 .f32) (b : Fin 128) (h : Fin 4) (d e : Fin 128) :
    sizes S (ix2 b ⟨(h.val * 128 + d.val) * 128 + e.val, by omega⟩) = max (S (ix5 0 b h d e)) (-(S (ix5 0 b h d e))) := by
  rw [← Cert.GdnStateRefIdeal.Value.old_apply S b h d e]
  unfold sizes
  generalize Cert.GdnStateRefIdeal.Value.old S = x
  pointwise
  rfl

/-- A number whose size is not infinite is real. -/
theorem real_size {x : EReal} (h : max x (-x) ≠ ⊤) : Real x := by
  refine ⟨fun hb => h ?_, fun ht => h ?_⟩
  · rw [hb, EReal.neg_bot]
    exact max_eq_right bot_le
  · rw [ht, EReal.neg_top]
    exact max_eq_left bot_le

/-- A difference of real numbers is real. -/
theorem real_sub {x y : EReal} (hx : Real x) (hy : Real y) : Real (x - y) := by
  rw [sub_eq_add_neg]
  exact real_add hx (real_neg hy)

/-- Under the precondition every head's values to write and decays' logarithms are real. -/
theorem real_cell {P B S W u a v} (hp : fn (F := Ideal) P B S W u a v = fun _ => 1#1) (b : Fin 128) (h : Fin 4) :
    (∀ e, Real ((cellOf P B S W u a b h).fresh e)) ∧ Real (rate P u a b h) := by
  have hc : ∀ e : Fin 512, Real (silu (conv P B W b ⟨1024 + e.val, by omega⟩)) := fun e => by
    refine real_silu ?_
    rw [← Cert.GdnStateRefIdeal.Value.conv_apply]
    exact bounded_conv (Cert.GdnStateRefIdeal.Value.convAll P B W) (sizes S) P u a b e ▸ bounded_ne hp _
  have hv : ∀ e, Real ((cellOf P B S W u a b h).v e) := fun e => by
    have he := hc ⟨128 * h.val + e.val, by omega⟩
    have hi : (⟨1024 + (128 * h.val + e.val), by omega⟩ : Fin 1536) = ⟨1024 + 128 * h.val + e.val, by omega⟩ :=
      Fin.ext (Nat.add_assoc _ _ _).symm
    rw [hi] at he
    exact he
  have hl : Real (rate P u a b h) := by
    refine Cert.Step.Real.mul (real_neg (real_exp ?_)) (real_soft ?_)
    · exact bounded_rate (Cert.GdnStateRefIdeal.Value.convAll P B W) (sizes S) P u a b h ▸ bounded_ne hp _
    · exact bounded_step (Cert.GdnStateRefIdeal.Value.convAll P B W) (sizes S) P u a b h ▸ bounded_ne hp _
  have hs : ∀ d e, Real (S (ix5 0 b h d e)) := fun d e => by
    refine real_size ?_
    rw [← sizes_apply]
    exact bounded_size (Cert.GdnStateRefIdeal.Value.convAll P B W) (sizes S) P u a b _ ▸ bounded_ne hp _
  refine ⟨fun e => real_sub ((hv e).mul (real_sig _)) (real_sum _ fun d => ?_), hl⟩
  exact ((real_unit _ d).mul ((real_sig _).mul (real_exp hl.2))).mul (hs d e)

end Cert.Pre_finite_gdn

end
-- ==== Proof.GdnStateFinal.lean ====
/-
  The gated delta decoding step's proof: what the kernel leaves in the states' result is the reference's one step.
-/
module

public import proofs.«01_k».proof.Defs
public import proofs.«01_k».proof.Proof.GdnStateReads
public import proofs.«01_k».proof.Proof.GdnStateRef
public import proofs.«01_k».proof.Proof.GdnStatePre
public import proofs.«01_k».proof.Proof.Gen.GdnStateIdeal
public import Idealize.ShloMosaic.Lib.Claim

@[expose] public section

set_option maxRecDepth 65536

noncomputable section

namespace Cert.GdnStateIdeal.RefValue

open Cert.GdnStateIdeal Cert.GdnStateIdeal.Gen Idealize.ShloMosaic Idealize.ShloMosaic.TcCoe Idealize.SL.Sem Cert.Gdn

variable (m : (ℓ : Loc nD τ sig) → Buf (Elt Ideal) ℓ)

/-- What the reference leaves of device `c`'s arguments. -/
abbrev want (c : Dev nD) : FVec Ideal S128x4x128x128 .f32 :=
  Cert.GdnStateRefIdeal.Value.states (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

variable {m}

/-- A state's entry a point leaves is the reference's. -/
theorem point_state (hp : Cert.Pre_GdnStateIdeal_finite_gdn m) (c : Dev nD) (t : Fin cfg0.N) (r : Fin 8) (h : Fin 4)
    (d e : Fin 128) : (outsAt0 m c t).2.2 (ix4 r h d e) = want m c (ix4 (rowOf t r) h d e) := by
  refine (mat_left m c t (ix4 r h d e)).trans ((Piece.newC_apply (head_holds m c t h)
    (fun r => (Cert.Pre_finite_gdn.real_cell (hp c) (rowOf t r) h).1) r d e).trans ?_)
  exact (Cert.GdnStateRefIdeal.Value.states_apply _ _ _ _ _ _ (rowOf t r) h d e
    (Cert.Pre_finite_gdn.real_cell (hp c) (rowOf t r) h).2).symm

/-- The states' array after the run. -/
theorem final (hp : Cert.Pre_GdnStateIdeal_finite_gdn m) (c : Dev nD) : (dats m 0 c).arrAt 11 (cfgs 0).N = want m c := by
  refine (dats m 0 c).arrAt_eq_of_covers 11 _ (by decide +kernel) fun t _ y => ?_
  blk_simp
  rw [after0_11]
  rw [eq_ix4 y]
  refine (point_state hp c t (y 0) (y 1) (y 2) (y 3)).trans (congrArg (want m c) ?_)
  have hi : (rowOf t (y 0)).val = t.val * 8 + (y 0).val := rfl
  blk_ext [idx t]

/-- The decoding kernel and its reference leave the same states where the precondition holds. -/
theorem agrees : Cert.algebraic_GdnStateIdeal_GdnStateRefIdeal_pre_finite_gdn := by
  pair_intro
  · run_from Cert.GdnStateIdeal.Value.run_blocks m g
  · run_from Cert.GdnStateRefIdeal.Value.run m' g'
    refine (Cert.GdnStateRefIdeal.Value.result_eq m' c).trans (Eq.trans ?_ (final hpre c).symm)
    obtain ⟨h0, h1, h2, h3, h4, h5, _⟩ := hagree c
    unfold want
    rw [h0, h1, h2, h3, h4, h5]

end Cert.GdnStateIdeal.RefValue

end
-- ==== Proof.lean ====
module

public import proofs.«01_k».proof.Defs
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.CrossIdeal.Value
public import proofs.«01_k».proof.Proof.Gen.CrossRefIdeal.Run
public import proofs.«01_k».proof.Proof.Gen.ProjIdeal.Value
public import proofs.«01_k».proof.Proof.Gen.ProjRefIdeal.Run
public import proofs.«01_k».proof.Proof.Gen.KvIdeal.Value
public import proofs.«01_k».proof.Proof.Gen.KvRefIdeal.Run
public import proofs.«01_k».proof.Proof.Gen.FfnIdeal.Value
public import proofs.«01_k».proof.Proof.Gen.FfnRefIdeal.Run
public import proofs.«01_k».proof.Proof.Gen.MergeIdeal.Value
public import proofs.«01_k».proof.Proof.Gen.MergeRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastIdeal.Value
public import proofs.«01_k».proof.Proof.Gen.LastRefIdeal.Run
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmRefIdeal
public import proofs.«01_k».proof.Proof.Gen.MlstmIdeal.Value
public import proofs.«01_k».proof.Proof.Gen.MlstmRefIdeal.Run
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleRefIdeal
public import proofs.«01_k».proof.Proof.Gen.ProjSampleIdeal.Value
public import proofs.«01_k».proof.Proof.Gen.ProjSampleRefIdeal.Run
public import proofs.«01_k».proof.Proof.Gen.SsdConv
public import proofs.«01_k».proof.Proof.Gen.SsdConv.Skeleton
public import proofs.«01_k».proof.Proof.Gen.SsdConv.Launch
public import proofs.«01_k».proof.Proof.Gen.SsdConv.Points
public import proofs.«01_k».proof.Proof.Gen.SsdConv.Frame
public import proofs.«01_k».proof.Proof.Gen.SsdConvIdeal
public import proofs.«01_k».proof.Proof.Gen.SsdConvIdeal.Skeleton
public import proofs.«01_k».proof.Proof.Gen.SsdConvIdeal.Launch
public import proofs.«01_k».proof.Proof.Gen.SsdConvIdeal.Points
public import proofs.«01_k».proof.Proof.Gen.SsdConvIdeal.Frame
public import proofs.«01_k».proof.Proof.Gen.SsdConvRefIdeal
public import proofs.«01_k».proof.Proof.Gen.SsdConvIdeal.Value
public import proofs.«01_k».proof.Proof.Gen.SsdConvRefIdeal.Run
public import proofs.«01_k».proof.Proof.Gen.GdnConv
public import proofs.«01_k».proof.Proof.Gen.GdnConv.Skeleton
public import proofs.«01_k».proof.Proof.Gen.GdnConv.Launch
public import proofs.«01_k».proof.Proof.Gen.GdnConv.Points
public import proofs.«01_k».proof.Proof.Gen.GdnConv.Frame
public import proofs.«01_k».proof.Proof.Gen.GdnConvIdeal
public import proofs.«01_k».proof.Proof.Gen.GdnConvIdeal.Skeleton
public import proofs.«01_k».proof.Proof.Gen.GdnConvIdeal.Launch
public import proofs.«01_k».proof.Proof.Gen.GdnConvIdeal.Points
public import proofs.«01_k».proof.Proof.Gen.GdnConvIdeal.Frame
public import proofs.«01_k».proof.Proof.Gen.GdnConvRefIdeal
public import proofs.«01_k».proof.Proof.Gen.GdnConvIdeal.Value
public import proofs.«01_k».proof.Proof.Gen.GdnConvRefIdeal.Run
public import proofs.«01_k».proof.Proof.Gen.MlstmStep
public import proofs.«01_k».proof.Proof.Gen.MlstmStep.Skeleton
public import proofs.«01_k».proof.Proof.Gen.MlstmStep.Launch
public import proofs.«01_k».proof.Proof.Gen.MlstmStep.Points
public import proofs.«01_k».proof.Proof.Gen.MlstmStep.Frame
public import proofs.«01_k».proof.Proof.Gen.MlstmStepIdeal
public import proofs.«01_k».proof.Proof.Gen.MlstmStepIdeal.Skeleton
public import proofs.«01_k».proof.Proof.Gen.MlstmStepIdeal.Launch
public import proofs.«01_k».proof.Proof.Gen.MlstmStepIdeal.Points
public import proofs.«01_k».proof.Proof.Gen.MlstmStepIdeal.Frame
public import proofs.«01_k».proof.Proof.Gen.MlstmStepRefIdeal
public import proofs.«01_k».proof.Proof.Gen.MlstmStepIdeal.Value
public import proofs.«01_k».proof.Proof.Gen.MlstmStepRefIdeal.Run
public import proofs.«01_k».proof.Proof.Gen.SsdState
public import proofs.«01_k».proof.Proof.Gen.SsdState.Skeleton
public import proofs.«01_k».proof.Proof.Gen.SsdState.Launch
public import proofs.«01_k».proof.Proof.Gen.SsdState.Points
public import proofs.«01_k».proof.Proof.Gen.SsdState.Frame
public import proofs.«01_k».proof.Proof.Gen.SsdStateIdeal
public import proofs.«01_k».proof.Proof.Gen.SsdStateIdeal.Skeleton
public import proofs.«01_k».proof.Proof.Gen.SsdStateIdeal.Launch
public import proofs.«01_k».proof.Proof.Gen.SsdStateIdeal.Points
public import proofs.«01_k».proof.Proof.Gen.SsdStateIdeal.Frame
public import proofs.«01_k».proof.Proof.Gen.SsdStateRefIdeal
public import proofs.«01_k».proof.Proof.Gen.SsdStateIdeal.Value
public import proofs.«01_k».proof.Proof.Gen.SsdStateRefIdeal.Run
public import proofs.«01_k».proof.Proof.Gen.GdnState
public import proofs.«01_k».proof.Proof.Gen.GdnState.Skeleton
public import proofs.«01_k».proof.Proof.Gen.GdnState.Launch
public import proofs.«01_k».proof.Proof.Gen.GdnState.Points
public import proofs.«01_k».proof.Proof.Gen.GdnState.Frame
public import proofs.«01_k».proof.Proof.Gen.GdnStateIdeal
public import proofs.«01_k».proof.Proof.Gen.GdnStateIdeal.Skeleton
public import proofs.«01_k».proof.Proof.Gen.GdnStateIdeal.Launch
public import proofs.«01_k».proof.Proof.Gen.GdnStateIdeal.Points
public import proofs.«01_k».proof.Proof.Gen.GdnStateIdeal.Frame
public import proofs.«01_k».proof.Proof.Gen.GdnStateRefIdeal
public import proofs.«01_k».proof.Proof.Gen.GdnStateIdeal.Value
public import proofs.«01_k».proof.Proof.Gen.GdnStateRefIdeal.Run
public import proofs.«01_k».proof.Pre_finite_step
public import proofs.«01_k».proof.Pre_finite_ssd
public import proofs.«01_k».proof.Proof.CrossFinal
public import proofs.«01_k».proof.Proof.ProjFinal
public import proofs.«01_k».proof.Proof.KvFinal
public import proofs.«01_k».proof.Proof.FfnFinal
public import proofs.«01_k».proof.Proof.MergeFinal
public import proofs.«01_k».proof.Proof.NormFinal
public import proofs.«01_k».proof.Proof.LastFinal
public import proofs.«01_k».proof.Proof.MlstmFinal
public import proofs.«01_k».proof.Proof.ProjSampleFinal
public import proofs.«01_k».proof.Proof.SsdConvFinal
public import proofs.«01_k».proof.Proof.GdnConvFinal
public import proofs.«01_k».proof.Proof.StepFinal
public import proofs.«01_k».proof.Proof.SsdFinal
public import proofs.«01_k».proof.Proof.GdnStateFinal
public import Idealize.ShloMosaic.Adequacy
public import Idealize.ShloMosaic.Init

@[expose] public section

noncomputable section

namespace Cert.Proof

open Idealize.ShloMosaic Idealize.SL.Sem

/-- The reference of `Cross` runs to the end with its arguments unchanged and no semaphore left raised. -/
theorem quietCross : Cert.quiescent_CrossRefIdeal := fun m ρ _ =>
  (θ_run Cert.CrossRefIdeal.defs _ _).mono (fun r h => ⟨fun c => (h c).2, sem_eq_zero_of_no_sems (by decide) r.2⟩)
    (Cert.CrossRefIdeal.Value.run (F := Ideal) m ρ)

/-- The reference of `Proj` runs to the end with its arguments unchanged and no semaphore left raised. -/
theorem quietProj : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The reference of `Kv` runs to the end with its arguments unchanged and no semaphore left raised. -/
theorem quietKv : Cert.quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

/-- The reference of `Ffn` runs to the end with its arguments unchanged and no semaphore left raised. -/
theorem quietFfn : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of `Merge` runs to the end with its arguments unchanged and no semaphore left raised. -/
theorem quietMerge : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference of `Norm` runs to the end with its arguments unchanged and no semaphore left raised. -/
theorem quietNorm : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The reference of `Last` runs to the end with its arguments unchanged and no semaphore left raised. -/
theorem quietLast : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The reference of `Mlstm` runs to the end with its arguments unchanged and no semaphore left raised. -/
theorem quietMlstm : Cert.quiescent_MlstmRefIdeal := fun m ρ _ =>
  (θ_run Cert.MlstmRefIdeal.defs _ _).mono (fun r h => ⟨fun c => (h c).2.2.2.2, sem_eq_zero_of_no_sems (by decide) r.2⟩)
    (Cert.MlstmRefIdeal.Value.run_REF m ρ)

/-- The reference of `ProjSample` runs to the end with its arguments unchanged and no semaphore left raised. -/
theorem quietProjSample : Cert.quiescent_ProjSampleRefIdeal := fun m ρ _ =>
  (θ_run Cert.ProjSampleRefIdeal.defs _ _).mono (fun r h => ⟨fun c => (h c).2, sem_eq_zero_of_no_sems (by decide) r.2⟩)
    (Cert.ProjSampleRefIdeal.Value.run (F := Ideal) m ρ)

/-- The reference of `SsdConv` runs to the end with its arguments unchanged and no semaphore left raised. -/
theorem quietSsdConv : Cert.quiescent_SsdConvRefIdeal := fun m ρ _ =>
  (θ_run Cert.SsdConvRefIdeal.defs _ _).mono (fun r h => ⟨fun c => (h c).2, sem_eq_zero_of_no_sems (by decide) r.2⟩)
    (Cert.SsdConvRefIdeal.Value.run (F := Ideal) m ρ)

/-- The reference of `GdnConv` runs to the end with its arguments unchanged and no semaphore left raised. -/
theorem quietGdnConv : Cert.quiescent_GdnConvRefIdeal := fun m ρ _ =>
  (θ_run Cert.GdnConvRefIdeal.defs _ _).mono (fun r h => ⟨fun c => (h c).2, sem_eq_zero_of_no_sems (by decide) r.2⟩)
    (Cert.GdnConvRefIdeal.Value.run (F := Ideal) m ρ)

/-- The reference of `MlstmStep` runs to the end with its arguments unchanged and no semaphore left raised. -/
theorem quietMlstmStep : Cert.quiescent_MlstmStepRefIdeal := fun m ρ _ =>
  (θ_run Cert.MlstmStepRefIdeal.defs _ _).mono (fun r h => ⟨fun c => (h c).2.2.2.2, sem_eq_zero_of_no_sems (by decide) r.2⟩)
    (Cert.MlstmStepRefIdeal.Value.run (F := Ideal) m ρ)

/-- The reference of `SsdState` runs to the end with its arguments unchanged and no semaphore left raised. -/
theorem quietSsdState : Cert.quiescent_SsdStateRefIdeal := fun m ρ _ =>
  (θ_run Cert.SsdStateRefIdeal.defs _ _).mono (fun r h => ⟨fun c => (h c).2, sem_eq_zero_of_no_sems (by decide) r.2⟩)
    (Cert.SsdStateRefIdeal.Value.run (F := Ideal) m ρ)

/-- The reference of `GdnState` runs to the end with its arguments unchanged and no semaphore left raised. -/
theorem quietGdnState : Cert.quiescent_GdnStateRefIdeal := fun m ρ _ =>
  (θ_run Cert.GdnStateRefIdeal.defs _ _).mono (fun r h => ⟨fun c => (h c).2, sem_eq_zero_of_no_sems (by decide) r.2⟩)
    (Cert.GdnStateRefIdeal.Value.run (F := Ideal) m ρ)

/-- Every claim of the certificate: the runs, the kept values and the equalities of the fourteen calls. -/
theorem claim : Cert.Claim := ⟨Cert.Cross.Gen.facts,
  Cert.CrossIdeal.Gen.facts,
  Cert.CrossRefIdeal.Gen.facts,
  Cert.Proj.Gen.facts,
  Cert.ProjIdeal.Gen.facts,
  Cert.ProjRefIdeal.Gen.facts,
  Cert.Kv.Gen.facts,
  Cert.KvIdeal.Gen.facts,
  Cert.KvRefIdeal.Gen.facts,
  Cert.Ffn.Gen.facts,
  Cert.FfnIdeal.Gen.facts,
  Cert.FfnRefIdeal.Gen.facts,
  Cert.Merge.Gen.facts,
  Cert.MergeIdeal.Gen.facts,
  Cert.MergeRefIdeal.Gen.facts,
  Cert.Norm.Gen.facts,
  Cert.NormIdeal.Gen.facts,
  Cert.NormRefIdeal.Gen.facts,
  Cert.Last.Gen.facts,
  Cert.LastIdeal.Gen.facts,
  Cert.LastRefIdeal.Gen.facts,
  Cert.Mlstm.Gen.facts,
  Cert.MlstmIdeal.Gen.facts,
  Cert.MlstmRefIdeal.Gen.facts,
  Cert.ProjSample.Gen.facts,
  Cert.ProjSampleIdeal.Gen.facts,
  Cert.ProjSampleRefIdeal.Gen.facts,
  Cert.SsdConv.Gen.facts,
  Cert.SsdConvIdeal.Gen.facts,
  Cert.SsdConvRefIdeal.Gen.facts,
  Cert.GdnConv.Gen.facts,
  Cert.GdnConvIdeal.Gen.facts,
  Cert.GdnConvRefIdeal.Gen.facts,
  Cert.MlstmStep.Gen.facts,
  Cert.MlstmStepIdeal.Gen.facts,
  Cert.MlstmStepRefIdeal.Gen.facts,
  Cert.SsdState.Gen.facts,
  Cert.SsdStateIdeal.Gen.facts,
  Cert.SsdStateRefIdeal.Gen.facts,
  Cert.GdnState.Gen.facts,
  Cert.GdnStateIdeal.Gen.facts,
  Cert.GdnStateRefIdeal.Gen.facts,
  Cert.Pre_finite_step.facts,
  Cert.Pre_finite_ssd.facts,
  Cert.Pre_finite_gdn.facts,
  fun m ρ _ => Cert.Cross.Gen.frame m ρ, fun m ρ _ => Cert.CrossIdeal.Gen.frame m ρ, quietCross,
  fun m ρ _ => Cert.Proj.Gen.frame m ρ, fun m ρ _ => Cert.ProjIdeal.Gen.frame m ρ, quietProj,
  fun m ρ _ => Cert.Kv.Gen.frame m ρ, fun m ρ _ => Cert.KvIdeal.Gen.frame m ρ, quietKv,
  fun m ρ _ => Cert.Ffn.Gen.frame m ρ, fun m ρ _ => Cert.FfnIdeal.Gen.frame m ρ, quietFfn,
  fun m ρ _ => Cert.Merge.Gen.frame m ρ, fun m ρ _ => Cert.MergeIdeal.Gen.frame m ρ, quietMerge,
  fun m ρ _ => Cert.Norm.Gen.frame m ρ, fun m ρ _ => Cert.NormIdeal.Gen.frame m ρ, quietNorm,
  fun m ρ _ => Cert.Last.Gen.frame m ρ, fun m ρ _ => Cert.LastIdeal.Gen.frame m ρ, quietLast,
  fun m ρ _ => Cert.Mlstm.Gen.frame m ρ, fun m ρ _ => Cert.MlstmIdeal.Gen.frame m ρ, quietMlstm,
  fun m ρ _ => Cert.ProjSample.Gen.frame m ρ, fun m ρ _ => Cert.ProjSampleIdeal.Gen.frame m ρ, quietProjSample,
  fun m ρ _ => Cert.SsdConv.Gen.frame m ρ, fun m ρ _ => Cert.SsdConvIdeal.Gen.frame m ρ, quietSsdConv,
  fun m ρ _ => Cert.GdnConv.Gen.frame m ρ, fun m ρ _ => Cert.GdnConvIdeal.Gen.frame m ρ, quietGdnConv,
  fun m ρ _ => Cert.MlstmStep.Gen.frame m ρ, fun m ρ _ => Cert.MlstmStepIdeal.Gen.frame m ρ,
  fun m ρ _ => Cert.MlstmStepIdeal.Gen.frame m ρ, quietMlstmStep, fun m ρ _ => quietMlstmStep m ρ trivial,
  fun m ρ _ => Cert.SsdState.Gen.frame m ρ, fun m ρ _ => Cert.SsdStateIdeal.Gen.frame m ρ,
  fun m ρ _ => Cert.SsdStateIdeal.Gen.frame m ρ, quietSsdState, fun m ρ _ => quietSsdState m ρ trivial,
  fun m ρ _ => Cert.GdnState.Gen.frame m ρ, fun m ρ _ => Cert.GdnStateIdeal.Gen.frame m ρ,
  fun m ρ _ => Cert.GdnStateIdeal.Gen.frame m ρ, quietGdnState, fun m ρ _ => quietGdnState m ρ trivial,
  trivial, Cert.CrossIdeal.RefValue.agrees,
  trivial, Cert.ProjIdeal.RefValue.agrees,
  trivial, Cert.KvIdeal.RefValue.agrees,
  trivial, Cert.FfnIdeal.RefValue.agrees,
  trivial, Cert.MergeIdeal.RefValue.agrees,
  trivial, Cert.NormIdeal.RefValue.agrees,
  trivial, Cert.LastIdeal.RefValue.agrees,
  trivial, Cert.MlstmIdeal.RefValue.agrees,
  trivial, Cert.ProjSampleIdeal.RefValue.agrees,
  trivial, Cert.SsdConvIdeal.RefValue.agrees,
  trivial, Cert.GdnConvIdeal.RefValue.agrees,
  trivial, Cert.MlstmStepIdeal.RefValue.agrees,
  trivial, Cert.SsdStateIdeal.RefValue.agrees,
  trivial, Cert.GdnStateIdeal.RefValue.agrees⟩

end Cert.Proof

end
